-- ==== Defs.lean ====
def Pre_Kernel [hPre_lens_in_table : Cert.Pre_lens_in_table.Facts] (m : (ℓ : Loc Cert.Kernel.nD Cert.Kernel.τ Cert.Kernel.sig) → Buf (Elt Bits) ℓ) : Prop :=
  ∀ c : Dev Cert.Kernel.nD,
    (Cert.Pre_lens_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_lens_in_table : Cert.Pre_lens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_pages_named_KernelIdeal [hPre_pages_named_KernelIdeal : Cert.Pre_pages_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_named_ReferenceIdeal [hPre_pages_named_ReferenceIdeal : Cert.Pre_pages_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_lens_in_table : Cert.Pre_lens_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_lens_in_table : Cert.Pre_lens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_named_KernelIdeal [hKernelIdeal : Cert.KernelIdeal.Facts] [hPre_pages_named_KernelIdeal : Cert.Pre_pages_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_named_ReferenceIdeal [hReferenceIdeal : Cert.ReferenceIdeal.Facts] [hPre_pages_named_ReferenceIdeal : Cert.Pre_pages_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "s" .f32 0x3DB504F3#32 (((Real.sqrt 128)⁻¹ : ℝ) : EReal)

def algebraic_KernelIdeal_ReferenceIdeal_pre_pages_named_KernelIdeal [hKernelIdeal : Cert.KernelIdeal.Facts] [hReferenceIdeal : Cert.ReferenceIdeal.Facts] [hPre_pages_named_KernelIdeal : Cert.Pre_pages_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2, 2] ![[2], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2, 2] ![[2], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_lens_in_table : Cert.Pre_lens_in_table.Facts) (hPre_pages_named_KernelIdeal : Cert.Pre_pages_named_KernelIdeal.Facts) (hPre_pages_named_ReferenceIdeal : Cert.Pre_pages_named_ReferenceIdeal.Facts),
    quiescent_Kernel (hKernel := hKernel) (hPre_lens_in_table := hPre_lens_in_table)
    ∧ quiescent_KernelIdeal (hKernelIdeal := hKernelIdeal) (hPre_lens_in_table := hPre_lens_in_table)
    ∧ quiescent_KernelIdeal_pre_pages_named_KernelIdeal (hKernelIdeal := hKernelIdeal) (hPre_pages_named_KernelIdeal := hPre_pages_named_KernelIdeal)
    ∧ quiescent_ReferenceIdeal (hReferenceIdeal := hReferenceIdeal)
    ∧ quiescent_ReferenceIdeal_pre_pages_named_ReferenceIdeal (hReferenceIdeal := hReferenceIdeal) (hPre_pages_named_ReferenceIdeal := hPre_pages_named_ReferenceIdeal)
    ∧ preserves_Kernel_KernelIdeal
    ∧ algebraic_KernelIdeal_ReferenceIdeal_pre_pages_named_KernelIdeal (hKernelIdeal := hKernelIdeal) (hReferenceIdeal := hReferenceIdeal) (hPre_pages_named_KernelIdeal := hPre_pages_named_KernelIdeal)
-- ==== Pre_lens_in_table.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8 1 :=
  let main_c : IVec S_ 32 := constantI S_ 32 512#32
  let main_v0 : IVec S8 32 := broadcastInDim S8 ![] bcast_S_S8 main_c
  let main_v1 : IVec S8 1 := cmpi .sle main_arg4 main_v0
  main_v1
-- ==== Pre_pages_named_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)
  reducesTo_S8x512_S_d0_1 : S8x512.ReducesTo [0, 1] S_
  h_S_ : 0 < S_.numel
  reducesTo_S8_S_d0 : S8.ReducesTo [0] S_
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  bcast_S_S512x16x8x128 : S_.BroadcastsInDim S512x16x8x128 (![] : Fin 0 → Fin S512x16x8x128.rank)
  reducesTo_S512x16x8x128_S_d0_1_2_3 : S512x16x8x128.ReducesTo [0, 1, 2, 3] S_

variable [Facts]

def fn_part1 {F : FTy → Type} [FloatOps F] (main_arg0 : FVec F S8x1x8x128 .f32) (main_arg1 : FVec F S512x16x8x128 .f32) (main_v17 : IVec S_ 1) : IVec S_ 1 :=
  let main_v18 : FVec F S8x1x8x128 .f32 := Host.absf main_arg0
  let main_cst : FVec F S_ .f32 := constant S_ .f32 0x7F800000#32
  let main_v19 : FVec F S8x1x8x128 .f32 := broadcastInDim S8x1x8x128 ![] bcast_S_S8x1x8x128 main_cst
  let main_v20 : IVec S8x1x8x128 1 := cmpf .olt main_v18 main_v19
  let main_c_5 : IVec S_ 1 := constantI S_ 1 1#1
  let main_v21 : IVec S_ 1 := (fun x v => Host.reduce IntOp.andi x v reducesTo_S8x1x8x128_S_d0_1_2_3 h_S_) main_v20 main_c_5
  let main_v22 : IVec S_ 1 := andi main_v17 main_v21
  let main_v23 : FVec F S512x16x8x128 .f32 := Host.absf main_arg1
  let main_cst_6 : FVec F S_ .f32 := constant S_ .f32 0x7F800000#32
  let main_v24 : FVec F S512x16x8x128 .f32 := broadcastInDim S512x16x8x128 ![] bcast_S_S512x16x8x128 main_cst_6
  let main_v25 : IVec S512x16x8x128 1 := cmpf .olt main_v23 main_v24
  let main_c_7 : IVec S_ 1 := constantI S_ 1 1#1
  let main_v26 : IVec S_ 1 := (fun x v => Host.reduce IntOp.andi x v reducesTo_S512x16x8x128_S_d0_1_2_3 h_S_) main_v25 main_c_7
  let main_v27 : IVec S_ 1 := andi main_v22 main_v26
  main_v27

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .sge main_v0 main_v2
  let main_c : IVec S_ 32 := constantI S_ 32 0#32
  let main_v4 : IVec S8x512 32 := broadcastInDim S8x512 ![] bcast_S_S8x512 main_c
  let main_v5 : IVec S8x512 1 := cmpi .sge main_arg3 main_v4
  let main_c_0 : IVec S_ 32 := constantI S_ 32 1024#32
  let main_v6 : IVec S8x512 32 := broadcastInDim S8x512 ![] bcast_S_S8x512 main_c_0
  let main_v7 : IVec S8x512 1 := cmpi .slt main_arg3 main_v6
  let main_v8 : IVec S8x512 1 := andi main_v5 main_v7
  let main_v9 : IVec S8x512 1 := ori main_v3 main_v8
  let main_c_1 : IVec S_ 32 := constantI S_ 32 1#32
  let main_v10 : IVec S8 32 := broadcastInDim S8 ![] bcast_S_S8 main_c_1
  let main_v11 : IVec S8 1 := cmpi .sge main_arg4 main_v10
  let main_c_2 : IVec S_ 32 := constantI S_ 32 512#32
  let main_v12 : IVec S8 32 := broadcastInDim S8 ![] bcast_S_S8 main_c_2
  let main_v13 : IVec S8 1 := cmpi .sle main_arg4 main_v12
  let main_v14 : IVec S8 1 := andi main_v11 main_v13
  let main_c_3 : IVec S_ 1 := constantI S_ 1 1#1
  let main_v15 : IVec S_ 1 := (fun x v => Host.reduce IntOp.andi x v reducesTo_S8x512_S_d0_1 h_S_) main_v9 main_c_3
  let main_c_4 : IVec S_ 1 := constantI S_ 1 1#1
  let main_v16 : IVec S_ 1 := (fun x v => Host.reduce IntOp.andi x v reducesTo_S8_S_d0 h_S_) main_v14 main_c_4
  let main_v17 : IVec S_ 1 := andi main_v15 main_v16
  fn_part1 (F := F) main_arg0 main_arg1 main_v17
-- ==== Pre_pages_named_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)
  reducesTo_S8x512_S_d0_1 : S8x512.ReducesTo [0, 1] S_
  h_S_ : 0 < S_.numel
  reducesTo_S8_S_d0 : S8.ReducesTo [0] S_
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  bcast_S_S1024x16x8x128 : S_.BroadcastsInDim S1024x16x8x128 (![] : Fin 0 → Fin S1024x16x8x128.rank)
  reducesTo_S1024x16x8x128_S_d0_1_2_3 : S1024x16x8x128.ReducesTo [0, 1, 2, 3] S_

variable [Facts]

def fn_part1 {F : FTy → Type} [FloatOps F] (main_arg0 : FVec F S8x1x8x128 .f32) (main_arg1 : FVec F S1024x16x8x128 .f32) (main_v17 : IVec S_ 1) : IVec S_ 1 :=
  let main_v18 : FVec F S8x1x8x128 .f32 := Host.absf main_arg0
  let main_cst : FVec F S_ .f32 := constant S_ .f32 0x7F800000#32
  let main_v19 : FVec F S8x1x8x128 .f32 := broadcastInDim S8x1x8x128 ![] bcast_S_S8x1x8x128 main_cst
  let main_v20 : IVec S8x1x8x128 1 := cmpf .olt main_v18 main_v19
  let main_c_5 : IVec S_ 1 := constantI S_ 1 1#1
  let main_v21 : IVec S_ 1 := (fun x v => Host.reduce IntOp.andi x v reducesTo_S8x1x8x128_S_d0_1_2_3 h_S_) main_v20 main_c_5
  let main_v22 : IVec S_ 1 := andi main_v17 main_v21
  let main_v23 : FVec F S1024x16x8x128 .f32 := Host.absf main_arg1
  let main_cst_6 : FVec F S_ .f32 := constant S_ .f32 0x7F800000#32
  let main_v24 : FVec F S1024x16x8x128 .f32 := broadcastInDim S1024x16x8x128 ![] bcast_S_S1024x16x8x128 main_cst_6
  let main_v25 : IVec S1024x16x8x128 1 := cmpf .olt main_v23 main_v24
  let main_c_7 : IVec S_ 1 := constantI S_ 1 1#1
  let main_v26 : IVec S_ 1 := (fun x v => Host.reduce IntOp.andi x v reducesTo_S1024x16x8x128_S_d0_1_2_3 h_S_) main_v25 main_c_7
  let main_v27 : IVec S_ 1 := andi main_v22 main_v26
  main_v27

def fn {F : FTy → Type} [FloatOps F] (main_arg0 : FVec F S8x1x8x128 .f32) (main_arg1 : FVec F S1024x16x8x128 .f32) (main_arg2 : FVec F S1024x16x8x128 .f32) (main_arg3 : IVec S8x512 32) (main_arg4 : IVec S8 32) : IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .sge main_v0 main_v2
  let main_c : IVec S_ 32 := constantI S_ 32 0#32
  let main_v4 : IVec S8x512 32 := broadcastInDim S8x512 ![] bcast_S_S8x512 main_c
  let main_v5 : IVec S8x512 1 := cmpi .sge main_arg3 main_v4
  let main_c_0 : IVec S_ 32 := constantI S_ 32 1024#32
  let main_v6 : IVec S8x512 32 := broadcastInDim S8x512 ![] bcast_S_S8x512 main_c_0
  let main_v7 : IVec S8x512 1 := cmpi .slt main_arg3 main_v6
  let main_v8 : IVec S8x512 1 := andi main_v5 main_v7
  let main_v9 : IVec S8x512 1 := ori main_v3 main_v8
  let main_c_1 : IVec S_ 32 := constantI S_ 32 1#32
  let main_v10 : IVec S8 32 := broadcastInDim S8 ![] bcast_S_S8 main_c_1
  let main_v11 : IVec S8 1 := cmpi .sge main_arg4 main_v10
  let main_c_2 : IVec S_ 32 := constantI S_ 32 512#32
  let main_v12 : IVec S8 32 := broadcastInDim S8 ![] bcast_S_S8 main_c_2
  let main_v13 : IVec S8 1 := cmpi .sle main_arg4 main_v12
  let main_v14 : IVec S8 1 := andi main_v11 main_v13
  let main_c_3 : IVec S_ 1 := constantI S_ 1 1#1
  let main_v15 : IVec S_ 1 := (fun x v => Host.reduce IntOp.andi x v reducesTo_S8x512_S_d0_1 h_S_) main_v9 main_c_3
  let main_c_4 : IVec S_ 1 := constantI S_ 1 1#1
  let main_v16 : IVec S_ 1 := (fun x v => Host.reduce IntOp.andi x v reducesTo_S8_S_d0 h_S_) main_v14 main_c_4
  let main_v17 : IVec S_ 1 := andi main_v15 main_v16
  fn_part1 (F := F) main_arg0 main_arg1 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S2x8x16x8x128 : Shape := ⟨5, ![2, 8, 16, 8, 128]⟩
abbrev S2x8 : Shape := ⟨2, ![2, 8]⟩
abbrev S8x8x128 : Shape := ⟨3, ![8, 8, 128]⟩
abbrev S2x8x8 : Shape := ⟨3, ![2, 8, 8]⟩
abbrev S3x8x8x128 : Shape := ⟨4, ![3, 8, 8, 128]⟩
abbrev S3x2x8x8 : Shape := ⟨4, ![3, 2, 8, 8]⟩
abbrev S3x2 : Shape := ⟨2, ![3, 2]⟩
abbrev S1 : Shape := ⟨1, ![1]⟩
abbrev S1x1 : Shape := ⟨2, ![1, 1]⟩
abbrev S1x1x8x128 : Shape := ⟨4, ![1, 1, 8, 128]⟩
abbrev S8x128 : Shape := ⟨2, ![8, 128]⟩
abbrev S_ : Shape := ⟨0, ![]⟩
abbrev S1x1x16x8x128 : Shape := ⟨5, ![1, 1, 16, 8, 128]⟩
abbrev S16x8x128 : Shape := ⟨3, ![16, 8, 128]⟩
abbrev S1x16x8x128 : Shape := ⟨4, ![1, 16, 8, 128]⟩
abbrev S8x1 : Shape := ⟨2, ![8, 1]⟩
abbrev S1x8x16x8x128 : Shape := ⟨5, ![1, 8, 16, 8, 128]⟩
abbrev S8x16x8x128 : Shape := ⟨4, ![8, 16, 8, 128]⟩
abbrev S128x8x128 : Shape := ⟨3, ![128, 8, 128]⟩
abbrev S1x128 : Shape := ⟨2, ![1, 128]⟩
abbrev S1x8x128 : Shape := ⟨3, ![1, 8, 128]⟩
abbrev S1x1x8 : Shape := ⟨3, ![1, 1, 8]⟩
abbrev S1x8x8x128 : Shape := ⟨4, ![1, 8, 8, 128]⟩
abbrev S1x2x8x8 : Shape := ⟨4, ![1, 2, 8, 8]⟩
abbrev S1x8x8 : Shape := ⟨3, ![1, 8, 8]⟩
abbrev S8x8 : Shape := ⟨2, ![8, 8]⟩
abbrev S1x1x8x8 : Shape := ⟨4, ![1, 1, 8, 8]⟩
abbrev S8x8x1 : Shape := ⟨3, ![8, 8, 1]⟩

abbrev nBuf : Space → Nat
  | .hbm => 6
  | .vmem => 8
  | .smem => 3
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x1x8x128, .f32⟩
  | .local _ .vmem, ⟨2, _⟩ => ⟨S2x8x16x8x128, .f32⟩
  | .local _ .vmem, ⟨3, _⟩ => ⟨S2x8x16x8x128, .f32⟩
  | .local _ .vmem, ⟨4, _⟩ => ⟨S8x8x128, .f32⟩
  | .local _ .vmem, ⟨5, _⟩ => ⟨S2x8x8, .f32⟩
  | .local _ .vmem, ⟨6, _⟩ => ⟨S3x8x8x128, .f32⟩
  | .local _ .vmem, ⟨7, _⟩ => ⟨S3x2x8x8, .f32⟩
  | .local _ .smem, ⟨0, _⟩ => ⟨S8x512, .i32⟩
  | .local _ .smem, ⟨1, _⟩ => ⟨S8, .i32⟩
  | .local _ .smem, ⟨2, _⟩ => ⟨S8x512, .i32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg3_0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_stg1_0 : Ref sig .tc := ⟨.smem, 0, rfl⟩
abbrev cc0_stg2_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

@[reducible] def k0_t1_loop (d0 : Dev nD) (v11 : BitVec 32) : Scf.Loop 32 :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi v11 v10
  let c3_i32 : BitVec 32 := 3#32
  let v13 : BitVec 32 := Scalar.addi v12 c3_i32
  let c0_i32 : BitVec 32 := 0#32
  let v15 : BitVec 1 := Scalar.cmpi .sgt v13 c0_i32
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c4_i32_4 : BitVec 32 := 4#32
  let c0_i32_6 : BitVec 32 := 0#32
  let v20 : BitVec 1 := Scalar.cmpi .sgt c4_i32_4 c0_i32_6
  let v21 : BitVec 32 := Scalar.extui v20
  let c0_i32_7 : BitVec 32 := 0#32
  let v22 : BitVec 1 := Scalar.cmpi .slt c4_i32_4 c0_i32_7
  let v23 : BitVec 32 := Scalar.extui v22
  let v24 : BitVec 32 := Scalar.subi v21 v23
  let v25 : BitVec 1 := Scalar.cmpi .ne v19 v24
  let v26 : BitVec 32 := Scalar.remsi v13 c4_i32_4
  let c0_i32_8 : BitVec 32 := 0#32
  let v27 : BitVec 1 := Scalar.cmpi .ne v26 c0_i32_8
  let v28 : BitVec 1 := Scalar.andi v25 v27
  let v14 : BitVec 32 := Scalar.divsi v13 c4_i32_4
  let c1_i32_9 : BitVec 32 := 1#32
  let v29 : BitVec 32 := Scalar.subi v14 c1_i32_9
  let v30 : BitVec 32 := Scalar.select v28 v29 v14
  let v31 : BitVec 32 := Scalar.subi v30 c0_i32_10
  let c1_i32_12 : BitVec 32 := 1#32
  let v33 : BitVec 32 := Scalar.divsi v31 c1_i32_12
  let v34 : BitVec 32 := Scalar.muli v33 c1_i32_12
  let v35 : BitVec 32 := Scalar.addi c0_i32_10 v34
  let c1_i32_13 : BitVec 32 := 1#32
  ⟨c0_i32_10, v35, c1_i32_13⟩

def k0_off1 (d0 : Dev nD) (v11 : BitVec 32) (k0_t1 : Fin (k0_t1_loop d0 v11).trips) : Fin 2 → Nat :=
  let c0_655 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_10 : BitVec 32 := 0#32
  let c1_i32_13 : BitVec 32 := 1#32
  let arg17 : BitVec 32 := Scf.iv c0_i32_10 c1_i32_13 k0_t1
  let v866 : BitVec 32 := Scalar.muli c4_i32_654 arg17
  let v867 : BitVec 32 := Scalar.addi v10 v866
  let v868 : Index := Scalar.indexCast v867
  ![0, v868.toNat]
def k0_off2 (arg18 : BitVec 32) : Fin 2 → Nat :=
  let c0_665 : Index := 0#32
  let v893 : Index := Scalar.indexCast arg18
  ![0, v893.toNat]
def k0_cond1 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk2 (d0 : Dev nD) (arg18 : BitVec 32) (v869 : BitVec 32) : Prop :=
  (∀ (k0_h1 : k0_cond1 d0 v869 = 1#1), ∀ a, (k0_off2 arg18) a + S1x1.size a ≤ S8x512.size a)
theorem k0_off2_inb : ∀ (d0 : Dev nD) (arg18 : BitVec 32) (v869 : BitVec 32) (k0_hw2 : k0_chk2 d0 arg18 v869), ∀ (k0_h1 : k0_cond1 d0 v869 = 1#1), ∀ a, (k0_off2 arg18) a + S1x1.size a ≤ S8x512.size a := fun d0 arg18 v869 k0_hw2 k0_h1 => k0_hw2 k0_h1

@[reducible] def k0_t2_loop (d0 : Dev nD) (v11 : BitVec 32) : Scf.Loop 32 :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v12 : BitVec 32 := Scalar.subi v11 v10
  let c3_i32 : BitVec 32 := 3#32
  let v13 : BitVec 32 := Scalar.addi v12 c3_i32
  let c0_i32 : BitVec 32 := 0#32
  let v15 : BitVec 1 := Scalar.cmpi .sgt v13 c0_i32
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c4_i32_4 : BitVec 32 := 4#32
  let c0_i32_6 : BitVec 32 := 0#32
  let v20 : BitVec 1 := Scalar.cmpi .sgt c4_i32_4 c0_i32_6
  let v21 : BitVec 32 := Scalar.extui v20
  let c0_i32_7 : BitVec 32 := 0#32
  let v22 : BitVec 1 := Scalar.cmpi .slt c4_i32_4 c0_i32_7
  let v23 : BitVec 32 := Scalar.extui v22
  let v24 : BitVec 32 := Scalar.subi v21 v23
  let v25 : BitVec 1 := Scalar.cmpi .ne v19 v24
  let v26 : BitVec 32 := Scalar.remsi v13 c4_i32_4
  let c0_i32_8 : BitVec 32 := 0#32
  let v27 : BitVec 1 := Scalar.cmpi .ne v26 c0_i32_8
  let v28 : BitVec 1 := Scalar.andi v25 v27
  let v14 : BitVec 32 := Scalar.divsi v13 c4_i32_4
  let c1_i32_9 : BitVec 32 := 1#32
  let v29 : BitVec 32 := Scalar.subi v14 c1_i32_9
  let v30 : BitVec 32 := Scalar.select v28 v29 v14
  let v31 : BitVec 32 := Scalar.subi v30 c0_i32_10
  let c1_i32_12 : BitVec 32 := 1#32
  let v33 : BitVec 32 := Scalar.divsi v31 c1_i32_12
  let v34 : BitVec 32 := Scalar.muli v33 c1_i32_12
  let v35 : BitVec 32 := Scalar.addi c0_i32_10 v34
  let v32 : BitVec 32 := Scalar.addi c0_i32_10 v31
  let c1_i32_14 : BitVec 32 := 1#32
  ⟨v35, v32, c1_i32_14⟩
def k0_off3 (d0 : Dev nD) (v11 : BitVec 32) (k0_t2 : Fin (k0_t2_loop d0 v11).trips) : Fin 2 → Nat :=
  let c0_655 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_10 : BitVec 32 := 0#32
  let v12 : BitVec 32 := Scalar.subi v11 v10
  let c3_i32 : BitVec 32 := 3#32
  let v13 : BitVec 32 := Scalar.addi v12 c3_i32
  let c0_i32 : BitVec 32 := 0#32
  let v15 : BitVec 1 := Scalar.cmpi .sgt v13 c0_i32
  let v16 : BitVec 32 := Scalar.extui v15
  let c0_i32_5 : BitVec 32 := 0#32
  let v17 : BitVec 1 := Scalar.cmpi .slt v13 c0_i32_5
  let v18 : BitVec 32 := Scalar.extui v17
  let v19 : BitVec 32 := Scalar.subi v16 v18
  let c4_i32_4 : BitVec 32 := 4#32
  let c0_i32_6 : BitVec 32 := 0#32
  let v20 : BitVec 1 := Scalar.cmpi .sgt c4_i32_4 c0_i32_6
  let v21 : BitVec 32 := Scalar.extui v20
  let c0_i32_7 : BitVec 32 := 0#32
  let v22 : BitVec 1 := Scalar.cmpi .slt c4_i32_4 c0_i32_7
  let v23 : BitVec 32 := Scalar.extui v22
  let v24 : BitVec 32 := Scalar.subi v21 v23
  let v25 : BitVec 1 := Scalar.cmpi .ne v19 v24
  let v26 : BitVec 32 := Scalar.remsi v13 c4_i32_4
  let c0_i32_8 : BitVec 32 := 0#32
  let v27 : BitVec 1 := Scalar.cmpi .ne v26 c0_i32_8
  let v28 : BitVec 1 := Scalar.andi v25 v27
  let v14 : BitVec 32 := Scalar.divsi v13 c4_i32_4
  let c1_i32_9 : BitVec 32 := 1#32
  let v29 : BitVec 32 := Scalar.subi v14 c1_i32_9
  let v30 : BitVec 32 := Scalar.select v28 v29 v14
  let v31 : BitVec 32 := Scalar.subi v30 c0_i32_10
  let c1_i32_12 : BitVec 32 := 1#32
  let v33 : BitVec 32 := Scalar.divsi v31 c1_i32_12
  let v34 : BitVec 32 := Scalar.muli v33 c1_i32_12
  let v35 : BitVec 32 := Scalar.addi c0_i32_10 v34
  let c1_i32_14 : BitVec 32 := 1#32
  let arg17 : BitVec 32 := Scf.iv v35 c1_i32_14 k0_t2
  let v866 : BitVec 32 := Scalar.muli c4_i32_654 arg17
  let v867 : BitVec 32 := Scalar.addi v10 v866
  let v868 : Index := Scalar.indexCast v867
  ![0, v868.toNat]

def k0_chk1 (d0 : Dev nD) (v11 : BitVec 32) : Prop :=
  ((k0_t1_loop d0 v11).OK) ∧
  (∀ k0_t1 : Fin (k0_t1_loop d0 v11).trips, ∀ a, (k0_off1 d0 v11 k0_t1) a + S1x1.size a ≤ S8x512.size a) ∧
  ((k0_t2_loop d0 v11).OK) ∧
  (∀ k0_t2 : Fin (k0_t2_loop d0 v11).trips, ∀ a, (k0_off3 d0 v11 k0_t2) a + S1x1.size a ≤ S8x512.size a)
theorem k0_t1_ok : ∀ (d0 : Dev nD) (v11 : BitVec 32) (k0_hw1 : k0_chk1 d0 v11), (k0_t1_loop d0 v11).OK := fun d0 v11 k0_hw1 => k0_hw1.1
theorem k0_off1_inb : ∀ (d0 : Dev nD) (v11 : BitVec 32) (k0_hw1 : k0_chk1 d0 v11) (k0_t1 : Fin (k0_t1_loop d0 v11).trips), ∀ a, (k0_off1 d0 v11 k0_t1) a + S1x1.size a ≤ S8x512.size a := fun d0 v11 k0_hw1 k0_t1 => k0_hw1.2.1 k0_t1
theorem k0_t2_ok : ∀ (d0 : Dev nD) (v11 : BitVec 32) (k0_hw1 : k0_chk1 d0 v11), (k0_t2_loop d0 v11).OK := fun d0 v11 k0_hw1 => k0_hw1.2.2.1
theorem k0_off3_inb : ∀ (d0 : Dev nD) (v11 : BitVec 32) (k0_hw1 : k0_chk1 d0 v11) (k0_t2 : Fin (k0_t2_loop d0 v11).trips), ∀ a, (k0_off3 d0 v11 k0_t2) a + S1x1.size a ≤ S8x512.size a := fun d0 v11 k0_hw1 k0_t2 => k0_hw1.2.2.2 k0_t2

def k0_off4 (arg18 : BitVec 32) : Fin 2 → Nat :=
  let c0_665 : Index := 0#32
  let v893 : Index := Scalar.indexCast arg18
  ![0, v893.toNat]
def k0_cond2 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk3 (d0 : Dev nD) (arg18 : BitVec 32) (v869 : BitVec 32) : Prop :=
  (∀ (k0_h2 : k0_cond2 d0 v869 = 1#1), ∀ a, (k0_off4 arg18) a + S1x1.size a ≤ S8x512.size a)
theorem k0_off4_inb : ∀ (d0 : Dev nD) (arg18 : BitVec 32) (v869 : BitVec 32) (k0_hw3 : k0_chk3 d0 arg18 v869), ∀ (k0_h2 : k0_cond2 d0 v869 = 1#1), ∀ a, (k0_off4 arg18) a + S1x1.size a ≤ S8x512.size a := fun d0 arg18 v869 k0_hw3 k0_h2 => k0_hw3 k0_h2

def k0_off5 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond3 (v37 : BitVec 32) : BitVec 1 :=
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let c0_i32_27 : BitVec 32 := 0#32
  let v59 : BitVec 1 := Scalar.cmpi .sgt v56 c0_i32_27
  let v60 : BitVec 32 := Scalar.extui v59
  let c0_i32_28 : BitVec 32 := 0#32
  let v61 : BitVec 1 := Scalar.cmpi .ne v60 c0_i32_28
  v61

def k0_chk4 (v37 : BitVec 32) (v866 : BitVec 32) : Prop :=
  (∀ (k0_h3 : k0_cond3 v37 = 1#1), ∀ a, (k0_off5 v866) a + S1x16x8x128.size a ≤ S512x16x8x128.size a)
theorem k0_off5_inb : ∀ (v37 : BitVec 32) (v866 : BitVec 32) (k0_hw4 : k0_chk4 v37 v866), ∀ (k0_h3 : k0_cond3 v37 = 1#1), ∀ a, (k0_off5 v866) a + S1x16x8x128.size a ≤ S512x16x8x128.size a := fun v37 v866 k0_hw4 k0_h3 => k0_hw4 k0_h3

def k0_off6 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk5 (v37 : BitVec 32) (v880 : BitVec 32) : Prop :=
  (∀ (k0_h3 : k0_cond3 v37 = 1#1), ∀ a, (k0_off6 v880) a + S1x16x8x128.size a ≤ S512x16x8x128.size a)
theorem k0_off6_inb : ∀ (v37 : BitVec 32) (v880 : BitVec 32) (k0_hw5 : k0_chk5 v37 v880), ∀ (k0_h3 : k0_cond3 v37 = 1#1), ∀ a, (k0_off6 v880) a + S1x16x8x128.size a ≤ S512x16x8x128.size a := fun v37 v880 k0_hw5 k0_h3 => k0_hw5 k0_h3

def k0_off7 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk6 (v37 : BitVec 32) (v894 : BitVec 32) : Prop :=
  (∀ (k0_h3 : k0_cond3 v37 = 1#1), ∀ a, (k0_off7 v894) a + S1x16x8x128.size a ≤ S512x16x8x128.size a)
theorem k0_off7_inb : ∀ (v37 : BitVec 32) (v894 : BitVec 32) (k0_hw6 : k0_chk6 v37 v894), ∀ (k0_h3 : k0_cond3 v37 = 1#1), ∀ a, (k0_off7 v894) a + S1x16x8x128.size a ≤ S512x16x8x128.size a := fun v37 v894 k0_hw6 k0_h3 => k0_hw6 k0_h3

def k0_off8 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk7 (v37 : BitVec 32) (v908 : BitVec 32) : Prop :=
  (∀ (k0_h3 : k0_cond3 v37 = 1#1), ∀ a, (k0_off8 v908) a + S1x16x8x128.size a ≤ S512x16x8x128.size a)
theorem k0_off8_inb : ∀ (v37 : BitVec 32) (v908 : BitVec 32) (k0_hw7 : k0_chk7 v37 v908), ∀ (k0_h3 : k0_cond3 v37 = 1#1), ∀ a, (k0_off8 v908) a + S1x16x8x128.size a ≤ S512x16x8x128.size a := fun v37 v908 k0_hw7 k0_h3 => k0_hw7 k0_h3

def k0_off9 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk8 (v37 : BitVec 32) (v922 : BitVec 32) : Prop :=
  (∀ (k0_h3 : k0_cond3 v37 = 1#1), ∀ a, (k0_off9 v922) a + S1x16x8x128.size a ≤ S512x16x8x128.size a)
theorem k0_off9_inb : ∀ (v37 : BitVec 32) (v922 : BitVec 32) (k0_hw8 : k0_chk8 v37 v922), ∀ (k0_h3 : k0_cond3 v37 = 1#1), ∀ a, (k0_off9 v922) a + S1x16x8x128.size a ≤ S512x16x8x128.size a := fun v37 v922 k0_hw8 k0_h3 => k0_hw8 k0_h3

def k0_off10 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk9 (v37 : BitVec 32) (v936 : BitVec 32) : Prop :=
  (∀ (k0_h3 : k0_cond3 v37 = 1#1), ∀ a, (k0_off10 v936) a + S1x16x8x128.size a ≤ S512x16x8x128.size a)
theorem k0_off10_inb : ∀ (v37 : BitVec 32) (v936 : BitVec 32) (k0_hw9 : k0_chk9 v37 v936), ∀ (k0_h3 : k0_cond3 v37 = 1#1), ∀ a, (k0_off10 v936) a + S1x16x8x128.size a ≤ S512x16x8x128.size a := fun v37 v936 k0_hw9 k0_h3 => k0_hw9 k0_h3

def k0_off11 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk10 (v37 : BitVec 32) (v950 : BitVec 32) : Prop :=
  (∀ (k0_h3 : k0_cond3 v37 = 1#1), ∀ a, (k0_off11 v950) a + S1x16x8x128.size a ≤ S512x16x8x128.size a)
theorem k0_off11_inb : ∀ (v37 : BitVec 32) (v950 : BitVec 32) (k0_hw10 : k0_chk10 v37 v950), ∀ (k0_h3 : k0_cond3 v37 = 1#1), ∀ a, (k0_off11 v950) a + S1x16x8x128.size a ≤ S512x16x8x128.size a := fun v37 v950 k0_hw10 k0_h3 => k0_hw10 k0_h3

def k0_off12 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk11 (v37 : BitVec 32) (v964 : BitVec 32) : Prop :=
  (∀ (k0_h3 : k0_cond3 v37 = 1#1), ∀ a, (k0_off12 v964) a + S1x16x8x128.size a ≤ S512x16x8x128.size a)
theorem k0_off12_inb : ∀ (v37 : BitVec 32) (v964 : BitVec 32) (k0_hw11 : k0_chk11 v37 v964), ∀ (k0_h3 : k0_cond3 v37 = 1#1), ∀ a, (k0_off12 v964) a + S1x16x8x128.size a ≤ S512x16x8x128.size a := fun v37 v964 k0_hw11 k0_h3 => k0_hw11 k0_h3

@[reducible] def k0_t3_loop (v37 : BitVec 32) : Scf.Loop 32 :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_33 : BitVec 32 := 1#32
  ⟨c0_i32_31, v69, c1_i32_33⟩

def k0_off13 (v37 : BitVec 32) (k0_t3 : Fin (k0_t3_loop v37).trips) : Fin 2 → Nat :=
  let c0_824 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![0, v1033.toNat]
def k0_cond4 (v37 : BitVec 32) (k0_t3 : Fin (k0_t3_loop v37).trips) : BitVec 1 :=
  let c0_i32_31 : BitVec 32 := 0#32
  let c1_i32_33 : BitVec 32 := 1#32
  let arg17 : BitVec 32 := Scf.iv c0_i32_31 c1_i32_33 k0_t3
  let c1_i32_655 : BitVec 32 := 1#32
  let v867 : BitVec 32 := Scalar.addi arg17 c1_i32_655
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v868 : BitVec 1 := Scalar.cmpi .slt v867 v56
  let v869 : BitVec 32 := Scalar.extui v868
  let c0_i32_656 : BitVec 32 := 0#32
  let v870 : BitVec 1 := Scalar.cmpi .ne v869 c0_i32_656
  v870

def k0_off14 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off15 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off16 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk13 (v37 : BitVec 32) (k0_t3 : Fin (k0_t3_loop v37).trips) (v1034 : BitVec 32) : Prop :=
  (∀ (k0_h4 : k0_cond4 v37 k0_t3 = 1#1), ∀ a, (k0_off16 v1034) a + S1x16x8x128.size a ≤ S512x16x8x128.size a)
theorem k0_off16_inb : ∀ (v37 : BitVec 32) (k0_t3 : Fin (k0_t3_loop v37).trips) (v1034 : BitVec 32) (k0_hw13 : k0_chk13 v37 k0_t3 v1034), ∀ (k0_h4 : k0_cond4 v37 k0_t3 = 1#1), ∀ a, (k0_off16 v1034) a + S1x16x8x128.size a ≤ S512x16x8x128.size a := fun v37 k0_t3 v1034 k0_hw13 k0_h4 => k0_hw13 k0_h4

def k0_off17 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off18 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off19 (v37 : BitVec 32) (k0_t3 : Fin (k0_t3_loop v37).trips) : Fin 2 → Nat :=
  let c0_843 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![0, v1050.toNat]
def k0_off20 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off21 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off22 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk14 (v37 : BitVec 32) (k0_t3 : Fin (k0_t3_loop v37).trips) (v1051 : BitVec 32) : Prop :=
  (∀ (k0_h4 : k0_cond4 v37 k0_t3 = 1#1), ∀ a, (k0_off22 v1051) a + S1x16x8x128.size a ≤ S512x16x8x128.size a)
theorem k0_off22_inb : ∀ (v37 : BitVec 32) (k0_t3 : Fin (k0_t3_loop v37).trips) (v1051 : BitVec 32) (k0_hw14 : k0_chk14 v37 k0_t3 v1051), ∀ (k0_h4 : k0_cond4 v37 k0_t3 = 1#1), ∀ a, (k0_off22 v1051) a + S1x16x8x128.size a ≤ S512x16x8x128.size a := fun v37 k0_t3 v1051 k0_hw14 k0_h4 => k0_hw14 k0_h4

def k0_off23 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off24 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off25 (v37 : BitVec 32) (k0_t3 : Fin (k0_t3_loop v37).trips) : Fin 2 → Nat :=
  let c0_863 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![0, v1067.toNat]
def k0_off26 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off27 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off28 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk15 (v37 : BitVec 32) (k0_t3 : Fin (k0_t3_loop v37).trips) (v1068 : BitVec 32) : Prop :=
  (∀ (k0_h4 : k0_cond4 v37 k0_t3 = 1#1), ∀ a, (k0_off28 v1068) a + S1x16x8x128.size a ≤ S512x16x8x128.size a)
theorem k0_off28_inb : ∀ (v37 : BitVec 32) (k0_t3 : Fin (k0_t3_loop v37).trips) (v1068 : BitVec 32) (k0_hw15 : k0_chk15 v37 k0_t3 v1068), ∀ (k0_h4 : k0_cond4 v37 k0_t3 = 1#1), ∀ a, (k0_off28 v1068) a + S1x16x8x128.size a ≤ S512x16x8x128.size a := fun v37 k0_t3 v1068 k0_hw15 k0_h4 => k0_hw15 k0_h4

def k0_off29 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off30 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off31 (v37 : BitVec 32) (k0_t3 : Fin (k0_t3_loop v37).trips) : Fin 2 → Nat :=
  let c0_883 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![0, v1084.toNat]
def k0_off32 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off33 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off34 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk16 (v37 : BitVec 32) (k0_t3 : Fin (k0_t3_loop v37).trips) (v1085 : BitVec 32) : Prop :=
  (∀ (k0_h4 : k0_cond4 v37 k0_t3 = 1#1), ∀ a, (k0_off34 v1085) a + S1x16x8x128.size a ≤ S512x16x8x128.size a)
theorem k0_off34_inb : ∀ (v37 : BitVec 32) (k0_t3 : Fin (k0_t3_loop v37).trips) (v1085 : BitVec 32) (k0_hw16 : k0_chk16 v37 k0_t3 v1085), ∀ (k0_h4 : k0_cond4 v37 k0_t3 = 1#1), ∀ a, (k0_off34 v1085) a + S1x16x8x128.size a ≤ S512x16x8x128.size a := fun v37 k0_t3 v1085 k0_hw16 k0_h4 => k0_hw16 k0_h4

def k0_off35 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off36 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off37 (v37 : BitVec 32) (k0_t3 : Fin (k0_t3_loop v37).trips) : Fin 2 → Nat :=
  let c0_903 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![0, v1101.toNat]
def k0_off38 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off39 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off40 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk17 (v37 : BitVec 32) (k0_t3 : Fin (k0_t3_loop v37).trips) (v1102 : BitVec 32) : Prop :=
  (∀ (k0_h4 : k0_cond4 v37 k0_t3 = 1#1), ∀ a, (k0_off40 v1102) a + S1x16x8x128.size a ≤ S512x16x8x128.size a)
theorem k0_off40_inb : ∀ (v37 : BitVec 32) (k0_t3 : Fin (k0_t3_loop v37).trips) (v1102 : BitVec 32) (k0_hw17 : k0_chk17 v37 k0_t3 v1102), ∀ (k0_h4 : k0_cond4 v37 k0_t3 = 1#1), ∀ a, (k0_off40 v1102) a + S1x16x8x128.size a ≤ S512x16x8x128.size a := fun v37 k0_t3 v1102 k0_hw17 k0_h4 => k0_hw17 k0_h4

def k0_off41 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off42 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off43 (v37 : BitVec 32) (k0_t3 : Fin (k0_t3_loop v37).trips) : Fin 2 → Nat :=
  let c0_923 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![0, v1118.toNat]
def k0_off44 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off45 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off46 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk18 (v37 : BitVec 32) (k0_t3 : Fin (k0_t3_loop v37).trips) (v1119 : BitVec 32) : Prop :=
  (∀ (k0_h4 : k0_cond4 v37 k0_t3 = 1#1), ∀ a, (k0_off46 v1119) a + S1x16x8x128.size a ≤ S512x16x8x128.size a)
theorem k0_off46_inb : ∀ (v37 : BitVec 32) (k0_t3 : Fin (k0_t3_loop v37).trips) (v1119 : BitVec 32) (k0_hw18 : k0_chk18 v37 k0_t3 v1119), ∀ (k0_h4 : k0_cond4 v37 k0_t3 = 1#1), ∀ a, (k0_off46 v1119) a + S1x16x8x128.size a ≤ S512x16x8x128.size a := fun v37 k0_t3 v1119 k0_hw18 k0_h4 => k0_hw18 k0_h4

def k0_off47 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off48 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off49 (v37 : BitVec 32) (k0_t3 : Fin (k0_t3_loop v37).trips) : Fin 2 → Nat :=
  let c0_943 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![0, v1135.toNat]
def k0_off50 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off51 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off52 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk19 (v37 : BitVec 32) (k0_t3 : Fin (k0_t3_loop v37).trips) (v1136 : BitVec 32) : Prop :=
  (∀ (k0_h4 : k0_cond4 v37 k0_t3 = 1#1), ∀ a, (k0_off52 v1136) a + S1x16x8x128.size a ≤ S512x16x8x128.size a)
theorem k0_off52_inb : ∀ (v37 : BitVec 32) (k0_t3 : Fin (k0_t3_loop v37).trips) (v1136 : BitVec 32) (k0_hw19 : k0_chk19 v37 k0_t3 v1136), ∀ (k0_h4 : k0_cond4 v37 k0_t3 = 1#1), ∀ a, (k0_off52 v1136) a + S1x16x8x128.size a ≤ S512x16x8x128.size a := fun v37 k0_t3 v1136 k0_hw19 k0_h4 => k0_hw19 k0_h4

def k0_off53 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off54 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off55 (v37 : BitVec 32) (k0_t3 : Fin (k0_t3_loop v37).trips) : Fin 2 → Nat :=
  let c0_963 : Index := 0#32
  let c0_i32_31 : BitVec 32 := 0#32
  let c1_i32_33 : BitVec 32 := 1#32
  let arg17 : BitVec 32 := Scf.iv c0_i32_31 c1_i32_33 k0_t3
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![0, v1152.toNat]
def k0_off56 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off57 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off58 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk20 (v37 : BitVec 32) (k0_t3 : Fin (k0_t3_loop v37).trips) (v1153 : BitVec 32) : Prop :=
  (∀ (k0_h4 : k0_cond4 v37 k0_t3 = 1#1), ∀ a, (k0_off58 v1153) a + S1x16x8x128.size a ≤ S512x16x8x128.size a)
theorem k0_off58_inb : ∀ (v37 : BitVec 32) (k0_t3 : Fin (k0_t3_loop v37).trips) (v1153 : BitVec 32) (k0_hw20 : k0_chk20 v37 k0_t3 v1153), ∀ (k0_h4 : k0_cond4 v37 k0_t3 = 1#1), ∀ a, (k0_off58 v1153) a + S1x16x8x128.size a ≤ S512x16x8x128.size a := fun v37 k0_t3 v1153 k0_hw20 k0_h4 => k0_hw20 k0_h4

def k0_off59 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off60 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off61 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c0_i32_659 : BitVec 32 := 0#32
  ![v866.toNat, 0]
def k0_off62 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off63 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c1_i32_677 : BitVec 32 := 1#32
  ![v866.toNat, 1]
def k0_off64 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off65 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c2_i32_695 : BitVec 32 := 2#32
  ![v866.toNat, 2]
def k0_off66 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off67 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c3_i32_713 : BitVec 32 := 3#32
  ![v866.toNat, 3]
def k0_off68 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off69 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c4_i32_731 : BitVec 32 := 4#32
  ![v866.toNat, 4]
def k0_off70 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off71 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c5_i32_748 : BitVec 32 := 5#32
  ![v866.toNat, 5]
def k0_off72 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off73 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c6_i32_765 : BitVec 32 := 6#32
  ![v866.toNat, 6]
def k0_off74 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off75 (v37 : BitVec 32) (k0_t3 : Fin (k0_t3_loop v37).trips) : Fin 2 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c7_i32_782 : BitVec 32 := 7#32
  ![v866.toNat, 7]
def k0_off76 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off77 (v37 : BitVec 32) (k0_t3 : Fin (k0_t3_loop v37).trips) : Fin 5 → Nat :=
  let c0_i32_31 : BitVec 32 := 0#32
  let c1_i32_33 : BitVec 32 := 1#32
  let arg17 : BitVec 32 := Scf.iv c0_i32_31 c1_i32_33 k0_t3
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t4_loop (v37 : BitVec 32) : Scf.Loop 32 :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let v66 : BitVec 32 := Scalar.addi c0_i32_31 v65
  let c1_i32_34 : BitVec 32 := 1#32
  ⟨v69, v66, c1_i32_34⟩
def k0_off78 (v37 : BitVec 32) (k0_t4 : Fin (k0_t4_loop v37).trips) : Fin 2 → Nat :=
  let c0_824 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![0, v1033.toNat]
def k0_cond5 (v37 : BitVec 32) (k0_t4 : Fin (k0_t4_loop v37).trips) : BitVec 1 :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_655 : BitVec 32 := 1#32
  let v867 : BitVec 32 := Scalar.addi arg17 c1_i32_655
  let v868 : BitVec 1 := Scalar.cmpi .slt v867 v56
  let v869 : BitVec 32 := Scalar.extui v868
  let c0_i32_656 : BitVec 32 := 0#32
  let v870 : BitVec 1 := Scalar.cmpi .ne v869 c0_i32_656
  v870

def k0_off79 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off80 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off81 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk21 (v37 : BitVec 32) (k0_t4 : Fin (k0_t4_loop v37).trips) (v1034 : BitVec 32) : Prop :=
  (∀ (k0_h5 : k0_cond5 v37 k0_t4 = 1#1), ∀ a, (k0_off81 v1034) a + S1x16x8x128.size a ≤ S512x16x8x128.size a)
theorem k0_off81_inb : ∀ (v37 : BitVec 32) (k0_t4 : Fin (k0_t4_loop v37).trips) (v1034 : BitVec 32) (k0_hw21 : k0_chk21 v37 k0_t4 v1034), ∀ (k0_h5 : k0_cond5 v37 k0_t4 = 1#1), ∀ a, (k0_off81 v1034) a + S1x16x8x128.size a ≤ S512x16x8x128.size a := fun v37 k0_t4 v1034 k0_hw21 k0_h5 => k0_hw21 k0_h5

def k0_off82 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off83 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off84 (v37 : BitVec 32) (k0_t4 : Fin (k0_t4_loop v37).trips) : Fin 2 → Nat :=
  let c0_843 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![0, v1050.toNat]
def k0_off85 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off86 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off87 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk22 (v37 : BitVec 32) (k0_t4 : Fin (k0_t4_loop v37).trips) (v1051 : BitVec 32) : Prop :=
  (∀ (k0_h5 : k0_cond5 v37 k0_t4 = 1#1), ∀ a, (k0_off87 v1051) a + S1x16x8x128.size a ≤ S512x16x8x128.size a)
theorem k0_off87_inb : ∀ (v37 : BitVec 32) (k0_t4 : Fin (k0_t4_loop v37).trips) (v1051 : BitVec 32) (k0_hw22 : k0_chk22 v37 k0_t4 v1051), ∀ (k0_h5 : k0_cond5 v37 k0_t4 = 1#1), ∀ a, (k0_off87 v1051) a + S1x16x8x128.size a ≤ S512x16x8x128.size a := fun v37 k0_t4 v1051 k0_hw22 k0_h5 => k0_hw22 k0_h5

def k0_off88 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off89 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off90 (v37 : BitVec 32) (k0_t4 : Fin (k0_t4_loop v37).trips) : Fin 2 → Nat :=
  let c0_863 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![0, v1067.toNat]
def k0_off91 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off92 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off93 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk23 (v37 : BitVec 32) (k0_t4 : Fin (k0_t4_loop v37).trips) (v1068 : BitVec 32) : Prop :=
  (∀ (k0_h5 : k0_cond5 v37 k0_t4 = 1#1), ∀ a, (k0_off93 v1068) a + S1x16x8x128.size a ≤ S512x16x8x128.size a)
theorem k0_off93_inb : ∀ (v37 : BitVec 32) (k0_t4 : Fin (k0_t4_loop v37).trips) (v1068 : BitVec 32) (k0_hw23 : k0_chk23 v37 k0_t4 v1068), ∀ (k0_h5 : k0_cond5 v37 k0_t4 = 1#1), ∀ a, (k0_off93 v1068) a + S1x16x8x128.size a ≤ S512x16x8x128.size a := fun v37 k0_t4 v1068 k0_hw23 k0_h5 => k0_hw23 k0_h5

def k0_off94 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off95 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off96 (v37 : BitVec 32) (k0_t4 : Fin (k0_t4_loop v37).trips) : Fin 2 → Nat :=
  let c0_883 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![0, v1084.toNat]
def k0_off97 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off98 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off99 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk24 (v37 : BitVec 32) (k0_t4 : Fin (k0_t4_loop v37).trips) (v1085 : BitVec 32) : Prop :=
  (∀ (k0_h5 : k0_cond5 v37 k0_t4 = 1#1), ∀ a, (k0_off99 v1085) a + S1x16x8x128.size a ≤ S512x16x8x128.size a)
theorem k0_off99_inb : ∀ (v37 : BitVec 32) (k0_t4 : Fin (k0_t4_loop v37).trips) (v1085 : BitVec 32) (k0_hw24 : k0_chk24 v37 k0_t4 v1085), ∀ (k0_h5 : k0_cond5 v37 k0_t4 = 1#1), ∀ a, (k0_off99 v1085) a + S1x16x8x128.size a ≤ S512x16x8x128.size a := fun v37 k0_t4 v1085 k0_hw24 k0_h5 => k0_hw24 k0_h5

def k0_off100 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off101 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off102 (v37 : BitVec 32) (k0_t4 : Fin (k0_t4_loop v37).trips) : Fin 2 → Nat :=
  let c0_903 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![0, v1101.toNat]
def k0_off103 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off104 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off105 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk25 (v37 : BitVec 32) (k0_t4 : Fin (k0_t4_loop v37).trips) (v1102 : BitVec 32) : Prop :=
  (∀ (k0_h5 : k0_cond5 v37 k0_t4 = 1#1), ∀ a, (k0_off105 v1102) a + S1x16x8x128.size a ≤ S512x16x8x128.size a)
theorem k0_off105_inb : ∀ (v37 : BitVec 32) (k0_t4 : Fin (k0_t4_loop v37).trips) (v1102 : BitVec 32) (k0_hw25 : k0_chk25 v37 k0_t4 v1102), ∀ (k0_h5 : k0_cond5 v37 k0_t4 = 1#1), ∀ a, (k0_off105 v1102) a + S1x16x8x128.size a ≤ S512x16x8x128.size a := fun v37 k0_t4 v1102 k0_hw25 k0_h5 => k0_hw25 k0_h5

def k0_off106 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off107 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off108 (v37 : BitVec 32) (k0_t4 : Fin (k0_t4_loop v37).trips) : Fin 2 → Nat :=
  let c0_923 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![0, v1118.toNat]
def k0_off109 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off110 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off111 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk26 (v37 : BitVec 32) (k0_t4 : Fin (k0_t4_loop v37).trips) (v1119 : BitVec 32) : Prop :=
  (∀ (k0_h5 : k0_cond5 v37 k0_t4 = 1#1), ∀ a, (k0_off111 v1119) a + S1x16x8x128.size a ≤ S512x16x8x128.size a)
theorem k0_off111_inb : ∀ (v37 : BitVec 32) (k0_t4 : Fin (k0_t4_loop v37).trips) (v1119 : BitVec 32) (k0_hw26 : k0_chk26 v37 k0_t4 v1119), ∀ (k0_h5 : k0_cond5 v37 k0_t4 = 1#1), ∀ a, (k0_off111 v1119) a + S1x16x8x128.size a ≤ S512x16x8x128.size a := fun v37 k0_t4 v1119 k0_hw26 k0_h5 => k0_hw26 k0_h5

def k0_off112 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off113 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off114 (v37 : BitVec 32) (k0_t4 : Fin (k0_t4_loop v37).trips) : Fin 2 → Nat :=
  let c0_943 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![0, v1135.toNat]
def k0_off115 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off116 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off117 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk27 (v37 : BitVec 32) (k0_t4 : Fin (k0_t4_loop v37).trips) (v1136 : BitVec 32) : Prop :=
  (∀ (k0_h5 : k0_cond5 v37 k0_t4 = 1#1), ∀ a, (k0_off117 v1136) a + S1x16x8x128.size a ≤ S512x16x8x128.size a)
theorem k0_off117_inb : ∀ (v37 : BitVec 32) (k0_t4 : Fin (k0_t4_loop v37).trips) (v1136 : BitVec 32) (k0_hw27 : k0_chk27 v37 k0_t4 v1136), ∀ (k0_h5 : k0_cond5 v37 k0_t4 = 1#1), ∀ a, (k0_off117 v1136) a + S1x16x8x128.size a ≤ S512x16x8x128.size a := fun v37 k0_t4 v1136 k0_hw27 k0_h5 => k0_hw27 k0_h5

def k0_off118 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off119 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off120 (v37 : BitVec 32) (k0_t4 : Fin (k0_t4_loop v37).trips) : Fin 2 → Nat :=
  let c0_963 : Index := 0#32
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![0, v1152.toNat]
def k0_off121 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off122 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off123 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk28 (v37 : BitVec 32) (k0_t4 : Fin (k0_t4_loop v37).trips) (v1153 : BitVec 32) : Prop :=
  (∀ (k0_h5 : k0_cond5 v37 k0_t4 = 1#1), ∀ a, (k0_off123 v1153) a + S1x16x8x128.size a ≤ S512x16x8x128.size a)
theorem k0_off123_inb : ∀ (v37 : BitVec 32) (k0_t4 : Fin (k0_t4_loop v37).trips) (v1153 : BitVec 32) (k0_hw28 : k0_chk28 v37 k0_t4 v1153), ∀ (k0_h5 : k0_cond5 v37 k0_t4 = 1#1), ∀ a, (k0_off123 v1153) a + S1x16x8x128.size a ≤ S512x16x8x128.size a := fun v37 k0_t4 v1153 k0_hw28 k0_h5 => k0_hw28 k0_h5

def k0_off124 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off125 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off126 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c0_i32_659 : BitVec 32 := 0#32
  ![v866.toNat, 0]
def k0_off127 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off128 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c1_i32_677 : BitVec 32 := 1#32
  ![v866.toNat, 1]
def k0_off129 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off130 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c2_i32_695 : BitVec 32 := 2#32
  ![v866.toNat, 2]
def k0_off131 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off132 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c3_i32_713 : BitVec 32 := 3#32
  ![v866.toNat, 3]
def k0_off133 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off134 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c4_i32_731 : BitVec 32 := 4#32
  ![v866.toNat, 4]
def k0_off135 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off136 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c5_i32_748 : BitVec 32 := 5#32
  ![v866.toNat, 5]
def k0_off137 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off138 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c6_i32_765 : BitVec 32 := 6#32
  ![v866.toNat, 6]
def k0_off139 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off140 (v37 : BitVec 32) (k0_t4 : Fin (k0_t4_loop v37).trips) : Fin 2 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c7_i32_782 : BitVec 32 := 7#32
  ![v866.toNat, 7]
def k0_off141 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off142 (v37 : BitVec 32) (k0_t4 : Fin (k0_t4_loop v37).trips) : Fin 5 → Nat :=
  let c0_i32_31 : BitVec 32 := 0#32
  let c8_i32 : BitVec 32 := 8#32
  let v38 : BitVec 32 := Scalar.addi v37 c8_i32
  let c1_i32_15 : BitVec 32 := 1#32
  let v39 : BitVec 32 := Scalar.subi v38 c1_i32_15
  let c0_i32_17 : BitVec 32 := 0#32
  let v41 : BitVec 1 := Scalar.cmpi .sgt v39 c0_i32_17
  let v42 : BitVec 32 := Scalar.extui v41
  let c0_i32_18 : BitVec 32 := 0#32
  let v43 : BitVec 1 := Scalar.cmpi .slt v39 c0_i32_18
  let v44 : BitVec 32 := Scalar.extui v43
  let v45 : BitVec 32 := Scalar.subi v42 v44
  let c8_i32_16 : BitVec 32 := 8#32
  let c0_i32_19 : BitVec 32 := 0#32
  let v46 : BitVec 1 := Scalar.cmpi .sgt c8_i32_16 c0_i32_19
  let v47 : BitVec 32 := Scalar.extui v46
  let c0_i32_20 : BitVec 32 := 0#32
  let v48 : BitVec 1 := Scalar.cmpi .slt c8_i32_16 c0_i32_20
  let v49 : BitVec 32 := Scalar.extui v48
  let v50 : BitVec 32 := Scalar.subi v47 v49
  let v51 : BitVec 1 := Scalar.cmpi .ne v45 v50
  let v52 : BitVec 32 := Scalar.remsi v39 c8_i32_16
  let c0_i32_21 : BitVec 32 := 0#32
  let v53 : BitVec 1 := Scalar.cmpi .ne v52 c0_i32_21
  let v54 : BitVec 1 := Scalar.andi v51 v53
  let v40 : BitVec 32 := Scalar.divsi v39 c8_i32_16
  let c1_i32_22 : BitVec 32 := 1#32
  let v55 : BitVec 32 := Scalar.subi v40 c1_i32_22
  let v56 : BitVec 32 := Scalar.select v54 v55 v40
  let v65 : BitVec 32 := Scalar.subi v56 c0_i32_31
  let c1_i32_32 : BitVec 32 := 1#32
  let v67 : BitVec 32 := Scalar.divsi v65 c1_i32_32
  let v68 : BitVec 32 := Scalar.muli v67 c1_i32_32
  let v69 : BitVec 32 := Scalar.addi c0_i32_31 v68
  let c1_i32_34 : BitVec 32 := 1#32
  let arg17 : BitVec 32 := Scf.iv v69 c1_i32_34 k0_t4
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk12_0 (v37 : BitVec 32) : Prop :=
  ((k0_t3_loop v37).OK) ∧
  (∀ k0_t3 : Fin (k0_t3_loop v37).trips, ∀ (k0_h4 : k0_cond4 v37 k0_t3 = 1#1), ∀ a, (k0_off13 v37 k0_t3) a + S1x1.size a ≤ S8x512.size a) ∧
  (∀ k0_t3 : Fin (k0_t3_loop v37).trips, ∀ (k0_h4 : k0_cond4 v37 k0_t3 = 1#1), ∀ a, (k0_off14 v37 k0_t3) a + S1x1.size a ≤ S2x8.size a) ∧
  (∀ k0_t3 : Fin (k0_t3_loop v37).trips, ∀ (k0_h4 : k0_cond4 v37 k0_t3 = 1#1), ∀ a, (k0_off15 v37 k0_t3) a + S1x1x16x8x128.size a ≤ S2x8x16x8x128.size a) ∧
  (∀ k0_t3 : Fin (k0_t3_loop v37).trips, ∀ (k0_h4 : k0_cond4 v37 k0_t3 = 1#1), ∀ a, (k0_off17 v37 k0_t3) a + S1x1.size a ≤ S2x8.size a) ∧
  (∀ k0_t3 : Fin (k0_t3_loop v37).trips, ∀ (k0_h4 : k0_cond4 v37 k0_t3 = 1#1), ∀ a, (k0_off18 v37 k0_t3) a + S1x1x16x8x128.size a ≤ S2x8x16x8x128.size a) ∧
  (∀ k0_t3 : Fin (k0_t3_loop v37).trips, ∀ (k0_h4 : k0_cond4 v37 k0_t3 = 1#1), ∀ a, (k0_off19 v37 k0_t3) a + S1x1.size a ≤ S8x512.size a) ∧
  (∀ k0_t3 : Fin (k0_t3_loop v37).trips, ∀ (k0_h4 : k0_cond4 v37 k0_t3 = 1#1), ∀ a, (k0_off20 v37 k0_t3) a + S1x1.size a ≤ S2x8.size a) ∧
  (∀ k0_t3 : Fin (k0_t3_loop v37).trips, ∀ (k0_h4 : k0_cond4 v37 k0_t3 = 1#1), ∀ a, (k0_off21 v37 k0_t3) a + S1x1x16x8x128.size a ≤ S2x8x16x8x128.size a) ∧
  (∀ k0_t3 : Fin (k0_t3_loop v37).trips, ∀ (k0_h4 : k0_cond4 v37 k0_t3 = 1#1), ∀ a, (k0_off23 v37 k0_t3) a + S1x1.size a ≤ S2x8.size a) ∧
  (∀ k0_t3 : Fin (k0_t3_loop v37).trips, ∀ (k0_h4 : k0_cond4 v37 k0_t3 = 1#1), ∀ a, (k0_off24 v37 k0_t3) a + S1x1x16x8x128.size a ≤ S2x8x16x8x128.size a) ∧
  (∀ k0_t3 : Fin (k0_t3_loop v37).trips, ∀ (k0_h4 : k0_cond4 v37 k0_t3 = 1#1), ∀ a, (k0_off25 v37 k0_t3) a + S1x1.size a ≤ S8x512.size a) ∧
  (∀ k0_t3 : Fin (k0_t3_loop v37).trips, ∀ (k0_h4 : k0_cond4 v37 k0_t3 = 1#1), ∀ a, (k0_off26 v37 k0_t3) a + S1x1.size a ≤ S2x8.size a) ∧
  (∀ k0_t3 : Fin (k0_t3_loop v37).trips, ∀ (k0_h4 : k0_cond4 v37 k0_t3 = 1#1), ∀ a, (k0_off27 v37 k0_t3) a + S1x1x16x8x128.size a ≤ S2x8x16x8x128.size a) ∧
  (∀ k0_t3 : Fin (k0_t3_loop v37).trips, ∀ (k0_h4 : k0_cond4 v37 k0_t3 = 1#1), ∀ a, (k0_off29 v37 k0_t3) a + S1x1.size a ≤ S2x8.size a) ∧
  (∀ k0_t3 : Fin (k0_t3_loop v37).trips, ∀ (k0_h4 : k0_cond4 v37 k0_t3 = 1#1), ∀ a, (k0_off30 v37 k0_t3) a + S1x1x16x8x128.size a ≤ S2x8x16x8x128.size a) ∧
  (∀ k0_t3 : Fin (k0_t3_loop v37).trips, ∀ (k0_h4 : k0_cond4 v37 k0_t3 = 1#1), ∀ a, (k0_off31 v37 k0_t3) a + S1x1.size a ≤ S8x512.size a) ∧
  (∀ k0_t3 : Fin (k0_t3_loop v37).trips, ∀ (k0_h4 : k0_cond4 v37 k0_t3 = 1#1), ∀ a, (k0_off32 v37 k0_t3) a + S1x1.size a ≤ S2x8.size a) ∧
  (∀ k0_t3 : Fin (k0_t3_loop v37).trips, ∀ (k0_h4 : k0_cond4 v37 k0_t3 = 1#1), ∀ a, (k0_off33 v37 k0_t3) a + S1x1x16x8x128.size a ≤ S2x8x16x8x128.size a) ∧
  (∀ k0_t3 : Fin (k0_t3_loop v37).trips, ∀ (k0_h4 : k0_cond4 v37 k0_t3 = 1#1), ∀ a, (k0_off35 v37 k0_t3) a + S1x1.size a ≤ S2x8.size a) ∧
  (∀ k0_t3 : Fin (k0_t3_loop v37).trips, ∀ (k0_h4 : k0_cond4 v37 k0_t3 = 1#1), ∀ a, (k0_off36 v37 k0_t3) a + S1x1x16x8x128.size a ≤ S2x8x16x8x128.size a) ∧
  (∀ k0_t3 : Fin (k0_t3_loop v37).trips, ∀ (k0_h4 : k0_cond4 v37 k0_t3 = 1#1), ∀ a, (k0_off37 v37 k0_t3) a + S1x1.size a ≤ S8x512.size a) ∧
  (∀ k0_t3 : Fin (k0_t3_loop v37).trips, ∀ (k0_h4 : k0_cond4 v37 k0_t3 = 1#1), ∀ a, (k0_off38 v37 k0_t3) a + S1x1.size a ≤ S2x8.size a) ∧
  (∀ k0_t3 : Fin (k0_t3_loop v37).trips, ∀ (k0_h4 : k0_cond4 v37 k0_t3 = 1#1), ∀ a, (k0_off39 v37 k0_t3) a + S1x1x16x8x128.size a ≤ S2x8x16x8x128.size a) ∧
  (∀ k0_t3 : Fin (k0_t3_loop v37).trips, ∀ (k0_h4 : k0_cond4 v37 k0_t3 = 1#1), ∀ a, (k0_off41 v37 k0_t3) a + S1x1.size a ≤ S2x8.size a) ∧
  (∀ k0_t3 : Fin (k0_t3_loop v37).trips, ∀ (k0_h4 : k0_cond4 v37 k0_t3 = 1#1), ∀ a, (k0_off42 v37 k0_t3) a + S1x1x16x8x128.size a ≤ S2x8x16x8x128.size a) ∧
  (∀ k0_t3 : Fin (k0_t3_loop v37).trips, ∀ (k0_h4 : k0_cond4 v37 k0_t3 = 1#1), ∀ a, (k0_off43 v37 k0_t3) a + S1x1.size a ≤ S8x512.size a) ∧
  (∀ k0_t3 : Fin (k0_t3_loop v37).trips, ∀ (k0_h4 : k0_cond4 v37 k0_t3 = 1#1), ∀ a, (k0_off44 v37 k0_t3) a + S1x1.size a ≤ S2x8.size a) ∧
  (∀ k0_t3 : Fin (k0_t3_loop v37).trips, ∀ (k0_h4 : k0_cond4 v37 k0_t3 = 1#1), ∀ a, (k0_off45 v37 k0_t3) a + S1x1x16x8x128.size a ≤ S2x8x16x8x128.size a) ∧
  (∀ k0_t3 : Fin (k0_t3_loop v37).trips, ∀ (k0_h4 : k0_cond4 v37 k0_t3 = 1#1), ∀ a, (k0_off47 v37 k0_t3) a + S1x1.size a ≤ S2x8.size a) ∧
  (∀ k0_t3 : Fin (k0_t3_loop v37).trips, ∀ (k0_h4 : k0_cond4 v37 k0_t3 = 1#1), ∀ a, (k0_off48 v37 k0_t3) a + S1x1x16x8x128.size a ≤ S2x8x16x8x128.size a) ∧
  (∀ k0_t3 : Fin (k0_t3_loop v37).trips, ∀ (k0_h4 : k0_cond4 v37 k0_t3 = 1#1), ∀ a, (k0_off49 v37 k0_t3) a + S1x1.size a ≤ S8x512.size a)
def k0_chk12_1 (v37 : BitVec 32) : Prop :=
  (∀ k0_t3 : Fin (k0_t3_loop v37).trips, ∀ (k0_h4 : k0_cond4 v37 k0_t3 = 1#1), ∀ a, (k0_off50 v37 k0_t3) a + S1x1.size a ≤ S2x8.size a) ∧
  (∀ k0_t3 : Fin (k0_t3_loop v37).trips, ∀ (k0_h4 : k0_cond4 v37 k0_t3 = 1#1), ∀ a, (k0_off51 v37 k0_t3) a + S1x1x16x8x128.size a ≤ S2x8x16x8x128.size a) ∧
  (∀ k0_t3 : Fin (k0_t3_loop v37).trips, ∀ (k0_h4 : k0_cond4 v37 k0_t3 = 1#1), ∀ a, (k0_off53 v37 k0_t3) a + S1x1.size a ≤ S2x8.size a) ∧
  (∀ k0_t3 : Fin (k0_t3_loop v37).trips, ∀ (k0_h4 : k0_cond4 v37 k0_t3 = 1#1), ∀ a, (k0_off54 v37 k0_t3) a + S1x1x16x8x128.size a ≤ S2x8x16x8x128.size a) ∧
  (∀ k0_t3 : Fin (k0_t3_loop v37).trips, ∀ (k0_h4 : k0_cond4 v37 k0_t3 = 1#1), ∀ a, (k0_off55 v37 k0_t3) a + S1x1.size a ≤ S8x512.size a) ∧
  (∀ k0_t3 : Fin (k0_t3_loop v37).trips, ∀ (k0_h4 : k0_cond4 v37 k0_t3 = 1#1), ∀ a, (k0_off56 v37 k0_t3) a + S1x1.size a ≤ S2x8.size a) ∧
  (∀ k0_t3 : Fin (k0_t3_loop v37).trips, ∀ (k0_h4 : k0_cond4 v37 k0_t3 = 1#1), ∀ a, (k0_off57 v37 k0_t3) a + S1x1x16x8x128.size a ≤ S2x8x16x8x128.size a) ∧
  (∀ k0_t3 : Fin (k0_t3_loop v37).trips, ∀ (k0_h4 : k0_cond4 v37 k0_t3 = 1#1), ∀ a, (k0_off59 v37 k0_t3) a + S1x1.size a ≤ S2x8.size a) ∧
  (∀ k0_t3 : Fin (k0_t3_loop v37).trips, ∀ (k0_h4 : k0_cond4 v37 k0_t3 = 1#1), ∀ a, (k0_off60 v37 k0_t3) a + S1x1x16x8x128.size a ≤ S2x8x16x8x128.size a) ∧
  (∀ k0_t3 : Fin (k0_t3_loop v37).trips, ∀ a, (k0_off61 v37 k0_t3) a + S1x1.size a ≤ S2x8.size a) ∧
  (∀ k0_t3 : Fin (k0_t3_loop v37).trips, ∀ a, (k0_off62 v37 k0_t3) a + S1x1x16x8x128.size a ≤ S2x8x16x8x128.size a) ∧
  (∀ k0_t3 : Fin (k0_t3_loop v37).trips, ∀ a, (k0_off63 v37 k0_t3) a + S1x1.size a ≤ S2x8.size a) ∧
  (∀ k0_t3 : Fin (k0_t3_loop v37).trips, ∀ a, (k0_off64 v37 k0_t3) a + S1x1x16x8x128.size a ≤ S2x8x16x8x128.size a) ∧
  (∀ k0_t3 : Fin (k0_t3_loop v37).trips, ∀ a, (k0_off65 v37 k0_t3) a + S1x1.size a ≤ S2x8.size a) ∧
  (∀ k0_t3 : Fin (k0_t3_loop v37).trips, ∀ a, (k0_off66 v37 k0_t3) a + S1x1x16x8x128.size a ≤ S2x8x16x8x128.size a) ∧
  (∀ k0_t3 : Fin (k0_t3_loop v37).trips, ∀ a, (k0_off67 v37 k0_t3) a + S1x1.size a ≤ S2x8.size a) ∧
  (∀ k0_t3 : Fin (k0_t3_loop v37).trips, ∀ a, (k0_off68 v37 k0_t3) a + S1x1x16x8x128.size a ≤ S2x8x16x8x128.size a) ∧
  (∀ k0_t3 : Fin (k0_t3_loop v37).trips, ∀ a, (k0_off69 v37 k0_t3) a + S1x1.size a ≤ S2x8.size a) ∧
  (∀ k0_t3 : Fin (k0_t3_loop v37).trips, ∀ a, (k0_off70 v37 k0_t3) a + S1x1x16x8x128.size a ≤ S2x8x16x8x128.size a) ∧
  (∀ k0_t3 : Fin (k0_t3_loop v37).trips, ∀ a, (k0_off71 v37 k0_t3) a + S1x1.size a ≤ S2x8.size a) ∧
  (∀ k0_t3 : Fin (k0_t3_loop v37).trips, ∀ a, (k0_off72 v37 k0_t3) a + S1x1x16x8x128.size a ≤ S2x8x16x8x128.size a) ∧
  (∀ k0_t3 : Fin (k0_t3_loop v37).trips, ∀ a, (k0_off73 v37 k0_t3) a + S1x1.size a ≤ S2x8.size a) ∧
  (∀ k0_t3 : Fin (k0_t3_loop v37).trips, ∀ a, (k0_off74 v37 k0_t3) a + S1x1x16x8x128.size a ≤ S2x8x16x8x128.size a) ∧
  (∀ k0_t3 : Fin (k0_t3_loop v37).trips, ∀ a, (k0_off75 v37 k0_t3) a + S1x1.size a ≤ S2x8.size a) ∧
  (∀ k0_t3 : Fin (k0_t3_loop v37).trips, ∀ a, (k0_off76 v37 k0_t3) a + S1x1x16x8x128.size a ≤ S2x8x16x8x128.size a) ∧
  (∀ k0_t3 : Fin (k0_t3_loop v37).trips, ∀ a, (k0_off77 v37 k0_t3) a + S1x8x16x8x128.size a ≤ S2x8x16x8x128.size a) ∧
  ((k0_t4_loop v37).OK) ∧
  (∀ k0_t4 : Fin (k0_t4_loop v37).trips, ∀ (k0_h5 : k0_cond5 v37 k0_t4 = 1#1), ∀ a, (k0_off78 v37 k0_t4) a + S1x1.size a ≤ S8x512.size a) ∧
  (∀ k0_t4 : Fin (k0_t4_loop v37).trips, ∀ (k0_h5 : k0_cond5 v37 k0_t4 = 1#1), ∀ a, (k0_off79 v37 k0_t4) a + S1x1.size a ≤ S2x8.size a) ∧
  (∀ k0_t4 : Fin (k0_t4_loop v37).trips, ∀ (k0_h5 : k0_cond5 v37 k0_t4 = 1#1), ∀ a, (k0_off80 v37 k0_t4) a + S1x1x16x8x128.size a ≤ S2x8x16x8x128.size a) ∧
  (∀ k0_t4 : Fin (k0_t4_loop v37).trips, ∀ (k0_h5 : k0_cond5 v37 k0_t4 = 1#1), ∀ a, (k0_off82 v37 k0_t4) a + S1x1.size a ≤ S2x8.size a) ∧
  (∀ k0_t4 : Fin (k0_t4_loop v37).trips, ∀ (k0_h5 : k0_cond5 v37 k0_t4 = 1#1), ∀ a, (k0_off83 v37 k0_t4) a + S1x1x16x8x128.size a ≤ S2x8x16x8x128.size a)
def k0_chk12_2 (v37 : BitVec 32) : Prop :=
  (∀ k0_t4 : Fin (k0_t4_loop v37).trips, ∀ (k0_h5 : k0_cond5 v37 k0_t4 = 1#1), ∀ a, (k0_off84 v37 k0_t4) a + S1x1.size a ≤ S8x512.size a) ∧
  (∀ k0_t4 : Fin (k0_t4_loop v37).trips, ∀ (k0_h5 : k0_cond5 v37 k0_t4 = 1#1), ∀ a, (k0_off85 v37 k0_t4) a + S1x1.size a ≤ S2x8.size a) ∧
  (∀ k0_t4 : Fin (k0_t4_loop v37).trips, ∀ (k0_h5 : k0_cond5 v37 k0_t4 = 1#1), ∀ a, (k0_off86 v37 k0_t4) a + S1x1x16x8x128.size a ≤ S2x8x16x8x128.size a) ∧
  (∀ k0_t4 : Fin (k0_t4_loop v37).trips, ∀ (k0_h5 : k0_cond5 v37 k0_t4 = 1#1), ∀ a, (k0_off88 v37 k0_t4) a + S1x1.size a ≤ S2x8.size a) ∧
  (∀ k0_t4 : Fin (k0_t4_loop v37).trips, ∀ (k0_h5 : k0_cond5 v37 k0_t4 = 1#1), ∀ a, (k0_off89 v37 k0_t4) a + S1x1x16x8x128.size a ≤ S2x8x16x8x128.size a) ∧
  (∀ k0_t4 : Fin (k0_t4_loop v37).trips, ∀ (k0_h5 : k0_cond5 v37 k0_t4 = 1#1), ∀ a, (k0_off90 v37 k0_t4) a + S1x1.size a ≤ S8x512.size a) ∧
  (∀ k0_t4 : Fin (k0_t4_loop v37).trips, ∀ (k0_h5 : k0_cond5 v37 k0_t4 = 1#1), ∀ a, (k0_off91 v37 k0_t4) a + S1x1.size a ≤ S2x8.size a) ∧
  (∀ k0_t4 : Fin (k0_t4_loop v37).trips, ∀ (k0_h5 : k0_cond5 v37 k0_t4 = 1#1), ∀ a, (k0_off92 v37 k0_t4) a + S1x1x16x8x128.size a ≤ S2x8x16x8x128.size a) ∧
  (∀ k0_t4 : Fin (k0_t4_loop v37).trips, ∀ (k0_h5 : k0_cond5 v37 k0_t4 = 1#1), ∀ a, (k0_off94 v37 k0_t4) a + S1x1.size a ≤ S2x8.size a) ∧
  (∀ k0_t4 : Fin (k0_t4_loop v37).trips, ∀ (k0_h5 : k0_cond5 v37 k0_t4 = 1#1), ∀ a, (k0_off95 v37 k0_t4) a + S1x1x16x8x128.size a ≤ S2x8x16x8x128.size a) ∧
  (∀ k0_t4 : Fin (k0_t4_loop v37).trips, ∀ (k0_h5 : k0_cond5 v37 k0_t4 = 1#1), ∀ a, (k0_off96 v37 k0_t4) a + S1x1.size a ≤ S8x512.size a) ∧
  (∀ k0_t4 : Fin (k0_t4_loop v37).trips, ∀ (k0_h5 : k0_cond5 v37 k0_t4 = 1#1), ∀ a, (k0_off97 v37 k0_t4) a + S1x1.size a ≤ S2x8.size a) ∧
  (∀ k0_t4 : Fin (k0_t4_loop v37).trips, ∀ (k0_h5 : k0_cond5 v37 k0_t4 = 1#1), ∀ a, (k0_off98 v37 k0_t4) a + S1x1x16x8x128.size a ≤ S2x8x16x8x128.size a) ∧
  (∀ k0_t4 : Fin (k0_t4_loop v37).trips, ∀ (k0_h5 : k0_cond5 v37 k0_t4 = 1#1), ∀ a, (k0_off100 v37 k0_t4) a + S1x1.size a ≤ S2x8.size a) ∧
  (∀ k0_t4 : Fin (k0_t4_loop v37).trips, ∀ (k0_h5 : k0_cond5 v37 k0_t4 = 1#1), ∀ a, (k0_off101 v37 k0_t4) a + S1x1x16x8x128.size a ≤ S2x8x16x8x128.size a) ∧
  (∀ k0_t4 : Fin (k0_t4_loop v37).trips, ∀ (k0_h5 : k0_cond5 v37 k0_t4 = 1#1), ∀ a, (k0_off102 v37 k0_t4) a + S1x1.size a ≤ S8x512.size a) ∧
  (∀ k0_t4 : Fin (k0_t4_loop v37).trips, ∀ (k0_h5 : k0_cond5 v37 k0_t4 = 1#1), ∀ a, (k0_off103 v37 k0_t4) a + S1x1.size a ≤ S2x8.size a) ∧
  (∀ k0_t4 : Fin (k0_t4_loop v37).trips, ∀ (k0_h5 : k0_cond5 v37 k0_t4 = 1#1), ∀ a, (k0_off104 v37 k0_t4) a + S1x1x16x8x128.size a ≤ S2x8x16x8x128.size a) ∧
  (∀ k0_t4 : Fin (k0_t4_loop v37).trips, ∀ (k0_h5 : k0_cond5 v37 k0_t4 = 1#1), ∀ a, (k0_off106 v37 k0_t4) a + S1x1.size a ≤ S2x8.size a) ∧
  (∀ k0_t4 : Fin (k0_t4_loop v37).trips, ∀ (k0_h5 : k0_cond5 v37 k0_t4 = 1#1), ∀ a, (k0_off107 v37 k0_t4) a + S1x1x16x8x128.size a ≤ S2x8x16x8x128.size a) ∧
  (∀ k0_t4 : Fin (k0_t4_loop v37).trips, ∀ (k0_h5 : k0_cond5 v37 k0_t4 = 1#1), ∀ a, (k0_off108 v37 k0_t4) a + S1x1.size a ≤ S8x512.size a) ∧
  (∀ k0_t4 : Fin (k0_t4_loop v37).trips, ∀ (k0_h5 : k0_cond5 v37 k0_t4 = 1#1), ∀ a, (k0_off109 v37 k0_t4) a + S1x1.size a ≤ S2x8.size a) ∧
  (∀ k0_t4 : Fin (k0_t4_loop v37).trips, ∀ (k0_h5 : k0_cond5 v37 k0_t4 = 1#1), ∀ a, (k0_off110 v37 k0_t4) a + S1x1x16x8x128.size a ≤ S2x8x16x8x128.size a) ∧
  (∀ k0_t4 : Fin (k0_t4_loop v37).trips, ∀ (k0_h5 : k0_cond5 v37 k0_t4 = 1#1), ∀ a, (k0_off112 v37 k0_t4) a + S1x1.size a ≤ S2x8.size a) ∧
  (∀ k0_t4 : Fin (k0_t4_loop v37).trips, ∀ (k0_h5 : k0_cond5 v37 k0_t4 = 1#1), ∀ a, (k0_off113 v37 k0_t4) a + S1x1x16x8x128.size a ≤ S2x8x16x8x128.size a) ∧
  (∀ k0_t4 : Fin (k0_t4_loop v37).trips, ∀ (k0_h5 : k0_cond5 v37 k0_t4 = 1#1), ∀ a, (k0_off114 v37 k0_t4) a + S1x1.size a ≤ S8x512.size a) ∧
  (∀ k0_t4 : Fin (k0_t4_loop v37).trips, ∀ (k0_h5 : k0_cond5 v37 k0_t4 = 1#1), ∀ a, (k0_off115 v37 k0_t4) a + S1x1.size a ≤ S2x8.size a) ∧
  (∀ k0_t4 : Fin (k0_t4_loop v37).trips, ∀ (k0_h5 : k0_cond5 v37 k0_t4 = 1#1), ∀ a, (k0_off116 v37 k0_t4) a + S1x1x16x8x128.size a ≤ S2x8x16x8x128.size a) ∧
  (∀ k0_t4 : Fin (k0_t4_loop v37).trips, ∀ (k0_h5 : k0_cond5 v37 k0_t4 = 1#1), ∀ a, (k0_off118 v37 k0_t4) a + S1x1.size a ≤ S2x8.size a) ∧
  (∀ k0_t4 : Fin (k0_t4_loop v37).trips, ∀ (k0_h5 : k0_cond5 v37 k0_t4 = 1#1), ∀ a, (k0_off119 v37 k0_t4) a + S1x1x16x8x128.size a ≤ S2x8x16x8x128.size a) ∧
  (∀ k0_t4 : Fin (k0_t4_loop v37).trips, ∀ (k0_h5 : k0_cond5 v37 k0_t4 = 1#1), ∀ a, (k0_off120 v37 k0_t4) a + S1x1.size a ≤ S8x512.size a) ∧
  (∀ k0_t4 : Fin (k0_t4_loop v37).trips, ∀ (k0_h5 : k0_cond5 v37 k0_t4 = 1#1), ∀ a, (k0_off121 v37 k0_t4) a + S1x1.size a ≤ S2x8.size a)
def k0_chk12_3 (v37 : BitVec 32) : Prop :=
  (∀ k0_t4 : Fin (k0_t4_loop v37).trips, ∀ (k0_h5 : k0_cond5 v37 k0_t4 = 1#1), ∀ a, (k0_off122 v37 k0_t4) a + S1x1x16x8x128.size a ≤ S2x8x16x8x128.size a) ∧
  (∀ k0_t4 : Fin (k0_t4_loop v37).trips, ∀ (k0_h5 : k0_cond5 v37 k0_t4 = 1#1), ∀ a, (k0_off124 v37 k0_t4) a + S1x1.size a ≤ S2x8.size a) ∧
  (∀ k0_t4 : Fin (k0_t4_loop v37).trips, ∀ (k0_h5 : k0_cond5 v37 k0_t4 = 1#1), ∀ a, (k0_off125 v37 k0_t4) a + S1x1x16x8x128.size a ≤ S2x8x16x8x128.size a) ∧
  (∀ k0_t4 : Fin (k0_t4_loop v37).trips, ∀ a, (k0_off126 v37 k0_t4) a + S1x1.size a ≤ S2x8.size a) ∧
  (∀ k0_t4 : Fin (k0_t4_loop v37).trips, ∀ a, (k0_off127 v37 k0_t4) a + S1x1x16x8x128.size a ≤ S2x8x16x8x128.size a) ∧
  (∀ k0_t4 : Fin (k0_t4_loop v37).trips, ∀ a, (k0_off128 v37 k0_t4) a + S1x1.size a ≤ S2x8.size a) ∧
  (∀ k0_t4 : Fin (k0_t4_loop v37).trips, ∀ a, (k0_off129 v37 k0_t4) a + S1x1x16x8x128.size a ≤ S2x8x16x8x128.size a) ∧
  (∀ k0_t4 : Fin (k0_t4_loop v37).trips, ∀ a, (k0_off130 v37 k0_t4) a + S1x1.size a ≤ S2x8.size a) ∧
  (∀ k0_t4 : Fin (k0_t4_loop v37).trips, ∀ a, (k0_off131 v37 k0_t4) a + S1x1x16x8x128.size a ≤ S2x8x16x8x128.size a) ∧
  (∀ k0_t4 : Fin (k0_t4_loop v37).trips, ∀ a, (k0_off132 v37 k0_t4) a + S1x1.size a ≤ S2x8.size a) ∧
  (∀ k0_t4 : Fin (k0_t4_loop v37).trips, ∀ a, (k0_off133 v37 k0_t4) a + S1x1x16x8x128.size a ≤ S2x8x16x8x128.size a) ∧
  (∀ k0_t4 : Fin (k0_t4_loop v37).trips, ∀ a, (k0_off134 v37 k0_t4) a + S1x1.size a ≤ S2x8.size a) ∧
  (∀ k0_t4 : Fin (k0_t4_loop v37).trips, ∀ a, (k0_off135 v37 k0_t4) a + S1x1x16x8x128.size a ≤ S2x8x16x8x128.size a) ∧
  (∀ k0_t4 : Fin (k0_t4_loop v37).trips, ∀ a, (k0_off136 v37 k0_t4) a + S1x1.size a ≤ S2x8.size a) ∧
  (∀ k0_t4 : Fin (k0_t4_loop v37).trips, ∀ a, (k0_off137 v37 k0_t4) a + S1x1x16x8x128.size a ≤ S2x8x16x8x128.size a) ∧
  (∀ k0_t4 : Fin (k0_t4_loop v37).trips, ∀ a, (k0_off138 v37 k0_t4) a + S1x1.size a ≤ S2x8.size a) ∧
  (∀ k0_t4 : Fin (k0_t4_loop v37).trips, ∀ a, (k0_off139 v37 k0_t4) a + S1x1x16x8x128.size a ≤ S2x8x16x8x128.size a) ∧
  (∀ k0_t4 : Fin (k0_t4_loop v37).trips, ∀ a, (k0_off140 v37 k0_t4) a + S1x1.size a ≤ S2x8.size a) ∧
  (∀ k0_t4 : Fin (k0_t4_loop v37).trips, ∀ a, (k0_off141 v37 k0_t4) a + S1x1x16x8x128.size a ≤ S2x8x16x8x128.size a) ∧
  (∀ k0_t4 : Fin (k0_t4_loop v37).trips, ∀ a, (k0_off142 v37 k0_t4) a + S1x8x16x8x128.size a ≤ S2x8x16x8x128.size a)
def k0_chk12 (v37 : BitVec 32) : Prop :=
  k0_chk12_0 v37 ∧
  k0_chk12_1 v37 ∧
  k0_chk12_2 v37 ∧
  k0_chk12_3 v37
theorem k0_t3_ok : ∀ (v37 : BitVec 32) (k0_hw12 : k0_chk12 v37), (k0_t3_loop v37).OK := fun v37 k0_hw12 => k0_hw12.1.1
theorem k0_off13_inb : ∀ (v37 : BitVec 32) (k0_hw12 : k0_chk12 v37) (k0_t3 : Fin (k0_t3_loop v37).trips), ∀ (k0_h4 : k0_cond4 v37 k0_t3 = 1#1), ∀ a, (k0_off13 v37 k0_t3) a + S1x1.size a ≤ S8x512.size a := fun v37 k0_hw12 k0_t3 k0_h4 => k0_hw12.1.2.1 k0_t3 k0_h4
theorem k0_off14_inb : ∀ (v37 : BitVec 32) (k0_hw12 : k0_chk12 v37) (k0_t3 : Fin (k0_t3_loop v37).trips), ∀ (k0_h4 : k0_cond4 v37 k0_t3 = 1#1), ∀ a, (k0_off14 v37 k0_t3) a + S1x1.size a ≤ S2x8.size a := fun v37 k0_hw12 k0_t3 k0_h4 => k0_hw12.1.2.2.1 k0_t3 k0_h4
theorem k0_off15_inb : ∀ (v37 : BitVec 32) (k0_hw12 : k0_chk12 v37) (k0_t3 : Fin (k0_t3_loop v37).trips), ∀ (k0_h4 : k0_cond4 v37 k0_t3 = 1#1), ∀ a, (k0_off15 v37 k0_t3) a + S1x1x16x8x128.size a ≤ S2x8x16x8x128.size a := fun v37 k0_hw12 k0_t3 k0_h4 => k0_hw12.1.2.2.2.1 k0_t3 k0_h4
theorem k0_off17_inb : ∀ (v37 : BitVec 32) (k0_hw12 : k0_chk12 v37) (k0_t3 : Fin (k0_t3_loop v37).trips), ∀ (k0_h4 : k0_cond4 v37 k0_t3 = 1#1), ∀ a, (k0_off17 v37 k0_t3) a + S1x1.size a ≤ S2x8.size a := fun v37 k0_hw12 k0_t3 k0_h4 => k0_hw12.1.2.2.2.2.1 k0_t3 k0_h4
theorem k0_off18_inb : ∀ (v37 : BitVec 32) (k0_hw12 : k0_chk12 v37) (k0_t3 : Fin (k0_t3_loop v37).trips), ∀ (k0_h4 : k0_cond4 v37 k0_t3 = 1#1), ∀ a, (k0_off18 v37 k0_t3) a + S1x1x16x8x128.size a ≤ S2x8x16x8x128.size a := fun v37 k0_hw12 k0_t3 k0_h4 => k0_hw12.1.2.2.2.2.2.1 k0_t3 k0_h4
theorem k0_off19_inb : ∀ (v37 : BitVec 32) (k0_hw12 : k0_chk12 v37) (k0_t3 : Fin (k0_t3_loop v37).trips), ∀ (k0_h4 : k0_cond4 v37 k0_t3 = 1#1), ∀ a, (k0_off19 v37 k0_t3) a + S1x1.size a ≤ S8x512.size a := fun v37 k0_hw12 k0_t3 k0_h4 => k0_hw12.1.2.2.2.2.2.2.1 k0_t3 k0_h4
theorem k0_off20_inb : ∀ (v37 : BitVec 32) (k0_hw12 : k0_chk12 v37) (k0_t3 : Fin (k0_t3_loop v37).trips), ∀ (k0_h4 : k0_cond4 v37 k0_t3 = 1#1), ∀ a, (k0_off20 v37 k0_t3) a + S1x1.size a ≤ S2x8.size a := fun v37 k0_hw12 k0_t3 k0_h4 => k0_hw12.1.2.2.2.2.2.2.2.1 k0_t3 k0_h4
theorem k0_off21_inb : ∀ (v37 : BitVec 32) (k0_hw12 : k0_chk12 v37) (k0_t3 : Fin (k0_t3_loop v37).trips), ∀ (k0_h4 : k0_cond4 v37 k0_t3 = 1#1), ∀ a, (k0_off21 v37 k0_t3) a + S1x1x16x8x128.size a ≤ S2x8x16x8x128.size a := fun v37 k0_hw12 k0_t3 k0_h4 => k0_hw12.1.2.2.2.2.2.2.2.2.1 k0_t3 k0_h4
theorem k0_off23_inb : ∀ (v37 : BitVec 32) (k0_hw12 : k0_chk12 v37) (k0_t3 : Fin (k0_t3_loop v37).trips), ∀ (k0_h4 : k0_cond4 v37 k0_t3 = 1#1), ∀ a, (k0_off23 v37 k0_t3) a + S1x1.size a ≤ S2x8.size a := fun v37 k0_hw12 k0_t3 k0_h4 => k0_hw12.1.2.2.2.2.2.2.2.2.2.1 k0_t3 k0_h4
theorem k0_off24_inb : ∀ (v37 : BitVec 32) (k0_hw12 : k0_chk12 v37) (k0_t3 : Fin (k0_t3_loop v37).trips), ∀ (k0_h4 : k0_cond4 v37 k0_t3 = 1#1), ∀ a, (k0_off24 v37 k0_t3) a + S1x1x16x8x128.size a ≤ S2x8x16x8x128.size a := fun v37 k0_hw12 k0_t3 k0_h4 => k0_hw12.1.2.2.2.2.2.2.2.2.2.2.1 k0_t3 k0_h4
theorem k0_off25_inb : ∀ (v37 : BitVec 32) (k0_hw12 : k0_chk12 v37) (k0_t3 : Fin (k0_t3_loop v37).trips), ∀ (k0_h4 : k0_cond4 v37 k0_t3 = 1#1), ∀ a, (k0_off25 v37 k0_t3) a + S1x1.size a ≤ S8x512.size a := fun v37 k0_hw12 k0_t3 k0_h4 => k0_hw12.1.2.2.2.2.2.2.2.2.2.2.2.1 k0_t3 k0_h4
theorem k0_off26_inb : ∀ (v37 : BitVec 32) (k0_hw12 : k0_chk12 v37) (k0_t3 : Fin (k0_t3_loop v37).trips), ∀ (k0_h4 : k0_cond4 v37 k0_t3 = 1#1), ∀ a, (k0_off26 v37 k0_t3) a + S1x1.size a ≤ S2x8.size a := fun v37 k0_hw12 k0_t3 k0_h4 => k0_hw12.1.2.2.2.2.2.2.2.2.2.2.2.2.1 k0_t3 k0_h4
theorem k0_off27_inb : ∀ (v37 : BitVec 32) (k0_hw12 : k0_chk12 v37) (k0_t3 : Fin (k0_t3_loop v37).trips), ∀ (k0_h4 : k0_cond4 v37 k0_t3 = 1#1), ∀ a, (k0_off27 v37 k0_t3) a + S1x1x16x8x128.size a ≤ S2x8x16x8x128.size a := fun v37 k0_hw12 k0_t3 k0_h4 => k0_hw12.1.2.2.2.2.2.2.2.2.2.2.2.2.2.1 k0_t3 k0_h4
theorem k0_off29_inb : ∀ (v37 : BitVec 32) (k0_hw12 : k0_chk12 v37) (k0_t3 : Fin (k0_t3_loop v37).trips), ∀ (k0_h4 : k0_cond4 v37 k0_t3 = 1#1), ∀ a, (k0_off29 v37 k0_t3) a + S1x1.size a ≤ S2x8.size a := fun v37 k0_hw12 k0_t3 k0_h4 => k0_hw12.1.2.2.2.2.2.2.2.2.2.2.2.2.2.2.1 k0_t3 k0_h4
theorem k0_off30_inb : ∀ (v37 : BitVec 32) (k0_hw12 : k0_chk12 v37) (k0_t3 : Fin (k0_t3_loop v37).trips), ∀ (k0_h4 : k0_cond4 v37 k0_t3 = 1#1), ∀ a, (k0_off30 v37 k0_t3) a + S1x1x16x8x128.size a ≤ S2x8x16x8x128.size a := fun v37 k0_hw12 k0_t3 k0_h4 => k0_hw12.1.2.2.2.2.2.2.2.2.2.2.2.2.2.2.2.1 k0_t3 k0_h4
theorem k0_off31_inb : ∀ (v37 : BitVec 32) (k0_hw12 : k0_chk12 v37) (k0_t3 : Fin (k0_t3_loop v37).trips), ∀ (k0_h4 : k0_cond4 v37 k0_t3 = 1#1), ∀ a, (k0_off31 v37 k0_t3) a + S1x1.size a ≤ S8x512.size a := fun v37 k0_hw12 k0_t3 k0_h4 => k0_hw12.1.2.2.2.2.2.2.2.2.2.2.2.2.2.2.2.2.1 k0_t3 k0_h4
theorem k0_off32_inb : ∀ (v37 : BitVec 32) (k0_hw12 : k0_chk12 v37) (k0_t3 : Fin (k0_t3_loop v37).trips), ∀ (k0_h4 : k0_cond4 v37 k0_t3 = 1#1), ∀ a, (k0_off32 v37 k0_t3) a + S1x1.size a ≤ S2x8.size a := fun v37 k0_hw12 k0_t3 k0_h4 => k0_hw12.1.2.2.2.2.2.2.2.2.2.2.2.2.2.2.2.2.2.1 k0_t3 k0_h4
theorem k0_off33_inb : ∀ (v37 : BitVec 32) (k0_hw12 : k0_chk12 v37) (k0_t3 : Fin (k0_t3_loop v37).trips), ∀ (k0_h4 : k0_cond4 v37 k0_t3 = 1#1), ∀ a, (k0_off33 v37 k0_t3) a + S1x1x16x8x128.size a ≤ S2x8x16x8x128.size a := fun v37 k0_hw12 k0_t3 k0_h4 => k0_hw12.1.2.2.2.2.2.2.2.2.2.2.2.2.2.2.2.2.2.2.1 k0_t3 k0_h4
theorem k0_off35_inb : ∀ (v37 : BitVec 32) (k0_hw12 : k0_chk12 v37) (k0_t3 : Fin (k0_t3_loop v37).trips), ∀ (k0_h4 : k0_cond4 v37 k0_t3 = 1#1), ∀ a, (k0_off35 v37 k0_t3) a + S1x1.size a ≤ S2x8.size a := fun v37 k0_hw12 k0_t3 k0_h4 => k0_hw12.1.2.2.2.2.2.2.2.2.2.2.2.2.2.2.2.2.2.2.2.1 k0_t3 k0_h4
theorem k0_off36_inb : ∀ (v37 : BitVec 32) (k0_hw12 : k0_chk12 v37) (k0_t3 : Fin (k0_t3_loop v37).trips), ∀ (k0_h4 : k0_cond4 v37 k0_t3 = 1#1), ∀ a, (k0_off36 v37 k0_t3) a + S1x1x16x8x128.size a ≤ S2x8x16x8x128.size a := fun v37 k0_hw12 k0_t3 k0_h4 => k0_hw12.1.2.2.2.2.2.2.2.2.2.2.2.2.2.2.2.2.2.2.2.2.1 k0_t3 k0_h4
theorem k0_off37_inb : ∀ (v37 : BitVec 32) (k0_hw12 : k0_chk12 v37) (k0_t3 : Fin (k0_t3_loop v37).trips), ∀ (k0_h4 : k0_cond4 v37 k0_t3 = 1#1), ∀ a, (k0_off37 v37 k0_t3) a + S1x1.size a ≤ S8x512.size a := fun v37 k0_hw12 k0_t3 k0_h4 => k0_hw12.1.2.2.2.2.2.2.2.2.2.2.2.2.2.2.2.2.2.2.2.2.2.1 k0_t3 k0_h4
theorem k0_off38_inb : ∀ (v37 : BitVec 32) (k0_hw12 : k0_chk12 v37) (k0_t3 : Fin (k0_t3_loop v37).trips), ∀ (k0_h4 : k0_cond4 v37 k0_t3 = 1#1), ∀ a, (k0_off38 v37 k0_t3) a + S1x1.size a ≤ S2x8.size a := fun v37 k0_hw12 k0_t3 k0_h4 => k0_hw12.1.2.2.2.2.2.2.2.2.2.2.2.2.2.2.2.2.2.2.2.2.2.2.1 k0_t3 k0_h4
theorem k0_off39_inb : ∀ (v37 : BitVec 32) (k0_hw12 : k0_chk12 v37) (k0_t3 : Fin (k0_t3_loop v37).trips), ∀ (k0_h4 : k0_cond4 v37 k0_t3 = 1#1), ∀ a, (k0_off39 v37 k0_t3) a + S1x1x16x8x128.size a ≤ S2x8x16x8x128.size a := fun v37 k0_hw12 k0_t3 k0_h4 => k0_hw12.1.2.2.2.2.2.2.2.2.2.2.2.2.2.2.2.2.2.2.2.2.2.2.2.1 k0_t3 k0_h4
theorem k0_off41_inb : ∀ (v37 : BitVec 32) (k0_hw12 : k0_chk12 v37) (k0_t3 : Fin (k0_t3_loop v37).trips), ∀ (k0_h4 : k0_cond4 v37 k0_t3 = 1#1), ∀ a, (k0_off41 v37 k0_t3) a + S1x1.size a ≤ S2x8.size a := fun v37 k0_hw12 k0_t3 k0_h4 => k0_hw12.1.2.2.2.2.2.2.2.2.2.2.2.2.2.2.2.2.2.2.2.2.2.2.2.2.1 k0_t3 k0_h4
theorem k0_off42_inb : ∀ (v37 : BitVec 32) (k0_hw12 : k0_chk12 v37) (k0_t3 : Fin (k0_t3_loop v37).trips), ∀ (k0_h4 : k0_cond4 v37 k0_t3 = 1#1), ∀ a, (k0_off42 v37 k0_t3) a + S1x1x16x8x128.size a ≤ S2x8x16x8x128.size a := fun v37 k0_hw12 k0_t3 k0_h4 => k0_hw12.1.2.2.2.2.2.2.2.2.2.2.2.2.2.2.2.2.2.2.2.2.2.2.2.2.2.1 k0_t3 k0_h4
theorem k0_off43_inb : ∀ (v37 : BitVec 32) (k0_hw12 : k0_chk12 v37) (k0_t3 : Fin (k0_t3_loop v37).trips), ∀ (k0_h4 : k0_cond4 v37 k0_t3 = 1#1), ∀ a, (k0_off43 v37 k0_t3) a + S1x1.size a ≤ S8x512.size a := fun v37 k0_hw12 k0_t3 k0_h4 => k0_hw12.1.2.2.2.2.2.2.2.2.2.2.2.2.2.2.2.2.2.2.2.2.2.2.2.2.2.2.1 k0_t3 k0_h4
theorem k0_off44_inb : ∀ (v37 : BitVec 32) (k0_hw12 : k0_chk12 v37) (k0_t3 : Fin (k0_t3_loop v37).trips), ∀ (k0_h4 : k0_cond4 v37 k0_t3 = 1#1), ∀ a, (k0_off44 v37 k0_t3) a + S1x1.size a ≤ S2x8.size a := fun v37 k0_hw12 k0_t3 k0_h4 => k0_hw12.1.2.2.2.2.2.2.2.2.2.2.2.2.2.2.2.2.2.2.2.2.2.2.2.2.2.2.2.1 k0_t3 k0_h4
theorem k0_off45_inb : ∀ (v37 : BitVec 32) (k0_hw12 : k0_chk12 v37) (k0_t3 : Fin (k0_t3_loop v37).trips), ∀ (k0_h4 : k0_cond4 v37 k0_t3 = 1#1), ∀ a, (k0_off45 v37 k0_t3) a + S1x1x16x8x128.size a ≤ S2x8x16x8x128.size a := fun v37 k0_hw12 k0_t3 k0_h4 => k0_hw12.1.2.2.2.2.2.2.2.2.2.2.2.2.2.2.2.2.2.2.2.2.2.2.2.2.2.2.2.2.1 k0_t3 k0_h4
theorem k0_off47_inb : ∀ (v37 : BitVec 32) (k0_hw12 : k0_chk12 v37) (k0_t3 : Fin (k0_t3_loop v37).trips), ∀ (k0_h4 : k0_cond4 v37 k0_t3 = 1#1), ∀ a, (k0_off47 v37 k0_t3) a + S1x1.size a ≤ S2x8.size a := fun v37 k0_hw12 k0_t3 k0_h4 => k0_hw12.1.2.2.2.2.2.2.2.2.2.2.2.2.2.2.2.2.2.2.2.2.2.2.2.2.2.2.2.2.2.1 k0_t3 k0_h4
theorem k0_off48_inb : ∀ (v37 : BitVec 32) (k0_hw12 : k0_chk12 v37) (k0_t3 : Fin (k0_t3_loop v37).trips), ∀ (k0_h4 : k0_cond4 v37 k0_t3 = 1#1), ∀ a, (k0_off48 v37 k0_t3) a + S1x1x16x8x128.size a ≤ S2x8x16x8x128.size a := fun v37 k0_hw12 k0_t3 k0_h4 => k0_hw12.1.2.2.2.2.2.2.2.2.2.2.2.2.2.2.2.2.2.2.2.2.2.2.2.2.2.2.2.2.2.2.1 k0_t3 k0_h4
theorem k0_off49_inb : ∀ (v37 : BitVec 32) (k0_hw12 : k0_chk12 v37) (k0_t3 : Fin (k0_t3_loop v37).trips), ∀ (k0_h4 : k0_cond4 v37 k0_t3 = 1#1), ∀ a, (k0_off49 v37 k0_t3) a + S1x1.size a ≤ S8x512.size a := fun v37 k0_hw12 k0_t3 k0_h4 => k0_hw12.1.2.2.2.2.2.2.2.2.2.2.2.2.2.2.2.2.2.2.2.2.2.2.2.2.2.2.2.2.2.2.2 k0_t3 k0_h4
theorem k0_off50_inb : ∀ (v37 : BitVec 32) (k0_hw12 : k0_chk12 v37) (k0_t3 : Fin (k0_t3_loop v37).trips), ∀ (k0_h4 : k0_cond4 v37 k0_t3 = 1#1), ∀ a, (k0_off50 v37 k0_t3) a + S1x1.size a ≤ S2x8.size a := fun v37 k0_hw12 k0_t3 k0_h4 => k0_hw12.2.1.1 k0_t3 k0_h4
theorem k0_off51_inb : ∀ (v37 : BitVec 32) (k0_hw12 : k0_chk12 v37) (k0_t3 : Fin (k0_t3_loop v37).trips), ∀ (k0_h4 : k0_cond4 v37 k0_t3 = 1#1), ∀ a, (k0_off51 v37 k0_t3) a + S1x1x16x8x128.size a ≤ S2x8x16x8x128.size a := fun v37 k0_hw12 k0_t3 k0_h4 => k0_hw12.2.1.2.1 k0_t3 k0_h4
theorem k0_off53_inb : ∀ (v37 : BitVec 32) (k0_hw12 : k0_chk12 v37) (k0_t3 : Fin (k0_t3_loop v37).trips), ∀ (k0_h4 : k0_cond4 v37 k0_t3 = 1#1), ∀ a, (k0_off53 v37 k0_t3) a + S1x1.size a ≤ S2x8.size a := fun v37 k0_hw12 k0_t3 k0_h4 => k0_hw12.2.1.2.2.1 k0_t3 k0_h4
theorem k0_off54_inb : ∀ (v37 : BitVec 32) (k0_hw12 : k0_chk12 v37) (k0_t3 : Fin (k0_t3_loop v37).trips), ∀ (k0_h4 : k0_cond4 v37 k0_t3 = 1#1), ∀ a, (k0_off54 v37 k0_t3) a + S1x1x16x8x128.size a ≤ S2x8x16x8x128.size a := fun v37 k0_hw12 k0_t3 k0_h4 => k0_hw12.2.1.2.2.2.1 k0_t3 k0_h4
theorem k0_off55_inb : ∀ (v37 : BitVec 32) (k0_hw12 : k0_chk12 v37) (k0_t3 : Fin (k0_t3_loop v37).trips), ∀ (k0_h4 : k0_cond4 v37 k0_t3 = 1#1), ∀ a, (k0_off55 v37 k0_t3) a + S1x1.size a ≤ S8x512.size a := fun v37 k0_hw12 k0_t3 k0_h4 => k0_hw12.2.1.2.2.2.2.1 k0_t3 k0_h4
theorem k0_off56_inb : ∀ (v37 : BitVec 32) (k0_hw12 : k0_chk12 v37) (k0_t3 : Fin (k0_t3_loop v37).trips), ∀ (k0_h4 : k0_cond4 v37 k0_t3 = 1#1), ∀ a, (k0_off56 v37 k0_t3) a + S1x1.size a ≤ S2x8.size a := fun v37 k0_hw12 k0_t3 k0_h4 => k0_hw12.2.1.2.2.2.2.2.1 k0_t3 k0_h4
theorem k0_off57_inb : ∀ (v37 : BitVec 32) (k0_hw12 : k0_chk12 v37) (k0_t3 : Fin (k0_t3_loop v37).trips), ∀ (k0_h4 : k0_cond4 v37 k0_t3 = 1#1), ∀ a, (k0_off57 v37 k0_t3) a + S1x1x16x8x128.size a ≤ S2x8x16x8x128.size a := fun v37 k0_hw12 k0_t3 k0_h4 => k0_hw12.2.1.2.2.2.2.2.2.1 k0_t3 k0_h4
theorem k0_off59_inb : ∀ (v37 : BitVec 32) (k0_hw12 : k0_chk12 v37) (k0_t3 : Fin (k0_t3_loop v37).trips), ∀ (k0_h4 : k0_cond4 v37 k0_t3 = 1#1), ∀ a, (k0_off59 v37 k0_t3) a + S1x1.size a ≤ S2x8.size a := fun v37 k0_hw12 k0_t3 k0_h4 => k0_hw12.2.1.2.2.2.2.2.2.2.1 k0_t3 k0_h4
theorem k0_off60_inb : ∀ (v37 : BitVec 32) (k0_hw12 : k0_chk12 v37) (k0_t3 : Fin (k0_t3_loop v37).trips), ∀ (k0_h4 : k0_cond4 v37 k0_t3 = 1#1), ∀ a, (k0_off60 v37 k0_t3) a + S1x1x16x8x128.size a ≤ S2x8x16x8x128.size a := fun v37 k0_hw12 k0_t3 k0_h4 => k0_hw12.2.1.2.2.2.2.2.2.2.2.1 k0_t3 k0_h4
theorem k0_off61_inb : ∀ (v37 : BitVec 32) (k0_hw12 : k0_chk12 v37) (k0_t3 : Fin (k0_t3_loop v37).trips), ∀ a, (k0_off61 v37 k0_t3) a + S1x1.size a ≤ S2x8.size a := fun v37 k0_hw12 k0_t3 => k0_hw12.2.1.2.2.2.2.2.2.2.2.2.1 k0_t3
theorem k0_off62_inb : ∀ (v37 : BitVec 32) (k0_hw12 : k0_chk12 v37) (k0_t3 : Fin (k0_t3_loop v37).trips), ∀ a, (k0_off62 v37 k0_t3) a + S1x1x16x8x128.size a ≤ S2x8x16x8x128.size a := fun v37 k0_hw12 k0_t3 => k0_hw12.2.1.2.2.2.2.2.2.2.2.2.2.1 k0_t3
theorem k0_off63_inb : ∀ (v37 : BitVec 32) (k0_hw12 : k0_chk12 v37) (k0_t3 : Fin (k0_t3_loop v37).trips), ∀ a, (k0_off63 v37 k0_t3) a + S1x1.size a ≤ S2x8.size a := fun v37 k0_hw12 k0_t3 => k0_hw12.2.1.2.2.2.2.2.2.2.2.2.2.2.1 k0_t3
theorem k0_off64_inb : ∀ (v37 : BitVec 32) (k0_hw12 : k0_chk12 v37) (k0_t3 : Fin (k0_t3_loop v37).trips), ∀ a, (k0_off64 v37 k0_t3) a + S1x1x16x8x128.size a ≤ S2x8x16x8x128.size a := fun v37 k0_hw12 k0_t3 => k0_hw12.2.1.2.2.2.2.2.2.2.2.2.2.2.2.1 k0_t3
theorem k0_off65_inb : ∀ (v37 : BitVec 32) (k0_hw12 : k0_chk12 v37) (k0_t3 : Fin (k0_t3_loop v37).trips), ∀ a, (k0_off65 v37 k0_t3) a + S1x1.size a ≤ S2x8.size a := fun v37 k0_hw12 k0_t3 => k0_hw12.2.1.2.2.2.2.2.2.2.2.2.2.2.2.2.1 k0_t3
theorem k0_off66_inb : ∀ (v37 : BitVec 32) (k0_hw12 : k0_chk12 v37) (k0_t3 : Fin (k0_t3_loop v37).trips), ∀ a, (k0_off66 v37 k0_t3) a + S1x1x16x8x128.size a ≤ S2x8x16x8x128.size a := fun v37 k0_hw12 k0_t3 => k0_hw12.2.1.2.2.2.2.2.2.2.2.2.2.2.2.2.2.1 k0_t3
theorem k0_off67_inb : ∀ (v37 : BitVec 32) (k0_hw12 : k0_chk12 v37) (k0_t3 : Fin (k0_t3_loop v37).trips), ∀ a, (k0_off67 v37 k0_t3) a + S1x1.size a ≤ S2x8.size a := fun v37 k0_hw12 k0_t3 => k0_hw12.2.1.2.2.2.2.2.2.2.2.2.2.2.2.2.2.2.1 k0_t3
theorem k0_off68_inb : ∀ (v37 : BitVec 32) (k0_hw12 : k0_chk12 v37) (k0_t3 : Fin (k0_t3_loop v37).trips), ∀ a, (k0_off68 v37 k0_t3) a + S1x1x16x8x128.size a ≤ S2x8x16x8x128.size a := fun v37 k0_hw12 k0_t3 => k0_hw12.2.1.2.2.2.2.2.2.2.2.2.2.2.2.2.2.2.2.1 k0_t3
theorem k0_off69_inb : ∀ (v37 : BitVec 32) (k0_hw12 : k0_chk12 v37) (k0_t3 : Fin (k0_t3_loop v37).trips), ∀ a, (k0_off69 v37 k0_t3) a + S1x1.size a ≤ S2x8.size a := fun v37 k0_hw12 k0_t3 => k0_hw12.2.1.2.2.2.2.2.2.2.2.2.2.2.2.2.2.2.2.2.1 k0_t3
theorem k0_off70_inb : ∀ (v37 : BitVec 32) (k0_hw12 : k0_chk12 v37) (k0_t3 : Fin (k0_t3_loop v37).trips), ∀ a, (k0_off70 v37 k0_t3) a + S1x1x16x8x128.size a ≤ S2x8x16x8x128.size a := fun v37 k0_hw12 k0_t3 => k0_hw12.2.1.2.2.2.2.2.2.2.2.2.2.2.2.2.2.2.2.2.2.1 k0_t3
theorem k0_off71_inb : ∀ (v37 : BitVec 32) (k0_hw12 : k0_chk12 v37) (k0_t3 : Fin (k0_t3_loop v37).trips), ∀ a, (k0_off71 v37 k0_t3) a + S1x1.size a ≤ S2x8.size a := fun v37 k0_hw12 k0_t3 => k0_hw12.2.1.2.2.2.2.2.2.2.2.2.2.2.2.2.2.2.2.2.2.2.1 k0_t3
theorem k0_off72_inb : ∀ (v37 : BitVec 32) (k0_hw12 : k0_chk12 v37) (k0_t3 : Fin (k0_t3_loop v37).trips), ∀ a, (k0_off72 v37 k0_t3) a + S1x1x16x8x128.size a ≤ S2x8x16x8x128.size a := fun v37 k0_hw12 k0_t3 => k0_hw12.2.1.2.2.2.2.2.2.2.2.2.2.2.2.2.2.2.2.2.2.2.2.1 k0_t3
theorem k0_off73_inb : ∀ (v37 : BitVec 32) (k0_hw12 : k0_chk12 v37) (k0_t3 : Fin (k0_t3_loop v37).trips), ∀ a, (k0_off73 v37 k0_t3) a + S1x1.size a ≤ S2x8.size a := fun v37 k0_hw12 k0_t3 => k0_hw12.2.1.2.2.2.2.2.2.2.2.2.2.2.2.2.2.2.2.2.2.2.2.2.1 k0_t3
theorem k0_off74_inb : ∀ (v37 : BitVec 32) (k0_hw12 : k0_chk12 v37) (k0_t3 : Fin (k0_t3_loop v37).trips), ∀ a, (k0_off74 v37 k0_t3) a + S1x1x16x8x128.size a ≤ S2x8x16x8x128.size a := fun v37 k0_hw12 k0_t3 => k0_hw12.2.1.2.2.2.2.2.2.2.2.2.2.2.2.2.2.2.2.2.2.2.2.2.2.1 k0_t3
theorem k0_off75_inb : ∀ (v37 : BitVec 32) (k0_hw12 : k0_chk12 v37) (k0_t3 : Fin (k0_t3_loop v37).trips), ∀ a, (k0_off75 v37 k0_t3) a + S1x1.size a ≤ S2x8.size a := fun v37 k0_hw12 k0_t3 => k0_hw12.2.1.2.2.2.2.2.2.2.2.2.2.2.2.2.2.2.2.2.2.2.2.2.2.2.1 k0_t3
theorem k0_off76_inb : ∀ (v37 : BitVec 32) (k0_hw12 : k0_chk12 v37) (k0_t3 : Fin (k0_t3_loop v37).trips), ∀ a, (k0_off76 v37 k0_t3) a + S1x1x16x8x128.size a ≤ S2x8x16x8x128.size a := fun v37 k0_hw12 k0_t3 => k0_hw12.2.1.2.2.2.2.2.2.2.2.2.2.2.2.2.2.2.2.2.2.2.2.2.2.2.2.1 k0_t3
theorem k0_off77_inb : ∀ (v37 : BitVec 32) (k0_hw12 : k0_chk12 v37) (k0_t3 : Fin (k0_t3_loop v37).trips), ∀ a, (k0_off77 v37 k0_t3) a + S1x8x16x8x128.size a ≤ S2x8x16x8x128.size a := fun v37 k0_hw12 k0_t3 => k0_hw12.2.1.2.2.2.2.2.2.2.2.2.2.2.2.2.2.2.2.2.2.2.2.2.2.2.2.2.1 k0_t3
theorem k0_t4_ok : ∀ (v37 : BitVec 32) (k0_hw12 : k0_chk12 v37), (k0_t4_loop v37).OK := fun v37 k0_hw12 => k0_hw12.2.1.2.2.2.2.2.2.2.2.2.2.2.2.2.2.2.2.2.2.2.2.2.2.2.2.2.2.1
theorem k0_off78_inb : ∀ (v37 : BitVec 32) (k0_hw12 : k0_chk12 v37) (k0_t4 : Fin (k0_t4_loop v37).trips), ∀ (k0_h5 : k0_cond5 v37 k0_t4 = 1#1), ∀ a, (k0_off78 v37 k0_t4) a + S1x1.size a ≤ S8x512.size a := fun v37 k0_hw12 k0_t4 k0_h5 => k0_hw12.2.1.2.2.2.2.2.2.2.2.2.2.2.2.2.2.2.2.2.2.2.2.2.2.2.2.2.2.2.1 k0_t4 k0_h5
theorem k0_off79_inb : ∀ (v37 : BitVec 32) (k0_hw12 : k0_chk12 v37) (k0_t4 : Fin (k0_t4_loop v37).trips), ∀ (k0_h5 : k0_cond5 v37 k0_t4 = 1#1), ∀ a, (k0_off79 v37 k0_t4) a + S1x1.size a ≤ S2x8.size a := fun v37 k0_hw12 k0_t4 k0_h5 => k0_hw12.2.1.2.2.2.2.2.2.2.2.2.2.2.2.2.2.2.2.2.2.2.2.2.2.2.2.2.2.2.2.1 k0_t4 k0_h5
theorem k0_off80_inb : ∀ (v37 : BitVec 32) (k0_hw12 : k0_chk12 v37) (k0_t4 : Fin (k0_t4_loop v37).trips), ∀ (k0_h5 : k0_cond5 v37 k0_t4 = 1#1), ∀ a, (k0_off80 v37 k0_t4) a + S1x1x16x8x128.size a ≤ S2x8x16x8x128.size a := fun v37 k0_hw12 k0_t4 k0_h5 => k0_hw12.2.1.2.2.2.2.2.2.2.2.2.2.2.2.2.2.2.2.2.2.2.2.2.2.2.2.2.2.2.2.2.1 k0_t4 k0_h5
theorem k0_off82_inb : ∀ (v37 : BitVec 32) (k0_hw12 : k0_chk12 v37) (k0_t4 : Fin (k0_t4_loop v37).trips), ∀ (k0_h5 : k0_cond5 v37 k0_t4 = 1#1), ∀ a, (k0_off82 v37 k0_t4) a + S1x1.size a ≤ S2x8.size a := fun v37 k0_hw12 k0_t4 k0_h5 => k0_hw12.2.1.2.2.2.2.2.2.2.2.2.2.2.2.2.2.2.2.2.2.2.2.2.2.2.2.2.2.2.2.2.2.1 k0_t4 k0_h5
theorem k0_off83_inb : ∀ (v37 : BitVec 32) (k0_hw12 : k0_chk12 v37) (k0_t4 : Fin (k0_t4_loop v37).trips), ∀ (k0_h5 : k0_cond5 v37 k0_t4 = 1#1), ∀ a, (k0_off83 v37 k0_t4) a + S1x1x16x8x128.size a ≤ S2x8x16x8x128.size a := fun v37 k0_hw12 k0_t4 k0_h5 => k0_hw12.2.1.2.2.2.2.2.2.2.2.2.2.2.2.2.2.2.2.2.2.2.2.2.2.2.2.2.2.2.2.2.2.2 k0_t4 k0_h5
theorem k0_off84_inb : ∀ (v37 : BitVec 32) (k0_hw12 : k0_chk12 v37) (k0_t4 : Fin (k0_t4_loop v37).trips), ∀ (k0_h5 : k0_cond5 v37 k0_t4 = 1#1), ∀ a, (k0_off84 v37 k0_t4) a + S1x1.size a ≤ S8x512.size a := fun v37 k0_hw12 k0_t4 k0_h5 => k0_hw12.2.2.1.1 k0_t4 k0_h5
theorem k0_off85_inb : ∀ (v37 : BitVec 32) (k0_hw12 : k0_chk12 v37) (k0_t4 : Fin (k0_t4_loop v37).trips), ∀ (k0_h5 : k0_cond5 v37 k0_t4 = 1#1), ∀ a, (k0_off85 v37 k0_t4) a + S1x1.size a ≤ S2x8.size a := fun v37 k0_hw12 k0_t4 k0_h5 => k0_hw12.2.2.1.2.1 k0_t4 k0_h5
theorem k0_off86_inb : ∀ (v37 : BitVec 32) (k0_hw12 : k0_chk12 v37) (k0_t4 : Fin (k0_t4_loop v37).trips), ∀ (k0_h5 : k0_cond5 v37 k0_t4 = 1#1), ∀ a, (k0_off86 v37 k0_t4) a + S1x1x16x8x128.size a ≤ S2x8x16x8x128.size a := fun v37 k0_hw12 k0_t4 k0_h5 => k0_hw12.2.2.1.2.2.1 k0_t4 k0_h5
theorem k0_off88_inb : ∀ (v37 : BitVec 32) (k0_hw12 : k0_chk12 v37) (k0_t4 : Fin (k0_t4_loop v37).trips), ∀ (k0_h5 : k0_cond5 v37 k0_t4 = 1#1), ∀ a, (k0_off88 v37 k0_t4) a + S1x1.size a ≤ S2x8.size a := fun v37 k0_hw12 k0_t4 k0_h5 => k0_hw12.2.2.1.2.2.2.1 k0_t4 k0_h5
theorem k0_off89_inb : ∀ (v37 : BitVec 32) (k0_hw12 : k0_chk12 v37) (k0_t4 : Fin (k0_t4_loop v37).trips), ∀ (k0_h5 : k0_cond5 v37 k0_t4 = 1#1), ∀ a, (k0_off89 v37 k0_t4) a + S1x1x16x8x128.size a ≤ S2x8x16x8x128.size a := fun v37 k0_hw12 k0_t4 k0_h5 => k0_hw12.2.2.1.2.2.2.2.1 k0_t4 k0_h5
theorem k0_off90_inb : ∀ (v37 : BitVec 32) (k0_hw12 : k0_chk12 v37) (k0_t4 : Fin (k0_t4_loop v37).trips), ∀ (k0_h5 : k0_cond5 v37 k0_t4 = 1#1), ∀ a, (k0_off90 v37 k0_t4) a + S1x1.size a ≤ S8x512.size a := fun v37 k0_hw12 k0_t4 k0_h5 => k0_hw12.2.2.1.2.2.2.2.2.1 k0_t4 k0_h5
theorem k0_off91_inb : ∀ (v37 : BitVec 32) (k0_hw12 : k0_chk12 v37) (k0_t4 : Fin (k0_t4_loop v37).trips), ∀ (k0_h5 : k0_cond5 v37 k0_t4 = 1#1), ∀ a, (k0_off91 v37 k0_t4) a + S1x1.size a ≤ S2x8.size a := fun v37 k0_hw12 k0_t4 k0_h5 => k0_hw12.2.2.1.2.2.2.2.2.2.1 k0_t4 k0_h5
theorem k0_off92_inb : ∀ (v37 : BitVec 32) (k0_hw12 : k0_chk12 v37) (k0_t4 : Fin (k0_t4_loop v37).trips), ∀ (k0_h5 : k0_cond5 v37 k0_t4 = 1#1), ∀ a, (k0_off92 v37 k0_t4) a + S1x1x16x8x128.size a ≤ S2x8x16x8x128.size a := fun v37 k0_hw12 k0_t4 k0_h5 => k0_hw12.2.2.1.2.2.2.2.2.2.2.1 k0_t4 k0_h5
theorem k0_off94_inb : ∀ (v37 : BitVec 32) (k0_hw12 : k0_chk12 v37) (k0_t4 : Fin (k0_t4_loop v37).trips), ∀ (k0_h5 : k0_cond5 v37 k0_t4 = 1#1), ∀ a, (k0_off94 v37 k0_t4) a + S1x1.size a ≤ S2x8.size a := fun v37 k0_hw12 k0_t4 k0_h5 => k0_hw12.2.2.1.2.2.2.2.2.2.2.2.1 k0_t4 k0_h5
theorem k0_off95_inb : ∀ (v37 : BitVec 32) (k0_hw12 : k0_chk12 v37) (k0_t4 : Fin (k0_t4_loop v37).trips), ∀ (k0_h5 : k0_cond5 v37 k0_t4 = 1#1), ∀ a, (k0_off95 v37 k0_t4) a + S1x1x16x8x128.size a ≤ S2x8x16x8x128.size a := fun v37 k0_hw12 k0_t4 k0_h5 => k0_hw12.2.2.1.2.2.2.2.2.2.2.2.2.1 k0_t4 k0_h5
theorem k0_off96_inb : ∀ (v37 : BitVec 32) (k0_hw12 : k0_chk12 v37) (k0_t4 : Fin (k0_t4_loop v37).trips), ∀ (k0_h5 : k0_cond5 v37 k0_t4 = 1#1), ∀ a, (k0_off96 v37 k0_t4) a + S1x1.size a ≤ S8x512.size a := fun v37 k0_hw12 k0_t4 k0_h5 => k0_hw12.2.2.1.2.2.2.2.2.2.2.2.2.2.1 k0_t4 k0_h5
theorem k0_off97_inb : ∀ (v37 : BitVec 32) (k0_hw12 : k0_chk12 v37) (k0_t4 : Fin (k0_t4_loop v37).trips), ∀ (k0_h5 : k0_cond5 v37 k0_t4 = 1#1), ∀ a, (k0_off97 v37 k0_t4) a + S1x1.size a ≤ S2x8.size a := fun v37 k0_hw12 k0_t4 k0_h5 => k0_hw12.2.2.1.2.2.2.2.2.2.2.2.2.2.2.1 k0_t4 k0_h5
theorem k0_off98_inb : ∀ (v37 : BitVec 32) (k0_hw12 : k0_chk12 v37) (k0_t4 : Fin (k0_t4_loop v37).trips), ∀ (k0_h5 : k0_cond5 v37 k0_t4 = 1#1), ∀ a, (k0_off98 v37 k0_t4) a + S1x1x16x8x128.size a ≤ S2x8x16x8x128.size a := fun v37 k0_hw12 k0_t4 k0_h5 => k0_hw12.2.2.1.2.2.2.2.2.2.2.2.2.2.2.2.1 k0_t4 k0_h5
theorem k0_off100_inb : ∀ (v37 : BitVec 32) (k0_hw12 : k0_chk12 v37) (k0_t4 : Fin (k0_t4_loop v37).trips), ∀ (k0_h5 : k0_cond5 v37 k0_t4 = 1#1), ∀ a, (k0_off100 v37 k0_t4) a + S1x1.size a ≤ S2x8.size a := fun v37 k0_hw12 k0_t4 k0_h5 => k0_hw12.2.2.1.2.2.2.2.2.2.2.2.2.2.2.2.2.1 k0_t4 k0_h5
theorem k0_off101_inb : ∀ (v37 : BitVec 32) (k0_hw12 : k0_chk12 v37) (k0_t4 : Fin (k0_t4_loop v37).trips), ∀ (k0_h5 : k0_cond5 v37 k0_t4 = 1#1), ∀ a, (k0_off101 v37 k0_t4) a + S1x1x16x8x128.size a ≤ S2x8x16x8x128.size a := fun v37 k0_hw12 k0_t4 k0_h5 => k0_hw12.2.2.1.2.2.2.2.2.2.2.2.2.2.2.2.2.2.1 k0_t4 k0_h5
theorem k0_off102_inb : ∀ (v37 : BitVec 32) (k0_hw12 : k0_chk12 v37) (k0_t4 : Fin (k0_t4_loop v37).trips), ∀ (k0_h5 : k0_cond5 v37 k0_t4 = 1#1), ∀ a, (k0_off102 v37 k0_t4) a + S1x1.size a ≤ S8x512.size a := fun v37 k0_hw12 k0_t4 k0_h5 => k0_hw12.2.2.1.2.2.2.2.2.2.2.2.2.2.2.2.2.2.2.1 k0_t4 k0_h5
theorem k0_off103_inb : ∀ (v37 : BitVec 32) (k0_hw12 : k0_chk12 v37) (k0_t4 : Fin (k0_t4_loop v37).trips), ∀ (k0_h5 : k0_cond5 v37 k0_t4 = 1#1), ∀ a, (k0_off103 v37 k0_t4) a + S1x1.size a ≤ S2x8.size a := fun v37 k0_hw12 k0_t4 k0_h5 => k0_hw12.2.2.1.2.2.2.2.2.2.2.2.2.2.2.2.2.2.2.2.1 k0_t4 k0_h5
theorem k0_off104_inb : ∀ (v37 : BitVec 32) (k0_hw12 : k0_chk12 v37) (k0_t4 : Fin (k0_t4_loop v37).trips), ∀ (k0_h5 : k0_cond5 v37 k0_t4 = 1#1), ∀ a, (k0_off104 v37 k0_t4) a + S1x1x16x8x128.size a ≤ S2x8x16x8x128.size a := fun v37 k0_hw12 k0_t4 k0_h5 => k0_hw12.2.2.1.2.2.2.2.2.2.2.2.2.2.2.2.2.2.2.2.2.1 k0_t4 k0_h5
theorem k0_off106_inb : ∀ (v37 : BitVec 32) (k0_hw12 : k0_chk12 v37) (k0_t4 : Fin (k0_t4_loop v37).trips), ∀ (k0_h5 : k0_cond5 v37 k0_t4 = 1#1), ∀ a, (k0_off106 v37 k0_t4) a + S1x1.size a ≤ S2x8.size a := fun v37 k0_hw12 k0_t4 k0_h5 => k0_hw12.2.2.1.2.2.2.2.2.2.2.2.2.2.2.2.2.2.2.2.2.2.1 k0_t4 k0_h5
theorem k0_off107_inb : ∀ (v37 : BitVec 32) (k0_hw12 : k0_chk12 v37) (k0_t4 : Fin (k0_t4_loop v37).trips), ∀ (k0_h5 : k0_cond5 v37 k0_t4 = 1#1), ∀ a, (k0_off107 v37 k0_t4) a + S1x1x16x8x128.size a ≤ S2x8x16x8x128.size a := fun v37 k0_hw12 k0_t4 k0_h5 => k0_hw12.2.2.1.2.2.2.2.2.2.2.2.2.2.2.2.2.2.2.2.2.2.2.1 k0_t4 k0_h5
theorem k0_off108_inb : ∀ (v37 : BitVec 32) (k0_hw12 : k0_chk12 v37) (k0_t4 : Fin (k0_t4_loop v37).trips), ∀ (k0_h5 : k0_cond5 v37 k0_t4 = 1#1), ∀ a, (k0_off108 v37 k0_t4) a + S1x1.size a ≤ S8x512.size a := fun v37 k0_hw12 k0_t4 k0_h5 => k0_hw12.2.2.1.2.2.2.2.2.2.2.2.2.2.2.2.2.2.2.2.2.2.2.2.1 k0_t4 k0_h5
theorem k0_off109_inb : ∀ (v37 : BitVec 32) (k0_hw12 : k0_chk12 v37) (k0_t4 : Fin (k0_t4_loop v37).trips), ∀ (k0_h5 : k0_cond5 v37 k0_t4 = 1#1), ∀ a, (k0_off109 v37 k0_t4) a + S1x1.size a ≤ S2x8.size a := fun v37 k0_hw12 k0_t4 k0_h5 => k0_hw12.2.2.1.2.2.2.2.2.2.2.2.2.2.2.2.2.2.2.2.2.2.2.2.2.1 k0_t4 k0_h5
theorem k0_off110_inb : ∀ (v37 : BitVec 32) (k0_hw12 : k0_chk12 v37) (k0_t4 : Fin (k0_t4_loop v37).trips), ∀ (k0_h5 : k0_cond5 v37 k0_t4 = 1#1), ∀ a, (k0_off110 v37 k0_t4) a + S1x1x16x8x128.size a ≤ S2x8x16x8x128.size a := fun v37 k0_hw12 k0_t4 k0_h5 => k0_hw12.2.2.1.2.2.2.2.2.2.2.2.2.2.2.2.2.2.2.2.2.2.2.2.2.2.1 k0_t4 k0_h5
theorem k0_off112_inb : ∀ (v37 : BitVec 32) (k0_hw12 : k0_chk12 v37) (k0_t4 : Fin (k0_t4_loop v37).trips), ∀ (k0_h5 : k0_cond5 v37 k0_t4 = 1#1), ∀ a, (k0_off112 v37 k0_t4) a + S1x1.size a ≤ S2x8.size a := fun v37 k0_hw12 k0_t4 k0_h5 => k0_hw12.2.2.1.2.2.2.2.2.2.2.2.2.2.2.2.2.2.2.2.2.2.2.2.2.2.2.1 k0_t4 k0_h5
theorem k0_off113_inb : ∀ (v37 : BitVec 32) (k0_hw12 : k0_chk12 v37) (k0_t4 : Fin (k0_t4_loop v37).trips), ∀ (k0_h5 : k0_cond5 v37 k0_t4 = 1#1), ∀ a, (k0_off113 v37 k0_t4) a + S1x1x16x8x128.size a ≤ S2x8x16x8x128.size a := fun v37 k0_hw12 k0_t4 k0_h5 => k0_hw12.2.2.1.2.2.2.2.2.2.2.2.2.2.2.2.2.2.2.2.2.2.2.2.2.2.2.2.1 k0_t4 k0_h5
theorem k0_off114_inb : ∀ (v37 : BitVec 32) (k0_hw12 : k0_chk12 v37) (k0_t4 : Fin (k0_t4_loop v37).trips), ∀ (k0_h5 : k0_cond5 v37 k0_t4 = 1#1), ∀ a, (k0_off114 v37 k0_t4) a + S1x1.size a ≤ S8x512.size a := fun v37 k0_hw12 k0_t4 k0_h5 => k0_hw12.2.2.1.2.2.2.2.2.2.2.2.2.2.2.2.2.2.2.2.2.2.2.2.2.2.2.2.2.1 k0_t4 k0_h5
theorem k0_off115_inb : ∀ (v37 : BitVec 32) (k0_hw12 : k0_chk12 v37) (k0_t4 : Fin (k0_t4_loop v37).trips), ∀ (k0_h5 : k0_cond5 v37 k0_t4 = 1#1), ∀ a, (k0_off115 v37 k0_t4) a + S1x1.size a ≤ S2x8.size a := fun v37 k0_hw12 k0_t4 k0_h5 => k0_hw12.2.2.1.2.2.2.2.2.2.2.2.2.2.2.2.2.2.2.2.2.2.2.2.2.2.2.2.2.2.1 k0_t4 k0_h5
theorem k0_off116_inb : ∀ (v37 : BitVec 32) (k0_hw12 : k0_chk12 v37) (k0_t4 : Fin (k0_t4_loop v37).trips), ∀ (k0_h5 : k0_cond5 v37 k0_t4 = 1#1), ∀ a, (k0_off116 v37 k0_t4) a + S1x1x16x8x128.size a ≤ S2x8x16x8x128.size a := fun v37 k0_hw12 k0_t4 k0_h5 => k0_hw12.2.2.1.2.2.2.2.2.2.2.2.2.2.2.2.2.2.2.2.2.2.2.2.2.2.2.2.2.2.2.1 k0_t4 k0_h5
theorem k0_off118_inb : ∀ (v37 : BitVec 32) (k0_hw12 : k0_chk12 v37) (k0_t4 : Fin (k0_t4_loop v37).trips), ∀ (k0_h5 : k0_cond5 v37 k0_t4 = 1#1), ∀ a, (k0_off118 v37 k0_t4) a + S1x1.size a ≤ S2x8.size a := fun v37 k0_hw12 k0_t4 k0_h5 => k0_hw12.2.2.1.2.2.2.2.2.2.2.2.2.2.2.2.2.2.2.2.2.2.2.2.2.2.2.2.2.2.2.2.1 k0_t4 k0_h5
theorem k0_off119_inb : ∀ (v37 : BitVec 32) (k0_hw12 : k0_chk12 v37) (k0_t4 : Fin (k0_t4_loop v37).trips), ∀ (k0_h5 : k0_cond5 v37 k0_t4 = 1#1), ∀ a, (k0_off119 v37 k0_t4) a + S1x1x16x8x128.size a ≤ S2x8x16x8x128.size a := fun v37 k0_hw12 k0_t4 k0_h5 => k0_hw12.2.2.1.2.2.2.2.2.2.2.2.2.2.2.2.2.2.2.2.2.2.2.2.2.2.2.2.2.2.2.2.2.1 k0_t4 k0_h5
theorem k0_off120_inb : ∀ (v37 : BitVec 32) (k0_hw12 : k0_chk12 v37) (k0_t4 : Fin (k0_t4_loop v37).trips), ∀ (k0_h5 : k0_cond5 v37 k0_t4 = 1#1), ∀ a, (k0_off120 v37 k0_t4) a + S1x1.size a ≤ S8x512.size a := fun v37 k0_hw12 k0_t4 k0_h5 => k0_hw12.2.2.1.2.2.2.2.2.2.2.2.2.2.2.2.2.2.2.2.2.2.2.2.2.2.2.2.2.2.2.2.2.2.1 k0_t4 k0_h5
theorem k0_off121_inb : ∀ (v37 : BitVec 32) (k0_hw12 : k0_chk12 v37) (k0_t4 : Fin (k0_t4_loop v37).trips), ∀ (k0_h5 : k0_cond5 v37 k0_t4 = 1#1), ∀ a, (k0_off121 v37 k0_t4) a + S1x1.size a ≤ S2x8.size a := fun v37 k0_hw12 k0_t4 k0_h5 => k0_hw12.2.2.1.2.2.2.2.2.2.2.2.2.2.2.2.2.2.2.2.2.2.2.2.2.2.2.2.2.2.2.2.2.2.2 k0_t4 k0_h5
theorem k0_off122_inb : ∀ (v37 : BitVec 32) (k0_hw12 : k0_chk12 v37) (k0_t4 : Fin (k0_t4_loop v37).trips), ∀ (k0_h5 : k0_cond5 v37 k0_t4 = 1#1), ∀ a, (k0_off122 v37 k0_t4) a + S1x1x16x8x128.size a ≤ S2x8x16x8x128.size a := fun v37 k0_hw12 k0_t4 k0_h5 => k0_hw12.2.2.2.1 k0_t4 k0_h5
theorem k0_off124_inb : ∀ (v37 : BitVec 32) (k0_hw12 : k0_chk12 v37) (k0_t4 : Fin (k0_t4_loop v37).trips), ∀ (k0_h5 : k0_cond5 v37 k0_t4 = 1#1), ∀ a, (k0_off124 v37 k0_t4) a + S1x1.size a ≤ S2x8.size a := fun v37 k0_hw12 k0_t4 k0_h5 => k0_hw12.2.2.2.2.1 k0_t4 k0_h5
theorem k0_off125_inb : ∀ (v37 : BitVec 32) (k0_hw12 : k0_chk12 v37) (k0_t4 : Fin (k0_t4_loop v37).trips), ∀ (k0_h5 : k0_cond5 v37 k0_t4 = 1#1), ∀ a, (k0_off125 v37 k0_t4) a + S1x1x16x8x128.size a ≤ S2x8x16x8x128.size a := fun v37 k0_hw12 k0_t4 k0_h5 => k0_hw12.2.2.2.2.2.1 k0_t4 k0_h5
theorem k0_off126_inb : ∀ (v37 : BitVec 32) (k0_hw12 : k0_chk12 v37) (k0_t4 : Fin (k0_t4_loop v37).trips), ∀ a, (k0_off126 v37 k0_t4) a + S1x1.size a ≤ S2x8.size a := fun v37 k0_hw12 k0_t4 => k0_hw12.2.2.2.2.2.2.1 k0_t4
theorem k0_off127_inb : ∀ (v37 : BitVec 32) (k0_hw12 : k0_chk12 v37) (k0_t4 : Fin (k0_t4_loop v37).trips), ∀ a, (k0_off127 v37 k0_t4) a + S1x1x16x8x128.size a ≤ S2x8x16x8x128.size a := fun v37 k0_hw12 k0_t4 => k0_hw12.2.2.2.2.2.2.2.1 k0_t4
theorem k0_off128_inb : ∀ (v37 : BitVec 32) (k0_hw12 : k0_chk12 v37) (k0_t4 : Fin (k0_t4_loop v37).trips), ∀ a, (k0_off128 v37 k0_t4) a + S1x1.size a ≤ S2x8.size a := fun v37 k0_hw12 k0_t4 => k0_hw12.2.2.2.2.2.2.2.2.1 k0_t4
theorem k0_off129_inb : ∀ (v37 : BitVec 32) (k0_hw12 : k0_chk12 v37) (k0_t4 : Fin (k0_t4_loop v37).trips), ∀ a, (k0_off129 v37 k0_t4) a + S1x1x16x8x128.size a ≤ S2x8x16x8x128.size a := fun v37 k0_hw12 k0_t4 => k0_hw12.2.2.2.2.2.2.2.2.2.1 k0_t4
theorem k0_off130_inb : ∀ (v37 : BitVec 32) (k0_hw12 : k0_chk12 v37) (k0_t4 : Fin (k0_t4_loop v37).trips), ∀ a, (k0_off130 v37 k0_t4) a + S1x1.size a ≤ S2x8.size a := fun v37 k0_hw12 k0_t4 => k0_hw12.2.2.2.2.2.2.2.2.2.2.1 k0_t4
theorem k0_off131_inb : ∀ (v37 : BitVec 32) (k0_hw12 : k0_chk12 v37) (k0_t4 : Fin (k0_t4_loop v37).trips), ∀ a, (k0_off131 v37 k0_t4) a + S1x1x16x8x128.size a ≤ S2x8x16x8x128.size a := fun v37 k0_hw12 k0_t4 => k0_hw12.2.2.2.2.2.2.2.2.2.2.2.1 k0_t4
theorem k0_off132_inb : ∀ (v37 : BitVec 32) (k0_hw12 : k0_chk12 v37) (k0_t4 : Fin (k0_t4_loop v37).trips), ∀ a, (k0_off132 v37 k0_t4) a + S1x1.size a ≤ S2x8.size a := fun v37 k0_hw12 k0_t4 => k0_hw12.2.2.2.2.2.2.2.2.2.2.2.2.1 k0_t4
theorem k0_off133_inb : ∀ (v37 : BitVec 32) (k0_hw12 : k0_chk12 v37) (k0_t4 : Fin (k0_t4_loop v37).trips), ∀ a, (k0_off133 v37 k0_t4) a + S1x1x16x8x128.size a ≤ S2x8x16x8x128.size a := fun v37 k0_hw12 k0_t4 => k0_hw12.2.2.2.2.2.2.2.2.2.2.2.2.2.1 k0_t4
theorem k0_off134_inb : ∀ (v37 : BitVec 32) (k0_hw12 : k0_chk12 v37) (k0_t4 : Fin (k0_t4_loop v37).trips), ∀ a, (k0_off134 v37 k0_t4) a + S1x1.size a ≤ S2x8.size a := fun v37 k0_hw12 k0_t4 => k0_hw12.2.2.2.2.2.2.2.2.2.2.2.2.2.2.1 k0_t4
theorem k0_off135_inb : ∀ (v37 : BitVec 32) (k0_hw12 : k0_chk12 v37) (k0_t4 : Fin (k0_t4_loop v37).trips), ∀ a, (k0_off135 v37 k0_t4) a + S1x1x16x8x128.size a ≤ S2x8x16x8x128.size a := fun v37 k0_hw12 k0_t4 => k0_hw12.2.2.2.2.2.2.2.2.2.2.2.2.2.2.2.1 k0_t4
theorem k0_off136_inb : ∀ (v37 : BitVec 32) (k0_hw12 : k0_chk12 v37) (k0_t4 : Fin (k0_t4_loop v37).trips), ∀ a, (k0_off136 v37 k0_t4) a + S1x1.size a ≤ S2x8.size a := fun v37 k0_hw12 k0_t4 => k0_hw12.2.2.2.2.2.2.2.2.2.2.2.2.2.2.2.2.1 k0_t4
theorem k0_off137_inb : ∀ (v37 : BitVec 32) (k0_hw12 : k0_chk12 v37) (k0_t4 : Fin (k0_t4_loop v37).trips), ∀ a, (k0_off137 v37 k0_t4) a + S1x1x16x8x128.size a ≤ S2x8x16x8x128.size a := fun v37 k0_hw12 k0_t4 => k0_hw12.2.2.2.2.2.2.2.2.2.2.2.2.2.2.2.2.2.1 k0_t4
theorem k0_off138_inb : ∀ (v37 : BitVec 32) (k0_hw12 : k0_chk12 v37) (k0_t4 : Fin (k0_t4_loop v37).trips), ∀ a, (k0_off138 v37 k0_t4) a + S1x1.size a ≤ S2x8.size a := fun v37 k0_hw12 k0_t4 => k0_hw12.2.2.2.2.2.2.2.2.2.2.2.2.2.2.2.2.2.2.1 k0_t4
theorem k0_off139_inb : ∀ (v37 : BitVec 32) (k0_hw12 : k0_chk12 v37) (k0_t4 : Fin (k0_t4_loop v37).trips), ∀ a, (k0_off139 v37 k0_t4) a + S1x1x16x8x128.size a ≤ S2x8x16x8x128.size a := fun v37 k0_hw12 k0_t4 => k0_hw12.2.2.2.2.2.2.2.2.2.2.2.2.2.2.2.2.2.2.2.1 k0_t4
theorem k0_off140_inb : ∀ (v37 : BitVec 32) (k0_hw12 : k0_chk12 v37) (k0_t4 : Fin (k0_t4_loop v37).trips), ∀ a, (k0_off140 v37 k0_t4) a + S1x1.size a ≤ S2x8.size a := fun v37 k0_hw12 k0_t4 => k0_hw12.2.2.2.2.2.2.2.2.2.2.2.2.2.2.2.2.2.2.2.2.1 k0_t4
theorem k0_off141_inb : ∀ (v37 : BitVec 32) (k0_hw12 : k0_chk12 v37) (k0_t4 : Fin (k0_t4_loop v37).trips), ∀ a, (k0_off141 v37 k0_t4) a + S1x1x16x8x128.size a ≤ S2x8x16x8x128.size a := fun v37 k0_hw12 k0_t4 => k0_hw12.2.2.2.2.2.2.2.2.2.2.2.2.2.2.2.2.2.2.2.2.2.1 k0_t4
theorem k0_off142_inb : ∀ (v37 : BitVec 32) (k0_hw12 : k0_chk12 v37) (k0_t4 : Fin (k0_t4_loop v37).trips), ∀ a, (k0_off142 v37 k0_t4) a + S1x8x16x8x128.size a ≤ S2x8x16x8x128.size a := fun v37 k0_hw12 k0_t4 => k0_hw12.2.2.2.2.2.2.2.2.2.2.2.2.2.2.2.2.2.2.2.2.2.2 k0_t4

@[reducible] def k0_t5_loop (d0 : Dev nD) (v83 : BitVec 32) : Scf.Loop 32 :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v84 : BitVec 32 := Scalar.subi v83 v10
  let c3_i32_44 : BitVec 32 := 3#32
  let v85 : BitVec 32 := Scalar.addi v84 c3_i32_44
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c4_i32_45 : BitVec 32 := 4#32
  let c0_i32_48 : BitVec 32 := 0#32
  let v92 : BitVec 1 := Scalar.cmpi .sgt c4_i32_45 c0_i32_48
  let v93 : BitVec 32 := Scalar.extui v92
  let c0_i32_49 : BitVec 32 := 0#32
  let v94 : BitVec 1 := Scalar.cmpi .slt c4_i32_45 c0_i32_49
  let v95 : BitVec 32 := Scalar.extui v94
  let v96 : BitVec 32 := Scalar.subi v93 v95
  let v97 : BitVec 1 := Scalar.cmpi .ne v91 v96
  let v98 : BitVec 32 := Scalar.remsi v85 c4_i32_45
  let c0_i32_50 : BitVec 32 := 0#32
  let v99 : BitVec 1 := Scalar.cmpi .ne v98 c0_i32_50
  let v100 : BitVec 1 := Scalar.andi v97 v99
  let v86 : BitVec 32 := Scalar.divsi v85 c4_i32_45
  let c1_i32_51 : BitVec 32 := 1#32
  let v101 : BitVec 32 := Scalar.subi v86 c1_i32_51
  let v102 : BitVec 32 := Scalar.select v100 v101 v86
  let v103 : BitVec 32 := Scalar.subi v102 c0_i32_52
  let c1_i32_54 : BitVec 32 := 1#32
  let v105 : BitVec 32 := Scalar.divsi v103 c1_i32_54
  let v106 : BitVec 32 := Scalar.muli v105 c1_i32_54
  let v107 : BitVec 32 := Scalar.addi c0_i32_52 v106
  let c1_i32_55 : BitVec 32 := 1#32
  ⟨c0_i32_52, v107, c1_i32_55⟩

def k0_off143 (d0 : Dev nD) (v83 : BitVec 32) (k0_t5 : Fin (k0_t5_loop d0 v83).trips) : Fin 2 → Nat :=
  let c1_655 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_52 : BitVec 32 := 0#32
  let c1_i32_55 : BitVec 32 := 1#32
  let arg17 : BitVec 32 := Scf.iv c0_i32_52 c1_i32_55 k0_t5
  let v866 : BitVec 32 := Scalar.muli c4_i32_654 arg17
  let v867 : BitVec 32 := Scalar.addi v10 v866
  let v868 : Index := Scalar.indexCast v867
  ![1, v868.toNat]
def k0_off144 (arg18 : BitVec 32) : Fin 2 → Nat :=
  let c1_665 : Index := 1#32
  let v893 : Index := Scalar.indexCast arg18
  ![1, v893.toNat]
def k0_cond6 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk30 (d0 : Dev nD) (arg18 : BitVec 32) (v869 : BitVec 32) : Prop :=
  (∀ (k0_h6 : k0_cond6 d0 v869 = 1#1), ∀ a, (k0_off144 arg18) a + S1x1.size a ≤ S8x512.size a)
theorem k0_off144_inb : ∀ (d0 : Dev nD) (arg18 : BitVec 32) (v869 : BitVec 32) (k0_hw30 : k0_chk30 d0 arg18 v869), ∀ (k0_h6 : k0_cond6 d0 v869 = 1#1), ∀ a, (k0_off144 arg18) a + S1x1.size a ≤ S8x512.size a := fun d0 arg18 v869 k0_hw30 k0_h6 => k0_hw30 k0_h6

@[reducible] def k0_t6_loop (d0 : Dev nD) (v83 : BitVec 32) : Scf.Loop 32 :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v84 : BitVec 32 := Scalar.subi v83 v10
  let c3_i32_44 : BitVec 32 := 3#32
  let v85 : BitVec 32 := Scalar.addi v84 c3_i32_44
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c4_i32_45 : BitVec 32 := 4#32
  let c0_i32_48 : BitVec 32 := 0#32
  let v92 : BitVec 1 := Scalar.cmpi .sgt c4_i32_45 c0_i32_48
  let v93 : BitVec 32 := Scalar.extui v92
  let c0_i32_49 : BitVec 32 := 0#32
  let v94 : BitVec 1 := Scalar.cmpi .slt c4_i32_45 c0_i32_49
  let v95 : BitVec 32 := Scalar.extui v94
  let v96 : BitVec 32 := Scalar.subi v93 v95
  let v97 : BitVec 1 := Scalar.cmpi .ne v91 v96
  let v98 : BitVec 32 := Scalar.remsi v85 c4_i32_45
  let c0_i32_50 : BitVec 32 := 0#32
  let v99 : BitVec 1 := Scalar.cmpi .ne v98 c0_i32_50
  let v100 : BitVec 1 := Scalar.andi v97 v99
  let v86 : BitVec 32 := Scalar.divsi v85 c4_i32_45
  let c1_i32_51 : BitVec 32 := 1#32
  let v101 : BitVec 32 := Scalar.subi v86 c1_i32_51
  let v102 : BitVec 32 := Scalar.select v100 v101 v86
  let v103 : BitVec 32 := Scalar.subi v102 c0_i32_52
  let c1_i32_54 : BitVec 32 := 1#32
  let v105 : BitVec 32 := Scalar.divsi v103 c1_i32_54
  let v106 : BitVec 32 := Scalar.muli v105 c1_i32_54
  let v107 : BitVec 32 := Scalar.addi c0_i32_52 v106
  let v104 : BitVec 32 := Scalar.addi c0_i32_52 v103
  let c1_i32_56 : BitVec 32 := 1#32
  ⟨v107, v104, c1_i32_56⟩
def k0_off145 (d0 : Dev nD) (v83 : BitVec 32) (k0_t6 : Fin (k0_t6_loop d0 v83).trips) : Fin 2 → Nat :=
  let c1_655 : Index := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_52 : BitVec 32 := 0#32
  let v84 : BitVec 32 := Scalar.subi v83 v10
  let c3_i32_44 : BitVec 32 := 3#32
  let v85 : BitVec 32 := Scalar.addi v84 c3_i32_44
  let c0_i32_46 : BitVec 32 := 0#32
  let v87 : BitVec 1 := Scalar.cmpi .sgt v85 c0_i32_46
  let v88 : BitVec 32 := Scalar.extui v87
  let c0_i32_47 : BitVec 32 := 0#32
  let v89 : BitVec 1 := Scalar.cmpi .slt v85 c0_i32_47
  let v90 : BitVec 32 := Scalar.extui v89
  let v91 : BitVec 32 := Scalar.subi v88 v90
  let c4_i32_45 : BitVec 32 := 4#32
  let c0_i32_48 : BitVec 32 := 0#32
  let v92 : BitVec 1 := Scalar.cmpi .sgt c4_i32_45 c0_i32_48
  let v93 : BitVec 32 := Scalar.extui v92
  let c0_i32_49 : BitVec 32 := 0#32
  let v94 : BitVec 1 := Scalar.cmpi .slt c4_i32_45 c0_i32_49
  let v95 : BitVec 32 := Scalar.extui v94
  let v96 : BitVec 32 := Scalar.subi v93 v95
  let v97 : BitVec 1 := Scalar.cmpi .ne v91 v96
  let v98 : BitVec 32 := Scalar.remsi v85 c4_i32_45
  let c0_i32_50 : BitVec 32 := 0#32
  let v99 : BitVec 1 := Scalar.cmpi .ne v98 c0_i32_50
  let v100 : BitVec 1 := Scalar.andi v97 v99
  let v86 : BitVec 32 := Scalar.divsi v85 c4_i32_45
  let c1_i32_51 : BitVec 32 := 1#32
  let v101 : BitVec 32 := Scalar.subi v86 c1_i32_51
  let v102 : BitVec 32 := Scalar.select v100 v101 v86
  let v103 : BitVec 32 := Scalar.subi v102 c0_i32_52
  let c1_i32_54 : BitVec 32 := 1#32
  let v105 : BitVec 32 := Scalar.divsi v103 c1_i32_54
  let v106 : BitVec 32 := Scalar.muli v105 c1_i32_54
  let v107 : BitVec 32 := Scalar.addi c0_i32_52 v106
  let c1_i32_56 : BitVec 32 := 1#32
  let arg17 : BitVec 32 := Scf.iv v107 c1_i32_56 k0_t6
  let v866 : BitVec 32 := Scalar.muli c4_i32_654 arg17
  let v867 : BitVec 32 := Scalar.addi v10 v866
  let v868 : Index := Scalar.indexCast v867
  ![1, v868.toNat]

def k0_chk29 (d0 : Dev nD) (v83 : BitVec 32) : Prop :=
  ((k0_t5_loop d0 v83).OK) ∧
  (∀ k0_t5 : Fin (k0_t5_loop d0 v83).trips, ∀ a, (k0_off143 d0 v83 k0_t5) a + S1x1.size a ≤ S8x512.size a) ∧
  ((k0_t6_loop d0 v83).OK) ∧
  (∀ k0_t6 : Fin (k0_t6_loop d0 v83).trips, ∀ a, (k0_off145 d0 v83 k0_t6) a + S1x1.size a ≤ S8x512.size a)
theorem k0_t5_ok : ∀ (d0 : Dev nD) (v83 : BitVec 32) (k0_hw29 : k0_chk29 d0 v83), (k0_t5_loop d0 v83).OK := fun d0 v83 k0_hw29 => k0_hw29.1
theorem k0_off143_inb : ∀ (d0 : Dev nD) (v83 : BitVec 32) (k0_hw29 : k0_chk29 d0 v83) (k0_t5 : Fin (k0_t5_loop d0 v83).trips), ∀ a, (k0_off143 d0 v83 k0_t5) a + S1x1.size a ≤ S8x512.size a := fun d0 v83 k0_hw29 k0_t5 => k0_hw29.2.1 k0_t5
theorem k0_t6_ok : ∀ (d0 : Dev nD) (v83 : BitVec 32) (k0_hw29 : k0_chk29 d0 v83), (k0_t6_loop d0 v83).OK := fun d0 v83 k0_hw29 => k0_hw29.2.2.1
theorem k0_off145_inb : ∀ (d0 : Dev nD) (v83 : BitVec 32) (k0_hw29 : k0_chk29 d0 v83) (k0_t6 : Fin (k0_t6_loop d0 v83).trips), ∀ a, (k0_off145 d0 v83 k0_t6) a + S1x1.size a ≤ S8x512.size a := fun d0 v83 k0_hw29 k0_t6 => k0_hw29.2.2.2 k0_t6

def k0_off146 (arg18 : BitVec 32) : Fin 2 → Nat :=
  let c1_665 : Index := 1#32
  let v893 : Index := Scalar.indexCast arg18
  ![1, v893.toNat]
def k0_cond7 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk31 (d0 : Dev nD) (arg18 : BitVec 32) (v869 : BitVec 32) : Prop :=
  (∀ (k0_h7 : k0_cond7 d0 v869 = 1#1), ∀ a, (k0_off146 arg18) a + S1x1.size a ≤ S8x512.size a)
theorem k0_off146_inb : ∀ (d0 : Dev nD) (arg18 : BitVec 32) (v869 : BitVec 32) (k0_hw31 : k0_chk31 d0 arg18 v869), ∀ (k0_h7 : k0_cond7 d0 v869 = 1#1), ∀ a, (k0_off146 arg18) a + S1x1.size a ≤ S8x512.size a := fun d0 arg18 v869 k0_hw31 k0_h7 => k0_hw31 k0_h7

def k0_off147 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond8 (v109 : BitVec 32) : BitVec 1 :=
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let c0_i32_70 : BitVec 32 := 0#32
  let v131 : BitVec 1 := Scalar.cmpi .sgt v128 c0_i32_70
  let v132 : BitVec 32 := Scalar.extui v131
  let c0_i32_71 : BitVec 32 := 0#32
  let v133 : BitVec 1 := Scalar.cmpi .ne v132 c0_i32_71
  v133

def k0_chk32 (v109 : BitVec 32) (v866 : BitVec 32) : Prop :=
  (∀ (k0_h8 : k0_cond8 v109 = 1#1), ∀ a, (k0_off147 v866) a + S1x16x8x128.size a ≤ S512x16x8x128.size a)
theorem k0_off147_inb : ∀ (v109 : BitVec 32) (v866 : BitVec 32) (k0_hw32 : k0_chk32 v109 v866), ∀ (k0_h8 : k0_cond8 v109 = 1#1), ∀ a, (k0_off147 v866) a + S1x16x8x128.size a ≤ S512x16x8x128.size a := fun v109 v866 k0_hw32 k0_h8 => k0_hw32 k0_h8

def k0_off148 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk33 (v109 : BitVec 32) (v880 : BitVec 32) : Prop :=
  (∀ (k0_h8 : k0_cond8 v109 = 1#1), ∀ a, (k0_off148 v880) a + S1x16x8x128.size a ≤ S512x16x8x128.size a)
theorem k0_off148_inb : ∀ (v109 : BitVec 32) (v880 : BitVec 32) (k0_hw33 : k0_chk33 v109 v880), ∀ (k0_h8 : k0_cond8 v109 = 1#1), ∀ a, (k0_off148 v880) a + S1x16x8x128.size a ≤ S512x16x8x128.size a := fun v109 v880 k0_hw33 k0_h8 => k0_hw33 k0_h8

def k0_off149 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk34 (v109 : BitVec 32) (v894 : BitVec 32) : Prop :=
  (∀ (k0_h8 : k0_cond8 v109 = 1#1), ∀ a, (k0_off149 v894) a + S1x16x8x128.size a ≤ S512x16x8x128.size a)
theorem k0_off149_inb : ∀ (v109 : BitVec 32) (v894 : BitVec 32) (k0_hw34 : k0_chk34 v109 v894), ∀ (k0_h8 : k0_cond8 v109 = 1#1), ∀ a, (k0_off149 v894) a + S1x16x8x128.size a ≤ S512x16x8x128.size a := fun v109 v894 k0_hw34 k0_h8 => k0_hw34 k0_h8

def k0_off150 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk35 (v109 : BitVec 32) (v908 : BitVec 32) : Prop :=
  (∀ (k0_h8 : k0_cond8 v109 = 1#1), ∀ a, (k0_off150 v908) a + S1x16x8x128.size a ≤ S512x16x8x128.size a)
theorem k0_off150_inb : ∀ (v109 : BitVec 32) (v908 : BitVec 32) (k0_hw35 : k0_chk35 v109 v908), ∀ (k0_h8 : k0_cond8 v109 = 1#1), ∀ a, (k0_off150 v908) a + S1x16x8x128.size a ≤ S512x16x8x128.size a := fun v109 v908 k0_hw35 k0_h8 => k0_hw35 k0_h8

def k0_off151 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk36 (v109 : BitVec 32) (v922 : BitVec 32) : Prop :=
  (∀ (k0_h8 : k0_cond8 v109 = 1#1), ∀ a, (k0_off151 v922) a + S1x16x8x128.size a ≤ S512x16x8x128.size a)
theorem k0_off151_inb : ∀ (v109 : BitVec 32) (v922 : BitVec 32) (k0_hw36 : k0_chk36 v109 v922), ∀ (k0_h8 : k0_cond8 v109 = 1#1), ∀ a, (k0_off151 v922) a + S1x16x8x128.size a ≤ S512x16x8x128.size a := fun v109 v922 k0_hw36 k0_h8 => k0_hw36 k0_h8

def k0_off152 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk37 (v109 : BitVec 32) (v936 : BitVec 32) : Prop :=
  (∀ (k0_h8 : k0_cond8 v109 = 1#1), ∀ a, (k0_off152 v936) a + S1x16x8x128.size a ≤ S512x16x8x128.size a)
theorem k0_off152_inb : ∀ (v109 : BitVec 32) (v936 : BitVec 32) (k0_hw37 : k0_chk37 v109 v936), ∀ (k0_h8 : k0_cond8 v109 = 1#1), ∀ a, (k0_off152 v936) a + S1x16x8x128.size a ≤ S512x16x8x128.size a := fun v109 v936 k0_hw37 k0_h8 => k0_hw37 k0_h8

def k0_off153 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk38 (v109 : BitVec 32) (v950 : BitVec 32) : Prop :=
  (∀ (k0_h8 : k0_cond8 v109 = 1#1), ∀ a, (k0_off153 v950) a + S1x16x8x128.size a ≤ S512x16x8x128.size a)
theorem k0_off153_inb : ∀ (v109 : BitVec 32) (v950 : BitVec 32) (k0_hw38 : k0_chk38 v109 v950), ∀ (k0_h8 : k0_cond8 v109 = 1#1), ∀ a, (k0_off153 v950) a + S1x16x8x128.size a ≤ S512x16x8x128.size a := fun v109 v950 k0_hw38 k0_h8 => k0_hw38 k0_h8

def k0_off154 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk39 (v109 : BitVec 32) (v964 : BitVec 32) : Prop :=
  (∀ (k0_h8 : k0_cond8 v109 = 1#1), ∀ a, (k0_off154 v964) a + S1x16x8x128.size a ≤ S512x16x8x128.size a)
theorem k0_off154_inb : ∀ (v109 : BitVec 32) (v964 : BitVec 32) (k0_hw39 : k0_chk39 v109 v964), ∀ (k0_h8 : k0_cond8 v109 = 1#1), ∀ a, (k0_off154 v964) a + S1x16x8x128.size a ≤ S512x16x8x128.size a := fun v109 v964 k0_hw39 k0_h8 => k0_hw39 k0_h8

@[reducible] def k0_t7_loop (v109 : BitVec 32) : Scf.Loop 32 :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_77 : BitVec 32 := 1#32
  ⟨c0_i32_75, v141, c1_i32_77⟩

def k0_off155 (v109 : BitVec 32) (k0_t7 : Fin (k0_t7_loop v109).trips) : Fin 2 → Nat :=
  let c1_824 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![1, v1033.toNat]
def k0_cond9 (v109 : BitVec 32) (k0_t7 : Fin (k0_t7_loop v109).trips) : BitVec 1 :=
  let c0_i32_75 : BitVec 32 := 0#32
  let c1_i32_77 : BitVec 32 := 1#32
  let arg17 : BitVec 32 := Scf.iv c0_i32_75 c1_i32_77 k0_t7
  let c1_i32_655 : BitVec 32 := 1#32
  let v867 : BitVec 32 := Scalar.addi arg17 c1_i32_655
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v868 : BitVec 1 := Scalar.cmpi .slt v867 v128
  let v869 : BitVec 32 := Scalar.extui v868
  let c0_i32_656 : BitVec 32 := 0#32
  let v870 : BitVec 1 := Scalar.cmpi .ne v869 c0_i32_656
  v870

def k0_off156 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off157 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off158 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk41 (v109 : BitVec 32) (k0_t7 : Fin (k0_t7_loop v109).trips) (v1034 : BitVec 32) : Prop :=
  (∀ (k0_h9 : k0_cond9 v109 k0_t7 = 1#1), ∀ a, (k0_off158 v1034) a + S1x16x8x128.size a ≤ S512x16x8x128.size a)
theorem k0_off158_inb : ∀ (v109 : BitVec 32) (k0_t7 : Fin (k0_t7_loop v109).trips) (v1034 : BitVec 32) (k0_hw41 : k0_chk41 v109 k0_t7 v1034), ∀ (k0_h9 : k0_cond9 v109 k0_t7 = 1#1), ∀ a, (k0_off158 v1034) a + S1x16x8x128.size a ≤ S512x16x8x128.size a := fun v109 k0_t7 v1034 k0_hw41 k0_h9 => k0_hw41 k0_h9

def k0_off159 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off160 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off161 (v109 : BitVec 32) (k0_t7 : Fin (k0_t7_loop v109).trips) : Fin 2 → Nat :=
  let c1_843 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![1, v1050.toNat]
def k0_off162 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off163 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off164 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk42 (v109 : BitVec 32) (k0_t7 : Fin (k0_t7_loop v109).trips) (v1051 : BitVec 32) : Prop :=
  (∀ (k0_h9 : k0_cond9 v109 k0_t7 = 1#1), ∀ a, (k0_off164 v1051) a + S1x16x8x128.size a ≤ S512x16x8x128.size a)
theorem k0_off164_inb : ∀ (v109 : BitVec 32) (k0_t7 : Fin (k0_t7_loop v109).trips) (v1051 : BitVec 32) (k0_hw42 : k0_chk42 v109 k0_t7 v1051), ∀ (k0_h9 : k0_cond9 v109 k0_t7 = 1#1), ∀ a, (k0_off164 v1051) a + S1x16x8x128.size a ≤ S512x16x8x128.size a := fun v109 k0_t7 v1051 k0_hw42 k0_h9 => k0_hw42 k0_h9

def k0_off165 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off166 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off167 (v109 : BitVec 32) (k0_t7 : Fin (k0_t7_loop v109).trips) : Fin 2 → Nat :=
  let c1_863 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![1, v1067.toNat]
def k0_off168 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off169 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off170 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk43 (v109 : BitVec 32) (k0_t7 : Fin (k0_t7_loop v109).trips) (v1068 : BitVec 32) : Prop :=
  (∀ (k0_h9 : k0_cond9 v109 k0_t7 = 1#1), ∀ a, (k0_off170 v1068) a + S1x16x8x128.size a ≤ S512x16x8x128.size a)
theorem k0_off170_inb : ∀ (v109 : BitVec 32) (k0_t7 : Fin (k0_t7_loop v109).trips) (v1068 : BitVec 32) (k0_hw43 : k0_chk43 v109 k0_t7 v1068), ∀ (k0_h9 : k0_cond9 v109 k0_t7 = 1#1), ∀ a, (k0_off170 v1068) a + S1x16x8x128.size a ≤ S512x16x8x128.size a := fun v109 k0_t7 v1068 k0_hw43 k0_h9 => k0_hw43 k0_h9

def k0_off171 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off172 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off173 (v109 : BitVec 32) (k0_t7 : Fin (k0_t7_loop v109).trips) : Fin 2 → Nat :=
  let c1_883 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![1, v1084.toNat]
def k0_off174 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off175 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off176 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk44 (v109 : BitVec 32) (k0_t7 : Fin (k0_t7_loop v109).trips) (v1085 : BitVec 32) : Prop :=
  (∀ (k0_h9 : k0_cond9 v109 k0_t7 = 1#1), ∀ a, (k0_off176 v1085) a + S1x16x8x128.size a ≤ S512x16x8x128.size a)
theorem k0_off176_inb : ∀ (v109 : BitVec 32) (k0_t7 : Fin (k0_t7_loop v109).trips) (v1085 : BitVec 32) (k0_hw44 : k0_chk44 v109 k0_t7 v1085), ∀ (k0_h9 : k0_cond9 v109 k0_t7 = 1#1), ∀ a, (k0_off176 v1085) a + S1x16x8x128.size a ≤ S512x16x8x128.size a := fun v109 k0_t7 v1085 k0_hw44 k0_h9 => k0_hw44 k0_h9

def k0_off177 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off178 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off179 (v109 : BitVec 32) (k0_t7 : Fin (k0_t7_loop v109).trips) : Fin 2 → Nat :=
  let c1_903 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![1, v1101.toNat]
def k0_off180 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off181 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off182 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk45 (v109 : BitVec 32) (k0_t7 : Fin (k0_t7_loop v109).trips) (v1102 : BitVec 32) : Prop :=
  (∀ (k0_h9 : k0_cond9 v109 k0_t7 = 1#1), ∀ a, (k0_off182 v1102) a + S1x16x8x128.size a ≤ S512x16x8x128.size a)
theorem k0_off182_inb : ∀ (v109 : BitVec 32) (k0_t7 : Fin (k0_t7_loop v109).trips) (v1102 : BitVec 32) (k0_hw45 : k0_chk45 v109 k0_t7 v1102), ∀ (k0_h9 : k0_cond9 v109 k0_t7 = 1#1), ∀ a, (k0_off182 v1102) a + S1x16x8x128.size a ≤ S512x16x8x128.size a := fun v109 k0_t7 v1102 k0_hw45 k0_h9 => k0_hw45 k0_h9

def k0_off183 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off184 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off185 (v109 : BitVec 32) (k0_t7 : Fin (k0_t7_loop v109).trips) : Fin 2 → Nat :=
  let c1_923 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![1, v1118.toNat]
def k0_off186 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off187 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off188 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk46 (v109 : BitVec 32) (k0_t7 : Fin (k0_t7_loop v109).trips) (v1119 : BitVec 32) : Prop :=
  (∀ (k0_h9 : k0_cond9 v109 k0_t7 = 1#1), ∀ a, (k0_off188 v1119) a + S1x16x8x128.size a ≤ S512x16x8x128.size a)
theorem k0_off188_inb : ∀ (v109 : BitVec 32) (k0_t7 : Fin (k0_t7_loop v109).trips) (v1119 : BitVec 32) (k0_hw46 : k0_chk46 v109 k0_t7 v1119), ∀ (k0_h9 : k0_cond9 v109 k0_t7 = 1#1), ∀ a, (k0_off188 v1119) a + S1x16x8x128.size a ≤ S512x16x8x128.size a := fun v109 k0_t7 v1119 k0_hw46 k0_h9 => k0_hw46 k0_h9

def k0_off189 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off190 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off191 (v109 : BitVec 32) (k0_t7 : Fin (k0_t7_loop v109).trips) : Fin 2 → Nat :=
  let c1_943 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![1, v1135.toNat]
def k0_off192 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off193 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off194 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk47 (v109 : BitVec 32) (k0_t7 : Fin (k0_t7_loop v109).trips) (v1136 : BitVec 32) : Prop :=
  (∀ (k0_h9 : k0_cond9 v109 k0_t7 = 1#1), ∀ a, (k0_off194 v1136) a + S1x16x8x128.size a ≤ S512x16x8x128.size a)
theorem k0_off194_inb : ∀ (v109 : BitVec 32) (k0_t7 : Fin (k0_t7_loop v109).trips) (v1136 : BitVec 32) (k0_hw47 : k0_chk47 v109 k0_t7 v1136), ∀ (k0_h9 : k0_cond9 v109 k0_t7 = 1#1), ∀ a, (k0_off194 v1136) a + S1x16x8x128.size a ≤ S512x16x8x128.size a := fun v109 k0_t7 v1136 k0_hw47 k0_h9 => k0_hw47 k0_h9

def k0_off195 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off196 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off197 (v109 : BitVec 32) (k0_t7 : Fin (k0_t7_loop v109).trips) : Fin 2 → Nat :=
  let c1_963 : Index := 1#32
  let c0_i32_75 : BitVec 32 := 0#32
  let c1_i32_77 : BitVec 32 := 1#32
  let arg17 : BitVec 32 := Scf.iv c0_i32_75 c1_i32_77 k0_t7
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![1, v1152.toNat]
def k0_off198 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off199 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off200 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk48 (v109 : BitVec 32) (k0_t7 : Fin (k0_t7_loop v109).trips) (v1153 : BitVec 32) : Prop :=
  (∀ (k0_h9 : k0_cond9 v109 k0_t7 = 1#1), ∀ a, (k0_off200 v1153) a + S1x16x8x128.size a ≤ S512x16x8x128.size a)
theorem k0_off200_inb : ∀ (v109 : BitVec 32) (k0_t7 : Fin (k0_t7_loop v109).trips) (v1153 : BitVec 32) (k0_hw48 : k0_chk48 v109 k0_t7 v1153), ∀ (k0_h9 : k0_cond9 v109 k0_t7 = 1#1), ∀ a, (k0_off200 v1153) a + S1x16x8x128.size a ≤ S512x16x8x128.size a := fun v109 k0_t7 v1153 k0_hw48 k0_h9 => k0_hw48 k0_h9

def k0_off201 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off202 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off203 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c0_i32_659 : BitVec 32 := 0#32
  ![v866.toNat, 0]
def k0_off204 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off205 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c1_i32_677 : BitVec 32 := 1#32
  ![v866.toNat, 1]
def k0_off206 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off207 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c2_i32_695 : BitVec 32 := 2#32
  ![v866.toNat, 2]
def k0_off208 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off209 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c3_i32_713 : BitVec 32 := 3#32
  ![v866.toNat, 3]
def k0_off210 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off211 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c4_i32_731 : BitVec 32 := 4#32
  ![v866.toNat, 4]
def k0_off212 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off213 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c5_i32_748 : BitVec 32 := 5#32
  ![v866.toNat, 5]
def k0_off214 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off215 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c6_i32_765 : BitVec 32 := 6#32
  ![v866.toNat, 6]
def k0_off216 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off217 (v109 : BitVec 32) (k0_t7 : Fin (k0_t7_loop v109).trips) : Fin 2 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c7_i32_782 : BitVec 32 := 7#32
  ![v866.toNat, 7]
def k0_off218 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off219 (v109 : BitVec 32) (k0_t7 : Fin (k0_t7_loop v109).trips) : Fin 5 → Nat :=
  let c0_i32_75 : BitVec 32 := 0#32
  let c1_i32_77 : BitVec 32 := 1#32
  let arg17 : BitVec 32 := Scf.iv c0_i32_75 c1_i32_77 k0_t7
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t8_loop (v109 : BitVec 32) : Scf.Loop 32 :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let v138 : BitVec 32 := Scalar.addi c0_i32_75 v137
  let c1_i32_78 : BitVec 32 := 1#32
  ⟨v141, v138, c1_i32_78⟩
def k0_off220 (v109 : BitVec 32) (k0_t8 : Fin (k0_t8_loop v109).trips) : Fin 2 → Nat :=
  let c1_824 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![1, v1033.toNat]
def k0_cond10 (v109 : BitVec 32) (k0_t8 : Fin (k0_t8_loop v109).trips) : BitVec 1 :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_655 : BitVec 32 := 1#32
  let v867 : BitVec 32 := Scalar.addi arg17 c1_i32_655
  let v868 : BitVec 1 := Scalar.cmpi .slt v867 v128
  let v869 : BitVec 32 := Scalar.extui v868
  let c0_i32_656 : BitVec 32 := 0#32
  let v870 : BitVec 1 := Scalar.cmpi .ne v869 c0_i32_656
  v870

def k0_off221 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off222 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off223 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk49 (v109 : BitVec 32) (k0_t8 : Fin (k0_t8_loop v109).trips) (v1034 : BitVec 32) : Prop :=
  (∀ (k0_h10 : k0_cond10 v109 k0_t8 = 1#1), ∀ a, (k0_off223 v1034) a + S1x16x8x128.size a ≤ S512x16x8x128.size a)
theorem k0_off223_inb : ∀ (v109 : BitVec 32) (k0_t8 : Fin (k0_t8_loop v109).trips) (v1034 : BitVec 32) (k0_hw49 : k0_chk49 v109 k0_t8 v1034), ∀ (k0_h10 : k0_cond10 v109 k0_t8 = 1#1), ∀ a, (k0_off223 v1034) a + S1x16x8x128.size a ≤ S512x16x8x128.size a := fun v109 k0_t8 v1034 k0_hw49 k0_h10 => k0_hw49 k0_h10

def k0_off224 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off225 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off226 (v109 : BitVec 32) (k0_t8 : Fin (k0_t8_loop v109).trips) : Fin 2 → Nat :=
  let c1_843 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![1, v1050.toNat]
def k0_off227 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off228 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off229 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk50 (v109 : BitVec 32) (k0_t8 : Fin (k0_t8_loop v109).trips) (v1051 : BitVec 32) : Prop :=
  (∀ (k0_h10 : k0_cond10 v109 k0_t8 = 1#1), ∀ a, (k0_off229 v1051) a + S1x16x8x128.size a ≤ S512x16x8x128.size a)
theorem k0_off229_inb : ∀ (v109 : BitVec 32) (k0_t8 : Fin (k0_t8_loop v109).trips) (v1051 : BitVec 32) (k0_hw50 : k0_chk50 v109 k0_t8 v1051), ∀ (k0_h10 : k0_cond10 v109 k0_t8 = 1#1), ∀ a, (k0_off229 v1051) a + S1x16x8x128.size a ≤ S512x16x8x128.size a := fun v109 k0_t8 v1051 k0_hw50 k0_h10 => k0_hw50 k0_h10

def k0_off230 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off231 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off232 (v109 : BitVec 32) (k0_t8 : Fin (k0_t8_loop v109).trips) : Fin 2 → Nat :=
  let c1_863 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![1, v1067.toNat]
def k0_off233 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off234 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off235 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk51 (v109 : BitVec 32) (k0_t8 : Fin (k0_t8_loop v109).trips) (v1068 : BitVec 32) : Prop :=
  (∀ (k0_h10 : k0_cond10 v109 k0_t8 = 1#1), ∀ a, (k0_off235 v1068) a + S1x16x8x128.size a ≤ S512x16x8x128.size a)
theorem k0_off235_inb : ∀ (v109 : BitVec 32) (k0_t8 : Fin (k0_t8_loop v109).trips) (v1068 : BitVec 32) (k0_hw51 : k0_chk51 v109 k0_t8 v1068), ∀ (k0_h10 : k0_cond10 v109 k0_t8 = 1#1), ∀ a, (k0_off235 v1068) a + S1x16x8x128.size a ≤ S512x16x8x128.size a := fun v109 k0_t8 v1068 k0_hw51 k0_h10 => k0_hw51 k0_h10

def k0_off236 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off237 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off238 (v109 : BitVec 32) (k0_t8 : Fin (k0_t8_loop v109).trips) : Fin 2 → Nat :=
  let c1_883 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![1, v1084.toNat]
def k0_off239 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off240 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off241 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk52 (v109 : BitVec 32) (k0_t8 : Fin (k0_t8_loop v109).trips) (v1085 : BitVec 32) : Prop :=
  (∀ (k0_h10 : k0_cond10 v109 k0_t8 = 1#1), ∀ a, (k0_off241 v1085) a + S1x16x8x128.size a ≤ S512x16x8x128.size a)
theorem k0_off241_inb : ∀ (v109 : BitVec 32) (k0_t8 : Fin (k0_t8_loop v109).trips) (v1085 : BitVec 32) (k0_hw52 : k0_chk52 v109 k0_t8 v1085), ∀ (k0_h10 : k0_cond10 v109 k0_t8 = 1#1), ∀ a, (k0_off241 v1085) a + S1x16x8x128.size a ≤ S512x16x8x128.size a := fun v109 k0_t8 v1085 k0_hw52 k0_h10 => k0_hw52 k0_h10

def k0_off242 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off243 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off244 (v109 : BitVec 32) (k0_t8 : Fin (k0_t8_loop v109).trips) : Fin 2 → Nat :=
  let c1_903 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![1, v1101.toNat]
def k0_off245 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off246 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off247 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk53 (v109 : BitVec 32) (k0_t8 : Fin (k0_t8_loop v109).trips) (v1102 : BitVec 32) : Prop :=
  (∀ (k0_h10 : k0_cond10 v109 k0_t8 = 1#1), ∀ a, (k0_off247 v1102) a + S1x16x8x128.size a ≤ S512x16x8x128.size a)
theorem k0_off247_inb : ∀ (v109 : BitVec 32) (k0_t8 : Fin (k0_t8_loop v109).trips) (v1102 : BitVec 32) (k0_hw53 : k0_chk53 v109 k0_t8 v1102), ∀ (k0_h10 : k0_cond10 v109 k0_t8 = 1#1), ∀ a, (k0_off247 v1102) a + S1x16x8x128.size a ≤ S512x16x8x128.size a := fun v109 k0_t8 v1102 k0_hw53 k0_h10 => k0_hw53 k0_h10

def k0_off248 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off249 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off250 (v109 : BitVec 32) (k0_t8 : Fin (k0_t8_loop v109).trips) : Fin 2 → Nat :=
  let c1_923 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![1, v1118.toNat]
def k0_off251 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off252 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off253 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk54 (v109 : BitVec 32) (k0_t8 : Fin (k0_t8_loop v109).trips) (v1119 : BitVec 32) : Prop :=
  (∀ (k0_h10 : k0_cond10 v109 k0_t8 = 1#1), ∀ a, (k0_off253 v1119) a + S1x16x8x128.size a ≤ S512x16x8x128.size a)
theorem k0_off253_inb : ∀ (v109 : BitVec 32) (k0_t8 : Fin (k0_t8_loop v109).trips) (v1119 : BitVec 32) (k0_hw54 : k0_chk54 v109 k0_t8 v1119), ∀ (k0_h10 : k0_cond10 v109 k0_t8 = 1#1), ∀ a, (k0_off253 v1119) a + S1x16x8x128.size a ≤ S512x16x8x128.size a := fun v109 k0_t8 v1119 k0_hw54 k0_h10 => k0_hw54 k0_h10

def k0_off254 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off255 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off256 (v109 : BitVec 32) (k0_t8 : Fin (k0_t8_loop v109).trips) : Fin 2 → Nat :=
  let c1_943 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![1, v1135.toNat]
def k0_off257 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off258 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off259 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk55 (v109 : BitVec 32) (k0_t8 : Fin (k0_t8_loop v109).trips) (v1136 : BitVec 32) : Prop :=
  (∀ (k0_h10 : k0_cond10 v109 k0_t8 = 1#1), ∀ a, (k0_off259 v1136) a + S1x16x8x128.size a ≤ S512x16x8x128.size a)
theorem k0_off259_inb : ∀ (v109 : BitVec 32) (k0_t8 : Fin (k0_t8_loop v109).trips) (v1136 : BitVec 32) (k0_hw55 : k0_chk55 v109 k0_t8 v1136), ∀ (k0_h10 : k0_cond10 v109 k0_t8 = 1#1), ∀ a, (k0_off259 v1136) a + S1x16x8x128.size a ≤ S512x16x8x128.size a := fun v109 k0_t8 v1136 k0_hw55 k0_h10 => k0_hw55 k0_h10

def k0_off260 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off261 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off262 (v109 : BitVec 32) (k0_t8 : Fin (k0_t8_loop v109).trips) : Fin 2 → Nat :=
  let c1_963 : Index := 1#32
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![1, v1152.toNat]
def k0_off263 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off264 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off265 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk56 (v109 : BitVec 32) (k0_t8 : Fin (k0_t8_loop v109).trips) (v1153 : BitVec 32) : Prop :=
  (∀ (k0_h10 : k0_cond10 v109 k0_t8 = 1#1), ∀ a, (k0_off265 v1153) a + S1x16x8x128.size a ≤ S512x16x8x128.size a)
theorem k0_off265_inb : ∀ (v109 : BitVec 32) (k0_t8 : Fin (k0_t8_loop v109).trips) (v1153 : BitVec 32) (k0_hw56 : k0_chk56 v109 k0_t8 v1153), ∀ (k0_h10 : k0_cond10 v109 k0_t8 = 1#1), ∀ a, (k0_off265 v1153) a + S1x16x8x128.size a ≤ S512x16x8x128.size a := fun v109 k0_t8 v1153 k0_hw56 k0_h10 => k0_hw56 k0_h10

def k0_off266 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off267 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off268 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c0_i32_659 : BitVec 32 := 0#32
  ![v866.toNat, 0]
def k0_off269 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off270 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c1_i32_677 : BitVec 32 := 1#32
  ![v866.toNat, 1]
def k0_off271 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off272 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c2_i32_695 : BitVec 32 := 2#32
  ![v866.toNat, 2]
def k0_off273 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off274 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c3_i32_713 : BitVec 32 := 3#32
  ![v866.toNat, 3]
def k0_off275 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off276 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c4_i32_731 : BitVec 32 := 4#32
  ![v866.toNat, 4]
def k0_off277 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off278 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c5_i32_748 : BitVec 32 := 5#32
  ![v866.toNat, 5]
def k0_off279 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off280 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c6_i32_765 : BitVec 32 := 6#32
  ![v866.toNat, 6]
def k0_off281 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off282 (v109 : BitVec 32) (k0_t8 : Fin (k0_t8_loop v109).trips) : Fin 2 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c7_i32_782 : BitVec 32 := 7#32
  ![v866.toNat, 7]
def k0_off283 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off284 (v109 : BitVec 32) (k0_t8 : Fin (k0_t8_loop v109).trips) : Fin 5 → Nat :=
  let c0_i32_75 : BitVec 32 := 0#32
  let c8_i32_57 : BitVec 32 := 8#32
  let v110 : BitVec 32 := Scalar.addi v109 c8_i32_57
  let c1_i32_58 : BitVec 32 := 1#32
  let v111 : BitVec 32 := Scalar.subi v110 c1_i32_58
  let c0_i32_60 : BitVec 32 := 0#32
  let v113 : BitVec 1 := Scalar.cmpi .sgt v111 c0_i32_60
  let v114 : BitVec 32 := Scalar.extui v113
  let c0_i32_61 : BitVec 32 := 0#32
  let v115 : BitVec 1 := Scalar.cmpi .slt v111 c0_i32_61
  let v116 : BitVec 32 := Scalar.extui v115
  let v117 : BitVec 32 := Scalar.subi v114 v116
  let c8_i32_59 : BitVec 32 := 8#32
  let c0_i32_62 : BitVec 32 := 0#32
  let v118 : BitVec 1 := Scalar.cmpi .sgt c8_i32_59 c0_i32_62
  let v119 : BitVec 32 := Scalar.extui v118
  let c0_i32_63 : BitVec 32 := 0#32
  let v120 : BitVec 1 := Scalar.cmpi .slt c8_i32_59 c0_i32_63
  let v121 : BitVec 32 := Scalar.extui v120
  let v122 : BitVec 32 := Scalar.subi v119 v121
  let v123 : BitVec 1 := Scalar.cmpi .ne v117 v122
  let v124 : BitVec 32 := Scalar.remsi v111 c8_i32_59
  let c0_i32_64 : BitVec 32 := 0#32
  let v125 : BitVec 1 := Scalar.cmpi .ne v124 c0_i32_64
  let v126 : BitVec 1 := Scalar.andi v123 v125
  let v112 : BitVec 32 := Scalar.divsi v111 c8_i32_59
  let c1_i32_65 : BitVec 32 := 1#32
  let v127 : BitVec 32 := Scalar.subi v112 c1_i32_65
  let v128 : BitVec 32 := Scalar.select v126 v127 v112
  let v137 : BitVec 32 := Scalar.subi v128 c0_i32_75
  let c1_i32_76 : BitVec 32 := 1#32
  let v139 : BitVec 32 := Scalar.divsi v137 c1_i32_76
  let v140 : BitVec 32 := Scalar.muli v139 c1_i32_76
  let v141 : BitVec 32 := Scalar.addi c0_i32_75 v140
  let c1_i32_78 : BitVec 32 := 1#32
  let arg17 : BitVec 32 := Scf.iv v141 c1_i32_78 k0_t8
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk40_0 (v109 : BitVec 32) : Prop :=
  ((k0_t7_loop v109).OK) ∧
  (∀ k0_t7 : Fin (k0_t7_loop v109).trips, ∀ (k0_h9 : k0_cond9 v109 k0_t7 = 1#1), ∀ a, (k0_off155 v109 k0_t7) a + S1x1.size a ≤ S8x512.size a) ∧
  (∀ k0_t7 : Fin (k0_t7_loop v109).trips, ∀ (k0_h9 : k0_cond9 v109 k0_t7 = 1#1), ∀ a, (k0_off156 v109 k0_t7) a + S1x1.size a ≤ S2x8.size a) ∧
  (∀ k0_t7 : Fin (k0_t7_loop v109).trips, ∀ (k0_h9 : k0_cond9 v109 k0_t7 = 1#1), ∀ a, (k0_off157 v109 k0_t7) a + S1x1x16x8x128.size a ≤ S2x8x16x8x128.size a) ∧
  (∀ k0_t7 : Fin (k0_t7_loop v109).trips, ∀ (k0_h9 : k0_cond9 v109 k0_t7 = 1#1), ∀ a, (k0_off159 v109 k0_t7) a + S1x1.size a ≤ S2x8.size a) ∧
  (∀ k0_t7 : Fin (k0_t7_loop v109).trips, ∀ (k0_h9 : k0_cond9 v109 k0_t7 = 1#1), ∀ a, (k0_off160 v109 k0_t7) a + S1x1x16x8x128.size a ≤ S2x8x16x8x128.size a) ∧
  (∀ k0_t7 : Fin (k0_t7_loop v109).trips, ∀ (k0_h9 : k0_cond9 v109 k0_t7 = 1#1), ∀ a, (k0_off161 v109 k0_t7) a + S1x1.size a ≤ S8x512.size a) ∧
  (∀ k0_t7 : Fin (k0_t7_loop v109).trips, ∀ (k0_h9 : k0_cond9 v109 k0_t7 = 1#1), ∀ a, (k0_off162 v109 k0_t7) a + S1x1.size a ≤ S2x8.size a) ∧
  (∀ k0_t7 : Fin (k0_t7_loop v109).trips, ∀ (k0_h9 : k0_cond9 v109 k0_t7 = 1#1), ∀ a, (k0_off163 v109 k0_t7) a + S1x1x16x8x128.size a ≤ S2x8x16x8x128.size a) ∧
  (∀ k0_t7 : Fin (k0_t7_loop v109).trips, ∀ (k0_h9 : k0_cond9 v109 k0_t7 = 1#1), ∀ a, (k0_off165 v109 k0_t7) a + S1x1.size a ≤ S2x8.size a) ∧
  (∀ k0_t7 : Fin (k0_t7_loop v109).trips, ∀ (k0_h9 : k0_cond9 v109 k0_t7 = 1#1), ∀ a, (k0_off166 v109 k0_t7) a + S1x1x16x8x128.size a ≤ S2x8x16x8x128.size a) ∧
  (∀ k0_t7 : Fin (k0_t7_loop v109).trips, ∀ (k0_h9 : k0_cond9 v109 k0_t7 = 1#1), ∀ a, (k0_off167 v109 k0_t7) a + S1x1.size a ≤ S8x512.size a) ∧
  (∀ k0_t7 : Fin (k0_t7_loop v109).trips, ∀ (k0_h9 : k0_cond9 v109 k0_t7 = 1#1), ∀ a, (k0_off168 v109 k0_t7) a + S1x1.size a ≤ S2x8.size a) ∧
  (∀ k0_t7 : Fin (k0_t7_loop v109).trips, ∀ (k0_h9 : k0_cond9 v109 k0_t7 = 1#1), ∀ a, (k0_off169 v109 k0_t7) a + S1x1x16x8x128.size a ≤ S2x8x16x8x128.size a) ∧
  (∀ k0_t7 : Fin (k0_t7_loop v109).trips, ∀ (k0_h9 : k0_cond9 v109 k0_t7 = 1#1), ∀ a, (k0_off171 v109 k0_t7) a + S1x1.size a ≤ S2x8.size a) ∧
  (∀ k0_t7 : Fin (k0_t7_loop v109).trips, ∀ (k0_h9 : k0_cond9 v109 k0_t7 = 1#1), ∀ a, (k0_off172 v109 k0_t7) a + S1x1x16x8x128.size a ≤ S2x8x16x8x128.size a) ∧
  (∀ k0_t7 : Fin (k0_t7_loop v109).trips, ∀ (k0_h9 : k0_cond9 v109 k0_t7 = 1#1), ∀ a, (k0_off173 v109 k0_t7) a + S1x1.size a ≤ S8x512.size a) ∧
  (∀ k0_t7 : Fin (k0_t7_loop v109).trips, ∀ (k0_h9 : k0_cond9 v109 k0_t7 = 1#1), ∀ a, (k0_off174 v109 k0_t7) a + S1x1.size a ≤ S2x8.size a) ∧
  (∀ k0_t7 : Fin (k0_t7_loop v109).trips, ∀ (k0_h9 : k0_cond9 v109 k0_t7 = 1#1), ∀ a, (k0_off175 v109 k0_t7) a + S1x1x16x8x128.size a ≤ S2x8x16x8x128.size a) ∧
  (∀ k0_t7 : Fin (k0_t7_loop v109).trips, ∀ (k0_h9 : k0_cond9 v109 k0_t7 = 1#1), ∀ a, (k0_off177 v109 k0_t7) a + S1x1.size a ≤ S2x8.size a) ∧
  (∀ k0_t7 : Fin (k0_t7_loop v109).trips, ∀ (k0_h9 : k0_cond9 v109 k0_t7 = 1#1), ∀ a, (k0_off178 v109 k0_t7) a + S1x1x16x8x128.size a ≤ S2x8x16x8x128.size a) ∧
  (∀ k0_t7 : Fin (k0_t7_loop v109).trips, ∀ (k0_h9 : k0_cond9 v109 k0_t7 = 1#1), ∀ a, (k0_off179 v109 k0_t7) a + S1x1.size a ≤ S8x512.size a) ∧
  (∀ k0_t7 : Fin (k0_t7_loop v109).trips, ∀ (k0_h9 : k0_cond9 v109 k0_t7 = 1#1), ∀ a, (k0_off180 v109 k0_t7) a + S1x1.size a ≤ S2x8.size a) ∧
  (∀ k0_t7 : Fin (k0_t7_loop v109).trips, ∀ (k0_h9 : k0_cond9 v109 k0_t7 = 1#1), ∀ a, (k0_off181 v109 k0_t7) a + S1x1x16x8x128.size a ≤ S2x8x16x8x128.size a) ∧
  (∀ k0_t7 : Fin (k0_t7_loop v109).trips, ∀ (k0_h9 : k0_cond9 v109 k0_t7 = 1#1), ∀ a, (k0_off183 v109 k0_t7) a + S1x1.size a ≤ S2x8.size a) ∧
  (∀ k0_t7 : Fin (k0_t7_loop v109).trips, ∀ (k0_h9 : k0_cond9 v109 k0_t7 = 1#1), ∀ a, (k0_off184 v109 k0_t7) a + S1x1x16x8x128.size a ≤ S2x8x16x8x128.size a) ∧
  (∀ k0_t7 : Fin (k0_t7_loop v109).trips, ∀ (k0_h9 : k0_cond9 v109 k0_t7 = 1#1), ∀ a, (k0_off185 v109 k0_t7) a + S1x1.size a ≤ S8x512.size a) ∧
  (∀ k0_t7 : Fin (k0_t7_loop v109).trips, ∀ (k0_h9 : k0_cond9 v109 k0_t7 = 1#1), ∀ a, (k0_off186 v109 k0_t7) a + S1x1.size a ≤ S2x8.size a) ∧
  (∀ k0_t7 : Fin (k0_t7_loop v109).trips, ∀ (k0_h9 : k0_cond9 v109 k0_t7 = 1#1), ∀ a, (k0_off187 v109 k0_t7) a + S1x1x16x8x128.size a ≤ S2x8x16x8x128.size a) ∧
  (∀ k0_t7 : Fin (k0_t7_loop v109).trips, ∀ (k0_h9 : k0_cond9 v109 k0_t7 = 1#1), ∀ a, (k0_off189 v109 k0_t7) a + S1x1.size a ≤ S2x8.size a) ∧
  (∀ k0_t7 : Fin (k0_t7_loop v109).trips, ∀ (k0_h9 : k0_cond9 v109 k0_t7 = 1#1), ∀ a, (k0_off190 v109 k0_t7) a + S1x1x16x8x128.size a ≤ S2x8x16x8x128.size a) ∧
  (∀ k0_t7 : Fin (k0_t7_loop v109).trips, ∀ (k0_h9 : k0_cond9 v109 k0_t7 = 1#1), ∀ a, (k0_off191 v109 k0_t7) a + S1x1.size a ≤ S8x512.size a)
def k0_chk40_1 (v109 : BitVec 32) : Prop :=
  (∀ k0_t7 : Fin (k0_t7_loop v109).trips, ∀ (k0_h9 : k0_cond9 v109 k0_t7 = 1#1), ∀ a, (k0_off192 v109 k0_t7) a + S1x1.size a ≤ S2x8.size a) ∧
  (∀ k0_t7 : Fin (k0_t7_loop v109).trips, ∀ (k0_h9 : k0_cond9 v109 k0_t7 = 1#1), ∀ a, (k0_off193 v109 k0_t7) a + S1x1x16x8x128.size a ≤ S2x8x16x8x128.size a) ∧
  (∀ k0_t7 : Fin (k0_t7_loop v109).trips, ∀ (k0_h9 : k0_cond9 v109 k0_t7 = 1#1), ∀ a, (k0_off195 v109 k0_t7) a + S1x1.size a ≤ S2x8.size a) ∧
  (∀ k0_t7 : Fin (k0_t7_loop v109).trips, ∀ (k0_h9 : k0_cond9 v109 k0_t7 = 1#1), ∀ a, (k0_off196 v109 k0_t7) a + S1x1x16x8x128.size a ≤ S2x8x16x8x128.size a) ∧
  (∀ k0_t7 : Fin (k0_t7_loop v109).trips, ∀ (k0_h9 : k0_cond9 v109 k0_t7 = 1#1), ∀ a, (k0_off197 v109 k0_t7) a + S1x1.size a ≤ S8x512.size a) ∧
  (∀ k0_t7 : Fin (k0_t7_loop v109).trips, ∀ (k0_h9 : k0_cond9 v109 k0_t7 = 1#1), ∀ a, (k0_off198 v109 k0_t7) a + S1x1.size a ≤ S2x8.size a) ∧
  (∀ k0_t7 : Fin (k0_t7_loop v109).trips, ∀ (k0_h9 : k0_cond9 v109 k0_t7 = 1#1), ∀ a, (k0_off199 v109 k0_t7) a + S1x1x16x8x128.size a ≤ S2x8x16x8x128.size a) ∧
  (∀ k0_t7 : Fin (k0_t7_loop v109).trips, ∀ (k0_h9 : k0_cond9 v109 k0_t7 = 1#1), ∀ a, (k0_off201 v109 k0_t7) a + S1x1.size a ≤ S2x8.size a) ∧
  (∀ k0_t7 : Fin (k0_t7_loop v109).trips, ∀ (k0_h9 : k0_cond9 v109 k0_t7 = 1#1), ∀ a, (k0_off202 v109 k0_t7) a + S1x1x16x8x128.size a ≤ S2x8x16x8x128.size a) ∧
  (∀ k0_t7 : Fin (k0_t7_loop v109).trips, ∀ a, (k0_off203 v109 k0_t7) a + S1x1.size a ≤ S2x8.size a) ∧
  (∀ k0_t7 : Fin (k0_t7_loop v109).trips, ∀ a, (k0_off204 v109 k0_t7) a + S1x1x16x8x128.size a ≤ S2x8x16x8x128.size a) ∧
  (∀ k0_t7 : Fin (k0_t7_loop v109).trips, ∀ a, (k0_off205 v109 k0_t7) a + S1x1.size a ≤ S2x8.size a) ∧
  (∀ k0_t7 : Fin (k0_t7_loop v109).trips, ∀ a, (k0_off206 v109 k0_t7) a + S1x1x16x8x128.size a ≤ S2x8x16x8x128.size a) ∧
  (∀ k0_t7 : Fin (k0_t7_loop v109).trips, ∀ a, (k0_off207 v109 k0_t7) a + S1x1.size a ≤ S2x8.size a) ∧
  (∀ k0_t7 : Fin (k0_t7_loop v109).trips, ∀ a, (k0_off208 v109 k0_t7) a + S1x1x16x8x128.size a ≤ S2x8x16x8x128.size a) ∧
  (∀ k0_t7 : Fin (k0_t7_loop v109).trips, ∀ a, (k0_off209 v109 k0_t7) a + S1x1.size a ≤ S2x8.size a) ∧
  (∀ k0_t7 : Fin (k0_t7_loop v109).trips, ∀ a, (k0_off210 v109 k0_t7) a + S1x1x16x8x128.size a ≤ S2x8x16x8x128.size a) ∧
  (∀ k0_t7 : Fin (k0_t7_loop v109).trips, ∀ a, (k0_off211 v109 k0_t7) a + S1x1.size a ≤ S2x8.size a) ∧
  (∀ k0_t7 : Fin (k0_t7_loop v109).trips, ∀ a, (k0_off212 v109 k0_t7) a + S1x1x16x8x128.size a ≤ S2x8x16x8x128.size a) ∧
  (∀ k0_t7 : Fin (k0_t7_loop v109).trips, ∀ a, (k0_off213 v109 k0_t7) a + S1x1.size a ≤ S2x8.size a) ∧
  (∀ k0_t7 : Fin (k0_t7_loop v109).trips, ∀ a, (k0_off214 v109 k0_t7) a + S1x1x16x8x128.size a ≤ S2x8x16x8x128.size a) ∧
  (∀ k0_t7 : Fin (k0_t7_loop v109).trips, ∀ a, (k0_off215 v109 k0_t7) a + S1x1.size a ≤ S2x8.size a) ∧
  (∀ k0_t7 : Fin (k0_t7_loop v109).trips, ∀ a, (k0_off216 v109 k0_t7) a + S1x1x16x8x128.size a ≤ S2x8x16x8x128.size a) ∧
  (∀ k0_t7 : Fin (k0_t7_loop v109).trips, ∀ a, (k0_off217 v109 k0_t7) a + S1x1.size a ≤ S2x8.size a) ∧
  (∀ k0_t7 : Fin (k0_t7_loop v109).trips, ∀ a, (k0_off218 v109 k0_t7) a + S1x1x16x8x128.size a ≤ S2x8x16x8x128.size a) ∧
  (∀ k0_t7 : Fin (k0_t7_loop v109).trips, ∀ a, (k0_off219 v109 k0_t7) a + S1x8x16x8x128.size a ≤ S2x8x16x8x128.size a) ∧
  ((k0_t8_loop v109).OK) ∧
  (∀ k0_t8 : Fin (k0_t8_loop v109).trips, ∀ (k0_h10 : k0_cond10 v109 k0_t8 = 1#1), ∀ a, (k0_off220 v109 k0_t8) a + S1x1.size a ≤ S8x512.size a) ∧
  (∀ k0_t8 : Fin (k0_t8_loop v109).trips, ∀ (k0_h10 : k0_cond10 v109 k0_t8 = 1#1), ∀ a, (k0_off221 v109 k0_t8) a + S1x1.size a ≤ S2x8.size a) ∧
  (∀ k0_t8 : Fin (k0_t8_loop v109).trips, ∀ (k0_h10 : k0_cond10 v109 k0_t8 = 1#1), ∀ a, (k0_off222 v109 k0_t8) a + S1x1x16x8x128.size a ≤ S2x8x16x8x128.size a) ∧
  (∀ k0_t8 : Fin (k0_t8_loop v109).trips, ∀ (k0_h10 : k0_cond10 v109 k0_t8 = 1#1), ∀ a, (k0_off224 v109 k0_t8) a + S1x1.size a ≤ S2x8.size a) ∧
  (∀ k0_t8 : Fin (k0_t8_loop v109).trips, ∀ (k0_h10 : k0_cond10 v109 k0_t8 = 1#1), ∀ a, (k0_off225 v109 k0_t8) a + S1x1x16x8x128.size a ≤ S2x8x16x8x128.size a)
def k0_chk40_2 (v109 : BitVec 32) : Prop :=
  (∀ k0_t8 : Fin (k0_t8_loop v109).trips, ∀ (k0_h10 : k0_cond10 v109 k0_t8 = 1#1), ∀ a, (k0_off226 v109 k0_t8) a + S1x1.size a ≤ S8x512.size a) ∧
  (∀ k0_t8 : Fin (k0_t8_loop v109).trips, ∀ (k0_h10 : k0_cond10 v109 k0_t8 = 1#1), ∀ a, (k0_off227 v109 k0_t8) a + S1x1.size a ≤ S2x8.size a) ∧
  (∀ k0_t8 : Fin (k0_t8_loop v109).trips, ∀ (k0_h10 : k0_cond10 v109 k0_t8 = 1#1), ∀ a, (k0_off228 v109 k0_t8) a + S1x1x16x8x128.size a ≤ S2x8x16x8x128.size a) ∧
  (∀ k0_t8 : Fin (k0_t8_loop v109).trips, ∀ (k0_h10 : k0_cond10 v109 k0_t8 = 1#1), ∀ a, (k0_off230 v109 k0_t8) a + S1x1.size a ≤ S2x8.size a) ∧
  (∀ k0_t8 : Fin (k0_t8_loop v109).trips, ∀ (k0_h10 : k0_cond10 v109 k0_t8 = 1#1), ∀ a, (k0_off231 v109 k0_t8) a + S1x1x16x8x128.size a ≤ S2x8x16x8x128.size a) ∧
  (∀ k0_t8 : Fin (k0_t8_loop v109).trips, ∀ (k0_h10 : k0_cond10 v109 k0_t8 = 1#1), ∀ a, (k0_off232 v109 k0_t8) a + S1x1.size a ≤ S8x512.size a) ∧
  (∀ k0_t8 : Fin (k0_t8_loop v109).trips, ∀ (k0_h10 : k0_cond10 v109 k0_t8 = 1#1), ∀ a, (k0_off233 v109 k0_t8) a + S1x1.size a ≤ S2x8.size a) ∧
  (∀ k0_t8 : Fin (k0_t8_loop v109).trips, ∀ (k0_h10 : k0_cond10 v109 k0_t8 = 1#1), ∀ a, (k0_off234 v109 k0_t8) a + S1x1x16x8x128.size a ≤ S2x8x16x8x128.size a) ∧
  (∀ k0_t8 : Fin (k0_t8_loop v109).trips, ∀ (k0_h10 : k0_cond10 v109 k0_t8 = 1#1), ∀ a, (k0_off236 v109 k0_t8) a + S1x1.size a ≤ S2x8.size a) ∧
  (∀ k0_t8 : Fin (k0_t8_loop v109).trips, ∀ (k0_h10 : k0_cond10 v109 k0_t8 = 1#1), ∀ a, (k0_off237 v109 k0_t8) a + S1x1x16x8x128.size a ≤ S2x8x16x8x128.size a) ∧
  (∀ k0_t8 : Fin (k0_t8_loop v109).trips, ∀ (k0_h10 : k0_cond10 v109 k0_t8 = 1#1), ∀ a, (k0_off238 v109 k0_t8) a + S1x1.size a ≤ S8x512.size a) ∧
  (∀ k0_t8 : Fin (k0_t8_loop v109).trips, ∀ (k0_h10 : k0_cond10 v109 k0_t8 = 1#1), ∀ a, (k0_off239 v109 k0_t8) a + S1x1.size a ≤ S2x8.size a) ∧
  (∀ k0_t8 : Fin (k0_t8_loop v109).trips, ∀ (k0_h10 : k0_cond10 v109 k0_t8 = 1#1), ∀ a, (k0_off240 v109 k0_t8) a + S1x1x16x8x128.size a ≤ S2x8x16x8x128.size a) ∧
  (∀ k0_t8 : Fin (k0_t8_loop v109).trips, ∀ (k0_h10 : k0_cond10 v109 k0_t8 = 1#1), ∀ a, (k0_off242 v109 k0_t8) a + S1x1.size a ≤ S2x8.size a) ∧
  (∀ k0_t8 : Fin (k0_t8_loop v109).trips, ∀ (k0_h10 : k0_cond10 v109 k0_t8 = 1#1), ∀ a, (k0_off243 v109 k0_t8) a + S1x1x16x8x128.size a ≤ S2x8x16x8x128.size a) ∧
  (∀ k0_t8 : Fin (k0_t8_loop v109).trips, ∀ (k0_h10 : k0_cond10 v109 k0_t8 = 1#1), ∀ a, (k0_off244 v109 k0_t8) a + S1x1.size a ≤ S8x512.size a) ∧
  (∀ k0_t8 : Fin (k0_t8_loop v109).trips, ∀ (k0_h10 : k0_cond10 v109 k0_t8 = 1#1), ∀ a, (k0_off245 v109 k0_t8) a + S1x1.size a ≤ S2x8.size a) ∧
  (∀ k0_t8 : Fin (k0_t8_loop v109).trips, ∀ (k0_h10 : k0_cond10 v109 k0_t8 = 1#1), ∀ a, (k0_off246 v109 k0_t8) a + S1x1x16x8x128.size a ≤ S2x8x16x8x128.size a) ∧
  (∀ k0_t8 : Fin (k0_t8_loop v109).trips, ∀ (k0_h10 : k0_cond10 v109 k0_t8 = 1#1), ∀ a, (k0_off248 v109 k0_t8) a + S1x1.size a ≤ S2x8.size a) ∧
  (∀ k0_t8 : Fin (k0_t8_loop v109).trips, ∀ (k0_h10 : k0_cond10 v109 k0_t8 = 1#1), ∀ a, (k0_off249 v109 k0_t8) a + S1x1x16x8x128.size a ≤ S2x8x16x8x128.size a) ∧
  (∀ k0_t8 : Fin (k0_t8_loop v109).trips, ∀ (k0_h10 : k0_cond10 v109 k0_t8 = 1#1), ∀ a, (k0_off250 v109 k0_t8) a + S1x1.size a ≤ S8x512.size a) ∧
  (∀ k0_t8 : Fin (k0_t8_loop v109).trips, ∀ (k0_h10 : k0_cond10 v109 k0_t8 = 1#1), ∀ a, (k0_off251 v109 k0_t8) a + S1x1.size a ≤ S2x8.size a) ∧
  (∀ k0_t8 : Fin (k0_t8_loop v109).trips, ∀ (k0_h10 : k0_cond10 v109 k0_t8 = 1#1), ∀ a, (k0_off252 v109 k0_t8) a + S1x1x16x8x128.size a ≤ S2x8x16x8x128.size a) ∧
  (∀ k0_t8 : Fin (k0_t8_loop v109).trips, ∀ (k0_h10 : k0_cond10 v109 k0_t8 = 1#1), ∀ a, (k0_off254 v109 k0_t8) a + S1x1.size a ≤ S2x8.size a) ∧
  (∀ k0_t8 : Fin (k0_t8_loop v109).trips, ∀ (k0_h10 : k0_cond10 v109 k0_t8 = 1#1), ∀ a, (k0_off255 v109 k0_t8) a + S1x1x16x8x128.size a ≤ S2x8x16x8x128.size a) ∧
  (∀ k0_t8 : Fin (k0_t8_loop v109).trips, ∀ (k0_h10 : k0_cond10 v109 k0_t8 = 1#1), ∀ a, (k0_off256 v109 k0_t8) a + S1x1.size a ≤ S8x512.size a) ∧
  (∀ k0_t8 : Fin (k0_t8_loop v109).trips, ∀ (k0_h10 : k0_cond10 v109 k0_t8 = 1#1), ∀ a, (k0_off257 v109 k0_t8) a + S1x1.size a ≤ S2x8.size a) ∧
  (∀ k0_t8 : Fin (k0_t8_loop v109).trips, ∀ (k0_h10 : k0_cond10 v109 k0_t8 = 1#1), ∀ a, (k0_off258 v109 k0_t8) a + S1x1x16x8x128.size a ≤ S2x8x16x8x128.size a) ∧
  (∀ k0_t8 : Fin (k0_t8_loop v109).trips, ∀ (k0_h10 : k0_cond10 v109 k0_t8 = 1#1), ∀ a, (k0_off260 v109 k0_t8) a + S1x1.size a ≤ S2x8.size a) ∧
  (∀ k0_t8 : Fin (k0_t8_loop v109).trips, ∀ (k0_h10 : k0_cond10 v109 k0_t8 = 1#1), ∀ a, (k0_off261 v109 k0_t8) a + S1x1x16x8x128.size a ≤ S2x8x16x8x128.size a) ∧
  (∀ k0_t8 : Fin (k0_t8_loop v109).trips, ∀ (k0_h10 : k0_cond10 v109 k0_t8 = 1#1), ∀ a, (k0_off262 v109 k0_t8) a + S1x1.size a ≤ S8x512.size a) ∧
  (∀ k0_t8 : Fin (k0_t8_loop v109).trips, ∀ (k0_h10 : k0_cond10 v109 k0_t8 = 1#1), ∀ a, (k0_off263 v109 k0_t8) a + S1x1.size a ≤ S2x8.size a)
def k0_chk40_3 (v109 : BitVec 32) : Prop :=
  (∀ k0_t8 : Fin (k0_t8_loop v109).trips, ∀ (k0_h10 : k0_cond10 v109 k0_t8 = 1#1), ∀ a, (k0_off264 v109 k0_t8) a + S1x1x16x8x128.size a ≤ S2x8x16x8x128.size a) ∧
  (∀ k0_t8 : Fin (k0_t8_loop v109).trips, ∀ (k0_h10 : k0_cond10 v109 k0_t8 = 1#1), ∀ a, (k0_off266 v109 k0_t8) a + S1x1.size a ≤ S2x8.size a) ∧
  (∀ k0_t8 : Fin (k0_t8_loop v109).trips, ∀ (k0_h10 : k0_cond10 v109 k0_t8 = 1#1), ∀ a, (k0_off267 v109 k0_t8) a + S1x1x16x8x128.size a ≤ S2x8x16x8x128.size a) ∧
  (∀ k0_t8 : Fin (k0_t8_loop v109).trips, ∀ a, (k0_off268 v109 k0_t8) a + S1x1.size a ≤ S2x8.size a) ∧
  (∀ k0_t8 : Fin (k0_t8_loop v109).trips, ∀ a, (k0_off269 v109 k0_t8) a + S1x1x16x8x128.size a ≤ S2x8x16x8x128.size a) ∧
  (∀ k0_t8 : Fin (k0_t8_loop v109).trips, ∀ a, (k0_off270 v109 k0_t8) a + S1x1.size a ≤ S2x8.size a) ∧
  (∀ k0_t8 : Fin (k0_t8_loop v109).trips, ∀ a, (k0_off271 v109 k0_t8) a + S1x1x16x8x128.size a ≤ S2x8x16x8x128.size a) ∧
  (∀ k0_t8 : Fin (k0_t8_loop v109).trips, ∀ a, (k0_off272 v109 k0_t8) a + S1x1.size a ≤ S2x8.size a) ∧
  (∀ k0_t8 : Fin (k0_t8_loop v109).trips, ∀ a, (k0_off273 v109 k0_t8) a + S1x1x16x8x128.size a ≤ S2x8x16x8x128.size a) ∧
  (∀ k0_t8 : Fin (k0_t8_loop v109).trips, ∀ a, (k0_off274 v109 k0_t8) a + S1x1.size a ≤ S2x8.size a) ∧
  (∀ k0_t8 : Fin (k0_t8_loop v109).trips, ∀ a, (k0_off275 v109 k0_t8) a + S1x1x16x8x128.size a ≤ S2x8x16x8x128.size a) ∧
  (∀ k0_t8 : Fin (k0_t8_loop v109).trips, ∀ a, (k0_off276 v109 k0_t8) a + S1x1.size a ≤ S2x8.size a) ∧
  (∀ k0_t8 : Fin (k0_t8_loop v109).trips, ∀ a, (k0_off277 v109 k0_t8) a + S1x1x16x8x128.size a ≤ S2x8x16x8x128.size a) ∧
  (∀ k0_t8 : Fin (k0_t8_loop v109).trips, ∀ a, (k0_off278 v109 k0_t8) a + S1x1.size a ≤ S2x8.size a) ∧
  (∀ k0_t8 : Fin (k0_t8_loop v109).trips, ∀ a, (k0_off279 v109 k0_t8) a + S1x1x16x8x128.size a ≤ S2x8x16x8x128.size a) ∧
  (∀ k0_t8 : Fin (k0_t8_loop v109).trips, ∀ a, (k0_off280 v109 k0_t8) a + S1x1.size a ≤ S2x8.size a) ∧
  (∀ k0_t8 : Fin (k0_t8_loop v109).trips, ∀ a, (k0_off281 v109 k0_t8) a + S1x1x16x8x128.size a ≤ S2x8x16x8x128.size a) ∧
  (∀ k0_t8 : Fin (k0_t8_loop v109).trips, ∀ a, (k0_off282 v109 k0_t8) a + S1x1.size a ≤ S2x8.size a) ∧
  (∀ k0_t8 : Fin (k0_t8_loop v109).trips, ∀ a, (k0_off283 v109 k0_t8) a + S1x1x16x8x128.size a ≤ S2x8x16x8x128.size a) ∧
  (∀ k0_t8 : Fin (k0_t8_loop v109).trips, ∀ a, (k0_off284 v109 k0_t8) a + S1x8x16x8x128.size a ≤ S2x8x16x8x128.size a)
def k0_chk40 (v109 : BitVec 32) : Prop :=
  k0_chk40_0 v109 ∧
  k0_chk40_1 v109 ∧
  k0_chk40_2 v109 ∧
  k0_chk40_3 v109
theorem k0_t7_ok : ∀ (v109 : BitVec 32) (k0_hw40 : k0_chk40 v109), (k0_t7_loop v109).OK := fun v109 k0_hw40 => k0_hw40.1.1
theorem k0_off155_inb : ∀ (v109 : BitVec 32) (k0_hw40 : k0_chk40 v109) (k0_t7 : Fin (k0_t7_loop v109).trips), ∀ (k0_h9 : k0_cond9 v109 k0_t7 = 1#1), ∀ a, (k0_off155 v109 k0_t7) a + S1x1.size a ≤ S8x512.size a := fun v109 k0_hw40 k0_t7 k0_h9 => k0_hw40.1.2.1 k0_t7 k0_h9
theorem k0_off156_inb : ∀ (v109 : BitVec 32) (k0_hw40 : k0_chk40 v109) (k0_t7 : Fin (k0_t7_loop v109).trips), ∀ (k0_h9 : k0_cond9 v109 k0_t7 = 1#1), ∀ a, (k0_off156 v109 k0_t7) a + S1x1.size a ≤ S2x8.size a := fun v109 k0_hw40 k0_t7 k0_h9 => k0_hw40.1.2.2.1 k0_t7 k0_h9
theorem k0_off157_inb : ∀ (v109 : BitVec 32) (k0_hw40 : k0_chk40 v109) (k0_t7 : Fin (k0_t7_loop v109).trips), ∀ (k0_h9 : k0_cond9 v109 k0_t7 = 1#1), ∀ a, (k0_off157 v109 k0_t7) a + S1x1x16x8x128.size a ≤ S2x8x16x8x128.size a := fun v109 k0_hw40 k0_t7 k0_h9 => k0_hw40.1.2.2.2.1 k0_t7 k0_h9
theorem k0_off159_inb : ∀ (v109 : BitVec 32) (k0_hw40 : k0_chk40 v109) (k0_t7 : Fin (k0_t7_loop v109).trips), ∀ (k0_h9 : k0_cond9 v109 k0_t7 = 1#1), ∀ a, (k0_off159 v109 k0_t7) a + S1x1.size a ≤ S2x8.size a := fun v109 k0_hw40 k0_t7 k0_h9 => k0_hw40.1.2.2.2.2.1 k0_t7 k0_h9
theorem k0_off160_inb : ∀ (v109 : BitVec 32) (k0_hw40 : k0_chk40 v109) (k0_t7 : Fin (k0_t7_loop v109).trips), ∀ (k0_h9 : k0_cond9 v109 k0_t7 = 1#1), ∀ a, (k0_off160 v109 k0_t7) a + S1x1x16x8x128.size a ≤ S2x8x16x8x128.size a := fun v109 k0_hw40 k0_t7 k0_h9 => k0_hw40.1.2.2.2.2.2.1 k0_t7 k0_h9
theorem k0_off161_inb : ∀ (v109 : BitVec 32) (k0_hw40 : k0_chk40 v109) (k0_t7 : Fin (k0_t7_loop v109).trips), ∀ (k0_h9 : k0_cond9 v109 k0_t7 = 1#1), ∀ a, (k0_off161 v109 k0_t7) a + S1x1.size a ≤ S8x512.size a := fun v109 k0_hw40 k0_t7 k0_h9 => k0_hw40.1.2.2.2.2.2.2.1 k0_t7 k0_h9
theorem k0_off162_inb : ∀ (v109 : BitVec 32) (k0_hw40 : k0_chk40 v109) (k0_t7 : Fin (k0_t7_loop v109).trips), ∀ (k0_h9 : k0_cond9 v109 k0_t7 = 1#1), ∀ a, (k0_off162 v109 k0_t7) a + S1x1.size a ≤ S2x8.size a := fun v109 k0_hw40 k0_t7 k0_h9 => k0_hw40.1.2.2.2.2.2.2.2.1 k0_t7 k0_h9
theorem k0_off163_inb : ∀ (v109 : BitVec 32) (k0_hw40 : k0_chk40 v109) (k0_t7 : Fin (k0_t7_loop v109).trips), ∀ (k0_h9 : k0_cond9 v109 k0_t7 = 1#1), ∀ a, (k0_off163 v109 k0_t7) a + S1x1x16x8x128.size a ≤ S2x8x16x8x128.size a := fun v109 k0_hw40 k0_t7 k0_h9 => k0_hw40.1.2.2.2.2.2.2.2.2.1 k0_t7 k0_h9
theorem k0_off165_inb : ∀ (v109 : BitVec 32) (k0_hw40 : k0_chk40 v109) (k0_t7 : Fin (k0_t7_loop v109).trips), ∀ (k0_h9 : k0_cond9 v109 k0_t7 = 1#1), ∀ a, (k0_off165 v109 k0_t7) a + S1x1.size a ≤ S2x8.size a := fun v109 k0_hw40 k0_t7 k0_h9 => k0_hw40.1.2.2.2.2.2.2.2.2.2.1 k0_t7 k0_h9
theorem k0_off166_inb : ∀ (v109 : BitVec 32) (k0_hw40 : k0_chk40 v109) (k0_t7 : Fin (k0_t7_loop v109).trips), ∀ (k0_h9 : k0_cond9 v109 k0_t7 = 1#1), ∀ a, (k0_off166 v109 k0_t7) a + S1x1x16x8x128.size a ≤ S2x8x16x8x128.size a := fun v109 k0_hw40 k0_t7 k0_h9 => k0_hw40.1.2.2.2.2.2.2.2.2.2.2.1 k0_t7 k0_h9
theorem k0_off167_inb : ∀ (v109 : BitVec 32) (k0_hw40 : k0_chk40 v109) (k0_t7 : Fin (k0_t7_loop v109).trips), ∀ (k0_h9 : k0_cond9 v109 k0_t7 = 1#1), ∀ a, (k0_off167 v109 k0_t7) a + S1x1.size a ≤ S8x512.size a := fun v109 k0_hw40 k0_t7 k0_h9 => k0_hw40.1.2.2.2.2.2.2.2.2.2.2.2.1 k0_t7 k0_h9
theorem k0_off168_inb : ∀ (v109 : BitVec 32) (k0_hw40 : k0_chk40 v109) (k0_t7 : Fin (k0_t7_loop v109).trips), ∀ (k0_h9 : k0_cond9 v109 k0_t7 = 1#1), ∀ a, (k0_off168 v109 k0_t7) a + S1x1.size a ≤ S2x8.size a := fun v109 k0_hw40 k0_t7 k0_h9 => k0_hw40.1.2.2.2.2.2.2.2.2.2.2.2.2.1 k0_t7 k0_h9
theorem k0_off169_inb : ∀ (v109 : BitVec 32) (k0_hw40 : k0_chk40 v109) (k0_t7 : Fin (k0_t7_loop v109).trips), ∀ (k0_h9 : k0_cond9 v109 k0_t7 = 1#1), ∀ a, (k0_off169 v109 k0_t7) a + S1x1x16x8x128.size a ≤ S2x8x16x8x128.size a := fun v109 k0_hw40 k0_t7 k0_h9 => k0_hw40.1.2.2.2.2.2.2.2.2.2.2.2.2.2.1 k0_t7 k0_h9
theorem k0_off171_inb : ∀ (v109 : BitVec 32) (k0_hw40 : k0_chk40 v109) (k0_t7 : Fin (k0_t7_loop v109).trips), ∀ (k0_h9 : k0_cond9 v109 k0_t7 = 1#1), ∀ a, (k0_off171 v109 k0_t7) a + S1x1.size a ≤ S2x8.size a := fun v109 k0_hw40 k0_t7 k0_h9 => k0_hw40.1.2.2.2.2.2.2.2.2.2.2.2.2.2.2.1 k0_t7 k0_h9
theorem k0_off172_inb : ∀ (v109 : BitVec 32) (k0_hw40 : k0_chk40 v109) (k0_t7 : Fin (k0_t7_loop v109).trips), ∀ (k0_h9 : k0_cond9 v109 k0_t7 = 1#1), ∀ a, (k0_off172 v109 k0_t7) a + S1x1x16x8x128.size a ≤ S2x8x16x8x128.size a := fun v109 k0_hw40 k0_t7 k0_h9 => k0_hw40.1.2.2.2.2.2.2.2.2.2.2.2.2.2.2.2.1 k0_t7 k0_h9
theorem k0_off173_inb : ∀ (v109 : BitVec 32) (k0_hw40 : k0_chk40 v109) (k0_t7 : Fin (k0_t7_loop v109).trips), ∀ (k0_h9 : k0_cond9 v109 k0_t7 = 1#1), ∀ a, (k0_off173 v109 k0_t7) a + S1x1.size a ≤ S8x512.size a := fun v109 k0_hw40 k0_t7 k0_h9 => k0_hw40.1.2.2.2.2.2.2.2.2.2.2.2.2.2.2.2.2.1 k0_t7 k0_h9
theorem k0_off174_inb : ∀ (v109 : BitVec 32) (k0_hw40 : k0_chk40 v109) (k0_t7 : Fin (k0_t7_loop v109).trips), ∀ (k0_h9 : k0_cond9 v109 k0_t7 = 1#1), ∀ a, (k0_off174 v109 k0_t7) a + S1x1.size a ≤ S2x8.size a := fun v109 k0_hw40 k0_t7 k0_h9 => k0_hw40.1.2.2.2.2.2.2.2.2.2.2.2.2.2.2.2.2.2.1 k0_t7 k0_h9
theorem k0_off175_inb : ∀ (v109 : BitVec 32) (k0_hw40 : k0_chk40 v109) (k0_t7 : Fin (k0_t7_loop v109).trips), ∀ (k0_h9 : k0_cond9 v109 k0_t7 = 1#1), ∀ a, (k0_off175 v109 k0_t7) a + S1x1x16x8x128.size a ≤ S2x8x16x8x128.size a := fun v109 k0_hw40 k0_t7 k0_h9 => k0_hw40.1.2.2.2.2.2.2.2.2.2.2.2.2.2.2.2.2.2.2.1 k0_t7 k0_h9
theorem k0_off177_inb : ∀ (v109 : BitVec 32) (k0_hw40 : k0_chk40 v109) (k0_t7 : Fin (k0_t7_loop v109).trips), ∀ (k0_h9 : k0_cond9 v109 k0_t7 = 1#1), ∀ a, (k0_off177 v109 k0_t7) a + S1x1.size a ≤ S2x8.size a := fun v109 k0_hw40 k0_t7 k0_h9 => k0_hw40.1.2.2.2.2.2.2.2.2.2.2.2.2.2.2.2.2.2.2.2.1 k0_t7 k0_h9
theorem k0_off178_inb : ∀ (v109 : BitVec 32) (k0_hw40 : k0_chk40 v109) (k0_t7 : Fin (k0_t7_loop v109).trips), ∀ (k0_h9 : k0_cond9 v109 k0_t7 = 1#1), ∀ a, (k0_off178 v109 k0_t7) a + S1x1x16x8x128.size a ≤ S2x8x16x8x128.size a := fun v109 k0_hw40 k0_t7 k0_h9 => k0_hw40.1.2.2.2.2.2.2.2.2.2.2.2.2.2.2.2.2.2.2.2.2.1 k0_t7 k0_h9
theorem k0_off179_inb : ∀ (v109 : BitVec 32) (k0_hw40 : k0_chk40 v109) (k0_t7 : Fin (k0_t7_loop v109).trips), ∀ (k0_h9 : k0_cond9 v109 k0_t7 = 1#1), ∀ a, (k0_off179 v109 k0_t7) a + S1x1.size a ≤ S8x512.size a := fun v109 k0_hw40 k0_t7 k0_h9 => k0_hw40.1.2.2.2.2.2.2.2.2.2.2.2.2.2.2.2.2.2.2.2.2.2.1 k0_t7 k0_h9
theorem k0_off180_inb : ∀ (v109 : BitVec 32) (k0_hw40 : k0_chk40 v109) (k0_t7 : Fin (k0_t7_loop v109).trips), ∀ (k0_h9 : k0_cond9 v109 k0_t7 = 1#1), ∀ a, (k0_off180 v109 k0_t7) a + S1x1.size a ≤ S2x8.size a := fun v109 k0_hw40 k0_t7 k0_h9 => k0_hw40.1.2.2.2.2.2.2.2.2.2.2.2.2.2.2.2.2.2.2.2.2.2.2.1 k0_t7 k0_h9
theorem k0_off181_inb : ∀ (v109 : BitVec 32) (k0_hw40 : k0_chk40 v109) (k0_t7 : Fin (k0_t7_loop v109).trips), ∀ (k0_h9 : k0_cond9 v109 k0_t7 = 1#1), ∀ a, (k0_off181 v109 k0_t7) a + S1x1x16x8x128.size a ≤ S2x8x16x8x128.size a := fun v109 k0_hw40 k0_t7 k0_h9 => k0_hw40.1.2.2.2.2.2.2.2.2.2.2.2.2.2.2.2.2.2.2.2.2.2.2.2.1 k0_t7 k0_h9
theorem k0_off183_inb : ∀ (v109 : BitVec 32) (k0_hw40 : k0_chk40 v109) (k0_t7 : Fin (k0_t7_loop v109).trips), ∀ (k0_h9 : k0_cond9 v109 k0_t7 = 1#1), ∀ a, (k0_off183 v109 k0_t7) a + S1x1.size a ≤ S2x8.size a := fun v109 k0_hw40 k0_t7 k0_h9 => k0_hw40.1.2.2.2.2.2.2.2.2.2.2.2.2.2.2.2.2.2.2.2.2.2.2.2.2.1 k0_t7 k0_h9
theorem k0_off184_inb : ∀ (v109 : BitVec 32) (k0_hw40 : k0_chk40 v109) (k0_t7 : Fin (k0_t7_loop v109).trips), ∀ (k0_h9 : k0_cond9 v109 k0_t7 = 1#1), ∀ a, (k0_off184 v109 k0_t7) a + S1x1x16x8x128.size a ≤ S2x8x16x8x128.size a := fun v109 k0_hw40 k0_t7 k0_h9 => k0_hw40.1.2.2.2.2.2.2.2.2.2.2.2.2.2.2.2.2.2.2.2.2.2.2.2.2.2.1 k0_t7 k0_h9
theorem k0_off185_inb : ∀ (v109 : BitVec 32) (k0_hw40 : k0_chk40 v109) (k0_t7 : Fin (k0_t7_loop v109).trips), ∀ (k0_h9 : k0_cond9 v109 k0_t7 = 1#1), ∀ a, (k0_off185 v109 k0_t7) a + S1x1.size a ≤ S8x512.size a := fun v109 k0_hw40 k0_t7 k0_h9 => k0_hw40.1.2.2.2.2.2.2.2.2.2.2.2.2.2.2.2.2.2.2.2.2.2.2.2.2.2.2.1 k0_t7 k0_h9
theorem k0_off186_inb : ∀ (v109 : BitVec 32) (k0_hw40 : k0_chk40 v109) (k0_t7 : Fin (k0_t7_loop v109).trips), ∀ (k0_h9 : k0_cond9 v109 k0_t7 = 1#1), ∀ a, (k0_off186 v109 k0_t7) a + S1x1.size a ≤ S2x8.size a := fun v109 k0_hw40 k0_t7 k0_h9 => k0_hw40.1.2.2.2.2.2.2.2.2.2.2.2.2.2.2.2.2.2.2.2.2.2.2.2.2.2.2.2.1 k0_t7 k0_h9
theorem k0_off187_inb : ∀ (v109 : BitVec 32) (k0_hw40 : k0_chk40 v109) (k0_t7 : Fin (k0_t7_loop v109).trips), ∀ (k0_h9 : k0_cond9 v109 k0_t7 = 1#1), ∀ a, (k0_off187 v109 k0_t7) a + S1x1x16x8x128.size a ≤ S2x8x16x8x128.size a := fun v109 k0_hw40 k0_t7 k0_h9 => k0_hw40.1.2.2.2.2.2.2.2.2.2.2.2.2.2.2.2.2.2.2.2.2.2.2.2.2.2.2.2.2.1 k0_t7 k0_h9
theorem k0_off189_inb : ∀ (v109 : BitVec 32) (k0_hw40 : k0_chk40 v109) (k0_t7 : Fin (k0_t7_loop v109).trips), ∀ (k0_h9 : k0_cond9 v109 k0_t7 = 1#1), ∀ a, (k0_off189 v109 k0_t7) a + S1x1.size a ≤ S2x8.size a := fun v109 k0_hw40 k0_t7 k0_h9 => k0_hw40.1.2.2.2.2.2.2.2.2.2.2.2.2.2.2.2.2.2.2.2.2.2.2.2.2.2.2.2.2.2.1 k0_t7 k0_h9
theorem k0_off190_inb : ∀ (v109 : BitVec 32) (k0_hw40 : k0_chk40 v109) (k0_t7 : Fin (k0_t7_loop v109).trips), ∀ (k0_h9 : k0_cond9 v109 k0_t7 = 1#1), ∀ a, (k0_off190 v109 k0_t7) a + S1x1x16x8x128.size a ≤ S2x8x16x8x128.size a := fun v109 k0_hw40 k0_t7 k0_h9 => k0_hw40.1.2.2.2.2.2.2.2.2.2.2.2.2.2.2.2.2.2.2.2.2.2.2.2.2.2.2.2.2.2.2.1 k0_t7 k0_h9
theorem k0_off191_inb : ∀ (v109 : BitVec 32) (k0_hw40 : k0_chk40 v109) (k0_t7 : Fin (k0_t7_loop v109).trips), ∀ (k0_h9 : k0_cond9 v109 k0_t7 = 1#1), ∀ a, (k0_off191 v109 k0_t7) a + S1x1.size a ≤ S8x512.size a := fun v109 k0_hw40 k0_t7 k0_h9 => k0_hw40.1.2.2.2.2.2.2.2.2.2.2.2.2.2.2.2.2.2.2.2.2.2.2.2.2.2.2.2.2.2.2.2 k0_t7 k0_h9
theorem k0_off192_inb : ∀ (v109 : BitVec 32) (k0_hw40 : k0_chk40 v109) (k0_t7 : Fin (k0_t7_loop v109).trips), ∀ (k0_h9 : k0_cond9 v109 k0_t7 = 1#1), ∀ a, (k0_off192 v109 k0_t7) a + S1x1.size a ≤ S2x8.size a := fun v109 k0_hw40 k0_t7 k0_h9 => k0_hw40.2.1.1 k0_t7 k0_h9
theorem k0_off193_inb : ∀ (v109 : BitVec 32) (k0_hw40 : k0_chk40 v109) (k0_t7 : Fin (k0_t7_loop v109).trips), ∀ (k0_h9 : k0_cond9 v109 k0_t7 = 1#1), ∀ a, (k0_off193 v109 k0_t7) a + S1x1x16x8x128.size a ≤ S2x8x16x8x128.size a := fun v109 k0_hw40 k0_t7 k0_h9 => k0_hw40.2.1.2.1 k0_t7 k0_h9
theorem k0_off195_inb : ∀ (v109 : BitVec 32) (k0_hw40 : k0_chk40 v109) (k0_t7 : Fin (k0_t7_loop v109).trips), ∀ (k0_h9 : k0_cond9 v109 k0_t7 = 1#1), ∀ a, (k0_off195 v109 k0_t7) a + S1x1.size a ≤ S2x8.size a := fun v109 k0_hw40 k0_t7 k0_h9 => k0_hw40.2.1.2.2.1 k0_t7 k0_h9
theorem k0_off196_inb : ∀ (v109 : BitVec 32) (k0_hw40 : k0_chk40 v109) (k0_t7 : Fin (k0_t7_loop v109).trips), ∀ (k0_h9 : k0_cond9 v109 k0_t7 = 1#1), ∀ a, (k0_off196 v109 k0_t7) a + S1x1x16x8x128.size a ≤ S2x8x16x8x128.size a := fun v109 k0_hw40 k0_t7 k0_h9 => k0_hw40.2.1.2.2.2.1 k0_t7 k0_h9
theorem k0_off197_inb : ∀ (v109 : BitVec 32) (k0_hw40 : k0_chk40 v109) (k0_t7 : Fin (k0_t7_loop v109).trips), ∀ (k0_h9 : k0_cond9 v109 k0_t7 = 1#1), ∀ a, (k0_off197 v109 k0_t7) a + S1x1.size a ≤ S8x512.size a := fun v109 k0_hw40 k0_t7 k0_h9 => k0_hw40.2.1.2.2.2.2.1 k0_t7 k0_h9
theorem k0_off198_inb : ∀ (v109 : BitVec 32) (k0_hw40 : k0_chk40 v109) (k0_t7 : Fin (k0_t7_loop v109).trips), ∀ (k0_h9 : k0_cond9 v109 k0_t7 = 1#1), ∀ a, (k0_off198 v109 k0_t7) a + S1x1.size a ≤ S2x8.size a := fun v109 k0_hw40 k0_t7 k0_h9 => k0_hw40.2.1.2.2.2.2.2.1 k0_t7 k0_h9
theorem k0_off199_inb : ∀ (v109 : BitVec 32) (k0_hw40 : k0_chk40 v109) (k0_t7 : Fin (k0_t7_loop v109).trips), ∀ (k0_h9 : k0_cond9 v109 k0_t7 = 1#1), ∀ a, (k0_off199 v109 k0_t7) a + S1x1x16x8x128.size a ≤ S2x8x16x8x128.size a := fun v109 k0_hw40 k0_t7 k0_h9 => k0_hw40.2.1.2.2.2.2.2.2.1 k0_t7 k0_h9
theorem k0_off201_inb : ∀ (v109 : BitVec 32) (k0_hw40 : k0_chk40 v109) (k0_t7 : Fin (k0_t7_loop v109).trips), ∀ (k0_h9 : k0_cond9 v109 k0_t7 = 1#1), ∀ a, (k0_off201 v109 k0_t7) a + S1x1.size a ≤ S2x8.size a := fun v109 k0_hw40 k0_t7 k0_h9 => k0_hw40.2.1.2.2.2.2.2.2.2.1 k0_t7 k0_h9
theorem k0_off202_inb : ∀ (v109 : BitVec 32) (k0_hw40 : k0_chk40 v109) (k0_t7 : Fin (k0_t7_loop v109).trips), ∀ (k0_h9 : k0_cond9 v109 k0_t7 = 1#1), ∀ a, (k0_off202 v109 k0_t7) a + S1x1x16x8x128.size a ≤ S2x8x16x8x128.size a := fun v109 k0_hw40 k0_t7 k0_h9 => k0_hw40.2.1.2.2.2.2.2.2.2.2.1 k0_t7 k0_h9
theorem k0_off203_inb : ∀ (v109 : BitVec 32) (k0_hw40 : k0_chk40 v109) (k0_t7 : Fin (k0_t7_loop v109).trips), ∀ a, (k0_off203 v109 k0_t7) a + S1x1.size a ≤ S2x8.size a := fun v109 k0_hw40 k0_t7 => k0_hw40.2.1.2.2.2.2.2.2.2.2.2.1 k0_t7
theorem k0_off204_inb : ∀ (v109 : BitVec 32) (k0_hw40 : k0_chk40 v109) (k0_t7 : Fin (k0_t7_loop v109).trips), ∀ a, (k0_off204 v109 k0_t7) a + S1x1x16x8x128.size a ≤ S2x8x16x8x128.size a := fun v109 k0_hw40 k0_t7 => k0_hw40.2.1.2.2.2.2.2.2.2.2.2.2.1 k0_t7
theorem k0_off205_inb : ∀ (v109 : BitVec 32) (k0_hw40 : k0_chk40 v109) (k0_t7 : Fin (k0_t7_loop v109).trips), ∀ a, (k0_off205 v109 k0_t7) a + S1x1.size a ≤ S2x8.size a := fun v109 k0_hw40 k0_t7 => k0_hw40.2.1.2.2.2.2.2.2.2.2.2.2.2.1 k0_t7
theorem k0_off206_inb : ∀ (v109 : BitVec 32) (k0_hw40 : k0_chk40 v109) (k0_t7 : Fin (k0_t7_loop v109).trips), ∀ a, (k0_off206 v109 k0_t7) a + S1x1x16x8x128.size a ≤ S2x8x16x8x128.size a := fun v109 k0_hw40 k0_t7 => k0_hw40.2.1.2.2.2.2.2.2.2.2.2.2.2.2.1 k0_t7
theorem k0_off207_inb : ∀ (v109 : BitVec 32) (k0_hw40 : k0_chk40 v109) (k0_t7 : Fin (k0_t7_loop v109).trips), ∀ a, (k0_off207 v109 k0_t7) a + S1x1.size a ≤ S2x8.size a := fun v109 k0_hw40 k0_t7 => k0_hw40.2.1.2.2.2.2.2.2.2.2.2.2.2.2.2.1 k0_t7
theorem k0_off208_inb : ∀ (v109 : BitVec 32) (k0_hw40 : k0_chk40 v109) (k0_t7 : Fin (k0_t7_loop v109).trips), ∀ a, (k0_off208 v109 k0_t7) a + S1x1x16x8x128.size a ≤ S2x8x16x8x128.size a := fun v109 k0_hw40 k0_t7 => k0_hw40.2.1.2.2.2.2.2.2.2.2.2.2.2.2.2.2.1 k0_t7
theorem k0_off209_inb : ∀ (v109 : BitVec 32) (k0_hw40 : k0_chk40 v109) (k0_t7 : Fin (k0_t7_loop v109).trips), ∀ a, (k0_off209 v109 k0_t7) a + S1x1.size a ≤ S2x8.size a := fun v109 k0_hw40 k0_t7 => k0_hw40.2.1.2.2.2.2.2.2.2.2.2.2.2.2.2.2.2.1 k0_t7
theorem k0_off210_inb : ∀ (v109 : BitVec 32) (k0_hw40 : k0_chk40 v109) (k0_t7 : Fin (k0_t7_loop v109).trips), ∀ a, (k0_off210 v109 k0_t7) a + S1x1x16x8x128.size a ≤ S2x8x16x8x128.size a := fun v109 k0_hw40 k0_t7 => k0_hw40.2.1.2.2.2.2.2.2.2.2.2.2.2.2.2.2.2.2.1 k0_t7
theorem k0_off211_inb : ∀ (v109 : BitVec 32) (k0_hw40 : k0_chk40 v109) (k0_t7 : Fin (k0_t7_loop v109).trips), ∀ a, (k0_off211 v109 k0_t7) a + S1x1.size a ≤ S2x8.size a := fun v109 k0_hw40 k0_t7 => k0_hw40.2.1.2.2.2.2.2.2.2.2.2.2.2.2.2.2.2.2.2.1 k0_t7
theorem k0_off212_inb : ∀ (v109 : BitVec 32) (k0_hw40 : k0_chk40 v109) (k0_t7 : Fin (k0_t7_loop v109).trips), ∀ a, (k0_off212 v109 k0_t7) a + S1x1x16x8x128.size a ≤ S2x8x16x8x128.size a := fun v109 k0_hw40 k0_t7 => k0_hw40.2.1.2.2.2.2.2.2.2.2.2.2.2.2.2.2.2.2.2.2.1 k0_t7
theorem k0_off213_inb : ∀ (v109 : BitVec 32) (k0_hw40 : k0_chk40 v109) (k0_t7 : Fin (k0_t7_loop v109).trips), ∀ a, (k0_off213 v109 k0_t7) a + S1x1.size a ≤ S2x8.size a := fun v109 k0_hw40 k0_t7 => k0_hw40.2.1.2.2.2.2.2.2.2.2.2.2.2.2.2.2.2.2.2.2.2.1 k0_t7
theorem k0_off214_inb : ∀ (v109 : BitVec 32) (k0_hw40 : k0_chk40 v109) (k0_t7 : Fin (k0_t7_loop v109).trips), ∀ a, (k0_off214 v109 k0_t7) a + S1x1x16x8x128.size a ≤ S2x8x16x8x128.size a := fun v109 k0_hw40 k0_t7 => k0_hw40.2.1.2.2.2.2.2.2.2.2.2.2.2.2.2.2.2.2.2.2.2.2.1 k0_t7
theorem k0_off215_inb : ∀ (v109 : BitVec 32) (k0_hw40 : k0_chk40 v109) (k0_t7 : Fin (k0_t7_loop v109).trips), ∀ a, (k0_off215 v109 k0_t7) a + S1x1.size a ≤ S2x8.size a := fun v109 k0_hw40 k0_t7 => k0_hw40.2.1.2.2.2.2.2.2.2.2.2.2.2.2.2.2.2.2.2.2.2.2.2.1 k0_t7
theorem k0_off216_inb : ∀ (v109 : BitVec 32) (k0_hw40 : k0_chk40 v109) (k0_t7 : Fin (k0_t7_loop v109).trips), ∀ a, (k0_off216 v109 k0_t7) a + S1x1x16x8x128.size a ≤ S2x8x16x8x128.size a := fun v109 k0_hw40 k0_t7 => k0_hw40.2.1.2.2.2.2.2.2.2.2.2.2.2.2.2.2.2.2.2.2.2.2.2.2.1 k0_t7
theorem k0_off217_inb : ∀ (v109 : BitVec 32) (k0_hw40 : k0_chk40 v109) (k0_t7 : Fin (k0_t7_loop v109).trips), ∀ a, (k0_off217 v109 k0_t7) a + S1x1.size a ≤ S2x8.size a := fun v109 k0_hw40 k0_t7 => k0_hw40.2.1.2.2.2.2.2.2.2.2.2.2.2.2.2.2.2.2.2.2.2.2.2.2.2.1 k0_t7
theorem k0_off218_inb : ∀ (v109 : BitVec 32) (k0_hw40 : k0_chk40 v109) (k0_t7 : Fin (k0_t7_loop v109).trips), ∀ a, (k0_off218 v109 k0_t7) a + S1x1x16x8x128.size a ≤ S2x8x16x8x128.size a := fun v109 k0_hw40 k0_t7 => k0_hw40.2.1.2.2.2.2.2.2.2.2.2.2.2.2.2.2.2.2.2.2.2.2.2.2.2.2.1 k0_t7
theorem k0_off219_inb : ∀ (v109 : BitVec 32) (k0_hw40 : k0_chk40 v109) (k0_t7 : Fin (k0_t7_loop v109).trips), ∀ a, (k0_off219 v109 k0_t7) a + S1x8x16x8x128.size a ≤ S2x8x16x8x128.size a := fun v109 k0_hw40 k0_t7 => k0_hw40.2.1.2.2.2.2.2.2.2.2.2.2.2.2.2.2.2.2.2.2.2.2.2.2.2.2.2.1 k0_t7
theorem k0_t8_ok : ∀ (v109 : BitVec 32) (k0_hw40 : k0_chk40 v109), (k0_t8_loop v109).OK := fun v109 k0_hw40 => k0_hw40.2.1.2.2.2.2.2.2.2.2.2.2.2.2.2.2.2.2.2.2.2.2.2.2.2.2.2.2.1
theorem k0_off220_inb : ∀ (v109 : BitVec 32) (k0_hw40 : k0_chk40 v109) (k0_t8 : Fin (k0_t8_loop v109).trips), ∀ (k0_h10 : k0_cond10 v109 k0_t8 = 1#1), ∀ a, (k0_off220 v109 k0_t8) a + S1x1.size a ≤ S8x512.size a := fun v109 k0_hw40 k0_t8 k0_h10 => k0_hw40.2.1.2.2.2.2.2.2.2.2.2.2.2.2.2.2.2.2.2.2.2.2.2.2.2.2.2.2.2.1 k0_t8 k0_h10
theorem k0_off221_inb : ∀ (v109 : BitVec 32) (k0_hw40 : k0_chk40 v109) (k0_t8 : Fin (k0_t8_loop v109).trips), ∀ (k0_h10 : k0_cond10 v109 k0_t8 = 1#1), ∀ a, (k0_off221 v109 k0_t8) a + S1x1.size a ≤ S2x8.size a := fun v109 k0_hw40 k0_t8 k0_h10 => k0_hw40.2.1.2.2.2.2.2.2.2.2.2.2.2.2.2.2.2.2.2.2.2.2.2.2.2.2.2.2.2.2.1 k0_t8 k0_h10
theorem k0_off222_inb : ∀ (v109 : BitVec 32) (k0_hw40 : k0_chk40 v109) (k0_t8 : Fin (k0_t8_loop v109).trips), ∀ (k0_h10 : k0_cond10 v109 k0_t8 = 1#1), ∀ a, (k0_off222 v109 k0_t8) a + S1x1x16x8x128.size a ≤ S2x8x16x8x128.size a := fun v109 k0_hw40 k0_t8 k0_h10 => k0_hw40.2.1.2.2.2.2.2.2.2.2.2.2.2.2.2.2.2.2.2.2.2.2.2.2.2.2.2.2.2.2.2.1 k0_t8 k0_h10
theorem k0_off224_inb : ∀ (v109 : BitVec 32) (k0_hw40 : k0_chk40 v109) (k0_t8 : Fin (k0_t8_loop v109).trips), ∀ (k0_h10 : k0_cond10 v109 k0_t8 = 1#1), ∀ a, (k0_off224 v109 k0_t8) a + S1x1.size a ≤ S2x8.size a := fun v109 k0_hw40 k0_t8 k0_h10 => k0_hw40.2.1.2.2.2.2.2.2.2.2.2.2.2.2.2.2.2.2.2.2.2.2.2.2.2.2.2.2.2.2.2.2.1 k0_t8 k0_h10
theorem k0_off225_inb : ∀ (v109 : BitVec 32) (k0_hw40 : k0_chk40 v109) (k0_t8 : Fin (k0_t8_loop v109).trips), ∀ (k0_h10 : k0_cond10 v109 k0_t8 = 1#1), ∀ a, (k0_off225 v109 k0_t8) a + S1x1x16x8x128.size a ≤ S2x8x16x8x128.size a := fun v109 k0_hw40 k0_t8 k0_h10 => k0_hw40.2.1.2.2.2.2.2.2.2.2.2.2.2.2.2.2.2.2.2.2.2.2.2.2.2.2.2.2.2.2.2.2.2 k0_t8 k0_h10
theorem k0_off226_inb : ∀ (v109 : BitVec 32) (k0_hw40 : k0_chk40 v109) (k0_t8 : Fin (k0_t8_loop v109).trips), ∀ (k0_h10 : k0_cond10 v109 k0_t8 = 1#1), ∀ a, (k0_off226 v109 k0_t8) a + S1x1.size a ≤ S8x512.size a := fun v109 k0_hw40 k0_t8 k0_h10 => k0_hw40.2.2.1.1 k0_t8 k0_h10
theorem k0_off227_inb : ∀ (v109 : BitVec 32) (k0_hw40 : k0_chk40 v109) (k0_t8 : Fin (k0_t8_loop v109).trips), ∀ (k0_h10 : k0_cond10 v109 k0_t8 = 1#1), ∀ a, (k0_off227 v109 k0_t8) a + S1x1.size a ≤ S2x8.size a := fun v109 k0_hw40 k0_t8 k0_h10 => k0_hw40.2.2.1.2.1 k0_t8 k0_h10
theorem k0_off228_inb : ∀ (v109 : BitVec 32) (k0_hw40 : k0_chk40 v109) (k0_t8 : Fin (k0_t8_loop v109).trips), ∀ (k0_h10 : k0_cond10 v109 k0_t8 = 1#1), ∀ a, (k0_off228 v109 k0_t8) a + S1x1x16x8x128.size a ≤ S2x8x16x8x128.size a := fun v109 k0_hw40 k0_t8 k0_h10 => k0_hw40.2.2.1.2.2.1 k0_t8 k0_h10
theorem k0_off230_inb : ∀ (v109 : BitVec 32) (k0_hw40 : k0_chk40 v109) (k0_t8 : Fin (k0_t8_loop v109).trips), ∀ (k0_h10 : k0_cond10 v109 k0_t8 = 1#1), ∀ a, (k0_off230 v109 k0_t8) a + S1x1.size a ≤ S2x8.size a := fun v109 k0_hw40 k0_t8 k0_h10 => k0_hw40.2.2.1.2.2.2.1 k0_t8 k0_h10
theorem k0_off231_inb : ∀ (v109 : BitVec 32) (k0_hw40 : k0_chk40 v109) (k0_t8 : Fin (k0_t8_loop v109).trips), ∀ (k0_h10 : k0_cond10 v109 k0_t8 = 1#1), ∀ a, (k0_off231 v109 k0_t8) a + S1x1x16x8x128.size a ≤ S2x8x16x8x128.size a := fun v109 k0_hw40 k0_t8 k0_h10 => k0_hw40.2.2.1.2.2.2.2.1 k0_t8 k0_h10
theorem k0_off232_inb : ∀ (v109 : BitVec 32) (k0_hw40 : k0_chk40 v109) (k0_t8 : Fin (k0_t8_loop v109).trips), ∀ (k0_h10 : k0_cond10 v109 k0_t8 = 1#1), ∀ a, (k0_off232 v109 k0_t8) a + S1x1.size a ≤ S8x512.size a := fun v109 k0_hw40 k0_t8 k0_h10 => k0_hw40.2.2.1.2.2.2.2.2.1 k0_t8 k0_h10
theorem k0_off233_inb : ∀ (v109 : BitVec 32) (k0_hw40 : k0_chk40 v109) (k0_t8 : Fin (k0_t8_loop v109).trips), ∀ (k0_h10 : k0_cond10 v109 k0_t8 = 1#1), ∀ a, (k0_off233 v109 k0_t8) a + S1x1.size a ≤ S2x8.size a := fun v109 k0_hw40 k0_t8 k0_h10 => k0_hw40.2.2.1.2.2.2.2.2.2.1 k0_t8 k0_h10
theorem k0_off234_inb : ∀ (v109 : BitVec 32) (k0_hw40 : k0_chk40 v109) (k0_t8 : Fin (k0_t8_loop v109).trips), ∀ (k0_h10 : k0_cond10 v109 k0_t8 = 1#1), ∀ a, (k0_off234 v109 k0_t8) a + S1x1x16x8x128.size a ≤ S2x8x16x8x128.size a := fun v109 k0_hw40 k0_t8 k0_h10 => k0_hw40.2.2.1.2.2.2.2.2.2.2.1 k0_t8 k0_h10
theorem k0_off236_inb : ∀ (v109 : BitVec 32) (k0_hw40 : k0_chk40 v109) (k0_t8 : Fin (k0_t8_loop v109).trips), ∀ (k0_h10 : k0_cond10 v109 k0_t8 = 1#1), ∀ a, (k0_off236 v109 k0_t8) a + S1x1.size a ≤ S2x8.size a := fun v109 k0_hw40 k0_t8 k0_h10 => k0_hw40.2.2.1.2.2.2.2.2.2.2.2.1 k0_t8 k0_h10
theorem k0_off237_inb : ∀ (v109 : BitVec 32) (k0_hw40 : k0_chk40 v109) (k0_t8 : Fin (k0_t8_loop v109).trips), ∀ (k0_h10 : k0_cond10 v109 k0_t8 = 1#1), ∀ a, (k0_off237 v109 k0_t8) a + S1x1x16x8x128.size a ≤ S2x8x16x8x128.size a := fun v109 k0_hw40 k0_t8 k0_h10 => k0_hw40.2.2.1.2.2.2.2.2.2.2.2.2.1 k0_t8 k0_h10
theorem k0_off238_inb : ∀ (v109 : BitVec 32) (k0_hw40 : k0_chk40 v109) (k0_t8 : Fin (k0_t8_loop v109).trips), ∀ (k0_h10 : k0_cond10 v109 k0_t8 = 1#1), ∀ a, (k0_off238 v109 k0_t8) a + S1x1.size a ≤ S8x512.size a := fun v109 k0_hw40 k0_t8 k0_h10 => k0_hw40.2.2.1.2.2.2.2.2.2.2.2.2.2.1 k0_t8 k0_h10
theorem k0_off239_inb : ∀ (v109 : BitVec 32) (k0_hw40 : k0_chk40 v109) (k0_t8 : Fin (k0_t8_loop v109).trips), ∀ (k0_h10 : k0_cond10 v109 k0_t8 = 1#1), ∀ a, (k0_off239 v109 k0_t8) a + S1x1.size a ≤ S2x8.size a := fun v109 k0_hw40 k0_t8 k0_h10 => k0_hw40.2.2.1.2.2.2.2.2.2.2.2.2.2.2.1 k0_t8 k0_h10
theorem k0_off240_inb : ∀ (v109 : BitVec 32) (k0_hw40 : k0_chk40 v109) (k0_t8 : Fin (k0_t8_loop v109).trips), ∀ (k0_h10 : k0_cond10 v109 k0_t8 = 1#1), ∀ a, (k0_off240 v109 k0_t8) a + S1x1x16x8x128.size a ≤ S2x8x16x8x128.size a := fun v109 k0_hw40 k0_t8 k0_h10 => k0_hw40.2.2.1.2.2.2.2.2.2.2.2.2.2.2.2.1 k0_t8 k0_h10
theorem k0_off242_inb : ∀ (v109 : BitVec 32) (k0_hw40 : k0_chk40 v109) (k0_t8 : Fin (k0_t8_loop v109).trips), ∀ (k0_h10 : k0_cond10 v109 k0_t8 = 1#1), ∀ a, (k0_off242 v109 k0_t8) a + S1x1.size a ≤ S2x8.size a := fun v109 k0_hw40 k0_t8 k0_h10 => k0_hw40.2.2.1.2.2.2.2.2.2.2.2.2.2.2.2.2.1 k0_t8 k0_h10
theorem k0_off243_inb : ∀ (v109 : BitVec 32) (k0_hw40 : k0_chk40 v109) (k0_t8 : Fin (k0_t8_loop v109).trips), ∀ (k0_h10 : k0_cond10 v109 k0_t8 = 1#1), ∀ a, (k0_off243 v109 k0_t8) a + S1x1x16x8x128.size a ≤ S2x8x16x8x128.size a := fun v109 k0_hw40 k0_t8 k0_h10 => k0_hw40.2.2.1.2.2.2.2.2.2.2.2.2.2.2.2.2.2.1 k0_t8 k0_h10
theorem k0_off244_inb : ∀ (v109 : BitVec 32) (k0_hw40 : k0_chk40 v109) (k0_t8 : Fin (k0_t8_loop v109).trips), ∀ (k0_h10 : k0_cond10 v109 k0_t8 = 1#1), ∀ a, (k0_off244 v109 k0_t8) a + S1x1.size a ≤ S8x512.size a := fun v109 k0_hw40 k0_t8 k0_h10 => k0_hw40.2.2.1.2.2.2.2.2.2.2.2.2.2.2.2.2.2.2.1 k0_t8 k0_h10
theorem k0_off245_inb : ∀ (v109 : BitVec 32) (k0_hw40 : k0_chk40 v109) (k0_t8 : Fin (k0_t8_loop v109).trips), ∀ (k0_h10 : k0_cond10 v109 k0_t8 = 1#1), ∀ a, (k0_off245 v109 k0_t8) a + S1x1.size a ≤ S2x8.size a := fun v109 k0_hw40 k0_t8 k0_h10 => k0_hw40.2.2.1.2.2.2.2.2.2.2.2.2.2.2.2.2.2.2.2.1 k0_t8 k0_h10
theorem k0_off246_inb : ∀ (v109 : BitVec 32) (k0_hw40 : k0_chk40 v109) (k0_t8 : Fin (k0_t8_loop v109).trips), ∀ (k0_h10 : k0_cond10 v109 k0_t8 = 1#1), ∀ a, (k0_off246 v109 k0_t8) a + S1x1x16x8x128.size a ≤ S2x8x16x8x128.size a := fun v109 k0_hw40 k0_t8 k0_h10 => k0_hw40.2.2.1.2.2.2.2.2.2.2.2.2.2.2.2.2.2.2.2.2.1 k0_t8 k0_h10
theorem k0_off248_inb : ∀ (v109 : BitVec 32) (k0_hw40 : k0_chk40 v109) (k0_t8 : Fin (k0_t8_loop v109).trips), ∀ (k0_h10 : k0_cond10 v109 k0_t8 = 1#1), ∀ a, (k0_off248 v109 k0_t8) a + S1x1.size a ≤ S2x8.size a := fun v109 k0_hw40 k0_t8 k0_h10 => k0_hw40.2.2.1.2.2.2.2.2.2.2.2.2.2.2.2.2.2.2.2.2.2.1 k0_t8 k0_h10
theorem k0_off249_inb : ∀ (v109 : BitVec 32) (k0_hw40 : k0_chk40 v109) (k0_t8 : Fin (k0_t8_loop v109).trips), ∀ (k0_h10 : k0_cond10 v109 k0_t8 = 1#1), ∀ a, (k0_off249 v109 k0_t8) a + S1x1x16x8x128.size a ≤ S2x8x16x8x128.size a := fun v109 k0_hw40 k0_t8 k0_h10 => k0_hw40.2.2.1.2.2.2.2.2.2.2.2.2.2.2.2.2.2.2.2.2.2.2.1 k0_t8 k0_h10
theorem k0_off250_inb : ∀ (v109 : BitVec 32) (k0_hw40 : k0_chk40 v109) (k0_t8 : Fin (k0_t8_loop v109).trips), ∀ (k0_h10 : k0_cond10 v109 k0_t8 = 1#1), ∀ a, (k0_off250 v109 k0_t8) a + S1x1.size a ≤ S8x512.size a := fun v109 k0_hw40 k0_t8 k0_h10 => k0_hw40.2.2.1.2.2.2.2.2.2.2.2.2.2.2.2.2.2.2.2.2.2.2.2.1 k0_t8 k0_h10
theorem k0_off251_inb : ∀ (v109 : BitVec 32) (k0_hw40 : k0_chk40 v109) (k0_t8 : Fin (k0_t8_loop v109).trips), ∀ (k0_h10 : k0_cond10 v109 k0_t8 = 1#1), ∀ a, (k0_off251 v109 k0_t8) a + S1x1.size a ≤ S2x8.size a := fun v109 k0_hw40 k0_t8 k0_h10 => k0_hw40.2.2.1.2.2.2.2.2.2.2.2.2.2.2.2.2.2.2.2.2.2.2.2.2.1 k0_t8 k0_h10
theorem k0_off252_inb : ∀ (v109 : BitVec 32) (k0_hw40 : k0_chk40 v109) (k0_t8 : Fin (k0_t8_loop v109).trips), ∀ (k0_h10 : k0_cond10 v109 k0_t8 = 1#1), ∀ a, (k0_off252 v109 k0_t8) a + S1x1x16x8x128.size a ≤ S2x8x16x8x128.size a := fun v109 k0_hw40 k0_t8 k0_h10 => k0_hw40.2.2.1.2.2.2.2.2.2.2.2.2.2.2.2.2.2.2.2.2.2.2.2.2.2.1 k0_t8 k0_h10
theorem k0_off254_inb : ∀ (v109 : BitVec 32) (k0_hw40 : k0_chk40 v109) (k0_t8 : Fin (k0_t8_loop v109).trips), ∀ (k0_h10 : k0_cond10 v109 k0_t8 = 1#1), ∀ a, (k0_off254 v109 k0_t8) a + S1x1.size a ≤ S2x8.size a := fun v109 k0_hw40 k0_t8 k0_h10 => k0_hw40.2.2.1.2.2.2.2.2.2.2.2.2.2.2.2.2.2.2.2.2.2.2.2.2.2.2.1 k0_t8 k0_h10
theorem k0_off255_inb : ∀ (v109 : BitVec 32) (k0_hw40 : k0_chk40 v109) (k0_t8 : Fin (k0_t8_loop v109).trips), ∀ (k0_h10 : k0_cond10 v109 k0_t8 = 1#1), ∀ a, (k0_off255 v109 k0_t8) a + S1x1x16x8x128.size a ≤ S2x8x16x8x128.size a := fun v109 k0_hw40 k0_t8 k0_h10 => k0_hw40.2.2.1.2.2.2.2.2.2.2.2.2.2.2.2.2.2.2.2.2.2.2.2.2.2.2.2.1 k0_t8 k0_h10
theorem k0_off256_inb : ∀ (v109 : BitVec 32) (k0_hw40 : k0_chk40 v109) (k0_t8 : Fin (k0_t8_loop v109).trips), ∀ (k0_h10 : k0_cond10 v109 k0_t8 = 1#1), ∀ a, (k0_off256 v109 k0_t8) a + S1x1.size a ≤ S8x512.size a := fun v109 k0_hw40 k0_t8 k0_h10 => k0_hw40.2.2.1.2.2.2.2.2.2.2.2.2.2.2.2.2.2.2.2.2.2.2.2.2.2.2.2.2.1 k0_t8 k0_h10
theorem k0_off257_inb : ∀ (v109 : BitVec 32) (k0_hw40 : k0_chk40 v109) (k0_t8 : Fin (k0_t8_loop v109).trips), ∀ (k0_h10 : k0_cond10 v109 k0_t8 = 1#1), ∀ a, (k0_off257 v109 k0_t8) a + S1x1.size a ≤ S2x8.size a := fun v109 k0_hw40 k0_t8 k0_h10 => k0_hw40.2.2.1.2.2.2.2.2.2.2.2.2.2.2.2.2.2.2.2.2.2.2.2.2.2.2.2.2.2.1 k0_t8 k0_h10
theorem k0_off258_inb : ∀ (v109 : BitVec 32) (k0_hw40 : k0_chk40 v109) (k0_t8 : Fin (k0_t8_loop v109).trips), ∀ (k0_h10 : k0_cond10 v109 k0_t8 = 1#1), ∀ a, (k0_off258 v109 k0_t8) a + S1x1x16x8x128.size a ≤ S2x8x16x8x128.size a := fun v109 k0_hw40 k0_t8 k0_h10 => k0_hw40.2.2.1.2.2.2.2.2.2.2.2.2.2.2.2.2.2.2.2.2.2.2.2.2.2.2.2.2.2.2.1 k0_t8 k0_h10
theorem k0_off260_inb : ∀ (v109 : BitVec 32) (k0_hw40 : k0_chk40 v109) (k0_t8 : Fin (k0_t8_loop v109).trips), ∀ (k0_h10 : k0_cond10 v109 k0_t8 = 1#1), ∀ a, (k0_off260 v109 k0_t8) a + S1x1.size a ≤ S2x8.size a := fun v109 k0_hw40 k0_t8 k0_h10 => k0_hw40.2.2.1.2.2.2.2.2.2.2.2.2.2.2.2.2.2.2.2.2.2.2.2.2.2.2.2.2.2.2.2.1 k0_t8 k0_h10
theorem k0_off261_inb : ∀ (v109 : BitVec 32) (k0_hw40 : k0_chk40 v109) (k0_t8 : Fin (k0_t8_loop v109).trips), ∀ (k0_h10 : k0_cond10 v109 k0_t8 = 1#1), ∀ a, (k0_off261 v109 k0_t8) a + S1x1x16x8x128.size a ≤ S2x8x16x8x128.size a := fun v109 k0_hw40 k0_t8 k0_h10 => k0_hw40.2.2.1.2.2.2.2.2.2.2.2.2.2.2.2.2.2.2.2.2.2.2.2.2.2.2.2.2.2.2.2.2.1 k0_t8 k0_h10
theorem k0_off262_inb : ∀ (v109 : BitVec 32) (k0_hw40 : k0_chk40 v109) (k0_t8 : Fin (k0_t8_loop v109).trips), ∀ (k0_h10 : k0_cond10 v109 k0_t8 = 1#1), ∀ a, (k0_off262 v109 k0_t8) a + S1x1.size a ≤ S8x512.size a := fun v109 k0_hw40 k0_t8 k0_h10 => k0_hw40.2.2.1.2.2.2.2.2.2.2.2.2.2.2.2.2.2.2.2.2.2.2.2.2.2.2.2.2.2.2.2.2.2.1 k0_t8 k0_h10
theorem k0_off263_inb : ∀ (v109 : BitVec 32) (k0_hw40 : k0_chk40 v109) (k0_t8 : Fin (k0_t8_loop v109).trips), ∀ (k0_h10 : k0_cond10 v109 k0_t8 = 1#1), ∀ a, (k0_off263 v109 k0_t8) a + S1x1.size a ≤ S2x8.size a := fun v109 k0_hw40 k0_t8 k0_h10 => k0_hw40.2.2.1.2.2.2.2.2.2.2.2.2.2.2.2.2.2.2.2.2.2.2.2.2.2.2.2.2.2.2.2.2.2.2 k0_t8 k0_h10
theorem k0_off264_inb : ∀ (v109 : BitVec 32) (k0_hw40 : k0_chk40 v109) (k0_t8 : Fin (k0_t8_loop v109).trips), ∀ (k0_h10 : k0_cond10 v109 k0_t8 = 1#1), ∀ a, (k0_off264 v109 k0_t8) a + S1x1x16x8x128.size a ≤ S2x8x16x8x128.size a := fun v109 k0_hw40 k0_t8 k0_h10 => k0_hw40.2.2.2.1 k0_t8 k0_h10
theorem k0_off266_inb : ∀ (v109 : BitVec 32) (k0_hw40 : k0_chk40 v109) (k0_t8 : Fin (k0_t8_loop v109).trips), ∀ (k0_h10 : k0_cond10 v109 k0_t8 = 1#1), ∀ a, (k0_off266 v109 k0_t8) a + S1x1.size a ≤ S2x8.size a := fun v109 k0_hw40 k0_t8 k0_h10 => k0_hw40.2.2.2.2.1 k0_t8 k0_h10
theorem k0_off267_inb : ∀ (v109 : BitVec 32) (k0_hw40 : k0_chk40 v109) (k0_t8 : Fin (k0_t8_loop v109).trips), ∀ (k0_h10 : k0_cond10 v109 k0_t8 = 1#1), ∀ a, (k0_off267 v109 k0_t8) a + S1x1x16x8x128.size a ≤ S2x8x16x8x128.size a := fun v109 k0_hw40 k0_t8 k0_h10 => k0_hw40.2.2.2.2.2.1 k0_t8 k0_h10
theorem k0_off268_inb : ∀ (v109 : BitVec 32) (k0_hw40 : k0_chk40 v109) (k0_t8 : Fin (k0_t8_loop v109).trips), ∀ a, (k0_off268 v109 k0_t8) a + S1x1.size a ≤ S2x8.size a := fun v109 k0_hw40 k0_t8 => k0_hw40.2.2.2.2.2.2.1 k0_t8
theorem k0_off269_inb : ∀ (v109 : BitVec 32) (k0_hw40 : k0_chk40 v109) (k0_t8 : Fin (k0_t8_loop v109).trips), ∀ a, (k0_off269 v109 k0_t8) a + S1x1x16x8x128.size a ≤ S2x8x16x8x128.size a := fun v109 k0_hw40 k0_t8 => k0_hw40.2.2.2.2.2.2.2.1 k0_t8
theorem k0_off270_inb : ∀ (v109 : BitVec 32) (k0_hw40 : k0_chk40 v109) (k0_t8 : Fin (k0_t8_loop v109).trips), ∀ a, (k0_off270 v109 k0_t8) a + S1x1.size a ≤ S2x8.size a := fun v109 k0_hw40 k0_t8 => k0_hw40.2.2.2.2.2.2.2.2.1 k0_t8
theorem k0_off271_inb : ∀ (v109 : BitVec 32) (k0_hw40 : k0_chk40 v109) (k0_t8 : Fin (k0_t8_loop v109).trips), ∀ a, (k0_off271 v109 k0_t8) a + S1x1x16x8x128.size a ≤ S2x8x16x8x128.size a := fun v109 k0_hw40 k0_t8 => k0_hw40.2.2.2.2.2.2.2.2.2.1 k0_t8
theorem k0_off272_inb : ∀ (v109 : BitVec 32) (k0_hw40 : k0_chk40 v109) (k0_t8 : Fin (k0_t8_loop v109).trips), ∀ a, (k0_off272 v109 k0_t8) a + S1x1.size a ≤ S2x8.size a := fun v109 k0_hw40 k0_t8 => k0_hw40.2.2.2.2.2.2.2.2.2.2.1 k0_t8
theorem k0_off273_inb : ∀ (v109 : BitVec 32) (k0_hw40 : k0_chk40 v109) (k0_t8 : Fin (k0_t8_loop v109).trips), ∀ a, (k0_off273 v109 k0_t8) a + S1x1x16x8x128.size a ≤ S2x8x16x8x128.size a := fun v109 k0_hw40 k0_t8 => k0_hw40.2.2.2.2.2.2.2.2.2.2.2.1 k0_t8
theorem k0_off274_inb : ∀ (v109 : BitVec 32) (k0_hw40 : k0_chk40 v109) (k0_t8 : Fin (k0_t8_loop v109).trips), ∀ a, (k0_off274 v109 k0_t8) a + S1x1.size a ≤ S2x8.size a := fun v109 k0_hw40 k0_t8 => k0_hw40.2.2.2.2.2.2.2.2.2.2.2.2.1 k0_t8
theorem k0_off275_inb : ∀ (v109 : BitVec 32) (k0_hw40 : k0_chk40 v109) (k0_t8 : Fin (k0_t8_loop v109).trips), ∀ a, (k0_off275 v109 k0_t8) a + S1x1x16x8x128.size a ≤ S2x8x16x8x128.size a := fun v109 k0_hw40 k0_t8 => k0_hw40.2.2.2.2.2.2.2.2.2.2.2.2.2.1 k0_t8
theorem k0_off276_inb : ∀ (v109 : BitVec 32) (k0_hw40 : k0_chk40 v109) (k0_t8 : Fin (k0_t8_loop v109).trips), ∀ a, (k0_off276 v109 k0_t8) a + S1x1.size a ≤ S2x8.size a := fun v109 k0_hw40 k0_t8 => k0_hw40.2.2.2.2.2.2.2.2.2.2.2.2.2.2.1 k0_t8
theorem k0_off277_inb : ∀ (v109 : BitVec 32) (k0_hw40 : k0_chk40 v109) (k0_t8 : Fin (k0_t8_loop v109).trips), ∀ a, (k0_off277 v109 k0_t8) a + S1x1x16x8x128.size a ≤ S2x8x16x8x128.size a := fun v109 k0_hw40 k0_t8 => k0_hw40.2.2.2.2.2.2.2.2.2.2.2.2.2.2.2.1 k0_t8
theorem k0_off278_inb : ∀ (v109 : BitVec 32) (k0_hw40 : k0_chk40 v109) (k0_t8 : Fin (k0_t8_loop v109).trips), ∀ a, (k0_off278 v109 k0_t8) a + S1x1.size a ≤ S2x8.size a := fun v109 k0_hw40 k0_t8 => k0_hw40.2.2.2.2.2.2.2.2.2.2.2.2.2.2.2.2.1 k0_t8
theorem k0_off279_inb : ∀ (v109 : BitVec 32) (k0_hw40 : k0_chk40 v109) (k0_t8 : Fin (k0_t8_loop v109).trips), ∀ a, (k0_off279 v109 k0_t8) a + S1x1x16x8x128.size a ≤ S2x8x16x8x128.size a := fun v109 k0_hw40 k0_t8 => k0_hw40.2.2.2.2.2.2.2.2.2.2.2.2.2.2.2.2.2.1 k0_t8
theorem k0_off280_inb : ∀ (v109 : BitVec 32) (k0_hw40 : k0_chk40 v109) (k0_t8 : Fin (k0_t8_loop v109).trips), ∀ a, (k0_off280 v109 k0_t8) a + S1x1.size a ≤ S2x8.size a := fun v109 k0_hw40 k0_t8 => k0_hw40.2.2.2.2.2.2.2.2.2.2.2.2.2.2.2.2.2.2.1 k0_t8
theorem k0_off281_inb : ∀ (v109 : BitVec 32) (k0_hw40 : k0_chk40 v109) (k0_t8 : Fin (k0_t8_loop v109).trips), ∀ a, (k0_off281 v109 k0_t8) a + S1x1x16x8x128.size a ≤ S2x8x16x8x128.size a := fun v109 k0_hw40 k0_t8 => k0_hw40.2.2.2.2.2.2.2.2.2.2.2.2.2.2.2.2.2.2.2.1 k0_t8
theorem k0_off282_inb : ∀ (v109 : BitVec 32) (k0_hw40 : k0_chk40 v109) (k0_t8 : Fin (k0_t8_loop v109).trips), ∀ a, (k0_off282 v109 k0_t8) a + S1x1.size a ≤ S2x8.size a := fun v109 k0_hw40 k0_t8 => k0_hw40.2.2.2.2.2.2.2.2.2.2.2.2.2.2.2.2.2.2.2.2.1 k0_t8
theorem k0_off283_inb : ∀ (v109 : BitVec 32) (k0_hw40 : k0_chk40 v109) (k0_t8 : Fin (k0_t8_loop v109).trips), ∀ a, (k0_off283 v109 k0_t8) a + S1x1x16x8x128.size a ≤ S2x8x16x8x128.size a := fun v109 k0_hw40 k0_t8 => k0_hw40.2.2.2.2.2.2.2.2.2.2.2.2.2.2.2.2.2.2.2.2.2.1 k0_t8
theorem k0_off284_inb : ∀ (v109 : BitVec 32) (k0_hw40 : k0_chk40 v109) (k0_t8 : Fin (k0_t8_loop v109).trips), ∀ a, (k0_off284 v109 k0_t8) a + S1x8x16x8x128.size a ≤ S2x8x16x8x128.size a := fun v109 k0_hw40 k0_t8 => k0_hw40.2.2.2.2.2.2.2.2.2.2.2.2.2.2.2.2.2.2.2.2.2.2 k0_t8

@[reducible] def k0_t9_loop (d0 : Dev nD) (v155 : BitVec 32) : Scf.Loop 32 :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v156 : BitVec 32 := Scalar.subi v155 v10
  let c3_i32_88 : BitVec 32 := 3#32
  let v157 : BitVec 32 := Scalar.addi v156 c3_i32_88
  let c0_i32_90 : BitVec 32 := 0#32
  let v159 : BitVec 1 := Scalar.cmpi .sgt v157 c0_i32_90
  let v160 : BitVec 32 := Scalar.extui v159
  let c0_i32_91 : BitVec 32 := 0#32
  let v161 : BitVec 1 := Scalar.cmpi .slt v157 c0_i32_91
  let v162 : BitVec 32 := Scalar.extui v161
  let v163 : BitVec 32 := Scalar.subi v160 v162
  let c4_i32_89 : BitVec 32 := 4#32
  let c0_i32_92 : BitVec 32 := 0#32
  let v164 : BitVec 1 := Scalar.cmpi .sgt c4_i32_89 c0_i32_92
  let v165 : BitVec 32 := Scalar.extui v164
  let c0_i32_93 : BitVec 32 := 0#32
  let v166 : BitVec 1 := Scalar.cmpi .slt c4_i32_89 c0_i32_93
  let v167 : BitVec 32 := Scalar.extui v166
  let v168 : BitVec 32 := Scalar.subi v165 v167
  let v169 : BitVec 1 := Scalar.cmpi .ne v163 v168
  let v170 : BitVec 32 := Scalar.remsi v157 c4_i32_89
  let c0_i32_94 : BitVec 32 := 0#32
  let v171 : BitVec 1 := Scalar.cmpi .ne v170 c0_i32_94
  let v172 : BitVec 1 := Scalar.andi v169 v171
  let v158 : BitVec 32 := Scalar.divsi v157 c4_i32_89
  let c1_i32_95 : BitVec 32 := 1#32
  let v173 : BitVec 32 := Scalar.subi v158 c1_i32_95
  let v174 : BitVec 32 := Scalar.select v172 v173 v158
  let v175 : BitVec 32 := Scalar.subi v174 c0_i32_96
  let c1_i32_98 : BitVec 32 := 1#32
  let v177 : BitVec 32 := Scalar.divsi v175 c1_i32_98
  let v178 : BitVec 32 := Scalar.muli v177 c1_i32_98
  let v179 : BitVec 32 := Scalar.addi c0_i32_96 v178
  let c1_i32_99 : BitVec 32 := 1#32
  ⟨c0_i32_96, v179, c1_i32_99⟩

def k0_off285 (d0 : Dev nD) (v155 : BitVec 32) (k0_t9 : Fin (k0_t9_loop d0 v155).trips) : Fin 2 → Nat :=
  let c2_655 : Index := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_96 : BitVec 32 := 0#32
  let c1_i32_99 : BitVec 32 := 1#32
  let arg17 : BitVec 32 := Scf.iv c0_i32_96 c1_i32_99 k0_t9
  let v866 : BitVec 32 := Scalar.muli c4_i32_654 arg17
  let v867 : BitVec 32 := Scalar.addi v10 v866
  let v868 : Index := Scalar.indexCast v867
  ![2, v868.toNat]
def k0_off286 (arg18 : BitVec 32) : Fin 2 → Nat :=
  let c2_665 : Index := 2#32
  let v893 : Index := Scalar.indexCast arg18
  ![2, v893.toNat]
def k0_cond11 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk58 (d0 : Dev nD) (arg18 : BitVec 32) (v869 : BitVec 32) : Prop :=
  (∀ (k0_h11 : k0_cond11 d0 v869 = 1#1), ∀ a, (k0_off286 arg18) a + S1x1.size a ≤ S8x512.size a)
theorem k0_off286_inb : ∀ (d0 : Dev nD) (arg18 : BitVec 32) (v869 : BitVec 32) (k0_hw58 : k0_chk58 d0 arg18 v869), ∀ (k0_h11 : k0_cond11 d0 v869 = 1#1), ∀ a, (k0_off286 arg18) a + S1x1.size a ≤ S8x512.size a := fun d0 arg18 v869 k0_hw58 k0_h11 => k0_hw58 k0_h11

@[reducible] def k0_t10_loop (d0 : Dev nD) (v155 : BitVec 32) : Scf.Loop 32 :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v156 : BitVec 32 := Scalar.subi v155 v10
  let c3_i32_88 : BitVec 32 := 3#32
  let v157 : BitVec 32 := Scalar.addi v156 c3_i32_88
  let c0_i32_90 : BitVec 32 := 0#32
  let v159 : BitVec 1 := Scalar.cmpi .sgt v157 c0_i32_90
  let v160 : BitVec 32 := Scalar.extui v159
  let c0_i32_91 : BitVec 32 := 0#32
  let v161 : BitVec 1 := Scalar.cmpi .slt v157 c0_i32_91
  let v162 : BitVec 32 := Scalar.extui v161
  let v163 : BitVec 32 := Scalar.subi v160 v162
  let c4_i32_89 : BitVec 32 := 4#32
  let c0_i32_92 : BitVec 32 := 0#32
  let v164 : BitVec 1 := Scalar.cmpi .sgt c4_i32_89 c0_i32_92
  let v165 : BitVec 32 := Scalar.extui v164
  let c0_i32_93 : BitVec 32 := 0#32
  let v166 : BitVec 1 := Scalar.cmpi .slt c4_i32_89 c0_i32_93
  let v167 : BitVec 32 := Scalar.extui v166
  let v168 : BitVec 32 := Scalar.subi v165 v167
  let v169 : BitVec 1 := Scalar.cmpi .ne v163 v168
  let v170 : BitVec 32 := Scalar.remsi v157 c4_i32_89
  let c0_i32_94 : BitVec 32 := 0#32
  let v171 : BitVec 1 := Scalar.cmpi .ne v170 c0_i32_94
  let v172 : BitVec 1 := Scalar.andi v169 v171
  let v158 : BitVec 32 := Scalar.divsi v157 c4_i32_89
  let c1_i32_95 : BitVec 32 := 1#32
  let v173 : BitVec 32 := Scalar.subi v158 c1_i32_95
  let v174 : BitVec 32 := Scalar.select v172 v173 v158
  let v175 : BitVec 32 := Scalar.subi v174 c0_i32_96
  let c1_i32_98 : BitVec 32 := 1#32
  let v177 : BitVec 32 := Scalar.divsi v175 c1_i32_98
  let v178 : BitVec 32 := Scalar.muli v177 c1_i32_98
  let v179 : BitVec 32 := Scalar.addi c0_i32_96 v178
  let v176 : BitVec 32 := Scalar.addi c0_i32_96 v175
  let c1_i32_100 : BitVec 32 := 1#32
  ⟨v179, v176, c1_i32_100⟩
def k0_off287 (d0 : Dev nD) (v155 : BitVec 32) (k0_t10 : Fin (k0_t10_loop d0 v155).trips) : Fin 2 → Nat :=
  let c2_655 : Index := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_96 : BitVec 32 := 0#32
  let v156 : BitVec 32 := Scalar.subi v155 v10
  let c3_i32_88 : BitVec 32 := 3#32
  let v157 : BitVec 32 := Scalar.addi v156 c3_i32_88
  let c0_i32_90 : BitVec 32 := 0#32
  let v159 : BitVec 1 := Scalar.cmpi .sgt v157 c0_i32_90
  let v160 : BitVec 32 := Scalar.extui v159
  let c0_i32_91 : BitVec 32 := 0#32
  let v161 : BitVec 1 := Scalar.cmpi .slt v157 c0_i32_91
  let v162 : BitVec 32 := Scalar.extui v161
  let v163 : BitVec 32 := Scalar.subi v160 v162
  let c4_i32_89 : BitVec 32 := 4#32
  let c0_i32_92 : BitVec 32 := 0#32
  let v164 : BitVec 1 := Scalar.cmpi .sgt c4_i32_89 c0_i32_92
  let v165 : BitVec 32 := Scalar.extui v164
  let c0_i32_93 : BitVec 32 := 0#32
  let v166 : BitVec 1 := Scalar.cmpi .slt c4_i32_89 c0_i32_93
  let v167 : BitVec 32 := Scalar.extui v166
  let v168 : BitVec 32 := Scalar.subi v165 v167
  let v169 : BitVec 1 := Scalar.cmpi .ne v163 v168
  let v170 : BitVec 32 := Scalar.remsi v157 c4_i32_89
  let c0_i32_94 : BitVec 32 := 0#32
  let v171 : BitVec 1 := Scalar.cmpi .ne v170 c0_i32_94
  let v172 : BitVec 1 := Scalar.andi v169 v171
  let v158 : BitVec 32 := Scalar.divsi v157 c4_i32_89
  let c1_i32_95 : BitVec 32 := 1#32
  let v173 : BitVec 32 := Scalar.subi v158 c1_i32_95
  let v174 : BitVec 32 := Scalar.select v172 v173 v158
  let v175 : BitVec 32 := Scalar.subi v174 c0_i32_96
  let c1_i32_98 : BitVec 32 := 1#32
  let v177 : BitVec 32 := Scalar.divsi v175 c1_i32_98
  let v178 : BitVec 32 := Scalar.muli v177 c1_i32_98
  let v179 : BitVec 32 := Scalar.addi c0_i32_96 v178
  let c1_i32_100 : BitVec 32 := 1#32
  let arg17 : BitVec 32 := Scf.iv v179 c1_i32_100 k0_t10
  let v866 : BitVec 32 := Scalar.muli c4_i32_654 arg17
  let v867 : BitVec 32 := Scalar.addi v10 v866
  let v868 : Index := Scalar.indexCast v867
  ![2, v868.toNat]

def k0_chk57 (d0 : Dev nD) (v155 : BitVec 32) : Prop :=
  ((k0_t9_loop d0 v155).OK) ∧
  (∀ k0_t9 : Fin (k0_t9_loop d0 v155).trips, ∀ a, (k0_off285 d0 v155 k0_t9) a + S1x1.size a ≤ S8x512.size a) ∧
  ((k0_t10_loop d0 v155).OK) ∧
  (∀ k0_t10 : Fin (k0_t10_loop d0 v155).trips, ∀ a, (k0_off287 d0 v155 k0_t10) a + S1x1.size a ≤ S8x512.size a)
theorem k0_t9_ok : ∀ (d0 : Dev nD) (v155 : BitVec 32) (k0_hw57 : k0_chk57 d0 v155), (k0_t9_loop d0 v155).OK := fun d0 v155 k0_hw57 => k0_hw57.1
theorem k0_off285_inb : ∀ (d0 : Dev nD) (v155 : BitVec 32) (k0_hw57 : k0_chk57 d0 v155) (k0_t9 : Fin (k0_t9_loop d0 v155).trips), ∀ a, (k0_off285 d0 v155 k0_t9) a + S1x1.size a ≤ S8x512.size a := fun d0 v155 k0_hw57 k0_t9 => k0_hw57.2.1 k0_t9
theorem k0_t10_ok : ∀ (d0 : Dev nD) (v155 : BitVec 32) (k0_hw57 : k0_chk57 d0 v155), (k0_t10_loop d0 v155).OK := fun d0 v155 k0_hw57 => k0_hw57.2.2.1
theorem k0_off287_inb : ∀ (d0 : Dev nD) (v155 : BitVec 32) (k0_hw57 : k0_chk57 d0 v155) (k0_t10 : Fin (k0_t10_loop d0 v155).trips), ∀ a, (k0_off287 d0 v155 k0_t10) a + S1x1.size a ≤ S8x512.size a := fun d0 v155 k0_hw57 k0_t10 => k0_hw57.2.2.2 k0_t10

def k0_off288 (arg18 : BitVec 32) : Fin 2 → Nat :=
  let c2_665 : Index := 2#32
  let v893 : Index := Scalar.indexCast arg18
  ![2, v893.toNat]
def k0_cond12 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk59 (d0 : Dev nD) (arg18 : BitVec 32) (v869 : BitVec 32) : Prop :=
  (∀ (k0_h12 : k0_cond12 d0 v869 = 1#1), ∀ a, (k0_off288 arg18) a + S1x1.size a ≤ S8x512.size a)
theorem k0_off288_inb : ∀ (d0 : Dev nD) (arg18 : BitVec 32) (v869 : BitVec 32) (k0_hw59 : k0_chk59 d0 arg18 v869), ∀ (k0_h12 : k0_cond12 d0 v869 = 1#1), ∀ a, (k0_off288 arg18) a + S1x1.size a ≤ S8x512.size a := fun d0 arg18 v869 k0_hw59 k0_h12 => k0_hw59 k0_h12

def k0_off289 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond13 (v181 : BitVec 32) : BitVec 1 :=
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let c0_i32_114 : BitVec 32 := 0#32
  let v203 : BitVec 1 := Scalar.cmpi .sgt v200 c0_i32_114
  let v204 : BitVec 32 := Scalar.extui v203
  let c0_i32_115 : BitVec 32 := 0#32
  let v205 : BitVec 1 := Scalar.cmpi .ne v204 c0_i32_115
  v205

def k0_chk60 (v181 : BitVec 32) (v866 : BitVec 32) : Prop :=
  (∀ (k0_h13 : k0_cond13 v181 = 1#1), ∀ a, (k0_off289 v866) a + S1x16x8x128.size a ≤ S512x16x8x128.size a)
theorem k0_off289_inb : ∀ (v181 : BitVec 32) (v866 : BitVec 32) (k0_hw60 : k0_chk60 v181 v866), ∀ (k0_h13 : k0_cond13 v181 = 1#1), ∀ a, (k0_off289 v866) a + S1x16x8x128.size a ≤ S512x16x8x128.size a := fun v181 v866 k0_hw60 k0_h13 => k0_hw60 k0_h13

def k0_off290 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk61 (v181 : BitVec 32) (v880 : BitVec 32) : Prop :=
  (∀ (k0_h13 : k0_cond13 v181 = 1#1), ∀ a, (k0_off290 v880) a + S1x16x8x128.size a ≤ S512x16x8x128.size a)
theorem k0_off290_inb : ∀ (v181 : BitVec 32) (v880 : BitVec 32) (k0_hw61 : k0_chk61 v181 v880), ∀ (k0_h13 : k0_cond13 v181 = 1#1), ∀ a, (k0_off290 v880) a + S1x16x8x128.size a ≤ S512x16x8x128.size a := fun v181 v880 k0_hw61 k0_h13 => k0_hw61 k0_h13

def k0_off291 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk62 (v181 : BitVec 32) (v894 : BitVec 32) : Prop :=
  (∀ (k0_h13 : k0_cond13 v181 = 1#1), ∀ a, (k0_off291 v894) a + S1x16x8x128.size a ≤ S512x16x8x128.size a)
theorem k0_off291_inb : ∀ (v181 : BitVec 32) (v894 : BitVec 32) (k0_hw62 : k0_chk62 v181 v894), ∀ (k0_h13 : k0_cond13 v181 = 1#1), ∀ a, (k0_off291 v894) a + S1x16x8x128.size a ≤ S512x16x8x128.size a := fun v181 v894 k0_hw62 k0_h13 => k0_hw62 k0_h13

def k0_off292 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk63 (v181 : BitVec 32) (v908 : BitVec 32) : Prop :=
  (∀ (k0_h13 : k0_cond13 v181 = 1#1), ∀ a, (k0_off292 v908) a + S1x16x8x128.size a ≤ S512x16x8x128.size a)
theorem k0_off292_inb : ∀ (v181 : BitVec 32) (v908 : BitVec 32) (k0_hw63 : k0_chk63 v181 v908), ∀ (k0_h13 : k0_cond13 v181 = 1#1), ∀ a, (k0_off292 v908) a + S1x16x8x128.size a ≤ S512x16x8x128.size a := fun v181 v908 k0_hw63 k0_h13 => k0_hw63 k0_h13

def k0_off293 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk64 (v181 : BitVec 32) (v922 : BitVec 32) : Prop :=
  (∀ (k0_h13 : k0_cond13 v181 = 1#1), ∀ a, (k0_off293 v922) a + S1x16x8x128.size a ≤ S512x16x8x128.size a)
theorem k0_off293_inb : ∀ (v181 : BitVec 32) (v922 : BitVec 32) (k0_hw64 : k0_chk64 v181 v922), ∀ (k0_h13 : k0_cond13 v181 = 1#1), ∀ a, (k0_off293 v922) a + S1x16x8x128.size a ≤ S512x16x8x128.size a := fun v181 v922 k0_hw64 k0_h13 => k0_hw64 k0_h13

def k0_off294 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk65 (v181 : BitVec 32) (v936 : BitVec 32) : Prop :=
  (∀ (k0_h13 : k0_cond13 v181 = 1#1), ∀ a, (k0_off294 v936) a + S1x16x8x128.size a ≤ S512x16x8x128.size a)
theorem k0_off294_inb : ∀ (v181 : BitVec 32) (v936 : BitVec 32) (k0_hw65 : k0_chk65 v181 v936), ∀ (k0_h13 : k0_cond13 v181 = 1#1), ∀ a, (k0_off294 v936) a + S1x16x8x128.size a ≤ S512x16x8x128.size a := fun v181 v936 k0_hw65 k0_h13 => k0_hw65 k0_h13

def k0_off295 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk66 (v181 : BitVec 32) (v950 : BitVec 32) : Prop :=
  (∀ (k0_h13 : k0_cond13 v181 = 1#1), ∀ a, (k0_off295 v950) a + S1x16x8x128.size a ≤ S512x16x8x128.size a)
theorem k0_off295_inb : ∀ (v181 : BitVec 32) (v950 : BitVec 32) (k0_hw66 : k0_chk66 v181 v950), ∀ (k0_h13 : k0_cond13 v181 = 1#1), ∀ a, (k0_off295 v950) a + S1x16x8x128.size a ≤ S512x16x8x128.size a := fun v181 v950 k0_hw66 k0_h13 => k0_hw66 k0_h13

def k0_off296 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk67 (v181 : BitVec 32) (v964 : BitVec 32) : Prop :=
  (∀ (k0_h13 : k0_cond13 v181 = 1#1), ∀ a, (k0_off296 v964) a + S1x16x8x128.size a ≤ S512x16x8x128.size a)
theorem k0_off296_inb : ∀ (v181 : BitVec 32) (v964 : BitVec 32) (k0_hw67 : k0_chk67 v181 v964), ∀ (k0_h13 : k0_cond13 v181 = 1#1), ∀ a, (k0_off296 v964) a + S1x16x8x128.size a ≤ S512x16x8x128.size a := fun v181 v964 k0_hw67 k0_h13 => k0_hw67 k0_h13

@[reducible] def k0_t11_loop (v181 : BitVec 32) : Scf.Loop 32 :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_121 : BitVec 32 := 1#32
  ⟨c0_i32_119, v213, c1_i32_121⟩

def k0_off297 (v181 : BitVec 32) (k0_t11 : Fin (k0_t11_loop v181).trips) : Fin 2 → Nat :=
  let c2_824 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![2, v1033.toNat]
def k0_cond14 (v181 : BitVec 32) (k0_t11 : Fin (k0_t11_loop v181).trips) : BitVec 1 :=
  let c0_i32_119 : BitVec 32 := 0#32
  let c1_i32_121 : BitVec 32 := 1#32
  let arg17 : BitVec 32 := Scf.iv c0_i32_119 c1_i32_121 k0_t11
  let c1_i32_655 : BitVec 32 := 1#32
  let v867 : BitVec 32 := Scalar.addi arg17 c1_i32_655
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v868 : BitVec 1 := Scalar.cmpi .slt v867 v200
  let v869 : BitVec 32 := Scalar.extui v868
  let c0_i32_656 : BitVec 32 := 0#32
  let v870 : BitVec 1 := Scalar.cmpi .ne v869 c0_i32_656
  v870

def k0_off298 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off299 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off300 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk69 (v181 : BitVec 32) (k0_t11 : Fin (k0_t11_loop v181).trips) (v1034 : BitVec 32) : Prop :=
  (∀ (k0_h14 : k0_cond14 v181 k0_t11 = 1#1), ∀ a, (k0_off300 v1034) a + S1x16x8x128.size a ≤ S512x16x8x128.size a)
theorem k0_off300_inb : ∀ (v181 : BitVec 32) (k0_t11 : Fin (k0_t11_loop v181).trips) (v1034 : BitVec 32) (k0_hw69 : k0_chk69 v181 k0_t11 v1034), ∀ (k0_h14 : k0_cond14 v181 k0_t11 = 1#1), ∀ a, (k0_off300 v1034) a + S1x16x8x128.size a ≤ S512x16x8x128.size a := fun v181 k0_t11 v1034 k0_hw69 k0_h14 => k0_hw69 k0_h14

def k0_off301 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off302 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off303 (v181 : BitVec 32) (k0_t11 : Fin (k0_t11_loop v181).trips) : Fin 2 → Nat :=
  let c2_843 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![2, v1050.toNat]
def k0_off304 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off305 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off306 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk70 (v181 : BitVec 32) (k0_t11 : Fin (k0_t11_loop v181).trips) (v1051 : BitVec 32) : Prop :=
  (∀ (k0_h14 : k0_cond14 v181 k0_t11 = 1#1), ∀ a, (k0_off306 v1051) a + S1x16x8x128.size a ≤ S512x16x8x128.size a)
theorem k0_off306_inb : ∀ (v181 : BitVec 32) (k0_t11 : Fin (k0_t11_loop v181).trips) (v1051 : BitVec 32) (k0_hw70 : k0_chk70 v181 k0_t11 v1051), ∀ (k0_h14 : k0_cond14 v181 k0_t11 = 1#1), ∀ a, (k0_off306 v1051) a + S1x16x8x128.size a ≤ S512x16x8x128.size a := fun v181 k0_t11 v1051 k0_hw70 k0_h14 => k0_hw70 k0_h14

def k0_off307 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off308 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off309 (v181 : BitVec 32) (k0_t11 : Fin (k0_t11_loop v181).trips) : Fin 2 → Nat :=
  let c2_863 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![2, v1067.toNat]
def k0_off310 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off311 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off312 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk71 (v181 : BitVec 32) (k0_t11 : Fin (k0_t11_loop v181).trips) (v1068 : BitVec 32) : Prop :=
  (∀ (k0_h14 : k0_cond14 v181 k0_t11 = 1#1), ∀ a, (k0_off312 v1068) a + S1x16x8x128.size a ≤ S512x16x8x128.size a)
theorem k0_off312_inb : ∀ (v181 : BitVec 32) (k0_t11 : Fin (k0_t11_loop v181).trips) (v1068 : BitVec 32) (k0_hw71 : k0_chk71 v181 k0_t11 v1068), ∀ (k0_h14 : k0_cond14 v181 k0_t11 = 1#1), ∀ a, (k0_off312 v1068) a + S1x16x8x128.size a ≤ S512x16x8x128.size a := fun v181 k0_t11 v1068 k0_hw71 k0_h14 => k0_hw71 k0_h14

def k0_off313 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off314 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off315 (v181 : BitVec 32) (k0_t11 : Fin (k0_t11_loop v181).trips) : Fin 2 → Nat :=
  let c2_883 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![2, v1084.toNat]
def k0_off316 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off317 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off318 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk72 (v181 : BitVec 32) (k0_t11 : Fin (k0_t11_loop v181).trips) (v1085 : BitVec 32) : Prop :=
  (∀ (k0_h14 : k0_cond14 v181 k0_t11 = 1#1), ∀ a, (k0_off318 v1085) a + S1x16x8x128.size a ≤ S512x16x8x128.size a)
theorem k0_off318_inb : ∀ (v181 : BitVec 32) (k0_t11 : Fin (k0_t11_loop v181).trips) (v1085 : BitVec 32) (k0_hw72 : k0_chk72 v181 k0_t11 v1085), ∀ (k0_h14 : k0_cond14 v181 k0_t11 = 1#1), ∀ a, (k0_off318 v1085) a + S1x16x8x128.size a ≤ S512x16x8x128.size a := fun v181 k0_t11 v1085 k0_hw72 k0_h14 => k0_hw72 k0_h14

def k0_off319 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off320 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off321 (v181 : BitVec 32) (k0_t11 : Fin (k0_t11_loop v181).trips) : Fin 2 → Nat :=
  let c2_903 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![2, v1101.toNat]
def k0_off322 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off323 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off324 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk73 (v181 : BitVec 32) (k0_t11 : Fin (k0_t11_loop v181).trips) (v1102 : BitVec 32) : Prop :=
  (∀ (k0_h14 : k0_cond14 v181 k0_t11 = 1#1), ∀ a, (k0_off324 v1102) a + S1x16x8x128.size a ≤ S512x16x8x128.size a)
theorem k0_off324_inb : ∀ (v181 : BitVec 32) (k0_t11 : Fin (k0_t11_loop v181).trips) (v1102 : BitVec 32) (k0_hw73 : k0_chk73 v181 k0_t11 v1102), ∀ (k0_h14 : k0_cond14 v181 k0_t11 = 1#1), ∀ a, (k0_off324 v1102) a + S1x16x8x128.size a ≤ S512x16x8x128.size a := fun v181 k0_t11 v1102 k0_hw73 k0_h14 => k0_hw73 k0_h14

def k0_off325 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off326 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off327 (v181 : BitVec 32) (k0_t11 : Fin (k0_t11_loop v181).trips) : Fin 2 → Nat :=
  let c2_923 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![2, v1118.toNat]
def k0_off328 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off329 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off330 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk74 (v181 : BitVec 32) (k0_t11 : Fin (k0_t11_loop v181).trips) (v1119 : BitVec 32) : Prop :=
  (∀ (k0_h14 : k0_cond14 v181 k0_t11 = 1#1), ∀ a, (k0_off330 v1119) a + S1x16x8x128.size a ≤ S512x16x8x128.size a)
theorem k0_off330_inb : ∀ (v181 : BitVec 32) (k0_t11 : Fin (k0_t11_loop v181).trips) (v1119 : BitVec 32) (k0_hw74 : k0_chk74 v181 k0_t11 v1119), ∀ (k0_h14 : k0_cond14 v181 k0_t11 = 1#1), ∀ a, (k0_off330 v1119) a + S1x16x8x128.size a ≤ S512x16x8x128.size a := fun v181 k0_t11 v1119 k0_hw74 k0_h14 => k0_hw74 k0_h14

def k0_off331 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off332 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off333 (v181 : BitVec 32) (k0_t11 : Fin (k0_t11_loop v181).trips) : Fin 2 → Nat :=
  let c2_943 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![2, v1135.toNat]
def k0_off334 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off335 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off336 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk75 (v181 : BitVec 32) (k0_t11 : Fin (k0_t11_loop v181).trips) (v1136 : BitVec 32) : Prop :=
  (∀ (k0_h14 : k0_cond14 v181 k0_t11 = 1#1), ∀ a, (k0_off336 v1136) a + S1x16x8x128.size a ≤ S512x16x8x128.size a)
theorem k0_off336_inb : ∀ (v181 : BitVec 32) (k0_t11 : Fin (k0_t11_loop v181).trips) (v1136 : BitVec 32) (k0_hw75 : k0_chk75 v181 k0_t11 v1136), ∀ (k0_h14 : k0_cond14 v181 k0_t11 = 1#1), ∀ a, (k0_off336 v1136) a + S1x16x8x128.size a ≤ S512x16x8x128.size a := fun v181 k0_t11 v1136 k0_hw75 k0_h14 => k0_hw75 k0_h14

def k0_off337 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off338 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off339 (v181 : BitVec 32) (k0_t11 : Fin (k0_t11_loop v181).trips) : Fin 2 → Nat :=
  let c2_963 : Index := 2#32
  let c0_i32_119 : BitVec 32 := 0#32
  let c1_i32_121 : BitVec 32 := 1#32
  let arg17 : BitVec 32 := Scf.iv c0_i32_119 c1_i32_121 k0_t11
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![2, v1152.toNat]
def k0_off340 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off341 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off342 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk76 (v181 : BitVec 32) (k0_t11 : Fin (k0_t11_loop v181).trips) (v1153 : BitVec 32) : Prop :=
  (∀ (k0_h14 : k0_cond14 v181 k0_t11 = 1#1), ∀ a, (k0_off342 v1153) a + S1x16x8x128.size a ≤ S512x16x8x128.size a)
theorem k0_off342_inb : ∀ (v181 : BitVec 32) (k0_t11 : Fin (k0_t11_loop v181).trips) (v1153 : BitVec 32) (k0_hw76 : k0_chk76 v181 k0_t11 v1153), ∀ (k0_h14 : k0_cond14 v181 k0_t11 = 1#1), ∀ a, (k0_off342 v1153) a + S1x16x8x128.size a ≤ S512x16x8x128.size a := fun v181 k0_t11 v1153 k0_hw76 k0_h14 => k0_hw76 k0_h14

def k0_off343 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off344 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off345 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c0_i32_659 : BitVec 32 := 0#32
  ![v866.toNat, 0]
def k0_off346 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off347 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c1_i32_677 : BitVec 32 := 1#32
  ![v866.toNat, 1]
def k0_off348 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off349 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c2_i32_695 : BitVec 32 := 2#32
  ![v866.toNat, 2]
def k0_off350 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off351 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c3_i32_713 : BitVec 32 := 3#32
  ![v866.toNat, 3]
def k0_off352 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off353 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c4_i32_731 : BitVec 32 := 4#32
  ![v866.toNat, 4]
def k0_off354 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off355 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c5_i32_748 : BitVec 32 := 5#32
  ![v866.toNat, 5]
def k0_off356 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off357 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c6_i32_765 : BitVec 32 := 6#32
  ![v866.toNat, 6]
def k0_off358 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off359 (v181 : BitVec 32) (k0_t11 : Fin (k0_t11_loop v181).trips) : Fin 2 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c7_i32_782 : BitVec 32 := 7#32
  ![v866.toNat, 7]
def k0_off360 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off361 (v181 : BitVec 32) (k0_t11 : Fin (k0_t11_loop v181).trips) : Fin 5 → Nat :=
  let c0_i32_119 : BitVec 32 := 0#32
  let c1_i32_121 : BitVec 32 := 1#32
  let arg17 : BitVec 32 := Scf.iv c0_i32_119 c1_i32_121 k0_t11
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t12_loop (v181 : BitVec 32) : Scf.Loop 32 :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let v210 : BitVec 32 := Scalar.addi c0_i32_119 v209
  let c1_i32_122 : BitVec 32 := 1#32
  ⟨v213, v210, c1_i32_122⟩
def k0_off362 (v181 : BitVec 32) (k0_t12 : Fin (k0_t12_loop v181).trips) : Fin 2 → Nat :=
  let c2_824 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![2, v1033.toNat]
def k0_cond15 (v181 : BitVec 32) (k0_t12 : Fin (k0_t12_loop v181).trips) : BitVec 1 :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_655 : BitVec 32 := 1#32
  let v867 : BitVec 32 := Scalar.addi arg17 c1_i32_655
  let v868 : BitVec 1 := Scalar.cmpi .slt v867 v200
  let v869 : BitVec 32 := Scalar.extui v868
  let c0_i32_656 : BitVec 32 := 0#32
  let v870 : BitVec 1 := Scalar.cmpi .ne v869 c0_i32_656
  v870

def k0_off363 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off364 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off365 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk77 (v181 : BitVec 32) (k0_t12 : Fin (k0_t12_loop v181).trips) (v1034 : BitVec 32) : Prop :=
  (∀ (k0_h15 : k0_cond15 v181 k0_t12 = 1#1), ∀ a, (k0_off365 v1034) a + S1x16x8x128.size a ≤ S512x16x8x128.size a)
theorem k0_off365_inb : ∀ (v181 : BitVec 32) (k0_t12 : Fin (k0_t12_loop v181).trips) (v1034 : BitVec 32) (k0_hw77 : k0_chk77 v181 k0_t12 v1034), ∀ (k0_h15 : k0_cond15 v181 k0_t12 = 1#1), ∀ a, (k0_off365 v1034) a + S1x16x8x128.size a ≤ S512x16x8x128.size a := fun v181 k0_t12 v1034 k0_hw77 k0_h15 => k0_hw77 k0_h15

def k0_off366 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off367 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off368 (v181 : BitVec 32) (k0_t12 : Fin (k0_t12_loop v181).trips) : Fin 2 → Nat :=
  let c2_843 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![2, v1050.toNat]
def k0_off369 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off370 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off371 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk78 (v181 : BitVec 32) (k0_t12 : Fin (k0_t12_loop v181).trips) (v1051 : BitVec 32) : Prop :=
  (∀ (k0_h15 : k0_cond15 v181 k0_t12 = 1#1), ∀ a, (k0_off371 v1051) a + S1x16x8x128.size a ≤ S512x16x8x128.size a)
theorem k0_off371_inb : ∀ (v181 : BitVec 32) (k0_t12 : Fin (k0_t12_loop v181).trips) (v1051 : BitVec 32) (k0_hw78 : k0_chk78 v181 k0_t12 v1051), ∀ (k0_h15 : k0_cond15 v181 k0_t12 = 1#1), ∀ a, (k0_off371 v1051) a + S1x16x8x128.size a ≤ S512x16x8x128.size a := fun v181 k0_t12 v1051 k0_hw78 k0_h15 => k0_hw78 k0_h15

def k0_off372 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off373 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off374 (v181 : BitVec 32) (k0_t12 : Fin (k0_t12_loop v181).trips) : Fin 2 → Nat :=
  let c2_863 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![2, v1067.toNat]
def k0_off375 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off376 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off377 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk79 (v181 : BitVec 32) (k0_t12 : Fin (k0_t12_loop v181).trips) (v1068 : BitVec 32) : Prop :=
  (∀ (k0_h15 : k0_cond15 v181 k0_t12 = 1#1), ∀ a, (k0_off377 v1068) a + S1x16x8x128.size a ≤ S512x16x8x128.size a)
theorem k0_off377_inb : ∀ (v181 : BitVec 32) (k0_t12 : Fin (k0_t12_loop v181).trips) (v1068 : BitVec 32) (k0_hw79 : k0_chk79 v181 k0_t12 v1068), ∀ (k0_h15 : k0_cond15 v181 k0_t12 = 1#1), ∀ a, (k0_off377 v1068) a + S1x16x8x128.size a ≤ S512x16x8x128.size a := fun v181 k0_t12 v1068 k0_hw79 k0_h15 => k0_hw79 k0_h15

def k0_off378 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off379 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off380 (v181 : BitVec 32) (k0_t12 : Fin (k0_t12_loop v181).trips) : Fin 2 → Nat :=
  let c2_883 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![2, v1084.toNat]
def k0_off381 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off382 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off383 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk80 (v181 : BitVec 32) (k0_t12 : Fin (k0_t12_loop v181).trips) (v1085 : BitVec 32) : Prop :=
  (∀ (k0_h15 : k0_cond15 v181 k0_t12 = 1#1), ∀ a, (k0_off383 v1085) a + S1x16x8x128.size a ≤ S512x16x8x128.size a)
theorem k0_off383_inb : ∀ (v181 : BitVec 32) (k0_t12 : Fin (k0_t12_loop v181).trips) (v1085 : BitVec 32) (k0_hw80 : k0_chk80 v181 k0_t12 v1085), ∀ (k0_h15 : k0_cond15 v181 k0_t12 = 1#1), ∀ a, (k0_off383 v1085) a + S1x16x8x128.size a ≤ S512x16x8x128.size a := fun v181 k0_t12 v1085 k0_hw80 k0_h15 => k0_hw80 k0_h15

def k0_off384 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off385 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off386 (v181 : BitVec 32) (k0_t12 : Fin (k0_t12_loop v181).trips) : Fin 2 → Nat :=
  let c2_903 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![2, v1101.toNat]
def k0_off387 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off388 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off389 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk81 (v181 : BitVec 32) (k0_t12 : Fin (k0_t12_loop v181).trips) (v1102 : BitVec 32) : Prop :=
  (∀ (k0_h15 : k0_cond15 v181 k0_t12 = 1#1), ∀ a, (k0_off389 v1102) a + S1x16x8x128.size a ≤ S512x16x8x128.size a)
theorem k0_off389_inb : ∀ (v181 : BitVec 32) (k0_t12 : Fin (k0_t12_loop v181).trips) (v1102 : BitVec 32) (k0_hw81 : k0_chk81 v181 k0_t12 v1102), ∀ (k0_h15 : k0_cond15 v181 k0_t12 = 1#1), ∀ a, (k0_off389 v1102) a + S1x16x8x128.size a ≤ S512x16x8x128.size a := fun v181 k0_t12 v1102 k0_hw81 k0_h15 => k0_hw81 k0_h15

def k0_off390 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off391 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off392 (v181 : BitVec 32) (k0_t12 : Fin (k0_t12_loop v181).trips) : Fin 2 → Nat :=
  let c2_923 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![2, v1118.toNat]
def k0_off393 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off394 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off395 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk82 (v181 : BitVec 32) (k0_t12 : Fin (k0_t12_loop v181).trips) (v1119 : BitVec 32) : Prop :=
  (∀ (k0_h15 : k0_cond15 v181 k0_t12 = 1#1), ∀ a, (k0_off395 v1119) a + S1x16x8x128.size a ≤ S512x16x8x128.size a)
theorem k0_off395_inb : ∀ (v181 : BitVec 32) (k0_t12 : Fin (k0_t12_loop v181).trips) (v1119 : BitVec 32) (k0_hw82 : k0_chk82 v181 k0_t12 v1119), ∀ (k0_h15 : k0_cond15 v181 k0_t12 = 1#1), ∀ a, (k0_off395 v1119) a + S1x16x8x128.size a ≤ S512x16x8x128.size a := fun v181 k0_t12 v1119 k0_hw82 k0_h15 => k0_hw82 k0_h15

def k0_off396 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off397 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off398 (v181 : BitVec 32) (k0_t12 : Fin (k0_t12_loop v181).trips) : Fin 2 → Nat :=
  let c2_943 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![2, v1135.toNat]
def k0_off399 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off400 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off401 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk83 (v181 : BitVec 32) (k0_t12 : Fin (k0_t12_loop v181).trips) (v1136 : BitVec 32) : Prop :=
  (∀ (k0_h15 : k0_cond15 v181 k0_t12 = 1#1), ∀ a, (k0_off401 v1136) a + S1x16x8x128.size a ≤ S512x16x8x128.size a)
theorem k0_off401_inb : ∀ (v181 : BitVec 32) (k0_t12 : Fin (k0_t12_loop v181).trips) (v1136 : BitVec 32) (k0_hw83 : k0_chk83 v181 k0_t12 v1136), ∀ (k0_h15 : k0_cond15 v181 k0_t12 = 1#1), ∀ a, (k0_off401 v1136) a + S1x16x8x128.size a ≤ S512x16x8x128.size a := fun v181 k0_t12 v1136 k0_hw83 k0_h15 => k0_hw83 k0_h15

def k0_off402 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off403 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off404 (v181 : BitVec 32) (k0_t12 : Fin (k0_t12_loop v181).trips) : Fin 2 → Nat :=
  let c2_963 : Index := 2#32
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![2, v1152.toNat]
def k0_off405 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off406 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off407 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk84 (v181 : BitVec 32) (k0_t12 : Fin (k0_t12_loop v181).trips) (v1153 : BitVec 32) : Prop :=
  (∀ (k0_h15 : k0_cond15 v181 k0_t12 = 1#1), ∀ a, (k0_off407 v1153) a + S1x16x8x128.size a ≤ S512x16x8x128.size a)
theorem k0_off407_inb : ∀ (v181 : BitVec 32) (k0_t12 : Fin (k0_t12_loop v181).trips) (v1153 : BitVec 32) (k0_hw84 : k0_chk84 v181 k0_t12 v1153), ∀ (k0_h15 : k0_cond15 v181 k0_t12 = 1#1), ∀ a, (k0_off407 v1153) a + S1x16x8x128.size a ≤ S512x16x8x128.size a := fun v181 k0_t12 v1153 k0_hw84 k0_h15 => k0_hw84 k0_h15

def k0_off408 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off409 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off410 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c0_i32_659 : BitVec 32 := 0#32
  ![v866.toNat, 0]
def k0_off411 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off412 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c1_i32_677 : BitVec 32 := 1#32
  ![v866.toNat, 1]
def k0_off413 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off414 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c2_i32_695 : BitVec 32 := 2#32
  ![v866.toNat, 2]
def k0_off415 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off416 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c3_i32_713 : BitVec 32 := 3#32
  ![v866.toNat, 3]
def k0_off417 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off418 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c4_i32_731 : BitVec 32 := 4#32
  ![v866.toNat, 4]
def k0_off419 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off420 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c5_i32_748 : BitVec 32 := 5#32
  ![v866.toNat, 5]
def k0_off421 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off422 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c6_i32_765 : BitVec 32 := 6#32
  ![v866.toNat, 6]
def k0_off423 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off424 (v181 : BitVec 32) (k0_t12 : Fin (k0_t12_loop v181).trips) : Fin 2 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c7_i32_782 : BitVec 32 := 7#32
  ![v866.toNat, 7]
def k0_off425 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off426 (v181 : BitVec 32) (k0_t12 : Fin (k0_t12_loop v181).trips) : Fin 5 → Nat :=
  let c0_i32_119 : BitVec 32 := 0#32
  let c8_i32_101 : BitVec 32 := 8#32
  let v182 : BitVec 32 := Scalar.addi v181 c8_i32_101
  let c1_i32_102 : BitVec 32 := 1#32
  let v183 : BitVec 32 := Scalar.subi v182 c1_i32_102
  let c0_i32_104 : BitVec 32 := 0#32
  let v185 : BitVec 1 := Scalar.cmpi .sgt v183 c0_i32_104
  let v186 : BitVec 32 := Scalar.extui v185
  let c0_i32_105 : BitVec 32 := 0#32
  let v187 : BitVec 1 := Scalar.cmpi .slt v183 c0_i32_105
  let v188 : BitVec 32 := Scalar.extui v187
  let v189 : BitVec 32 := Scalar.subi v186 v188
  let c8_i32_103 : BitVec 32 := 8#32
  let c0_i32_106 : BitVec 32 := 0#32
  let v190 : BitVec 1 := Scalar.cmpi .sgt c8_i32_103 c0_i32_106
  let v191 : BitVec 32 := Scalar.extui v190
  let c0_i32_107 : BitVec 32 := 0#32
  let v192 : BitVec 1 := Scalar.cmpi .slt c8_i32_103 c0_i32_107
  let v193 : BitVec 32 := Scalar.extui v192
  let v194 : BitVec 32 := Scalar.subi v191 v193
  let v195 : BitVec 1 := Scalar.cmpi .ne v189 v194
  let v196 : BitVec 32 := Scalar.remsi v183 c8_i32_103
  let c0_i32_108 : BitVec 32 := 0#32
  let v197 : BitVec 1 := Scalar.cmpi .ne v196 c0_i32_108
  let v198 : BitVec 1 := Scalar.andi v195 v197
  let v184 : BitVec 32 := Scalar.divsi v183 c8_i32_103
  let c1_i32_109 : BitVec 32 := 1#32
  let v199 : BitVec 32 := Scalar.subi v184 c1_i32_109
  let v200 : BitVec 32 := Scalar.select v198 v199 v184
  let v209 : BitVec 32 := Scalar.subi v200 c0_i32_119
  let c1_i32_120 : BitVec 32 := 1#32
  let v211 : BitVec 32 := Scalar.divsi v209 c1_i32_120
  let v212 : BitVec 32 := Scalar.muli v211 c1_i32_120
  let v213 : BitVec 32 := Scalar.addi c0_i32_119 v212
  let c1_i32_122 : BitVec 32 := 1#32
  let arg17 : BitVec 32 := Scf.iv v213 c1_i32_122 k0_t12
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk68_0 (v181 : BitVec 32) : Prop :=
  ((k0_t11_loop v181).OK) ∧
  (∀ k0_t11 : Fin (k0_t11_loop v181).trips, ∀ (k0_h14 : k0_cond14 v181 k0_t11 = 1#1), ∀ a, (k0_off297 v181 k0_t11) a + S1x1.size a ≤ S8x512.size a) ∧
  (∀ k0_t11 : Fin (k0_t11_loop v181).trips, ∀ (k0_h14 : k0_cond14 v181 k0_t11 = 1#1), ∀ a, (k0_off298 v181 k0_t11) a + S1x1.size a ≤ S2x8.size a) ∧
  (∀ k0_t11 : Fin (k0_t11_loop v181).trips, ∀ (k0_h14 : k0_cond14 v181 k0_t11 = 1#1), ∀ a, (k0_off299 v181 k0_t11) a + S1x1x16x8x128.size a ≤ S2x8x16x8x128.size a) ∧
  (∀ k0_t11 : Fin (k0_t11_loop v181).trips, ∀ (k0_h14 : k0_cond14 v181 k0_t11 = 1#1), ∀ a, (k0_off301 v181 k0_t11) a + S1x1.size a ≤ S2x8.size a) ∧
  (∀ k0_t11 : Fin (k0_t11_loop v181).trips, ∀ (k0_h14 : k0_cond14 v181 k0_t11 = 1#1), ∀ a, (k0_off302 v181 k0_t11) a + S1x1x16x8x128.size a ≤ S2x8x16x8x128.size a) ∧
  (∀ k0_t11 : Fin (k0_t11_loop v181).trips, ∀ (k0_h14 : k0_cond14 v181 k0_t11 = 1#1), ∀ a, (k0_off303 v181 k0_t11) a + S1x1.size a ≤ S8x512.size a) ∧
  (∀ k0_t11 : Fin (k0_t11_loop v181).trips, ∀ (k0_h14 : k0_cond14 v181 k0_t11 = 1#1), ∀ a, (k0_off304 v181 k0_t11) a + S1x1.size a ≤ S2x8.size a) ∧
  (∀ k0_t11 : Fin (k0_t11_loop v181).trips, ∀ (k0_h14 : k0_cond14 v181 k0_t11 = 1#1), ∀ a, (k0_off305 v181 k0_t11) a + S1x1x16x8x128.size a ≤ S2x8x16x8x128.size a) ∧
  (∀ k0_t11 : Fin (k0_t11_loop v181).trips, ∀ (k0_h14 : k0_cond14 v181 k0_t11 = 1#1), ∀ a, (k0_off307 v181 k0_t11) a + S1x1.size a ≤ S2x8.size a) ∧
  (∀ k0_t11 : Fin (k0_t11_loop v181).trips, ∀ (k0_h14 : k0_cond14 v181 k0_t11 = 1#1), ∀ a, (k0_off308 v181 k0_t11) a + S1x1x16x8x128.size a ≤ S2x8x16x8x128.size a) ∧
  (∀ k0_t11 : Fin (k0_t11_loop v181).trips, ∀ (k0_h14 : k0_cond14 v181 k0_t11 = 1#1), ∀ a, (k0_off309 v181 k0_t11) a + S1x1.size a ≤ S8x512.size a) ∧
  (∀ k0_t11 : Fin (k0_t11_loop v181).trips, ∀ (k0_h14 : k0_cond14 v181 k0_t11 = 1#1), ∀ a, (k0_off310 v181 k0_t11) a + S1x1.size a ≤ S2x8.size a) ∧
  (∀ k0_t11 : Fin (k0_t11_loop v181).trips, ∀ (k0_h14 : k0_cond14 v181 k0_t11 = 1#1), ∀ a, (k0_off311 v181 k0_t11) a + S1x1x16x8x128.size a ≤ S2x8x16x8x128.size a) ∧
  (∀ k0_t11 : Fin (k0_t11_loop v181).trips, ∀ (k0_h14 : k0_cond14 v181 k0_t11 = 1#1), ∀ a, (k0_off313 v181 k0_t11) a + S1x1.size a ≤ S2x8.size a) ∧
  (∀ k0_t11 : Fin (k0_t11_loop v181).trips, ∀ (k0_h14 : k0_cond14 v181 k0_t11 = 1#1), ∀ a, (k0_off314 v181 k0_t11) a + S1x1x16x8x128.size a ≤ S2x8x16x8x128.size a) ∧
  (∀ k0_t11 : Fin (k0_t11_loop v181).trips, ∀ (k0_h14 : k0_cond14 v181 k0_t11 = 1#1), ∀ a, (k0_off315 v181 k0_t11) a + S1x1.size a ≤ S8x512.size a) ∧
  (∀ k0_t11 : Fin (k0_t11_loop v181).trips, ∀ (k0_h14 : k0_cond14 v181 k0_t11 = 1#1), ∀ a, (k0_off316 v181 k0_t11) a + S1x1.size a ≤ S2x8.size a) ∧
  (∀ k0_t11 : Fin (k0_t11_loop v181).trips, ∀ (k0_h14 : k0_cond14 v181 k0_t11 = 1#1), ∀ a, (k0_off317 v181 k0_t11) a + S1x1x16x8x128.size a ≤ S2x8x16x8x128.size a) ∧
  (∀ k0_t11 : Fin (k0_t11_loop v181).trips, ∀ (k0_h14 : k0_cond14 v181 k0_t11 = 1#1), ∀ a, (k0_off319 v181 k0_t11) a + S1x1.size a ≤ S2x8.size a) ∧
  (∀ k0_t11 : Fin (k0_t11_loop v181).trips, ∀ (k0_h14 : k0_cond14 v181 k0_t11 = 1#1), ∀ a, (k0_off320 v181 k0_t11) a + S1x1x16x8x128.size a ≤ S2x8x16x8x128.size a) ∧
  (∀ k0_t11 : Fin (k0_t11_loop v181).trips, ∀ (k0_h14 : k0_cond14 v181 k0_t11 = 1#1), ∀ a, (k0_off321 v181 k0_t11) a + S1x1.size a ≤ S8x512.size a) ∧
  (∀ k0_t11 : Fin (k0_t11_loop v181).trips, ∀ (k0_h14 : k0_cond14 v181 k0_t11 = 1#1), ∀ a, (k0_off322 v181 k0_t11) a + S1x1.size a ≤ S2x8.size a) ∧
  (∀ k0_t11 : Fin (k0_t11_loop v181).trips, ∀ (k0_h14 : k0_cond14 v181 k0_t11 = 1#1), ∀ a, (k0_off323 v181 k0_t11) a + S1x1x16x8x128.size a ≤ S2x8x16x8x128.size a) ∧
  (∀ k0_t11 : Fin (k0_t11_loop v181).trips, ∀ (k0_h14 : k0_cond14 v181 k0_t11 = 1#1), ∀ a, (k0_off325 v181 k0_t11) a + S1x1.size a ≤ S2x8.size a) ∧
  (∀ k0_t11 : Fin (k0_t11_loop v181).trips, ∀ (k0_h14 : k0_cond14 v181 k0_t11 = 1#1), ∀ a, (k0_off326 v181 k0_t11) a + S1x1x16x8x128.size a ≤ S2x8x16x8x128.size a) ∧
  (∀ k0_t11 : Fin (k0_t11_loop v181).trips, ∀ (k0_h14 : k0_cond14 v181 k0_t11 = 1#1), ∀ a, (k0_off327 v181 k0_t11) a + S1x1.size a ≤ S8x512.size a) ∧
  (∀ k0_t11 : Fin (k0_t11_loop v181).trips, ∀ (k0_h14 : k0_cond14 v181 k0_t11 = 1#1), ∀ a, (k0_off328 v181 k0_t11) a + S1x1.size a ≤ S2x8.size a) ∧
  (∀ k0_t11 : Fin (k0_t11_loop v181).trips, ∀ (k0_h14 : k0_cond14 v181 k0_t11 = 1#1), ∀ a, (k0_off329 v181 k0_t11) a + S1x1x16x8x128.size a ≤ S2x8x16x8x128.size a) ∧
  (∀ k0_t11 : Fin (k0_t11_loop v181).trips, ∀ (k0_h14 : k0_cond14 v181 k0_t11 = 1#1), ∀ a, (k0_off331 v181 k0_t11) a + S1x1.size a ≤ S2x8.size a) ∧
  (∀ k0_t11 : Fin (k0_t11_loop v181).trips, ∀ (k0_h14 : k0_cond14 v181 k0_t11 = 1#1), ∀ a, (k0_off332 v181 k0_t11) a + S1x1x16x8x128.size a ≤ S2x8x16x8x128.size a) ∧
  (∀ k0_t11 : Fin (k0_t11_loop v181).trips, ∀ (k0_h14 : k0_cond14 v181 k0_t11 = 1#1), ∀ a, (k0_off333 v181 k0_t11) a + S1x1.size a ≤ S8x512.size a)
def k0_chk68_1 (v181 : BitVec 32) : Prop :=
  (∀ k0_t11 : Fin (k0_t11_loop v181).trips, ∀ (k0_h14 : k0_cond14 v181 k0_t11 = 1#1), ∀ a, (k0_off334 v181 k0_t11) a + S1x1.size a ≤ S2x8.size a) ∧
  (∀ k0_t11 : Fin (k0_t11_loop v181).trips, ∀ (k0_h14 : k0_cond14 v181 k0_t11 = 1#1), ∀ a, (k0_off335 v181 k0_t11) a + S1x1x16x8x128.size a ≤ S2x8x16x8x128.size a) ∧
  (∀ k0_t11 : Fin (k0_t11_loop v181).trips, ∀ (k0_h14 : k0_cond14 v181 k0_t11 = 1#1), ∀ a, (k0_off337 v181 k0_t11) a + S1x1.size a ≤ S2x8.size a) ∧
  (∀ k0_t11 : Fin (k0_t11_loop v181).trips, ∀ (k0_h14 : k0_cond14 v181 k0_t11 = 1#1), ∀ a, (k0_off338 v181 k0_t11) a + S1x1x16x8x128.size a ≤ S2x8x16x8x128.size a) ∧
  (∀ k0_t11 : Fin (k0_t11_loop v181).trips, ∀ (k0_h14 : k0_cond14 v181 k0_t11 = 1#1), ∀ a, (k0_off339 v181 k0_t11) a + S1x1.size a ≤ S8x512.size a) ∧
  (∀ k0_t11 : Fin (k0_t11_loop v181).trips, ∀ (k0_h14 : k0_cond14 v181 k0_t11 = 1#1), ∀ a, (k0_off340 v181 k0_t11) a + S1x1.size a ≤ S2x8.size a) ∧
  (∀ k0_t11 : Fin (k0_t11_loop v181).trips, ∀ (k0_h14 : k0_cond14 v181 k0_t11 = 1#1), ∀ a, (k0_off341 v181 k0_t11) a + S1x1x16x8x128.size a ≤ S2x8x16x8x128.size a) ∧
  (∀ k0_t11 : Fin (k0_t11_loop v181).trips, ∀ (k0_h14 : k0_cond14 v181 k0_t11 = 1#1), ∀ a, (k0_off343 v181 k0_t11) a + S1x1.size a ≤ S2x8.size a) ∧
  (∀ k0_t11 : Fin (k0_t11_loop v181).trips, ∀ (k0_h14 : k0_cond14 v181 k0_t11 = 1#1), ∀ a, (k0_off344 v181 k0_t11) a + S1x1x16x8x128.size a ≤ S2x8x16x8x128.size a) ∧
  (∀ k0_t11 : Fin (k0_t11_loop v181).trips, ∀ a, (k0_off345 v181 k0_t11) a + S1x1.size a ≤ S2x8.size a) ∧
  (∀ k0_t11 : Fin (k0_t11_loop v181).trips, ∀ a, (k0_off346 v181 k0_t11) a + S1x1x16x8x128.size a ≤ S2x8x16x8x128.size a) ∧
  (∀ k0_t11 : Fin (k0_t11_loop v181).trips, ∀ a, (k0_off347 v181 k0_t11) a + S1x1.size a ≤ S2x8.size a) ∧
  (∀ k0_t11 : Fin (k0_t11_loop v181).trips, ∀ a, (k0_off348 v181 k0_t11) a + S1x1x16x8x128.size a ≤ S2x8x16x8x128.size a) ∧
  (∀ k0_t11 : Fin (k0_t11_loop v181).trips, ∀ a, (k0_off349 v181 k0_t11) a + S1x1.size a ≤ S2x8.size a) ∧
  (∀ k0_t11 : Fin (k0_t11_loop v181).trips, ∀ a, (k0_off350 v181 k0_t11) a + S1x1x16x8x128.size a ≤ S2x8x16x8x128.size a) ∧
  (∀ k0_t11 : Fin (k0_t11_loop v181).trips, ∀ a, (k0_off351 v181 k0_t11) a + S1x1.size a ≤ S2x8.size a) ∧
  (∀ k0_t11 : Fin (k0_t11_loop v181).trips, ∀ a, (k0_off352 v181 k0_t11) a + S1x1x16x8x128.size a ≤ S2x8x16x8x128.size a) ∧
  (∀ k0_t11 : Fin (k0_t11_loop v181).trips, ∀ a, (k0_off353 v181 k0_t11) a + S1x1.size a ≤ S2x8.size a) ∧
  (∀ k0_t11 : Fin (k0_t11_loop v181).trips, ∀ a, (k0_off354 v181 k0_t11) a + S1x1x16x8x128.size a ≤ S2x8x16x8x128.size a) ∧
  (∀ k0_t11 : Fin (k0_t11_loop v181).trips, ∀ a, (k0_off355 v181 k0_t11) a + S1x1.size a ≤ S2x8.size a) ∧
  (∀ k0_t11 : Fin (k0_t11_loop v181).trips, ∀ a, (k0_off356 v181 k0_t11) a + S1x1x16x8x128.size a ≤ S2x8x16x8x128.size a) ∧
  (∀ k0_t11 : Fin (k0_t11_loop v181).trips, ∀ a, (k0_off357 v181 k0_t11) a + S1x1.size a ≤ S2x8.size a) ∧
  (∀ k0_t11 : Fin (k0_t11_loop v181).trips, ∀ a, (k0_off358 v181 k0_t11) a + S1x1x16x8x128.size a ≤ S2x8x16x8x128.size a) ∧
  (∀ k0_t11 : Fin (k0_t11_loop v181).trips, ∀ a, (k0_off359 v181 k0_t11) a + S1x1.size a ≤ S2x8.size a) ∧
  (∀ k0_t11 : Fin (k0_t11_loop v181).trips, ∀ a, (k0_off360 v181 k0_t11) a + S1x1x16x8x128.size a ≤ S2x8x16x8x128.size a) ∧
  (∀ k0_t11 : Fin (k0_t11_loop v181).trips, ∀ a, (k0_off361 v181 k0_t11) a + S1x8x16x8x128.size a ≤ S2x8x16x8x128.size a) ∧
  ((k0_t12_loop v181).OK) ∧
  (∀ k0_t12 : Fin (k0_t12_loop v181).trips, ∀ (k0_h15 : k0_cond15 v181 k0_t12 = 1#1), ∀ a, (k0_off362 v181 k0_t12) a + S1x1.size a ≤ S8x512.size a) ∧
  (∀ k0_t12 : Fin (k0_t12_loop v181).trips, ∀ (k0_h15 : k0_cond15 v181 k0_t12 = 1#1), ∀ a, (k0_off363 v181 k0_t12) a + S1x1.size a ≤ S2x8.size a) ∧
  (∀ k0_t12 : Fin (k0_t12_loop v181).trips, ∀ (k0_h15 : k0_cond15 v181 k0_t12 = 1#1), ∀ a, (k0_off364 v181 k0_t12) a + S1x1x16x8x128.size a ≤ S2x8x16x8x128.size a) ∧
  (∀ k0_t12 : Fin (k0_t12_loop v181).trips, ∀ (k0_h15 : k0_cond15 v181 k0_t12 = 1#1), ∀ a, (k0_off366 v181 k0_t12) a + S1x1.size a ≤ S2x8.size a) ∧
  (∀ k0_t12 : Fin (k0_t12_loop v181).trips, ∀ (k0_h15 : k0_cond15 v181 k0_t12 = 1#1), ∀ a, (k0_off367 v181 k0_t12) a + S1x1x16x8x128.size a ≤ S2x8x16x8x128.size a)
def k0_chk68_2 (v181 : BitVec 32) : Prop :=
  (∀ k0_t12 : Fin (k0_t12_loop v181).trips, ∀ (k0_h15 : k0_cond15 v181 k0_t12 = 1#1), ∀ a, (k0_off368 v181 k0_t12) a + S1x1.size a ≤ S8x512.size a) ∧
  (∀ k0_t12 : Fin (k0_t12_loop v181).trips, ∀ (k0_h15 : k0_cond15 v181 k0_t12 = 1#1), ∀ a, (k0_off369 v181 k0_t12) a + S1x1.size a ≤ S2x8.size a) ∧
  (∀ k0_t12 : Fin (k0_t12_loop v181).trips, ∀ (k0_h15 : k0_cond15 v181 k0_t12 = 1#1), ∀ a, (k0_off370 v181 k0_t12) a + S1x1x16x8x128.size a ≤ S2x8x16x8x128.size a) ∧
  (∀ k0_t12 : Fin (k0_t12_loop v181).trips, ∀ (k0_h15 : k0_cond15 v181 k0_t12 = 1#1), ∀ a, (k0_off372 v181 k0_t12) a + S1x1.size a ≤ S2x8.size a) ∧
  (∀ k0_t12 : Fin (k0_t12_loop v181).trips, ∀ (k0_h15 : k0_cond15 v181 k0_t12 = 1#1), ∀ a, (k0_off373 v181 k0_t12) a + S1x1x16x8x128.size a ≤ S2x8x16x8x128.size a) ∧
  (∀ k0_t12 : Fin (k0_t12_loop v181).trips, ∀ (k0_h15 : k0_cond15 v181 k0_t12 = 1#1), ∀ a, (k0_off374 v181 k0_t12) a + S1x1.size a ≤ S8x512.size a) ∧
  (∀ k0_t12 : Fin (k0_t12_loop v181).trips, ∀ (k0_h15 : k0_cond15 v181 k0_t12 = 1#1), ∀ a, (k0_off375 v181 k0_t12) a + S1x1.size a ≤ S2x8.size a) ∧
  (∀ k0_t12 : Fin (k0_t12_loop v181).trips, ∀ (k0_h15 : k0_cond15 v181 k0_t12 = 1#1), ∀ a, (k0_off376 v181 k0_t12) a + S1x1x16x8x128.size a ≤ S2x8x16x8x128.size a) ∧
  (∀ k0_t12 : Fin (k0_t12_loop v181).trips, ∀ (k0_h15 : k0_cond15 v181 k0_t12 = 1#1), ∀ a, (k0_off378 v181 k0_t12) a + S1x1.size a ≤ S2x8.size a) ∧
  (∀ k0_t12 : Fin (k0_t12_loop v181).trips, ∀ (k0_h15 : k0_cond15 v181 k0_t12 = 1#1), ∀ a, (k0_off379 v181 k0_t12) a + S1x1x16x8x128.size a ≤ S2x8x16x8x128.size a) ∧
  (∀ k0_t12 : Fin (k0_t12_loop v181).trips, ∀ (k0_h15 : k0_cond15 v181 k0_t12 = 1#1), ∀ a, (k0_off380 v181 k0_t12) a + S1x1.size a ≤ S8x512.size a) ∧
  (∀ k0_t12 : Fin (k0_t12_loop v181).trips, ∀ (k0_h15 : k0_cond15 v181 k0_t12 = 1#1), ∀ a, (k0_off381 v181 k0_t12) a + S1x1.size a ≤ S2x8.size a) ∧
  (∀ k0_t12 : Fin (k0_t12_loop v181).trips, ∀ (k0_h15 : k0_cond15 v181 k0_t12 = 1#1), ∀ a, (k0_off382 v181 k0_t12) a + S1x1x16x8x128.size a ≤ S2x8x16x8x128.size a) ∧
  (∀ k0_t12 : Fin (k0_t12_loop v181).trips, ∀ (k0_h15 : k0_cond15 v181 k0_t12 = 1#1), ∀ a, (k0_off384 v181 k0_t12) a + S1x1.size a ≤ S2x8.size a) ∧
  (∀ k0_t12 : Fin (k0_t12_loop v181).trips, ∀ (k0_h15 : k0_cond15 v181 k0_t12 = 1#1), ∀ a, (k0_off385 v181 k0_t12) a + S1x1x16x8x128.size a ≤ S2x8x16x8x128.size a) ∧
  (∀ k0_t12 : Fin (k0_t12_loop v181).trips, ∀ (k0_h15 : k0_cond15 v181 k0_t12 = 1#1), ∀ a, (k0_off386 v181 k0_t12) a + S1x1.size a ≤ S8x512.size a) ∧
  (∀ k0_t12 : Fin (k0_t12_loop v181).trips, ∀ (k0_h15 : k0_cond15 v181 k0_t12 = 1#1), ∀ a, (k0_off387 v181 k0_t12) a + S1x1.size a ≤ S2x8.size a) ∧
  (∀ k0_t12 : Fin (k0_t12_loop v181).trips, ∀ (k0_h15 : k0_cond15 v181 k0_t12 = 1#1), ∀ a, (k0_off388 v181 k0_t12) a + S1x1x16x8x128.size a ≤ S2x8x16x8x128.size a) ∧
  (∀ k0_t12 : Fin (k0_t12_loop v181).trips, ∀ (k0_h15 : k0_cond15 v181 k0_t12 = 1#1), ∀ a, (k0_off390 v181 k0_t12) a + S1x1.size a ≤ S2x8.size a) ∧
  (∀ k0_t12 : Fin (k0_t12_loop v181).trips, ∀ (k0_h15 : k0_cond15 v181 k0_t12 = 1#1), ∀ a, (k0_off391 v181 k0_t12) a + S1x1x16x8x128.size a ≤ S2x8x16x8x128.size a) ∧
  (∀ k0_t12 : Fin (k0_t12_loop v181).trips, ∀ (k0_h15 : k0_cond15 v181 k0_t12 = 1#1), ∀ a, (k0_off392 v181 k0_t12) a + S1x1.size a ≤ S8x512.size a) ∧
  (∀ k0_t12 : Fin (k0_t12_loop v181).trips, ∀ (k0_h15 : k0_cond15 v181 k0_t12 = 1#1), ∀ a, (k0_off393 v181 k0_t12) a + S1x1.size a ≤ S2x8.size a) ∧
  (∀ k0_t12 : Fin (k0_t12_loop v181).trips, ∀ (k0_h15 : k0_cond15 v181 k0_t12 = 1#1), ∀ a, (k0_off394 v181 k0_t12) a + S1x1x16x8x128.size a ≤ S2x8x16x8x128.size a) ∧
  (∀ k0_t12 : Fin (k0_t12_loop v181).trips, ∀ (k0_h15 : k0_cond15 v181 k0_t12 = 1#1), ∀ a, (k0_off396 v181 k0_t12) a + S1x1.size a ≤ S2x8.size a) ∧
  (∀ k0_t12 : Fin (k0_t12_loop v181).trips, ∀ (k0_h15 : k0_cond15 v181 k0_t12 = 1#1), ∀ a, (k0_off397 v181 k0_t12) a + S1x1x16x8x128.size a ≤ S2x8x16x8x128.size a) ∧
  (∀ k0_t12 : Fin (k0_t12_loop v181).trips, ∀ (k0_h15 : k0_cond15 v181 k0_t12 = 1#1), ∀ a, (k0_off398 v181 k0_t12) a + S1x1.size a ≤ S8x512.size a) ∧
  (∀ k0_t12 : Fin (k0_t12_loop v181).trips, ∀ (k0_h15 : k0_cond15 v181 k0_t12 = 1#1), ∀ a, (k0_off399 v181 k0_t12) a + S1x1.size a ≤ S2x8.size a) ∧
  (∀ k0_t12 : Fin (k0_t12_loop v181).trips, ∀ (k0_h15 : k0_cond15 v181 k0_t12 = 1#1), ∀ a, (k0_off400 v181 k0_t12) a + S1x1x16x8x128.size a ≤ S2x8x16x8x128.size a) ∧
  (∀ k0_t12 : Fin (k0_t12_loop v181).trips, ∀ (k0_h15 : k0_cond15 v181 k0_t12 = 1#1), ∀ a, (k0_off402 v181 k0_t12) a + S1x1.size a ≤ S2x8.size a) ∧
  (∀ k0_t12 : Fin (k0_t12_loop v181).trips, ∀ (k0_h15 : k0_cond15 v181 k0_t12 = 1#1), ∀ a, (k0_off403 v181 k0_t12) a + S1x1x16x8x128.size a ≤ S2x8x16x8x128.size a) ∧
  (∀ k0_t12 : Fin (k0_t12_loop v181).trips, ∀ (k0_h15 : k0_cond15 v181 k0_t12 = 1#1), ∀ a, (k0_off404 v181 k0_t12) a + S1x1.size a ≤ S8x512.size a) ∧
  (∀ k0_t12 : Fin (k0_t12_loop v181).trips, ∀ (k0_h15 : k0_cond15 v181 k0_t12 = 1#1), ∀ a, (k0_off405 v181 k0_t12) a + S1x1.size a ≤ S2x8.size a)
def k0_chk68_3 (v181 : BitVec 32) : Prop :=
  (∀ k0_t12 : Fin (k0_t12_loop v181).trips, ∀ (k0_h15 : k0_cond15 v181 k0_t12 = 1#1), ∀ a, (k0_off406 v181 k0_t12) a + S1x1x16x8x128.size a ≤ S2x8x16x8x128.size a) ∧
  (∀ k0_t12 : Fin (k0_t12_loop v181).trips, ∀ (k0_h15 : k0_cond15 v181 k0_t12 = 1#1), ∀ a, (k0_off408 v181 k0_t12) a + S1x1.size a ≤ S2x8.size a) ∧
  (∀ k0_t12 : Fin (k0_t12_loop v181).trips, ∀ (k0_h15 : k0_cond15 v181 k0_t12 = 1#1), ∀ a, (k0_off409 v181 k0_t12) a + S1x1x16x8x128.size a ≤ S2x8x16x8x128.size a) ∧
  (∀ k0_t12 : Fin (k0_t12_loop v181).trips, ∀ a, (k0_off410 v181 k0_t12) a + S1x1.size a ≤ S2x8.size a) ∧
  (∀ k0_t12 : Fin (k0_t12_loop v181).trips, ∀ a, (k0_off411 v181 k0_t12) a + S1x1x16x8x128.size a ≤ S2x8x16x8x128.size a) ∧
  (∀ k0_t12 : Fin (k0_t12_loop v181).trips, ∀ a, (k0_off412 v181 k0_t12) a + S1x1.size a ≤ S2x8.size a) ∧
  (∀ k0_t12 : Fin (k0_t12_loop v181).trips, ∀ a, (k0_off413 v181 k0_t12) a + S1x1x16x8x128.size a ≤ S2x8x16x8x128.size a) ∧
  (∀ k0_t12 : Fin (k0_t12_loop v181).trips, ∀ a, (k0_off414 v181 k0_t12) a + S1x1.size a ≤ S2x8.size a) ∧
  (∀ k0_t12 : Fin (k0_t12_loop v181).trips, ∀ a, (k0_off415 v181 k0_t12) a + S1x1x16x8x128.size a ≤ S2x8x16x8x128.size a) ∧
  (∀ k0_t12 : Fin (k0_t12_loop v181).trips, ∀ a, (k0_off416 v181 k0_t12) a + S1x1.size a ≤ S2x8.size a) ∧
  (∀ k0_t12 : Fin (k0_t12_loop v181).trips, ∀ a, (k0_off417 v181 k0_t12) a + S1x1x16x8x128.size a ≤ S2x8x16x8x128.size a) ∧
  (∀ k0_t12 : Fin (k0_t12_loop v181).trips, ∀ a, (k0_off418 v181 k0_t12) a + S1x1.size a ≤ S2x8.size a) ∧
  (∀ k0_t12 : Fin (k0_t12_loop v181).trips, ∀ a, (k0_off419 v181 k0_t12) a + S1x1x16x8x128.size a ≤ S2x8x16x8x128.size a) ∧
  (∀ k0_t12 : Fin (k0_t12_loop v181).trips, ∀ a, (k0_off420 v181 k0_t12) a + S1x1.size a ≤ S2x8.size a) ∧
  (∀ k0_t12 : Fin (k0_t12_loop v181).trips, ∀ a, (k0_off421 v181 k0_t12) a + S1x1x16x8x128.size a ≤ S2x8x16x8x128.size a) ∧
  (∀ k0_t12 : Fin (k0_t12_loop v181).trips, ∀ a, (k0_off422 v181 k0_t12) a + S1x1.size a ≤ S2x8.size a) ∧
  (∀ k0_t12 : Fin (k0_t12_loop v181).trips, ∀ a, (k0_off423 v181 k0_t12) a + S1x1x16x8x128.size a ≤ S2x8x16x8x128.size a) ∧
  (∀ k0_t12 : Fin (k0_t12_loop v181).trips, ∀ a, (k0_off424 v181 k0_t12) a + S1x1.size a ≤ S2x8.size a) ∧
  (∀ k0_t12 : Fin (k0_t12_loop v181).trips, ∀ a, (k0_off425 v181 k0_t12) a + S1x1x16x8x128.size a ≤ S2x8x16x8x128.size a) ∧
  (∀ k0_t12 : Fin (k0_t12_loop v181).trips, ∀ a, (k0_off426 v181 k0_t12) a + S1x8x16x8x128.size a ≤ S2x8x16x8x128.size a)
def k0_chk68 (v181 : BitVec 32) : Prop :=
  k0_chk68_0 v181 ∧
  k0_chk68_1 v181 ∧
  k0_chk68_2 v181 ∧
  k0_chk68_3 v181
theorem k0_t11_ok : ∀ (v181 : BitVec 32) (k0_hw68 : k0_chk68 v181), (k0_t11_loop v181).OK := fun v181 k0_hw68 => k0_hw68.1.1
theorem k0_off297_inb : ∀ (v181 : BitVec 32) (k0_hw68 : k0_chk68 v181) (k0_t11 : Fin (k0_t11_loop v181).trips), ∀ (k0_h14 : k0_cond14 v181 k0_t11 = 1#1), ∀ a, (k0_off297 v181 k0_t11) a + S1x1.size a ≤ S8x512.size a := fun v181 k0_hw68 k0_t11 k0_h14 => k0_hw68.1.2.1 k0_t11 k0_h14
theorem k0_off298_inb : ∀ (v181 : BitVec 32) (k0_hw68 : k0_chk68 v181) (k0_t11 : Fin (k0_t11_loop v181).trips), ∀ (k0_h14 : k0_cond14 v181 k0_t11 = 1#1), ∀ a, (k0_off298 v181 k0_t11) a + S1x1.size a ≤ S2x8.size a := fun v181 k0_hw68 k0_t11 k0_h14 => k0_hw68.1.2.2.1 k0_t11 k0_h14
theorem k0_off299_inb : ∀ (v181 : BitVec 32) (k0_hw68 : k0_chk68 v181) (k0_t11 : Fin (k0_t11_loop v181).trips), ∀ (k0_h14 : k0_cond14 v181 k0_t11 = 1#1), ∀ a, (k0_off299 v181 k0_t11) a + S1x1x16x8x128.size a ≤ S2x8x16x8x128.size a := fun v181 k0_hw68 k0_t11 k0_h14 => k0_hw68.1.2.2.2.1 k0_t11 k0_h14
theorem k0_off301_inb : ∀ (v181 : BitVec 32) (k0_hw68 : k0_chk68 v181) (k0_t11 : Fin (k0_t11_loop v181).trips), ∀ (k0_h14 : k0_cond14 v181 k0_t11 = 1#1), ∀ a, (k0_off301 v181 k0_t11) a + S1x1.size a ≤ S2x8.size a := fun v181 k0_hw68 k0_t11 k0_h14 => k0_hw68.1.2.2.2.2.1 k0_t11 k0_h14
theorem k0_off302_inb : ∀ (v181 : BitVec 32) (k0_hw68 : k0_chk68 v181) (k0_t11 : Fin (k0_t11_loop v181).trips), ∀ (k0_h14 : k0_cond14 v181 k0_t11 = 1#1), ∀ a, (k0_off302 v181 k0_t11) a + S1x1x16x8x128.size a ≤ S2x8x16x8x128.size a := fun v181 k0_hw68 k0_t11 k0_h14 => k0_hw68.1.2.2.2.2.2.1 k0_t11 k0_h14
theorem k0_off303_inb : ∀ (v181 : BitVec 32) (k0_hw68 : k0_chk68 v181) (k0_t11 : Fin (k0_t11_loop v181).trips), ∀ (k0_h14 : k0_cond14 v181 k0_t11 = 1#1), ∀ a, (k0_off303 v181 k0_t11) a + S1x1.size a ≤ S8x512.size a := fun v181 k0_hw68 k0_t11 k0_h14 => k0_hw68.1.2.2.2.2.2.2.1 k0_t11 k0_h14
theorem k0_off304_inb : ∀ (v181 : BitVec 32) (k0_hw68 : k0_chk68 v181) (k0_t11 : Fin (k0_t11_loop v181).trips), ∀ (k0_h14 : k0_cond14 v181 k0_t11 = 1#1), ∀ a, (k0_off304 v181 k0_t11) a + S1x1.size a ≤ S2x8.size a := fun v181 k0_hw68 k0_t11 k0_h14 => k0_hw68.1.2.2.2.2.2.2.2.1 k0_t11 k0_h14
theorem k0_off305_inb : ∀ (v181 : BitVec 32) (k0_hw68 : k0_chk68 v181) (k0_t11 : Fin (k0_t11_loop v181).trips), ∀ (k0_h14 : k0_cond14 v181 k0_t11 = 1#1), ∀ a, (k0_off305 v181 k0_t11) a + S1x1x16x8x128.size a ≤ S2x8x16x8x128.size a := fun v181 k0_hw68 k0_t11 k0_h14 => k0_hw68.1.2.2.2.2.2.2.2.2.1 k0_t11 k0_h14
theorem k0_off307_inb : ∀ (v181 : BitVec 32) (k0_hw68 : k0_chk68 v181) (k0_t11 : Fin (k0_t11_loop v181).trips), ∀ (k0_h14 : k0_cond14 v181 k0_t11 = 1#1), ∀ a, (k0_off307 v181 k0_t11) a + S1x1.size a ≤ S2x8.size a := fun v181 k0_hw68 k0_t11 k0_h14 => k0_hw68.1.2.2.2.2.2.2.2.2.2.1 k0_t11 k0_h14
theorem k0_off308_inb : ∀ (v181 : BitVec 32) (k0_hw68 : k0_chk68 v181) (k0_t11 : Fin (k0_t11_loop v181).trips), ∀ (k0_h14 : k0_cond14 v181 k0_t11 = 1#1), ∀ a, (k0_off308 v181 k0_t11) a + S1x1x16x8x128.size a ≤ S2x8x16x8x128.size a := fun v181 k0_hw68 k0_t11 k0_h14 => k0_hw68.1.2.2.2.2.2.2.2.2.2.2.1 k0_t11 k0_h14
theorem k0_off309_inb : ∀ (v181 : BitVec 32) (k0_hw68 : k0_chk68 v181) (k0_t11 : Fin (k0_t11_loop v181).trips), ∀ (k0_h14 : k0_cond14 v181 k0_t11 = 1#1), ∀ a, (k0_off309 v181 k0_t11) a + S1x1.size a ≤ S8x512.size a := fun v181 k0_hw68 k0_t11 k0_h14 => k0_hw68.1.2.2.2.2.2.2.2.2.2.2.2.1 k0_t11 k0_h14
theorem k0_off310_inb : ∀ (v181 : BitVec 32) (k0_hw68 : k0_chk68 v181) (k0_t11 : Fin (k0_t11_loop v181).trips), ∀ (k0_h14 : k0_cond14 v181 k0_t11 = 1#1), ∀ a, (k0_off310 v181 k0_t11) a + S1x1.size a ≤ S2x8.size a := fun v181 k0_hw68 k0_t11 k0_h14 => k0_hw68.1.2.2.2.2.2.2.2.2.2.2.2.2.1 k0_t11 k0_h14
theorem k0_off311_inb : ∀ (v181 : BitVec 32) (k0_hw68 : k0_chk68 v181) (k0_t11 : Fin (k0_t11_loop v181).trips), ∀ (k0_h14 : k0_cond14 v181 k0_t11 = 1#1), ∀ a, (k0_off311 v181 k0_t11) a + S1x1x16x8x128.size a ≤ S2x8x16x8x128.size a := fun v181 k0_hw68 k0_t11 k0_h14 => k0_hw68.1.2.2.2.2.2.2.2.2.2.2.2.2.2.1 k0_t11 k0_h14
theorem k0_off313_inb : ∀ (v181 : BitVec 32) (k0_hw68 : k0_chk68 v181) (k0_t11 : Fin (k0_t11_loop v181).trips), ∀ (k0_h14 : k0_cond14 v181 k0_t11 = 1#1), ∀ a, (k0_off313 v181 k0_t11) a + S1x1.size a ≤ S2x8.size a := fun v181 k0_hw68 k0_t11 k0_h14 => k0_hw68.1.2.2.2.2.2.2.2.2.2.2.2.2.2.2.1 k0_t11 k0_h14
theorem k0_off314_inb : ∀ (v181 : BitVec 32) (k0_hw68 : k0_chk68 v181) (k0_t11 : Fin (k0_t11_loop v181).trips), ∀ (k0_h14 : k0_cond14 v181 k0_t11 = 1#1), ∀ a, (k0_off314 v181 k0_t11) a + S1x1x16x8x128.size a ≤ S2x8x16x8x128.size a := fun v181 k0_hw68 k0_t11 k0_h14 => k0_hw68.1.2.2.2.2.2.2.2.2.2.2.2.2.2.2.2.1 k0_t11 k0_h14
theorem k0_off315_inb : ∀ (v181 : BitVec 32) (k0_hw68 : k0_chk68 v181) (k0_t11 : Fin (k0_t11_loop v181).trips), ∀ (k0_h14 : k0_cond14 v181 k0_t11 = 1#1), ∀ a, (k0_off315 v181 k0_t11) a + S1x1.size a ≤ S8x512.size a := fun v181 k0_hw68 k0_t11 k0_h14 => k0_hw68.1.2.2.2.2.2.2.2.2.2.2.2.2.2.2.2.2.1 k0_t11 k0_h14
theorem k0_off316_inb : ∀ (v181 : BitVec 32) (k0_hw68 : k0_chk68 v181) (k0_t11 : Fin (k0_t11_loop v181).trips), ∀ (k0_h14 : k0_cond14 v181 k0_t11 = 1#1), ∀ a, (k0_off316 v181 k0_t11) a + S1x1.size a ≤ S2x8.size a := fun v181 k0_hw68 k0_t11 k0_h14 => k0_hw68.1.2.2.2.2.2.2.2.2.2.2.2.2.2.2.2.2.2.1 k0_t11 k0_h14
theorem k0_off317_inb : ∀ (v181 : BitVec 32) (k0_hw68 : k0_chk68 v181) (k0_t11 : Fin (k0_t11_loop v181).trips), ∀ (k0_h14 : k0_cond14 v181 k0_t11 = 1#1), ∀ a, (k0_off317 v181 k0_t11) a + S1x1x16x8x128.size a ≤ S2x8x16x8x128.size a := fun v181 k0_hw68 k0_t11 k0_h14 => k0_hw68.1.2.2.2.2.2.2.2.2.2.2.2.2.2.2.2.2.2.2.1 k0_t11 k0_h14
theorem k0_off319_inb : ∀ (v181 : BitVec 32) (k0_hw68 : k0_chk68 v181) (k0_t11 : Fin (k0_t11_loop v181).trips), ∀ (k0_h14 : k0_cond14 v181 k0_t11 = 1#1), ∀ a, (k0_off319 v181 k0_t11) a + S1x1.size a ≤ S2x8.size a := fun v181 k0_hw68 k0_t11 k0_h14 => k0_hw68.1.2.2.2.2.2.2.2.2.2.2.2.2.2.2.2.2.2.2.2.1 k0_t11 k0_h14
theorem k0_off320_inb : ∀ (v181 : BitVec 32) (k0_hw68 : k0_chk68 v181) (k0_t11 : Fin (k0_t11_loop v181).trips), ∀ (k0_h14 : k0_cond14 v181 k0_t11 = 1#1), ∀ a, (k0_off320 v181 k0_t11) a + S1x1x16x8x128.size a ≤ S2x8x16x8x128.size a := fun v181 k0_hw68 k0_t11 k0_h14 => k0_hw68.1.2.2.2.2.2.2.2.2.2.2.2.2.2.2.2.2.2.2.2.2.1 k0_t11 k0_h14
theorem k0_off321_inb : ∀ (v181 : BitVec 32) (k0_hw68 : k0_chk68 v181) (k0_t11 : Fin (k0_t11_loop v181).trips), ∀ (k0_h14 : k0_cond14 v181 k0_t11 = 1#1), ∀ a, (k0_off321 v181 k0_t11) a + S1x1.size a ≤ S8x512.size a := fun v181 k0_hw68 k0_t11 k0_h14 => k0_hw68.1.2.2.2.2.2.2.2.2.2.2.2.2.2.2.2.2.2.2.2.2.2.1 k0_t11 k0_h14
theorem k0_off322_inb : ∀ (v181 : BitVec 32) (k0_hw68 : k0_chk68 v181) (k0_t11 : Fin (k0_t11_loop v181).trips), ∀ (k0_h14 : k0_cond14 v181 k0_t11 = 1#1), ∀ a, (k0_off322 v181 k0_t11) a + S1x1.size a ≤ S2x8.size a := fun v181 k0_hw68 k0_t11 k0_h14 => k0_hw68.1.2.2.2.2.2.2.2.2.2.2.2.2.2.2.2.2.2.2.2.2.2.2.1 k0_t11 k0_h14
theorem k0_off323_inb : ∀ (v181 : BitVec 32) (k0_hw68 : k0_chk68 v181) (k0_t11 : Fin (k0_t11_loop v181).trips), ∀ (k0_h14 : k0_cond14 v181 k0_t11 = 1#1), ∀ a, (k0_off323 v181 k0_t11) a + S1x1x16x8x128.size a ≤ S2x8x16x8x128.size a := fun v181 k0_hw68 k0_t11 k0_h14 => k0_hw68.1.2.2.2.2.2.2.2.2.2.2.2.2.2.2.2.2.2.2.2.2.2.2.2.1 k0_t11 k0_h14
theorem k0_off325_inb : ∀ (v181 : BitVec 32) (k0_hw68 : k0_chk68 v181) (k0_t11 : Fin (k0_t11_loop v181).trips), ∀ (k0_h14 : k0_cond14 v181 k0_t11 = 1#1), ∀ a, (k0_off325 v181 k0_t11) a + S1x1.size a ≤ S2x8.size a := fun v181 k0_hw68 k0_t11 k0_h14 => k0_hw68.1.2.2.2.2.2.2.2.2.2.2.2.2.2.2.2.2.2.2.2.2.2.2.2.2.1 k0_t11 k0_h14
theorem k0_off326_inb : ∀ (v181 : BitVec 32) (k0_hw68 : k0_chk68 v181) (k0_t11 : Fin (k0_t11_loop v181).trips), ∀ (k0_h14 : k0_cond14 v181 k0_t11 = 1#1), ∀ a, (k0_off326 v181 k0_t11) a + S1x1x16x8x128.size a ≤ S2x8x16x8x128.size a := fun v181 k0_hw68 k0_t11 k0_h14 => k0_hw68.1.2.2.2.2.2.2.2.2.2.2.2.2.2.2.2.2.2.2.2.2.2.2.2.2.2.1 k0_t11 k0_h14
theorem k0_off327_inb : ∀ (v181 : BitVec 32) (k0_hw68 : k0_chk68 v181) (k0_t11 : Fin (k0_t11_loop v181).trips), ∀ (k0_h14 : k0_cond14 v181 k0_t11 = 1#1), ∀ a, (k0_off327 v181 k0_t11) a + S1x1.size a ≤ S8x512.size a := fun v181 k0_hw68 k0_t11 k0_h14 => k0_hw68.1.2.2.2.2.2.2.2.2.2.2.2.2.2.2.2.2.2.2.2.2.2.2.2.2.2.2.1 k0_t11 k0_h14
theorem k0_off328_inb : ∀ (v181 : BitVec 32) (k0_hw68 : k0_chk68 v181) (k0_t11 : Fin (k0_t11_loop v181).trips), ∀ (k0_h14 : k0_cond14 v181 k0_t11 = 1#1), ∀ a, (k0_off328 v181 k0_t11) a + S1x1.size a ≤ S2x8.size a := fun v181 k0_hw68 k0_t11 k0_h14 => k0_hw68.1.2.2.2.2.2.2.2.2.2.2.2.2.2.2.2.2.2.2.2.2.2.2.2.2.2.2.2.1 k0_t11 k0_h14
theorem k0_off329_inb : ∀ (v181 : BitVec 32) (k0_hw68 : k0_chk68 v181) (k0_t11 : Fin (k0_t11_loop v181).trips), ∀ (k0_h14 : k0_cond14 v181 k0_t11 = 1#1), ∀ a, (k0_off329 v181 k0_t11) a + S1x1x16x8x128.size a ≤ S2x8x16x8x128.size a := fun v181 k0_hw68 k0_t11 k0_h14 => k0_hw68.1.2.2.2.2.2.2.2.2.2.2.2.2.2.2.2.2.2.2.2.2.2.2.2.2.2.2.2.2.1 k0_t11 k0_h14
theorem k0_off331_inb : ∀ (v181 : BitVec 32) (k0_hw68 : k0_chk68 v181) (k0_t11 : Fin (k0_t11_loop v181).trips), ∀ (k0_h14 : k0_cond14 v181 k0_t11 = 1#1), ∀ a, (k0_off331 v181 k0_t11) a + S1x1.size a ≤ S2x8.size a := fun v181 k0_hw68 k0_t11 k0_h14 => k0_hw68.1.2.2.2.2.2.2.2.2.2.2.2.2.2.2.2.2.2.2.2.2.2.2.2.2.2.2.2.2.2.1 k0_t11 k0_h14
theorem k0_off332_inb : ∀ (v181 : BitVec 32) (k0_hw68 : k0_chk68 v181) (k0_t11 : Fin (k0_t11_loop v181).trips), ∀ (k0_h14 : k0_cond14 v181 k0_t11 = 1#1), ∀ a, (k0_off332 v181 k0_t11) a + S1x1x16x8x128.size a ≤ S2x8x16x8x128.size a := fun v181 k0_hw68 k0_t11 k0_h14 => k0_hw68.1.2.2.2.2.2.2.2.2.2.2.2.2.2.2.2.2.2.2.2.2.2.2.2.2.2.2.2.2.2.2.1 k0_t11 k0_h14
theorem k0_off333_inb : ∀ (v181 : BitVec 32) (k0_hw68 : k0_chk68 v181) (k0_t11 : Fin (k0_t11_loop v181).trips), ∀ (k0_h14 : k0_cond14 v181 k0_t11 = 1#1), ∀ a, (k0_off333 v181 k0_t11) a + S1x1.size a ≤ S8x512.size a := fun v181 k0_hw68 k0_t11 k0_h14 => k0_hw68.1.2.2.2.2.2.2.2.2.2.2.2.2.2.2.2.2.2.2.2.2.2.2.2.2.2.2.2.2.2.2.2 k0_t11 k0_h14
theorem k0_off334_inb : ∀ (v181 : BitVec 32) (k0_hw68 : k0_chk68 v181) (k0_t11 : Fin (k0_t11_loop v181).trips), ∀ (k0_h14 : k0_cond14 v181 k0_t11 = 1#1), ∀ a, (k0_off334 v181 k0_t11) a + S1x1.size a ≤ S2x8.size a := fun v181 k0_hw68 k0_t11 k0_h14 => k0_hw68.2.1.1 k0_t11 k0_h14
theorem k0_off335_inb : ∀ (v181 : BitVec 32) (k0_hw68 : k0_chk68 v181) (k0_t11 : Fin (k0_t11_loop v181).trips), ∀ (k0_h14 : k0_cond14 v181 k0_t11 = 1#1), ∀ a, (k0_off335 v181 k0_t11) a + S1x1x16x8x128.size a ≤ S2x8x16x8x128.size a := fun v181 k0_hw68 k0_t11 k0_h14 => k0_hw68.2.1.2.1 k0_t11 k0_h14
theorem k0_off337_inb : ∀ (v181 : BitVec 32) (k0_hw68 : k0_chk68 v181) (k0_t11 : Fin (k0_t11_loop v181).trips), ∀ (k0_h14 : k0_cond14 v181 k0_t11 = 1#1), ∀ a, (k0_off337 v181 k0_t11) a + S1x1.size a ≤ S2x8.size a := fun v181 k0_hw68 k0_t11 k0_h14 => k0_hw68.2.1.2.2.1 k0_t11 k0_h14
theorem k0_off338_inb : ∀ (v181 : BitVec 32) (k0_hw68 : k0_chk68 v181) (k0_t11 : Fin (k0_t11_loop v181).trips), ∀ (k0_h14 : k0_cond14 v181 k0_t11 = 1#1), ∀ a, (k0_off338 v181 k0_t11) a + S1x1x16x8x128.size a ≤ S2x8x16x8x128.size a := fun v181 k0_hw68 k0_t11 k0_h14 => k0_hw68.2.1.2.2.2.1 k0_t11 k0_h14
theorem k0_off339_inb : ∀ (v181 : BitVec 32) (k0_hw68 : k0_chk68 v181) (k0_t11 : Fin (k0_t11_loop v181).trips), ∀ (k0_h14 : k0_cond14 v181 k0_t11 = 1#1), ∀ a, (k0_off339 v181 k0_t11) a + S1x1.size a ≤ S8x512.size a := fun v181 k0_hw68 k0_t11 k0_h14 => k0_hw68.2.1.2.2.2.2.1 k0_t11 k0_h14
theorem k0_off340_inb : ∀ (v181 : BitVec 32) (k0_hw68 : k0_chk68 v181) (k0_t11 : Fin (k0_t11_loop v181).trips), ∀ (k0_h14 : k0_cond14 v181 k0_t11 = 1#1), ∀ a, (k0_off340 v181 k0_t11) a + S1x1.size a ≤ S2x8.size a := fun v181 k0_hw68 k0_t11 k0_h14 => k0_hw68.2.1.2.2.2.2.2.1 k0_t11 k0_h14
theorem k0_off341_inb : ∀ (v181 : BitVec 32) (k0_hw68 : k0_chk68 v181) (k0_t11 : Fin (k0_t11_loop v181).trips), ∀ (k0_h14 : k0_cond14 v181 k0_t11 = 1#1), ∀ a, (k0_off341 v181 k0_t11) a + S1x1x16x8x128.size a ≤ S2x8x16x8x128.size a := fun v181 k0_hw68 k0_t11 k0_h14 => k0_hw68.2.1.2.2.2.2.2.2.1 k0_t11 k0_h14
theorem k0_off343_inb : ∀ (v181 : BitVec 32) (k0_hw68 : k0_chk68 v181) (k0_t11 : Fin (k0_t11_loop v181).trips), ∀ (k0_h14 : k0_cond14 v181 k0_t11 = 1#1), ∀ a, (k0_off343 v181 k0_t11) a + S1x1.size a ≤ S2x8.size a := fun v181 k0_hw68 k0_t11 k0_h14 => k0_hw68.2.1.2.2.2.2.2.2.2.1 k0_t11 k0_h14
theorem k0_off344_inb : ∀ (v181 : BitVec 32) (k0_hw68 : k0_chk68 v181) (k0_t11 : Fin (k0_t11_loop v181).trips), ∀ (k0_h14 : k0_cond14 v181 k0_t11 = 1#1), ∀ a, (k0_off344 v181 k0_t11) a + S1x1x16x8x128.size a ≤ S2x8x16x8x128.size a := fun v181 k0_hw68 k0_t11 k0_h14 => k0_hw68.2.1.2.2.2.2.2.2.2.2.1 k0_t11 k0_h14
theorem k0_off345_inb : ∀ (v181 : BitVec 32) (k0_hw68 : k0_chk68 v181) (k0_t11 : Fin (k0_t11_loop v181).trips), ∀ a, (k0_off345 v181 k0_t11) a + S1x1.size a ≤ S2x8.size a := fun v181 k0_hw68 k0_t11 => k0_hw68.2.1.2.2.2.2.2.2.2.2.2.1 k0_t11
theorem k0_off346_inb : ∀ (v181 : BitVec 32) (k0_hw68 : k0_chk68 v181) (k0_t11 : Fin (k0_t11_loop v181).trips), ∀ a, (k0_off346 v181 k0_t11) a + S1x1x16x8x128.size a ≤ S2x8x16x8x128.size a := fun v181 k0_hw68 k0_t11 => k0_hw68.2.1.2.2.2.2.2.2.2.2.2.2.1 k0_t11
theorem k0_off347_inb : ∀ (v181 : BitVec 32) (k0_hw68 : k0_chk68 v181) (k0_t11 : Fin (k0_t11_loop v181).trips), ∀ a, (k0_off347 v181 k0_t11) a + S1x1.size a ≤ S2x8.size a := fun v181 k0_hw68 k0_t11 => k0_hw68.2.1.2.2.2.2.2.2.2.2.2.2.2.1 k0_t11
theorem k0_off348_inb : ∀ (v181 : BitVec 32) (k0_hw68 : k0_chk68 v181) (k0_t11 : Fin (k0_t11_loop v181).trips), ∀ a, (k0_off348 v181 k0_t11) a + S1x1x16x8x128.size a ≤ S2x8x16x8x128.size a := fun v181 k0_hw68 k0_t11 => k0_hw68.2.1.2.2.2.2.2.2.2.2.2.2.2.2.1 k0_t11
theorem k0_off349_inb : ∀ (v181 : BitVec 32) (k0_hw68 : k0_chk68 v181) (k0_t11 : Fin (k0_t11_loop v181).trips), ∀ a, (k0_off349 v181 k0_t11) a + S1x1.size a ≤ S2x8.size a := fun v181 k0_hw68 k0_t11 => k0_hw68.2.1.2.2.2.2.2.2.2.2.2.2.2.2.2.1 k0_t11
theorem k0_off350_inb : ∀ (v181 : BitVec 32) (k0_hw68 : k0_chk68 v181) (k0_t11 : Fin (k0_t11_loop v181).trips), ∀ a, (k0_off350 v181 k0_t11) a + S1x1x16x8x128.size a ≤ S2x8x16x8x128.size a := fun v181 k0_hw68 k0_t11 => k0_hw68.2.1.2.2.2.2.2.2.2.2.2.2.2.2.2.2.1 k0_t11
theorem k0_off351_inb : ∀ (v181 : BitVec 32) (k0_hw68 : k0_chk68 v181) (k0_t11 : Fin (k0_t11_loop v181).trips), ∀ a, (k0_off351 v181 k0_t11) a + S1x1.size a ≤ S2x8.size a := fun v181 k0_hw68 k0_t11 => k0_hw68.2.1.2.2.2.2.2.2.2.2.2.2.2.2.2.2.2.1 k0_t11
theorem k0_off352_inb : ∀ (v181 : BitVec 32) (k0_hw68 : k0_chk68 v181) (k0_t11 : Fin (k0_t11_loop v181).trips), ∀ a, (k0_off352 v181 k0_t11) a + S1x1x16x8x128.size a ≤ S2x8x16x8x128.size a := fun v181 k0_hw68 k0_t11 => k0_hw68.2.1.2.2.2.2.2.2.2.2.2.2.2.2.2.2.2.2.1 k0_t11
theorem k0_off353_inb : ∀ (v181 : BitVec 32) (k0_hw68 : k0_chk68 v181) (k0_t11 : Fin (k0_t11_loop v181).trips), ∀ a, (k0_off353 v181 k0_t11) a + S1x1.size a ≤ S2x8.size a := fun v181 k0_hw68 k0_t11 => k0_hw68.2.1.2.2.2.2.2.2.2.2.2.2.2.2.2.2.2.2.2.1 k0_t11
theorem k0_off354_inb : ∀ (v181 : BitVec 32) (k0_hw68 : k0_chk68 v181) (k0_t11 : Fin (k0_t11_loop v181).trips), ∀ a, (k0_off354 v181 k0_t11) a + S1x1x16x8x128.size a ≤ S2x8x16x8x128.size a := fun v181 k0_hw68 k0_t11 => k0_hw68.2.1.2.2.2.2.2.2.2.2.2.2.2.2.2.2.2.2.2.2.1 k0_t11
theorem k0_off355_inb : ∀ (v181 : BitVec 32) (k0_hw68 : k0_chk68 v181) (k0_t11 : Fin (k0_t11_loop v181).trips), ∀ a, (k0_off355 v181 k0_t11) a + S1x1.size a ≤ S2x8.size a := fun v181 k0_hw68 k0_t11 => k0_hw68.2.1.2.2.2.2.2.2.2.2.2.2.2.2.2.2.2.2.2.2.2.1 k0_t11
theorem k0_off356_inb : ∀ (v181 : BitVec 32) (k0_hw68 : k0_chk68 v181) (k0_t11 : Fin (k0_t11_loop v181).trips), ∀ a, (k0_off356 v181 k0_t11) a + S1x1x16x8x128.size a ≤ S2x8x16x8x128.size a := fun v181 k0_hw68 k0_t11 => k0_hw68.2.1.2.2.2.2.2.2.2.2.2.2.2.2.2.2.2.2.2.2.2.2.1 k0_t11
theorem k0_off357_inb : ∀ (v181 : BitVec 32) (k0_hw68 : k0_chk68 v181) (k0_t11 : Fin (k0_t11_loop v181).trips), ∀ a, (k0_off357 v181 k0_t11) a + S1x1.size a ≤ S2x8.size a := fun v181 k0_hw68 k0_t11 => k0_hw68.2.1.2.2.2.2.2.2.2.2.2.2.2.2.2.2.2.2.2.2.2.2.2.1 k0_t11
theorem k0_off358_inb : ∀ (v181 : BitVec 32) (k0_hw68 : k0_chk68 v181) (k0_t11 : Fin (k0_t11_loop v181).trips), ∀ a, (k0_off358 v181 k0_t11) a + S1x1x16x8x128.size a ≤ S2x8x16x8x128.size a := fun v181 k0_hw68 k0_t11 => k0_hw68.2.1.2.2.2.2.2.2.2.2.2.2.2.2.2.2.2.2.2.2.2.2.2.2.1 k0_t11
theorem k0_off359_inb : ∀ (v181 : BitVec 32) (k0_hw68 : k0_chk68 v181) (k0_t11 : Fin (k0_t11_loop v181).trips), ∀ a, (k0_off359 v181 k0_t11) a + S1x1.size a ≤ S2x8.size a := fun v181 k0_hw68 k0_t11 => k0_hw68.2.1.2.2.2.2.2.2.2.2.2.2.2.2.2.2.2.2.2.2.2.2.2.2.2.1 k0_t11
theorem k0_off360_inb : ∀ (v181 : BitVec 32) (k0_hw68 : k0_chk68 v181) (k0_t11 : Fin (k0_t11_loop v181).trips), ∀ a, (k0_off360 v181 k0_t11) a + S1x1x16x8x128.size a ≤ S2x8x16x8x128.size a := fun v181 k0_hw68 k0_t11 => k0_hw68.2.1.2.2.2.2.2.2.2.2.2.2.2.2.2.2.2.2.2.2.2.2.2.2.2.2.1 k0_t11
theorem k0_off361_inb : ∀ (v181 : BitVec 32) (k0_hw68 : k0_chk68 v181) (k0_t11 : Fin (k0_t11_loop v181).trips), ∀ a, (k0_off361 v181 k0_t11) a + S1x8x16x8x128.size a ≤ S2x8x16x8x128.size a := fun v181 k0_hw68 k0_t11 => k0_hw68.2.1.2.2.2.2.2.2.2.2.2.2.2.2.2.2.2.2.2.2.2.2.2.2.2.2.2.1 k0_t11
theorem k0_t12_ok : ∀ (v181 : BitVec 32) (k0_hw68 : k0_chk68 v181), (k0_t12_loop v181).OK := fun v181 k0_hw68 => k0_hw68.2.1.2.2.2.2.2.2.2.2.2.2.2.2.2.2.2.2.2.2.2.2.2.2.2.2.2.2.1
theorem k0_off362_inb : ∀ (v181 : BitVec 32) (k0_hw68 : k0_chk68 v181) (k0_t12 : Fin (k0_t12_loop v181).trips), ∀ (k0_h15 : k0_cond15 v181 k0_t12 = 1#1), ∀ a, (k0_off362 v181 k0_t12) a + S1x1.size a ≤ S8x512.size a := fun v181 k0_hw68 k0_t12 k0_h15 => k0_hw68.2.1.2.2.2.2.2.2.2.2.2.2.2.2.2.2.2.2.2.2.2.2.2.2.2.2.2.2.2.1 k0_t12 k0_h15
theorem k0_off363_inb : ∀ (v181 : BitVec 32) (k0_hw68 : k0_chk68 v181) (k0_t12 : Fin (k0_t12_loop v181).trips), ∀ (k0_h15 : k0_cond15 v181 k0_t12 = 1#1), ∀ a, (k0_off363 v181 k0_t12) a + S1x1.size a ≤ S2x8.size a := fun v181 k0_hw68 k0_t12 k0_h15 => k0_hw68.2.1.2.2.2.2.2.2.2.2.2.2.2.2.2.2.2.2.2.2.2.2.2.2.2.2.2.2.2.2.1 k0_t12 k0_h15
theorem k0_off364_inb : ∀ (v181 : BitVec 32) (k0_hw68 : k0_chk68 v181) (k0_t12 : Fin (k0_t12_loop v181).trips), ∀ (k0_h15 : k0_cond15 v181 k0_t12 = 1#1), ∀ a, (k0_off364 v181 k0_t12) a + S1x1x16x8x128.size a ≤ S2x8x16x8x128.size a := fun v181 k0_hw68 k0_t12 k0_h15 => k0_hw68.2.1.2.2.2.2.2.2.2.2.2.2.2.2.2.2.2.2.2.2.2.2.2.2.2.2.2.2.2.2.2.1 k0_t12 k0_h15
theorem k0_off366_inb : ∀ (v181 : BitVec 32) (k0_hw68 : k0_chk68 v181) (k0_t12 : Fin (k0_t12_loop v181).trips), ∀ (k0_h15 : k0_cond15 v181 k0_t12 = 1#1), ∀ a, (k0_off366 v181 k0_t12) a + S1x1.size a ≤ S2x8.size a := fun v181 k0_hw68 k0_t12 k0_h15 => k0_hw68.2.1.2.2.2.2.2.2.2.2.2.2.2.2.2.2.2.2.2.2.2.2.2.2.2.2.2.2.2.2.2.2.1 k0_t12 k0_h15
theorem k0_off367_inb : ∀ (v181 : BitVec 32) (k0_hw68 : k0_chk68 v181) (k0_t12 : Fin (k0_t12_loop v181).trips), ∀ (k0_h15 : k0_cond15 v181 k0_t12 = 1#1), ∀ a, (k0_off367 v181 k0_t12) a + S1x1x16x8x128.size a ≤ S2x8x16x8x128.size a := fun v181 k0_hw68 k0_t12 k0_h15 => k0_hw68.2.1.2.2.2.2.2.2.2.2.2.2.2.2.2.2.2.2.2.2.2.2.2.2.2.2.2.2.2.2.2.2.2 k0_t12 k0_h15
theorem k0_off368_inb : ∀ (v181 : BitVec 32) (k0_hw68 : k0_chk68 v181) (k0_t12 : Fin (k0_t12_loop v181).trips), ∀ (k0_h15 : k0_cond15 v181 k0_t12 = 1#1), ∀ a, (k0_off368 v181 k0_t12) a + S1x1.size a ≤ S8x512.size a := fun v181 k0_hw68 k0_t12 k0_h15 => k0_hw68.2.2.1.1 k0_t12 k0_h15
theorem k0_off369_inb : ∀ (v181 : BitVec 32) (k0_hw68 : k0_chk68 v181) (k0_t12 : Fin (k0_t12_loop v181).trips), ∀ (k0_h15 : k0_cond15 v181 k0_t12 = 1#1), ∀ a, (k0_off369 v181 k0_t12) a + S1x1.size a ≤ S2x8.size a := fun v181 k0_hw68 k0_t12 k0_h15 => k0_hw68.2.2.1.2.1 k0_t12 k0_h15
theorem k0_off370_inb : ∀ (v181 : BitVec 32) (k0_hw68 : k0_chk68 v181) (k0_t12 : Fin (k0_t12_loop v181).trips), ∀ (k0_h15 : k0_cond15 v181 k0_t12 = 1#1), ∀ a, (k0_off370 v181 k0_t12) a + S1x1x16x8x128.size a ≤ S2x8x16x8x128.size a := fun v181 k0_hw68 k0_t12 k0_h15 => k0_hw68.2.2.1.2.2.1 k0_t12 k0_h15
theorem k0_off372_inb : ∀ (v181 : BitVec 32) (k0_hw68 : k0_chk68 v181) (k0_t12 : Fin (k0_t12_loop v181).trips), ∀ (k0_h15 : k0_cond15 v181 k0_t12 = 1#1), ∀ a, (k0_off372 v181 k0_t12) a + S1x1.size a ≤ S2x8.size a := fun v181 k0_hw68 k0_t12 k0_h15 => k0_hw68.2.2.1.2.2.2.1 k0_t12 k0_h15
theorem k0_off373_inb : ∀ (v181 : BitVec 32) (k0_hw68 : k0_chk68 v181) (k0_t12 : Fin (k0_t12_loop v181).trips), ∀ (k0_h15 : k0_cond15 v181 k0_t12 = 1#1), ∀ a, (k0_off373 v181 k0_t12) a + S1x1x16x8x128.size a ≤ S2x8x16x8x128.size a := fun v181 k0_hw68 k0_t12 k0_h15 => k0_hw68.2.2.1.2.2.2.2.1 k0_t12 k0_h15
theorem k0_off374_inb : ∀ (v181 : BitVec 32) (k0_hw68 : k0_chk68 v181) (k0_t12 : Fin (k0_t12_loop v181).trips), ∀ (k0_h15 : k0_cond15 v181 k0_t12 = 1#1), ∀ a, (k0_off374 v181 k0_t12) a + S1x1.size a ≤ S8x512.size a := fun v181 k0_hw68 k0_t12 k0_h15 => k0_hw68.2.2.1.2.2.2.2.2.1 k0_t12 k0_h15
theorem k0_off375_inb : ∀ (v181 : BitVec 32) (k0_hw68 : k0_chk68 v181) (k0_t12 : Fin (k0_t12_loop v181).trips), ∀ (k0_h15 : k0_cond15 v181 k0_t12 = 1#1), ∀ a, (k0_off375 v181 k0_t12) a + S1x1.size a ≤ S2x8.size a := fun v181 k0_hw68 k0_t12 k0_h15 => k0_hw68.2.2.1.2.2.2.2.2.2.1 k0_t12 k0_h15
theorem k0_off376_inb : ∀ (v181 : BitVec 32) (k0_hw68 : k0_chk68 v181) (k0_t12 : Fin (k0_t12_loop v181).trips), ∀ (k0_h15 : k0_cond15 v181 k0_t12 = 1#1), ∀ a, (k0_off376 v181 k0_t12) a + S1x1x16x8x128.size a ≤ S2x8x16x8x128.size a := fun v181 k0_hw68 k0_t12 k0_h15 => k0_hw68.2.2.1.2.2.2.2.2.2.2.1 k0_t12 k0_h15
theorem k0_off378_inb : ∀ (v181 : BitVec 32) (k0_hw68 : k0_chk68 v181) (k0_t12 : Fin (k0_t12_loop v181).trips), ∀ (k0_h15 : k0_cond15 v181 k0_t12 = 1#1), ∀ a, (k0_off378 v181 k0_t12) a + S1x1.size a ≤ S2x8.size a := fun v181 k0_hw68 k0_t12 k0_h15 => k0_hw68.2.2.1.2.2.2.2.2.2.2.2.1 k0_t12 k0_h15
theorem k0_off379_inb : ∀ (v181 : BitVec 32) (k0_hw68 : k0_chk68 v181) (k0_t12 : Fin (k0_t12_loop v181).trips), ∀ (k0_h15 : k0_cond15 v181 k0_t12 = 1#1), ∀ a, (k0_off379 v181 k0_t12) a + S1x1x16x8x128.size a ≤ S2x8x16x8x128.size a := fun v181 k0_hw68 k0_t12 k0_h15 => k0_hw68.2.2.1.2.2.2.2.2.2.2.2.2.1 k0_t12 k0_h15
theorem k0_off380_inb : ∀ (v181 : BitVec 32) (k0_hw68 : k0_chk68 v181) (k0_t12 : Fin (k0_t12_loop v181).trips), ∀ (k0_h15 : k0_cond15 v181 k0_t12 = 1#1), ∀ a, (k0_off380 v181 k0_t12) a + S1x1.size a ≤ S8x512.size a := fun v181 k0_hw68 k0_t12 k0_h15 => k0_hw68.2.2.1.2.2.2.2.2.2.2.2.2.2.1 k0_t12 k0_h15
theorem k0_off381_inb : ∀ (v181 : BitVec 32) (k0_hw68 : k0_chk68 v181) (k0_t12 : Fin (k0_t12_loop v181).trips), ∀ (k0_h15 : k0_cond15 v181 k0_t12 = 1#1), ∀ a, (k0_off381 v181 k0_t12) a + S1x1.size a ≤ S2x8.size a := fun v181 k0_hw68 k0_t12 k0_h15 => k0_hw68.2.2.1.2.2.2.2.2.2.2.2.2.2.2.1 k0_t12 k0_h15
theorem k0_off382_inb : ∀ (v181 : BitVec 32) (k0_hw68 : k0_chk68 v181) (k0_t12 : Fin (k0_t12_loop v181).trips), ∀ (k0_h15 : k0_cond15 v181 k0_t12 = 1#1), ∀ a, (k0_off382 v181 k0_t12) a + S1x1x16x8x128.size a ≤ S2x8x16x8x128.size a := fun v181 k0_hw68 k0_t12 k0_h15 => k0_hw68.2.2.1.2.2.2.2.2.2.2.2.2.2.2.2.1 k0_t12 k0_h15
theorem k0_off384_inb : ∀ (v181 : BitVec 32) (k0_hw68 : k0_chk68 v181) (k0_t12 : Fin (k0_t12_loop v181).trips), ∀ (k0_h15 : k0_cond15 v181 k0_t12 = 1#1), ∀ a, (k0_off384 v181 k0_t12) a + S1x1.size a ≤ S2x8.size a := fun v181 k0_hw68 k0_t12 k0_h15 => k0_hw68.2.2.1.2.2.2.2.2.2.2.2.2.2.2.2.2.1 k0_t12 k0_h15
theorem k0_off385_inb : ∀ (v181 : BitVec 32) (k0_hw68 : k0_chk68 v181) (k0_t12 : Fin (k0_t12_loop v181).trips), ∀ (k0_h15 : k0_cond15 v181 k0_t12 = 1#1), ∀ a, (k0_off385 v181 k0_t12) a + S1x1x16x8x128.size a ≤ S2x8x16x8x128.size a := fun v181 k0_hw68 k0_t12 k0_h15 => k0_hw68.2.2.1.2.2.2.2.2.2.2.2.2.2.2.2.2.2.1 k0_t12 k0_h15
theorem k0_off386_inb : ∀ (v181 : BitVec 32) (k0_hw68 : k0_chk68 v181) (k0_t12 : Fin (k0_t12_loop v181).trips), ∀ (k0_h15 : k0_cond15 v181 k0_t12 = 1#1), ∀ a, (k0_off386 v181 k0_t12) a + S1x1.size a ≤ S8x512.size a := fun v181 k0_hw68 k0_t12 k0_h15 => k0_hw68.2.2.1.2.2.2.2.2.2.2.2.2.2.2.2.2.2.2.1 k0_t12 k0_h15
theorem k0_off387_inb : ∀ (v181 : BitVec 32) (k0_hw68 : k0_chk68 v181) (k0_t12 : Fin (k0_t12_loop v181).trips), ∀ (k0_h15 : k0_cond15 v181 k0_t12 = 1#1), ∀ a, (k0_off387 v181 k0_t12) a + S1x1.size a ≤ S2x8.size a := fun v181 k0_hw68 k0_t12 k0_h15 => k0_hw68.2.2.1.2.2.2.2.2.2.2.2.2.2.2.2.2.2.2.2.1 k0_t12 k0_h15
theorem k0_off388_inb : ∀ (v181 : BitVec 32) (k0_hw68 : k0_chk68 v181) (k0_t12 : Fin (k0_t12_loop v181).trips), ∀ (k0_h15 : k0_cond15 v181 k0_t12 = 1#1), ∀ a, (k0_off388 v181 k0_t12) a + S1x1x16x8x128.size a ≤ S2x8x16x8x128.size a := fun v181 k0_hw68 k0_t12 k0_h15 => k0_hw68.2.2.1.2.2.2.2.2.2.2.2.2.2.2.2.2.2.2.2.2.1 k0_t12 k0_h15
theorem k0_off390_inb : ∀ (v181 : BitVec 32) (k0_hw68 : k0_chk68 v181) (k0_t12 : Fin (k0_t12_loop v181).trips), ∀ (k0_h15 : k0_cond15 v181 k0_t12 = 1#1), ∀ a, (k0_off390 v181 k0_t12) a + S1x1.size a ≤ S2x8.size a := fun v181 k0_hw68 k0_t12 k0_h15 => k0_hw68.2.2.1.2.2.2.2.2.2.2.2.2.2.2.2.2.2.2.2.2.2.1 k0_t12 k0_h15
theorem k0_off391_inb : ∀ (v181 : BitVec 32) (k0_hw68 : k0_chk68 v181) (k0_t12 : Fin (k0_t12_loop v181).trips), ∀ (k0_h15 : k0_cond15 v181 k0_t12 = 1#1), ∀ a, (k0_off391 v181 k0_t12) a + S1x1x16x8x128.size a ≤ S2x8x16x8x128.size a := fun v181 k0_hw68 k0_t12 k0_h15 => k0_hw68.2.2.1.2.2.2.2.2.2.2.2.2.2.2.2.2.2.2.2.2.2.2.1 k0_t12 k0_h15
theorem k0_off392_inb : ∀ (v181 : BitVec 32) (k0_hw68 : k0_chk68 v181) (k0_t12 : Fin (k0_t12_loop v181).trips), ∀ (k0_h15 : k0_cond15 v181 k0_t12 = 1#1), ∀ a, (k0_off392 v181 k0_t12) a + S1x1.size a ≤ S8x512.size a := fun v181 k0_hw68 k0_t12 k0_h15 => k0_hw68.2.2.1.2.2.2.2.2.2.2.2.2.2.2.2.2.2.2.2.2.2.2.2.1 k0_t12 k0_h15
theorem k0_off393_inb : ∀ (v181 : BitVec 32) (k0_hw68 : k0_chk68 v181) (k0_t12 : Fin (k0_t12_loop v181).trips), ∀ (k0_h15 : k0_cond15 v181 k0_t12 = 1#1), ∀ a, (k0_off393 v181 k0_t12) a + S1x1.size a ≤ S2x8.size a := fun v181 k0_hw68 k0_t12 k0_h15 => k0_hw68.2.2.1.2.2.2.2.2.2.2.2.2.2.2.2.2.2.2.2.2.2.2.2.2.1 k0_t12 k0_h15
theorem k0_off394_inb : ∀ (v181 : BitVec 32) (k0_hw68 : k0_chk68 v181) (k0_t12 : Fin (k0_t12_loop v181).trips), ∀ (k0_h15 : k0_cond15 v181 k0_t12 = 1#1), ∀ a, (k0_off394 v181 k0_t12) a + S1x1x16x8x128.size a ≤ S2x8x16x8x128.size a := fun v181 k0_hw68 k0_t12 k0_h15 => k0_hw68.2.2.1.2.2.2.2.2.2.2.2.2.2.2.2.2.2.2.2.2.2.2.2.2.2.1 k0_t12 k0_h15
theorem k0_off396_inb : ∀ (v181 : BitVec 32) (k0_hw68 : k0_chk68 v181) (k0_t12 : Fin (k0_t12_loop v181).trips), ∀ (k0_h15 : k0_cond15 v181 k0_t12 = 1#1), ∀ a, (k0_off396 v181 k0_t12) a + S1x1.size a ≤ S2x8.size a := fun v181 k0_hw68 k0_t12 k0_h15 => k0_hw68.2.2.1.2.2.2.2.2.2.2.2.2.2.2.2.2.2.2.2.2.2.2.2.2.2.2.1 k0_t12 k0_h15
theorem k0_off397_inb : ∀ (v181 : BitVec 32) (k0_hw68 : k0_chk68 v181) (k0_t12 : Fin (k0_t12_loop v181).trips), ∀ (k0_h15 : k0_cond15 v181 k0_t12 = 1#1), ∀ a, (k0_off397 v181 k0_t12) a + S1x1x16x8x128.size a ≤ S2x8x16x8x128.size a := fun v181 k0_hw68 k0_t12 k0_h15 => k0_hw68.2.2.1.2.2.2.2.2.2.2.2.2.2.2.2.2.2.2.2.2.2.2.2.2.2.2.2.1 k0_t12 k0_h15
theorem k0_off398_inb : ∀ (v181 : BitVec 32) (k0_hw68 : k0_chk68 v181) (k0_t12 : Fin (k0_t12_loop v181).trips), ∀ (k0_h15 : k0_cond15 v181 k0_t12 = 1#1), ∀ a, (k0_off398 v181 k0_t12) a + S1x1.size a ≤ S8x512.size a := fun v181 k0_hw68 k0_t12 k0_h15 => k0_hw68.2.2.1.2.2.2.2.2.2.2.2.2.2.2.2.2.2.2.2.2.2.2.2.2.2.2.2.2.1 k0_t12 k0_h15
theorem k0_off399_inb : ∀ (v181 : BitVec 32) (k0_hw68 : k0_chk68 v181) (k0_t12 : Fin (k0_t12_loop v181).trips), ∀ (k0_h15 : k0_cond15 v181 k0_t12 = 1#1), ∀ a, (k0_off399 v181 k0_t12) a + S1x1.size a ≤ S2x8.size a := fun v181 k0_hw68 k0_t12 k0_h15 => k0_hw68.2.2.1.2.2.2.2.2.2.2.2.2.2.2.2.2.2.2.2.2.2.2.2.2.2.2.2.2.2.1 k0_t12 k0_h15
theorem k0_off400_inb : ∀ (v181 : BitVec 32) (k0_hw68 : k0_chk68 v181) (k0_t12 : Fin (k0_t12_loop v181).trips), ∀ (k0_h15 : k0_cond15 v181 k0_t12 = 1#1), ∀ a, (k0_off400 v181 k0_t12) a + S1x1x16x8x128.size a ≤ S2x8x16x8x128.size a := fun v181 k0_hw68 k0_t12 k0_h15 => k0_hw68.2.2.1.2.2.2.2.2.2.2.2.2.2.2.2.2.2.2.2.2.2.2.2.2.2.2.2.2.2.2.1 k0_t12 k0_h15
theorem k0_off402_inb : ∀ (v181 : BitVec 32) (k0_hw68 : k0_chk68 v181) (k0_t12 : Fin (k0_t12_loop v181).trips), ∀ (k0_h15 : k0_cond15 v181 k0_t12 = 1#1), ∀ a, (k0_off402 v181 k0_t12) a + S1x1.size a ≤ S2x8.size a := fun v181 k0_hw68 k0_t12 k0_h15 => k0_hw68.2.2.1.2.2.2.2.2.2.2.2.2.2.2.2.2.2.2.2.2.2.2.2.2.2.2.2.2.2.2.2.1 k0_t12 k0_h15
theorem k0_off403_inb : ∀ (v181 : BitVec 32) (k0_hw68 : k0_chk68 v181) (k0_t12 : Fin (k0_t12_loop v181).trips), ∀ (k0_h15 : k0_cond15 v181 k0_t12 = 1#1), ∀ a, (k0_off403 v181 k0_t12) a + S1x1x16x8x128.size a ≤ S2x8x16x8x128.size a := fun v181 k0_hw68 k0_t12 k0_h15 => k0_hw68.2.2.1.2.2.2.2.2.2.2.2.2.2.2.2.2.2.2.2.2.2.2.2.2.2.2.2.2.2.2.2.2.1 k0_t12 k0_h15
theorem k0_off404_inb : ∀ (v181 : BitVec 32) (k0_hw68 : k0_chk68 v181) (k0_t12 : Fin (k0_t12_loop v181).trips), ∀ (k0_h15 : k0_cond15 v181 k0_t12 = 1#1), ∀ a, (k0_off404 v181 k0_t12) a + S1x1.size a ≤ S8x512.size a := fun v181 k0_hw68 k0_t12 k0_h15 => k0_hw68.2.2.1.2.2.2.2.2.2.2.2.2.2.2.2.2.2.2.2.2.2.2.2.2.2.2.2.2.2.2.2.2.2.1 k0_t12 k0_h15
theorem k0_off405_inb : ∀ (v181 : BitVec 32) (k0_hw68 : k0_chk68 v181) (k0_t12 : Fin (k0_t12_loop v181).trips), ∀ (k0_h15 : k0_cond15 v181 k0_t12 = 1#1), ∀ a, (k0_off405 v181 k0_t12) a + S1x1.size a ≤ S2x8.size a := fun v181 k0_hw68 k0_t12 k0_h15 => k0_hw68.2.2.1.2.2.2.2.2.2.2.2.2.2.2.2.2.2.2.2.2.2.2.2.2.2.2.2.2.2.2.2.2.2.2 k0_t12 k0_h15
theorem k0_off406_inb : ∀ (v181 : BitVec 32) (k0_hw68 : k0_chk68 v181) (k0_t12 : Fin (k0_t12_loop v181).trips), ∀ (k0_h15 : k0_cond15 v181 k0_t12 = 1#1), ∀ a, (k0_off406 v181 k0_t12) a + S1x1x16x8x128.size a ≤ S2x8x16x8x128.size a := fun v181 k0_hw68 k0_t12 k0_h15 => k0_hw68.2.2.2.1 k0_t12 k0_h15
theorem k0_off408_inb : ∀ (v181 : BitVec 32) (k0_hw68 : k0_chk68 v181) (k0_t12 : Fin (k0_t12_loop v181).trips), ∀ (k0_h15 : k0_cond15 v181 k0_t12 = 1#1), ∀ a, (k0_off408 v181 k0_t12) a + S1x1.size a ≤ S2x8.size a := fun v181 k0_hw68 k0_t12 k0_h15 => k0_hw68.2.2.2.2.1 k0_t12 k0_h15
theorem k0_off409_inb : ∀ (v181 : BitVec 32) (k0_hw68 : k0_chk68 v181) (k0_t12 : Fin (k0_t12_loop v181).trips), ∀ (k0_h15 : k0_cond15 v181 k0_t12 = 1#1), ∀ a, (k0_off409 v181 k0_t12) a + S1x1x16x8x128.size a ≤ S2x8x16x8x128.size a := fun v181 k0_hw68 k0_t12 k0_h15 => k0_hw68.2.2.2.2.2.1 k0_t12 k0_h15
theorem k0_off410_inb : ∀ (v181 : BitVec 32) (k0_hw68 : k0_chk68 v181) (k0_t12 : Fin (k0_t12_loop v181).trips), ∀ a, (k0_off410 v181 k0_t12) a + S1x1.size a ≤ S2x8.size a := fun v181 k0_hw68 k0_t12 => k0_hw68.2.2.2.2.2.2.1 k0_t12
theorem k0_off411_inb : ∀ (v181 : BitVec 32) (k0_hw68 : k0_chk68 v181) (k0_t12 : Fin (k0_t12_loop v181).trips), ∀ a, (k0_off411 v181 k0_t12) a + S1x1x16x8x128.size a ≤ S2x8x16x8x128.size a := fun v181 k0_hw68 k0_t12 => k0_hw68.2.2.2.2.2.2.2.1 k0_t12
theorem k0_off412_inb : ∀ (v181 : BitVec 32) (k0_hw68 : k0_chk68 v181) (k0_t12 : Fin (k0_t12_loop v181).trips), ∀ a, (k0_off412 v181 k0_t12) a + S1x1.size a ≤ S2x8.size a := fun v181 k0_hw68 k0_t12 => k0_hw68.2.2.2.2.2.2.2.2.1 k0_t12
theorem k0_off413_inb : ∀ (v181 : BitVec 32) (k0_hw68 : k0_chk68 v181) (k0_t12 : Fin (k0_t12_loop v181).trips), ∀ a, (k0_off413 v181 k0_t12) a + S1x1x16x8x128.size a ≤ S2x8x16x8x128.size a := fun v181 k0_hw68 k0_t12 => k0_hw68.2.2.2.2.2.2.2.2.2.1 k0_t12
theorem k0_off414_inb : ∀ (v181 : BitVec 32) (k0_hw68 : k0_chk68 v181) (k0_t12 : Fin (k0_t12_loop v181).trips), ∀ a, (k0_off414 v181 k0_t12) a + S1x1.size a ≤ S2x8.size a := fun v181 k0_hw68 k0_t12 => k0_hw68.2.2.2.2.2.2.2.2.2.2.1 k0_t12
theorem k0_off415_inb : ∀ (v181 : BitVec 32) (k0_hw68 : k0_chk68 v181) (k0_t12 : Fin (k0_t12_loop v181).trips), ∀ a, (k0_off415 v181 k0_t12) a + S1x1x16x8x128.size a ≤ S2x8x16x8x128.size a := fun v181 k0_hw68 k0_t12 => k0_hw68.2.2.2.2.2.2.2.2.2.2.2.1 k0_t12
theorem k0_off416_inb : ∀ (v181 : BitVec 32) (k0_hw68 : k0_chk68 v181) (k0_t12 : Fin (k0_t12_loop v181).trips), ∀ a, (k0_off416 v181 k0_t12) a + S1x1.size a ≤ S2x8.size a := fun v181 k0_hw68 k0_t12 => k0_hw68.2.2.2.2.2.2.2.2.2.2.2.2.1 k0_t12
theorem k0_off417_inb : ∀ (v181 : BitVec 32) (k0_hw68 : k0_chk68 v181) (k0_t12 : Fin (k0_t12_loop v181).trips), ∀ a, (k0_off417 v181 k0_t12) a + S1x1x16x8x128.size a ≤ S2x8x16x8x128.size a := fun v181 k0_hw68 k0_t12 => k0_hw68.2.2.2.2.2.2.2.2.2.2.2.2.2.1 k0_t12
theorem k0_off418_inb : ∀ (v181 : BitVec 32) (k0_hw68 : k0_chk68 v181) (k0_t12 : Fin (k0_t12_loop v181).trips), ∀ a, (k0_off418 v181 k0_t12) a + S1x1.size a ≤ S2x8.size a := fun v181 k0_hw68 k0_t12 => k0_hw68.2.2.2.2.2.2.2.2.2.2.2.2.2.2.1 k0_t12
theorem k0_off419_inb : ∀ (v181 : BitVec 32) (k0_hw68 : k0_chk68 v181) (k0_t12 : Fin (k0_t12_loop v181).trips), ∀ a, (k0_off419 v181 k0_t12) a + S1x1x16x8x128.size a ≤ S2x8x16x8x128.size a := fun v181 k0_hw68 k0_t12 => k0_hw68.2.2.2.2.2.2.2.2.2.2.2.2.2.2.2.1 k0_t12
theorem k0_off420_inb : ∀ (v181 : BitVec 32) (k0_hw68 : k0_chk68 v181) (k0_t12 : Fin (k0_t12_loop v181).trips), ∀ a, (k0_off420 v181 k0_t12) a + S1x1.size a ≤ S2x8.size a := fun v181 k0_hw68 k0_t12 => k0_hw68.2.2.2.2.2.2.2.2.2.2.2.2.2.2.2.2.1 k0_t12
theorem k0_off421_inb : ∀ (v181 : BitVec 32) (k0_hw68 : k0_chk68 v181) (k0_t12 : Fin (k0_t12_loop v181).trips), ∀ a, (k0_off421 v181 k0_t12) a + S1x1x16x8x128.size a ≤ S2x8x16x8x128.size a := fun v181 k0_hw68 k0_t12 => k0_hw68.2.2.2.2.2.2.2.2.2.2.2.2.2.2.2.2.2.1 k0_t12
theorem k0_off422_inb : ∀ (v181 : BitVec 32) (k0_hw68 : k0_chk68 v181) (k0_t12 : Fin (k0_t12_loop v181).trips), ∀ a, (k0_off422 v181 k0_t12) a + S1x1.size a ≤ S2x8.size a := fun v181 k0_hw68 k0_t12 => k0_hw68.2.2.2.2.2.2.2.2.2.2.2.2.2.2.2.2.2.2.1 k0_t12
theorem k0_off423_inb : ∀ (v181 : BitVec 32) (k0_hw68 : k0_chk68 v181) (k0_t12 : Fin (k0_t12_loop v181).trips), ∀ a, (k0_off423 v181 k0_t12) a + S1x1x16x8x128.size a ≤ S2x8x16x8x128.size a := fun v181 k0_hw68 k0_t12 => k0_hw68.2.2.2.2.2.2.2.2.2.2.2.2.2.2.2.2.2.2.2.1 k0_t12
theorem k0_off424_inb : ∀ (v181 : BitVec 32) (k0_hw68 : k0_chk68 v181) (k0_t12 : Fin (k0_t12_loop v181).trips), ∀ a, (k0_off424 v181 k0_t12) a + S1x1.size a ≤ S2x8.size a := fun v181 k0_hw68 k0_t12 => k0_hw68.2.2.2.2.2.2.2.2.2.2.2.2.2.2.2.2.2.2.2.2.1 k0_t12
theorem k0_off425_inb : ∀ (v181 : BitVec 32) (k0_hw68 : k0_chk68 v181) (k0_t12 : Fin (k0_t12_loop v181).trips), ∀ a, (k0_off425 v181 k0_t12) a + S1x1x16x8x128.size a ≤ S2x8x16x8x128.size a := fun v181 k0_hw68 k0_t12 => k0_hw68.2.2.2.2.2.2.2.2.2.2.2.2.2.2.2.2.2.2.2.2.2.1 k0_t12
theorem k0_off426_inb : ∀ (v181 : BitVec 32) (k0_hw68 : k0_chk68 v181) (k0_t12 : Fin (k0_t12_loop v181).trips), ∀ a, (k0_off426 v181 k0_t12) a + S1x8x16x8x128.size a ≤ S2x8x16x8x128.size a := fun v181 k0_hw68 k0_t12 => k0_hw68.2.2.2.2.2.2.2.2.2.2.2.2.2.2.2.2.2.2.2.2.2.2 k0_t12

@[reducible] def k0_t13_loop (d0 : Dev nD) (v227 : BitVec 32) : Scf.Loop 32 :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v228 : BitVec 32 := Scalar.subi v227 v10
  let c3_i32_132 : BitVec 32 := 3#32
  let v229 : BitVec 32 := Scalar.addi v228 c3_i32_132
  let c0_i32_134 : BitVec 32 := 0#32
  let v231 : BitVec 1 := Scalar.cmpi .sgt v229 c0_i32_134
  let v232 : BitVec 32 := Scalar.extui v231
  let c0_i32_135 : BitVec 32 := 0#32
  let v233 : BitVec 1 := Scalar.cmpi .slt v229 c0_i32_135
  let v234 : BitVec 32 := Scalar.extui v233
  let v235 : BitVec 32 := Scalar.subi v232 v234
  let c4_i32_133 : BitVec 32 := 4#32
  let c0_i32_136 : BitVec 32 := 0#32
  let v236 : BitVec 1 := Scalar.cmpi .sgt c4_i32_133 c0_i32_136
  let v237 : BitVec 32 := Scalar.extui v236
  let c0_i32_137 : BitVec 32 := 0#32
  let v238 : BitVec 1 := Scalar.cmpi .slt c4_i32_133 c0_i32_137
  let v239 : BitVec 32 := Scalar.extui v238
  let v240 : BitVec 32 := Scalar.subi v237 v239
  let v241 : BitVec 1 := Scalar.cmpi .ne v235 v240
  let v242 : BitVec 32 := Scalar.remsi v229 c4_i32_133
  let c0_i32_138 : BitVec 32 := 0#32
  let v243 : BitVec 1 := Scalar.cmpi .ne v242 c0_i32_138
  let v244 : BitVec 1 := Scalar.andi v241 v243
  let v230 : BitVec 32 := Scalar.divsi v229 c4_i32_133
  let c1_i32_139 : BitVec 32 := 1#32
  let v245 : BitVec 32 := Scalar.subi v230 c1_i32_139
  let v246 : BitVec 32 := Scalar.select v244 v245 v230
  let v247 : BitVec 32 := Scalar.subi v246 c0_i32_140
  let c1_i32_142 : BitVec 32 := 1#32
  let v249 : BitVec 32 := Scalar.divsi v247 c1_i32_142
  let v250 : BitVec 32 := Scalar.muli v249 c1_i32_142
  let v251 : BitVec 32 := Scalar.addi c0_i32_140 v250
  let c1_i32_143 : BitVec 32 := 1#32
  ⟨c0_i32_140, v251, c1_i32_143⟩

def k0_off427 (d0 : Dev nD) (v227 : BitVec 32) (k0_t13 : Fin (k0_t13_loop d0 v227).trips) : Fin 2 → Nat :=
  let c3_655 : Index := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_140 : BitVec 32 := 0#32
  let c1_i32_143 : BitVec 32 := 1#32
  let arg17 : BitVec 32 := Scf.iv c0_i32_140 c1_i32_143 k0_t13
  let v866 : BitVec 32 := Scalar.muli c4_i32_654 arg17
  let v867 : BitVec 32 := Scalar.addi v10 v866
  let v868 : Index := Scalar.indexCast v867
  ![3, v868.toNat]
def k0_off428 (arg18 : BitVec 32) : Fin 2 → Nat :=
  let c3_665 : Index := 3#32
  let v893 : Index := Scalar.indexCast arg18
  ![3, v893.toNat]
def k0_cond16 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk86 (d0 : Dev nD) (arg18 : BitVec 32) (v869 : BitVec 32) : Prop :=
  (∀ (k0_h16 : k0_cond16 d0 v869 = 1#1), ∀ a, (k0_off428 arg18) a + S1x1.size a ≤ S8x512.size a)
theorem k0_off428_inb : ∀ (d0 : Dev nD) (arg18 : BitVec 32) (v869 : BitVec 32) (k0_hw86 : k0_chk86 d0 arg18 v869), ∀ (k0_h16 : k0_cond16 d0 v869 = 1#1), ∀ a, (k0_off428 arg18) a + S1x1.size a ≤ S8x512.size a := fun d0 arg18 v869 k0_hw86 k0_h16 => k0_hw86 k0_h16

@[reducible] def k0_t14_loop (d0 : Dev nD) (v227 : BitVec 32) : Scf.Loop 32 :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v228 : BitVec 32 := Scalar.subi v227 v10
  let c3_i32_132 : BitVec 32 := 3#32
  let v229 : BitVec 32 := Scalar.addi v228 c3_i32_132
  let c0_i32_134 : BitVec 32 := 0#32
  let v231 : BitVec 1 := Scalar.cmpi .sgt v229 c0_i32_134
  let v232 : BitVec 32 := Scalar.extui v231
  let c0_i32_135 : BitVec 32 := 0#32
  let v233 : BitVec 1 := Scalar.cmpi .slt v229 c0_i32_135
  let v234 : BitVec 32 := Scalar.extui v233
  let v235 : BitVec 32 := Scalar.subi v232 v234
  let c4_i32_133 : BitVec 32 := 4#32
  let c0_i32_136 : BitVec 32 := 0#32
  let v236 : BitVec 1 := Scalar.cmpi .sgt c4_i32_133 c0_i32_136
  let v237 : BitVec 32 := Scalar.extui v236
  let c0_i32_137 : BitVec 32 := 0#32
  let v238 : BitVec 1 := Scalar.cmpi .slt c4_i32_133 c0_i32_137
  let v239 : BitVec 32 := Scalar.extui v238
  let v240 : BitVec 32 := Scalar.subi v237 v239
  let v241 : BitVec 1 := Scalar.cmpi .ne v235 v240
  let v242 : BitVec 32 := Scalar.remsi v229 c4_i32_133
  let c0_i32_138 : BitVec 32 := 0#32
  let v243 : BitVec 1 := Scalar.cmpi .ne v242 c0_i32_138
  let v244 : BitVec 1 := Scalar.andi v241 v243
  let v230 : BitVec 32 := Scalar.divsi v229 c4_i32_133
  let c1_i32_139 : BitVec 32 := 1#32
  let v245 : BitVec 32 := Scalar.subi v230 c1_i32_139
  let v246 : BitVec 32 := Scalar.select v244 v245 v230
  let v247 : BitVec 32 := Scalar.subi v246 c0_i32_140
  let c1_i32_142 : BitVec 32 := 1#32
  let v249 : BitVec 32 := Scalar.divsi v247 c1_i32_142
  let v250 : BitVec 32 := Scalar.muli v249 c1_i32_142
  let v251 : BitVec 32 := Scalar.addi c0_i32_140 v250
  let v248 : BitVec 32 := Scalar.addi c0_i32_140 v247
  let c1_i32_144 : BitVec 32 := 1#32
  ⟨v251, v248, c1_i32_144⟩
def k0_off429 (d0 : Dev nD) (v227 : BitVec 32) (k0_t14 : Fin (k0_t14_loop d0 v227).trips) : Fin 2 → Nat :=
  let c3_655 : Index := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_140 : BitVec 32 := 0#32
  let v228 : BitVec 32 := Scalar.subi v227 v10
  let c3_i32_132 : BitVec 32 := 3#32
  let v229 : BitVec 32 := Scalar.addi v228 c3_i32_132
  let c0_i32_134 : BitVec 32 := 0#32
  let v231 : BitVec 1 := Scalar.cmpi .sgt v229 c0_i32_134
  let v232 : BitVec 32 := Scalar.extui v231
  let c0_i32_135 : BitVec 32 := 0#32
  let v233 : BitVec 1 := Scalar.cmpi .slt v229 c0_i32_135
  let v234 : BitVec 32 := Scalar.extui v233
  let v235 : BitVec 32 := Scalar.subi v232 v234
  let c4_i32_133 : BitVec 32 := 4#32
  let c0_i32_136 : BitVec 32 := 0#32
  let v236 : BitVec 1 := Scalar.cmpi .sgt c4_i32_133 c0_i32_136
  let v237 : BitVec 32 := Scalar.extui v236
  let c0_i32_137 : BitVec 32 := 0#32
  let v238 : BitVec 1 := Scalar.cmpi .slt c4_i32_133 c0_i32_137
  let v239 : BitVec 32 := Scalar.extui v238
  let v240 : BitVec 32 := Scalar.subi v237 v239
  let v241 : BitVec 1 := Scalar.cmpi .ne v235 v240
  let v242 : BitVec 32 := Scalar.remsi v229 c4_i32_133
  let c0_i32_138 : BitVec 32 := 0#32
  let v243 : BitVec 1 := Scalar.cmpi .ne v242 c0_i32_138
  let v244 : BitVec 1 := Scalar.andi v241 v243
  let v230 : BitVec 32 := Scalar.divsi v229 c4_i32_133
  let c1_i32_139 : BitVec 32 := 1#32
  let v245 : BitVec 32 := Scalar.subi v230 c1_i32_139
  let v246 : BitVec 32 := Scalar.select v244 v245 v230
  let v247 : BitVec 32 := Scalar.subi v246 c0_i32_140
  let c1_i32_142 : BitVec 32 := 1#32
  let v249 : BitVec 32 := Scalar.divsi v247 c1_i32_142
  let v250 : BitVec 32 := Scalar.muli v249 c1_i32_142
  let v251 : BitVec 32 := Scalar.addi c0_i32_140 v250
  let c1_i32_144 : BitVec 32 := 1#32
  let arg17 : BitVec 32 := Scf.iv v251 c1_i32_144 k0_t14
  let v866 : BitVec 32 := Scalar.muli c4_i32_654 arg17
  let v867 : BitVec 32 := Scalar.addi v10 v866
  let v868 : Index := Scalar.indexCast v867
  ![3, v868.toNat]

def k0_chk85 (d0 : Dev nD) (v227 : BitVec 32) : Prop :=
  ((k0_t13_loop d0 v227).OK) ∧
  (∀ k0_t13 : Fin (k0_t13_loop d0 v227).trips, ∀ a, (k0_off427 d0 v227 k0_t13) a + S1x1.size a ≤ S8x512.size a) ∧
  ((k0_t14_loop d0 v227).OK) ∧
  (∀ k0_t14 : Fin (k0_t14_loop d0 v227).trips, ∀ a, (k0_off429 d0 v227 k0_t14) a + S1x1.size a ≤ S8x512.size a)
theorem k0_t13_ok : ∀ (d0 : Dev nD) (v227 : BitVec 32) (k0_hw85 : k0_chk85 d0 v227), (k0_t13_loop d0 v227).OK := fun d0 v227 k0_hw85 => k0_hw85.1
theorem k0_off427_inb : ∀ (d0 : Dev nD) (v227 : BitVec 32) (k0_hw85 : k0_chk85 d0 v227) (k0_t13 : Fin (k0_t13_loop d0 v227).trips), ∀ a, (k0_off427 d0 v227 k0_t13) a + S1x1.size a ≤ S8x512.size a := fun d0 v227 k0_hw85 k0_t13 => k0_hw85.2.1 k0_t13
theorem k0_t14_ok : ∀ (d0 : Dev nD) (v227 : BitVec 32) (k0_hw85 : k0_chk85 d0 v227), (k0_t14_loop d0 v227).OK := fun d0 v227 k0_hw85 => k0_hw85.2.2.1
theorem k0_off429_inb : ∀ (d0 : Dev nD) (v227 : BitVec 32) (k0_hw85 : k0_chk85 d0 v227) (k0_t14 : Fin (k0_t14_loop d0 v227).trips), ∀ a, (k0_off429 d0 v227 k0_t14) a + S1x1.size a ≤ S8x512.size a := fun d0 v227 k0_hw85 k0_t14 => k0_hw85.2.2.2 k0_t14

def k0_off430 (arg18 : BitVec 32) : Fin 2 → Nat :=
  let c3_665 : Index := 3#32
  let v893 : Index := Scalar.indexCast arg18
  ![3, v893.toNat]
def k0_cond17 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk87 (d0 : Dev nD) (arg18 : BitVec 32) (v869 : BitVec 32) : Prop :=
  (∀ (k0_h17 : k0_cond17 d0 v869 = 1#1), ∀ a, (k0_off430 arg18) a + S1x1.size a ≤ S8x512.size a)
theorem k0_off430_inb : ∀ (d0 : Dev nD) (arg18 : BitVec 32) (v869 : BitVec 32) (k0_hw87 : k0_chk87 d0 arg18 v869), ∀ (k0_h17 : k0_cond17 d0 v869 = 1#1), ∀ a, (k0_off430 arg18) a + S1x1.size a ≤ S8x512.size a := fun d0 arg18 v869 k0_hw87 k0_h17 => k0_hw87 k0_h17

def k0_off431 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond18 (v253 : BitVec 32) : BitVec 1 :=
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let c0_i32_158 : BitVec 32 := 0#32
  let v275 : BitVec 1 := Scalar.cmpi .sgt v272 c0_i32_158
  let v276 : BitVec 32 := Scalar.extui v275
  let c0_i32_159 : BitVec 32 := 0#32
  let v277 : BitVec 1 := Scalar.cmpi .ne v276 c0_i32_159
  v277

def k0_chk88 (v253 : BitVec 32) (v866 : BitVec 32) : Prop :=
  (∀ (k0_h18 : k0_cond18 v253 = 1#1), ∀ a, (k0_off431 v866) a + S1x16x8x128.size a ≤ S512x16x8x128.size a)
theorem k0_off431_inb : ∀ (v253 : BitVec 32) (v866 : BitVec 32) (k0_hw88 : k0_chk88 v253 v866), ∀ (k0_h18 : k0_cond18 v253 = 1#1), ∀ a, (k0_off431 v866) a + S1x16x8x128.size a ≤ S512x16x8x128.size a := fun v253 v866 k0_hw88 k0_h18 => k0_hw88 k0_h18

def k0_off432 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk89 (v253 : BitVec 32) (v880 : BitVec 32) : Prop :=
  (∀ (k0_h18 : k0_cond18 v253 = 1#1), ∀ a, (k0_off432 v880) a + S1x16x8x128.size a ≤ S512x16x8x128.size a)
theorem k0_off432_inb : ∀ (v253 : BitVec 32) (v880 : BitVec 32) (k0_hw89 : k0_chk89 v253 v880), ∀ (k0_h18 : k0_cond18 v253 = 1#1), ∀ a, (k0_off432 v880) a + S1x16x8x128.size a ≤ S512x16x8x128.size a := fun v253 v880 k0_hw89 k0_h18 => k0_hw89 k0_h18

def k0_off433 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk90 (v253 : BitVec 32) (v894 : BitVec 32) : Prop :=
  (∀ (k0_h18 : k0_cond18 v253 = 1#1), ∀ a, (k0_off433 v894) a + S1x16x8x128.size a ≤ S512x16x8x128.size a)
theorem k0_off433_inb : ∀ (v253 : BitVec 32) (v894 : BitVec 32) (k0_hw90 : k0_chk90 v253 v894), ∀ (k0_h18 : k0_cond18 v253 = 1#1), ∀ a, (k0_off433 v894) a + S1x16x8x128.size a ≤ S512x16x8x128.size a := fun v253 v894 k0_hw90 k0_h18 => k0_hw90 k0_h18

def k0_off434 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk91 (v253 : BitVec 32) (v908 : BitVec 32) : Prop :=
  (∀ (k0_h18 : k0_cond18 v253 = 1#1), ∀ a, (k0_off434 v908) a + S1x16x8x128.size a ≤ S512x16x8x128.size a)
theorem k0_off434_inb : ∀ (v253 : BitVec 32) (v908 : BitVec 32) (k0_hw91 : k0_chk91 v253 v908), ∀ (k0_h18 : k0_cond18 v253 = 1#1), ∀ a, (k0_off434 v908) a + S1x16x8x128.size a ≤ S512x16x8x128.size a := fun v253 v908 k0_hw91 k0_h18 => k0_hw91 k0_h18

def k0_off435 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk92 (v253 : BitVec 32) (v922 : BitVec 32) : Prop :=
  (∀ (k0_h18 : k0_cond18 v253 = 1#1), ∀ a, (k0_off435 v922) a + S1x16x8x128.size a ≤ S512x16x8x128.size a)
theorem k0_off435_inb : ∀ (v253 : BitVec 32) (v922 : BitVec 32) (k0_hw92 : k0_chk92 v253 v922), ∀ (k0_h18 : k0_cond18 v253 = 1#1), ∀ a, (k0_off435 v922) a + S1x16x8x128.size a ≤ S512x16x8x128.size a := fun v253 v922 k0_hw92 k0_h18 => k0_hw92 k0_h18

def k0_off436 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk93 (v253 : BitVec 32) (v936 : BitVec 32) : Prop :=
  (∀ (k0_h18 : k0_cond18 v253 = 1#1), ∀ a, (k0_off436 v936) a + S1x16x8x128.size a ≤ S512x16x8x128.size a)
theorem k0_off436_inb : ∀ (v253 : BitVec 32) (v936 : BitVec 32) (k0_hw93 : k0_chk93 v253 v936), ∀ (k0_h18 : k0_cond18 v253 = 1#1), ∀ a, (k0_off436 v936) a + S1x16x8x128.size a ≤ S512x16x8x128.size a := fun v253 v936 k0_hw93 k0_h18 => k0_hw93 k0_h18

def k0_off437 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk94 (v253 : BitVec 32) (v950 : BitVec 32) : Prop :=
  (∀ (k0_h18 : k0_cond18 v253 = 1#1), ∀ a, (k0_off437 v950) a + S1x16x8x128.size a ≤ S512x16x8x128.size a)
theorem k0_off437_inb : ∀ (v253 : BitVec 32) (v950 : BitVec 32) (k0_hw94 : k0_chk94 v253 v950), ∀ (k0_h18 : k0_cond18 v253 = 1#1), ∀ a, (k0_off437 v950) a + S1x16x8x128.size a ≤ S512x16x8x128.size a := fun v253 v950 k0_hw94 k0_h18 => k0_hw94 k0_h18

def k0_off438 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk95 (v253 : BitVec 32) (v964 : BitVec 32) : Prop :=
  (∀ (k0_h18 : k0_cond18 v253 = 1#1), ∀ a, (k0_off438 v964) a + S1x16x8x128.size a ≤ S512x16x8x128.size a)
theorem k0_off438_inb : ∀ (v253 : BitVec 32) (v964 : BitVec 32) (k0_hw95 : k0_chk95 v253 v964), ∀ (k0_h18 : k0_cond18 v253 = 1#1), ∀ a, (k0_off438 v964) a + S1x16x8x128.size a ≤ S512x16x8x128.size a := fun v253 v964 k0_hw95 k0_h18 => k0_hw95 k0_h18

@[reducible] def k0_t15_loop (v253 : BitVec 32) : Scf.Loop 32 :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_165 : BitVec 32 := 1#32
  ⟨c0_i32_163, v285, c1_i32_165⟩

def k0_off439 (v253 : BitVec 32) (k0_t15 : Fin (k0_t15_loop v253).trips) : Fin 2 → Nat :=
  let c3_824 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![3, v1033.toNat]
def k0_cond19 (v253 : BitVec 32) (k0_t15 : Fin (k0_t15_loop v253).trips) : BitVec 1 :=
  let c0_i32_163 : BitVec 32 := 0#32
  let c1_i32_165 : BitVec 32 := 1#32
  let arg17 : BitVec 32 := Scf.iv c0_i32_163 c1_i32_165 k0_t15
  let c1_i32_655 : BitVec 32 := 1#32
  let v867 : BitVec 32 := Scalar.addi arg17 c1_i32_655
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v868 : BitVec 1 := Scalar.cmpi .slt v867 v272
  let v869 : BitVec 32 := Scalar.extui v868
  let c0_i32_656 : BitVec 32 := 0#32
  let v870 : BitVec 1 := Scalar.cmpi .ne v869 c0_i32_656
  v870

def k0_off440 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off441 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off442 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk97 (v253 : BitVec 32) (k0_t15 : Fin (k0_t15_loop v253).trips) (v1034 : BitVec 32) : Prop :=
  (∀ (k0_h19 : k0_cond19 v253 k0_t15 = 1#1), ∀ a, (k0_off442 v1034) a + S1x16x8x128.size a ≤ S512x16x8x128.size a)
theorem k0_off442_inb : ∀ (v253 : BitVec 32) (k0_t15 : Fin (k0_t15_loop v253).trips) (v1034 : BitVec 32) (k0_hw97 : k0_chk97 v253 k0_t15 v1034), ∀ (k0_h19 : k0_cond19 v253 k0_t15 = 1#1), ∀ a, (k0_off442 v1034) a + S1x16x8x128.size a ≤ S512x16x8x128.size a := fun v253 k0_t15 v1034 k0_hw97 k0_h19 => k0_hw97 k0_h19

def k0_off443 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off444 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off445 (v253 : BitVec 32) (k0_t15 : Fin (k0_t15_loop v253).trips) : Fin 2 → Nat :=
  let c3_843 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![3, v1050.toNat]
def k0_off446 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off447 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off448 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk98 (v253 : BitVec 32) (k0_t15 : Fin (k0_t15_loop v253).trips) (v1051 : BitVec 32) : Prop :=
  (∀ (k0_h19 : k0_cond19 v253 k0_t15 = 1#1), ∀ a, (k0_off448 v1051) a + S1x16x8x128.size a ≤ S512x16x8x128.size a)
theorem k0_off448_inb : ∀ (v253 : BitVec 32) (k0_t15 : Fin (k0_t15_loop v253).trips) (v1051 : BitVec 32) (k0_hw98 : k0_chk98 v253 k0_t15 v1051), ∀ (k0_h19 : k0_cond19 v253 k0_t15 = 1#1), ∀ a, (k0_off448 v1051) a + S1x16x8x128.size a ≤ S512x16x8x128.size a := fun v253 k0_t15 v1051 k0_hw98 k0_h19 => k0_hw98 k0_h19

def k0_off449 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off450 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off451 (v253 : BitVec 32) (k0_t15 : Fin (k0_t15_loop v253).trips) : Fin 2 → Nat :=
  let c3_863 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![3, v1067.toNat]
def k0_off452 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off453 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off454 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk99 (v253 : BitVec 32) (k0_t15 : Fin (k0_t15_loop v253).trips) (v1068 : BitVec 32) : Prop :=
  (∀ (k0_h19 : k0_cond19 v253 k0_t15 = 1#1), ∀ a, (k0_off454 v1068) a + S1x16x8x128.size a ≤ S512x16x8x128.size a)
theorem k0_off454_inb : ∀ (v253 : BitVec 32) (k0_t15 : Fin (k0_t15_loop v253).trips) (v1068 : BitVec 32) (k0_hw99 : k0_chk99 v253 k0_t15 v1068), ∀ (k0_h19 : k0_cond19 v253 k0_t15 = 1#1), ∀ a, (k0_off454 v1068) a + S1x16x8x128.size a ≤ S512x16x8x128.size a := fun v253 k0_t15 v1068 k0_hw99 k0_h19 => k0_hw99 k0_h19

def k0_off455 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off456 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off457 (v253 : BitVec 32) (k0_t15 : Fin (k0_t15_loop v253).trips) : Fin 2 → Nat :=
  let c3_883 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![3, v1084.toNat]
def k0_off458 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off459 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off460 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk100 (v253 : BitVec 32) (k0_t15 : Fin (k0_t15_loop v253).trips) (v1085 : BitVec 32) : Prop :=
  (∀ (k0_h19 : k0_cond19 v253 k0_t15 = 1#1), ∀ a, (k0_off460 v1085) a + S1x16x8x128.size a ≤ S512x16x8x128.size a)
theorem k0_off460_inb : ∀ (v253 : BitVec 32) (k0_t15 : Fin (k0_t15_loop v253).trips) (v1085 : BitVec 32) (k0_hw100 : k0_chk100 v253 k0_t15 v1085), ∀ (k0_h19 : k0_cond19 v253 k0_t15 = 1#1), ∀ a, (k0_off460 v1085) a + S1x16x8x128.size a ≤ S512x16x8x128.size a := fun v253 k0_t15 v1085 k0_hw100 k0_h19 => k0_hw100 k0_h19

def k0_off461 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off462 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off463 (v253 : BitVec 32) (k0_t15 : Fin (k0_t15_loop v253).trips) : Fin 2 → Nat :=
  let c3_903 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![3, v1101.toNat]
def k0_off464 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off465 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off466 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk101 (v253 : BitVec 32) (k0_t15 : Fin (k0_t15_loop v253).trips) (v1102 : BitVec 32) : Prop :=
  (∀ (k0_h19 : k0_cond19 v253 k0_t15 = 1#1), ∀ a, (k0_off466 v1102) a + S1x16x8x128.size a ≤ S512x16x8x128.size a)
theorem k0_off466_inb : ∀ (v253 : BitVec 32) (k0_t15 : Fin (k0_t15_loop v253).trips) (v1102 : BitVec 32) (k0_hw101 : k0_chk101 v253 k0_t15 v1102), ∀ (k0_h19 : k0_cond19 v253 k0_t15 = 1#1), ∀ a, (k0_off466 v1102) a + S1x16x8x128.size a ≤ S512x16x8x128.size a := fun v253 k0_t15 v1102 k0_hw101 k0_h19 => k0_hw101 k0_h19

def k0_off467 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off468 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off469 (v253 : BitVec 32) (k0_t15 : Fin (k0_t15_loop v253).trips) : Fin 2 → Nat :=
  let c3_923 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![3, v1118.toNat]
def k0_off470 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off471 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off472 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk102 (v253 : BitVec 32) (k0_t15 : Fin (k0_t15_loop v253).trips) (v1119 : BitVec 32) : Prop :=
  (∀ (k0_h19 : k0_cond19 v253 k0_t15 = 1#1), ∀ a, (k0_off472 v1119) a + S1x16x8x128.size a ≤ S512x16x8x128.size a)
theorem k0_off472_inb : ∀ (v253 : BitVec 32) (k0_t15 : Fin (k0_t15_loop v253).trips) (v1119 : BitVec 32) (k0_hw102 : k0_chk102 v253 k0_t15 v1119), ∀ (k0_h19 : k0_cond19 v253 k0_t15 = 1#1), ∀ a, (k0_off472 v1119) a + S1x16x8x128.size a ≤ S512x16x8x128.size a := fun v253 k0_t15 v1119 k0_hw102 k0_h19 => k0_hw102 k0_h19

def k0_off473 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off474 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off475 (v253 : BitVec 32) (k0_t15 : Fin (k0_t15_loop v253).trips) : Fin 2 → Nat :=
  let c3_943 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![3, v1135.toNat]
def k0_off476 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off477 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off478 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk103 (v253 : BitVec 32) (k0_t15 : Fin (k0_t15_loop v253).trips) (v1136 : BitVec 32) : Prop :=
  (∀ (k0_h19 : k0_cond19 v253 k0_t15 = 1#1), ∀ a, (k0_off478 v1136) a + S1x16x8x128.size a ≤ S512x16x8x128.size a)
theorem k0_off478_inb : ∀ (v253 : BitVec 32) (k0_t15 : Fin (k0_t15_loop v253).trips) (v1136 : BitVec 32) (k0_hw103 : k0_chk103 v253 k0_t15 v1136), ∀ (k0_h19 : k0_cond19 v253 k0_t15 = 1#1), ∀ a, (k0_off478 v1136) a + S1x16x8x128.size a ≤ S512x16x8x128.size a := fun v253 k0_t15 v1136 k0_hw103 k0_h19 => k0_hw103 k0_h19

def k0_off479 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off480 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off481 (v253 : BitVec 32) (k0_t15 : Fin (k0_t15_loop v253).trips) : Fin 2 → Nat :=
  let c3_963 : Index := 3#32
  let c0_i32_163 : BitVec 32 := 0#32
  let c1_i32_165 : BitVec 32 := 1#32
  let arg17 : BitVec 32 := Scf.iv c0_i32_163 c1_i32_165 k0_t15
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![3, v1152.toNat]
def k0_off482 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off483 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off484 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk104 (v253 : BitVec 32) (k0_t15 : Fin (k0_t15_loop v253).trips) (v1153 : BitVec 32) : Prop :=
  (∀ (k0_h19 : k0_cond19 v253 k0_t15 = 1#1), ∀ a, (k0_off484 v1153) a + S1x16x8x128.size a ≤ S512x16x8x128.size a)
theorem k0_off484_inb : ∀ (v253 : BitVec 32) (k0_t15 : Fin (k0_t15_loop v253).trips) (v1153 : BitVec 32) (k0_hw104 : k0_chk104 v253 k0_t15 v1153), ∀ (k0_h19 : k0_cond19 v253 k0_t15 = 1#1), ∀ a, (k0_off484 v1153) a + S1x16x8x128.size a ≤ S512x16x8x128.size a := fun v253 k0_t15 v1153 k0_hw104 k0_h19 => k0_hw104 k0_h19

def k0_off485 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off486 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off487 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c0_i32_659 : BitVec 32 := 0#32
  ![v866.toNat, 0]
def k0_off488 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off489 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c1_i32_677 : BitVec 32 := 1#32
  ![v866.toNat, 1]
def k0_off490 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off491 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c2_i32_695 : BitVec 32 := 2#32
  ![v866.toNat, 2]
def k0_off492 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off493 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c3_i32_713 : BitVec 32 := 3#32
  ![v866.toNat, 3]
def k0_off494 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off495 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c4_i32_731 : BitVec 32 := 4#32
  ![v866.toNat, 4]
def k0_off496 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off497 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c5_i32_748 : BitVec 32 := 5#32
  ![v866.toNat, 5]
def k0_off498 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off499 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c6_i32_765 : BitVec 32 := 6#32
  ![v866.toNat, 6]
def k0_off500 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off501 (v253 : BitVec 32) (k0_t15 : Fin (k0_t15_loop v253).trips) : Fin 2 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c7_i32_782 : BitVec 32 := 7#32
  ![v866.toNat, 7]
def k0_off502 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off503 (v253 : BitVec 32) (k0_t15 : Fin (k0_t15_loop v253).trips) : Fin 5 → Nat :=
  let c0_i32_163 : BitVec 32 := 0#32
  let c1_i32_165 : BitVec 32 := 1#32
  let arg17 : BitVec 32 := Scf.iv c0_i32_163 c1_i32_165 k0_t15
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t16_loop (v253 : BitVec 32) : Scf.Loop 32 :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let v282 : BitVec 32 := Scalar.addi c0_i32_163 v281
  let c1_i32_166 : BitVec 32 := 1#32
  ⟨v285, v282, c1_i32_166⟩
def k0_off504 (v253 : BitVec 32) (k0_t16 : Fin (k0_t16_loop v253).trips) : Fin 2 → Nat :=
  let c3_824 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![3, v1033.toNat]
def k0_cond20 (v253 : BitVec 32) (k0_t16 : Fin (k0_t16_loop v253).trips) : BitVec 1 :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_655 : BitVec 32 := 1#32
  let v867 : BitVec 32 := Scalar.addi arg17 c1_i32_655
  let v868 : BitVec 1 := Scalar.cmpi .slt v867 v272
  let v869 : BitVec 32 := Scalar.extui v868
  let c0_i32_656 : BitVec 32 := 0#32
  let v870 : BitVec 1 := Scalar.cmpi .ne v869 c0_i32_656
  v870

def k0_off505 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off506 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off507 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk105 (v253 : BitVec 32) (k0_t16 : Fin (k0_t16_loop v253).trips) (v1034 : BitVec 32) : Prop :=
  (∀ (k0_h20 : k0_cond20 v253 k0_t16 = 1#1), ∀ a, (k0_off507 v1034) a + S1x16x8x128.size a ≤ S512x16x8x128.size a)
theorem k0_off507_inb : ∀ (v253 : BitVec 32) (k0_t16 : Fin (k0_t16_loop v253).trips) (v1034 : BitVec 32) (k0_hw105 : k0_chk105 v253 k0_t16 v1034), ∀ (k0_h20 : k0_cond20 v253 k0_t16 = 1#1), ∀ a, (k0_off507 v1034) a + S1x16x8x128.size a ≤ S512x16x8x128.size a := fun v253 k0_t16 v1034 k0_hw105 k0_h20 => k0_hw105 k0_h20

def k0_off508 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off509 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off510 (v253 : BitVec 32) (k0_t16 : Fin (k0_t16_loop v253).trips) : Fin 2 → Nat :=
  let c3_843 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![3, v1050.toNat]
def k0_off511 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off512 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off513 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk106 (v253 : BitVec 32) (k0_t16 : Fin (k0_t16_loop v253).trips) (v1051 : BitVec 32) : Prop :=
  (∀ (k0_h20 : k0_cond20 v253 k0_t16 = 1#1), ∀ a, (k0_off513 v1051) a + S1x16x8x128.size a ≤ S512x16x8x128.size a)
theorem k0_off513_inb : ∀ (v253 : BitVec 32) (k0_t16 : Fin (k0_t16_loop v253).trips) (v1051 : BitVec 32) (k0_hw106 : k0_chk106 v253 k0_t16 v1051), ∀ (k0_h20 : k0_cond20 v253 k0_t16 = 1#1), ∀ a, (k0_off513 v1051) a + S1x16x8x128.size a ≤ S512x16x8x128.size a := fun v253 k0_t16 v1051 k0_hw106 k0_h20 => k0_hw106 k0_h20

def k0_off514 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off515 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off516 (v253 : BitVec 32) (k0_t16 : Fin (k0_t16_loop v253).trips) : Fin 2 → Nat :=
  let c3_863 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![3, v1067.toNat]
def k0_off517 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off518 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off519 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk107 (v253 : BitVec 32) (k0_t16 : Fin (k0_t16_loop v253).trips) (v1068 : BitVec 32) : Prop :=
  (∀ (k0_h20 : k0_cond20 v253 k0_t16 = 1#1), ∀ a, (k0_off519 v1068) a + S1x16x8x128.size a ≤ S512x16x8x128.size a)
theorem k0_off519_inb : ∀ (v253 : BitVec 32) (k0_t16 : Fin (k0_t16_loop v253).trips) (v1068 : BitVec 32) (k0_hw107 : k0_chk107 v253 k0_t16 v1068), ∀ (k0_h20 : k0_cond20 v253 k0_t16 = 1#1), ∀ a, (k0_off519 v1068) a + S1x16x8x128.size a ≤ S512x16x8x128.size a := fun v253 k0_t16 v1068 k0_hw107 k0_h20 => k0_hw107 k0_h20

def k0_off520 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off521 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off522 (v253 : BitVec 32) (k0_t16 : Fin (k0_t16_loop v253).trips) : Fin 2 → Nat :=
  let c3_883 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![3, v1084.toNat]
def k0_off523 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off524 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off525 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk108 (v253 : BitVec 32) (k0_t16 : Fin (k0_t16_loop v253).trips) (v1085 : BitVec 32) : Prop :=
  (∀ (k0_h20 : k0_cond20 v253 k0_t16 = 1#1), ∀ a, (k0_off525 v1085) a + S1x16x8x128.size a ≤ S512x16x8x128.size a)
theorem k0_off525_inb : ∀ (v253 : BitVec 32) (k0_t16 : Fin (k0_t16_loop v253).trips) (v1085 : BitVec 32) (k0_hw108 : k0_chk108 v253 k0_t16 v1085), ∀ (k0_h20 : k0_cond20 v253 k0_t16 = 1#1), ∀ a, (k0_off525 v1085) a + S1x16x8x128.size a ≤ S512x16x8x128.size a := fun v253 k0_t16 v1085 k0_hw108 k0_h20 => k0_hw108 k0_h20

def k0_off526 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off527 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off528 (v253 : BitVec 32) (k0_t16 : Fin (k0_t16_loop v253).trips) : Fin 2 → Nat :=
  let c3_903 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![3, v1101.toNat]
def k0_off529 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off530 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off531 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk109 (v253 : BitVec 32) (k0_t16 : Fin (k0_t16_loop v253).trips) (v1102 : BitVec 32) : Prop :=
  (∀ (k0_h20 : k0_cond20 v253 k0_t16 = 1#1), ∀ a, (k0_off531 v1102) a + S1x16x8x128.size a ≤ S512x16x8x128.size a)
theorem k0_off531_inb : ∀ (v253 : BitVec 32) (k0_t16 : Fin (k0_t16_loop v253).trips) (v1102 : BitVec 32) (k0_hw109 : k0_chk109 v253 k0_t16 v1102), ∀ (k0_h20 : k0_cond20 v253 k0_t16 = 1#1), ∀ a, (k0_off531 v1102) a + S1x16x8x128.size a ≤ S512x16x8x128.size a := fun v253 k0_t16 v1102 k0_hw109 k0_h20 => k0_hw109 k0_h20

def k0_off532 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off533 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off534 (v253 : BitVec 32) (k0_t16 : Fin (k0_t16_loop v253).trips) : Fin 2 → Nat :=
  let c3_923 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![3, v1118.toNat]
def k0_off535 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off536 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off537 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk110 (v253 : BitVec 32) (k0_t16 : Fin (k0_t16_loop v253).trips) (v1119 : BitVec 32) : Prop :=
  (∀ (k0_h20 : k0_cond20 v253 k0_t16 = 1#1), ∀ a, (k0_off537 v1119) a + S1x16x8x128.size a ≤ S512x16x8x128.size a)
theorem k0_off537_inb : ∀ (v253 : BitVec 32) (k0_t16 : Fin (k0_t16_loop v253).trips) (v1119 : BitVec 32) (k0_hw110 : k0_chk110 v253 k0_t16 v1119), ∀ (k0_h20 : k0_cond20 v253 k0_t16 = 1#1), ∀ a, (k0_off537 v1119) a + S1x16x8x128.size a ≤ S512x16x8x128.size a := fun v253 k0_t16 v1119 k0_hw110 k0_h20 => k0_hw110 k0_h20

def k0_off538 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off539 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off540 (v253 : BitVec 32) (k0_t16 : Fin (k0_t16_loop v253).trips) : Fin 2 → Nat :=
  let c3_943 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![3, v1135.toNat]
def k0_off541 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off542 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off543 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk111 (v253 : BitVec 32) (k0_t16 : Fin (k0_t16_loop v253).trips) (v1136 : BitVec 32) : Prop :=
  (∀ (k0_h20 : k0_cond20 v253 k0_t16 = 1#1), ∀ a, (k0_off543 v1136) a + S1x16x8x128.size a ≤ S512x16x8x128.size a)
theorem k0_off543_inb : ∀ (v253 : BitVec 32) (k0_t16 : Fin (k0_t16_loop v253).trips) (v1136 : BitVec 32) (k0_hw111 : k0_chk111 v253 k0_t16 v1136), ∀ (k0_h20 : k0_cond20 v253 k0_t16 = 1#1), ∀ a, (k0_off543 v1136) a + S1x16x8x128.size a ≤ S512x16x8x128.size a := fun v253 k0_t16 v1136 k0_hw111 k0_h20 => k0_hw111 k0_h20

def k0_off544 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off545 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off546 (v253 : BitVec 32) (k0_t16 : Fin (k0_t16_loop v253).trips) : Fin 2 → Nat :=
  let c3_963 : Index := 3#32
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![3, v1152.toNat]
def k0_off547 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off548 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off549 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk112 (v253 : BitVec 32) (k0_t16 : Fin (k0_t16_loop v253).trips) (v1153 : BitVec 32) : Prop :=
  (∀ (k0_h20 : k0_cond20 v253 k0_t16 = 1#1), ∀ a, (k0_off549 v1153) a + S1x16x8x128.size a ≤ S512x16x8x128.size a)
theorem k0_off549_inb : ∀ (v253 : BitVec 32) (k0_t16 : Fin (k0_t16_loop v253).trips) (v1153 : BitVec 32) (k0_hw112 : k0_chk112 v253 k0_t16 v1153), ∀ (k0_h20 : k0_cond20 v253 k0_t16 = 1#1), ∀ a, (k0_off549 v1153) a + S1x16x8x128.size a ≤ S512x16x8x128.size a := fun v253 k0_t16 v1153 k0_hw112 k0_h20 => k0_hw112 k0_h20

def k0_off550 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off551 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off552 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c0_i32_659 : BitVec 32 := 0#32
  ![v866.toNat, 0]
def k0_off553 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off554 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c1_i32_677 : BitVec 32 := 1#32
  ![v866.toNat, 1]
def k0_off555 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off556 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c2_i32_695 : BitVec 32 := 2#32
  ![v866.toNat, 2]
def k0_off557 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off558 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c3_i32_713 : BitVec 32 := 3#32
  ![v866.toNat, 3]
def k0_off559 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off560 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c4_i32_731 : BitVec 32 := 4#32
  ![v866.toNat, 4]
def k0_off561 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off562 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c5_i32_748 : BitVec 32 := 5#32
  ![v866.toNat, 5]
def k0_off563 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off564 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c6_i32_765 : BitVec 32 := 6#32
  ![v866.toNat, 6]
def k0_off565 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off566 (v253 : BitVec 32) (k0_t16 : Fin (k0_t16_loop v253).trips) : Fin 2 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c7_i32_782 : BitVec 32 := 7#32
  ![v866.toNat, 7]
def k0_off567 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off568 (v253 : BitVec 32) (k0_t16 : Fin (k0_t16_loop v253).trips) : Fin 5 → Nat :=
  let c0_i32_163 : BitVec 32 := 0#32
  let c8_i32_145 : BitVec 32 := 8#32
  let v254 : BitVec 32 := Scalar.addi v253 c8_i32_145
  let c1_i32_146 : BitVec 32 := 1#32
  let v255 : BitVec 32 := Scalar.subi v254 c1_i32_146
  let c0_i32_148 : BitVec 32 := 0#32
  let v257 : BitVec 1 := Scalar.cmpi .sgt v255 c0_i32_148
  let v258 : BitVec 32 := Scalar.extui v257
  let c0_i32_149 : BitVec 32 := 0#32
  let v259 : BitVec 1 := Scalar.cmpi .slt v255 c0_i32_149
  let v260 : BitVec 32 := Scalar.extui v259
  let v261 : BitVec 32 := Scalar.subi v258 v260
  let c8_i32_147 : BitVec 32 := 8#32
  let c0_i32_150 : BitVec 32 := 0#32
  let v262 : BitVec 1 := Scalar.cmpi .sgt c8_i32_147 c0_i32_150
  let v263 : BitVec 32 := Scalar.extui v262
  let c0_i32_151 : BitVec 32 := 0#32
  let v264 : BitVec 1 := Scalar.cmpi .slt c8_i32_147 c0_i32_151
  let v265 : BitVec 32 := Scalar.extui v264
  let v266 : BitVec 32 := Scalar.subi v263 v265
  let v267 : BitVec 1 := Scalar.cmpi .ne v261 v266
  let v268 : BitVec 32 := Scalar.remsi v255 c8_i32_147
  let c0_i32_152 : BitVec 32 := 0#32
  let v269 : BitVec 1 := Scalar.cmpi .ne v268 c0_i32_152
  let v270 : BitVec 1 := Scalar.andi v267 v269
  let v256 : BitVec 32 := Scalar.divsi v255 c8_i32_147
  let c1_i32_153 : BitVec 32 := 1#32
  let v271 : BitVec 32 := Scalar.subi v256 c1_i32_153
  let v272 : BitVec 32 := Scalar.select v270 v271 v256
  let v281 : BitVec 32 := Scalar.subi v272 c0_i32_163
  let c1_i32_164 : BitVec 32 := 1#32
  let v283 : BitVec 32 := Scalar.divsi v281 c1_i32_164
  let v284 : BitVec 32 := Scalar.muli v283 c1_i32_164
  let v285 : BitVec 32 := Scalar.addi c0_i32_163 v284
  let c1_i32_166 : BitVec 32 := 1#32
  let arg17 : BitVec 32 := Scf.iv v285 c1_i32_166 k0_t16
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk96_0 (v253 : BitVec 32) : Prop :=
  ((k0_t15_loop v253).OK) ∧
  (∀ k0_t15 : Fin (k0_t15_loop v253).trips, ∀ (k0_h19 : k0_cond19 v253 k0_t15 = 1#1), ∀ a, (k0_off439 v253 k0_t15) a + S1x1.size a ≤ S8x512.size a) ∧
  (∀ k0_t15 : Fin (k0_t15_loop v253).trips, ∀ (k0_h19 : k0_cond19 v253 k0_t15 = 1#1), ∀ a, (k0_off440 v253 k0_t15) a + S1x1.size a ≤ S2x8.size a) ∧
  (∀ k0_t15 : Fin (k0_t15_loop v253).trips, ∀ (k0_h19 : k0_cond19 v253 k0_t15 = 1#1), ∀ a, (k0_off441 v253 k0_t15) a + S1x1x16x8x128.size a ≤ S2x8x16x8x128.size a) ∧
  (∀ k0_t15 : Fin (k0_t15_loop v253).trips, ∀ (k0_h19 : k0_cond19 v253 k0_t15 = 1#1), ∀ a, (k0_off443 v253 k0_t15) a + S1x1.size a ≤ S2x8.size a) ∧
  (∀ k0_t15 : Fin (k0_t15_loop v253).trips, ∀ (k0_h19 : k0_cond19 v253 k0_t15 = 1#1), ∀ a, (k0_off444 v253 k0_t15) a + S1x1x16x8x128.size a ≤ S2x8x16x8x128.size a) ∧
  (∀ k0_t15 : Fin (k0_t15_loop v253).trips, ∀ (k0_h19 : k0_cond19 v253 k0_t15 = 1#1), ∀ a, (k0_off445 v253 k0_t15) a + S1x1.size a ≤ S8x512.size a) ∧
  (∀ k0_t15 : Fin (k0_t15_loop v253).trips, ∀ (k0_h19 : k0_cond19 v253 k0_t15 = 1#1), ∀ a, (k0_off446 v253 k0_t15) a + S1x1.size a ≤ S2x8.size a) ∧
  (∀ k0_t15 : Fin (k0_t15_loop v253).trips, ∀ (k0_h19 : k0_cond19 v253 k0_t15 = 1#1), ∀ a, (k0_off447 v253 k0_t15) a + S1x1x16x8x128.size a ≤ S2x8x16x8x128.size a) ∧
  (∀ k0_t15 : Fin (k0_t15_loop v253).trips, ∀ (k0_h19 : k0_cond19 v253 k0_t15 = 1#1), ∀ a, (k0_off449 v253 k0_t15) a + S1x1.size a ≤ S2x8.size a) ∧
  (∀ k0_t15 : Fin (k0_t15_loop v253).trips, ∀ (k0_h19 : k0_cond19 v253 k0_t15 = 1#1), ∀ a, (k0_off450 v253 k0_t15) a + S1x1x16x8x128.size a ≤ S2x8x16x8x128.size a) ∧
  (∀ k0_t15 : Fin (k0_t15_loop v253).trips, ∀ (k0_h19 : k0_cond19 v253 k0_t15 = 1#1), ∀ a, (k0_off451 v253 k0_t15) a + S1x1.size a ≤ S8x512.size a) ∧
  (∀ k0_t15 : Fin (k0_t15_loop v253).trips, ∀ (k0_h19 : k0_cond19 v253 k0_t15 = 1#1), ∀ a, (k0_off452 v253 k0_t15) a + S1x1.size a ≤ S2x8.size a) ∧
  (∀ k0_t15 : Fin (k0_t15_loop v253).trips, ∀ (k0_h19 : k0_cond19 v253 k0_t15 = 1#1), ∀ a, (k0_off453 v253 k0_t15) a + S1x1x16x8x128.size a ≤ S2x8x16x8x128.size a) ∧
  (∀ k0_t15 : Fin (k0_t15_loop v253).trips, ∀ (k0_h19 : k0_cond19 v253 k0_t15 = 1#1), ∀ a, (k0_off455 v253 k0_t15) a + S1x1.size a ≤ S2x8.size a) ∧
  (∀ k0_t15 : Fin (k0_t15_loop v253).trips, ∀ (k0_h19 : k0_cond19 v253 k0_t15 = 1#1), ∀ a, (k0_off456 v253 k0_t15) a + S1x1x16x8x128.size a ≤ S2x8x16x8x128.size a) ∧
  (∀ k0_t15 : Fin (k0_t15_loop v253).trips, ∀ (k0_h19 : k0_cond19 v253 k0_t15 = 1#1), ∀ a, (k0_off457 v253 k0_t15) a + S1x1.size a ≤ S8x512.size a) ∧
  (∀ k0_t15 : Fin (k0_t15_loop v253).trips, ∀ (k0_h19 : k0_cond19 v253 k0_t15 = 1#1), ∀ a, (k0_off458 v253 k0_t15) a + S1x1.size a ≤ S2x8.size a) ∧
  (∀ k0_t15 : Fin (k0_t15_loop v253).trips, ∀ (k0_h19 : k0_cond19 v253 k0_t15 = 1#1), ∀ a, (k0_off459 v253 k0_t15) a + S1x1x16x8x128.size a ≤ S2x8x16x8x128.size a) ∧
  (∀ k0_t15 : Fin (k0_t15_loop v253).trips, ∀ (k0_h19 : k0_cond19 v253 k0_t15 = 1#1), ∀ a, (k0_off461 v253 k0_t15) a + S1x1.size a ≤ S2x8.size a) ∧
  (∀ k0_t15 : Fin (k0_t15_loop v253).trips, ∀ (k0_h19 : k0_cond19 v253 k0_t15 = 1#1), ∀ a, (k0_off462 v253 k0_t15) a + S1x1x16x8x128.size a ≤ S2x8x16x8x128.size a) ∧
  (∀ k0_t15 : Fin (k0_t15_loop v253).trips, ∀ (k0_h19 : k0_cond19 v253 k0_t15 = 1#1), ∀ a, (k0_off463 v253 k0_t15) a + S1x1.size a ≤ S8x512.size a) ∧
  (∀ k0_t15 : Fin (k0_t15_loop v253).trips, ∀ (k0_h19 : k0_cond19 v253 k0_t15 = 1#1), ∀ a, (k0_off464 v253 k0_t15) a + S1x1.size a ≤ S2x8.size a) ∧
  (∀ k0_t15 : Fin (k0_t15_loop v253).trips, ∀ (k0_h19 : k0_cond19 v253 k0_t15 = 1#1), ∀ a, (k0_off465 v253 k0_t15) a + S1x1x16x8x128.size a ≤ S2x8x16x8x128.size a) ∧
  (∀ k0_t15 : Fin (k0_t15_loop v253).trips, ∀ (k0_h19 : k0_cond19 v253 k0_t15 = 1#1), ∀ a, (k0_off467 v253 k0_t15) a + S1x1.size a ≤ S2x8.size a) ∧
  (∀ k0_t15 : Fin (k0_t15_loop v253).trips, ∀ (k0_h19 : k0_cond19 v253 k0_t15 = 1#1), ∀ a, (k0_off468 v253 k0_t15) a + S1x1x16x8x128.size a ≤ S2x8x16x8x128.size a) ∧
  (∀ k0_t15 : Fin (k0_t15_loop v253).trips, ∀ (k0_h19 : k0_cond19 v253 k0_t15 = 1#1), ∀ a, (k0_off469 v253 k0_t15) a + S1x1.size a ≤ S8x512.size a) ∧
  (∀ k0_t15 : Fin (k0_t15_loop v253).trips, ∀ (k0_h19 : k0_cond19 v253 k0_t15 = 1#1), ∀ a, (k0_off470 v253 k0_t15) a + S1x1.size a ≤ S2x8.size a) ∧
  (∀ k0_t15 : Fin (k0_t15_loop v253).trips, ∀ (k0_h19 : k0_cond19 v253 k0_t15 = 1#1), ∀ a, (k0_off471 v253 k0_t15) a + S1x1x16x8x128.size a ≤ S2x8x16x8x128.size a) ∧
  (∀ k0_t15 : Fin (k0_t15_loop v253).trips, ∀ (k0_h19 : k0_cond19 v253 k0_t15 = 1#1), ∀ a, (k0_off473 v253 k0_t15) a + S1x1.size a ≤ S2x8.size a) ∧
  (∀ k0_t15 : Fin (k0_t15_loop v253).trips, ∀ (k0_h19 : k0_cond19 v253 k0_t15 = 1#1), ∀ a, (k0_off474 v253 k0_t15) a + S1x1x16x8x128.size a ≤ S2x8x16x8x128.size a) ∧
  (∀ k0_t15 : Fin (k0_t15_loop v253).trips, ∀ (k0_h19 : k0_cond19 v253 k0_t15 = 1#1), ∀ a, (k0_off475 v253 k0_t15) a + S1x1.size a ≤ S8x512.size a)
def k0_chk96_1 (v253 : BitVec 32) : Prop :=
  (∀ k0_t15 : Fin (k0_t15_loop v253).trips, ∀ (k0_h19 : k0_cond19 v253 k0_t15 = 1#1), ∀ a, (k0_off476 v253 k0_t15) a + S1x1.size a ≤ S2x8.size a) ∧
  (∀ k0_t15 : Fin (k0_t15_loop v253).trips, ∀ (k0_h19 : k0_cond19 v253 k0_t15 = 1#1), ∀ a, (k0_off477 v253 k0_t15) a + S1x1x16x8x128.size a ≤ S2x8x16x8x128.size a) ∧
  (∀ k0_t15 : Fin (k0_t15_loop v253).trips, ∀ (k0_h19 : k0_cond19 v253 k0_t15 = 1#1), ∀ a, (k0_off479 v253 k0_t15) a + S1x1.size a ≤ S2x8.size a) ∧
  (∀ k0_t15 : Fin (k0_t15_loop v253).trips, ∀ (k0_h19 : k0_cond19 v253 k0_t15 = 1#1), ∀ a, (k0_off480 v253 k0_t15) a + S1x1x16x8x128.size a ≤ S2x8x16x8x128.size a) ∧
  (∀ k0_t15 : Fin (k0_t15_loop v253).trips, ∀ (k0_h19 : k0_cond19 v253 k0_t15 = 1#1), ∀ a, (k0_off481 v253 k0_t15) a + S1x1.size a ≤ S8x512.size a) ∧
  (∀ k0_t15 : Fin (k0_t15_loop v253).trips, ∀ (k0_h19 : k0_cond19 v253 k0_t15 = 1#1), ∀ a, (k0_off482 v253 k0_t15) a + S1x1.size a ≤ S2x8.size a) ∧
  (∀ k0_t15 : Fin (k0_t15_loop v253).trips, ∀ (k0_h19 : k0_cond19 v253 k0_t15 = 1#1), ∀ a, (k0_off483 v253 k0_t15) a + S1x1x16x8x128.size a ≤ S2x8x16x8x128.size a) ∧
  (∀ k0_t15 : Fin (k0_t15_loop v253).trips, ∀ (k0_h19 : k0_cond19 v253 k0_t15 = 1#1), ∀ a, (k0_off485 v253 k0_t15) a + S1x1.size a ≤ S2x8.size a) ∧
  (∀ k0_t15 : Fin (k0_t15_loop v253).trips, ∀ (k0_h19 : k0_cond19 v253 k0_t15 = 1#1), ∀ a, (k0_off486 v253 k0_t15) a + S1x1x16x8x128.size a ≤ S2x8x16x8x128.size a) ∧
  (∀ k0_t15 : Fin (k0_t15_loop v253).trips, ∀ a, (k0_off487 v253 k0_t15) a + S1x1.size a ≤ S2x8.size a) ∧
  (∀ k0_t15 : Fin (k0_t15_loop v253).trips, ∀ a, (k0_off488 v253 k0_t15) a + S1x1x16x8x128.size a ≤ S2x8x16x8x128.size a) ∧
  (∀ k0_t15 : Fin (k0_t15_loop v253).trips, ∀ a, (k0_off489 v253 k0_t15) a + S1x1.size a ≤ S2x8.size a) ∧
  (∀ k0_t15 : Fin (k0_t15_loop v253).trips, ∀ a, (k0_off490 v253 k0_t15) a + S1x1x16x8x128.size a ≤ S2x8x16x8x128.size a) ∧
  (∀ k0_t15 : Fin (k0_t15_loop v253).trips, ∀ a, (k0_off491 v253 k0_t15) a + S1x1.size a ≤ S2x8.size a) ∧
  (∀ k0_t15 : Fin (k0_t15_loop v253).trips, ∀ a, (k0_off492 v253 k0_t15) a + S1x1x16x8x128.size a ≤ S2x8x16x8x128.size a) ∧
  (∀ k0_t15 : Fin (k0_t15_loop v253).trips, ∀ a, (k0_off493 v253 k0_t15) a + S1x1.size a ≤ S2x8.size a) ∧
  (∀ k0_t15 : Fin (k0_t15_loop v253).trips, ∀ a, (k0_off494 v253 k0_t15) a + S1x1x16x8x128.size a ≤ S2x8x16x8x128.size a) ∧
  (∀ k0_t15 : Fin (k0_t15_loop v253).trips, ∀ a, (k0_off495 v253 k0_t15) a + S1x1.size a ≤ S2x8.size a) ∧
  (∀ k0_t15 : Fin (k0_t15_loop v253).trips, ∀ a, (k0_off496 v253 k0_t15) a + S1x1x16x8x128.size a ≤ S2x8x16x8x128.size a) ∧
  (∀ k0_t15 : Fin (k0_t15_loop v253).trips, ∀ a, (k0_off497 v253 k0_t15) a + S1x1.size a ≤ S2x8.size a) ∧
  (∀ k0_t15 : Fin (k0_t15_loop v253).trips, ∀ a, (k0_off498 v253 k0_t15) a + S1x1x16x8x128.size a ≤ S2x8x16x8x128.size a) ∧
  (∀ k0_t15 : Fin (k0_t15_loop v253).trips, ∀ a, (k0_off499 v253 k0_t15) a + S1x1.size a ≤ S2x8.size a) ∧
  (∀ k0_t15 : Fin (k0_t15_loop v253).trips, ∀ a, (k0_off500 v253 k0_t15) a + S1x1x16x8x128.size a ≤ S2x8x16x8x128.size a) ∧
  (∀ k0_t15 : Fin (k0_t15_loop v253).trips, ∀ a, (k0_off501 v253 k0_t15) a + S1x1.size a ≤ S2x8.size a) ∧
  (∀ k0_t15 : Fin (k0_t15_loop v253).trips, ∀ a, (k0_off502 v253 k0_t15) a + S1x1x16x8x128.size a ≤ S2x8x16x8x128.size a) ∧
  (∀ k0_t15 : Fin (k0_t15_loop v253).trips, ∀ a, (k0_off503 v253 k0_t15) a + S1x8x16x8x128.size a ≤ S2x8x16x8x128.size a) ∧
  ((k0_t16_loop v253).OK) ∧
  (∀ k0_t16 : Fin (k0_t16_loop v253).trips, ∀ (k0_h20 : k0_cond20 v253 k0_t16 = 1#1), ∀ a, (k0_off504 v253 k0_t16) a + S1x1.size a ≤ S8x512.size a) ∧
  (∀ k0_t16 : Fin (k0_t16_loop v253).trips, ∀ (k0_h20 : k0_cond20 v253 k0_t16 = 1#1), ∀ a, (k0_off505 v253 k0_t16) a + S1x1.size a ≤ S2x8.size a) ∧
  (∀ k0_t16 : Fin (k0_t16_loop v253).trips, ∀ (k0_h20 : k0_cond20 v253 k0_t16 = 1#1), ∀ a, (k0_off506 v253 k0_t16) a + S1x1x16x8x128.size a ≤ S2x8x16x8x128.size a) ∧
  (∀ k0_t16 : Fin (k0_t16_loop v253).trips, ∀ (k0_h20 : k0_cond20 v253 k0_t16 = 1#1), ∀ a, (k0_off508 v253 k0_t16) a + S1x1.size a ≤ S2x8.size a) ∧
  (∀ k0_t16 : Fin (k0_t16_loop v253).trips, ∀ (k0_h20 : k0_cond20 v253 k0_t16 = 1#1), ∀ a, (k0_off509 v253 k0_t16) a + S1x1x16x8x128.size a ≤ S2x8x16x8x128.size a)
def k0_chk96_2 (v253 : BitVec 32) : Prop :=
  (∀ k0_t16 : Fin (k0_t16_loop v253).trips, ∀ (k0_h20 : k0_cond20 v253 k0_t16 = 1#1), ∀ a, (k0_off510 v253 k0_t16) a + S1x1.size a ≤ S8x512.size a) ∧
  (∀ k0_t16 : Fin (k0_t16_loop v253).trips, ∀ (k0_h20 : k0_cond20 v253 k0_t16 = 1#1), ∀ a, (k0_off511 v253 k0_t16) a + S1x1.size a ≤ S2x8.size a) ∧
  (∀ k0_t16 : Fin (k0_t16_loop v253).trips, ∀ (k0_h20 : k0_cond20 v253 k0_t16 = 1#1), ∀ a, (k0_off512 v253 k0_t16) a + S1x1x16x8x128.size a ≤ S2x8x16x8x128.size a) ∧
  (∀ k0_t16 : Fin (k0_t16_loop v253).trips, ∀ (k0_h20 : k0_cond20 v253 k0_t16 = 1#1), ∀ a, (k0_off514 v253 k0_t16) a + S1x1.size a ≤ S2x8.size a) ∧
  (∀ k0_t16 : Fin (k0_t16_loop v253).trips, ∀ (k0_h20 : k0_cond20 v253 k0_t16 = 1#1), ∀ a, (k0_off515 v253 k0_t16) a + S1x1x16x8x128.size a ≤ S2x8x16x8x128.size a) ∧
  (∀ k0_t16 : Fin (k0_t16_loop v253).trips, ∀ (k0_h20 : k0_cond20 v253 k0_t16 = 1#1), ∀ a, (k0_off516 v253 k0_t16) a + S1x1.size a ≤ S8x512.size a) ∧
  (∀ k0_t16 : Fin (k0_t16_loop v253).trips, ∀ (k0_h20 : k0_cond20 v253 k0_t16 = 1#1), ∀ a, (k0_off517 v253 k0_t16) a + S1x1.size a ≤ S2x8.size a) ∧
  (∀ k0_t16 : Fin (k0_t16_loop v253).trips, ∀ (k0_h20 : k0_cond20 v253 k0_t16 = 1#1), ∀ a, (k0_off518 v253 k0_t16) a + S1x1x16x8x128.size a ≤ S2x8x16x8x128.size a) ∧
  (∀ k0_t16 : Fin (k0_t16_loop v253).trips, ∀ (k0_h20 : k0_cond20 v253 k0_t16 = 1#1), ∀ a, (k0_off520 v253 k0_t16) a + S1x1.size a ≤ S2x8.size a) ∧
  (∀ k0_t16 : Fin (k0_t16_loop v253).trips, ∀ (k0_h20 : k0_cond20 v253 k0_t16 = 1#1), ∀ a, (k0_off521 v253 k0_t16) a + S1x1x16x8x128.size a ≤ S2x8x16x8x128.size a) ∧
  (∀ k0_t16 : Fin (k0_t16_loop v253).trips, ∀ (k0_h20 : k0_cond20 v253 k0_t16 = 1#1), ∀ a, (k0_off522 v253 k0_t16) a + S1x1.size a ≤ S8x512.size a) ∧
  (∀ k0_t16 : Fin (k0_t16_loop v253).trips, ∀ (k0_h20 : k0_cond20 v253 k0_t16 = 1#1), ∀ a, (k0_off523 v253 k0_t16) a + S1x1.size a ≤ S2x8.size a) ∧
  (∀ k0_t16 : Fin (k0_t16_loop v253).trips, ∀ (k0_h20 : k0_cond20 v253 k0_t16 = 1#1), ∀ a, (k0_off524 v253 k0_t16) a + S1x1x16x8x128.size a ≤ S2x8x16x8x128.size a) ∧
  (∀ k0_t16 : Fin (k0_t16_loop v253).trips, ∀ (k0_h20 : k0_cond20 v253 k0_t16 = 1#1), ∀ a, (k0_off526 v253 k0_t16) a + S1x1.size a ≤ S2x8.size a) ∧
  (∀ k0_t16 : Fin (k0_t16_loop v253).trips, ∀ (k0_h20 : k0_cond20 v253 k0_t16 = 1#1), ∀ a, (k0_off527 v253 k0_t16) a + S1x1x16x8x128.size a ≤ S2x8x16x8x128.size a) ∧
  (∀ k0_t16 : Fin (k0_t16_loop v253).trips, ∀ (k0_h20 : k0_cond20 v253 k0_t16 = 1#1), ∀ a, (k0_off528 v253 k0_t16) a + S1x1.size a ≤ S8x512.size a) ∧
  (∀ k0_t16 : Fin (k0_t16_loop v253).trips, ∀ (k0_h20 : k0_cond20 v253 k0_t16 = 1#1), ∀ a, (k0_off529 v253 k0_t16) a + S1x1.size a ≤ S2x8.size a) ∧
  (∀ k0_t16 : Fin (k0_t16_loop v253).trips, ∀ (k0_h20 : k0_cond20 v253 k0_t16 = 1#1), ∀ a, (k0_off530 v253 k0_t16) a + S1x1x16x8x128.size a ≤ S2x8x16x8x128.size a) ∧
  (∀ k0_t16 : Fin (k0_t16_loop v253).trips, ∀ (k0_h20 : k0_cond20 v253 k0_t16 = 1#1), ∀ a, (k0_off532 v253 k0_t16) a + S1x1.size a ≤ S2x8.size a) ∧
  (∀ k0_t16 : Fin (k0_t16_loop v253).trips, ∀ (k0_h20 : k0_cond20 v253 k0_t16 = 1#1), ∀ a, (k0_off533 v253 k0_t16) a + S1x1x16x8x128.size a ≤ S2x8x16x8x128.size a) ∧
  (∀ k0_t16 : Fin (k0_t16_loop v253).trips, ∀ (k0_h20 : k0_cond20 v253 k0_t16 = 1#1), ∀ a, (k0_off534 v253 k0_t16) a + S1x1.size a ≤ S8x512.size a) ∧
  (∀ k0_t16 : Fin (k0_t16_loop v253).trips, ∀ (k0_h20 : k0_cond20 v253 k0_t16 = 1#1), ∀ a, (k0_off535 v253 k0_t16) a + S1x1.size a ≤ S2x8.size a) ∧
  (∀ k0_t16 : Fin (k0_t16_loop v253).trips, ∀ (k0_h20 : k0_cond20 v253 k0_t16 = 1#1), ∀ a, (k0_off536 v253 k0_t16) a + S1x1x16x8x128.size a ≤ S2x8x16x8x128.size a) ∧
  (∀ k0_t16 : Fin (k0_t16_loop v253).trips, ∀ (k0_h20 : k0_cond20 v253 k0_t16 = 1#1), ∀ a, (k0_off538 v253 k0_t16) a + S1x1.size a ≤ S2x8.size a) ∧
  (∀ k0_t16 : Fin (k0_t16_loop v253).trips, ∀ (k0_h20 : k0_cond20 v253 k0_t16 = 1#1), ∀ a, (k0_off539 v253 k0_t16) a + S1x1x16x8x128.size a ≤ S2x8x16x8x128.size a) ∧
  (∀ k0_t16 : Fin (k0_t16_loop v253).trips, ∀ (k0_h20 : k0_cond20 v253 k0_t16 = 1#1), ∀ a, (k0_off540 v253 k0_t16) a + S1x1.size a ≤ S8x512.size a) ∧
  (∀ k0_t16 : Fin (k0_t16_loop v253).trips, ∀ (k0_h20 : k0_cond20 v253 k0_t16 = 1#1), ∀ a, (k0_off541 v253 k0_t16) a + S1x1.size a ≤ S2x8.size a) ∧
  (∀ k0_t16 : Fin (k0_t16_loop v253).trips, ∀ (k0_h20 : k0_cond20 v253 k0_t16 = 1#1), ∀ a, (k0_off542 v253 k0_t16) a + S1x1x16x8x128.size a ≤ S2x8x16x8x128.size a) ∧
  (∀ k0_t16 : Fin (k0_t16_loop v253).trips, ∀ (k0_h20 : k0_cond20 v253 k0_t16 = 1#1), ∀ a, (k0_off544 v253 k0_t16) a + S1x1.size a ≤ S2x8.size a) ∧
  (∀ k0_t16 : Fin (k0_t16_loop v253).trips, ∀ (k0_h20 : k0_cond20 v253 k0_t16 = 1#1), ∀ a, (k0_off545 v253 k0_t16) a + S1x1x16x8x128.size a ≤ S2x8x16x8x128.size a) ∧
  (∀ k0_t16 : Fin (k0_t16_loop v253).trips, ∀ (k0_h20 : k0_cond20 v253 k0_t16 = 1#1), ∀ a, (k0_off546 v253 k0_t16) a + S1x1.size a ≤ S8x512.size a) ∧
  (∀ k0_t16 : Fin (k0_t16_loop v253).trips, ∀ (k0_h20 : k0_cond20 v253 k0_t16 = 1#1), ∀ a, (k0_off547 v253 k0_t16) a + S1x1.size a ≤ S2x8.size a)
def k0_chk96_3 (v253 : BitVec 32) : Prop :=
  (∀ k0_t16 : Fin (k0_t16_loop v253).trips, ∀ (k0_h20 : k0_cond20 v253 k0_t16 = 1#1), ∀ a, (k0_off548 v253 k0_t16) a + S1x1x16x8x128.size a ≤ S2x8x16x8x128.size a) ∧
  (∀ k0_t16 : Fin (k0_t16_loop v253).trips, ∀ (k0_h20 : k0_cond20 v253 k0_t16 = 1#1), ∀ a, (k0_off550 v253 k0_t16) a + S1x1.size a ≤ S2x8.size a) ∧
  (∀ k0_t16 : Fin (k0_t16_loop v253).trips, ∀ (k0_h20 : k0_cond20 v253 k0_t16 = 1#1), ∀ a, (k0_off551 v253 k0_t16) a + S1x1x16x8x128.size a ≤ S2x8x16x8x128.size a) ∧
  (∀ k0_t16 : Fin (k0_t16_loop v253).trips, ∀ a, (k0_off552 v253 k0_t16) a + S1x1.size a ≤ S2x8.size a) ∧
  (∀ k0_t16 : Fin (k0_t16_loop v253).trips, ∀ a, (k0_off553 v253 k0_t16) a + S1x1x16x8x128.size a ≤ S2x8x16x8x128.size a) ∧
  (∀ k0_t16 : Fin (k0_t16_loop v253).trips, ∀ a, (k0_off554 v253 k0_t16) a + S1x1.size a ≤ S2x8.size a) ∧
  (∀ k0_t16 : Fin (k0_t16_loop v253).trips, ∀ a, (k0_off555 v253 k0_t16) a + S1x1x16x8x128.size a ≤ S2x8x16x8x128.size a) ∧
  (∀ k0_t16 : Fin (k0_t16_loop v253).trips, ∀ a, (k0_off556 v253 k0_t16) a + S1x1.size a ≤ S2x8.size a) ∧
  (∀ k0_t16 : Fin (k0_t16_loop v253).trips, ∀ a, (k0_off557 v253 k0_t16) a + S1x1x16x8x128.size a ≤ S2x8x16x8x128.size a) ∧
  (∀ k0_t16 : Fin (k0_t16_loop v253).trips, ∀ a, (k0_off558 v253 k0_t16) a + S1x1.size a ≤ S2x8.size a) ∧
  (∀ k0_t16 : Fin (k0_t16_loop v253).trips, ∀ a, (k0_off559 v253 k0_t16) a + S1x1x16x8x128.size a ≤ S2x8x16x8x128.size a) ∧
  (∀ k0_t16 : Fin (k0_t16_loop v253).trips, ∀ a, (k0_off560 v253 k0_t16) a + S1x1.size a ≤ S2x8.size a) ∧
  (∀ k0_t16 : Fin (k0_t16_loop v253).trips, ∀ a, (k0_off561 v253 k0_t16) a + S1x1x16x8x128.size a ≤ S2x8x16x8x128.size a) ∧
  (∀ k0_t16 : Fin (k0_t16_loop v253).trips, ∀ a, (k0_off562 v253 k0_t16) a + S1x1.size a ≤ S2x8.size a) ∧
  (∀ k0_t16 : Fin (k0_t16_loop v253).trips, ∀ a, (k0_off563 v253 k0_t16) a + S1x1x16x8x128.size a ≤ S2x8x16x8x128.size a) ∧
  (∀ k0_t16 : Fin (k0_t16_loop v253).trips, ∀ a, (k0_off564 v253 k0_t16) a + S1x1.size a ≤ S2x8.size a) ∧
  (∀ k0_t16 : Fin (k0_t16_loop v253).trips, ∀ a, (k0_off565 v253 k0_t16) a + S1x1x16x8x128.size a ≤ S2x8x16x8x128.size a) ∧
  (∀ k0_t16 : Fin (k0_t16_loop v253).trips, ∀ a, (k0_off566 v253 k0_t16) a + S1x1.size a ≤ S2x8.size a) ∧
  (∀ k0_t16 : Fin (k0_t16_loop v253).trips, ∀ a, (k0_off567 v253 k0_t16) a + S1x1x16x8x128.size a ≤ S2x8x16x8x128.size a) ∧
  (∀ k0_t16 : Fin (k0_t16_loop v253).trips, ∀ a, (k0_off568 v253 k0_t16) a + S1x8x16x8x128.size a ≤ S2x8x16x8x128.size a)
def k0_chk96 (v253 : BitVec 32) : Prop :=
  k0_chk96_0 v253 ∧
  k0_chk96_1 v253 ∧
  k0_chk96_2 v253 ∧
  k0_chk96_3 v253
theorem k0_t15_ok : ∀ (v253 : BitVec 32) (k0_hw96 : k0_chk96 v253), (k0_t15_loop v253).OK := fun v253 k0_hw96 => k0_hw96.1.1
theorem k0_off439_inb : ∀ (v253 : BitVec 32) (k0_hw96 : k0_chk96 v253) (k0_t15 : Fin (k0_t15_loop v253).trips), ∀ (k0_h19 : k0_cond19 v253 k0_t15 = 1#1), ∀ a, (k0_off439 v253 k0_t15) a + S1x1.size a ≤ S8x512.size a := fun v253 k0_hw96 k0_t15 k0_h19 => k0_hw96.1.2.1 k0_t15 k0_h19
theorem k0_off440_inb : ∀ (v253 : BitVec 32) (k0_hw96 : k0_chk96 v253) (k0_t15 : Fin (k0_t15_loop v253).trips), ∀ (k0_h19 : k0_cond19 v253 k0_t15 = 1#1), ∀ a, (k0_off440 v253 k0_t15) a + S1x1.size a ≤ S2x8.size a := fun v253 k0_hw96 k0_t15 k0_h19 => k0_hw96.1.2.2.1 k0_t15 k0_h19
theorem k0_off441_inb : ∀ (v253 : BitVec 32) (k0_hw96 : k0_chk96 v253) (k0_t15 : Fin (k0_t15_loop v253).trips), ∀ (k0_h19 : k0_cond19 v253 k0_t15 = 1#1), ∀ a, (k0_off441 v253 k0_t15) a + S1x1x16x8x128.size a ≤ S2x8x16x8x128.size a := fun v253 k0_hw96 k0_t15 k0_h19 => k0_hw96.1.2.2.2.1 k0_t15 k0_h19
theorem k0_off443_inb : ∀ (v253 : BitVec 32) (k0_hw96 : k0_chk96 v253) (k0_t15 : Fin (k0_t15_loop v253).trips), ∀ (k0_h19 : k0_cond19 v253 k0_t15 = 1#1), ∀ a, (k0_off443 v253 k0_t15) a + S1x1.size a ≤ S2x8.size a := fun v253 k0_hw96 k0_t15 k0_h19 => k0_hw96.1.2.2.2.2.1 k0_t15 k0_h19
theorem k0_off444_inb : ∀ (v253 : BitVec 32) (k0_hw96 : k0_chk96 v253) (k0_t15 : Fin (k0_t15_loop v253).trips), ∀ (k0_h19 : k0_cond19 v253 k0_t15 = 1#1), ∀ a, (k0_off444 v253 k0_t15) a + S1x1x16x8x128.size a ≤ S2x8x16x8x128.size a := fun v253 k0_hw96 k0_t15 k0_h19 => k0_hw96.1.2.2.2.2.2.1 k0_t15 k0_h19
theorem k0_off445_inb : ∀ (v253 : BitVec 32) (k0_hw96 : k0_chk96 v253) (k0_t15 : Fin (k0_t15_loop v253).trips), ∀ (k0_h19 : k0_cond19 v253 k0_t15 = 1#1), ∀ a, (k0_off445 v253 k0_t15) a + S1x1.size a ≤ S8x512.size a := fun v253 k0_hw96 k0_t15 k0_h19 => k0_hw96.1.2.2.2.2.2.2.1 k0_t15 k0_h19
theorem k0_off446_inb : ∀ (v253 : BitVec 32) (k0_hw96 : k0_chk96 v253) (k0_t15 : Fin (k0_t15_loop v253).trips), ∀ (k0_h19 : k0_cond19 v253 k0_t15 = 1#1), ∀ a, (k0_off446 v253 k0_t15) a + S1x1.size a ≤ S2x8.size a := fun v253 k0_hw96 k0_t15 k0_h19 => k0_hw96.1.2.2.2.2.2.2.2.1 k0_t15 k0_h19
theorem k0_off447_inb : ∀ (v253 : BitVec 32) (k0_hw96 : k0_chk96 v253) (k0_t15 : Fin (k0_t15_loop v253).trips), ∀ (k0_h19 : k0_cond19 v253 k0_t15 = 1#1), ∀ a, (k0_off447 v253 k0_t15) a + S1x1x16x8x128.size a ≤ S2x8x16x8x128.size a := fun v253 k0_hw96 k0_t15 k0_h19 => k0_hw96.1.2.2.2.2.2.2.2.2.1 k0_t15 k0_h19
theorem k0_off449_inb : ∀ (v253 : BitVec 32) (k0_hw96 : k0_chk96 v253) (k0_t15 : Fin (k0_t15_loop v253).trips), ∀ (k0_h19 : k0_cond19 v253 k0_t15 = 1#1), ∀ a, (k0_off449 v253 k0_t15) a + S1x1.size a ≤ S2x8.size a := fun v253 k0_hw96 k0_t15 k0_h19 => k0_hw96.1.2.2.2.2.2.2.2.2.2.1 k0_t15 k0_h19
theorem k0_off450_inb : ∀ (v253 : BitVec 32) (k0_hw96 : k0_chk96 v253) (k0_t15 : Fin (k0_t15_loop v253).trips), ∀ (k0_h19 : k0_cond19 v253 k0_t15 = 1#1), ∀ a, (k0_off450 v253 k0_t15) a + S1x1x16x8x128.size a ≤ S2x8x16x8x128.size a := fun v253 k0_hw96 k0_t15 k0_h19 => k0_hw96.1.2.2.2.2.2.2.2.2.2.2.1 k0_t15 k0_h19
theorem k0_off451_inb : ∀ (v253 : BitVec 32) (k0_hw96 : k0_chk96 v253) (k0_t15 : Fin (k0_t15_loop v253).trips), ∀ (k0_h19 : k0_cond19 v253 k0_t15 = 1#1), ∀ a, (k0_off451 v253 k0_t15) a + S1x1.size a ≤ S8x512.size a := fun v253 k0_hw96 k0_t15 k0_h19 => k0_hw96.1.2.2.2.2.2.2.2.2.2.2.2.1 k0_t15 k0_h19
theorem k0_off452_inb : ∀ (v253 : BitVec 32) (k0_hw96 : k0_chk96 v253) (k0_t15 : Fin (k0_t15_loop v253).trips), ∀ (k0_h19 : k0_cond19 v253 k0_t15 = 1#1), ∀ a, (k0_off452 v253 k0_t15) a + S1x1.size a ≤ S2x8.size a := fun v253 k0_hw96 k0_t15 k0_h19 => k0_hw96.1.2.2.2.2.2.2.2.2.2.2.2.2.1 k0_t15 k0_h19
theorem k0_off453_inb : ∀ (v253 : BitVec 32) (k0_hw96 : k0_chk96 v253) (k0_t15 : Fin (k0_t15_loop v253).trips), ∀ (k0_h19 : k0_cond19 v253 k0_t15 = 1#1), ∀ a, (k0_off453 v253 k0_t15) a + S1x1x16x8x128.size a ≤ S2x8x16x8x128.size a := fun v253 k0_hw96 k0_t15 k0_h19 => k0_hw96.1.2.2.2.2.2.2.2.2.2.2.2.2.2.1 k0_t15 k0_h19
theorem k0_off455_inb : ∀ (v253 : BitVec 32) (k0_hw96 : k0_chk96 v253) (k0_t15 : Fin (k0_t15_loop v253).trips), ∀ (k0_h19 : k0_cond19 v253 k0_t15 = 1#1), ∀ a, (k0_off455 v253 k0_t15) a + S1x1.size a ≤ S2x8.size a := fun v253 k0_hw96 k0_t15 k0_h19 => k0_hw96.1.2.2.2.2.2.2.2.2.2.2.2.2.2.2.1 k0_t15 k0_h19
theorem k0_off456_inb : ∀ (v253 : BitVec 32) (k0_hw96 : k0_chk96 v253) (k0_t15 : Fin (k0_t15_loop v253).trips), ∀ (k0_h19 : k0_cond19 v253 k0_t15 = 1#1), ∀ a, (k0_off456 v253 k0_t15) a + S1x1x16x8x128.size a ≤ S2x8x16x8x128.size a := fun v253 k0_hw96 k0_t15 k0_h19 => k0_hw96.1.2.2.2.2.2.2.2.2.2.2.2.2.2.2.2.1 k0_t15 k0_h19
theorem k0_off457_inb : ∀ (v253 : BitVec 32) (k0_hw96 : k0_chk96 v253) (k0_t15 : Fin (k0_t15_loop v253).trips), ∀ (k0_h19 : k0_cond19 v253 k0_t15 = 1#1), ∀ a, (k0_off457 v253 k0_t15) a + S1x1.size a ≤ S8x512.size a := fun v253 k0_hw96 k0_t15 k0_h19 => k0_hw96.1.2.2.2.2.2.2.2.2.2.2.2.2.2.2.2.2.1 k0_t15 k0_h19
theorem k0_off458_inb : ∀ (v253 : BitVec 32) (k0_hw96 : k0_chk96 v253) (k0_t15 : Fin (k0_t15_loop v253).trips), ∀ (k0_h19 : k0_cond19 v253 k0_t15 = 1#1), ∀ a, (k0_off458 v253 k0_t15) a + S1x1.size a ≤ S2x8.size a := fun v253 k0_hw96 k0_t15 k0_h19 => k0_hw96.1.2.2.2.2.2.2.2.2.2.2.2.2.2.2.2.2.2.1 k0_t15 k0_h19
theorem k0_off459_inb : ∀ (v253 : BitVec 32) (k0_hw96 : k0_chk96 v253) (k0_t15 : Fin (k0_t15_loop v253).trips), ∀ (k0_h19 : k0_cond19 v253 k0_t15 = 1#1), ∀ a, (k0_off459 v253 k0_t15) a + S1x1x16x8x128.size a ≤ S2x8x16x8x128.size a := fun v253 k0_hw96 k0_t15 k0_h19 => k0_hw96.1.2.2.2.2.2.2.2.2.2.2.2.2.2.2.2.2.2.2.1 k0_t15 k0_h19
theorem k0_off461_inb : ∀ (v253 : BitVec 32) (k0_hw96 : k0_chk96 v253) (k0_t15 : Fin (k0_t15_loop v253).trips), ∀ (k0_h19 : k0_cond19 v253 k0_t15 = 1#1), ∀ a, (k0_off461 v253 k0_t15) a + S1x1.size a ≤ S2x8.size a := fun v253 k0_hw96 k0_t15 k0_h19 => k0_hw96.1.2.2.2.2.2.2.2.2.2.2.2.2.2.2.2.2.2.2.2.1 k0_t15 k0_h19
theorem k0_off462_inb : ∀ (v253 : BitVec 32) (k0_hw96 : k0_chk96 v253) (k0_t15 : Fin (k0_t15_loop v253).trips), ∀ (k0_h19 : k0_cond19 v253 k0_t15 = 1#1), ∀ a, (k0_off462 v253 k0_t15) a + S1x1x16x8x128.size a ≤ S2x8x16x8x128.size a := fun v253 k0_hw96 k0_t15 k0_h19 => k0_hw96.1.2.2.2.2.2.2.2.2.2.2.2.2.2.2.2.2.2.2.2.2.1 k0_t15 k0_h19
theorem k0_off463_inb : ∀ (v253 : BitVec 32) (k0_hw96 : k0_chk96 v253) (k0_t15 : Fin (k0_t15_loop v253).trips), ∀ (k0_h19 : k0_cond19 v253 k0_t15 = 1#1), ∀ a, (k0_off463 v253 k0_t15) a + S1x1.size a ≤ S8x512.size a := fun v253 k0_hw96 k0_t15 k0_h19 => k0_hw96.1.2.2.2.2.2.2.2.2.2.2.2.2.2.2.2.2.2.2.2.2.2.1 k0_t15 k0_h19
theorem k0_off464_inb : ∀ (v253 : BitVec 32) (k0_hw96 : k0_chk96 v253) (k0_t15 : Fin (k0_t15_loop v253).trips), ∀ (k0_h19 : k0_cond19 v253 k0_t15 = 1#1), ∀ a, (k0_off464 v253 k0_t15) a + S1x1.size a ≤ S2x8.size a := fun v253 k0_hw96 k0_t15 k0_h19 => k0_hw96.1.2.2.2.2.2.2.2.2.2.2.2.2.2.2.2.2.2.2.2.2.2.2.1 k0_t15 k0_h19
theorem k0_off465_inb : ∀ (v253 : BitVec 32) (k0_hw96 : k0_chk96 v253) (k0_t15 : Fin (k0_t15_loop v253).trips), ∀ (k0_h19 : k0_cond19 v253 k0_t15 = 1#1), ∀ a, (k0_off465 v253 k0_t15) a + S1x1x16x8x128.size a ≤ S2x8x16x8x128.size a := fun v253 k0_hw96 k0_t15 k0_h19 => k0_hw96.1.2.2.2.2.2.2.2.2.2.2.2.2.2.2.2.2.2.2.2.2.2.2.2.1 k0_t15 k0_h19
theorem k0_off467_inb : ∀ (v253 : BitVec 32) (k0_hw96 : k0_chk96 v253) (k0_t15 : Fin (k0_t15_loop v253).trips), ∀ (k0_h19 : k0_cond19 v253 k0_t15 = 1#1), ∀ a, (k0_off467 v253 k0_t15) a + S1x1.size a ≤ S2x8.size a := fun v253 k0_hw96 k0_t15 k0_h19 => k0_hw96.1.2.2.2.2.2.2.2.2.2.2.2.2.2.2.2.2.2.2.2.2.2.2.2.2.1 k0_t15 k0_h19
theorem k0_off468_inb : ∀ (v253 : BitVec 32) (k0_hw96 : k0_chk96 v253) (k0_t15 : Fin (k0_t15_loop v253).trips), ∀ (k0_h19 : k0_cond19 v253 k0_t15 = 1#1), ∀ a, (k0_off468 v253 k0_t15) a + S1x1x16x8x128.size a ≤ S2x8x16x8x128.size a := fun v253 k0_hw96 k0_t15 k0_h19 => k0_hw96.1.2.2.2.2.2.2.2.2.2.2.2.2.2.2.2.2.2.2.2.2.2.2.2.2.2.1 k0_t15 k0_h19
theorem k0_off469_inb : ∀ (v253 : BitVec 32) (k0_hw96 : k0_chk96 v253) (k0_t15 : Fin (k0_t15_loop v253).trips), ∀ (k0_h19 : k0_cond19 v253 k0_t15 = 1#1), ∀ a, (k0_off469 v253 k0_t15) a + S1x1.size a ≤ S8x512.size a := fun v253 k0_hw96 k0_t15 k0_h19 => k0_hw96.1.2.2.2.2.2.2.2.2.2.2.2.2.2.2.2.2.2.2.2.2.2.2.2.2.2.2.1 k0_t15 k0_h19
theorem k0_off470_inb : ∀ (v253 : BitVec 32) (k0_hw96 : k0_chk96 v253) (k0_t15 : Fin (k0_t15_loop v253).trips), ∀ (k0_h19 : k0_cond19 v253 k0_t15 = 1#1), ∀ a, (k0_off470 v253 k0_t15) a + S1x1.size a ≤ S2x8.size a := fun v253 k0_hw96 k0_t15 k0_h19 => k0_hw96.1.2.2.2.2.2.2.2.2.2.2.2.2.2.2.2.2.2.2.2.2.2.2.2.2.2.2.2.1 k0_t15 k0_h19
theorem k0_off471_inb : ∀ (v253 : BitVec 32) (k0_hw96 : k0_chk96 v253) (k0_t15 : Fin (k0_t15_loop v253).trips), ∀ (k0_h19 : k0_cond19 v253 k0_t15 = 1#1), ∀ a, (k0_off471 v253 k0_t15) a + S1x1x16x8x128.size a ≤ S2x8x16x8x128.size a := fun v253 k0_hw96 k0_t15 k0_h19 => k0_hw96.1.2.2.2.2.2.2.2.2.2.2.2.2.2.2.2.2.2.2.2.2.2.2.2.2.2.2.2.2.1 k0_t15 k0_h19
theorem k0_off473_inb : ∀ (v253 : BitVec 32) (k0_hw96 : k0_chk96 v253) (k0_t15 : Fin (k0_t15_loop v253).trips), ∀ (k0_h19 : k0_cond19 v253 k0_t15 = 1#1), ∀ a, (k0_off473 v253 k0_t15) a + S1x1.size a ≤ S2x8.size a := fun v253 k0_hw96 k0_t15 k0_h19 => k0_hw96.1.2.2.2.2.2.2.2.2.2.2.2.2.2.2.2.2.2.2.2.2.2.2.2.2.2.2.2.2.2.1 k0_t15 k0_h19
theorem k0_off474_inb : ∀ (v253 : BitVec 32) (k0_hw96 : k0_chk96 v253) (k0_t15 : Fin (k0_t15_loop v253).trips), ∀ (k0_h19 : k0_cond19 v253 k0_t15 = 1#1), ∀ a, (k0_off474 v253 k0_t15) a + S1x1x16x8x128.size a ≤ S2x8x16x8x128.size a := fun v253 k0_hw96 k0_t15 k0_h19 => k0_hw96.1.2.2.2.2.2.2.2.2.2.2.2.2.2.2.2.2.2.2.2.2.2.2.2.2.2.2.2.2.2.2.1 k0_t15 k0_h19
theorem k0_off475_inb : ∀ (v253 : BitVec 32) (k0_hw96 : k0_chk96 v253) (k0_t15 : Fin (k0_t15_loop v253).trips), ∀ (k0_h19 : k0_cond19 v253 k0_t15 = 1#1), ∀ a, (k0_off475 v253 k0_t15) a + S1x1.size a ≤ S8x512.size a := fun v253 k0_hw96 k0_t15 k0_h19 => k0_hw96.1.2.2.2.2.2.2.2.2.2.2.2.2.2.2.2.2.2.2.2.2.2.2.2.2.2.2.2.2.2.2.2 k0_t15 k0_h19
theorem k0_off476_inb : ∀ (v253 : BitVec 32) (k0_hw96 : k0_chk96 v253) (k0_t15 : Fin (k0_t15_loop v253).trips), ∀ (k0_h19 : k0_cond19 v253 k0_t15 = 1#1), ∀ a, (k0_off476 v253 k0_t15) a + S1x1.size a ≤ S2x8.size a := fun v253 k0_hw96 k0_t15 k0_h19 => k0_hw96.2.1.1 k0_t15 k0_h19
theorem k0_off477_inb : ∀ (v253 : BitVec 32) (k0_hw96 : k0_chk96 v253) (k0_t15 : Fin (k0_t15_loop v253).trips), ∀ (k0_h19 : k0_cond19 v253 k0_t15 = 1#1), ∀ a, (k0_off477 v253 k0_t15) a + S1x1x16x8x128.size a ≤ S2x8x16x8x128.size a := fun v253 k0_hw96 k0_t15 k0_h19 => k0_hw96.2.1.2.1 k0_t15 k0_h19
theorem k0_off479_inb : ∀ (v253 : BitVec 32) (k0_hw96 : k0_chk96 v253) (k0_t15 : Fin (k0_t15_loop v253).trips), ∀ (k0_h19 : k0_cond19 v253 k0_t15 = 1#1), ∀ a, (k0_off479 v253 k0_t15) a + S1x1.size a ≤ S2x8.size a := fun v253 k0_hw96 k0_t15 k0_h19 => k0_hw96.2.1.2.2.1 k0_t15 k0_h19
theorem k0_off480_inb : ∀ (v253 : BitVec 32) (k0_hw96 : k0_chk96 v253) (k0_t15 : Fin (k0_t15_loop v253).trips), ∀ (k0_h19 : k0_cond19 v253 k0_t15 = 1#1), ∀ a, (k0_off480 v253 k0_t15) a + S1x1x16x8x128.size a ≤ S2x8x16x8x128.size a := fun v253 k0_hw96 k0_t15 k0_h19 => k0_hw96.2.1.2.2.2.1 k0_t15 k0_h19
theorem k0_off481_inb : ∀ (v253 : BitVec 32) (k0_hw96 : k0_chk96 v253) (k0_t15 : Fin (k0_t15_loop v253).trips), ∀ (k0_h19 : k0_cond19 v253 k0_t15 = 1#1), ∀ a, (k0_off481 v253 k0_t15) a + S1x1.size a ≤ S8x512.size a := fun v253 k0_hw96 k0_t15 k0_h19 => k0_hw96.2.1.2.2.2.2.1 k0_t15 k0_h19
theorem k0_off482_inb : ∀ (v253 : BitVec 32) (k0_hw96 : k0_chk96 v253) (k0_t15 : Fin (k0_t15_loop v253).trips), ∀ (k0_h19 : k0_cond19 v253 k0_t15 = 1#1), ∀ a, (k0_off482 v253 k0_t15) a + S1x1.size a ≤ S2x8.size a := fun v253 k0_hw96 k0_t15 k0_h19 => k0_hw96.2.1.2.2.2.2.2.1 k0_t15 k0_h19
theorem k0_off483_inb : ∀ (v253 : BitVec 32) (k0_hw96 : k0_chk96 v253) (k0_t15 : Fin (k0_t15_loop v253).trips), ∀ (k0_h19 : k0_cond19 v253 k0_t15 = 1#1), ∀ a, (k0_off483 v253 k0_t15) a + S1x1x16x8x128.size a ≤ S2x8x16x8x128.size a := fun v253 k0_hw96 k0_t15 k0_h19 => k0_hw96.2.1.2.2.2.2.2.2.1 k0_t15 k0_h19
theorem k0_off485_inb : ∀ (v253 : BitVec 32) (k0_hw96 : k0_chk96 v253) (k0_t15 : Fin (k0_t15_loop v253).trips), ∀ (k0_h19 : k0_cond19 v253 k0_t15 = 1#1), ∀ a, (k0_off485 v253 k0_t15) a + S1x1.size a ≤ S2x8.size a := fun v253 k0_hw96 k0_t15 k0_h19 => k0_hw96.2.1.2.2.2.2.2.2.2.1 k0_t15 k0_h19
theorem k0_off486_inb : ∀ (v253 : BitVec 32) (k0_hw96 : k0_chk96 v253) (k0_t15 : Fin (k0_t15_loop v253).trips), ∀ (k0_h19 : k0_cond19 v253 k0_t15 = 1#1), ∀ a, (k0_off486 v253 k0_t15) a + S1x1x16x8x128.size a ≤ S2x8x16x8x128.size a := fun v253 k0_hw96 k0_t15 k0_h19 => k0_hw96.2.1.2.2.2.2.2.2.2.2.1 k0_t15 k0_h19
theorem k0_off487_inb : ∀ (v253 : BitVec 32) (k0_hw96 : k0_chk96 v253) (k0_t15 : Fin (k0_t15_loop v253).trips), ∀ a, (k0_off487 v253 k0_t15) a + S1x1.size a ≤ S2x8.size a := fun v253 k0_hw96 k0_t15 => k0_hw96.2.1.2.2.2.2.2.2.2.2.2.1 k0_t15
theorem k0_off488_inb : ∀ (v253 : BitVec 32) (k0_hw96 : k0_chk96 v253) (k0_t15 : Fin (k0_t15_loop v253).trips), ∀ a, (k0_off488 v253 k0_t15) a + S1x1x16x8x128.size a ≤ S2x8x16x8x128.size a := fun v253 k0_hw96 k0_t15 => k0_hw96.2.1.2.2.2.2.2.2.2.2.2.2.1 k0_t15
theorem k0_off489_inb : ∀ (v253 : BitVec 32) (k0_hw96 : k0_chk96 v253) (k0_t15 : Fin (k0_t15_loop v253).trips), ∀ a, (k0_off489 v253 k0_t15) a + S1x1.size a ≤ S2x8.size a := fun v253 k0_hw96 k0_t15 => k0_hw96.2.1.2.2.2.2.2.2.2.2.2.2.2.1 k0_t15
theorem k0_off490_inb : ∀ (v253 : BitVec 32) (k0_hw96 : k0_chk96 v253) (k0_t15 : Fin (k0_t15_loop v253).trips), ∀ a, (k0_off490 v253 k0_t15) a + S1x1x16x8x128.size a ≤ S2x8x16x8x128.size a := fun v253 k0_hw96 k0_t15 => k0_hw96.2.1.2.2.2.2.2.2.2.2.2.2.2.2.1 k0_t15
theorem k0_off491_inb : ∀ (v253 : BitVec 32) (k0_hw96 : k0_chk96 v253) (k0_t15 : Fin (k0_t15_loop v253).trips), ∀ a, (k0_off491 v253 k0_t15) a + S1x1.size a ≤ S2x8.size a := fun v253 k0_hw96 k0_t15 => k0_hw96.2.1.2.2.2.2.2.2.2.2.2.2.2.2.2.1 k0_t15
theorem k0_off492_inb : ∀ (v253 : BitVec 32) (k0_hw96 : k0_chk96 v253) (k0_t15 : Fin (k0_t15_loop v253).trips), ∀ a, (k0_off492 v253 k0_t15) a + S1x1x16x8x128.size a ≤ S2x8x16x8x128.size a := fun v253 k0_hw96 k0_t15 => k0_hw96.2.1.2.2.2.2.2.2.2.2.2.2.2.2.2.2.1 k0_t15
theorem k0_off493_inb : ∀ (v253 : BitVec 32) (k0_hw96 : k0_chk96 v253) (k0_t15 : Fin (k0_t15_loop v253).trips), ∀ a, (k0_off493 v253 k0_t15) a + S1x1.size a ≤ S2x8.size a := fun v253 k0_hw96 k0_t15 => k0_hw96.2.1.2.2.2.2.2.2.2.2.2.2.2.2.2.2.2.1 k0_t15
theorem k0_off494_inb : ∀ (v253 : BitVec 32) (k0_hw96 : k0_chk96 v253) (k0_t15 : Fin (k0_t15_loop v253).trips), ∀ a, (k0_off494 v253 k0_t15) a + S1x1x16x8x128.size a ≤ S2x8x16x8x128.size a := fun v253 k0_hw96 k0_t15 => k0_hw96.2.1.2.2.2.2.2.2.2.2.2.2.2.2.2.2.2.2.1 k0_t15
theorem k0_off495_inb : ∀ (v253 : BitVec 32) (k0_hw96 : k0_chk96 v253) (k0_t15 : Fin (k0_t15_loop v253).trips), ∀ a, (k0_off495 v253 k0_t15) a + S1x1.size a ≤ S2x8.size a := fun v253 k0_hw96 k0_t15 => k0_hw96.2.1.2.2.2.2.2.2.2.2.2.2.2.2.2.2.2.2.2.1 k0_t15
theorem k0_off496_inb : ∀ (v253 : BitVec 32) (k0_hw96 : k0_chk96 v253) (k0_t15 : Fin (k0_t15_loop v253).trips), ∀ a, (k0_off496 v253 k0_t15) a + S1x1x16x8x128.size a ≤ S2x8x16x8x128.size a := fun v253 k0_hw96 k0_t15 => k0_hw96.2.1.2.2.2.2.2.2.2.2.2.2.2.2.2.2.2.2.2.2.1 k0_t15
theorem k0_off497_inb : ∀ (v253 : BitVec 32) (k0_hw96 : k0_chk96 v253) (k0_t15 : Fin (k0_t15_loop v253).trips), ∀ a, (k0_off497 v253 k0_t15) a + S1x1.size a ≤ S2x8.size a := fun v253 k0_hw96 k0_t15 => k0_hw96.2.1.2.2.2.2.2.2.2.2.2.2.2.2.2.2.2.2.2.2.2.1 k0_t15
theorem k0_off498_inb : ∀ (v253 : BitVec 32) (k0_hw96 : k0_chk96 v253) (k0_t15 : Fin (k0_t15_loop v253).trips), ∀ a, (k0_off498 v253 k0_t15) a + S1x1x16x8x128.size a ≤ S2x8x16x8x128.size a := fun v253 k0_hw96 k0_t15 => k0_hw96.2.1.2.2.2.2.2.2.2.2.2.2.2.2.2.2.2.2.2.2.2.2.1 k0_t15
theorem k0_off499_inb : ∀ (v253 : BitVec 32) (k0_hw96 : k0_chk96 v253) (k0_t15 : Fin (k0_t15_loop v253).trips), ∀ a, (k0_off499 v253 k0_t15) a + S1x1.size a ≤ S2x8.size a := fun v253 k0_hw96 k0_t15 => k0_hw96.2.1.2.2.2.2.2.2.2.2.2.2.2.2.2.2.2.2.2.2.2.2.2.1 k0_t15
theorem k0_off500_inb : ∀ (v253 : BitVec 32) (k0_hw96 : k0_chk96 v253) (k0_t15 : Fin (k0_t15_loop v253).trips), ∀ a, (k0_off500 v253 k0_t15) a + S1x1x16x8x128.size a ≤ S2x8x16x8x128.size a := fun v253 k0_hw96 k0_t15 => k0_hw96.2.1.2.2.2.2.2.2.2.2.2.2.2.2.2.2.2.2.2.2.2.2.2.2.1 k0_t15
theorem k0_off501_inb : ∀ (v253 : BitVec 32) (k0_hw96 : k0_chk96 v253) (k0_t15 : Fin (k0_t15_loop v253).trips), ∀ a, (k0_off501 v253 k0_t15) a + S1x1.size a ≤ S2x8.size a := fun v253 k0_hw96 k0_t15 => k0_hw96.2.1.2.2.2.2.2.2.2.2.2.2.2.2.2.2.2.2.2.2.2.2.2.2.2.1 k0_t15
theorem k0_off502_inb : ∀ (v253 : BitVec 32) (k0_hw96 : k0_chk96 v253) (k0_t15 : Fin (k0_t15_loop v253).trips), ∀ a, (k0_off502 v253 k0_t15) a + S1x1x16x8x128.size a ≤ S2x8x16x8x128.size a := fun v253 k0_hw96 k0_t15 => k0_hw96.2.1.2.2.2.2.2.2.2.2.2.2.2.2.2.2.2.2.2.2.2.2.2.2.2.2.1 k0_t15
theorem k0_off503_inb : ∀ (v253 : BitVec 32) (k0_hw96 : k0_chk96 v253) (k0_t15 : Fin (k0_t15_loop v253).trips), ∀ a, (k0_off503 v253 k0_t15) a + S1x8x16x8x128.size a ≤ S2x8x16x8x128.size a := fun v253 k0_hw96 k0_t15 => k0_hw96.2.1.2.2.2.2.2.2.2.2.2.2.2.2.2.2.2.2.2.2.2.2.2.2.2.2.2.1 k0_t15
theorem k0_t16_ok : ∀ (v253 : BitVec 32) (k0_hw96 : k0_chk96 v253), (k0_t16_loop v253).OK := fun v253 k0_hw96 => k0_hw96.2.1.2.2.2.2.2.2.2.2.2.2.2.2.2.2.2.2.2.2.2.2.2.2.2.2.2.2.1
theorem k0_off504_inb : ∀ (v253 : BitVec 32) (k0_hw96 : k0_chk96 v253) (k0_t16 : Fin (k0_t16_loop v253).trips), ∀ (k0_h20 : k0_cond20 v253 k0_t16 = 1#1), ∀ a, (k0_off504 v253 k0_t16) a + S1x1.size a ≤ S8x512.size a := fun v253 k0_hw96 k0_t16 k0_h20 => k0_hw96.2.1.2.2.2.2.2.2.2.2.2.2.2.2.2.2.2.2.2.2.2.2.2.2.2.2.2.2.2.1 k0_t16 k0_h20
theorem k0_off505_inb : ∀ (v253 : BitVec 32) (k0_hw96 : k0_chk96 v253) (k0_t16 : Fin (k0_t16_loop v253).trips), ∀ (k0_h20 : k0_cond20 v253 k0_t16 = 1#1), ∀ a, (k0_off505 v253 k0_t16) a + S1x1.size a ≤ S2x8.size a := fun v253 k0_hw96 k0_t16 k0_h20 => k0_hw96.2.1.2.2.2.2.2.2.2.2.2.2.2.2.2.2.2.2.2.2.2.2.2.2.2.2.2.2.2.2.1 k0_t16 k0_h20
theorem k0_off506_inb : ∀ (v253 : BitVec 32) (k0_hw96 : k0_chk96 v253) (k0_t16 : Fin (k0_t16_loop v253).trips), ∀ (k0_h20 : k0_cond20 v253 k0_t16 = 1#1), ∀ a, (k0_off506 v253 k0_t16) a + S1x1x16x8x128.size a ≤ S2x8x16x8x128.size a := fun v253 k0_hw96 k0_t16 k0_h20 => k0_hw96.2.1.2.2.2.2.2.2.2.2.2.2.2.2.2.2.2.2.2.2.2.2.2.2.2.2.2.2.2.2.2.1 k0_t16 k0_h20
theorem k0_off508_inb : ∀ (v253 : BitVec 32) (k0_hw96 : k0_chk96 v253) (k0_t16 : Fin (k0_t16_loop v253).trips), ∀ (k0_h20 : k0_cond20 v253 k0_t16 = 1#1), ∀ a, (k0_off508 v253 k0_t16) a + S1x1.size a ≤ S2x8.size a := fun v253 k0_hw96 k0_t16 k0_h20 => k0_hw96.2.1.2.2.2.2.2.2.2.2.2.2.2.2.2.2.2.2.2.2.2.2.2.2.2.2.2.2.2.2.2.2.1 k0_t16 k0_h20
theorem k0_off509_inb : ∀ (v253 : BitVec 32) (k0_hw96 : k0_chk96 v253) (k0_t16 : Fin (k0_t16_loop v253).trips), ∀ (k0_h20 : k0_cond20 v253 k0_t16 = 1#1), ∀ a, (k0_off509 v253 k0_t16) a + S1x1x16x8x128.size a ≤ S2x8x16x8x128.size a := fun v253 k0_hw96 k0_t16 k0_h20 => k0_hw96.2.1.2.2.2.2.2.2.2.2.2.2.2.2.2.2.2.2.2.2.2.2.2.2.2.2.2.2.2.2.2.2.2 k0_t16 k0_h20
theorem k0_off510_inb : ∀ (v253 : BitVec 32) (k0_hw96 : k0_chk96 v253) (k0_t16 : Fin (k0_t16_loop v253).trips), ∀ (k0_h20 : k0_cond20 v253 k0_t16 = 1#1), ∀ a, (k0_off510 v253 k0_t16) a + S1x1.size a ≤ S8x512.size a := fun v253 k0_hw96 k0_t16 k0_h20 => k0_hw96.2.2.1.1 k0_t16 k0_h20
theorem k0_off511_inb : ∀ (v253 : BitVec 32) (k0_hw96 : k0_chk96 v253) (k0_t16 : Fin (k0_t16_loop v253).trips), ∀ (k0_h20 : k0_cond20 v253 k0_t16 = 1#1), ∀ a, (k0_off511 v253 k0_t16) a + S1x1.size a ≤ S2x8.size a := fun v253 k0_hw96 k0_t16 k0_h20 => k0_hw96.2.2.1.2.1 k0_t16 k0_h20
theorem k0_off512_inb : ∀ (v253 : BitVec 32) (k0_hw96 : k0_chk96 v253) (k0_t16 : Fin (k0_t16_loop v253).trips), ∀ (k0_h20 : k0_cond20 v253 k0_t16 = 1#1), ∀ a, (k0_off512 v253 k0_t16) a + S1x1x16x8x128.size a ≤ S2x8x16x8x128.size a := fun v253 k0_hw96 k0_t16 k0_h20 => k0_hw96.2.2.1.2.2.1 k0_t16 k0_h20
theorem k0_off514_inb : ∀ (v253 : BitVec 32) (k0_hw96 : k0_chk96 v253) (k0_t16 : Fin (k0_t16_loop v253).trips), ∀ (k0_h20 : k0_cond20 v253 k0_t16 = 1#1), ∀ a, (k0_off514 v253 k0_t16) a + S1x1.size a ≤ S2x8.size a := fun v253 k0_hw96 k0_t16 k0_h20 => k0_hw96.2.2.1.2.2.2.1 k0_t16 k0_h20
theorem k0_off515_inb : ∀ (v253 : BitVec 32) (k0_hw96 : k0_chk96 v253) (k0_t16 : Fin (k0_t16_loop v253).trips), ∀ (k0_h20 : k0_cond20 v253 k0_t16 = 1#1), ∀ a, (k0_off515 v253 k0_t16) a + S1x1x16x8x128.size a ≤ S2x8x16x8x128.size a := fun v253 k0_hw96 k0_t16 k0_h20 => k0_hw96.2.2.1.2.2.2.2.1 k0_t16 k0_h20
theorem k0_off516_inb : ∀ (v253 : BitVec 32) (k0_hw96 : k0_chk96 v253) (k0_t16 : Fin (k0_t16_loop v253).trips), ∀ (k0_h20 : k0_cond20 v253 k0_t16 = 1#1), ∀ a, (k0_off516 v253 k0_t16) a + S1x1.size a ≤ S8x512.size a := fun v253 k0_hw96 k0_t16 k0_h20 => k0_hw96.2.2.1.2.2.2.2.2.1 k0_t16 k0_h20
theorem k0_off517_inb : ∀ (v253 : BitVec 32) (k0_hw96 : k0_chk96 v253) (k0_t16 : Fin (k0_t16_loop v253).trips), ∀ (k0_h20 : k0_cond20 v253 k0_t16 = 1#1), ∀ a, (k0_off517 v253 k0_t16) a + S1x1.size a ≤ S2x8.size a := fun v253 k0_hw96 k0_t16 k0_h20 => k0_hw96.2.2.1.2.2.2.2.2.2.1 k0_t16 k0_h20
theorem k0_off518_inb : ∀ (v253 : BitVec 32) (k0_hw96 : k0_chk96 v253) (k0_t16 : Fin (k0_t16_loop v253).trips), ∀ (k0_h20 : k0_cond20 v253 k0_t16 = 1#1), ∀ a, (k0_off518 v253 k0_t16) a + S1x1x16x8x128.size a ≤ S2x8x16x8x128.size a := fun v253 k0_hw96 k0_t16 k0_h20 => k0_hw96.2.2.1.2.2.2.2.2.2.2.1 k0_t16 k0_h20
theorem k0_off520_inb : ∀ (v253 : BitVec 32) (k0_hw96 : k0_chk96 v253) (k0_t16 : Fin (k0_t16_loop v253).trips), ∀ (k0_h20 : k0_cond20 v253 k0_t16 = 1#1), ∀ a, (k0_off520 v253 k0_t16) a + S1x1.size a ≤ S2x8.size a := fun v253 k0_hw96 k0_t16 k0_h20 => k0_hw96.2.2.1.2.2.2.2.2.2.2.2.1 k0_t16 k0_h20
theorem k0_off521_inb : ∀ (v253 : BitVec 32) (k0_hw96 : k0_chk96 v253) (k0_t16 : Fin (k0_t16_loop v253).trips), ∀ (k0_h20 : k0_cond20 v253 k0_t16 = 1#1), ∀ a, (k0_off521 v253 k0_t16) a + S1x1x16x8x128.size a ≤ S2x8x16x8x128.size a := fun v253 k0_hw96 k0_t16 k0_h20 => k0_hw96.2.2.1.2.2.2.2.2.2.2.2.2.1 k0_t16 k0_h20
theorem k0_off522_inb : ∀ (v253 : BitVec 32) (k0_hw96 : k0_chk96 v253) (k0_t16 : Fin (k0_t16_loop v253).trips), ∀ (k0_h20 : k0_cond20 v253 k0_t16 = 1#1), ∀ a, (k0_off522 v253 k0_t16) a + S1x1.size a ≤ S8x512.size a := fun v253 k0_hw96 k0_t16 k0_h20 => k0_hw96.2.2.1.2.2.2.2.2.2.2.2.2.2.1 k0_t16 k0_h20
theorem k0_off523_inb : ∀ (v253 : BitVec 32) (k0_hw96 : k0_chk96 v253) (k0_t16 : Fin (k0_t16_loop v253).trips), ∀ (k0_h20 : k0_cond20 v253 k0_t16 = 1#1), ∀ a, (k0_off523 v253 k0_t16) a + S1x1.size a ≤ S2x8.size a := fun v253 k0_hw96 k0_t16 k0_h20 => k0_hw96.2.2.1.2.2.2.2.2.2.2.2.2.2.2.1 k0_t16 k0_h20
theorem k0_off524_inb : ∀ (v253 : BitVec 32) (k0_hw96 : k0_chk96 v253) (k0_t16 : Fin (k0_t16_loop v253).trips), ∀ (k0_h20 : k0_cond20 v253 k0_t16 = 1#1), ∀ a, (k0_off524 v253 k0_t16) a + S1x1x16x8x128.size a ≤ S2x8x16x8x128.size a := fun v253 k0_hw96 k0_t16 k0_h20 => k0_hw96.2.2.1.2.2.2.2.2.2.2.2.2.2.2.2.1 k0_t16 k0_h20
theorem k0_off526_inb : ∀ (v253 : BitVec 32) (k0_hw96 : k0_chk96 v253) (k0_t16 : Fin (k0_t16_loop v253).trips), ∀ (k0_h20 : k0_cond20 v253 k0_t16 = 1#1), ∀ a, (k0_off526 v253 k0_t16) a + S1x1.size a ≤ S2x8.size a := fun v253 k0_hw96 k0_t16 k0_h20 => k0_hw96.2.2.1.2.2.2.2.2.2.2.2.2.2.2.2.2.1 k0_t16 k0_h20
theorem k0_off527_inb : ∀ (v253 : BitVec 32) (k0_hw96 : k0_chk96 v253) (k0_t16 : Fin (k0_t16_loop v253).trips), ∀ (k0_h20 : k0_cond20 v253 k0_t16 = 1#1), ∀ a, (k0_off527 v253 k0_t16) a + S1x1x16x8x128.size a ≤ S2x8x16x8x128.size a := fun v253 k0_hw96 k0_t16 k0_h20 => k0_hw96.2.2.1.2.2.2.2.2.2.2.2.2.2.2.2.2.2.1 k0_t16 k0_h20
theorem k0_off528_inb : ∀ (v253 : BitVec 32) (k0_hw96 : k0_chk96 v253) (k0_t16 : Fin (k0_t16_loop v253).trips), ∀ (k0_h20 : k0_cond20 v253 k0_t16 = 1#1), ∀ a, (k0_off528 v253 k0_t16) a + S1x1.size a ≤ S8x512.size a := fun v253 k0_hw96 k0_t16 k0_h20 => k0_hw96.2.2.1.2.2.2.2.2.2.2.2.2.2.2.2.2.2.2.1 k0_t16 k0_h20
theorem k0_off529_inb : ∀ (v253 : BitVec 32) (k0_hw96 : k0_chk96 v253) (k0_t16 : Fin (k0_t16_loop v253).trips), ∀ (k0_h20 : k0_cond20 v253 k0_t16 = 1#1), ∀ a, (k0_off529 v253 k0_t16) a + S1x1.size a ≤ S2x8.size a := fun v253 k0_hw96 k0_t16 k0_h20 => k0_hw96.2.2.1.2.2.2.2.2.2.2.2.2.2.2.2.2.2.2.2.1 k0_t16 k0_h20
theorem k0_off530_inb : ∀ (v253 : BitVec 32) (k0_hw96 : k0_chk96 v253) (k0_t16 : Fin (k0_t16_loop v253).trips), ∀ (k0_h20 : k0_cond20 v253 k0_t16 = 1#1), ∀ a, (k0_off530 v253 k0_t16) a + S1x1x16x8x128.size a ≤ S2x8x16x8x128.size a := fun v253 k0_hw96 k0_t16 k0_h20 => k0_hw96.2.2.1.2.2.2.2.2.2.2.2.2.2.2.2.2.2.2.2.2.1 k0_t16 k0_h20
theorem k0_off532_inb : ∀ (v253 : BitVec 32) (k0_hw96 : k0_chk96 v253) (k0_t16 : Fin (k0_t16_loop v253).trips), ∀ (k0_h20 : k0_cond20 v253 k0_t16 = 1#1), ∀ a, (k0_off532 v253 k0_t16) a + S1x1.size a ≤ S2x8.size a := fun v253 k0_hw96 k0_t16 k0_h20 => k0_hw96.2.2.1.2.2.2.2.2.2.2.2.2.2.2.2.2.2.2.2.2.2.1 k0_t16 k0_h20
theorem k0_off533_inb : ∀ (v253 : BitVec 32) (k0_hw96 : k0_chk96 v253) (k0_t16 : Fin (k0_t16_loop v253).trips), ∀ (k0_h20 : k0_cond20 v253 k0_t16 = 1#1), ∀ a, (k0_off533 v253 k0_t16) a + S1x1x16x8x128.size a ≤ S2x8x16x8x128.size a := fun v253 k0_hw96 k0_t16 k0_h20 => k0_hw96.2.2.1.2.2.2.2.2.2.2.2.2.2.2.2.2.2.2.2.2.2.2.1 k0_t16 k0_h20
theorem k0_off534_inb : ∀ (v253 : BitVec 32) (k0_hw96 : k0_chk96 v253) (k0_t16 : Fin (k0_t16_loop v253).trips), ∀ (k0_h20 : k0_cond20 v253 k0_t16 = 1#1), ∀ a, (k0_off534 v253 k0_t16) a + S1x1.size a ≤ S8x512.size a := fun v253 k0_hw96 k0_t16 k0_h20 => k0_hw96.2.2.1.2.2.2.2.2.2.2.2.2.2.2.2.2.2.2.2.2.2.2.2.1 k0_t16 k0_h20
theorem k0_off535_inb : ∀ (v253 : BitVec 32) (k0_hw96 : k0_chk96 v253) (k0_t16 : Fin (k0_t16_loop v253).trips), ∀ (k0_h20 : k0_cond20 v253 k0_t16 = 1#1), ∀ a, (k0_off535 v253 k0_t16) a + S1x1.size a ≤ S2x8.size a := fun v253 k0_hw96 k0_t16 k0_h20 => k0_hw96.2.2.1.2.2.2.2.2.2.2.2.2.2.2.2.2.2.2.2.2.2.2.2.2.1 k0_t16 k0_h20
theorem k0_off536_inb : ∀ (v253 : BitVec 32) (k0_hw96 : k0_chk96 v253) (k0_t16 : Fin (k0_t16_loop v253).trips), ∀ (k0_h20 : k0_cond20 v253 k0_t16 = 1#1), ∀ a, (k0_off536 v253 k0_t16) a + S1x1x16x8x128.size a ≤ S2x8x16x8x128.size a := fun v253 k0_hw96 k0_t16 k0_h20 => k0_hw96.2.2.1.2.2.2.2.2.2.2.2.2.2.2.2.2.2.2.2.2.2.2.2.2.2.1 k0_t16 k0_h20
theorem k0_off538_inb : ∀ (v253 : BitVec 32) (k0_hw96 : k0_chk96 v253) (k0_t16 : Fin (k0_t16_loop v253).trips), ∀ (k0_h20 : k0_cond20 v253 k0_t16 = 1#1), ∀ a, (k0_off538 v253 k0_t16) a + S1x1.size a ≤ S2x8.size a := fun v253 k0_hw96 k0_t16 k0_h20 => k0_hw96.2.2.1.2.2.2.2.2.2.2.2.2.2.2.2.2.2.2.2.2.2.2.2.2.2.2.1 k0_t16 k0_h20
theorem k0_off539_inb : ∀ (v253 : BitVec 32) (k0_hw96 : k0_chk96 v253) (k0_t16 : Fin (k0_t16_loop v253).trips), ∀ (k0_h20 : k0_cond20 v253 k0_t16 = 1#1), ∀ a, (k0_off539 v253 k0_t16) a + S1x1x16x8x128.size a ≤ S2x8x16x8x128.size a := fun v253 k0_hw96 k0_t16 k0_h20 => k0_hw96.2.2.1.2.2.2.2.2.2.2.2.2.2.2.2.2.2.2.2.2.2.2.2.2.2.2.2.1 k0_t16 k0_h20
theorem k0_off540_inb : ∀ (v253 : BitVec 32) (k0_hw96 : k0_chk96 v253) (k0_t16 : Fin (k0_t16_loop v253).trips), ∀ (k0_h20 : k0_cond20 v253 k0_t16 = 1#1), ∀ a, (k0_off540 v253 k0_t16) a + S1x1.size a ≤ S8x512.size a := fun v253 k0_hw96 k0_t16 k0_h20 => k0_hw96.2.2.1.2.2.2.2.2.2.2.2.2.2.2.2.2.2.2.2.2.2.2.2.2.2.2.2.2.1 k0_t16 k0_h20
theorem k0_off541_inb : ∀ (v253 : BitVec 32) (k0_hw96 : k0_chk96 v253) (k0_t16 : Fin (k0_t16_loop v253).trips), ∀ (k0_h20 : k0_cond20 v253 k0_t16 = 1#1), ∀ a, (k0_off541 v253 k0_t16) a + S1x1.size a ≤ S2x8.size a := fun v253 k0_hw96 k0_t16 k0_h20 => k0_hw96.2.2.1.2.2.2.2.2.2.2.2.2.2.2.2.2.2.2.2.2.2.2.2.2.2.2.2.2.2.1 k0_t16 k0_h20
theorem k0_off542_inb : ∀ (v253 : BitVec 32) (k0_hw96 : k0_chk96 v253) (k0_t16 : Fin (k0_t16_loop v253).trips), ∀ (k0_h20 : k0_cond20 v253 k0_t16 = 1#1), ∀ a, (k0_off542 v253 k0_t16) a + S1x1x16x8x128.size a ≤ S2x8x16x8x128.size a := fun v253 k0_hw96 k0_t16 k0_h20 => k0_hw96.2.2.1.2.2.2.2.2.2.2.2.2.2.2.2.2.2.2.2.2.2.2.2.2.2.2.2.2.2.2.1 k0_t16 k0_h20
theorem k0_off544_inb : ∀ (v253 : BitVec 32) (k0_hw96 : k0_chk96 v253) (k0_t16 : Fin (k0_t16_loop v253).trips), ∀ (k0_h20 : k0_cond20 v253 k0_t16 = 1#1), ∀ a, (k0_off544 v253 k0_t16) a + S1x1.size a ≤ S2x8.size a := fun v253 k0_hw96 k0_t16 k0_h20 => k0_hw96.2.2.1.2.2.2.2.2.2.2.2.2.2.2.2.2.2.2.2.2.2.2.2.2.2.2.2.2.2.2.2.1 k0_t16 k0_h20
theorem k0_off545_inb : ∀ (v253 : BitVec 32) (k0_hw96 : k0_chk96 v253) (k0_t16 : Fin (k0_t16_loop v253).trips), ∀ (k0_h20 : k0_cond20 v253 k0_t16 = 1#1), ∀ a, (k0_off545 v253 k0_t16) a + S1x1x16x8x128.size a ≤ S2x8x16x8x128.size a := fun v253 k0_hw96 k0_t16 k0_h20 => k0_hw96.2.2.1.2.2.2.2.2.2.2.2.2.2.2.2.2.2.2.2.2.2.2.2.2.2.2.2.2.2.2.2.2.1 k0_t16 k0_h20
theorem k0_off546_inb : ∀ (v253 : BitVec 32) (k0_hw96 : k0_chk96 v253) (k0_t16 : Fin (k0_t16_loop v253).trips), ∀ (k0_h20 : k0_cond20 v253 k0_t16 = 1#1), ∀ a, (k0_off546 v253 k0_t16) a + S1x1.size a ≤ S8x512.size a := fun v253 k0_hw96 k0_t16 k0_h20 => k0_hw96.2.2.1.2.2.2.2.2.2.2.2.2.2.2.2.2.2.2.2.2.2.2.2.2.2.2.2.2.2.2.2.2.2.1 k0_t16 k0_h20
theorem k0_off547_inb : ∀ (v253 : BitVec 32) (k0_hw96 : k0_chk96 v253) (k0_t16 : Fin (k0_t16_loop v253).trips), ∀ (k0_h20 : k0_cond20 v253 k0_t16 = 1#1), ∀ a, (k0_off547 v253 k0_t16) a + S1x1.size a ≤ S2x8.size a := fun v253 k0_hw96 k0_t16 k0_h20 => k0_hw96.2.2.1.2.2.2.2.2.2.2.2.2.2.2.2.2.2.2.2.2.2.2.2.2.2.2.2.2.2.2.2.2.2.2 k0_t16 k0_h20
theorem k0_off548_inb : ∀ (v253 : BitVec 32) (k0_hw96 : k0_chk96 v253) (k0_t16 : Fin (k0_t16_loop v253).trips), ∀ (k0_h20 : k0_cond20 v253 k0_t16 = 1#1), ∀ a, (k0_off548 v253 k0_t16) a + S1x1x16x8x128.size a ≤ S2x8x16x8x128.size a := fun v253 k0_hw96 k0_t16 k0_h20 => k0_hw96.2.2.2.1 k0_t16 k0_h20
theorem k0_off550_inb : ∀ (v253 : BitVec 32) (k0_hw96 : k0_chk96 v253) (k0_t16 : Fin (k0_t16_loop v253).trips), ∀ (k0_h20 : k0_cond20 v253 k0_t16 = 1#1), ∀ a, (k0_off550 v253 k0_t16) a + S1x1.size a ≤ S2x8.size a := fun v253 k0_hw96 k0_t16 k0_h20 => k0_hw96.2.2.2.2.1 k0_t16 k0_h20
theorem k0_off551_inb : ∀ (v253 : BitVec 32) (k0_hw96 : k0_chk96 v253) (k0_t16 : Fin (k0_t16_loop v253).trips), ∀ (k0_h20 : k0_cond20 v253 k0_t16 = 1#1), ∀ a, (k0_off551 v253 k0_t16) a + S1x1x16x8x128.size a ≤ S2x8x16x8x128.size a := fun v253 k0_hw96 k0_t16 k0_h20 => k0_hw96.2.2.2.2.2.1 k0_t16 k0_h20
theorem k0_off552_inb : ∀ (v253 : BitVec 32) (k0_hw96 : k0_chk96 v253) (k0_t16 : Fin (k0_t16_loop v253).trips), ∀ a, (k0_off552 v253 k0_t16) a + S1x1.size a ≤ S2x8.size a := fun v253 k0_hw96 k0_t16 => k0_hw96.2.2.2.2.2.2.1 k0_t16
theorem k0_off553_inb : ∀ (v253 : BitVec 32) (k0_hw96 : k0_chk96 v253) (k0_t16 : Fin (k0_t16_loop v253).trips), ∀ a, (k0_off553 v253 k0_t16) a + S1x1x16x8x128.size a ≤ S2x8x16x8x128.size a := fun v253 k0_hw96 k0_t16 => k0_hw96.2.2.2.2.2.2.2.1 k0_t16
theorem k0_off554_inb : ∀ (v253 : BitVec 32) (k0_hw96 : k0_chk96 v253) (k0_t16 : Fin (k0_t16_loop v253).trips), ∀ a, (k0_off554 v253 k0_t16) a + S1x1.size a ≤ S2x8.size a := fun v253 k0_hw96 k0_t16 => k0_hw96.2.2.2.2.2.2.2.2.1 k0_t16
theorem k0_off555_inb : ∀ (v253 : BitVec 32) (k0_hw96 : k0_chk96 v253) (k0_t16 : Fin (k0_t16_loop v253).trips), ∀ a, (k0_off555 v253 k0_t16) a + S1x1x16x8x128.size a ≤ S2x8x16x8x128.size a := fun v253 k0_hw96 k0_t16 => k0_hw96.2.2.2.2.2.2.2.2.2.1 k0_t16
theorem k0_off556_inb : ∀ (v253 : BitVec 32) (k0_hw96 : k0_chk96 v253) (k0_t16 : Fin (k0_t16_loop v253).trips), ∀ a, (k0_off556 v253 k0_t16) a + S1x1.size a ≤ S2x8.size a := fun v253 k0_hw96 k0_t16 => k0_hw96.2.2.2.2.2.2.2.2.2.2.1 k0_t16
theorem k0_off557_inb : ∀ (v253 : BitVec 32) (k0_hw96 : k0_chk96 v253) (k0_t16 : Fin (k0_t16_loop v253).trips), ∀ a, (k0_off557 v253 k0_t16) a + S1x1x16x8x128.size a ≤ S2x8x16x8x128.size a := fun v253 k0_hw96 k0_t16 => k0_hw96.2.2.2.2.2.2.2.2.2.2.2.1 k0_t16
theorem k0_off558_inb : ∀ (v253 : BitVec 32) (k0_hw96 : k0_chk96 v253) (k0_t16 : Fin (k0_t16_loop v253).trips), ∀ a, (k0_off558 v253 k0_t16) a + S1x1.size a ≤ S2x8.size a := fun v253 k0_hw96 k0_t16 => k0_hw96.2.2.2.2.2.2.2.2.2.2.2.2.1 k0_t16
theorem k0_off559_inb : ∀ (v253 : BitVec 32) (k0_hw96 : k0_chk96 v253) (k0_t16 : Fin (k0_t16_loop v253).trips), ∀ a, (k0_off559 v253 k0_t16) a + S1x1x16x8x128.size a ≤ S2x8x16x8x128.size a := fun v253 k0_hw96 k0_t16 => k0_hw96.2.2.2.2.2.2.2.2.2.2.2.2.2.1 k0_t16
theorem k0_off560_inb : ∀ (v253 : BitVec 32) (k0_hw96 : k0_chk96 v253) (k0_t16 : Fin (k0_t16_loop v253).trips), ∀ a, (k0_off560 v253 k0_t16) a + S1x1.size a ≤ S2x8.size a := fun v253 k0_hw96 k0_t16 => k0_hw96.2.2.2.2.2.2.2.2.2.2.2.2.2.2.1 k0_t16
theorem k0_off561_inb : ∀ (v253 : BitVec 32) (k0_hw96 : k0_chk96 v253) (k0_t16 : Fin (k0_t16_loop v253).trips), ∀ a, (k0_off561 v253 k0_t16) a + S1x1x16x8x128.size a ≤ S2x8x16x8x128.size a := fun v253 k0_hw96 k0_t16 => k0_hw96.2.2.2.2.2.2.2.2.2.2.2.2.2.2.2.1 k0_t16
theorem k0_off562_inb : ∀ (v253 : BitVec 32) (k0_hw96 : k0_chk96 v253) (k0_t16 : Fin (k0_t16_loop v253).trips), ∀ a, (k0_off562 v253 k0_t16) a + S1x1.size a ≤ S2x8.size a := fun v253 k0_hw96 k0_t16 => k0_hw96.2.2.2.2.2.2.2.2.2.2.2.2.2.2.2.2.1 k0_t16
theorem k0_off563_inb : ∀ (v253 : BitVec 32) (k0_hw96 : k0_chk96 v253) (k0_t16 : Fin (k0_t16_loop v253).trips), ∀ a, (k0_off563 v253 k0_t16) a + S1x1x16x8x128.size a ≤ S2x8x16x8x128.size a := fun v253 k0_hw96 k0_t16 => k0_hw96.2.2.2.2.2.2.2.2.2.2.2.2.2.2.2.2.2.1 k0_t16
theorem k0_off564_inb : ∀ (v253 : BitVec 32) (k0_hw96 : k0_chk96 v253) (k0_t16 : Fin (k0_t16_loop v253).trips), ∀ a, (k0_off564 v253 k0_t16) a + S1x1.size a ≤ S2x8.size a := fun v253 k0_hw96 k0_t16 => k0_hw96.2.2.2.2.2.2.2.2.2.2.2.2.2.2.2.2.2.2.1 k0_t16
theorem k0_off565_inb : ∀ (v253 : BitVec 32) (k0_hw96 : k0_chk96 v253) (k0_t16 : Fin (k0_t16_loop v253).trips), ∀ a, (k0_off565 v253 k0_t16) a + S1x1x16x8x128.size a ≤ S2x8x16x8x128.size a := fun v253 k0_hw96 k0_t16 => k0_hw96.2.2.2.2.2.2.2.2.2.2.2.2.2.2.2.2.2.2.2.1 k0_t16
theorem k0_off566_inb : ∀ (v253 : BitVec 32) (k0_hw96 : k0_chk96 v253) (k0_t16 : Fin (k0_t16_loop v253).trips), ∀ a, (k0_off566 v253 k0_t16) a + S1x1.size a ≤ S2x8.size a := fun v253 k0_hw96 k0_t16 => k0_hw96.2.2.2.2.2.2.2.2.2.2.2.2.2.2.2.2.2.2.2.2.1 k0_t16
theorem k0_off567_inb : ∀ (v253 : BitVec 32) (k0_hw96 : k0_chk96 v253) (k0_t16 : Fin (k0_t16_loop v253).trips), ∀ a, (k0_off567 v253 k0_t16) a + S1x1x16x8x128.size a ≤ S2x8x16x8x128.size a := fun v253 k0_hw96 k0_t16 => k0_hw96.2.2.2.2.2.2.2.2.2.2.2.2.2.2.2.2.2.2.2.2.2.1 k0_t16
theorem k0_off568_inb : ∀ (v253 : BitVec 32) (k0_hw96 : k0_chk96 v253) (k0_t16 : Fin (k0_t16_loop v253).trips), ∀ a, (k0_off568 v253 k0_t16) a + S1x8x16x8x128.size a ≤ S2x8x16x8x128.size a := fun v253 k0_hw96 k0_t16 => k0_hw96.2.2.2.2.2.2.2.2.2.2.2.2.2.2.2.2.2.2.2.2.2.2 k0_t16

@[reducible] def k0_t17_loop (d0 : Dev nD) (v299 : BitVec 32) : Scf.Loop 32 :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v300 : BitVec 32 := Scalar.subi v299 v10
  let c3_i32_176 : BitVec 32 := 3#32
  let v301 : BitVec 32 := Scalar.addi v300 c3_i32_176
  let c0_i32_178 : BitVec 32 := 0#32
  let v303 : BitVec 1 := Scalar.cmpi .sgt v301 c0_i32_178
  let v304 : BitVec 32 := Scalar.extui v303
  let c0_i32_179 : BitVec 32 := 0#32
  let v305 : BitVec 1 := Scalar.cmpi .slt v301 c0_i32_179
  let v306 : BitVec 32 := Scalar.extui v305
  let v307 : BitVec 32 := Scalar.subi v304 v306
  let c4_i32_177 : BitVec 32 := 4#32
  let c0_i32_180 : BitVec 32 := 0#32
  let v308 : BitVec 1 := Scalar.cmpi .sgt c4_i32_177 c0_i32_180
  let v309 : BitVec 32 := Scalar.extui v308
  let c0_i32_181 : BitVec 32 := 0#32
  let v310 : BitVec 1 := Scalar.cmpi .slt c4_i32_177 c0_i32_181
  let v311 : BitVec 32 := Scalar.extui v310
  let v312 : BitVec 32 := Scalar.subi v309 v311
  let v313 : BitVec 1 := Scalar.cmpi .ne v307 v312
  let v314 : BitVec 32 := Scalar.remsi v301 c4_i32_177
  let c0_i32_182 : BitVec 32 := 0#32
  let v315 : BitVec 1 := Scalar.cmpi .ne v314 c0_i32_182
  let v316 : BitVec 1 := Scalar.andi v313 v315
  let v302 : BitVec 32 := Scalar.divsi v301 c4_i32_177
  let c1_i32_183 : BitVec 32 := 1#32
  let v317 : BitVec 32 := Scalar.subi v302 c1_i32_183
  let v318 : BitVec 32 := Scalar.select v316 v317 v302
  let v319 : BitVec 32 := Scalar.subi v318 c0_i32_184
  let c1_i32_186 : BitVec 32 := 1#32
  let v321 : BitVec 32 := Scalar.divsi v319 c1_i32_186
  let v322 : BitVec 32 := Scalar.muli v321 c1_i32_186
  let v323 : BitVec 32 := Scalar.addi c0_i32_184 v322
  let c1_i32_187 : BitVec 32 := 1#32
  ⟨c0_i32_184, v323, c1_i32_187⟩

def k0_off569 (d0 : Dev nD) (v299 : BitVec 32) (k0_t17 : Fin (k0_t17_loop d0 v299).trips) : Fin 2 → Nat :=
  let c4_655 : Index := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_184 : BitVec 32 := 0#32
  let c1_i32_187 : BitVec 32 := 1#32
  let arg17 : BitVec 32 := Scf.iv c0_i32_184 c1_i32_187 k0_t17
  let v866 : BitVec 32 := Scalar.muli c4_i32_654 arg17
  let v867 : BitVec 32 := Scalar.addi v10 v866
  let v868 : Index := Scalar.indexCast v867
  ![4, v868.toNat]
def k0_off570 (arg18 : BitVec 32) : Fin 2 → Nat :=
  let c4_665 : Index := 4#32
  let v893 : Index := Scalar.indexCast arg18
  ![4, v893.toNat]
def k0_cond21 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk114 (d0 : Dev nD) (arg18 : BitVec 32) (v869 : BitVec 32) : Prop :=
  (∀ (k0_h21 : k0_cond21 d0 v869 = 1#1), ∀ a, (k0_off570 arg18) a + S1x1.size a ≤ S8x512.size a)
theorem k0_off570_inb : ∀ (d0 : Dev nD) (arg18 : BitVec 32) (v869 : BitVec 32) (k0_hw114 : k0_chk114 d0 arg18 v869), ∀ (k0_h21 : k0_cond21 d0 v869 = 1#1), ∀ a, (k0_off570 arg18) a + S1x1.size a ≤ S8x512.size a := fun d0 arg18 v869 k0_hw114 k0_h21 => k0_hw114 k0_h21

@[reducible] def k0_t18_loop (d0 : Dev nD) (v299 : BitVec 32) : Scf.Loop 32 :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v300 : BitVec 32 := Scalar.subi v299 v10
  let c3_i32_176 : BitVec 32 := 3#32
  let v301 : BitVec 32 := Scalar.addi v300 c3_i32_176
  let c0_i32_178 : BitVec 32 := 0#32
  let v303 : BitVec 1 := Scalar.cmpi .sgt v301 c0_i32_178
  let v304 : BitVec 32 := Scalar.extui v303
  let c0_i32_179 : BitVec 32 := 0#32
  let v305 : BitVec 1 := Scalar.cmpi .slt v301 c0_i32_179
  let v306 : BitVec 32 := Scalar.extui v305
  let v307 : BitVec 32 := Scalar.subi v304 v306
  let c4_i32_177 : BitVec 32 := 4#32
  let c0_i32_180 : BitVec 32 := 0#32
  let v308 : BitVec 1 := Scalar.cmpi .sgt c4_i32_177 c0_i32_180
  let v309 : BitVec 32 := Scalar.extui v308
  let c0_i32_181 : BitVec 32 := 0#32
  let v310 : BitVec 1 := Scalar.cmpi .slt c4_i32_177 c0_i32_181
  let v311 : BitVec 32 := Scalar.extui v310
  let v312 : BitVec 32 := Scalar.subi v309 v311
  let v313 : BitVec 1 := Scalar.cmpi .ne v307 v312
  let v314 : BitVec 32 := Scalar.remsi v301 c4_i32_177
  let c0_i32_182 : BitVec 32 := 0#32
  let v315 : BitVec 1 := Scalar.cmpi .ne v314 c0_i32_182
  let v316 : BitVec 1 := Scalar.andi v313 v315
  let v302 : BitVec 32 := Scalar.divsi v301 c4_i32_177
  let c1_i32_183 : BitVec 32 := 1#32
  let v317 : BitVec 32 := Scalar.subi v302 c1_i32_183
  let v318 : BitVec 32 := Scalar.select v316 v317 v302
  let v319 : BitVec 32 := Scalar.subi v318 c0_i32_184
  let c1_i32_186 : BitVec 32 := 1#32
  let v321 : BitVec 32 := Scalar.divsi v319 c1_i32_186
  let v322 : BitVec 32 := Scalar.muli v321 c1_i32_186
  let v323 : BitVec 32 := Scalar.addi c0_i32_184 v322
  let v320 : BitVec 32 := Scalar.addi c0_i32_184 v319
  let c1_i32_188 : BitVec 32 := 1#32
  ⟨v323, v320, c1_i32_188⟩
def k0_off571 (d0 : Dev nD) (v299 : BitVec 32) (k0_t18 : Fin (k0_t18_loop d0 v299).trips) : Fin 2 → Nat :=
  let c4_655 : Index := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_184 : BitVec 32 := 0#32
  let v300 : BitVec 32 := Scalar.subi v299 v10
  let c3_i32_176 : BitVec 32 := 3#32
  let v301 : BitVec 32 := Scalar.addi v300 c3_i32_176
  let c0_i32_178 : BitVec 32 := 0#32
  let v303 : BitVec 1 := Scalar.cmpi .sgt v301 c0_i32_178
  let v304 : BitVec 32 := Scalar.extui v303
  let c0_i32_179 : BitVec 32 := 0#32
  let v305 : BitVec 1 := Scalar.cmpi .slt v301 c0_i32_179
  let v306 : BitVec 32 := Scalar.extui v305
  let v307 : BitVec 32 := Scalar.subi v304 v306
  let c4_i32_177 : BitVec 32 := 4#32
  let c0_i32_180 : BitVec 32 := 0#32
  let v308 : BitVec 1 := Scalar.cmpi .sgt c4_i32_177 c0_i32_180
  let v309 : BitVec 32 := Scalar.extui v308
  let c0_i32_181 : BitVec 32 := 0#32
  let v310 : BitVec 1 := Scalar.cmpi .slt c4_i32_177 c0_i32_181
  let v311 : BitVec 32 := Scalar.extui v310
  let v312 : BitVec 32 := Scalar.subi v309 v311
  let v313 : BitVec 1 := Scalar.cmpi .ne v307 v312
  let v314 : BitVec 32 := Scalar.remsi v301 c4_i32_177
  let c0_i32_182 : BitVec 32 := 0#32
  let v315 : BitVec 1 := Scalar.cmpi .ne v314 c0_i32_182
  let v316 : BitVec 1 := Scalar.andi v313 v315
  let v302 : BitVec 32 := Scalar.divsi v301 c4_i32_177
  let c1_i32_183 : BitVec 32 := 1#32
  let v317 : BitVec 32 := Scalar.subi v302 c1_i32_183
  let v318 : BitVec 32 := Scalar.select v316 v317 v302
  let v319 : BitVec 32 := Scalar.subi v318 c0_i32_184
  let c1_i32_186 : BitVec 32 := 1#32
  let v321 : BitVec 32 := Scalar.divsi v319 c1_i32_186
  let v322 : BitVec 32 := Scalar.muli v321 c1_i32_186
  let v323 : BitVec 32 := Scalar.addi c0_i32_184 v322
  let c1_i32_188 : BitVec 32 := 1#32
  let arg17 : BitVec 32 := Scf.iv v323 c1_i32_188 k0_t18
  let v866 : BitVec 32 := Scalar.muli c4_i32_654 arg17
  let v867 : BitVec 32 := Scalar.addi v10 v866
  let v868 : Index := Scalar.indexCast v867
  ![4, v868.toNat]

def k0_chk113 (d0 : Dev nD) (v299 : BitVec 32) : Prop :=
  ((k0_t17_loop d0 v299).OK) ∧
  (∀ k0_t17 : Fin (k0_t17_loop d0 v299).trips, ∀ a, (k0_off569 d0 v299 k0_t17) a + S1x1.size a ≤ S8x512.size a) ∧
  ((k0_t18_loop d0 v299).OK) ∧
  (∀ k0_t18 : Fin (k0_t18_loop d0 v299).trips, ∀ a, (k0_off571 d0 v299 k0_t18) a + S1x1.size a ≤ S8x512.size a)
theorem k0_t17_ok : ∀ (d0 : Dev nD) (v299 : BitVec 32) (k0_hw113 : k0_chk113 d0 v299), (k0_t17_loop d0 v299).OK := fun d0 v299 k0_hw113 => k0_hw113.1
theorem k0_off569_inb : ∀ (d0 : Dev nD) (v299 : BitVec 32) (k0_hw113 : k0_chk113 d0 v299) (k0_t17 : Fin (k0_t17_loop d0 v299).trips), ∀ a, (k0_off569 d0 v299 k0_t17) a + S1x1.size a ≤ S8x512.size a := fun d0 v299 k0_hw113 k0_t17 => k0_hw113.2.1 k0_t17
theorem k0_t18_ok : ∀ (d0 : Dev nD) (v299 : BitVec 32) (k0_hw113 : k0_chk113 d0 v299), (k0_t18_loop d0 v299).OK := fun d0 v299 k0_hw113 => k0_hw113.2.2.1
theorem k0_off571_inb : ∀ (d0 : Dev nD) (v299 : BitVec 32) (k0_hw113 : k0_chk113 d0 v299) (k0_t18 : Fin (k0_t18_loop d0 v299).trips), ∀ a, (k0_off571 d0 v299 k0_t18) a + S1x1.size a ≤ S8x512.size a := fun d0 v299 k0_hw113 k0_t18 => k0_hw113.2.2.2 k0_t18

def k0_off572 (arg18 : BitVec 32) : Fin 2 → Nat :=
  let c4_665 : Index := 4#32
  let v893 : Index := Scalar.indexCast arg18
  ![4, v893.toNat]
def k0_cond22 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk115 (d0 : Dev nD) (arg18 : BitVec 32) (v869 : BitVec 32) : Prop :=
  (∀ (k0_h22 : k0_cond22 d0 v869 = 1#1), ∀ a, (k0_off572 arg18) a + S1x1.size a ≤ S8x512.size a)
theorem k0_off572_inb : ∀ (d0 : Dev nD) (arg18 : BitVec 32) (v869 : BitVec 32) (k0_hw115 : k0_chk115 d0 arg18 v869), ∀ (k0_h22 : k0_cond22 d0 v869 = 1#1), ∀ a, (k0_off572 arg18) a + S1x1.size a ≤ S8x512.size a := fun d0 arg18 v869 k0_hw115 k0_h22 => k0_hw115 k0_h22

def k0_off573 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond23 (v325 : BitVec 32) : BitVec 1 :=
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let c0_i32_202 : BitVec 32 := 0#32
  let v347 : BitVec 1 := Scalar.cmpi .sgt v344 c0_i32_202
  let v348 : BitVec 32 := Scalar.extui v347
  let c0_i32_203 : BitVec 32 := 0#32
  let v349 : BitVec 1 := Scalar.cmpi .ne v348 c0_i32_203
  v349

def k0_chk116 (v325 : BitVec 32) (v866 : BitVec 32) : Prop :=
  (∀ (k0_h23 : k0_cond23 v325 = 1#1), ∀ a, (k0_off573 v866) a + S1x16x8x128.size a ≤ S512x16x8x128.size a)
theorem k0_off573_inb : ∀ (v325 : BitVec 32) (v866 : BitVec 32) (k0_hw116 : k0_chk116 v325 v866), ∀ (k0_h23 : k0_cond23 v325 = 1#1), ∀ a, (k0_off573 v866) a + S1x16x8x128.size a ≤ S512x16x8x128.size a := fun v325 v866 k0_hw116 k0_h23 => k0_hw116 k0_h23

def k0_off574 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk117 (v325 : BitVec 32) (v880 : BitVec 32) : Prop :=
  (∀ (k0_h23 : k0_cond23 v325 = 1#1), ∀ a, (k0_off574 v880) a + S1x16x8x128.size a ≤ S512x16x8x128.size a)
theorem k0_off574_inb : ∀ (v325 : BitVec 32) (v880 : BitVec 32) (k0_hw117 : k0_chk117 v325 v880), ∀ (k0_h23 : k0_cond23 v325 = 1#1), ∀ a, (k0_off574 v880) a + S1x16x8x128.size a ≤ S512x16x8x128.size a := fun v325 v880 k0_hw117 k0_h23 => k0_hw117 k0_h23

def k0_off575 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk118 (v325 : BitVec 32) (v894 : BitVec 32) : Prop :=
  (∀ (k0_h23 : k0_cond23 v325 = 1#1), ∀ a, (k0_off575 v894) a + S1x16x8x128.size a ≤ S512x16x8x128.size a)
theorem k0_off575_inb : ∀ (v325 : BitVec 32) (v894 : BitVec 32) (k0_hw118 : k0_chk118 v325 v894), ∀ (k0_h23 : k0_cond23 v325 = 1#1), ∀ a, (k0_off575 v894) a + S1x16x8x128.size a ≤ S512x16x8x128.size a := fun v325 v894 k0_hw118 k0_h23 => k0_hw118 k0_h23

def k0_off576 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk119 (v325 : BitVec 32) (v908 : BitVec 32) : Prop :=
  (∀ (k0_h23 : k0_cond23 v325 = 1#1), ∀ a, (k0_off576 v908) a + S1x16x8x128.size a ≤ S512x16x8x128.size a)
theorem k0_off576_inb : ∀ (v325 : BitVec 32) (v908 : BitVec 32) (k0_hw119 : k0_chk119 v325 v908), ∀ (k0_h23 : k0_cond23 v325 = 1#1), ∀ a, (k0_off576 v908) a + S1x16x8x128.size a ≤ S512x16x8x128.size a := fun v325 v908 k0_hw119 k0_h23 => k0_hw119 k0_h23

def k0_off577 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk120 (v325 : BitVec 32) (v922 : BitVec 32) : Prop :=
  (∀ (k0_h23 : k0_cond23 v325 = 1#1), ∀ a, (k0_off577 v922) a + S1x16x8x128.size a ≤ S512x16x8x128.size a)
theorem k0_off577_inb : ∀ (v325 : BitVec 32) (v922 : BitVec 32) (k0_hw120 : k0_chk120 v325 v922), ∀ (k0_h23 : k0_cond23 v325 = 1#1), ∀ a, (k0_off577 v922) a + S1x16x8x128.size a ≤ S512x16x8x128.size a := fun v325 v922 k0_hw120 k0_h23 => k0_hw120 k0_h23

def k0_off578 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk121 (v325 : BitVec 32) (v936 : BitVec 32) : Prop :=
  (∀ (k0_h23 : k0_cond23 v325 = 1#1), ∀ a, (k0_off578 v936) a + S1x16x8x128.size a ≤ S512x16x8x128.size a)
theorem k0_off578_inb : ∀ (v325 : BitVec 32) (v936 : BitVec 32) (k0_hw121 : k0_chk121 v325 v936), ∀ (k0_h23 : k0_cond23 v325 = 1#1), ∀ a, (k0_off578 v936) a + S1x16x8x128.size a ≤ S512x16x8x128.size a := fun v325 v936 k0_hw121 k0_h23 => k0_hw121 k0_h23

def k0_off579 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk122 (v325 : BitVec 32) (v950 : BitVec 32) : Prop :=
  (∀ (k0_h23 : k0_cond23 v325 = 1#1), ∀ a, (k0_off579 v950) a + S1x16x8x128.size a ≤ S512x16x8x128.size a)
theorem k0_off579_inb : ∀ (v325 : BitVec 32) (v950 : BitVec 32) (k0_hw122 : k0_chk122 v325 v950), ∀ (k0_h23 : k0_cond23 v325 = 1#1), ∀ a, (k0_off579 v950) a + S1x16x8x128.size a ≤ S512x16x8x128.size a := fun v325 v950 k0_hw122 k0_h23 => k0_hw122 k0_h23

def k0_off580 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk123 (v325 : BitVec 32) (v964 : BitVec 32) : Prop :=
  (∀ (k0_h23 : k0_cond23 v325 = 1#1), ∀ a, (k0_off580 v964) a + S1x16x8x128.size a ≤ S512x16x8x128.size a)
theorem k0_off580_inb : ∀ (v325 : BitVec 32) (v964 : BitVec 32) (k0_hw123 : k0_chk123 v325 v964), ∀ (k0_h23 : k0_cond23 v325 = 1#1), ∀ a, (k0_off580 v964) a + S1x16x8x128.size a ≤ S512x16x8x128.size a := fun v325 v964 k0_hw123 k0_h23 => k0_hw123 k0_h23

@[reducible] def k0_t19_loop (v325 : BitVec 32) : Scf.Loop 32 :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_209 : BitVec 32 := 1#32
  ⟨c0_i32_207, v357, c1_i32_209⟩

def k0_off581 (v325 : BitVec 32) (k0_t19 : Fin (k0_t19_loop v325).trips) : Fin 2 → Nat :=
  let c4_824 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![4, v1033.toNat]
def k0_cond24 (v325 : BitVec 32) (k0_t19 : Fin (k0_t19_loop v325).trips) : BitVec 1 :=
  let c0_i32_207 : BitVec 32 := 0#32
  let c1_i32_209 : BitVec 32 := 1#32
  let arg17 : BitVec 32 := Scf.iv c0_i32_207 c1_i32_209 k0_t19
  let c1_i32_655 : BitVec 32 := 1#32
  let v867 : BitVec 32 := Scalar.addi arg17 c1_i32_655
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v868 : BitVec 1 := Scalar.cmpi .slt v867 v344
  let v869 : BitVec 32 := Scalar.extui v868
  let c0_i32_656 : BitVec 32 := 0#32
  let v870 : BitVec 1 := Scalar.cmpi .ne v869 c0_i32_656
  v870

def k0_off582 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off583 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off584 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk125 (v325 : BitVec 32) (k0_t19 : Fin (k0_t19_loop v325).trips) (v1034 : BitVec 32) : Prop :=
  (∀ (k0_h24 : k0_cond24 v325 k0_t19 = 1#1), ∀ a, (k0_off584 v1034) a + S1x16x8x128.size a ≤ S512x16x8x128.size a)
theorem k0_off584_inb : ∀ (v325 : BitVec 32) (k0_t19 : Fin (k0_t19_loop v325).trips) (v1034 : BitVec 32) (k0_hw125 : k0_chk125 v325 k0_t19 v1034), ∀ (k0_h24 : k0_cond24 v325 k0_t19 = 1#1), ∀ a, (k0_off584 v1034) a + S1x16x8x128.size a ≤ S512x16x8x128.size a := fun v325 k0_t19 v1034 k0_hw125 k0_h24 => k0_hw125 k0_h24

def k0_off585 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off586 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off587 (v325 : BitVec 32) (k0_t19 : Fin (k0_t19_loop v325).trips) : Fin 2 → Nat :=
  let c4_843 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![4, v1050.toNat]
def k0_off588 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off589 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off590 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk126 (v325 : BitVec 32) (k0_t19 : Fin (k0_t19_loop v325).trips) (v1051 : BitVec 32) : Prop :=
  (∀ (k0_h24 : k0_cond24 v325 k0_t19 = 1#1), ∀ a, (k0_off590 v1051) a + S1x16x8x128.size a ≤ S512x16x8x128.size a)
theorem k0_off590_inb : ∀ (v325 : BitVec 32) (k0_t19 : Fin (k0_t19_loop v325).trips) (v1051 : BitVec 32) (k0_hw126 : k0_chk126 v325 k0_t19 v1051), ∀ (k0_h24 : k0_cond24 v325 k0_t19 = 1#1), ∀ a, (k0_off590 v1051) a + S1x16x8x128.size a ≤ S512x16x8x128.size a := fun v325 k0_t19 v1051 k0_hw126 k0_h24 => k0_hw126 k0_h24

def k0_off591 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off592 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off593 (v325 : BitVec 32) (k0_t19 : Fin (k0_t19_loop v325).trips) : Fin 2 → Nat :=
  let c4_863 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![4, v1067.toNat]
def k0_off594 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off595 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off596 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk127 (v325 : BitVec 32) (k0_t19 : Fin (k0_t19_loop v325).trips) (v1068 : BitVec 32) : Prop :=
  (∀ (k0_h24 : k0_cond24 v325 k0_t19 = 1#1), ∀ a, (k0_off596 v1068) a + S1x16x8x128.size a ≤ S512x16x8x128.size a)
theorem k0_off596_inb : ∀ (v325 : BitVec 32) (k0_t19 : Fin (k0_t19_loop v325).trips) (v1068 : BitVec 32) (k0_hw127 : k0_chk127 v325 k0_t19 v1068), ∀ (k0_h24 : k0_cond24 v325 k0_t19 = 1#1), ∀ a, (k0_off596 v1068) a + S1x16x8x128.size a ≤ S512x16x8x128.size a := fun v325 k0_t19 v1068 k0_hw127 k0_h24 => k0_hw127 k0_h24

def k0_off597 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off598 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off599 (v325 : BitVec 32) (k0_t19 : Fin (k0_t19_loop v325).trips) : Fin 2 → Nat :=
  let c4_883 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![4, v1084.toNat]
def k0_off600 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off601 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off602 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk128 (v325 : BitVec 32) (k0_t19 : Fin (k0_t19_loop v325).trips) (v1085 : BitVec 32) : Prop :=
  (∀ (k0_h24 : k0_cond24 v325 k0_t19 = 1#1), ∀ a, (k0_off602 v1085) a + S1x16x8x128.size a ≤ S512x16x8x128.size a)
theorem k0_off602_inb : ∀ (v325 : BitVec 32) (k0_t19 : Fin (k0_t19_loop v325).trips) (v1085 : BitVec 32) (k0_hw128 : k0_chk128 v325 k0_t19 v1085), ∀ (k0_h24 : k0_cond24 v325 k0_t19 = 1#1), ∀ a, (k0_off602 v1085) a + S1x16x8x128.size a ≤ S512x16x8x128.size a := fun v325 k0_t19 v1085 k0_hw128 k0_h24 => k0_hw128 k0_h24

def k0_off603 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off604 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off605 (v325 : BitVec 32) (k0_t19 : Fin (k0_t19_loop v325).trips) : Fin 2 → Nat :=
  let c4_903 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![4, v1101.toNat]
def k0_off606 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off607 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off608 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk129 (v325 : BitVec 32) (k0_t19 : Fin (k0_t19_loop v325).trips) (v1102 : BitVec 32) : Prop :=
  (∀ (k0_h24 : k0_cond24 v325 k0_t19 = 1#1), ∀ a, (k0_off608 v1102) a + S1x16x8x128.size a ≤ S512x16x8x128.size a)
theorem k0_off608_inb : ∀ (v325 : BitVec 32) (k0_t19 : Fin (k0_t19_loop v325).trips) (v1102 : BitVec 32) (k0_hw129 : k0_chk129 v325 k0_t19 v1102), ∀ (k0_h24 : k0_cond24 v325 k0_t19 = 1#1), ∀ a, (k0_off608 v1102) a + S1x16x8x128.size a ≤ S512x16x8x128.size a := fun v325 k0_t19 v1102 k0_hw129 k0_h24 => k0_hw129 k0_h24

def k0_off609 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off610 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off611 (v325 : BitVec 32) (k0_t19 : Fin (k0_t19_loop v325).trips) : Fin 2 → Nat :=
  let c4_923 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![4, v1118.toNat]
def k0_off612 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off613 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off614 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk130 (v325 : BitVec 32) (k0_t19 : Fin (k0_t19_loop v325).trips) (v1119 : BitVec 32) : Prop :=
  (∀ (k0_h24 : k0_cond24 v325 k0_t19 = 1#1), ∀ a, (k0_off614 v1119) a + S1x16x8x128.size a ≤ S512x16x8x128.size a)
theorem k0_off614_inb : ∀ (v325 : BitVec 32) (k0_t19 : Fin (k0_t19_loop v325).trips) (v1119 : BitVec 32) (k0_hw130 : k0_chk130 v325 k0_t19 v1119), ∀ (k0_h24 : k0_cond24 v325 k0_t19 = 1#1), ∀ a, (k0_off614 v1119) a + S1x16x8x128.size a ≤ S512x16x8x128.size a := fun v325 k0_t19 v1119 k0_hw130 k0_h24 => k0_hw130 k0_h24

def k0_off615 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off616 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off617 (v325 : BitVec 32) (k0_t19 : Fin (k0_t19_loop v325).trips) : Fin 2 → Nat :=
  let c4_943 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![4, v1135.toNat]
def k0_off618 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off619 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off620 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk131 (v325 : BitVec 32) (k0_t19 : Fin (k0_t19_loop v325).trips) (v1136 : BitVec 32) : Prop :=
  (∀ (k0_h24 : k0_cond24 v325 k0_t19 = 1#1), ∀ a, (k0_off620 v1136) a + S1x16x8x128.size a ≤ S512x16x8x128.size a)
theorem k0_off620_inb : ∀ (v325 : BitVec 32) (k0_t19 : Fin (k0_t19_loop v325).trips) (v1136 : BitVec 32) (k0_hw131 : k0_chk131 v325 k0_t19 v1136), ∀ (k0_h24 : k0_cond24 v325 k0_t19 = 1#1), ∀ a, (k0_off620 v1136) a + S1x16x8x128.size a ≤ S512x16x8x128.size a := fun v325 k0_t19 v1136 k0_hw131 k0_h24 => k0_hw131 k0_h24

def k0_off621 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off622 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off623 (v325 : BitVec 32) (k0_t19 : Fin (k0_t19_loop v325).trips) : Fin 2 → Nat :=
  let c4_963 : Index := 4#32
  let c0_i32_207 : BitVec 32 := 0#32
  let c1_i32_209 : BitVec 32 := 1#32
  let arg17 : BitVec 32 := Scf.iv c0_i32_207 c1_i32_209 k0_t19
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![4, v1152.toNat]
def k0_off624 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off625 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off626 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk132 (v325 : BitVec 32) (k0_t19 : Fin (k0_t19_loop v325).trips) (v1153 : BitVec 32) : Prop :=
  (∀ (k0_h24 : k0_cond24 v325 k0_t19 = 1#1), ∀ a, (k0_off626 v1153) a + S1x16x8x128.size a ≤ S512x16x8x128.size a)
theorem k0_off626_inb : ∀ (v325 : BitVec 32) (k0_t19 : Fin (k0_t19_loop v325).trips) (v1153 : BitVec 32) (k0_hw132 : k0_chk132 v325 k0_t19 v1153), ∀ (k0_h24 : k0_cond24 v325 k0_t19 = 1#1), ∀ a, (k0_off626 v1153) a + S1x16x8x128.size a ≤ S512x16x8x128.size a := fun v325 k0_t19 v1153 k0_hw132 k0_h24 => k0_hw132 k0_h24

def k0_off627 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off628 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off629 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c0_i32_659 : BitVec 32 := 0#32
  ![v866.toNat, 0]
def k0_off630 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off631 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c1_i32_677 : BitVec 32 := 1#32
  ![v866.toNat, 1]
def k0_off632 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off633 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c2_i32_695 : BitVec 32 := 2#32
  ![v866.toNat, 2]
def k0_off634 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off635 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c3_i32_713 : BitVec 32 := 3#32
  ![v866.toNat, 3]
def k0_off636 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off637 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c4_i32_731 : BitVec 32 := 4#32
  ![v866.toNat, 4]
def k0_off638 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off639 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c5_i32_748 : BitVec 32 := 5#32
  ![v866.toNat, 5]
def k0_off640 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off641 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c6_i32_765 : BitVec 32 := 6#32
  ![v866.toNat, 6]
def k0_off642 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off643 (v325 : BitVec 32) (k0_t19 : Fin (k0_t19_loop v325).trips) : Fin 2 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c7_i32_782 : BitVec 32 := 7#32
  ![v866.toNat, 7]
def k0_off644 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off645 (v325 : BitVec 32) (k0_t19 : Fin (k0_t19_loop v325).trips) : Fin 5 → Nat :=
  let c0_i32_207 : BitVec 32 := 0#32
  let c1_i32_209 : BitVec 32 := 1#32
  let arg17 : BitVec 32 := Scf.iv c0_i32_207 c1_i32_209 k0_t19
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t20_loop (v325 : BitVec 32) : Scf.Loop 32 :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let v354 : BitVec 32 := Scalar.addi c0_i32_207 v353
  let c1_i32_210 : BitVec 32 := 1#32
  ⟨v357, v354, c1_i32_210⟩
def k0_off646 (v325 : BitVec 32) (k0_t20 : Fin (k0_t20_loop v325).trips) : Fin 2 → Nat :=
  let c4_824 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![4, v1033.toNat]
def k0_cond25 (v325 : BitVec 32) (k0_t20 : Fin (k0_t20_loop v325).trips) : BitVec 1 :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_655 : BitVec 32 := 1#32
  let v867 : BitVec 32 := Scalar.addi arg17 c1_i32_655
  let v868 : BitVec 1 := Scalar.cmpi .slt v867 v344
  let v869 : BitVec 32 := Scalar.extui v868
  let c0_i32_656 : BitVec 32 := 0#32
  let v870 : BitVec 1 := Scalar.cmpi .ne v869 c0_i32_656
  v870

def k0_off647 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off648 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off649 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk133 (v325 : BitVec 32) (k0_t20 : Fin (k0_t20_loop v325).trips) (v1034 : BitVec 32) : Prop :=
  (∀ (k0_h25 : k0_cond25 v325 k0_t20 = 1#1), ∀ a, (k0_off649 v1034) a + S1x16x8x128.size a ≤ S512x16x8x128.size a)
theorem k0_off649_inb : ∀ (v325 : BitVec 32) (k0_t20 : Fin (k0_t20_loop v325).trips) (v1034 : BitVec 32) (k0_hw133 : k0_chk133 v325 k0_t20 v1034), ∀ (k0_h25 : k0_cond25 v325 k0_t20 = 1#1), ∀ a, (k0_off649 v1034) a + S1x16x8x128.size a ≤ S512x16x8x128.size a := fun v325 k0_t20 v1034 k0_hw133 k0_h25 => k0_hw133 k0_h25

def k0_off650 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off651 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off652 (v325 : BitVec 32) (k0_t20 : Fin (k0_t20_loop v325).trips) : Fin 2 → Nat :=
  let c4_843 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![4, v1050.toNat]
def k0_off653 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off654 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off655 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk134 (v325 : BitVec 32) (k0_t20 : Fin (k0_t20_loop v325).trips) (v1051 : BitVec 32) : Prop :=
  (∀ (k0_h25 : k0_cond25 v325 k0_t20 = 1#1), ∀ a, (k0_off655 v1051) a + S1x16x8x128.size a ≤ S512x16x8x128.size a)
theorem k0_off655_inb : ∀ (v325 : BitVec 32) (k0_t20 : Fin (k0_t20_loop v325).trips) (v1051 : BitVec 32) (k0_hw134 : k0_chk134 v325 k0_t20 v1051), ∀ (k0_h25 : k0_cond25 v325 k0_t20 = 1#1), ∀ a, (k0_off655 v1051) a + S1x16x8x128.size a ≤ S512x16x8x128.size a := fun v325 k0_t20 v1051 k0_hw134 k0_h25 => k0_hw134 k0_h25

def k0_off656 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off657 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off658 (v325 : BitVec 32) (k0_t20 : Fin (k0_t20_loop v325).trips) : Fin 2 → Nat :=
  let c4_863 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![4, v1067.toNat]
def k0_off659 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off660 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off661 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk135 (v325 : BitVec 32) (k0_t20 : Fin (k0_t20_loop v325).trips) (v1068 : BitVec 32) : Prop :=
  (∀ (k0_h25 : k0_cond25 v325 k0_t20 = 1#1), ∀ a, (k0_off661 v1068) a + S1x16x8x128.size a ≤ S512x16x8x128.size a)
theorem k0_off661_inb : ∀ (v325 : BitVec 32) (k0_t20 : Fin (k0_t20_loop v325).trips) (v1068 : BitVec 32) (k0_hw135 : k0_chk135 v325 k0_t20 v1068), ∀ (k0_h25 : k0_cond25 v325 k0_t20 = 1#1), ∀ a, (k0_off661 v1068) a + S1x16x8x128.size a ≤ S512x16x8x128.size a := fun v325 k0_t20 v1068 k0_hw135 k0_h25 => k0_hw135 k0_h25

def k0_off662 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off663 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off664 (v325 : BitVec 32) (k0_t20 : Fin (k0_t20_loop v325).trips) : Fin 2 → Nat :=
  let c4_883 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![4, v1084.toNat]
def k0_off665 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off666 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off667 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk136 (v325 : BitVec 32) (k0_t20 : Fin (k0_t20_loop v325).trips) (v1085 : BitVec 32) : Prop :=
  (∀ (k0_h25 : k0_cond25 v325 k0_t20 = 1#1), ∀ a, (k0_off667 v1085) a + S1x16x8x128.size a ≤ S512x16x8x128.size a)
theorem k0_off667_inb : ∀ (v325 : BitVec 32) (k0_t20 : Fin (k0_t20_loop v325).trips) (v1085 : BitVec 32) (k0_hw136 : k0_chk136 v325 k0_t20 v1085), ∀ (k0_h25 : k0_cond25 v325 k0_t20 = 1#1), ∀ a, (k0_off667 v1085) a + S1x16x8x128.size a ≤ S512x16x8x128.size a := fun v325 k0_t20 v1085 k0_hw136 k0_h25 => k0_hw136 k0_h25

def k0_off668 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off669 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off670 (v325 : BitVec 32) (k0_t20 : Fin (k0_t20_loop v325).trips) : Fin 2 → Nat :=
  let c4_903 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![4, v1101.toNat]
def k0_off671 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off672 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off673 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk137 (v325 : BitVec 32) (k0_t20 : Fin (k0_t20_loop v325).trips) (v1102 : BitVec 32) : Prop :=
  (∀ (k0_h25 : k0_cond25 v325 k0_t20 = 1#1), ∀ a, (k0_off673 v1102) a + S1x16x8x128.size a ≤ S512x16x8x128.size a)
theorem k0_off673_inb : ∀ (v325 : BitVec 32) (k0_t20 : Fin (k0_t20_loop v325).trips) (v1102 : BitVec 32) (k0_hw137 : k0_chk137 v325 k0_t20 v1102), ∀ (k0_h25 : k0_cond25 v325 k0_t20 = 1#1), ∀ a, (k0_off673 v1102) a + S1x16x8x128.size a ≤ S512x16x8x128.size a := fun v325 k0_t20 v1102 k0_hw137 k0_h25 => k0_hw137 k0_h25

def k0_off674 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off675 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off676 (v325 : BitVec 32) (k0_t20 : Fin (k0_t20_loop v325).trips) : Fin 2 → Nat :=
  let c4_923 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![4, v1118.toNat]
def k0_off677 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off678 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off679 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk138 (v325 : BitVec 32) (k0_t20 : Fin (k0_t20_loop v325).trips) (v1119 : BitVec 32) : Prop :=
  (∀ (k0_h25 : k0_cond25 v325 k0_t20 = 1#1), ∀ a, (k0_off679 v1119) a + S1x16x8x128.size a ≤ S512x16x8x128.size a)
theorem k0_off679_inb : ∀ (v325 : BitVec 32) (k0_t20 : Fin (k0_t20_loop v325).trips) (v1119 : BitVec 32) (k0_hw138 : k0_chk138 v325 k0_t20 v1119), ∀ (k0_h25 : k0_cond25 v325 k0_t20 = 1#1), ∀ a, (k0_off679 v1119) a + S1x16x8x128.size a ≤ S512x16x8x128.size a := fun v325 k0_t20 v1119 k0_hw138 k0_h25 => k0_hw138 k0_h25

def k0_off680 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off681 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off682 (v325 : BitVec 32) (k0_t20 : Fin (k0_t20_loop v325).trips) : Fin 2 → Nat :=
  let c4_943 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![4, v1135.toNat]
def k0_off683 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off684 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off685 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk139 (v325 : BitVec 32) (k0_t20 : Fin (k0_t20_loop v325).trips) (v1136 : BitVec 32) : Prop :=
  (∀ (k0_h25 : k0_cond25 v325 k0_t20 = 1#1), ∀ a, (k0_off685 v1136) a + S1x16x8x128.size a ≤ S512x16x8x128.size a)
theorem k0_off685_inb : ∀ (v325 : BitVec 32) (k0_t20 : Fin (k0_t20_loop v325).trips) (v1136 : BitVec 32) (k0_hw139 : k0_chk139 v325 k0_t20 v1136), ∀ (k0_h25 : k0_cond25 v325 k0_t20 = 1#1), ∀ a, (k0_off685 v1136) a + S1x16x8x128.size a ≤ S512x16x8x128.size a := fun v325 k0_t20 v1136 k0_hw139 k0_h25 => k0_hw139 k0_h25

def k0_off686 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off687 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off688 (v325 : BitVec 32) (k0_t20 : Fin (k0_t20_loop v325).trips) : Fin 2 → Nat :=
  let c4_963 : Index := 4#32
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![4, v1152.toNat]
def k0_off689 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off690 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off691 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk140 (v325 : BitVec 32) (k0_t20 : Fin (k0_t20_loop v325).trips) (v1153 : BitVec 32) : Prop :=
  (∀ (k0_h25 : k0_cond25 v325 k0_t20 = 1#1), ∀ a, (k0_off691 v1153) a + S1x16x8x128.size a ≤ S512x16x8x128.size a)
theorem k0_off691_inb : ∀ (v325 : BitVec 32) (k0_t20 : Fin (k0_t20_loop v325).trips) (v1153 : BitVec 32) (k0_hw140 : k0_chk140 v325 k0_t20 v1153), ∀ (k0_h25 : k0_cond25 v325 k0_t20 = 1#1), ∀ a, (k0_off691 v1153) a + S1x16x8x128.size a ≤ S512x16x8x128.size a := fun v325 k0_t20 v1153 k0_hw140 k0_h25 => k0_hw140 k0_h25

def k0_off692 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off693 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off694 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c0_i32_659 : BitVec 32 := 0#32
  ![v866.toNat, 0]
def k0_off695 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off696 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c1_i32_677 : BitVec 32 := 1#32
  ![v866.toNat, 1]
def k0_off697 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off698 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c2_i32_695 : BitVec 32 := 2#32
  ![v866.toNat, 2]
def k0_off699 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off700 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c3_i32_713 : BitVec 32 := 3#32
  ![v866.toNat, 3]
def k0_off701 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off702 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c4_i32_731 : BitVec 32 := 4#32
  ![v866.toNat, 4]
def k0_off703 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off704 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c5_i32_748 : BitVec 32 := 5#32
  ![v866.toNat, 5]
def k0_off705 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off706 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c6_i32_765 : BitVec 32 := 6#32
  ![v866.toNat, 6]
def k0_off707 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off708 (v325 : BitVec 32) (k0_t20 : Fin (k0_t20_loop v325).trips) : Fin 2 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c7_i32_782 : BitVec 32 := 7#32
  ![v866.toNat, 7]
def k0_off709 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off710 (v325 : BitVec 32) (k0_t20 : Fin (k0_t20_loop v325).trips) : Fin 5 → Nat :=
  let c0_i32_207 : BitVec 32 := 0#32
  let c8_i32_189 : BitVec 32 := 8#32
  let v326 : BitVec 32 := Scalar.addi v325 c8_i32_189
  let c1_i32_190 : BitVec 32 := 1#32
  let v327 : BitVec 32 := Scalar.subi v326 c1_i32_190
  let c0_i32_192 : BitVec 32 := 0#32
  let v329 : BitVec 1 := Scalar.cmpi .sgt v327 c0_i32_192
  let v330 : BitVec 32 := Scalar.extui v329
  let c0_i32_193 : BitVec 32 := 0#32
  let v331 : BitVec 1 := Scalar.cmpi .slt v327 c0_i32_193
  let v332 : BitVec 32 := Scalar.extui v331
  let v333 : BitVec 32 := Scalar.subi v330 v332
  let c8_i32_191 : BitVec 32 := 8#32
  let c0_i32_194 : BitVec 32 := 0#32
  let v334 : BitVec 1 := Scalar.cmpi .sgt c8_i32_191 c0_i32_194
  let v335 : BitVec 32 := Scalar.extui v334
  let c0_i32_195 : BitVec 32 := 0#32
  let v336 : BitVec 1 := Scalar.cmpi .slt c8_i32_191 c0_i32_195
  let v337 : BitVec 32 := Scalar.extui v336
  let v338 : BitVec 32 := Scalar.subi v335 v337
  let v339 : BitVec 1 := Scalar.cmpi .ne v333 v338
  let v340 : BitVec 32 := Scalar.remsi v327 c8_i32_191
  let c0_i32_196 : BitVec 32 := 0#32
  let v341 : BitVec 1 := Scalar.cmpi .ne v340 c0_i32_196
  let v342 : BitVec 1 := Scalar.andi v339 v341
  let v328 : BitVec 32 := Scalar.divsi v327 c8_i32_191
  let c1_i32_197 : BitVec 32 := 1#32
  let v343 : BitVec 32 := Scalar.subi v328 c1_i32_197
  let v344 : BitVec 32 := Scalar.select v342 v343 v328
  let v353 : BitVec 32 := Scalar.subi v344 c0_i32_207
  let c1_i32_208 : BitVec 32 := 1#32
  let v355 : BitVec 32 := Scalar.divsi v353 c1_i32_208
  let v356 : BitVec 32 := Scalar.muli v355 c1_i32_208
  let v357 : BitVec 32 := Scalar.addi c0_i32_207 v356
  let c1_i32_210 : BitVec 32 := 1#32
  let arg17 : BitVec 32 := Scf.iv v357 c1_i32_210 k0_t20
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk124_0 (v325 : BitVec 32) : Prop :=
  ((k0_t19_loop v325).OK) ∧
  (∀ k0_t19 : Fin (k0_t19_loop v325).trips, ∀ (k0_h24 : k0_cond24 v325 k0_t19 = 1#1), ∀ a, (k0_off581 v325 k0_t19) a + S1x1.size a ≤ S8x512.size a) ∧
  (∀ k0_t19 : Fin (k0_t19_loop v325).trips, ∀ (k0_h24 : k0_cond24 v325 k0_t19 = 1#1), ∀ a, (k0_off582 v325 k0_t19) a + S1x1.size a ≤ S2x8.size a) ∧
  (∀ k0_t19 : Fin (k0_t19_loop v325).trips, ∀ (k0_h24 : k0_cond24 v325 k0_t19 = 1#1), ∀ a, (k0_off583 v325 k0_t19) a + S1x1x16x8x128.size a ≤ S2x8x16x8x128.size a) ∧
  (∀ k0_t19 : Fin (k0_t19_loop v325).trips, ∀ (k0_h24 : k0_cond24 v325 k0_t19 = 1#1), ∀ a, (k0_off585 v325 k0_t19) a + S1x1.size a ≤ S2x8.size a) ∧
  (∀ k0_t19 : Fin (k0_t19_loop v325).trips, ∀ (k0_h24 : k0_cond24 v325 k0_t19 = 1#1), ∀ a, (k0_off586 v325 k0_t19) a + S1x1x16x8x128.size a ≤ S2x8x16x8x128.size a) ∧
  (∀ k0_t19 : Fin (k0_t19_loop v325).trips, ∀ (k0_h24 : k0_cond24 v325 k0_t19 = 1#1), ∀ a, (k0_off587 v325 k0_t19) a + S1x1.size a ≤ S8x512.size a) ∧
  (∀ k0_t19 : Fin (k0_t19_loop v325).trips, ∀ (k0_h24 : k0_cond24 v325 k0_t19 = 1#1), ∀ a, (k0_off588 v325 k0_t19) a + S1x1.size a ≤ S2x8.size a) ∧
  (∀ k0_t19 : Fin (k0_t19_loop v325).trips, ∀ (k0_h24 : k0_cond24 v325 k0_t19 = 1#1), ∀ a, (k0_off589 v325 k0_t19) a + S1x1x16x8x128.size a ≤ S2x8x16x8x128.size a) ∧
  (∀ k0_t19 : Fin (k0_t19_loop v325).trips, ∀ (k0_h24 : k0_cond24 v325 k0_t19 = 1#1), ∀ a, (k0_off591 v325 k0_t19) a + S1x1.size a ≤ S2x8.size a) ∧
  (∀ k0_t19 : Fin (k0_t19_loop v325).trips, ∀ (k0_h24 : k0_cond24 v325 k0_t19 = 1#1), ∀ a, (k0_off592 v325 k0_t19) a + S1x1x16x8x128.size a ≤ S2x8x16x8x128.size a) ∧
  (∀ k0_t19 : Fin (k0_t19_loop v325).trips, ∀ (k0_h24 : k0_cond24 v325 k0_t19 = 1#1), ∀ a, (k0_off593 v325 k0_t19) a + S1x1.size a ≤ S8x512.size a) ∧
  (∀ k0_t19 : Fin (k0_t19_loop v325).trips, ∀ (k0_h24 : k0_cond24 v325 k0_t19 = 1#1), ∀ a, (k0_off594 v325 k0_t19) a + S1x1.size a ≤ S2x8.size a) ∧
  (∀ k0_t19 : Fin (k0_t19_loop v325).trips, ∀ (k0_h24 : k0_cond24 v325 k0_t19 = 1#1), ∀ a, (k0_off595 v325 k0_t19) a + S1x1x16x8x128.size a ≤ S2x8x16x8x128.size a) ∧
  (∀ k0_t19 : Fin (k0_t19_loop v325).trips, ∀ (k0_h24 : k0_cond24 v325 k0_t19 = 1#1), ∀ a, (k0_off597 v325 k0_t19) a + S1x1.size a ≤ S2x8.size a) ∧
  (∀ k0_t19 : Fin (k0_t19_loop v325).trips, ∀ (k0_h24 : k0_cond24 v325 k0_t19 = 1#1), ∀ a, (k0_off598 v325 k0_t19) a + S1x1x16x8x128.size a ≤ S2x8x16x8x128.size a) ∧
  (∀ k0_t19 : Fin (k0_t19_loop v325).trips, ∀ (k0_h24 : k0_cond24 v325 k0_t19 = 1#1), ∀ a, (k0_off599 v325 k0_t19) a + S1x1.size a ≤ S8x512.size a) ∧
  (∀ k0_t19 : Fin (k0_t19_loop v325).trips, ∀ (k0_h24 : k0_cond24 v325 k0_t19 = 1#1), ∀ a, (k0_off600 v325 k0_t19) a + S1x1.size a ≤ S2x8.size a) ∧
  (∀ k0_t19 : Fin (k0_t19_loop v325).trips, ∀ (k0_h24 : k0_cond24 v325 k0_t19 = 1#1), ∀ a, (k0_off601 v325 k0_t19) a + S1x1x16x8x128.size a ≤ S2x8x16x8x128.size a) ∧
  (∀ k0_t19 : Fin (k0_t19_loop v325).trips, ∀ (k0_h24 : k0_cond24 v325 k0_t19 = 1#1), ∀ a, (k0_off603 v325 k0_t19) a + S1x1.size a ≤ S2x8.size a) ∧
  (∀ k0_t19 : Fin (k0_t19_loop v325).trips, ∀ (k0_h24 : k0_cond24 v325 k0_t19 = 1#1), ∀ a, (k0_off604 v325 k0_t19) a + S1x1x16x8x128.size a ≤ S2x8x16x8x128.size a) ∧
  (∀ k0_t19 : Fin (k0_t19_loop v325).trips, ∀ (k0_h24 : k0_cond24 v325 k0_t19 = 1#1), ∀ a, (k0_off605 v325 k0_t19) a + S1x1.size a ≤ S8x512.size a) ∧
  (∀ k0_t19 : Fin (k0_t19_loop v325).trips, ∀ (k0_h24 : k0_cond24 v325 k0_t19 = 1#1), ∀ a, (k0_off606 v325 k0_t19) a + S1x1.size a ≤ S2x8.size a) ∧
  (∀ k0_t19 : Fin (k0_t19_loop v325).trips, ∀ (k0_h24 : k0_cond24 v325 k0_t19 = 1#1), ∀ a, (k0_off607 v325 k0_t19) a + S1x1x16x8x128.size a ≤ S2x8x16x8x128.size a) ∧
  (∀ k0_t19 : Fin (k0_t19_loop v325).trips, ∀ (k0_h24 : k0_cond24 v325 k0_t19 = 1#1), ∀ a, (k0_off609 v325 k0_t19) a + S1x1.size a ≤ S2x8.size a) ∧
  (∀ k0_t19 : Fin (k0_t19_loop v325).trips, ∀ (k0_h24 : k0_cond24 v325 k0_t19 = 1#1), ∀ a, (k0_off610 v325 k0_t19) a + S1x1x16x8x128.size a ≤ S2x8x16x8x128.size a) ∧
  (∀ k0_t19 : Fin (k0_t19_loop v325).trips, ∀ (k0_h24 : k0_cond24 v325 k0_t19 = 1#1), ∀ a, (k0_off611 v325 k0_t19) a + S1x1.size a ≤ S8x512.size a) ∧
  (∀ k0_t19 : Fin (k0_t19_loop v325).trips, ∀ (k0_h24 : k0_cond24 v325 k0_t19 = 1#1), ∀ a, (k0_off612 v325 k0_t19) a + S1x1.size a ≤ S2x8.size a) ∧
  (∀ k0_t19 : Fin (k0_t19_loop v325).trips, ∀ (k0_h24 : k0_cond24 v325 k0_t19 = 1#1), ∀ a, (k0_off613 v325 k0_t19) a + S1x1x16x8x128.size a ≤ S2x8x16x8x128.size a) ∧
  (∀ k0_t19 : Fin (k0_t19_loop v325).trips, ∀ (k0_h24 : k0_cond24 v325 k0_t19 = 1#1), ∀ a, (k0_off615 v325 k0_t19) a + S1x1.size a ≤ S2x8.size a) ∧
  (∀ k0_t19 : Fin (k0_t19_loop v325).trips, ∀ (k0_h24 : k0_cond24 v325 k0_t19 = 1#1), ∀ a, (k0_off616 v325 k0_t19) a + S1x1x16x8x128.size a ≤ S2x8x16x8x128.size a) ∧
  (∀ k0_t19 : Fin (k0_t19_loop v325).trips, ∀ (k0_h24 : k0_cond24 v325 k0_t19 = 1#1), ∀ a, (k0_off617 v325 k0_t19) a + S1x1.size a ≤ S8x512.size a)
def k0_chk124_1 (v325 : BitVec 32) : Prop :=
  (∀ k0_t19 : Fin (k0_t19_loop v325).trips, ∀ (k0_h24 : k0_cond24 v325 k0_t19 = 1#1), ∀ a, (k0_off618 v325 k0_t19) a + S1x1.size a ≤ S2x8.size a) ∧
  (∀ k0_t19 : Fin (k0_t19_loop v325).trips, ∀ (k0_h24 : k0_cond24 v325 k0_t19 = 1#1), ∀ a, (k0_off619 v325 k0_t19) a + S1x1x16x8x128.size a ≤ S2x8x16x8x128.size a) ∧
  (∀ k0_t19 : Fin (k0_t19_loop v325).trips, ∀ (k0_h24 : k0_cond24 v325 k0_t19 = 1#1), ∀ a, (k0_off621 v325 k0_t19) a + S1x1.size a ≤ S2x8.size a) ∧
  (∀ k0_t19 : Fin (k0_t19_loop v325).trips, ∀ (k0_h24 : k0_cond24 v325 k0_t19 = 1#1), ∀ a, (k0_off622 v325 k0_t19) a + S1x1x16x8x128.size a ≤ S2x8x16x8x128.size a) ∧
  (∀ k0_t19 : Fin (k0_t19_loop v325).trips, ∀ (k0_h24 : k0_cond24 v325 k0_t19 = 1#1), ∀ a, (k0_off623 v325 k0_t19) a + S1x1.size a ≤ S8x512.size a) ∧
  (∀ k0_t19 : Fin (k0_t19_loop v325).trips, ∀ (k0_h24 : k0_cond24 v325 k0_t19 = 1#1), ∀ a, (k0_off624 v325 k0_t19) a + S1x1.size a ≤ S2x8.size a) ∧
  (∀ k0_t19 : Fin (k0_t19_loop v325).trips, ∀ (k0_h24 : k0_cond24 v325 k0_t19 = 1#1), ∀ a, (k0_off625 v325 k0_t19) a + S1x1x16x8x128.size a ≤ S2x8x16x8x128.size a) ∧
  (∀ k0_t19 : Fin (k0_t19_loop v325).trips, ∀ (k0_h24 : k0_cond24 v325 k0_t19 = 1#1), ∀ a, (k0_off627 v325 k0_t19) a + S1x1.size a ≤ S2x8.size a) ∧
  (∀ k0_t19 : Fin (k0_t19_loop v325).trips, ∀ (k0_h24 : k0_cond24 v325 k0_t19 = 1#1), ∀ a, (k0_off628 v325 k0_t19) a + S1x1x16x8x128.size a ≤ S2x8x16x8x128.size a) ∧
  (∀ k0_t19 : Fin (k0_t19_loop v325).trips, ∀ a, (k0_off629 v325 k0_t19) a + S1x1.size a ≤ S2x8.size a) ∧
  (∀ k0_t19 : Fin (k0_t19_loop v325).trips, ∀ a, (k0_off630 v325 k0_t19) a + S1x1x16x8x128.size a ≤ S2x8x16x8x128.size a) ∧
  (∀ k0_t19 : Fin (k0_t19_loop v325).trips, ∀ a, (k0_off631 v325 k0_t19) a + S1x1.size a ≤ S2x8.size a) ∧
  (∀ k0_t19 : Fin (k0_t19_loop v325).trips, ∀ a, (k0_off632 v325 k0_t19) a + S1x1x16x8x128.size a ≤ S2x8x16x8x128.size a) ∧
  (∀ k0_t19 : Fin (k0_t19_loop v325).trips, ∀ a, (k0_off633 v325 k0_t19) a + S1x1.size a ≤ S2x8.size a) ∧
  (∀ k0_t19 : Fin (k0_t19_loop v325).trips, ∀ a, (k0_off634 v325 k0_t19) a + S1x1x16x8x128.size a ≤ S2x8x16x8x128.size a) ∧
  (∀ k0_t19 : Fin (k0_t19_loop v325).trips, ∀ a, (k0_off635 v325 k0_t19) a + S1x1.size a ≤ S2x8.size a) ∧
  (∀ k0_t19 : Fin (k0_t19_loop v325).trips, ∀ a, (k0_off636 v325 k0_t19) a + S1x1x16x8x128.size a ≤ S2x8x16x8x128.size a) ∧
  (∀ k0_t19 : Fin (k0_t19_loop v325).trips, ∀ a, (k0_off637 v325 k0_t19) a + S1x1.size a ≤ S2x8.size a) ∧
  (∀ k0_t19 : Fin (k0_t19_loop v325).trips, ∀ a, (k0_off638 v325 k0_t19) a + S1x1x16x8x128.size a ≤ S2x8x16x8x128.size a) ∧
  (∀ k0_t19 : Fin (k0_t19_loop v325).trips, ∀ a, (k0_off639 v325 k0_t19) a + S1x1.size a ≤ S2x8.size a) ∧
  (∀ k0_t19 : Fin (k0_t19_loop v325).trips, ∀ a, (k0_off640 v325 k0_t19) a + S1x1x16x8x128.size a ≤ S2x8x16x8x128.size a) ∧
  (∀ k0_t19 : Fin (k0_t19_loop v325).trips, ∀ a, (k0_off641 v325 k0_t19) a + S1x1.size a ≤ S2x8.size a) ∧
  (∀ k0_t19 : Fin (k0_t19_loop v325).trips, ∀ a, (k0_off642 v325 k0_t19) a + S1x1x16x8x128.size a ≤ S2x8x16x8x128.size a) ∧
  (∀ k0_t19 : Fin (k0_t19_loop v325).trips, ∀ a, (k0_off643 v325 k0_t19) a + S1x1.size a ≤ S2x8.size a) ∧
  (∀ k0_t19 : Fin (k0_t19_loop v325).trips, ∀ a, (k0_off644 v325 k0_t19) a + S1x1x16x8x128.size a ≤ S2x8x16x8x128.size a) ∧
  (∀ k0_t19 : Fin (k0_t19_loop v325).trips, ∀ a, (k0_off645 v325 k0_t19) a + S1x8x16x8x128.size a ≤ S2x8x16x8x128.size a) ∧
  ((k0_t20_loop v325).OK) ∧
  (∀ k0_t20 : Fin (k0_t20_loop v325).trips, ∀ (k0_h25 : k0_cond25 v325 k0_t20 = 1#1), ∀ a, (k0_off646 v325 k0_t20) a + S1x1.size a ≤ S8x512.size a) ∧
  (∀ k0_t20 : Fin (k0_t20_loop v325).trips, ∀ (k0_h25 : k0_cond25 v325 k0_t20 = 1#1), ∀ a, (k0_off647 v325 k0_t20) a + S1x1.size a ≤ S2x8.size a) ∧
  (∀ k0_t20 : Fin (k0_t20_loop v325).trips, ∀ (k0_h25 : k0_cond25 v325 k0_t20 = 1#1), ∀ a, (k0_off648 v325 k0_t20) a + S1x1x16x8x128.size a ≤ S2x8x16x8x128.size a) ∧
  (∀ k0_t20 : Fin (k0_t20_loop v325).trips, ∀ (k0_h25 : k0_cond25 v325 k0_t20 = 1#1), ∀ a, (k0_off650 v325 k0_t20) a + S1x1.size a ≤ S2x8.size a) ∧
  (∀ k0_t20 : Fin (k0_t20_loop v325).trips, ∀ (k0_h25 : k0_cond25 v325 k0_t20 = 1#1), ∀ a, (k0_off651 v325 k0_t20) a + S1x1x16x8x128.size a ≤ S2x8x16x8x128.size a)
def k0_chk124_2 (v325 : BitVec 32) : Prop :=
  (∀ k0_t20 : Fin (k0_t20_loop v325).trips, ∀ (k0_h25 : k0_cond25 v325 k0_t20 = 1#1), ∀ a, (k0_off652 v325 k0_t20) a + S1x1.size a ≤ S8x512.size a) ∧
  (∀ k0_t20 : Fin (k0_t20_loop v325).trips, ∀ (k0_h25 : k0_cond25 v325 k0_t20 = 1#1), ∀ a, (k0_off653 v325 k0_t20) a + S1x1.size a ≤ S2x8.size a) ∧
  (∀ k0_t20 : Fin (k0_t20_loop v325).trips, ∀ (k0_h25 : k0_cond25 v325 k0_t20 = 1#1), ∀ a, (k0_off654 v325 k0_t20) a + S1x1x16x8x128.size a ≤ S2x8x16x8x128.size a) ∧
  (∀ k0_t20 : Fin (k0_t20_loop v325).trips, ∀ (k0_h25 : k0_cond25 v325 k0_t20 = 1#1), ∀ a, (k0_off656 v325 k0_t20) a + S1x1.size a ≤ S2x8.size a) ∧
  (∀ k0_t20 : Fin (k0_t20_loop v325).trips, ∀ (k0_h25 : k0_cond25 v325 k0_t20 = 1#1), ∀ a, (k0_off657 v325 k0_t20) a + S1x1x16x8x128.size a ≤ S2x8x16x8x128.size a) ∧
  (∀ k0_t20 : Fin (k0_t20_loop v325).trips, ∀ (k0_h25 : k0_cond25 v325 k0_t20 = 1#1), ∀ a, (k0_off658 v325 k0_t20) a + S1x1.size a ≤ S8x512.size a) ∧
  (∀ k0_t20 : Fin (k0_t20_loop v325).trips, ∀ (k0_h25 : k0_cond25 v325 k0_t20 = 1#1), ∀ a, (k0_off659 v325 k0_t20) a + S1x1.size a ≤ S2x8.size a) ∧
  (∀ k0_t20 : Fin (k0_t20_loop v325).trips, ∀ (k0_h25 : k0_cond25 v325 k0_t20 = 1#1), ∀ a, (k0_off660 v325 k0_t20) a + S1x1x16x8x128.size a ≤ S2x8x16x8x128.size a) ∧
  (∀ k0_t20 : Fin (k0_t20_loop v325).trips, ∀ (k0_h25 : k0_cond25 v325 k0_t20 = 1#1), ∀ a, (k0_off662 v325 k0_t20) a + S1x1.size a ≤ S2x8.size a) ∧
  (∀ k0_t20 : Fin (k0_t20_loop v325).trips, ∀ (k0_h25 : k0_cond25 v325 k0_t20 = 1#1), ∀ a, (k0_off663 v325 k0_t20) a + S1x1x16x8x128.size a ≤ S2x8x16x8x128.size a) ∧
  (∀ k0_t20 : Fin (k0_t20_loop v325).trips, ∀ (k0_h25 : k0_cond25 v325 k0_t20 = 1#1), ∀ a, (k0_off664 v325 k0_t20) a + S1x1.size a ≤ S8x512.size a) ∧
  (∀ k0_t20 : Fin (k0_t20_loop v325).trips, ∀ (k0_h25 : k0_cond25 v325 k0_t20 = 1#1), ∀ a, (k0_off665 v325 k0_t20) a + S1x1.size a ≤ S2x8.size a) ∧
  (∀ k0_t20 : Fin (k0_t20_loop v325).trips, ∀ (k0_h25 : k0_cond25 v325 k0_t20 = 1#1), ∀ a, (k0_off666 v325 k0_t20) a + S1x1x16x8x128.size a ≤ S2x8x16x8x128.size a) ∧
  (∀ k0_t20 : Fin (k0_t20_loop v325).trips, ∀ (k0_h25 : k0_cond25 v325 k0_t20 = 1#1), ∀ a, (k0_off668 v325 k0_t20) a + S1x1.size a ≤ S2x8.size a) ∧
  (∀ k0_t20 : Fin (k0_t20_loop v325).trips, ∀ (k0_h25 : k0_cond25 v325 k0_t20 = 1#1), ∀ a, (k0_off669 v325 k0_t20) a + S1x1x16x8x128.size a ≤ S2x8x16x8x128.size a) ∧
  (∀ k0_t20 : Fin (k0_t20_loop v325).trips, ∀ (k0_h25 : k0_cond25 v325 k0_t20 = 1#1), ∀ a, (k0_off670 v325 k0_t20) a + S1x1.size a ≤ S8x512.size a) ∧
  (∀ k0_t20 : Fin (k0_t20_loop v325).trips, ∀ (k0_h25 : k0_cond25 v325 k0_t20 = 1#1), ∀ a, (k0_off671 v325 k0_t20) a + S1x1.size a ≤ S2x8.size a) ∧
  (∀ k0_t20 : Fin (k0_t20_loop v325).trips, ∀ (k0_h25 : k0_cond25 v325 k0_t20 = 1#1), ∀ a, (k0_off672 v325 k0_t20) a + S1x1x16x8x128.size a ≤ S2x8x16x8x128.size a) ∧
  (∀ k0_t20 : Fin (k0_t20_loop v325).trips, ∀ (k0_h25 : k0_cond25 v325 k0_t20 = 1#1), ∀ a, (k0_off674 v325 k0_t20) a + S1x1.size a ≤ S2x8.size a) ∧
  (∀ k0_t20 : Fin (k0_t20_loop v325).trips, ∀ (k0_h25 : k0_cond25 v325 k0_t20 = 1#1), ∀ a, (k0_off675 v325 k0_t20) a + S1x1x16x8x128.size a ≤ S2x8x16x8x128.size a) ∧
  (∀ k0_t20 : Fin (k0_t20_loop v325).trips, ∀ (k0_h25 : k0_cond25 v325 k0_t20 = 1#1), ∀ a, (k0_off676 v325 k0_t20) a + S1x1.size a ≤ S8x512.size a) ∧
  (∀ k0_t20 : Fin (k0_t20_loop v325).trips, ∀ (k0_h25 : k0_cond25 v325 k0_t20 = 1#1), ∀ a, (k0_off677 v325 k0_t20) a + S1x1.size a ≤ S2x8.size a) ∧
  (∀ k0_t20 : Fin (k0_t20_loop v325).trips, ∀ (k0_h25 : k0_cond25 v325 k0_t20 = 1#1), ∀ a, (k0_off678 v325 k0_t20) a + S1x1x16x8x128.size a ≤ S2x8x16x8x128.size a) ∧
  (∀ k0_t20 : Fin (k0_t20_loop v325).trips, ∀ (k0_h25 : k0_cond25 v325 k0_t20 = 1#1), ∀ a, (k0_off680 v325 k0_t20) a + S1x1.size a ≤ S2x8.size a) ∧
  (∀ k0_t20 : Fin (k0_t20_loop v325).trips, ∀ (k0_h25 : k0_cond25 v325 k0_t20 = 1#1), ∀ a, (k0_off681 v325 k0_t20) a + S1x1x16x8x128.size a ≤ S2x8x16x8x128.size a) ∧
  (∀ k0_t20 : Fin (k0_t20_loop v325).trips, ∀ (k0_h25 : k0_cond25 v325 k0_t20 = 1#1), ∀ a, (k0_off682 v325 k0_t20) a + S1x1.size a ≤ S8x512.size a) ∧
  (∀ k0_t20 : Fin (k0_t20_loop v325).trips, ∀ (k0_h25 : k0_cond25 v325 k0_t20 = 1#1), ∀ a, (k0_off683 v325 k0_t20) a + S1x1.size a ≤ S2x8.size a) ∧
  (∀ k0_t20 : Fin (k0_t20_loop v325).trips, ∀ (k0_h25 : k0_cond25 v325 k0_t20 = 1#1), ∀ a, (k0_off684 v325 k0_t20) a + S1x1x16x8x128.size a ≤ S2x8x16x8x128.size a) ∧
  (∀ k0_t20 : Fin (k0_t20_loop v325).trips, ∀ (k0_h25 : k0_cond25 v325 k0_t20 = 1#1), ∀ a, (k0_off686 v325 k0_t20) a + S1x1.size a ≤ S2x8.size a) ∧
  (∀ k0_t20 : Fin (k0_t20_loop v325).trips, ∀ (k0_h25 : k0_cond25 v325 k0_t20 = 1#1), ∀ a, (k0_off687 v325 k0_t20) a + S1x1x16x8x128.size a ≤ S2x8x16x8x128.size a) ∧
  (∀ k0_t20 : Fin (k0_t20_loop v325).trips, ∀ (k0_h25 : k0_cond25 v325 k0_t20 = 1#1), ∀ a, (k0_off688 v325 k0_t20) a + S1x1.size a ≤ S8x512.size a) ∧
  (∀ k0_t20 : Fin (k0_t20_loop v325).trips, ∀ (k0_h25 : k0_cond25 v325 k0_t20 = 1#1), ∀ a, (k0_off689 v325 k0_t20) a + S1x1.size a ≤ S2x8.size a)
def k0_chk124_3 (v325 : BitVec 32) : Prop :=
  (∀ k0_t20 : Fin (k0_t20_loop v325).trips, ∀ (k0_h25 : k0_cond25 v325 k0_t20 = 1#1), ∀ a, (k0_off690 v325 k0_t20) a + S1x1x16x8x128.size a ≤ S2x8x16x8x128.size a) ∧
  (∀ k0_t20 : Fin (k0_t20_loop v325).trips, ∀ (k0_h25 : k0_cond25 v325 k0_t20 = 1#1), ∀ a, (k0_off692 v325 k0_t20) a + S1x1.size a ≤ S2x8.size a) ∧
  (∀ k0_t20 : Fin (k0_t20_loop v325).trips, ∀ (k0_h25 : k0_cond25 v325 k0_t20 = 1#1), ∀ a, (k0_off693 v325 k0_t20) a + S1x1x16x8x128.size a ≤ S2x8x16x8x128.size a) ∧
  (∀ k0_t20 : Fin (k0_t20_loop v325).trips, ∀ a, (k0_off694 v325 k0_t20) a + S1x1.size a ≤ S2x8.size a) ∧
  (∀ k0_t20 : Fin (k0_t20_loop v325).trips, ∀ a, (k0_off695 v325 k0_t20) a + S1x1x16x8x128.size a ≤ S2x8x16x8x128.size a) ∧
  (∀ k0_t20 : Fin (k0_t20_loop v325).trips, ∀ a, (k0_off696 v325 k0_t20) a + S1x1.size a ≤ S2x8.size a) ∧
  (∀ k0_t20 : Fin (k0_t20_loop v325).trips, ∀ a, (k0_off697 v325 k0_t20) a + S1x1x16x8x128.size a ≤ S2x8x16x8x128.size a) ∧
  (∀ k0_t20 : Fin (k0_t20_loop v325).trips, ∀ a, (k0_off698 v325 k0_t20) a + S1x1.size a ≤ S2x8.size a) ∧
  (∀ k0_t20 : Fin (k0_t20_loop v325).trips, ∀ a, (k0_off699 v325 k0_t20) a + S1x1x16x8x128.size a ≤ S2x8x16x8x128.size a) ∧
  (∀ k0_t20 : Fin (k0_t20_loop v325).trips, ∀ a, (k0_off700 v325 k0_t20) a + S1x1.size a ≤ S2x8.size a) ∧
  (∀ k0_t20 : Fin (k0_t20_loop v325).trips, ∀ a, (k0_off701 v325 k0_t20) a + S1x1x16x8x128.size a ≤ S2x8x16x8x128.size a) ∧
  (∀ k0_t20 : Fin (k0_t20_loop v325).trips, ∀ a, (k0_off702 v325 k0_t20) a + S1x1.size a ≤ S2x8.size a) ∧
  (∀ k0_t20 : Fin (k0_t20_loop v325).trips, ∀ a, (k0_off703 v325 k0_t20) a + S1x1x16x8x128.size a ≤ S2x8x16x8x128.size a) ∧
  (∀ k0_t20 : Fin (k0_t20_loop v325).trips, ∀ a, (k0_off704 v325 k0_t20) a + S1x1.size a ≤ S2x8.size a) ∧
  (∀ k0_t20 : Fin (k0_t20_loop v325).trips, ∀ a, (k0_off705 v325 k0_t20) a + S1x1x16x8x128.size a ≤ S2x8x16x8x128.size a) ∧
  (∀ k0_t20 : Fin (k0_t20_loop v325).trips, ∀ a, (k0_off706 v325 k0_t20) a + S1x1.size a ≤ S2x8.size a) ∧
  (∀ k0_t20 : Fin (k0_t20_loop v325).trips, ∀ a, (k0_off707 v325 k0_t20) a + S1x1x16x8x128.size a ≤ S2x8x16x8x128.size a) ∧
  (∀ k0_t20 : Fin (k0_t20_loop v325).trips, ∀ a, (k0_off708 v325 k0_t20) a + S1x1.size a ≤ S2x8.size a) ∧
  (∀ k0_t20 : Fin (k0_t20_loop v325).trips, ∀ a, (k0_off709 v325 k0_t20) a + S1x1x16x8x128.size a ≤ S2x8x16x8x128.size a) ∧
  (∀ k0_t20 : Fin (k0_t20_loop v325).trips, ∀ a, (k0_off710 v325 k0_t20) a + S1x8x16x8x128.size a ≤ S2x8x16x8x128.size a)
def k0_chk124 (v325 : BitVec 32) : Prop :=
  k0_chk124_0 v325 ∧
  k0_chk124_1 v325 ∧
  k0_chk124_2 v325 ∧
  k0_chk124_3 v325
theorem k0_t19_ok : ∀ (v325 : BitVec 32) (k0_hw124 : k0_chk124 v325), (k0_t19_loop v325).OK := fun v325 k0_hw124 => k0_hw124.1.1
theorem k0_off581_inb : ∀ (v325 : BitVec 32) (k0_hw124 : k0_chk124 v325) (k0_t19 : Fin (k0_t19_loop v325).trips), ∀ (k0_h24 : k0_cond24 v325 k0_t19 = 1#1), ∀ a, (k0_off581 v325 k0_t19) a + S1x1.size a ≤ S8x512.size a := fun v325 k0_hw124 k0_t19 k0_h24 => k0_hw124.1.2.1 k0_t19 k0_h24
theorem k0_off582_inb : ∀ (v325 : BitVec 32) (k0_hw124 : k0_chk124 v325) (k0_t19 : Fin (k0_t19_loop v325).trips), ∀ (k0_h24 : k0_cond24 v325 k0_t19 = 1#1), ∀ a, (k0_off582 v325 k0_t19) a + S1x1.size a ≤ S2x8.size a := fun v325 k0_hw124 k0_t19 k0_h24 => k0_hw124.1.2.2.1 k0_t19 k0_h24
theorem k0_off583_inb : ∀ (v325 : BitVec 32) (k0_hw124 : k0_chk124 v325) (k0_t19 : Fin (k0_t19_loop v325).trips), ∀ (k0_h24 : k0_cond24 v325 k0_t19 = 1#1), ∀ a, (k0_off583 v325 k0_t19) a + S1x1x16x8x128.size a ≤ S2x8x16x8x128.size a := fun v325 k0_hw124 k0_t19 k0_h24 => k0_hw124.1.2.2.2.1 k0_t19 k0_h24
theorem k0_off585_inb : ∀ (v325 : BitVec 32) (k0_hw124 : k0_chk124 v325) (k0_t19 : Fin (k0_t19_loop v325).trips), ∀ (k0_h24 : k0_cond24 v325 k0_t19 = 1#1), ∀ a, (k0_off585 v325 k0_t19) a + S1x1.size a ≤ S2x8.size a := fun v325 k0_hw124 k0_t19 k0_h24 => k0_hw124.1.2.2.2.2.1 k0_t19 k0_h24
theorem k0_off586_inb : ∀ (v325 : BitVec 32) (k0_hw124 : k0_chk124 v325) (k0_t19 : Fin (k0_t19_loop v325).trips), ∀ (k0_h24 : k0_cond24 v325 k0_t19 = 1#1), ∀ a, (k0_off586 v325 k0_t19) a + S1x1x16x8x128.size a ≤ S2x8x16x8x128.size a := fun v325 k0_hw124 k0_t19 k0_h24 => k0_hw124.1.2.2.2.2.2.1 k0_t19 k0_h24
theorem k0_off587_inb : ∀ (v325 : BitVec 32) (k0_hw124 : k0_chk124 v325) (k0_t19 : Fin (k0_t19_loop v325).trips), ∀ (k0_h24 : k0_cond24 v325 k0_t19 = 1#1), ∀ a, (k0_off587 v325 k0_t19) a + S1x1.size a ≤ S8x512.size a := fun v325 k0_hw124 k0_t19 k0_h24 => k0_hw124.1.2.2.2.2.2.2.1 k0_t19 k0_h24
theorem k0_off588_inb : ∀ (v325 : BitVec 32) (k0_hw124 : k0_chk124 v325) (k0_t19 : Fin (k0_t19_loop v325).trips), ∀ (k0_h24 : k0_cond24 v325 k0_t19 = 1#1), ∀ a, (k0_off588 v325 k0_t19) a + S1x1.size a ≤ S2x8.size a := fun v325 k0_hw124 k0_t19 k0_h24 => k0_hw124.1.2.2.2.2.2.2.2.1 k0_t19 k0_h24
theorem k0_off589_inb : ∀ (v325 : BitVec 32) (k0_hw124 : k0_chk124 v325) (k0_t19 : Fin (k0_t19_loop v325).trips), ∀ (k0_h24 : k0_cond24 v325 k0_t19 = 1#1), ∀ a, (k0_off589 v325 k0_t19) a + S1x1x16x8x128.size a ≤ S2x8x16x8x128.size a := fun v325 k0_hw124 k0_t19 k0_h24 => k0_hw124.1.2.2.2.2.2.2.2.2.1 k0_t19 k0_h24
theorem k0_off591_inb : ∀ (v325 : BitVec 32) (k0_hw124 : k0_chk124 v325) (k0_t19 : Fin (k0_t19_loop v325).trips), ∀ (k0_h24 : k0_cond24 v325 k0_t19 = 1#1), ∀ a, (k0_off591 v325 k0_t19) a + S1x1.size a ≤ S2x8.size a := fun v325 k0_hw124 k0_t19 k0_h24 => k0_hw124.1.2.2.2.2.2.2.2.2.2.1 k0_t19 k0_h24
theorem k0_off592_inb : ∀ (v325 : BitVec 32) (k0_hw124 : k0_chk124 v325) (k0_t19 : Fin (k0_t19_loop v325).trips), ∀ (k0_h24 : k0_cond24 v325 k0_t19 = 1#1), ∀ a, (k0_off592 v325 k0_t19) a + S1x1x16x8x128.size a ≤ S2x8x16x8x128.size a := fun v325 k0_hw124 k0_t19 k0_h24 => k0_hw124.1.2.2.2.2.2.2.2.2.2.2.1 k0_t19 k0_h24
theorem k0_off593_inb : ∀ (v325 : BitVec 32) (k0_hw124 : k0_chk124 v325) (k0_t19 : Fin (k0_t19_loop v325).trips), ∀ (k0_h24 : k0_cond24 v325 k0_t19 = 1#1), ∀ a, (k0_off593 v325 k0_t19) a + S1x1.size a ≤ S8x512.size a := fun v325 k0_hw124 k0_t19 k0_h24 => k0_hw124.1.2.2.2.2.2.2.2.2.2.2.2.1 k0_t19 k0_h24
theorem k0_off594_inb : ∀ (v325 : BitVec 32) (k0_hw124 : k0_chk124 v325) (k0_t19 : Fin (k0_t19_loop v325).trips), ∀ (k0_h24 : k0_cond24 v325 k0_t19 = 1#1), ∀ a, (k0_off594 v325 k0_t19) a + S1x1.size a ≤ S2x8.size a := fun v325 k0_hw124 k0_t19 k0_h24 => k0_hw124.1.2.2.2.2.2.2.2.2.2.2.2.2.1 k0_t19 k0_h24
theorem k0_off595_inb : ∀ (v325 : BitVec 32) (k0_hw124 : k0_chk124 v325) (k0_t19 : Fin (k0_t19_loop v325).trips), ∀ (k0_h24 : k0_cond24 v325 k0_t19 = 1#1), ∀ a, (k0_off595 v325 k0_t19) a + S1x1x16x8x128.size a ≤ S2x8x16x8x128.size a := fun v325 k0_hw124 k0_t19 k0_h24 => k0_hw124.1.2.2.2.2.2.2.2.2.2.2.2.2.2.1 k0_t19 k0_h24
theorem k0_off597_inb : ∀ (v325 : BitVec 32) (k0_hw124 : k0_chk124 v325) (k0_t19 : Fin (k0_t19_loop v325).trips), ∀ (k0_h24 : k0_cond24 v325 k0_t19 = 1#1), ∀ a, (k0_off597 v325 k0_t19) a + S1x1.size a ≤ S2x8.size a := fun v325 k0_hw124 k0_t19 k0_h24 => k0_hw124.1.2.2.2.2.2.2.2.2.2.2.2.2.2.2.1 k0_t19 k0_h24
theorem k0_off598_inb : ∀ (v325 : BitVec 32) (k0_hw124 : k0_chk124 v325) (k0_t19 : Fin (k0_t19_loop v325).trips), ∀ (k0_h24 : k0_cond24 v325 k0_t19 = 1#1), ∀ a, (k0_off598 v325 k0_t19) a + S1x1x16x8x128.size a ≤ S2x8x16x8x128.size a := fun v325 k0_hw124 k0_t19 k0_h24 => k0_hw124.1.2.2.2.2.2.2.2.2.2.2.2.2.2.2.2.1 k0_t19 k0_h24
theorem k0_off599_inb : ∀ (v325 : BitVec 32) (k0_hw124 : k0_chk124 v325) (k0_t19 : Fin (k0_t19_loop v325).trips), ∀ (k0_h24 : k0_cond24 v325 k0_t19 = 1#1), ∀ a, (k0_off599 v325 k0_t19) a + S1x1.size a ≤ S8x512.size a := fun v325 k0_hw124 k0_t19 k0_h24 => k0_hw124.1.2.2.2.2.2.2.2.2.2.2.2.2.2.2.2.2.1 k0_t19 k0_h24
theorem k0_off600_inb : ∀ (v325 : BitVec 32) (k0_hw124 : k0_chk124 v325) (k0_t19 : Fin (k0_t19_loop v325).trips), ∀ (k0_h24 : k0_cond24 v325 k0_t19 = 1#1), ∀ a, (k0_off600 v325 k0_t19) a + S1x1.size a ≤ S2x8.size a := fun v325 k0_hw124 k0_t19 k0_h24 => k0_hw124.1.2.2.2.2.2.2.2.2.2.2.2.2.2.2.2.2.2.1 k0_t19 k0_h24
theorem k0_off601_inb : ∀ (v325 : BitVec 32) (k0_hw124 : k0_chk124 v325) (k0_t19 : Fin (k0_t19_loop v325).trips), ∀ (k0_h24 : k0_cond24 v325 k0_t19 = 1#1), ∀ a, (k0_off601 v325 k0_t19) a + S1x1x16x8x128.size a ≤ S2x8x16x8x128.size a := fun v325 k0_hw124 k0_t19 k0_h24 => k0_hw124.1.2.2.2.2.2.2.2.2.2.2.2.2.2.2.2.2.2.2.1 k0_t19 k0_h24
theorem k0_off603_inb : ∀ (v325 : BitVec 32) (k0_hw124 : k0_chk124 v325) (k0_t19 : Fin (k0_t19_loop v325).trips), ∀ (k0_h24 : k0_cond24 v325 k0_t19 = 1#1), ∀ a, (k0_off603 v325 k0_t19) a + S1x1.size a ≤ S2x8.size a := fun v325 k0_hw124 k0_t19 k0_h24 => k0_hw124.1.2.2.2.2.2.2.2.2.2.2.2.2.2.2.2.2.2.2.2.1 k0_t19 k0_h24
theorem k0_off604_inb : ∀ (v325 : BitVec 32) (k0_hw124 : k0_chk124 v325) (k0_t19 : Fin (k0_t19_loop v325).trips), ∀ (k0_h24 : k0_cond24 v325 k0_t19 = 1#1), ∀ a, (k0_off604 v325 k0_t19) a + S1x1x16x8x128.size a ≤ S2x8x16x8x128.size a := fun v325 k0_hw124 k0_t19 k0_h24 => k0_hw124.1.2.2.2.2.2.2.2.2.2.2.2.2.2.2.2.2.2.2.2.2.1 k0_t19 k0_h24
theorem k0_off605_inb : ∀ (v325 : BitVec 32) (k0_hw124 : k0_chk124 v325) (k0_t19 : Fin (k0_t19_loop v325).trips), ∀ (k0_h24 : k0_cond24 v325 k0_t19 = 1#1), ∀ a, (k0_off605 v325 k0_t19) a + S1x1.size a ≤ S8x512.size a := fun v325 k0_hw124 k0_t19 k0_h24 => k0_hw124.1.2.2.2.2.2.2.2.2.2.2.2.2.2.2.2.2.2.2.2.2.2.1 k0_t19 k0_h24
theorem k0_off606_inb : ∀ (v325 : BitVec 32) (k0_hw124 : k0_chk124 v325) (k0_t19 : Fin (k0_t19_loop v325).trips), ∀ (k0_h24 : k0_cond24 v325 k0_t19 = 1#1), ∀ a, (k0_off606 v325 k0_t19) a + S1x1.size a ≤ S2x8.size a := fun v325 k0_hw124 k0_t19 k0_h24 => k0_hw124.1.2.2.2.2.2.2.2.2.2.2.2.2.2.2.2.2.2.2.2.2.2.2.1 k0_t19 k0_h24
theorem k0_off607_inb : ∀ (v325 : BitVec 32) (k0_hw124 : k0_chk124 v325) (k0_t19 : Fin (k0_t19_loop v325).trips), ∀ (k0_h24 : k0_cond24 v325 k0_t19 = 1#1), ∀ a, (k0_off607 v325 k0_t19) a + S1x1x16x8x128.size a ≤ S2x8x16x8x128.size a := fun v325 k0_hw124 k0_t19 k0_h24 => k0_hw124.1.2.2.2.2.2.2.2.2.2.2.2.2.2.2.2.2.2.2.2.2.2.2.2.1 k0_t19 k0_h24
theorem k0_off609_inb : ∀ (v325 : BitVec 32) (k0_hw124 : k0_chk124 v325) (k0_t19 : Fin (k0_t19_loop v325).trips), ∀ (k0_h24 : k0_cond24 v325 k0_t19 = 1#1), ∀ a, (k0_off609 v325 k0_t19) a + S1x1.size a ≤ S2x8.size a := fun v325 k0_hw124 k0_t19 k0_h24 => k0_hw124.1.2.2.2.2.2.2.2.2.2.2.2.2.2.2.2.2.2.2.2.2.2.2.2.2.1 k0_t19 k0_h24
theorem k0_off610_inb : ∀ (v325 : BitVec 32) (k0_hw124 : k0_chk124 v325) (k0_t19 : Fin (k0_t19_loop v325).trips), ∀ (k0_h24 : k0_cond24 v325 k0_t19 = 1#1), ∀ a, (k0_off610 v325 k0_t19) a + S1x1x16x8x128.size a ≤ S2x8x16x8x128.size a := fun v325 k0_hw124 k0_t19 k0_h24 => k0_hw124.1.2.2.2.2.2.2.2.2.2.2.2.2.2.2.2.2.2.2.2.2.2.2.2.2.2.1 k0_t19 k0_h24
theorem k0_off611_inb : ∀ (v325 : BitVec 32) (k0_hw124 : k0_chk124 v325) (k0_t19 : Fin (k0_t19_loop v325).trips), ∀ (k0_h24 : k0_cond24 v325 k0_t19 = 1#1), ∀ a, (k0_off611 v325 k0_t19) a + S1x1.size a ≤ S8x512.size a := fun v325 k0_hw124 k0_t19 k0_h24 => k0_hw124.1.2.2.2.2.2.2.2.2.2.2.2.2.2.2.2.2.2.2.2.2.2.2.2.2.2.2.1 k0_t19 k0_h24
theorem k0_off612_inb : ∀ (v325 : BitVec 32) (k0_hw124 : k0_chk124 v325) (k0_t19 : Fin (k0_t19_loop v325).trips), ∀ (k0_h24 : k0_cond24 v325 k0_t19 = 1#1), ∀ a, (k0_off612 v325 k0_t19) a + S1x1.size a ≤ S2x8.size a := fun v325 k0_hw124 k0_t19 k0_h24 => k0_hw124.1.2.2.2.2.2.2.2.2.2.2.2.2.2.2.2.2.2.2.2.2.2.2.2.2.2.2.2.1 k0_t19 k0_h24
theorem k0_off613_inb : ∀ (v325 : BitVec 32) (k0_hw124 : k0_chk124 v325) (k0_t19 : Fin (k0_t19_loop v325).trips), ∀ (k0_h24 : k0_cond24 v325 k0_t19 = 1#1), ∀ a, (k0_off613 v325 k0_t19) a + S1x1x16x8x128.size a ≤ S2x8x16x8x128.size a := fun v325 k0_hw124 k0_t19 k0_h24 => k0_hw124.1.2.2.2.2.2.2.2.2.2.2.2.2.2.2.2.2.2.2.2.2.2.2.2.2.2.2.2.2.1 k0_t19 k0_h24
theorem k0_off615_inb : ∀ (v325 : BitVec 32) (k0_hw124 : k0_chk124 v325) (k0_t19 : Fin (k0_t19_loop v325).trips), ∀ (k0_h24 : k0_cond24 v325 k0_t19 = 1#1), ∀ a, (k0_off615 v325 k0_t19) a + S1x1.size a ≤ S2x8.size a := fun v325 k0_hw124 k0_t19 k0_h24 => k0_hw124.1.2.2.2.2.2.2.2.2.2.2.2.2.2.2.2.2.2.2.2.2.2.2.2.2.2.2.2.2.2.1 k0_t19 k0_h24
theorem k0_off616_inb : ∀ (v325 : BitVec 32) (k0_hw124 : k0_chk124 v325) (k0_t19 : Fin (k0_t19_loop v325).trips), ∀ (k0_h24 : k0_cond24 v325 k0_t19 = 1#1), ∀ a, (k0_off616 v325 k0_t19) a + S1x1x16x8x128.size a ≤ S2x8x16x8x128.size a := fun v325 k0_hw124 k0_t19 k0_h24 => k0_hw124.1.2.2.2.2.2.2.2.2.2.2.2.2.2.2.2.2.2.2.2.2.2.2.2.2.2.2.2.2.2.2.1 k0_t19 k0_h24
theorem k0_off617_inb : ∀ (v325 : BitVec 32) (k0_hw124 : k0_chk124 v325) (k0_t19 : Fin (k0_t19_loop v325).trips), ∀ (k0_h24 : k0_cond24 v325 k0_t19 = 1#1), ∀ a, (k0_off617 v325 k0_t19) a + S1x1.size a ≤ S8x512.size a := fun v325 k0_hw124 k0_t19 k0_h24 => k0_hw124.1.2.2.2.2.2.2.2.2.2.2.2.2.2.2.2.2.2.2.2.2.2.2.2.2.2.2.2.2.2.2.2 k0_t19 k0_h24
theorem k0_off618_inb : ∀ (v325 : BitVec 32) (k0_hw124 : k0_chk124 v325) (k0_t19 : Fin (k0_t19_loop v325).trips), ∀ (k0_h24 : k0_cond24 v325 k0_t19 = 1#1), ∀ a, (k0_off618 v325 k0_t19) a + S1x1.size a ≤ S2x8.size a := fun v325 k0_hw124 k0_t19 k0_h24 => k0_hw124.2.1.1 k0_t19 k0_h24
theorem k0_off619_inb : ∀ (v325 : BitVec 32) (k0_hw124 : k0_chk124 v325) (k0_t19 : Fin (k0_t19_loop v325).trips), ∀ (k0_h24 : k0_cond24 v325 k0_t19 = 1#1), ∀ a, (k0_off619 v325 k0_t19) a + S1x1x16x8x128.size a ≤ S2x8x16x8x128.size a := fun v325 k0_hw124 k0_t19 k0_h24 => k0_hw124.2.1.2.1 k0_t19 k0_h24
theorem k0_off621_inb : ∀ (v325 : BitVec 32) (k0_hw124 : k0_chk124 v325) (k0_t19 : Fin (k0_t19_loop v325).trips), ∀ (k0_h24 : k0_cond24 v325 k0_t19 = 1#1), ∀ a, (k0_off621 v325 k0_t19) a + S1x1.size a ≤ S2x8.size a := fun v325 k0_hw124 k0_t19 k0_h24 => k0_hw124.2.1.2.2.1 k0_t19 k0_h24
theorem k0_off622_inb : ∀ (v325 : BitVec 32) (k0_hw124 : k0_chk124 v325) (k0_t19 : Fin (k0_t19_loop v325).trips), ∀ (k0_h24 : k0_cond24 v325 k0_t19 = 1#1), ∀ a, (k0_off622 v325 k0_t19) a + S1x1x16x8x128.size a ≤ S2x8x16x8x128.size a := fun v325 k0_hw124 k0_t19 k0_h24 => k0_hw124.2.1.2.2.2.1 k0_t19 k0_h24
theorem k0_off623_inb : ∀ (v325 : BitVec 32) (k0_hw124 : k0_chk124 v325) (k0_t19 : Fin (k0_t19_loop v325).trips), ∀ (k0_h24 : k0_cond24 v325 k0_t19 = 1#1), ∀ a, (k0_off623 v325 k0_t19) a + S1x1.size a ≤ S8x512.size a := fun v325 k0_hw124 k0_t19 k0_h24 => k0_hw124.2.1.2.2.2.2.1 k0_t19 k0_h24
theorem k0_off624_inb : ∀ (v325 : BitVec 32) (k0_hw124 : k0_chk124 v325) (k0_t19 : Fin (k0_t19_loop v325).trips), ∀ (k0_h24 : k0_cond24 v325 k0_t19 = 1#1), ∀ a, (k0_off624 v325 k0_t19) a + S1x1.size a ≤ S2x8.size a := fun v325 k0_hw124 k0_t19 k0_h24 => k0_hw124.2.1.2.2.2.2.2.1 k0_t19 k0_h24
theorem k0_off625_inb : ∀ (v325 : BitVec 32) (k0_hw124 : k0_chk124 v325) (k0_t19 : Fin (k0_t19_loop v325).trips), ∀ (k0_h24 : k0_cond24 v325 k0_t19 = 1#1), ∀ a, (k0_off625 v325 k0_t19) a + S1x1x16x8x128.size a ≤ S2x8x16x8x128.size a := fun v325 k0_hw124 k0_t19 k0_h24 => k0_hw124.2.1.2.2.2.2.2.2.1 k0_t19 k0_h24
theorem k0_off627_inb : ∀ (v325 : BitVec 32) (k0_hw124 : k0_chk124 v325) (k0_t19 : Fin (k0_t19_loop v325).trips), ∀ (k0_h24 : k0_cond24 v325 k0_t19 = 1#1), ∀ a, (k0_off627 v325 k0_t19) a + S1x1.size a ≤ S2x8.size a := fun v325 k0_hw124 k0_t19 k0_h24 => k0_hw124.2.1.2.2.2.2.2.2.2.1 k0_t19 k0_h24
theorem k0_off628_inb : ∀ (v325 : BitVec 32) (k0_hw124 : k0_chk124 v325) (k0_t19 : Fin (k0_t19_loop v325).trips), ∀ (k0_h24 : k0_cond24 v325 k0_t19 = 1#1), ∀ a, (k0_off628 v325 k0_t19) a + S1x1x16x8x128.size a ≤ S2x8x16x8x128.size a := fun v325 k0_hw124 k0_t19 k0_h24 => k0_hw124.2.1.2.2.2.2.2.2.2.2.1 k0_t19 k0_h24
theorem k0_off629_inb : ∀ (v325 : BitVec 32) (k0_hw124 : k0_chk124 v325) (k0_t19 : Fin (k0_t19_loop v325).trips), ∀ a, (k0_off629 v325 k0_t19) a + S1x1.size a ≤ S2x8.size a := fun v325 k0_hw124 k0_t19 => k0_hw124.2.1.2.2.2.2.2.2.2.2.2.1 k0_t19
theorem k0_off630_inb : ∀ (v325 : BitVec 32) (k0_hw124 : k0_chk124 v325) (k0_t19 : Fin (k0_t19_loop v325).trips), ∀ a, (k0_off630 v325 k0_t19) a + S1x1x16x8x128.size a ≤ S2x8x16x8x128.size a := fun v325 k0_hw124 k0_t19 => k0_hw124.2.1.2.2.2.2.2.2.2.2.2.2.1 k0_t19
theorem k0_off631_inb : ∀ (v325 : BitVec 32) (k0_hw124 : k0_chk124 v325) (k0_t19 : Fin (k0_t19_loop v325).trips), ∀ a, (k0_off631 v325 k0_t19) a + S1x1.size a ≤ S2x8.size a := fun v325 k0_hw124 k0_t19 => k0_hw124.2.1.2.2.2.2.2.2.2.2.2.2.2.1 k0_t19
theorem k0_off632_inb : ∀ (v325 : BitVec 32) (k0_hw124 : k0_chk124 v325) (k0_t19 : Fin (k0_t19_loop v325).trips), ∀ a, (k0_off632 v325 k0_t19) a + S1x1x16x8x128.size a ≤ S2x8x16x8x128.size a := fun v325 k0_hw124 k0_t19 => k0_hw124.2.1.2.2.2.2.2.2.2.2.2.2.2.2.1 k0_t19
theorem k0_off633_inb : ∀ (v325 : BitVec 32) (k0_hw124 : k0_chk124 v325) (k0_t19 : Fin (k0_t19_loop v325).trips), ∀ a, (k0_off633 v325 k0_t19) a + S1x1.size a ≤ S2x8.size a := fun v325 k0_hw124 k0_t19 => k0_hw124.2.1.2.2.2.2.2.2.2.2.2.2.2.2.2.1 k0_t19
theorem k0_off634_inb : ∀ (v325 : BitVec 32) (k0_hw124 : k0_chk124 v325) (k0_t19 : Fin (k0_t19_loop v325).trips), ∀ a, (k0_off634 v325 k0_t19) a + S1x1x16x8x128.size a ≤ S2x8x16x8x128.size a := fun v325 k0_hw124 k0_t19 => k0_hw124.2.1.2.2.2.2.2.2.2.2.2.2.2.2.2.2.1 k0_t19
theorem k0_off635_inb : ∀ (v325 : BitVec 32) (k0_hw124 : k0_chk124 v325) (k0_t19 : Fin (k0_t19_loop v325).trips), ∀ a, (k0_off635 v325 k0_t19) a + S1x1.size a ≤ S2x8.size a := fun v325 k0_hw124 k0_t19 => k0_hw124.2.1.2.2.2.2.2.2.2.2.2.2.2.2.2.2.2.1 k0_t19
theorem k0_off636_inb : ∀ (v325 : BitVec 32) (k0_hw124 : k0_chk124 v325) (k0_t19 : Fin (k0_t19_loop v325).trips), ∀ a, (k0_off636 v325 k0_t19) a + S1x1x16x8x128.size a ≤ S2x8x16x8x128.size a := fun v325 k0_hw124 k0_t19 => k0_hw124.2.1.2.2.2.2.2.2.2.2.2.2.2.2.2.2.2.2.1 k0_t19
theorem k0_off637_inb : ∀ (v325 : BitVec 32) (k0_hw124 : k0_chk124 v325) (k0_t19 : Fin (k0_t19_loop v325).trips), ∀ a, (k0_off637 v325 k0_t19) a + S1x1.size a ≤ S2x8.size a := fun v325 k0_hw124 k0_t19 => k0_hw124.2.1.2.2.2.2.2.2.2.2.2.2.2.2.2.2.2.2.2.1 k0_t19
theorem k0_off638_inb : ∀ (v325 : BitVec 32) (k0_hw124 : k0_chk124 v325) (k0_t19 : Fin (k0_t19_loop v325).trips), ∀ a, (k0_off638 v325 k0_t19) a + S1x1x16x8x128.size a ≤ S2x8x16x8x128.size a := fun v325 k0_hw124 k0_t19 => k0_hw124.2.1.2.2.2.2.2.2.2.2.2.2.2.2.2.2.2.2.2.2.1 k0_t19
theorem k0_off639_inb : ∀ (v325 : BitVec 32) (k0_hw124 : k0_chk124 v325) (k0_t19 : Fin (k0_t19_loop v325).trips), ∀ a, (k0_off639 v325 k0_t19) a + S1x1.size a ≤ S2x8.size a := fun v325 k0_hw124 k0_t19 => k0_hw124.2.1.2.2.2.2.2.2.2.2.2.2.2.2.2.2.2.2.2.2.2.1 k0_t19
theorem k0_off640_inb : ∀ (v325 : BitVec 32) (k0_hw124 : k0_chk124 v325) (k0_t19 : Fin (k0_t19_loop v325).trips), ∀ a, (k0_off640 v325 k0_t19) a + S1x1x16x8x128.size a ≤ S2x8x16x8x128.size a := fun v325 k0_hw124 k0_t19 => k0_hw124.2.1.2.2.2.2.2.2.2.2.2.2.2.2.2.2.2.2.2.2.2.2.1 k0_t19
theorem k0_off641_inb : ∀ (v325 : BitVec 32) (k0_hw124 : k0_chk124 v325) (k0_t19 : Fin (k0_t19_loop v325).trips), ∀ a, (k0_off641 v325 k0_t19) a + S1x1.size a ≤ S2x8.size a := fun v325 k0_hw124 k0_t19 => k0_hw124.2.1.2.2.2.2.2.2.2.2.2.2.2.2.2.2.2.2.2.2.2.2.2.1 k0_t19
theorem k0_off642_inb : ∀ (v325 : BitVec 32) (k0_hw124 : k0_chk124 v325) (k0_t19 : Fin (k0_t19_loop v325).trips), ∀ a, (k0_off642 v325 k0_t19) a + S1x1x16x8x128.size a ≤ S2x8x16x8x128.size a := fun v325 k0_hw124 k0_t19 => k0_hw124.2.1.2.2.2.2.2.2.2.2.2.2.2.2.2.2.2.2.2.2.2.2.2.2.1 k0_t19
theorem k0_off643_inb : ∀ (v325 : BitVec 32) (k0_hw124 : k0_chk124 v325) (k0_t19 : Fin (k0_t19_loop v325).trips), ∀ a, (k0_off643 v325 k0_t19) a + S1x1.size a ≤ S2x8.size a := fun v325 k0_hw124 k0_t19 => k0_hw124.2.1.2.2.2.2.2.2.2.2.2.2.2.2.2.2.2.2.2.2.2.2.2.2.2.1 k0_t19
theorem k0_off644_inb : ∀ (v325 : BitVec 32) (k0_hw124 : k0_chk124 v325) (k0_t19 : Fin (k0_t19_loop v325).trips), ∀ a, (k0_off644 v325 k0_t19) a + S1x1x16x8x128.size a ≤ S2x8x16x8x128.size a := fun v325 k0_hw124 k0_t19 => k0_hw124.2.1.2.2.2.2.2.2.2.2.2.2.2.2.2.2.2.2.2.2.2.2.2.2.2.2.1 k0_t19
theorem k0_off645_inb : ∀ (v325 : BitVec 32) (k0_hw124 : k0_chk124 v325) (k0_t19 : Fin (k0_t19_loop v325).trips), ∀ a, (k0_off645 v325 k0_t19) a + S1x8x16x8x128.size a ≤ S2x8x16x8x128.size a := fun v325 k0_hw124 k0_t19 => k0_hw124.2.1.2.2.2.2.2.2.2.2.2.2.2.2.2.2.2.2.2.2.2.2.2.2.2.2.2.1 k0_t19
theorem k0_t20_ok : ∀ (v325 : BitVec 32) (k0_hw124 : k0_chk124 v325), (k0_t20_loop v325).OK := fun v325 k0_hw124 => k0_hw124.2.1.2.2.2.2.2.2.2.2.2.2.2.2.2.2.2.2.2.2.2.2.2.2.2.2.2.2.1
theorem k0_off646_inb : ∀ (v325 : BitVec 32) (k0_hw124 : k0_chk124 v325) (k0_t20 : Fin (k0_t20_loop v325).trips), ∀ (k0_h25 : k0_cond25 v325 k0_t20 = 1#1), ∀ a, (k0_off646 v325 k0_t20) a + S1x1.size a ≤ S8x512.size a := fun v325 k0_hw124 k0_t20 k0_h25 => k0_hw124.2.1.2.2.2.2.2.2.2.2.2.2.2.2.2.2.2.2.2.2.2.2.2.2.2.2.2.2.2.1 k0_t20 k0_h25
theorem k0_off647_inb : ∀ (v325 : BitVec 32) (k0_hw124 : k0_chk124 v325) (k0_t20 : Fin (k0_t20_loop v325).trips), ∀ (k0_h25 : k0_cond25 v325 k0_t20 = 1#1), ∀ a, (k0_off647 v325 k0_t20) a + S1x1.size a ≤ S2x8.size a := fun v325 k0_hw124 k0_t20 k0_h25 => k0_hw124.2.1.2.2.2.2.2.2.2.2.2.2.2.2.2.2.2.2.2.2.2.2.2.2.2.2.2.2.2.2.1 k0_t20 k0_h25
theorem k0_off648_inb : ∀ (v325 : BitVec 32) (k0_hw124 : k0_chk124 v325) (k0_t20 : Fin (k0_t20_loop v325).trips), ∀ (k0_h25 : k0_cond25 v325 k0_t20 = 1#1), ∀ a, (k0_off648 v325 k0_t20) a + S1x1x16x8x128.size a ≤ S2x8x16x8x128.size a := fun v325 k0_hw124 k0_t20 k0_h25 => k0_hw124.2.1.2.2.2.2.2.2.2.2.2.2.2.2.2.2.2.2.2.2.2.2.2.2.2.2.2.2.2.2.2.1 k0_t20 k0_h25
theorem k0_off650_inb : ∀ (v325 : BitVec 32) (k0_hw124 : k0_chk124 v325) (k0_t20 : Fin (k0_t20_loop v325).trips), ∀ (k0_h25 : k0_cond25 v325 k0_t20 = 1#1), ∀ a, (k0_off650 v325 k0_t20) a + S1x1.size a ≤ S2x8.size a := fun v325 k0_hw124 k0_t20 k0_h25 => k0_hw124.2.1.2.2.2.2.2.2.2.2.2.2.2.2.2.2.2.2.2.2.2.2.2.2.2.2.2.2.2.2.2.2.1 k0_t20 k0_h25
theorem k0_off651_inb : ∀ (v325 : BitVec 32) (k0_hw124 : k0_chk124 v325) (k0_t20 : Fin (k0_t20_loop v325).trips), ∀ (k0_h25 : k0_cond25 v325 k0_t20 = 1#1), ∀ a, (k0_off651 v325 k0_t20) a + S1x1x16x8x128.size a ≤ S2x8x16x8x128.size a := fun v325 k0_hw124 k0_t20 k0_h25 => k0_hw124.2.1.2.2.2.2.2.2.2.2.2.2.2.2.2.2.2.2.2.2.2.2.2.2.2.2.2.2.2.2.2.2.2 k0_t20 k0_h25
theorem k0_off652_inb : ∀ (v325 : BitVec 32) (k0_hw124 : k0_chk124 v325) (k0_t20 : Fin (k0_t20_loop v325).trips), ∀ (k0_h25 : k0_cond25 v325 k0_t20 = 1#1), ∀ a, (k0_off652 v325 k0_t20) a + S1x1.size a ≤ S8x512.size a := fun v325 k0_hw124 k0_t20 k0_h25 => k0_hw124.2.2.1.1 k0_t20 k0_h25
theorem k0_off653_inb : ∀ (v325 : BitVec 32) (k0_hw124 : k0_chk124 v325) (k0_t20 : Fin (k0_t20_loop v325).trips), ∀ (k0_h25 : k0_cond25 v325 k0_t20 = 1#1), ∀ a, (k0_off653 v325 k0_t20) a + S1x1.size a ≤ S2x8.size a := fun v325 k0_hw124 k0_t20 k0_h25 => k0_hw124.2.2.1.2.1 k0_t20 k0_h25
theorem k0_off654_inb : ∀ (v325 : BitVec 32) (k0_hw124 : k0_chk124 v325) (k0_t20 : Fin (k0_t20_loop v325).trips), ∀ (k0_h25 : k0_cond25 v325 k0_t20 = 1#1), ∀ a, (k0_off654 v325 k0_t20) a + S1x1x16x8x128.size a ≤ S2x8x16x8x128.size a := fun v325 k0_hw124 k0_t20 k0_h25 => k0_hw124.2.2.1.2.2.1 k0_t20 k0_h25
theorem k0_off656_inb : ∀ (v325 : BitVec 32) (k0_hw124 : k0_chk124 v325) (k0_t20 : Fin (k0_t20_loop v325).trips), ∀ (k0_h25 : k0_cond25 v325 k0_t20 = 1#1), ∀ a, (k0_off656 v325 k0_t20) a + S1x1.size a ≤ S2x8.size a := fun v325 k0_hw124 k0_t20 k0_h25 => k0_hw124.2.2.1.2.2.2.1 k0_t20 k0_h25
theorem k0_off657_inb : ∀ (v325 : BitVec 32) (k0_hw124 : k0_chk124 v325) (k0_t20 : Fin (k0_t20_loop v325).trips), ∀ (k0_h25 : k0_cond25 v325 k0_t20 = 1#1), ∀ a, (k0_off657 v325 k0_t20) a + S1x1x16x8x128.size a ≤ S2x8x16x8x128.size a := fun v325 k0_hw124 k0_t20 k0_h25 => k0_hw124.2.2.1.2.2.2.2.1 k0_t20 k0_h25
theorem k0_off658_inb : ∀ (v325 : BitVec 32) (k0_hw124 : k0_chk124 v325) (k0_t20 : Fin (k0_t20_loop v325).trips), ∀ (k0_h25 : k0_cond25 v325 k0_t20 = 1#1), ∀ a, (k0_off658 v325 k0_t20) a + S1x1.size a ≤ S8x512.size a := fun v325 k0_hw124 k0_t20 k0_h25 => k0_hw124.2.2.1.2.2.2.2.2.1 k0_t20 k0_h25
theorem k0_off659_inb : ∀ (v325 : BitVec 32) (k0_hw124 : k0_chk124 v325) (k0_t20 : Fin (k0_t20_loop v325).trips), ∀ (k0_h25 : k0_cond25 v325 k0_t20 = 1#1), ∀ a, (k0_off659 v325 k0_t20) a + S1x1.size a ≤ S2x8.size a := fun v325 k0_hw124 k0_t20 k0_h25 => k0_hw124.2.2.1.2.2.2.2.2.2.1 k0_t20 k0_h25
theorem k0_off660_inb : ∀ (v325 : BitVec 32) (k0_hw124 : k0_chk124 v325) (k0_t20 : Fin (k0_t20_loop v325).trips), ∀ (k0_h25 : k0_cond25 v325 k0_t20 = 1#1), ∀ a, (k0_off660 v325 k0_t20) a + S1x1x16x8x128.size a ≤ S2x8x16x8x128.size a := fun v325 k0_hw124 k0_t20 k0_h25 => k0_hw124.2.2.1.2.2.2.2.2.2.2.1 k0_t20 k0_h25
theorem k0_off662_inb : ∀ (v325 : BitVec 32) (k0_hw124 : k0_chk124 v325) (k0_t20 : Fin (k0_t20_loop v325).trips), ∀ (k0_h25 : k0_cond25 v325 k0_t20 = 1#1), ∀ a, (k0_off662 v325 k0_t20) a + S1x1.size a ≤ S2x8.size a := fun v325 k0_hw124 k0_t20 k0_h25 => k0_hw124.2.2.1.2.2.2.2.2.2.2.2.1 k0_t20 k0_h25
theorem k0_off663_inb : ∀ (v325 : BitVec 32) (k0_hw124 : k0_chk124 v325) (k0_t20 : Fin (k0_t20_loop v325).trips), ∀ (k0_h25 : k0_cond25 v325 k0_t20 = 1#1), ∀ a, (k0_off663 v325 k0_t20) a + S1x1x16x8x128.size a ≤ S2x8x16x8x128.size a := fun v325 k0_hw124 k0_t20 k0_h25 => k0_hw124.2.2.1.2.2.2.2.2.2.2.2.2.1 k0_t20 k0_h25
theorem k0_off664_inb : ∀ (v325 : BitVec 32) (k0_hw124 : k0_chk124 v325) (k0_t20 : Fin (k0_t20_loop v325).trips), ∀ (k0_h25 : k0_cond25 v325 k0_t20 = 1#1), ∀ a, (k0_off664 v325 k0_t20) a + S1x1.size a ≤ S8x512.size a := fun v325 k0_hw124 k0_t20 k0_h25 => k0_hw124.2.2.1.2.2.2.2.2.2.2.2.2.2.1 k0_t20 k0_h25
theorem k0_off665_inb : ∀ (v325 : BitVec 32) (k0_hw124 : k0_chk124 v325) (k0_t20 : Fin (k0_t20_loop v325).trips), ∀ (k0_h25 : k0_cond25 v325 k0_t20 = 1#1), ∀ a, (k0_off665 v325 k0_t20) a + S1x1.size a ≤ S2x8.size a := fun v325 k0_hw124 k0_t20 k0_h25 => k0_hw124.2.2.1.2.2.2.2.2.2.2.2.2.2.2.1 k0_t20 k0_h25
theorem k0_off666_inb : ∀ (v325 : BitVec 32) (k0_hw124 : k0_chk124 v325) (k0_t20 : Fin (k0_t20_loop v325).trips), ∀ (k0_h25 : k0_cond25 v325 k0_t20 = 1#1), ∀ a, (k0_off666 v325 k0_t20) a + S1x1x16x8x128.size a ≤ S2x8x16x8x128.size a := fun v325 k0_hw124 k0_t20 k0_h25 => k0_hw124.2.2.1.2.2.2.2.2.2.2.2.2.2.2.2.1 k0_t20 k0_h25
theorem k0_off668_inb : ∀ (v325 : BitVec 32) (k0_hw124 : k0_chk124 v325) (k0_t20 : Fin (k0_t20_loop v325).trips), ∀ (k0_h25 : k0_cond25 v325 k0_t20 = 1#1), ∀ a, (k0_off668 v325 k0_t20) a + S1x1.size a ≤ S2x8.size a := fun v325 k0_hw124 k0_t20 k0_h25 => k0_hw124.2.2.1.2.2.2.2.2.2.2.2.2.2.2.2.2.1 k0_t20 k0_h25
theorem k0_off669_inb : ∀ (v325 : BitVec 32) (k0_hw124 : k0_chk124 v325) (k0_t20 : Fin (k0_t20_loop v325).trips), ∀ (k0_h25 : k0_cond25 v325 k0_t20 = 1#1), ∀ a, (k0_off669 v325 k0_t20) a + S1x1x16x8x128.size a ≤ S2x8x16x8x128.size a := fun v325 k0_hw124 k0_t20 k0_h25 => k0_hw124.2.2.1.2.2.2.2.2.2.2.2.2.2.2.2.2.2.1 k0_t20 k0_h25
theorem k0_off670_inb : ∀ (v325 : BitVec 32) (k0_hw124 : k0_chk124 v325) (k0_t20 : Fin (k0_t20_loop v325).trips), ∀ (k0_h25 : k0_cond25 v325 k0_t20 = 1#1), ∀ a, (k0_off670 v325 k0_t20) a + S1x1.size a ≤ S8x512.size a := fun v325 k0_hw124 k0_t20 k0_h25 => k0_hw124.2.2.1.2.2.2.2.2.2.2.2.2.2.2.2.2.2.2.1 k0_t20 k0_h25
theorem k0_off671_inb : ∀ (v325 : BitVec 32) (k0_hw124 : k0_chk124 v325) (k0_t20 : Fin (k0_t20_loop v325).trips), ∀ (k0_h25 : k0_cond25 v325 k0_t20 = 1#1), ∀ a, (k0_off671 v325 k0_t20) a + S1x1.size a ≤ S2x8.size a := fun v325 k0_hw124 k0_t20 k0_h25 => k0_hw124.2.2.1.2.2.2.2.2.2.2.2.2.2.2.2.2.2.2.2.1 k0_t20 k0_h25
theorem k0_off672_inb : ∀ (v325 : BitVec 32) (k0_hw124 : k0_chk124 v325) (k0_t20 : Fin (k0_t20_loop v325).trips), ∀ (k0_h25 : k0_cond25 v325 k0_t20 = 1#1), ∀ a, (k0_off672 v325 k0_t20) a + S1x1x16x8x128.size a ≤ S2x8x16x8x128.size a := fun v325 k0_hw124 k0_t20 k0_h25 => k0_hw124.2.2.1.2.2.2.2.2.2.2.2.2.2.2.2.2.2.2.2.2.1 k0_t20 k0_h25
theorem k0_off674_inb : ∀ (v325 : BitVec 32) (k0_hw124 : k0_chk124 v325) (k0_t20 : Fin (k0_t20_loop v325).trips), ∀ (k0_h25 : k0_cond25 v325 k0_t20 = 1#1), ∀ a, (k0_off674 v325 k0_t20) a + S1x1.size a ≤ S2x8.size a := fun v325 k0_hw124 k0_t20 k0_h25 => k0_hw124.2.2.1.2.2.2.2.2.2.2.2.2.2.2.2.2.2.2.2.2.2.1 k0_t20 k0_h25
theorem k0_off675_inb : ∀ (v325 : BitVec 32) (k0_hw124 : k0_chk124 v325) (k0_t20 : Fin (k0_t20_loop v325).trips), ∀ (k0_h25 : k0_cond25 v325 k0_t20 = 1#1), ∀ a, (k0_off675 v325 k0_t20) a + S1x1x16x8x128.size a ≤ S2x8x16x8x128.size a := fun v325 k0_hw124 k0_t20 k0_h25 => k0_hw124.2.2.1.2.2.2.2.2.2.2.2.2.2.2.2.2.2.2.2.2.2.2.1 k0_t20 k0_h25
theorem k0_off676_inb : ∀ (v325 : BitVec 32) (k0_hw124 : k0_chk124 v325) (k0_t20 : Fin (k0_t20_loop v325).trips), ∀ (k0_h25 : k0_cond25 v325 k0_t20 = 1#1), ∀ a, (k0_off676 v325 k0_t20) a + S1x1.size a ≤ S8x512.size a := fun v325 k0_hw124 k0_t20 k0_h25 => k0_hw124.2.2.1.2.2.2.2.2.2.2.2.2.2.2.2.2.2.2.2.2.2.2.2.1 k0_t20 k0_h25
theorem k0_off677_inb : ∀ (v325 : BitVec 32) (k0_hw124 : k0_chk124 v325) (k0_t20 : Fin (k0_t20_loop v325).trips), ∀ (k0_h25 : k0_cond25 v325 k0_t20 = 1#1), ∀ a, (k0_off677 v325 k0_t20) a + S1x1.size a ≤ S2x8.size a := fun v325 k0_hw124 k0_t20 k0_h25 => k0_hw124.2.2.1.2.2.2.2.2.2.2.2.2.2.2.2.2.2.2.2.2.2.2.2.2.1 k0_t20 k0_h25
theorem k0_off678_inb : ∀ (v325 : BitVec 32) (k0_hw124 : k0_chk124 v325) (k0_t20 : Fin (k0_t20_loop v325).trips), ∀ (k0_h25 : k0_cond25 v325 k0_t20 = 1#1), ∀ a, (k0_off678 v325 k0_t20) a + S1x1x16x8x128.size a ≤ S2x8x16x8x128.size a := fun v325 k0_hw124 k0_t20 k0_h25 => k0_hw124.2.2.1.2.2.2.2.2.2.2.2.2.2.2.2.2.2.2.2.2.2.2.2.2.2.1 k0_t20 k0_h25
theorem k0_off680_inb : ∀ (v325 : BitVec 32) (k0_hw124 : k0_chk124 v325) (k0_t20 : Fin (k0_t20_loop v325).trips), ∀ (k0_h25 : k0_cond25 v325 k0_t20 = 1#1), ∀ a, (k0_off680 v325 k0_t20) a + S1x1.size a ≤ S2x8.size a := fun v325 k0_hw124 k0_t20 k0_h25 => k0_hw124.2.2.1.2.2.2.2.2.2.2.2.2.2.2.2.2.2.2.2.2.2.2.2.2.2.2.1 k0_t20 k0_h25
theorem k0_off681_inb : ∀ (v325 : BitVec 32) (k0_hw124 : k0_chk124 v325) (k0_t20 : Fin (k0_t20_loop v325).trips), ∀ (k0_h25 : k0_cond25 v325 k0_t20 = 1#1), ∀ a, (k0_off681 v325 k0_t20) a + S1x1x16x8x128.size a ≤ S2x8x16x8x128.size a := fun v325 k0_hw124 k0_t20 k0_h25 => k0_hw124.2.2.1.2.2.2.2.2.2.2.2.2.2.2.2.2.2.2.2.2.2.2.2.2.2.2.2.1 k0_t20 k0_h25
theorem k0_off682_inb : ∀ (v325 : BitVec 32) (k0_hw124 : k0_chk124 v325) (k0_t20 : Fin (k0_t20_loop v325).trips), ∀ (k0_h25 : k0_cond25 v325 k0_t20 = 1#1), ∀ a, (k0_off682 v325 k0_t20) a + S1x1.size a ≤ S8x512.size a := fun v325 k0_hw124 k0_t20 k0_h25 => k0_hw124.2.2.1.2.2.2.2.2.2.2.2.2.2.2.2.2.2.2.2.2.2.2.2.2.2.2.2.2.1 k0_t20 k0_h25
theorem k0_off683_inb : ∀ (v325 : BitVec 32) (k0_hw124 : k0_chk124 v325) (k0_t20 : Fin (k0_t20_loop v325).trips), ∀ (k0_h25 : k0_cond25 v325 k0_t20 = 1#1), ∀ a, (k0_off683 v325 k0_t20) a + S1x1.size a ≤ S2x8.size a := fun v325 k0_hw124 k0_t20 k0_h25 => k0_hw124.2.2.1.2.2.2.2.2.2.2.2.2.2.2.2.2.2.2.2.2.2.2.2.2.2.2.2.2.2.1 k0_t20 k0_h25
theorem k0_off684_inb : ∀ (v325 : BitVec 32) (k0_hw124 : k0_chk124 v325) (k0_t20 : Fin (k0_t20_loop v325).trips), ∀ (k0_h25 : k0_cond25 v325 k0_t20 = 1#1), ∀ a, (k0_off684 v325 k0_t20) a + S1x1x16x8x128.size a ≤ S2x8x16x8x128.size a := fun v325 k0_hw124 k0_t20 k0_h25 => k0_hw124.2.2.1.2.2.2.2.2.2.2.2.2.2.2.2.2.2.2.2.2.2.2.2.2.2.2.2.2.2.2.1 k0_t20 k0_h25
theorem k0_off686_inb : ∀ (v325 : BitVec 32) (k0_hw124 : k0_chk124 v325) (k0_t20 : Fin (k0_t20_loop v325).trips), ∀ (k0_h25 : k0_cond25 v325 k0_t20 = 1#1), ∀ a, (k0_off686 v325 k0_t20) a + S1x1.size a ≤ S2x8.size a := fun v325 k0_hw124 k0_t20 k0_h25 => k0_hw124.2.2.1.2.2.2.2.2.2.2.2.2.2.2.2.2.2.2.2.2.2.2.2.2.2.2.2.2.2.2.2.1 k0_t20 k0_h25
theorem k0_off687_inb : ∀ (v325 : BitVec 32) (k0_hw124 : k0_chk124 v325) (k0_t20 : Fin (k0_t20_loop v325).trips), ∀ (k0_h25 : k0_cond25 v325 k0_t20 = 1#1), ∀ a, (k0_off687 v325 k0_t20) a + S1x1x16x8x128.size a ≤ S2x8x16x8x128.size a := fun v325 k0_hw124 k0_t20 k0_h25 => k0_hw124.2.2.1.2.2.2.2.2.2.2.2.2.2.2.2.2.2.2.2.2.2.2.2.2.2.2.2.2.2.2.2.2.1 k0_t20 k0_h25
theorem k0_off688_inb : ∀ (v325 : BitVec 32) (k0_hw124 : k0_chk124 v325) (k0_t20 : Fin (k0_t20_loop v325).trips), ∀ (k0_h25 : k0_cond25 v325 k0_t20 = 1#1), ∀ a, (k0_off688 v325 k0_t20) a + S1x1.size a ≤ S8x512.size a := fun v325 k0_hw124 k0_t20 k0_h25 => k0_hw124.2.2.1.2.2.2.2.2.2.2.2.2.2.2.2.2.2.2.2.2.2.2.2.2.2.2.2.2.2.2.2.2.2.1 k0_t20 k0_h25
theorem k0_off689_inb : ∀ (v325 : BitVec 32) (k0_hw124 : k0_chk124 v325) (k0_t20 : Fin (k0_t20_loop v325).trips), ∀ (k0_h25 : k0_cond25 v325 k0_t20 = 1#1), ∀ a, (k0_off689 v325 k0_t20) a + S1x1.size a ≤ S2x8.size a := fun v325 k0_hw124 k0_t20 k0_h25 => k0_hw124.2.2.1.2.2.2.2.2.2.2.2.2.2.2.2.2.2.2.2.2.2.2.2.2.2.2.2.2.2.2.2.2.2.2 k0_t20 k0_h25
theorem k0_off690_inb : ∀ (v325 : BitVec 32) (k0_hw124 : k0_chk124 v325) (k0_t20 : Fin (k0_t20_loop v325).trips), ∀ (k0_h25 : k0_cond25 v325 k0_t20 = 1#1), ∀ a, (k0_off690 v325 k0_t20) a + S1x1x16x8x128.size a ≤ S2x8x16x8x128.size a := fun v325 k0_hw124 k0_t20 k0_h25 => k0_hw124.2.2.2.1 k0_t20 k0_h25
theorem k0_off692_inb : ∀ (v325 : BitVec 32) (k0_hw124 : k0_chk124 v325) (k0_t20 : Fin (k0_t20_loop v325).trips), ∀ (k0_h25 : k0_cond25 v325 k0_t20 = 1#1), ∀ a, (k0_off692 v325 k0_t20) a + S1x1.size a ≤ S2x8.size a := fun v325 k0_hw124 k0_t20 k0_h25 => k0_hw124.2.2.2.2.1 k0_t20 k0_h25
theorem k0_off693_inb : ∀ (v325 : BitVec 32) (k0_hw124 : k0_chk124 v325) (k0_t20 : Fin (k0_t20_loop v325).trips), ∀ (k0_h25 : k0_cond25 v325 k0_t20 = 1#1), ∀ a, (k0_off693 v325 k0_t20) a + S1x1x16x8x128.size a ≤ S2x8x16x8x128.size a := fun v325 k0_hw124 k0_t20 k0_h25 => k0_hw124.2.2.2.2.2.1 k0_t20 k0_h25
theorem k0_off694_inb : ∀ (v325 : BitVec 32) (k0_hw124 : k0_chk124 v325) (k0_t20 : Fin (k0_t20_loop v325).trips), ∀ a, (k0_off694 v325 k0_t20) a + S1x1.size a ≤ S2x8.size a := fun v325 k0_hw124 k0_t20 => k0_hw124.2.2.2.2.2.2.1 k0_t20
theorem k0_off695_inb : ∀ (v325 : BitVec 32) (k0_hw124 : k0_chk124 v325) (k0_t20 : Fin (k0_t20_loop v325).trips), ∀ a, (k0_off695 v325 k0_t20) a + S1x1x16x8x128.size a ≤ S2x8x16x8x128.size a := fun v325 k0_hw124 k0_t20 => k0_hw124.2.2.2.2.2.2.2.1 k0_t20
theorem k0_off696_inb : ∀ (v325 : BitVec 32) (k0_hw124 : k0_chk124 v325) (k0_t20 : Fin (k0_t20_loop v325).trips), ∀ a, (k0_off696 v325 k0_t20) a + S1x1.size a ≤ S2x8.size a := fun v325 k0_hw124 k0_t20 => k0_hw124.2.2.2.2.2.2.2.2.1 k0_t20
theorem k0_off697_inb : ∀ (v325 : BitVec 32) (k0_hw124 : k0_chk124 v325) (k0_t20 : Fin (k0_t20_loop v325).trips), ∀ a, (k0_off697 v325 k0_t20) a + S1x1x16x8x128.size a ≤ S2x8x16x8x128.size a := fun v325 k0_hw124 k0_t20 => k0_hw124.2.2.2.2.2.2.2.2.2.1 k0_t20
theorem k0_off698_inb : ∀ (v325 : BitVec 32) (k0_hw124 : k0_chk124 v325) (k0_t20 : Fin (k0_t20_loop v325).trips), ∀ a, (k0_off698 v325 k0_t20) a + S1x1.size a ≤ S2x8.size a := fun v325 k0_hw124 k0_t20 => k0_hw124.2.2.2.2.2.2.2.2.2.2.1 k0_t20
theorem k0_off699_inb : ∀ (v325 : BitVec 32) (k0_hw124 : k0_chk124 v325) (k0_t20 : Fin (k0_t20_loop v325).trips), ∀ a, (k0_off699 v325 k0_t20) a + S1x1x16x8x128.size a ≤ S2x8x16x8x128.size a := fun v325 k0_hw124 k0_t20 => k0_hw124.2.2.2.2.2.2.2.2.2.2.2.1 k0_t20
theorem k0_off700_inb : ∀ (v325 : BitVec 32) (k0_hw124 : k0_chk124 v325) (k0_t20 : Fin (k0_t20_loop v325).trips), ∀ a, (k0_off700 v325 k0_t20) a + S1x1.size a ≤ S2x8.size a := fun v325 k0_hw124 k0_t20 => k0_hw124.2.2.2.2.2.2.2.2.2.2.2.2.1 k0_t20
theorem k0_off701_inb : ∀ (v325 : BitVec 32) (k0_hw124 : k0_chk124 v325) (k0_t20 : Fin (k0_t20_loop v325).trips), ∀ a, (k0_off701 v325 k0_t20) a + S1x1x16x8x128.size a ≤ S2x8x16x8x128.size a := fun v325 k0_hw124 k0_t20 => k0_hw124.2.2.2.2.2.2.2.2.2.2.2.2.2.1 k0_t20
theorem k0_off702_inb : ∀ (v325 : BitVec 32) (k0_hw124 : k0_chk124 v325) (k0_t20 : Fin (k0_t20_loop v325).trips), ∀ a, (k0_off702 v325 k0_t20) a + S1x1.size a ≤ S2x8.size a := fun v325 k0_hw124 k0_t20 => k0_hw124.2.2.2.2.2.2.2.2.2.2.2.2.2.2.1 k0_t20
theorem k0_off703_inb : ∀ (v325 : BitVec 32) (k0_hw124 : k0_chk124 v325) (k0_t20 : Fin (k0_t20_loop v325).trips), ∀ a, (k0_off703 v325 k0_t20) a + S1x1x16x8x128.size a ≤ S2x8x16x8x128.size a := fun v325 k0_hw124 k0_t20 => k0_hw124.2.2.2.2.2.2.2.2.2.2.2.2.2.2.2.1 k0_t20
theorem k0_off704_inb : ∀ (v325 : BitVec 32) (k0_hw124 : k0_chk124 v325) (k0_t20 : Fin (k0_t20_loop v325).trips), ∀ a, (k0_off704 v325 k0_t20) a + S1x1.size a ≤ S2x8.size a := fun v325 k0_hw124 k0_t20 => k0_hw124.2.2.2.2.2.2.2.2.2.2.2.2.2.2.2.2.1 k0_t20
theorem k0_off705_inb : ∀ (v325 : BitVec 32) (k0_hw124 : k0_chk124 v325) (k0_t20 : Fin (k0_t20_loop v325).trips), ∀ a, (k0_off705 v325 k0_t20) a + S1x1x16x8x128.size a ≤ S2x8x16x8x128.size a := fun v325 k0_hw124 k0_t20 => k0_hw124.2.2.2.2.2.2.2.2.2.2.2.2.2.2.2.2.2.1 k0_t20
theorem k0_off706_inb : ∀ (v325 : BitVec 32) (k0_hw124 : k0_chk124 v325) (k0_t20 : Fin (k0_t20_loop v325).trips), ∀ a, (k0_off706 v325 k0_t20) a + S1x1.size a ≤ S2x8.size a := fun v325 k0_hw124 k0_t20 => k0_hw124.2.2.2.2.2.2.2.2.2.2.2.2.2.2.2.2.2.2.1 k0_t20
theorem k0_off707_inb : ∀ (v325 : BitVec 32) (k0_hw124 : k0_chk124 v325) (k0_t20 : Fin (k0_t20_loop v325).trips), ∀ a, (k0_off707 v325 k0_t20) a + S1x1x16x8x128.size a ≤ S2x8x16x8x128.size a := fun v325 k0_hw124 k0_t20 => k0_hw124.2.2.2.2.2.2.2.2.2.2.2.2.2.2.2.2.2.2.2.1 k0_t20
theorem k0_off708_inb : ∀ (v325 : BitVec 32) (k0_hw124 : k0_chk124 v325) (k0_t20 : Fin (k0_t20_loop v325).trips), ∀ a, (k0_off708 v325 k0_t20) a + S1x1.size a ≤ S2x8.size a := fun v325 k0_hw124 k0_t20 => k0_hw124.2.2.2.2.2.2.2.2.2.2.2.2.2.2.2.2.2.2.2.2.1 k0_t20
theorem k0_off709_inb : ∀ (v325 : BitVec 32) (k0_hw124 : k0_chk124 v325) (k0_t20 : Fin (k0_t20_loop v325).trips), ∀ a, (k0_off709 v325 k0_t20) a + S1x1x16x8x128.size a ≤ S2x8x16x8x128.size a := fun v325 k0_hw124 k0_t20 => k0_hw124.2.2.2.2.2.2.2.2.2.2.2.2.2.2.2.2.2.2.2.2.2.1 k0_t20
theorem k0_off710_inb : ∀ (v325 : BitVec 32) (k0_hw124 : k0_chk124 v325) (k0_t20 : Fin (k0_t20_loop v325).trips), ∀ a, (k0_off710 v325 k0_t20) a + S1x8x16x8x128.size a ≤ S2x8x16x8x128.size a := fun v325 k0_hw124 k0_t20 => k0_hw124.2.2.2.2.2.2.2.2.2.2.2.2.2.2.2.2.2.2.2.2.2.2 k0_t20

@[reducible] def k0_t21_loop (d0 : Dev nD) (v371 : BitVec 32) : Scf.Loop 32 :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v372 : BitVec 32 := Scalar.subi v371 v10
  let c3_i32_220 : BitVec 32 := 3#32
  let v373 : BitVec 32 := Scalar.addi v372 c3_i32_220
  let c0_i32_222 : BitVec 32 := 0#32
  let v375 : BitVec 1 := Scalar.cmpi .sgt v373 c0_i32_222
  let v376 : BitVec 32 := Scalar.extui v375
  let c0_i32_223 : BitVec 32 := 0#32
  let v377 : BitVec 1 := Scalar.cmpi .slt v373 c0_i32_223
  let v378 : BitVec 32 := Scalar.extui v377
  let v379 : BitVec 32 := Scalar.subi v376 v378
  let c4_i32_221 : BitVec 32 := 4#32
  let c0_i32_224 : BitVec 32 := 0#32
  let v380 : BitVec 1 := Scalar.cmpi .sgt c4_i32_221 c0_i32_224
  let v381 : BitVec 32 := Scalar.extui v380
  let c0_i32_225 : BitVec 32 := 0#32
  let v382 : BitVec 1 := Scalar.cmpi .slt c4_i32_221 c0_i32_225
  let v383 : BitVec 32 := Scalar.extui v382
  let v384 : BitVec 32 := Scalar.subi v381 v383
  let v385 : BitVec 1 := Scalar.cmpi .ne v379 v384
  let v386 : BitVec 32 := Scalar.remsi v373 c4_i32_221
  let c0_i32_226 : BitVec 32 := 0#32
  let v387 : BitVec 1 := Scalar.cmpi .ne v386 c0_i32_226
  let v388 : BitVec 1 := Scalar.andi v385 v387
  let v374 : BitVec 32 := Scalar.divsi v373 c4_i32_221
  let c1_i32_227 : BitVec 32 := 1#32
  let v389 : BitVec 32 := Scalar.subi v374 c1_i32_227
  let v390 : BitVec 32 := Scalar.select v388 v389 v374
  let v391 : BitVec 32 := Scalar.subi v390 c0_i32_228
  let c1_i32_230 : BitVec 32 := 1#32
  let v393 : BitVec 32 := Scalar.divsi v391 c1_i32_230
  let v394 : BitVec 32 := Scalar.muli v393 c1_i32_230
  let v395 : BitVec 32 := Scalar.addi c0_i32_228 v394
  let c1_i32_231 : BitVec 32 := 1#32
  ⟨c0_i32_228, v395, c1_i32_231⟩

def k0_off711 (d0 : Dev nD) (v371 : BitVec 32) (k0_t21 : Fin (k0_t21_loop d0 v371).trips) : Fin 2 → Nat :=
  let c5_655 : Index := 5#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_228 : BitVec 32 := 0#32
  let c1_i32_231 : BitVec 32 := 1#32
  let arg17 : BitVec 32 := Scf.iv c0_i32_228 c1_i32_231 k0_t21
  let v866 : BitVec 32 := Scalar.muli c4_i32_654 arg17
  let v867 : BitVec 32 := Scalar.addi v10 v866
  let v868 : Index := Scalar.indexCast v867
  ![5, v868.toNat]
def k0_off712 (arg18 : BitVec 32) : Fin 2 → Nat :=
  let c5_665 : Index := 5#32
  let v893 : Index := Scalar.indexCast arg18
  ![5, v893.toNat]
def k0_cond26 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk142 (d0 : Dev nD) (arg18 : BitVec 32) (v869 : BitVec 32) : Prop :=
  (∀ (k0_h26 : k0_cond26 d0 v869 = 1#1), ∀ a, (k0_off712 arg18) a + S1x1.size a ≤ S8x512.size a)
theorem k0_off712_inb : ∀ (d0 : Dev nD) (arg18 : BitVec 32) (v869 : BitVec 32) (k0_hw142 : k0_chk142 d0 arg18 v869), ∀ (k0_h26 : k0_cond26 d0 v869 = 1#1), ∀ a, (k0_off712 arg18) a + S1x1.size a ≤ S8x512.size a := fun d0 arg18 v869 k0_hw142 k0_h26 => k0_hw142 k0_h26

@[reducible] def k0_t22_loop (d0 : Dev nD) (v371 : BitVec 32) : Scf.Loop 32 :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v372 : BitVec 32 := Scalar.subi v371 v10
  let c3_i32_220 : BitVec 32 := 3#32
  let v373 : BitVec 32 := Scalar.addi v372 c3_i32_220
  let c0_i32_222 : BitVec 32 := 0#32
  let v375 : BitVec 1 := Scalar.cmpi .sgt v373 c0_i32_222
  let v376 : BitVec 32 := Scalar.extui v375
  let c0_i32_223 : BitVec 32 := 0#32
  let v377 : BitVec 1 := Scalar.cmpi .slt v373 c0_i32_223
  let v378 : BitVec 32 := Scalar.extui v377
  let v379 : BitVec 32 := Scalar.subi v376 v378
  let c4_i32_221 : BitVec 32 := 4#32
  let c0_i32_224 : BitVec 32 := 0#32
  let v380 : BitVec 1 := Scalar.cmpi .sgt c4_i32_221 c0_i32_224
  let v381 : BitVec 32 := Scalar.extui v380
  let c0_i32_225 : BitVec 32 := 0#32
  let v382 : BitVec 1 := Scalar.cmpi .slt c4_i32_221 c0_i32_225
  let v383 : BitVec 32 := Scalar.extui v382
  let v384 : BitVec 32 := Scalar.subi v381 v383
  let v385 : BitVec 1 := Scalar.cmpi .ne v379 v384
  let v386 : BitVec 32 := Scalar.remsi v373 c4_i32_221
  let c0_i32_226 : BitVec 32 := 0#32
  let v387 : BitVec 1 := Scalar.cmpi .ne v386 c0_i32_226
  let v388 : BitVec 1 := Scalar.andi v385 v387
  let v374 : BitVec 32 := Scalar.divsi v373 c4_i32_221
  let c1_i32_227 : BitVec 32 := 1#32
  let v389 : BitVec 32 := Scalar.subi v374 c1_i32_227
  let v390 : BitVec 32 := Scalar.select v388 v389 v374
  let v391 : BitVec 32 := Scalar.subi v390 c0_i32_228
  let c1_i32_230 : BitVec 32 := 1#32
  let v393 : BitVec 32 := Scalar.divsi v391 c1_i32_230
  let v394 : BitVec 32 := Scalar.muli v393 c1_i32_230
  let v395 : BitVec 32 := Scalar.addi c0_i32_228 v394
  let v392 : BitVec 32 := Scalar.addi c0_i32_228 v391
  let c1_i32_232 : BitVec 32 := 1#32
  ⟨v395, v392, c1_i32_232⟩
def k0_off713 (d0 : Dev nD) (v371 : BitVec 32) (k0_t22 : Fin (k0_t22_loop d0 v371).trips) : Fin 2 → Nat :=
  let c5_655 : Index := 5#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_228 : BitVec 32 := 0#32
  let v372 : BitVec 32 := Scalar.subi v371 v10
  let c3_i32_220 : BitVec 32 := 3#32
  let v373 : BitVec 32 := Scalar.addi v372 c3_i32_220
  let c0_i32_222 : BitVec 32 := 0#32
  let v375 : BitVec 1 := Scalar.cmpi .sgt v373 c0_i32_222
  let v376 : BitVec 32 := Scalar.extui v375
  let c0_i32_223 : BitVec 32 := 0#32
  let v377 : BitVec 1 := Scalar.cmpi .slt v373 c0_i32_223
  let v378 : BitVec 32 := Scalar.extui v377
  let v379 : BitVec 32 := Scalar.subi v376 v378
  let c4_i32_221 : BitVec 32 := 4#32
  let c0_i32_224 : BitVec 32 := 0#32
  let v380 : BitVec 1 := Scalar.cmpi .sgt c4_i32_221 c0_i32_224
  let v381 : BitVec 32 := Scalar.extui v380
  let c0_i32_225 : BitVec 32 := 0#32
  let v382 : BitVec 1 := Scalar.cmpi .slt c4_i32_221 c0_i32_225
  let v383 : BitVec 32 := Scalar.extui v382
  let v384 : BitVec 32 := Scalar.subi v381 v383
  let v385 : BitVec 1 := Scalar.cmpi .ne v379 v384
  let v386 : BitVec 32 := Scalar.remsi v373 c4_i32_221
  let c0_i32_226 : BitVec 32 := 0#32
  let v387 : BitVec 1 := Scalar.cmpi .ne v386 c0_i32_226
  let v388 : BitVec 1 := Scalar.andi v385 v387
  let v374 : BitVec 32 := Scalar.divsi v373 c4_i32_221
  let c1_i32_227 : BitVec 32 := 1#32
  let v389 : BitVec 32 := Scalar.subi v374 c1_i32_227
  let v390 : BitVec 32 := Scalar.select v388 v389 v374
  let v391 : BitVec 32 := Scalar.subi v390 c0_i32_228
  let c1_i32_230 : BitVec 32 := 1#32
  let v393 : BitVec 32 := Scalar.divsi v391 c1_i32_230
  let v394 : BitVec 32 := Scalar.muli v393 c1_i32_230
  let v395 : BitVec 32 := Scalar.addi c0_i32_228 v394
  let c1_i32_232 : BitVec 32 := 1#32
  let arg17 : BitVec 32 := Scf.iv v395 c1_i32_232 k0_t22
  let v866 : BitVec 32 := Scalar.muli c4_i32_654 arg17
  let v867 : BitVec 32 := Scalar.addi v10 v866
  let v868 : Index := Scalar.indexCast v867
  ![5, v868.toNat]

def k0_chk141 (d0 : Dev nD) (v371 : BitVec 32) : Prop :=
  ((k0_t21_loop d0 v371).OK) ∧
  (∀ k0_t21 : Fin (k0_t21_loop d0 v371).trips, ∀ a, (k0_off711 d0 v371 k0_t21) a + S1x1.size a ≤ S8x512.size a) ∧
  ((k0_t22_loop d0 v371).OK) ∧
  (∀ k0_t22 : Fin (k0_t22_loop d0 v371).trips, ∀ a, (k0_off713 d0 v371 k0_t22) a + S1x1.size a ≤ S8x512.size a)
theorem k0_t21_ok : ∀ (d0 : Dev nD) (v371 : BitVec 32) (k0_hw141 : k0_chk141 d0 v371), (k0_t21_loop d0 v371).OK := fun d0 v371 k0_hw141 => k0_hw141.1
theorem k0_off711_inb : ∀ (d0 : Dev nD) (v371 : BitVec 32) (k0_hw141 : k0_chk141 d0 v371) (k0_t21 : Fin (k0_t21_loop d0 v371).trips), ∀ a, (k0_off711 d0 v371 k0_t21) a + S1x1.size a ≤ S8x512.size a := fun d0 v371 k0_hw141 k0_t21 => k0_hw141.2.1 k0_t21
theorem k0_t22_ok : ∀ (d0 : Dev nD) (v371 : BitVec 32) (k0_hw141 : k0_chk141 d0 v371), (k0_t22_loop d0 v371).OK := fun d0 v371 k0_hw141 => k0_hw141.2.2.1
theorem k0_off713_inb : ∀ (d0 : Dev nD) (v371 : BitVec 32) (k0_hw141 : k0_chk141 d0 v371) (k0_t22 : Fin (k0_t22_loop d0 v371).trips), ∀ a, (k0_off713 d0 v371 k0_t22) a + S1x1.size a ≤ S8x512.size a := fun d0 v371 k0_hw141 k0_t22 => k0_hw141.2.2.2 k0_t22

def k0_off714 (arg18 : BitVec 32) : Fin 2 → Nat :=
  let c5_665 : Index := 5#32
  let v893 : Index := Scalar.indexCast arg18
  ![5, v893.toNat]
def k0_cond27 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk143 (d0 : Dev nD) (arg18 : BitVec 32) (v869 : BitVec 32) : Prop :=
  (∀ (k0_h27 : k0_cond27 d0 v869 = 1#1), ∀ a, (k0_off714 arg18) a + S1x1.size a ≤ S8x512.size a)
theorem k0_off714_inb : ∀ (d0 : Dev nD) (arg18 : BitVec 32) (v869 : BitVec 32) (k0_hw143 : k0_chk143 d0 arg18 v869), ∀ (k0_h27 : k0_cond27 d0 v869 = 1#1), ∀ a, (k0_off714 arg18) a + S1x1.size a ≤ S8x512.size a := fun d0 arg18 v869 k0_hw143 k0_h27 => k0_hw143 k0_h27

def k0_off715 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond28 (v397 : BitVec 32) : BitVec 1 :=
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let c0_i32_246 : BitVec 32 := 0#32
  let v419 : BitVec 1 := Scalar.cmpi .sgt v416 c0_i32_246
  let v420 : BitVec 32 := Scalar.extui v419
  let c0_i32_247 : BitVec 32 := 0#32
  let v421 : BitVec 1 := Scalar.cmpi .ne v420 c0_i32_247
  v421

def k0_chk144 (v397 : BitVec 32) (v866 : BitVec 32) : Prop :=
  (∀ (k0_h28 : k0_cond28 v397 = 1#1), ∀ a, (k0_off715 v866) a + S1x16x8x128.size a ≤ S512x16x8x128.size a)
theorem k0_off715_inb : ∀ (v397 : BitVec 32) (v866 : BitVec 32) (k0_hw144 : k0_chk144 v397 v866), ∀ (k0_h28 : k0_cond28 v397 = 1#1), ∀ a, (k0_off715 v866) a + S1x16x8x128.size a ≤ S512x16x8x128.size a := fun v397 v866 k0_hw144 k0_h28 => k0_hw144 k0_h28

def k0_off716 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk145 (v397 : BitVec 32) (v880 : BitVec 32) : Prop :=
  (∀ (k0_h28 : k0_cond28 v397 = 1#1), ∀ a, (k0_off716 v880) a + S1x16x8x128.size a ≤ S512x16x8x128.size a)
theorem k0_off716_inb : ∀ (v397 : BitVec 32) (v880 : BitVec 32) (k0_hw145 : k0_chk145 v397 v880), ∀ (k0_h28 : k0_cond28 v397 = 1#1), ∀ a, (k0_off716 v880) a + S1x16x8x128.size a ≤ S512x16x8x128.size a := fun v397 v880 k0_hw145 k0_h28 => k0_hw145 k0_h28

def k0_off717 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk146 (v397 : BitVec 32) (v894 : BitVec 32) : Prop :=
  (∀ (k0_h28 : k0_cond28 v397 = 1#1), ∀ a, (k0_off717 v894) a + S1x16x8x128.size a ≤ S512x16x8x128.size a)
theorem k0_off717_inb : ∀ (v397 : BitVec 32) (v894 : BitVec 32) (k0_hw146 : k0_chk146 v397 v894), ∀ (k0_h28 : k0_cond28 v397 = 1#1), ∀ a, (k0_off717 v894) a + S1x16x8x128.size a ≤ S512x16x8x128.size a := fun v397 v894 k0_hw146 k0_h28 => k0_hw146 k0_h28

def k0_off718 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk147 (v397 : BitVec 32) (v908 : BitVec 32) : Prop :=
  (∀ (k0_h28 : k0_cond28 v397 = 1#1), ∀ a, (k0_off718 v908) a + S1x16x8x128.size a ≤ S512x16x8x128.size a)
theorem k0_off718_inb : ∀ (v397 : BitVec 32) (v908 : BitVec 32) (k0_hw147 : k0_chk147 v397 v908), ∀ (k0_h28 : k0_cond28 v397 = 1#1), ∀ a, (k0_off718 v908) a + S1x16x8x128.size a ≤ S512x16x8x128.size a := fun v397 v908 k0_hw147 k0_h28 => k0_hw147 k0_h28

def k0_off719 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk148 (v397 : BitVec 32) (v922 : BitVec 32) : Prop :=
  (∀ (k0_h28 : k0_cond28 v397 = 1#1), ∀ a, (k0_off719 v922) a + S1x16x8x128.size a ≤ S512x16x8x128.size a)
theorem k0_off719_inb : ∀ (v397 : BitVec 32) (v922 : BitVec 32) (k0_hw148 : k0_chk148 v397 v922), ∀ (k0_h28 : k0_cond28 v397 = 1#1), ∀ a, (k0_off719 v922) a + S1x16x8x128.size a ≤ S512x16x8x128.size a := fun v397 v922 k0_hw148 k0_h28 => k0_hw148 k0_h28

def k0_off720 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk149 (v397 : BitVec 32) (v936 : BitVec 32) : Prop :=
  (∀ (k0_h28 : k0_cond28 v397 = 1#1), ∀ a, (k0_off720 v936) a + S1x16x8x128.size a ≤ S512x16x8x128.size a)
theorem k0_off720_inb : ∀ (v397 : BitVec 32) (v936 : BitVec 32) (k0_hw149 : k0_chk149 v397 v936), ∀ (k0_h28 : k0_cond28 v397 = 1#1), ∀ a, (k0_off720 v936) a + S1x16x8x128.size a ≤ S512x16x8x128.size a := fun v397 v936 k0_hw149 k0_h28 => k0_hw149 k0_h28

def k0_off721 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk150 (v397 : BitVec 32) (v950 : BitVec 32) : Prop :=
  (∀ (k0_h28 : k0_cond28 v397 = 1#1), ∀ a, (k0_off721 v950) a + S1x16x8x128.size a ≤ S512x16x8x128.size a)
theorem k0_off721_inb : ∀ (v397 : BitVec 32) (v950 : BitVec 32) (k0_hw150 : k0_chk150 v397 v950), ∀ (k0_h28 : k0_cond28 v397 = 1#1), ∀ a, (k0_off721 v950) a + S1x16x8x128.size a ≤ S512x16x8x128.size a := fun v397 v950 k0_hw150 k0_h28 => k0_hw150 k0_h28

def k0_off722 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk151 (v397 : BitVec 32) (v964 : BitVec 32) : Prop :=
  (∀ (k0_h28 : k0_cond28 v397 = 1#1), ∀ a, (k0_off722 v964) a + S1x16x8x128.size a ≤ S512x16x8x128.size a)
theorem k0_off722_inb : ∀ (v397 : BitVec 32) (v964 : BitVec 32) (k0_hw151 : k0_chk151 v397 v964), ∀ (k0_h28 : k0_cond28 v397 = 1#1), ∀ a, (k0_off722 v964) a + S1x16x8x128.size a ≤ S512x16x8x128.size a := fun v397 v964 k0_hw151 k0_h28 => k0_hw151 k0_h28

@[reducible] def k0_t23_loop (v397 : BitVec 32) : Scf.Loop 32 :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_253 : BitVec 32 := 1#32
  ⟨c0_i32_251, v429, c1_i32_253⟩

def k0_off723 (v397 : BitVec 32) (k0_t23 : Fin (k0_t23_loop v397).trips) : Fin 2 → Nat :=
  let c5_824 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![5, v1033.toNat]
def k0_cond29 (v397 : BitVec 32) (k0_t23 : Fin (k0_t23_loop v397).trips) : BitVec 1 :=
  let c0_i32_251 : BitVec 32 := 0#32
  let c1_i32_253 : BitVec 32 := 1#32
  let arg17 : BitVec 32 := Scf.iv c0_i32_251 c1_i32_253 k0_t23
  let c1_i32_655 : BitVec 32 := 1#32
  let v867 : BitVec 32 := Scalar.addi arg17 c1_i32_655
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v868 : BitVec 1 := Scalar.cmpi .slt v867 v416
  let v869 : BitVec 32 := Scalar.extui v868
  let c0_i32_656 : BitVec 32 := 0#32
  let v870 : BitVec 1 := Scalar.cmpi .ne v869 c0_i32_656
  v870

def k0_off724 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off725 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off726 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk153 (v397 : BitVec 32) (k0_t23 : Fin (k0_t23_loop v397).trips) (v1034 : BitVec 32) : Prop :=
  (∀ (k0_h29 : k0_cond29 v397 k0_t23 = 1#1), ∀ a, (k0_off726 v1034) a + S1x16x8x128.size a ≤ S512x16x8x128.size a)
theorem k0_off726_inb : ∀ (v397 : BitVec 32) (k0_t23 : Fin (k0_t23_loop v397).trips) (v1034 : BitVec 32) (k0_hw153 : k0_chk153 v397 k0_t23 v1034), ∀ (k0_h29 : k0_cond29 v397 k0_t23 = 1#1), ∀ a, (k0_off726 v1034) a + S1x16x8x128.size a ≤ S512x16x8x128.size a := fun v397 k0_t23 v1034 k0_hw153 k0_h29 => k0_hw153 k0_h29

def k0_off727 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off728 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off729 (v397 : BitVec 32) (k0_t23 : Fin (k0_t23_loop v397).trips) : Fin 2 → Nat :=
  let c5_843 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![5, v1050.toNat]
def k0_off730 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off731 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off732 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk154 (v397 : BitVec 32) (k0_t23 : Fin (k0_t23_loop v397).trips) (v1051 : BitVec 32) : Prop :=
  (∀ (k0_h29 : k0_cond29 v397 k0_t23 = 1#1), ∀ a, (k0_off732 v1051) a + S1x16x8x128.size a ≤ S512x16x8x128.size a)
theorem k0_off732_inb : ∀ (v397 : BitVec 32) (k0_t23 : Fin (k0_t23_loop v397).trips) (v1051 : BitVec 32) (k0_hw154 : k0_chk154 v397 k0_t23 v1051), ∀ (k0_h29 : k0_cond29 v397 k0_t23 = 1#1), ∀ a, (k0_off732 v1051) a + S1x16x8x128.size a ≤ S512x16x8x128.size a := fun v397 k0_t23 v1051 k0_hw154 k0_h29 => k0_hw154 k0_h29

def k0_off733 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off734 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off735 (v397 : BitVec 32) (k0_t23 : Fin (k0_t23_loop v397).trips) : Fin 2 → Nat :=
  let c5_863 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![5, v1067.toNat]
def k0_off736 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off737 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off738 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk155 (v397 : BitVec 32) (k0_t23 : Fin (k0_t23_loop v397).trips) (v1068 : BitVec 32) : Prop :=
  (∀ (k0_h29 : k0_cond29 v397 k0_t23 = 1#1), ∀ a, (k0_off738 v1068) a + S1x16x8x128.size a ≤ S512x16x8x128.size a)
theorem k0_off738_inb : ∀ (v397 : BitVec 32) (k0_t23 : Fin (k0_t23_loop v397).trips) (v1068 : BitVec 32) (k0_hw155 : k0_chk155 v397 k0_t23 v1068), ∀ (k0_h29 : k0_cond29 v397 k0_t23 = 1#1), ∀ a, (k0_off738 v1068) a + S1x16x8x128.size a ≤ S512x16x8x128.size a := fun v397 k0_t23 v1068 k0_hw155 k0_h29 => k0_hw155 k0_h29

def k0_off739 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off740 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off741 (v397 : BitVec 32) (k0_t23 : Fin (k0_t23_loop v397).trips) : Fin 2 → Nat :=
  let c5_883 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![5, v1084.toNat]
def k0_off742 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off743 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off744 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk156 (v397 : BitVec 32) (k0_t23 : Fin (k0_t23_loop v397).trips) (v1085 : BitVec 32) : Prop :=
  (∀ (k0_h29 : k0_cond29 v397 k0_t23 = 1#1), ∀ a, (k0_off744 v1085) a + S1x16x8x128.size a ≤ S512x16x8x128.size a)
theorem k0_off744_inb : ∀ (v397 : BitVec 32) (k0_t23 : Fin (k0_t23_loop v397).trips) (v1085 : BitVec 32) (k0_hw156 : k0_chk156 v397 k0_t23 v1085), ∀ (k0_h29 : k0_cond29 v397 k0_t23 = 1#1), ∀ a, (k0_off744 v1085) a + S1x16x8x128.size a ≤ S512x16x8x128.size a := fun v397 k0_t23 v1085 k0_hw156 k0_h29 => k0_hw156 k0_h29

def k0_off745 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off746 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off747 (v397 : BitVec 32) (k0_t23 : Fin (k0_t23_loop v397).trips) : Fin 2 → Nat :=
  let c5_903 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![5, v1101.toNat]
def k0_off748 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off749 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off750 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk157 (v397 : BitVec 32) (k0_t23 : Fin (k0_t23_loop v397).trips) (v1102 : BitVec 32) : Prop :=
  (∀ (k0_h29 : k0_cond29 v397 k0_t23 = 1#1), ∀ a, (k0_off750 v1102) a + S1x16x8x128.size a ≤ S512x16x8x128.size a)
theorem k0_off750_inb : ∀ (v397 : BitVec 32) (k0_t23 : Fin (k0_t23_loop v397).trips) (v1102 : BitVec 32) (k0_hw157 : k0_chk157 v397 k0_t23 v1102), ∀ (k0_h29 : k0_cond29 v397 k0_t23 = 1#1), ∀ a, (k0_off750 v1102) a + S1x16x8x128.size a ≤ S512x16x8x128.size a := fun v397 k0_t23 v1102 k0_hw157 k0_h29 => k0_hw157 k0_h29

def k0_off751 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off752 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off753 (v397 : BitVec 32) (k0_t23 : Fin (k0_t23_loop v397).trips) : Fin 2 → Nat :=
  let c5_923 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![5, v1118.toNat]
def k0_off754 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off755 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off756 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk158 (v397 : BitVec 32) (k0_t23 : Fin (k0_t23_loop v397).trips) (v1119 : BitVec 32) : Prop :=
  (∀ (k0_h29 : k0_cond29 v397 k0_t23 = 1#1), ∀ a, (k0_off756 v1119) a + S1x16x8x128.size a ≤ S512x16x8x128.size a)
theorem k0_off756_inb : ∀ (v397 : BitVec 32) (k0_t23 : Fin (k0_t23_loop v397).trips) (v1119 : BitVec 32) (k0_hw158 : k0_chk158 v397 k0_t23 v1119), ∀ (k0_h29 : k0_cond29 v397 k0_t23 = 1#1), ∀ a, (k0_off756 v1119) a + S1x16x8x128.size a ≤ S512x16x8x128.size a := fun v397 k0_t23 v1119 k0_hw158 k0_h29 => k0_hw158 k0_h29

def k0_off757 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off758 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off759 (v397 : BitVec 32) (k0_t23 : Fin (k0_t23_loop v397).trips) : Fin 2 → Nat :=
  let c5_943 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![5, v1135.toNat]
def k0_off760 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off761 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off762 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk159 (v397 : BitVec 32) (k0_t23 : Fin (k0_t23_loop v397).trips) (v1136 : BitVec 32) : Prop :=
  (∀ (k0_h29 : k0_cond29 v397 k0_t23 = 1#1), ∀ a, (k0_off762 v1136) a + S1x16x8x128.size a ≤ S512x16x8x128.size a)
theorem k0_off762_inb : ∀ (v397 : BitVec 32) (k0_t23 : Fin (k0_t23_loop v397).trips) (v1136 : BitVec 32) (k0_hw159 : k0_chk159 v397 k0_t23 v1136), ∀ (k0_h29 : k0_cond29 v397 k0_t23 = 1#1), ∀ a, (k0_off762 v1136) a + S1x16x8x128.size a ≤ S512x16x8x128.size a := fun v397 k0_t23 v1136 k0_hw159 k0_h29 => k0_hw159 k0_h29

def k0_off763 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off764 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off765 (v397 : BitVec 32) (k0_t23 : Fin (k0_t23_loop v397).trips) : Fin 2 → Nat :=
  let c5_963 : Index := 5#32
  let c0_i32_251 : BitVec 32 := 0#32
  let c1_i32_253 : BitVec 32 := 1#32
  let arg17 : BitVec 32 := Scf.iv c0_i32_251 c1_i32_253 k0_t23
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![5, v1152.toNat]
def k0_off766 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off767 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off768 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk160 (v397 : BitVec 32) (k0_t23 : Fin (k0_t23_loop v397).trips) (v1153 : BitVec 32) : Prop :=
  (∀ (k0_h29 : k0_cond29 v397 k0_t23 = 1#1), ∀ a, (k0_off768 v1153) a + S1x16x8x128.size a ≤ S512x16x8x128.size a)
theorem k0_off768_inb : ∀ (v397 : BitVec 32) (k0_t23 : Fin (k0_t23_loop v397).trips) (v1153 : BitVec 32) (k0_hw160 : k0_chk160 v397 k0_t23 v1153), ∀ (k0_h29 : k0_cond29 v397 k0_t23 = 1#1), ∀ a, (k0_off768 v1153) a + S1x16x8x128.size a ≤ S512x16x8x128.size a := fun v397 k0_t23 v1153 k0_hw160 k0_h29 => k0_hw160 k0_h29

def k0_off769 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off770 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off771 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c0_i32_659 : BitVec 32 := 0#32
  ![v866.toNat, 0]
def k0_off772 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off773 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c1_i32_677 : BitVec 32 := 1#32
  ![v866.toNat, 1]
def k0_off774 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off775 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c2_i32_695 : BitVec 32 := 2#32
  ![v866.toNat, 2]
def k0_off776 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off777 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c3_i32_713 : BitVec 32 := 3#32
  ![v866.toNat, 3]
def k0_off778 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off779 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c4_i32_731 : BitVec 32 := 4#32
  ![v866.toNat, 4]
def k0_off780 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off781 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c5_i32_748 : BitVec 32 := 5#32
  ![v866.toNat, 5]
def k0_off782 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off783 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c6_i32_765 : BitVec 32 := 6#32
  ![v866.toNat, 6]
def k0_off784 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off785 (v397 : BitVec 32) (k0_t23 : Fin (k0_t23_loop v397).trips) : Fin 2 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c7_i32_782 : BitVec 32 := 7#32
  ![v866.toNat, 7]
def k0_off786 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off787 (v397 : BitVec 32) (k0_t23 : Fin (k0_t23_loop v397).trips) : Fin 5 → Nat :=
  let c0_i32_251 : BitVec 32 := 0#32
  let c1_i32_253 : BitVec 32 := 1#32
  let arg17 : BitVec 32 := Scf.iv c0_i32_251 c1_i32_253 k0_t23
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t24_loop (v397 : BitVec 32) : Scf.Loop 32 :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let v426 : BitVec 32 := Scalar.addi c0_i32_251 v425
  let c1_i32_254 : BitVec 32 := 1#32
  ⟨v429, v426, c1_i32_254⟩
def k0_off788 (v397 : BitVec 32) (k0_t24 : Fin (k0_t24_loop v397).trips) : Fin 2 → Nat :=
  let c5_824 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![5, v1033.toNat]
def k0_cond30 (v397 : BitVec 32) (k0_t24 : Fin (k0_t24_loop v397).trips) : BitVec 1 :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_655 : BitVec 32 := 1#32
  let v867 : BitVec 32 := Scalar.addi arg17 c1_i32_655
  let v868 : BitVec 1 := Scalar.cmpi .slt v867 v416
  let v869 : BitVec 32 := Scalar.extui v868
  let c0_i32_656 : BitVec 32 := 0#32
  let v870 : BitVec 1 := Scalar.cmpi .ne v869 c0_i32_656
  v870

def k0_off789 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off790 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off791 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk161 (v397 : BitVec 32) (k0_t24 : Fin (k0_t24_loop v397).trips) (v1034 : BitVec 32) : Prop :=
  (∀ (k0_h30 : k0_cond30 v397 k0_t24 = 1#1), ∀ a, (k0_off791 v1034) a + S1x16x8x128.size a ≤ S512x16x8x128.size a)
theorem k0_off791_inb : ∀ (v397 : BitVec 32) (k0_t24 : Fin (k0_t24_loop v397).trips) (v1034 : BitVec 32) (k0_hw161 : k0_chk161 v397 k0_t24 v1034), ∀ (k0_h30 : k0_cond30 v397 k0_t24 = 1#1), ∀ a, (k0_off791 v1034) a + S1x16x8x128.size a ≤ S512x16x8x128.size a := fun v397 k0_t24 v1034 k0_hw161 k0_h30 => k0_hw161 k0_h30

def k0_off792 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off793 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off794 (v397 : BitVec 32) (k0_t24 : Fin (k0_t24_loop v397).trips) : Fin 2 → Nat :=
  let c5_843 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![5, v1050.toNat]
def k0_off795 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off796 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off797 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk162 (v397 : BitVec 32) (k0_t24 : Fin (k0_t24_loop v397).trips) (v1051 : BitVec 32) : Prop :=
  (∀ (k0_h30 : k0_cond30 v397 k0_t24 = 1#1), ∀ a, (k0_off797 v1051) a + S1x16x8x128.size a ≤ S512x16x8x128.size a)
theorem k0_off797_inb : ∀ (v397 : BitVec 32) (k0_t24 : Fin (k0_t24_loop v397).trips) (v1051 : BitVec 32) (k0_hw162 : k0_chk162 v397 k0_t24 v1051), ∀ (k0_h30 : k0_cond30 v397 k0_t24 = 1#1), ∀ a, (k0_off797 v1051) a + S1x16x8x128.size a ≤ S512x16x8x128.size a := fun v397 k0_t24 v1051 k0_hw162 k0_h30 => k0_hw162 k0_h30

def k0_off798 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off799 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off800 (v397 : BitVec 32) (k0_t24 : Fin (k0_t24_loop v397).trips) : Fin 2 → Nat :=
  let c5_863 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![5, v1067.toNat]
def k0_off801 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off802 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off803 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk163 (v397 : BitVec 32) (k0_t24 : Fin (k0_t24_loop v397).trips) (v1068 : BitVec 32) : Prop :=
  (∀ (k0_h30 : k0_cond30 v397 k0_t24 = 1#1), ∀ a, (k0_off803 v1068) a + S1x16x8x128.size a ≤ S512x16x8x128.size a)
theorem k0_off803_inb : ∀ (v397 : BitVec 32) (k0_t24 : Fin (k0_t24_loop v397).trips) (v1068 : BitVec 32) (k0_hw163 : k0_chk163 v397 k0_t24 v1068), ∀ (k0_h30 : k0_cond30 v397 k0_t24 = 1#1), ∀ a, (k0_off803 v1068) a + S1x16x8x128.size a ≤ S512x16x8x128.size a := fun v397 k0_t24 v1068 k0_hw163 k0_h30 => k0_hw163 k0_h30

def k0_off804 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off805 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off806 (v397 : BitVec 32) (k0_t24 : Fin (k0_t24_loop v397).trips) : Fin 2 → Nat :=
  let c5_883 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![5, v1084.toNat]
def k0_off807 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off808 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off809 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk164 (v397 : BitVec 32) (k0_t24 : Fin (k0_t24_loop v397).trips) (v1085 : BitVec 32) : Prop :=
  (∀ (k0_h30 : k0_cond30 v397 k0_t24 = 1#1), ∀ a, (k0_off809 v1085) a + S1x16x8x128.size a ≤ S512x16x8x128.size a)
theorem k0_off809_inb : ∀ (v397 : BitVec 32) (k0_t24 : Fin (k0_t24_loop v397).trips) (v1085 : BitVec 32) (k0_hw164 : k0_chk164 v397 k0_t24 v1085), ∀ (k0_h30 : k0_cond30 v397 k0_t24 = 1#1), ∀ a, (k0_off809 v1085) a + S1x16x8x128.size a ≤ S512x16x8x128.size a := fun v397 k0_t24 v1085 k0_hw164 k0_h30 => k0_hw164 k0_h30

def k0_off810 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off811 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off812 (v397 : BitVec 32) (k0_t24 : Fin (k0_t24_loop v397).trips) : Fin 2 → Nat :=
  let c5_903 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![5, v1101.toNat]
def k0_off813 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off814 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off815 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk165 (v397 : BitVec 32) (k0_t24 : Fin (k0_t24_loop v397).trips) (v1102 : BitVec 32) : Prop :=
  (∀ (k0_h30 : k0_cond30 v397 k0_t24 = 1#1), ∀ a, (k0_off815 v1102) a + S1x16x8x128.size a ≤ S512x16x8x128.size a)
theorem k0_off815_inb : ∀ (v397 : BitVec 32) (k0_t24 : Fin (k0_t24_loop v397).trips) (v1102 : BitVec 32) (k0_hw165 : k0_chk165 v397 k0_t24 v1102), ∀ (k0_h30 : k0_cond30 v397 k0_t24 = 1#1), ∀ a, (k0_off815 v1102) a + S1x16x8x128.size a ≤ S512x16x8x128.size a := fun v397 k0_t24 v1102 k0_hw165 k0_h30 => k0_hw165 k0_h30

def k0_off816 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off817 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off818 (v397 : BitVec 32) (k0_t24 : Fin (k0_t24_loop v397).trips) : Fin 2 → Nat :=
  let c5_923 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![5, v1118.toNat]
def k0_off819 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off820 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off821 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk166 (v397 : BitVec 32) (k0_t24 : Fin (k0_t24_loop v397).trips) (v1119 : BitVec 32) : Prop :=
  (∀ (k0_h30 : k0_cond30 v397 k0_t24 = 1#1), ∀ a, (k0_off821 v1119) a + S1x16x8x128.size a ≤ S512x16x8x128.size a)
theorem k0_off821_inb : ∀ (v397 : BitVec 32) (k0_t24 : Fin (k0_t24_loop v397).trips) (v1119 : BitVec 32) (k0_hw166 : k0_chk166 v397 k0_t24 v1119), ∀ (k0_h30 : k0_cond30 v397 k0_t24 = 1#1), ∀ a, (k0_off821 v1119) a + S1x16x8x128.size a ≤ S512x16x8x128.size a := fun v397 k0_t24 v1119 k0_hw166 k0_h30 => k0_hw166 k0_h30

def k0_off822 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off823 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off824 (v397 : BitVec 32) (k0_t24 : Fin (k0_t24_loop v397).trips) : Fin 2 → Nat :=
  let c5_943 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![5, v1135.toNat]
def k0_off825 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off826 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off827 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk167 (v397 : BitVec 32) (k0_t24 : Fin (k0_t24_loop v397).trips) (v1136 : BitVec 32) : Prop :=
  (∀ (k0_h30 : k0_cond30 v397 k0_t24 = 1#1), ∀ a, (k0_off827 v1136) a + S1x16x8x128.size a ≤ S512x16x8x128.size a)
theorem k0_off827_inb : ∀ (v397 : BitVec 32) (k0_t24 : Fin (k0_t24_loop v397).trips) (v1136 : BitVec 32) (k0_hw167 : k0_chk167 v397 k0_t24 v1136), ∀ (k0_h30 : k0_cond30 v397 k0_t24 = 1#1), ∀ a, (k0_off827 v1136) a + S1x16x8x128.size a ≤ S512x16x8x128.size a := fun v397 k0_t24 v1136 k0_hw167 k0_h30 => k0_hw167 k0_h30

def k0_off828 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off829 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off830 (v397 : BitVec 32) (k0_t24 : Fin (k0_t24_loop v397).trips) : Fin 2 → Nat :=
  let c5_963 : Index := 5#32
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![5, v1152.toNat]
def k0_off831 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off832 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off833 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk168 (v397 : BitVec 32) (k0_t24 : Fin (k0_t24_loop v397).trips) (v1153 : BitVec 32) : Prop :=
  (∀ (k0_h30 : k0_cond30 v397 k0_t24 = 1#1), ∀ a, (k0_off833 v1153) a + S1x16x8x128.size a ≤ S512x16x8x128.size a)
theorem k0_off833_inb : ∀ (v397 : BitVec 32) (k0_t24 : Fin (k0_t24_loop v397).trips) (v1153 : BitVec 32) (k0_hw168 : k0_chk168 v397 k0_t24 v1153), ∀ (k0_h30 : k0_cond30 v397 k0_t24 = 1#1), ∀ a, (k0_off833 v1153) a + S1x16x8x128.size a ≤ S512x16x8x128.size a := fun v397 k0_t24 v1153 k0_hw168 k0_h30 => k0_hw168 k0_h30

def k0_off834 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off835 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off836 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c0_i32_659 : BitVec 32 := 0#32
  ![v866.toNat, 0]
def k0_off837 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off838 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c1_i32_677 : BitVec 32 := 1#32
  ![v866.toNat, 1]
def k0_off839 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off840 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c2_i32_695 : BitVec 32 := 2#32
  ![v866.toNat, 2]
def k0_off841 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off842 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c3_i32_713 : BitVec 32 := 3#32
  ![v866.toNat, 3]
def k0_off843 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off844 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c4_i32_731 : BitVec 32 := 4#32
  ![v866.toNat, 4]
def k0_off845 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off846 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c5_i32_748 : BitVec 32 := 5#32
  ![v866.toNat, 5]
def k0_off847 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off848 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c6_i32_765 : BitVec 32 := 6#32
  ![v866.toNat, 6]
def k0_off849 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off850 (v397 : BitVec 32) (k0_t24 : Fin (k0_t24_loop v397).trips) : Fin 2 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c7_i32_782 : BitVec 32 := 7#32
  ![v866.toNat, 7]
def k0_off851 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off852 (v397 : BitVec 32) (k0_t24 : Fin (k0_t24_loop v397).trips) : Fin 5 → Nat :=
  let c0_i32_251 : BitVec 32 := 0#32
  let c8_i32_233 : BitVec 32 := 8#32
  let v398 : BitVec 32 := Scalar.addi v397 c8_i32_233
  let c1_i32_234 : BitVec 32 := 1#32
  let v399 : BitVec 32 := Scalar.subi v398 c1_i32_234
  let c0_i32_236 : BitVec 32 := 0#32
  let v401 : BitVec 1 := Scalar.cmpi .sgt v399 c0_i32_236
  let v402 : BitVec 32 := Scalar.extui v401
  let c0_i32_237 : BitVec 32 := 0#32
  let v403 : BitVec 1 := Scalar.cmpi .slt v399 c0_i32_237
  let v404 : BitVec 32 := Scalar.extui v403
  let v405 : BitVec 32 := Scalar.subi v402 v404
  let c8_i32_235 : BitVec 32 := 8#32
  let c0_i32_238 : BitVec 32 := 0#32
  let v406 : BitVec 1 := Scalar.cmpi .sgt c8_i32_235 c0_i32_238
  let v407 : BitVec 32 := Scalar.extui v406
  let c0_i32_239 : BitVec 32 := 0#32
  let v408 : BitVec 1 := Scalar.cmpi .slt c8_i32_235 c0_i32_239
  let v409 : BitVec 32 := Scalar.extui v408
  let v410 : BitVec 32 := Scalar.subi v407 v409
  let v411 : BitVec 1 := Scalar.cmpi .ne v405 v410
  let v412 : BitVec 32 := Scalar.remsi v399 c8_i32_235
  let c0_i32_240 : BitVec 32 := 0#32
  let v413 : BitVec 1 := Scalar.cmpi .ne v412 c0_i32_240
  let v414 : BitVec 1 := Scalar.andi v411 v413
  let v400 : BitVec 32 := Scalar.divsi v399 c8_i32_235
  let c1_i32_241 : BitVec 32 := 1#32
  let v415 : BitVec 32 := Scalar.subi v400 c1_i32_241
  let v416 : BitVec 32 := Scalar.select v414 v415 v400
  let v425 : BitVec 32 := Scalar.subi v416 c0_i32_251
  let c1_i32_252 : BitVec 32 := 1#32
  let v427 : BitVec 32 := Scalar.divsi v425 c1_i32_252
  let v428 : BitVec 32 := Scalar.muli v427 c1_i32_252
  let v429 : BitVec 32 := Scalar.addi c0_i32_251 v428
  let c1_i32_254 : BitVec 32 := 1#32
  let arg17 : BitVec 32 := Scf.iv v429 c1_i32_254 k0_t24
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk152_0 (v397 : BitVec 32) : Prop :=
  ((k0_t23_loop v397).OK) ∧
  (∀ k0_t23 : Fin (k0_t23_loop v397).trips, ∀ (k0_h29 : k0_cond29 v397 k0_t23 = 1#1), ∀ a, (k0_off723 v397 k0_t23) a + S1x1.size a ≤ S8x512.size a) ∧
  (∀ k0_t23 : Fin (k0_t23_loop v397).trips, ∀ (k0_h29 : k0_cond29 v397 k0_t23 = 1#1), ∀ a, (k0_off724 v397 k0_t23) a + S1x1.size a ≤ S2x8.size a) ∧
  (∀ k0_t23 : Fin (k0_t23_loop v397).trips, ∀ (k0_h29 : k0_cond29 v397 k0_t23 = 1#1), ∀ a, (k0_off725 v397 k0_t23) a + S1x1x16x8x128.size a ≤ S2x8x16x8x128.size a) ∧
  (∀ k0_t23 : Fin (k0_t23_loop v397).trips, ∀ (k0_h29 : k0_cond29 v397 k0_t23 = 1#1), ∀ a, (k0_off727 v397 k0_t23) a + S1x1.size a ≤ S2x8.size a) ∧
  (∀ k0_t23 : Fin (k0_t23_loop v397).trips, ∀ (k0_h29 : k0_cond29 v397 k0_t23 = 1#1), ∀ a, (k0_off728 v397 k0_t23) a + S1x1x16x8x128.size a ≤ S2x8x16x8x128.size a) ∧
  (∀ k0_t23 : Fin (k0_t23_loop v397).trips, ∀ (k0_h29 : k0_cond29 v397 k0_t23 = 1#1), ∀ a, (k0_off729 v397 k0_t23) a + S1x1.size a ≤ S8x512.size a) ∧
  (∀ k0_t23 : Fin (k0_t23_loop v397).trips, ∀ (k0_h29 : k0_cond29 v397 k0_t23 = 1#1), ∀ a, (k0_off730 v397 k0_t23) a + S1x1.size a ≤ S2x8.size a) ∧
  (∀ k0_t23 : Fin (k0_t23_loop v397).trips, ∀ (k0_h29 : k0_cond29 v397 k0_t23 = 1#1), ∀ a, (k0_off731 v397 k0_t23) a + S1x1x16x8x128.size a ≤ S2x8x16x8x128.size a) ∧
  (∀ k0_t23 : Fin (k0_t23_loop v397).trips, ∀ (k0_h29 : k0_cond29 v397 k0_t23 = 1#1), ∀ a, (k0_off733 v397 k0_t23) a + S1x1.size a ≤ S2x8.size a) ∧
  (∀ k0_t23 : Fin (k0_t23_loop v397).trips, ∀ (k0_h29 : k0_cond29 v397 k0_t23 = 1#1), ∀ a, (k0_off734 v397 k0_t23) a + S1x1x16x8x128.size a ≤ S2x8x16x8x128.size a) ∧
  (∀ k0_t23 : Fin (k0_t23_loop v397).trips, ∀ (k0_h29 : k0_cond29 v397 k0_t23 = 1#1), ∀ a, (k0_off735 v397 k0_t23) a + S1x1.size a ≤ S8x512.size a) ∧
  (∀ k0_t23 : Fin (k0_t23_loop v397).trips, ∀ (k0_h29 : k0_cond29 v397 k0_t23 = 1#1), ∀ a, (k0_off736 v397 k0_t23) a + S1x1.size a ≤ S2x8.size a) ∧
  (∀ k0_t23 : Fin (k0_t23_loop v397).trips, ∀ (k0_h29 : k0_cond29 v397 k0_t23 = 1#1), ∀ a, (k0_off737 v397 k0_t23) a + S1x1x16x8x128.size a ≤ S2x8x16x8x128.size a) ∧
  (∀ k0_t23 : Fin (k0_t23_loop v397).trips, ∀ (k0_h29 : k0_cond29 v397 k0_t23 = 1#1), ∀ a, (k0_off739 v397 k0_t23) a + S1x1.size a ≤ S2x8.size a) ∧
  (∀ k0_t23 : Fin (k0_t23_loop v397).trips, ∀ (k0_h29 : k0_cond29 v397 k0_t23 = 1#1), ∀ a, (k0_off740 v397 k0_t23) a + S1x1x16x8x128.size a ≤ S2x8x16x8x128.size a) ∧
  (∀ k0_t23 : Fin (k0_t23_loop v397).trips, ∀ (k0_h29 : k0_cond29 v397 k0_t23 = 1#1), ∀ a, (k0_off741 v397 k0_t23) a + S1x1.size a ≤ S8x512.size a) ∧
  (∀ k0_t23 : Fin (k0_t23_loop v397).trips, ∀ (k0_h29 : k0_cond29 v397 k0_t23 = 1#1), ∀ a, (k0_off742 v397 k0_t23) a + S1x1.size a ≤ S2x8.size a) ∧
  (∀ k0_t23 : Fin (k0_t23_loop v397).trips, ∀ (k0_h29 : k0_cond29 v397 k0_t23 = 1#1), ∀ a, (k0_off743 v397 k0_t23) a + S1x1x16x8x128.size a ≤ S2x8x16x8x128.size a) ∧
  (∀ k0_t23 : Fin (k0_t23_loop v397).trips, ∀ (k0_h29 : k0_cond29 v397 k0_t23 = 1#1), ∀ a, (k0_off745 v397 k0_t23) a + S1x1.size a ≤ S2x8.size a) ∧
  (∀ k0_t23 : Fin (k0_t23_loop v397).trips, ∀ (k0_h29 : k0_cond29 v397 k0_t23 = 1#1), ∀ a, (k0_off746 v397 k0_t23) a + S1x1x16x8x128.size a ≤ S2x8x16x8x128.size a) ∧
  (∀ k0_t23 : Fin (k0_t23_loop v397).trips, ∀ (k0_h29 : k0_cond29 v397 k0_t23 = 1#1), ∀ a, (k0_off747 v397 k0_t23) a + S1x1.size a ≤ S8x512.size a) ∧
  (∀ k0_t23 : Fin (k0_t23_loop v397).trips, ∀ (k0_h29 : k0_cond29 v397 k0_t23 = 1#1), ∀ a, (k0_off748 v397 k0_t23) a + S1x1.size a ≤ S2x8.size a) ∧
  (∀ k0_t23 : Fin (k0_t23_loop v397).trips, ∀ (k0_h29 : k0_cond29 v397 k0_t23 = 1#1), ∀ a, (k0_off749 v397 k0_t23) a + S1x1x16x8x128.size a ≤ S2x8x16x8x128.size a) ∧
  (∀ k0_t23 : Fin (k0_t23_loop v397).trips, ∀ (k0_h29 : k0_cond29 v397 k0_t23 = 1#1), ∀ a, (k0_off751 v397 k0_t23) a + S1x1.size a ≤ S2x8.size a) ∧
  (∀ k0_t23 : Fin (k0_t23_loop v397).trips, ∀ (k0_h29 : k0_cond29 v397 k0_t23 = 1#1), ∀ a, (k0_off752 v397 k0_t23) a + S1x1x16x8x128.size a ≤ S2x8x16x8x128.size a) ∧
  (∀ k0_t23 : Fin (k0_t23_loop v397).trips, ∀ (k0_h29 : k0_cond29 v397 k0_t23 = 1#1), ∀ a, (k0_off753 v397 k0_t23) a + S1x1.size a ≤ S8x512.size a) ∧
  (∀ k0_t23 : Fin (k0_t23_loop v397).trips, ∀ (k0_h29 : k0_cond29 v397 k0_t23 = 1#1), ∀ a, (k0_off754 v397 k0_t23) a + S1x1.size a ≤ S2x8.size a) ∧
  (∀ k0_t23 : Fin (k0_t23_loop v397).trips, ∀ (k0_h29 : k0_cond29 v397 k0_t23 = 1#1), ∀ a, (k0_off755 v397 k0_t23) a + S1x1x16x8x128.size a ≤ S2x8x16x8x128.size a) ∧
  (∀ k0_t23 : Fin (k0_t23_loop v397).trips, ∀ (k0_h29 : k0_cond29 v397 k0_t23 = 1#1), ∀ a, (k0_off757 v397 k0_t23) a + S1x1.size a ≤ S2x8.size a) ∧
  (∀ k0_t23 : Fin (k0_t23_loop v397).trips, ∀ (k0_h29 : k0_cond29 v397 k0_t23 = 1#1), ∀ a, (k0_off758 v397 k0_t23) a + S1x1x16x8x128.size a ≤ S2x8x16x8x128.size a) ∧
  (∀ k0_t23 : Fin (k0_t23_loop v397).trips, ∀ (k0_h29 : k0_cond29 v397 k0_t23 = 1#1), ∀ a, (k0_off759 v397 k0_t23) a + S1x1.size a ≤ S8x512.size a)
def k0_chk152_1 (v397 : BitVec 32) : Prop :=
  (∀ k0_t23 : Fin (k0_t23_loop v397).trips, ∀ (k0_h29 : k0_cond29 v397 k0_t23 = 1#1), ∀ a, (k0_off760 v397 k0_t23) a + S1x1.size a ≤ S2x8.size a) ∧
  (∀ k0_t23 : Fin (k0_t23_loop v397).trips, ∀ (k0_h29 : k0_cond29 v397 k0_t23 = 1#1), ∀ a, (k0_off761 v397 k0_t23) a + S1x1x16x8x128.size a ≤ S2x8x16x8x128.size a) ∧
  (∀ k0_t23 : Fin (k0_t23_loop v397).trips, ∀ (k0_h29 : k0_cond29 v397 k0_t23 = 1#1), ∀ a, (k0_off763 v397 k0_t23) a + S1x1.size a ≤ S2x8.size a) ∧
  (∀ k0_t23 : Fin (k0_t23_loop v397).trips, ∀ (k0_h29 : k0_cond29 v397 k0_t23 = 1#1), ∀ a, (k0_off764 v397 k0_t23) a + S1x1x16x8x128.size a ≤ S2x8x16x8x128.size a) ∧
  (∀ k0_t23 : Fin (k0_t23_loop v397).trips, ∀ (k0_h29 : k0_cond29 v397 k0_t23 = 1#1), ∀ a, (k0_off765 v397 k0_t23) a + S1x1.size a ≤ S8x512.size a) ∧
  (∀ k0_t23 : Fin (k0_t23_loop v397).trips, ∀ (k0_h29 : k0_cond29 v397 k0_t23 = 1#1), ∀ a, (k0_off766 v397 k0_t23) a + S1x1.size a ≤ S2x8.size a) ∧
  (∀ k0_t23 : Fin (k0_t23_loop v397).trips, ∀ (k0_h29 : k0_cond29 v397 k0_t23 = 1#1), ∀ a, (k0_off767 v397 k0_t23) a + S1x1x16x8x128.size a ≤ S2x8x16x8x128.size a) ∧
  (∀ k0_t23 : Fin (k0_t23_loop v397).trips, ∀ (k0_h29 : k0_cond29 v397 k0_t23 = 1#1), ∀ a, (k0_off769 v397 k0_t23) a + S1x1.size a ≤ S2x8.size a) ∧
  (∀ k0_t23 : Fin (k0_t23_loop v397).trips, ∀ (k0_h29 : k0_cond29 v397 k0_t23 = 1#1), ∀ a, (k0_off770 v397 k0_t23) a + S1x1x16x8x128.size a ≤ S2x8x16x8x128.size a) ∧
  (∀ k0_t23 : Fin (k0_t23_loop v397).trips, ∀ a, (k0_off771 v397 k0_t23) a + S1x1.size a ≤ S2x8.size a) ∧
  (∀ k0_t23 : Fin (k0_t23_loop v397).trips, ∀ a, (k0_off772 v397 k0_t23) a + S1x1x16x8x128.size a ≤ S2x8x16x8x128.size a) ∧
  (∀ k0_t23 : Fin (k0_t23_loop v397).trips, ∀ a, (k0_off773 v397 k0_t23) a + S1x1.size a ≤ S2x8.size a) ∧
  (∀ k0_t23 : Fin (k0_t23_loop v397).trips, ∀ a, (k0_off774 v397 k0_t23) a + S1x1x16x8x128.size a ≤ S2x8x16x8x128.size a) ∧
  (∀ k0_t23 : Fin (k0_t23_loop v397).trips, ∀ a, (k0_off775 v397 k0_t23) a + S1x1.size a ≤ S2x8.size a) ∧
  (∀ k0_t23 : Fin (k0_t23_loop v397).trips, ∀ a, (k0_off776 v397 k0_t23) a + S1x1x16x8x128.size a ≤ S2x8x16x8x128.size a) ∧
  (∀ k0_t23 : Fin (k0_t23_loop v397).trips, ∀ a, (k0_off777 v397 k0_t23) a + S1x1.size a ≤ S2x8.size a) ∧
  (∀ k0_t23 : Fin (k0_t23_loop v397).trips, ∀ a, (k0_off778 v397 k0_t23) a + S1x1x16x8x128.size a ≤ S2x8x16x8x128.size a) ∧
  (∀ k0_t23 : Fin (k0_t23_loop v397).trips, ∀ a, (k0_off779 v397 k0_t23) a + S1x1.size a ≤ S2x8.size a) ∧
  (∀ k0_t23 : Fin (k0_t23_loop v397).trips, ∀ a, (k0_off780 v397 k0_t23) a + S1x1x16x8x128.size a ≤ S2x8x16x8x128.size a) ∧
  (∀ k0_t23 : Fin (k0_t23_loop v397).trips, ∀ a, (k0_off781 v397 k0_t23) a + S1x1.size a ≤ S2x8.size a) ∧
  (∀ k0_t23 : Fin (k0_t23_loop v397).trips, ∀ a, (k0_off782 v397 k0_t23) a + S1x1x16x8x128.size a ≤ S2x8x16x8x128.size a) ∧
  (∀ k0_t23 : Fin (k0_t23_loop v397).trips, ∀ a, (k0_off783 v397 k0_t23) a + S1x1.size a ≤ S2x8.size a) ∧
  (∀ k0_t23 : Fin (k0_t23_loop v397).trips, ∀ a, (k0_off784 v397 k0_t23) a + S1x1x16x8x128.size a ≤ S2x8x16x8x128.size a) ∧
  (∀ k0_t23 : Fin (k0_t23_loop v397).trips, ∀ a, (k0_off785 v397 k0_t23) a + S1x1.size a ≤ S2x8.size a) ∧
  (∀ k0_t23 : Fin (k0_t23_loop v397).trips, ∀ a, (k0_off786 v397 k0_t23) a + S1x1x16x8x128.size a ≤ S2x8x16x8x128.size a) ∧
  (∀ k0_t23 : Fin (k0_t23_loop v397).trips, ∀ a, (k0_off787 v397 k0_t23) a + S1x8x16x8x128.size a ≤ S2x8x16x8x128.size a) ∧
  ((k0_t24_loop v397).OK) ∧
  (∀ k0_t24 : Fin (k0_t24_loop v397).trips, ∀ (k0_h30 : k0_cond30 v397 k0_t24 = 1#1), ∀ a, (k0_off788 v397 k0_t24) a + S1x1.size a ≤ S8x512.size a) ∧
  (∀ k0_t24 : Fin (k0_t24_loop v397).trips, ∀ (k0_h30 : k0_cond30 v397 k0_t24 = 1#1), ∀ a, (k0_off789 v397 k0_t24) a + S1x1.size a ≤ S2x8.size a) ∧
  (∀ k0_t24 : Fin (k0_t24_loop v397).trips, ∀ (k0_h30 : k0_cond30 v397 k0_t24 = 1#1), ∀ a, (k0_off790 v397 k0_t24) a + S1x1x16x8x128.size a ≤ S2x8x16x8x128.size a) ∧
  (∀ k0_t24 : Fin (k0_t24_loop v397).trips, ∀ (k0_h30 : k0_cond30 v397 k0_t24 = 1#1), ∀ a, (k0_off792 v397 k0_t24) a + S1x1.size a ≤ S2x8.size a) ∧
  (∀ k0_t24 : Fin (k0_t24_loop v397).trips, ∀ (k0_h30 : k0_cond30 v397 k0_t24 = 1#1), ∀ a, (k0_off793 v397 k0_t24) a + S1x1x16x8x128.size a ≤ S2x8x16x8x128.size a)
def k0_chk152_2 (v397 : BitVec 32) : Prop :=
  (∀ k0_t24 : Fin (k0_t24_loop v397).trips, ∀ (k0_h30 : k0_cond30 v397 k0_t24 = 1#1), ∀ a, (k0_off794 v397 k0_t24) a + S1x1.size a ≤ S8x512.size a) ∧
  (∀ k0_t24 : Fin (k0_t24_loop v397).trips, ∀ (k0_h30 : k0_cond30 v397 k0_t24 = 1#1), ∀ a, (k0_off795 v397 k0_t24) a + S1x1.size a ≤ S2x8.size a) ∧
  (∀ k0_t24 : Fin (k0_t24_loop v397).trips, ∀ (k0_h30 : k0_cond30 v397 k0_t24 = 1#1), ∀ a, (k0_off796 v397 k0_t24) a + S1x1x16x8x128.size a ≤ S2x8x16x8x128.size a) ∧
  (∀ k0_t24 : Fin (k0_t24_loop v397).trips, ∀ (k0_h30 : k0_cond30 v397 k0_t24 = 1#1), ∀ a, (k0_off798 v397 k0_t24) a + S1x1.size a ≤ S2x8.size a) ∧
  (∀ k0_t24 : Fin (k0_t24_loop v397).trips, ∀ (k0_h30 : k0_cond30 v397 k0_t24 = 1#1), ∀ a, (k0_off799 v397 k0_t24) a + S1x1x16x8x128.size a ≤ S2x8x16x8x128.size a) ∧
  (∀ k0_t24 : Fin (k0_t24_loop v397).trips, ∀ (k0_h30 : k0_cond30 v397 k0_t24 = 1#1), ∀ a, (k0_off800 v397 k0_t24) a + S1x1.size a ≤ S8x512.size a) ∧
  (∀ k0_t24 : Fin (k0_t24_loop v397).trips, ∀ (k0_h30 : k0_cond30 v397 k0_t24 = 1#1), ∀ a, (k0_off801 v397 k0_t24) a + S1x1.size a ≤ S2x8.size a) ∧
  (∀ k0_t24 : Fin (k0_t24_loop v397).trips, ∀ (k0_h30 : k0_cond30 v397 k0_t24 = 1#1), ∀ a, (k0_off802 v397 k0_t24) a + S1x1x16x8x128.size a ≤ S2x8x16x8x128.size a) ∧
  (∀ k0_t24 : Fin (k0_t24_loop v397).trips, ∀ (k0_h30 : k0_cond30 v397 k0_t24 = 1#1), ∀ a, (k0_off804 v397 k0_t24) a + S1x1.size a ≤ S2x8.size a) ∧
  (∀ k0_t24 : Fin (k0_t24_loop v397).trips, ∀ (k0_h30 : k0_cond30 v397 k0_t24 = 1#1), ∀ a, (k0_off805 v397 k0_t24) a + S1x1x16x8x128.size a ≤ S2x8x16x8x128.size a) ∧
  (∀ k0_t24 : Fin (k0_t24_loop v397).trips, ∀ (k0_h30 : k0_cond30 v397 k0_t24 = 1#1), ∀ a, (k0_off806 v397 k0_t24) a + S1x1.size a ≤ S8x512.size a) ∧
  (∀ k0_t24 : Fin (k0_t24_loop v397).trips, ∀ (k0_h30 : k0_cond30 v397 k0_t24 = 1#1), ∀ a, (k0_off807 v397 k0_t24) a + S1x1.size a ≤ S2x8.size a) ∧
  (∀ k0_t24 : Fin (k0_t24_loop v397).trips, ∀ (k0_h30 : k0_cond30 v397 k0_t24 = 1#1), ∀ a, (k0_off808 v397 k0_t24) a + S1x1x16x8x128.size a ≤ S2x8x16x8x128.size a) ∧
  (∀ k0_t24 : Fin (k0_t24_loop v397).trips, ∀ (k0_h30 : k0_cond30 v397 k0_t24 = 1#1), ∀ a, (k0_off810 v397 k0_t24) a + S1x1.size a ≤ S2x8.size a) ∧
  (∀ k0_t24 : Fin (k0_t24_loop v397).trips, ∀ (k0_h30 : k0_cond30 v397 k0_t24 = 1#1), ∀ a, (k0_off811 v397 k0_t24) a + S1x1x16x8x128.size a ≤ S2x8x16x8x128.size a) ∧
  (∀ k0_t24 : Fin (k0_t24_loop v397).trips, ∀ (k0_h30 : k0_cond30 v397 k0_t24 = 1#1), ∀ a, (k0_off812 v397 k0_t24) a + S1x1.size a ≤ S8x512.size a) ∧
  (∀ k0_t24 : Fin (k0_t24_loop v397).trips, ∀ (k0_h30 : k0_cond30 v397 k0_t24 = 1#1), ∀ a, (k0_off813 v397 k0_t24) a + S1x1.size a ≤ S2x8.size a) ∧
  (∀ k0_t24 : Fin (k0_t24_loop v397).trips, ∀ (k0_h30 : k0_cond30 v397 k0_t24 = 1#1), ∀ a, (k0_off814 v397 k0_t24) a + S1x1x16x8x128.size a ≤ S2x8x16x8x128.size a) ∧
  (∀ k0_t24 : Fin (k0_t24_loop v397).trips, ∀ (k0_h30 : k0_cond30 v397 k0_t24 = 1#1), ∀ a, (k0_off816 v397 k0_t24) a + S1x1.size a ≤ S2x8.size a) ∧
  (∀ k0_t24 : Fin (k0_t24_loop v397).trips, ∀ (k0_h30 : k0_cond30 v397 k0_t24 = 1#1), ∀ a, (k0_off817 v397 k0_t24) a + S1x1x16x8x128.size a ≤ S2x8x16x8x128.size a) ∧
  (∀ k0_t24 : Fin (k0_t24_loop v397).trips, ∀ (k0_h30 : k0_cond30 v397 k0_t24 = 1#1), ∀ a, (k0_off818 v397 k0_t24) a + S1x1.size a ≤ S8x512.size a) ∧
  (∀ k0_t24 : Fin (k0_t24_loop v397).trips, ∀ (k0_h30 : k0_cond30 v397 k0_t24 = 1#1), ∀ a, (k0_off819 v397 k0_t24) a + S1x1.size a ≤ S2x8.size a) ∧
  (∀ k0_t24 : Fin (k0_t24_loop v397).trips, ∀ (k0_h30 : k0_cond30 v397 k0_t24 = 1#1), ∀ a, (k0_off820 v397 k0_t24) a + S1x1x16x8x128.size a ≤ S2x8x16x8x128.size a) ∧
  (∀ k0_t24 : Fin (k0_t24_loop v397).trips, ∀ (k0_h30 : k0_cond30 v397 k0_t24 = 1#1), ∀ a, (k0_off822 v397 k0_t24) a + S1x1.size a ≤ S2x8.size a) ∧
  (∀ k0_t24 : Fin (k0_t24_loop v397).trips, ∀ (k0_h30 : k0_cond30 v397 k0_t24 = 1#1), ∀ a, (k0_off823 v397 k0_t24) a + S1x1x16x8x128.size a ≤ S2x8x16x8x128.size a) ∧
  (∀ k0_t24 : Fin (k0_t24_loop v397).trips, ∀ (k0_h30 : k0_cond30 v397 k0_t24 = 1#1), ∀ a, (k0_off824 v397 k0_t24) a + S1x1.size a ≤ S8x512.size a) ∧
  (∀ k0_t24 : Fin (k0_t24_loop v397).trips, ∀ (k0_h30 : k0_cond30 v397 k0_t24 = 1#1), ∀ a, (k0_off825 v397 k0_t24) a + S1x1.size a ≤ S2x8.size a) ∧
  (∀ k0_t24 : Fin (k0_t24_loop v397).trips, ∀ (k0_h30 : k0_cond30 v397 k0_t24 = 1#1), ∀ a, (k0_off826 v397 k0_t24) a + S1x1x16x8x128.size a ≤ S2x8x16x8x128.size a) ∧
  (∀ k0_t24 : Fin (k0_t24_loop v397).trips, ∀ (k0_h30 : k0_cond30 v397 k0_t24 = 1#1), ∀ a, (k0_off828 v397 k0_t24) a + S1x1.size a ≤ S2x8.size a) ∧
  (∀ k0_t24 : Fin (k0_t24_loop v397).trips, ∀ (k0_h30 : k0_cond30 v397 k0_t24 = 1#1), ∀ a, (k0_off829 v397 k0_t24) a + S1x1x16x8x128.size a ≤ S2x8x16x8x128.size a) ∧
  (∀ k0_t24 : Fin (k0_t24_loop v397).trips, ∀ (k0_h30 : k0_cond30 v397 k0_t24 = 1#1), ∀ a, (k0_off830 v397 k0_t24) a + S1x1.size a ≤ S8x512.size a) ∧
  (∀ k0_t24 : Fin (k0_t24_loop v397).trips, ∀ (k0_h30 : k0_cond30 v397 k0_t24 = 1#1), ∀ a, (k0_off831 v397 k0_t24) a + S1x1.size a ≤ S2x8.size a)
def k0_chk152_3 (v397 : BitVec 32) : Prop :=
  (∀ k0_t24 : Fin (k0_t24_loop v397).trips, ∀ (k0_h30 : k0_cond30 v397 k0_t24 = 1#1), ∀ a, (k0_off832 v397 k0_t24) a + S1x1x16x8x128.size a ≤ S2x8x16x8x128.size a) ∧
  (∀ k0_t24 : Fin (k0_t24_loop v397).trips, ∀ (k0_h30 : k0_cond30 v397 k0_t24 = 1#1), ∀ a, (k0_off834 v397 k0_t24) a + S1x1.size a ≤ S2x8.size a) ∧
  (∀ k0_t24 : Fin (k0_t24_loop v397).trips, ∀ (k0_h30 : k0_cond30 v397 k0_t24 = 1#1), ∀ a, (k0_off835 v397 k0_t24) a + S1x1x16x8x128.size a ≤ S2x8x16x8x128.size a) ∧
  (∀ k0_t24 : Fin (k0_t24_loop v397).trips, ∀ a, (k0_off836 v397 k0_t24) a + S1x1.size a ≤ S2x8.size a) ∧
  (∀ k0_t24 : Fin (k0_t24_loop v397).trips, ∀ a, (k0_off837 v397 k0_t24) a + S1x1x16x8x128.size a ≤ S2x8x16x8x128.size a) ∧
  (∀ k0_t24 : Fin (k0_t24_loop v397).trips, ∀ a, (k0_off838 v397 k0_t24) a + S1x1.size a ≤ S2x8.size a) ∧
  (∀ k0_t24 : Fin (k0_t24_loop v397).trips, ∀ a, (k0_off839 v397 k0_t24) a + S1x1x16x8x128.size a ≤ S2x8x16x8x128.size a) ∧
  (∀ k0_t24 : Fin (k0_t24_loop v397).trips, ∀ a, (k0_off840 v397 k0_t24) a + S1x1.size a ≤ S2x8.size a) ∧
  (∀ k0_t24 : Fin (k0_t24_loop v397).trips, ∀ a, (k0_off841 v397 k0_t24) a + S1x1x16x8x128.size a ≤ S2x8x16x8x128.size a) ∧
  (∀ k0_t24 : Fin (k0_t24_loop v397).trips, ∀ a, (k0_off842 v397 k0_t24) a + S1x1.size a ≤ S2x8.size a) ∧
  (∀ k0_t24 : Fin (k0_t24_loop v397).trips, ∀ a, (k0_off843 v397 k0_t24) a + S1x1x16x8x128.size a ≤ S2x8x16x8x128.size a) ∧
  (∀ k0_t24 : Fin (k0_t24_loop v397).trips, ∀ a, (k0_off844 v397 k0_t24) a + S1x1.size a ≤ S2x8.size a) ∧
  (∀ k0_t24 : Fin (k0_t24_loop v397).trips, ∀ a, (k0_off845 v397 k0_t24) a + S1x1x16x8x128.size a ≤ S2x8x16x8x128.size a) ∧
  (∀ k0_t24 : Fin (k0_t24_loop v397).trips, ∀ a, (k0_off846 v397 k0_t24) a + S1x1.size a ≤ S2x8.size a) ∧
  (∀ k0_t24 : Fin (k0_t24_loop v397).trips, ∀ a, (k0_off847 v397 k0_t24) a + S1x1x16x8x128.size a ≤ S2x8x16x8x128.size a) ∧
  (∀ k0_t24 : Fin (k0_t24_loop v397).trips, ∀ a, (k0_off848 v397 k0_t24) a + S1x1.size a ≤ S2x8.size a) ∧
  (∀ k0_t24 : Fin (k0_t24_loop v397).trips, ∀ a, (k0_off849 v397 k0_t24) a + S1x1x16x8x128.size a ≤ S2x8x16x8x128.size a) ∧
  (∀ k0_t24 : Fin (k0_t24_loop v397).trips, ∀ a, (k0_off850 v397 k0_t24) a + S1x1.size a ≤ S2x8.size a) ∧
  (∀ k0_t24 : Fin (k0_t24_loop v397).trips, ∀ a, (k0_off851 v397 k0_t24) a + S1x1x16x8x128.size a ≤ S2x8x16x8x128.size a) ∧
  (∀ k0_t24 : Fin (k0_t24_loop v397).trips, ∀ a, (k0_off852 v397 k0_t24) a + S1x8x16x8x128.size a ≤ S2x8x16x8x128.size a)
def k0_chk152 (v397 : BitVec 32) : Prop :=
  k0_chk152_0 v397 ∧
  k0_chk152_1 v397 ∧
  k0_chk152_2 v397 ∧
  k0_chk152_3 v397
theorem k0_t23_ok : ∀ (v397 : BitVec 32) (k0_hw152 : k0_chk152 v397), (k0_t23_loop v397).OK := fun v397 k0_hw152 => k0_hw152.1.1
theorem k0_off723_inb : ∀ (v397 : BitVec 32) (k0_hw152 : k0_chk152 v397) (k0_t23 : Fin (k0_t23_loop v397).trips), ∀ (k0_h29 : k0_cond29 v397 k0_t23 = 1#1), ∀ a, (k0_off723 v397 k0_t23) a + S1x1.size a ≤ S8x512.size a := fun v397 k0_hw152 k0_t23 k0_h29 => k0_hw152.1.2.1 k0_t23 k0_h29
theorem k0_off724_inb : ∀ (v397 : BitVec 32) (k0_hw152 : k0_chk152 v397) (k0_t23 : Fin (k0_t23_loop v397).trips), ∀ (k0_h29 : k0_cond29 v397 k0_t23 = 1#1), ∀ a, (k0_off724 v397 k0_t23) a + S1x1.size a ≤ S2x8.size a := fun v397 k0_hw152 k0_t23 k0_h29 => k0_hw152.1.2.2.1 k0_t23 k0_h29
theorem k0_off725_inb : ∀ (v397 : BitVec 32) (k0_hw152 : k0_chk152 v397) (k0_t23 : Fin (k0_t23_loop v397).trips), ∀ (k0_h29 : k0_cond29 v397 k0_t23 = 1#1), ∀ a, (k0_off725 v397 k0_t23) a + S1x1x16x8x128.size a ≤ S2x8x16x8x128.size a := fun v397 k0_hw152 k0_t23 k0_h29 => k0_hw152.1.2.2.2.1 k0_t23 k0_h29
theorem k0_off727_inb : ∀ (v397 : BitVec 32) (k0_hw152 : k0_chk152 v397) (k0_t23 : Fin (k0_t23_loop v397).trips), ∀ (k0_h29 : k0_cond29 v397 k0_t23 = 1#1), ∀ a, (k0_off727 v397 k0_t23) a + S1x1.size a ≤ S2x8.size a := fun v397 k0_hw152 k0_t23 k0_h29 => k0_hw152.1.2.2.2.2.1 k0_t23 k0_h29
theorem k0_off728_inb : ∀ (v397 : BitVec 32) (k0_hw152 : k0_chk152 v397) (k0_t23 : Fin (k0_t23_loop v397).trips), ∀ (k0_h29 : k0_cond29 v397 k0_t23 = 1#1), ∀ a, (k0_off728 v397 k0_t23) a + S1x1x16x8x128.size a ≤ S2x8x16x8x128.size a := fun v397 k0_hw152 k0_t23 k0_h29 => k0_hw152.1.2.2.2.2.2.1 k0_t23 k0_h29
theorem k0_off729_inb : ∀ (v397 : BitVec 32) (k0_hw152 : k0_chk152 v397) (k0_t23 : Fin (k0_t23_loop v397).trips), ∀ (k0_h29 : k0_cond29 v397 k0_t23 = 1#1), ∀ a, (k0_off729 v397 k0_t23) a + S1x1.size a ≤ S8x512.size a := fun v397 k0_hw152 k0_t23 k0_h29 => k0_hw152.1.2.2.2.2.2.2.1 k0_t23 k0_h29
theorem k0_off730_inb : ∀ (v397 : BitVec 32) (k0_hw152 : k0_chk152 v397) (k0_t23 : Fin (k0_t23_loop v397).trips), ∀ (k0_h29 : k0_cond29 v397 k0_t23 = 1#1), ∀ a, (k0_off730 v397 k0_t23) a + S1x1.size a ≤ S2x8.size a := fun v397 k0_hw152 k0_t23 k0_h29 => k0_hw152.1.2.2.2.2.2.2.2.1 k0_t23 k0_h29
theorem k0_off731_inb : ∀ (v397 : BitVec 32) (k0_hw152 : k0_chk152 v397) (k0_t23 : Fin (k0_t23_loop v397).trips), ∀ (k0_h29 : k0_cond29 v397 k0_t23 = 1#1), ∀ a, (k0_off731 v397 k0_t23) a + S1x1x16x8x128.size a ≤ S2x8x16x8x128.size a := fun v397 k0_hw152 k0_t23 k0_h29 => k0_hw152.1.2.2.2.2.2.2.2.2.1 k0_t23 k0_h29
theorem k0_off733_inb : ∀ (v397 : BitVec 32) (k0_hw152 : k0_chk152 v397) (k0_t23 : Fin (k0_t23_loop v397).trips), ∀ (k0_h29 : k0_cond29 v397 k0_t23 = 1#1), ∀ a, (k0_off733 v397 k0_t23) a + S1x1.size a ≤ S2x8.size a := fun v397 k0_hw152 k0_t23 k0_h29 => k0_hw152.1.2.2.2.2.2.2.2.2.2.1 k0_t23 k0_h29
theorem k0_off734_inb : ∀ (v397 : BitVec 32) (k0_hw152 : k0_chk152 v397) (k0_t23 : Fin (k0_t23_loop v397).trips), ∀ (k0_h29 : k0_cond29 v397 k0_t23 = 1#1), ∀ a, (k0_off734 v397 k0_t23) a + S1x1x16x8x128.size a ≤ S2x8x16x8x128.size a := fun v397 k0_hw152 k0_t23 k0_h29 => k0_hw152.1.2.2.2.2.2.2.2.2.2.2.1 k0_t23 k0_h29
theorem k0_off735_inb : ∀ (v397 : BitVec 32) (k0_hw152 : k0_chk152 v397) (k0_t23 : Fin (k0_t23_loop v397).trips), ∀ (k0_h29 : k0_cond29 v397 k0_t23 = 1#1), ∀ a, (k0_off735 v397 k0_t23) a + S1x1.size a ≤ S8x512.size a := fun v397 k0_hw152 k0_t23 k0_h29 => k0_hw152.1.2.2.2.2.2.2.2.2.2.2.2.1 k0_t23 k0_h29
theorem k0_off736_inb : ∀ (v397 : BitVec 32) (k0_hw152 : k0_chk152 v397) (k0_t23 : Fin (k0_t23_loop v397).trips), ∀ (k0_h29 : k0_cond29 v397 k0_t23 = 1#1), ∀ a, (k0_off736 v397 k0_t23) a + S1x1.size a ≤ S2x8.size a := fun v397 k0_hw152 k0_t23 k0_h29 => k0_hw152.1.2.2.2.2.2.2.2.2.2.2.2.2.1 k0_t23 k0_h29
theorem k0_off737_inb : ∀ (v397 : BitVec 32) (k0_hw152 : k0_chk152 v397) (k0_t23 : Fin (k0_t23_loop v397).trips), ∀ (k0_h29 : k0_cond29 v397 k0_t23 = 1#1), ∀ a, (k0_off737 v397 k0_t23) a + S1x1x16x8x128.size a ≤ S2x8x16x8x128.size a := fun v397 k0_hw152 k0_t23 k0_h29 => k0_hw152.1.2.2.2.2.2.2.2.2.2.2.2.2.2.1 k0_t23 k0_h29
theorem k0_off739_inb : ∀ (v397 : BitVec 32) (k0_hw152 : k0_chk152 v397) (k0_t23 : Fin (k0_t23_loop v397).trips), ∀ (k0_h29 : k0_cond29 v397 k0_t23 = 1#1), ∀ a, (k0_off739 v397 k0_t23) a + S1x1.size a ≤ S2x8.size a := fun v397 k0_hw152 k0_t23 k0_h29 => k0_hw152.1.2.2.2.2.2.2.2.2.2.2.2.2.2.2.1 k0_t23 k0_h29
theorem k0_off740_inb : ∀ (v397 : BitVec 32) (k0_hw152 : k0_chk152 v397) (k0_t23 : Fin (k0_t23_loop v397).trips), ∀ (k0_h29 : k0_cond29 v397 k0_t23 = 1#1), ∀ a, (k0_off740 v397 k0_t23) a + S1x1x16x8x128.size a ≤ S2x8x16x8x128.size a := fun v397 k0_hw152 k0_t23 k0_h29 => k0_hw152.1.2.2.2.2.2.2.2.2.2.2.2.2.2.2.2.1 k0_t23 k0_h29
theorem k0_off741_inb : ∀ (v397 : BitVec 32) (k0_hw152 : k0_chk152 v397) (k0_t23 : Fin (k0_t23_loop v397).trips), ∀ (k0_h29 : k0_cond29 v397 k0_t23 = 1#1), ∀ a, (k0_off741 v397 k0_t23) a + S1x1.size a ≤ S8x512.size a := fun v397 k0_hw152 k0_t23 k0_h29 => k0_hw152.1.2.2.2.2.2.2.2.2.2.2.2.2.2.2.2.2.1 k0_t23 k0_h29
theorem k0_off742_inb : ∀ (v397 : BitVec 32) (k0_hw152 : k0_chk152 v397) (k0_t23 : Fin (k0_t23_loop v397).trips), ∀ (k0_h29 : k0_cond29 v397 k0_t23 = 1#1), ∀ a, (k0_off742 v397 k0_t23) a + S1x1.size a ≤ S2x8.size a := fun v397 k0_hw152 k0_t23 k0_h29 => k0_hw152.1.2.2.2.2.2.2.2.2.2.2.2.2.2.2.2.2.2.1 k0_t23 k0_h29
theorem k0_off743_inb : ∀ (v397 : BitVec 32) (k0_hw152 : k0_chk152 v397) (k0_t23 : Fin (k0_t23_loop v397).trips), ∀ (k0_h29 : k0_cond29 v397 k0_t23 = 1#1), ∀ a, (k0_off743 v397 k0_t23) a + S1x1x16x8x128.size a ≤ S2x8x16x8x128.size a := fun v397 k0_hw152 k0_t23 k0_h29 => k0_hw152.1.2.2.2.2.2.2.2.2.2.2.2.2.2.2.2.2.2.2.1 k0_t23 k0_h29
theorem k0_off745_inb : ∀ (v397 : BitVec 32) (k0_hw152 : k0_chk152 v397) (k0_t23 : Fin (k0_t23_loop v397).trips), ∀ (k0_h29 : k0_cond29 v397 k0_t23 = 1#1), ∀ a, (k0_off745 v397 k0_t23) a + S1x1.size a ≤ S2x8.size a := fun v397 k0_hw152 k0_t23 k0_h29 => k0_hw152.1.2.2.2.2.2.2.2.2.2.2.2.2.2.2.2.2.2.2.2.1 k0_t23 k0_h29
theorem k0_off746_inb : ∀ (v397 : BitVec 32) (k0_hw152 : k0_chk152 v397) (k0_t23 : Fin (k0_t23_loop v397).trips), ∀ (k0_h29 : k0_cond29 v397 k0_t23 = 1#1), ∀ a, (k0_off746 v397 k0_t23) a + S1x1x16x8x128.size a ≤ S2x8x16x8x128.size a := fun v397 k0_hw152 k0_t23 k0_h29 => k0_hw152.1.2.2.2.2.2.2.2.2.2.2.2.2.2.2.2.2.2.2.2.2.1 k0_t23 k0_h29
theorem k0_off747_inb : ∀ (v397 : BitVec 32) (k0_hw152 : k0_chk152 v397) (k0_t23 : Fin (k0_t23_loop v397).trips), ∀ (k0_h29 : k0_cond29 v397 k0_t23 = 1#1), ∀ a, (k0_off747 v397 k0_t23) a + S1x1.size a ≤ S8x512.size a := fun v397 k0_hw152 k0_t23 k0_h29 => k0_hw152.1.2.2.2.2.2.2.2.2.2.2.2.2.2.2.2.2.2.2.2.2.2.1 k0_t23 k0_h29
theorem k0_off748_inb : ∀ (v397 : BitVec 32) (k0_hw152 : k0_chk152 v397) (k0_t23 : Fin (k0_t23_loop v397).trips), ∀ (k0_h29 : k0_cond29 v397 k0_t23 = 1#1), ∀ a, (k0_off748 v397 k0_t23) a + S1x1.size a ≤ S2x8.size a := fun v397 k0_hw152 k0_t23 k0_h29 => k0_hw152.1.2.2.2.2.2.2.2.2.2.2.2.2.2.2.2.2.2.2.2.2.2.2.1 k0_t23 k0_h29
theorem k0_off749_inb : ∀ (v397 : BitVec 32) (k0_hw152 : k0_chk152 v397) (k0_t23 : Fin (k0_t23_loop v397).trips), ∀ (k0_h29 : k0_cond29 v397 k0_t23 = 1#1), ∀ a, (k0_off749 v397 k0_t23) a + S1x1x16x8x128.size a ≤ S2x8x16x8x128.size a := fun v397 k0_hw152 k0_t23 k0_h29 => k0_hw152.1.2.2.2.2.2.2.2.2.2.2.2.2.2.2.2.2.2.2.2.2.2.2.2.1 k0_t23 k0_h29
theorem k0_off751_inb : ∀ (v397 : BitVec 32) (k0_hw152 : k0_chk152 v397) (k0_t23 : Fin (k0_t23_loop v397).trips), ∀ (k0_h29 : k0_cond29 v397 k0_t23 = 1#1), ∀ a, (k0_off751 v397 k0_t23) a + S1x1.size a ≤ S2x8.size a := fun v397 k0_hw152 k0_t23 k0_h29 => k0_hw152.1.2.2.2.2.2.2.2.2.2.2.2.2.2.2.2.2.2.2.2.2.2.2.2.2.1 k0_t23 k0_h29
theorem k0_off752_inb : ∀ (v397 : BitVec 32) (k0_hw152 : k0_chk152 v397) (k0_t23 : Fin (k0_t23_loop v397).trips), ∀ (k0_h29 : k0_cond29 v397 k0_t23 = 1#1), ∀ a, (k0_off752 v397 k0_t23) a + S1x1x16x8x128.size a ≤ S2x8x16x8x128.size a := fun v397 k0_hw152 k0_t23 k0_h29 => k0_hw152.1.2.2.2.2.2.2.2.2.2.2.2.2.2.2.2.2.2.2.2.2.2.2.2.2.2.1 k0_t23 k0_h29
theorem k0_off753_inb : ∀ (v397 : BitVec 32) (k0_hw152 : k0_chk152 v397) (k0_t23 : Fin (k0_t23_loop v397).trips), ∀ (k0_h29 : k0_cond29 v397 k0_t23 = 1#1), ∀ a, (k0_off753 v397 k0_t23) a + S1x1.size a ≤ S8x512.size a := fun v397 k0_hw152 k0_t23 k0_h29 => k0_hw152.1.2.2.2.2.2.2.2.2.2.2.2.2.2.2.2.2.2.2.2.2.2.2.2.2.2.2.1 k0_t23 k0_h29
theorem k0_off754_inb : ∀ (v397 : BitVec 32) (k0_hw152 : k0_chk152 v397) (k0_t23 : Fin (k0_t23_loop v397).trips), ∀ (k0_h29 : k0_cond29 v397 k0_t23 = 1#1), ∀ a, (k0_off754 v397 k0_t23) a + S1x1.size a ≤ S2x8.size a := fun v397 k0_hw152 k0_t23 k0_h29 => k0_hw152.1.2.2.2.2.2.2.2.2.2.2.2.2.2.2.2.2.2.2.2.2.2.2.2.2.2.2.2.1 k0_t23 k0_h29
theorem k0_off755_inb : ∀ (v397 : BitVec 32) (k0_hw152 : k0_chk152 v397) (k0_t23 : Fin (k0_t23_loop v397).trips), ∀ (k0_h29 : k0_cond29 v397 k0_t23 = 1#1), ∀ a, (k0_off755 v397 k0_t23) a + S1x1x16x8x128.size a ≤ S2x8x16x8x128.size a := fun v397 k0_hw152 k0_t23 k0_h29 => k0_hw152.1.2.2.2.2.2.2.2.2.2.2.2.2.2.2.2.2.2.2.2.2.2.2.2.2.2.2.2.2.1 k0_t23 k0_h29
theorem k0_off757_inb : ∀ (v397 : BitVec 32) (k0_hw152 : k0_chk152 v397) (k0_t23 : Fin (k0_t23_loop v397).trips), ∀ (k0_h29 : k0_cond29 v397 k0_t23 = 1#1), ∀ a, (k0_off757 v397 k0_t23) a + S1x1.size a ≤ S2x8.size a := fun v397 k0_hw152 k0_t23 k0_h29 => k0_hw152.1.2.2.2.2.2.2.2.2.2.2.2.2.2.2.2.2.2.2.2.2.2.2.2.2.2.2.2.2.2.1 k0_t23 k0_h29
theorem k0_off758_inb : ∀ (v397 : BitVec 32) (k0_hw152 : k0_chk152 v397) (k0_t23 : Fin (k0_t23_loop v397).trips), ∀ (k0_h29 : k0_cond29 v397 k0_t23 = 1#1), ∀ a, (k0_off758 v397 k0_t23) a + S1x1x16x8x128.size a ≤ S2x8x16x8x128.size a := fun v397 k0_hw152 k0_t23 k0_h29 => k0_hw152.1.2.2.2.2.2.2.2.2.2.2.2.2.2.2.2.2.2.2.2.2.2.2.2.2.2.2.2.2.2.2.1 k0_t23 k0_h29
theorem k0_off759_inb : ∀ (v397 : BitVec 32) (k0_hw152 : k0_chk152 v397) (k0_t23 : Fin (k0_t23_loop v397).trips), ∀ (k0_h29 : k0_cond29 v397 k0_t23 = 1#1), ∀ a, (k0_off759 v397 k0_t23) a + S1x1.size a ≤ S8x512.size a := fun v397 k0_hw152 k0_t23 k0_h29 => k0_hw152.1.2.2.2.2.2.2.2.2.2.2.2.2.2.2.2.2.2.2.2.2.2.2.2.2.2.2.2.2.2.2.2 k0_t23 k0_h29
theorem k0_off760_inb : ∀ (v397 : BitVec 32) (k0_hw152 : k0_chk152 v397) (k0_t23 : Fin (k0_t23_loop v397).trips), ∀ (k0_h29 : k0_cond29 v397 k0_t23 = 1#1), ∀ a, (k0_off760 v397 k0_t23) a + S1x1.size a ≤ S2x8.size a := fun v397 k0_hw152 k0_t23 k0_h29 => k0_hw152.2.1.1 k0_t23 k0_h29
theorem k0_off761_inb : ∀ (v397 : BitVec 32) (k0_hw152 : k0_chk152 v397) (k0_t23 : Fin (k0_t23_loop v397).trips), ∀ (k0_h29 : k0_cond29 v397 k0_t23 = 1#1), ∀ a, (k0_off761 v397 k0_t23) a + S1x1x16x8x128.size a ≤ S2x8x16x8x128.size a := fun v397 k0_hw152 k0_t23 k0_h29 => k0_hw152.2.1.2.1 k0_t23 k0_h29
theorem k0_off763_inb : ∀ (v397 : BitVec 32) (k0_hw152 : k0_chk152 v397) (k0_t23 : Fin (k0_t23_loop v397).trips), ∀ (k0_h29 : k0_cond29 v397 k0_t23 = 1#1), ∀ a, (k0_off763 v397 k0_t23) a + S1x1.size a ≤ S2x8.size a := fun v397 k0_hw152 k0_t23 k0_h29 => k0_hw152.2.1.2.2.1 k0_t23 k0_h29
theorem k0_off764_inb : ∀ (v397 : BitVec 32) (k0_hw152 : k0_chk152 v397) (k0_t23 : Fin (k0_t23_loop v397).trips), ∀ (k0_h29 : k0_cond29 v397 k0_t23 = 1#1), ∀ a, (k0_off764 v397 k0_t23) a + S1x1x16x8x128.size a ≤ S2x8x16x8x128.size a := fun v397 k0_hw152 k0_t23 k0_h29 => k0_hw152.2.1.2.2.2.1 k0_t23 k0_h29
theorem k0_off765_inb : ∀ (v397 : BitVec 32) (k0_hw152 : k0_chk152 v397) (k0_t23 : Fin (k0_t23_loop v397).trips), ∀ (k0_h29 : k0_cond29 v397 k0_t23 = 1#1), ∀ a, (k0_off765 v397 k0_t23) a + S1x1.size a ≤ S8x512.size a := fun v397 k0_hw152 k0_t23 k0_h29 => k0_hw152.2.1.2.2.2.2.1 k0_t23 k0_h29
theorem k0_off766_inb : ∀ (v397 : BitVec 32) (k0_hw152 : k0_chk152 v397) (k0_t23 : Fin (k0_t23_loop v397).trips), ∀ (k0_h29 : k0_cond29 v397 k0_t23 = 1#1), ∀ a, (k0_off766 v397 k0_t23) a + S1x1.size a ≤ S2x8.size a := fun v397 k0_hw152 k0_t23 k0_h29 => k0_hw152.2.1.2.2.2.2.2.1 k0_t23 k0_h29
theorem k0_off767_inb : ∀ (v397 : BitVec 32) (k0_hw152 : k0_chk152 v397) (k0_t23 : Fin (k0_t23_loop v397).trips), ∀ (k0_h29 : k0_cond29 v397 k0_t23 = 1#1), ∀ a, (k0_off767 v397 k0_t23) a + S1x1x16x8x128.size a ≤ S2x8x16x8x128.size a := fun v397 k0_hw152 k0_t23 k0_h29 => k0_hw152.2.1.2.2.2.2.2.2.1 k0_t23 k0_h29
theorem k0_off769_inb : ∀ (v397 : BitVec 32) (k0_hw152 : k0_chk152 v397) (k0_t23 : Fin (k0_t23_loop v397).trips), ∀ (k0_h29 : k0_cond29 v397 k0_t23 = 1#1), ∀ a, (k0_off769 v397 k0_t23) a + S1x1.size a ≤ S2x8.size a := fun v397 k0_hw152 k0_t23 k0_h29 => k0_hw152.2.1.2.2.2.2.2.2.2.1 k0_t23 k0_h29
theorem k0_off770_inb : ∀ (v397 : BitVec 32) (k0_hw152 : k0_chk152 v397) (k0_t23 : Fin (k0_t23_loop v397).trips), ∀ (k0_h29 : k0_cond29 v397 k0_t23 = 1#1), ∀ a, (k0_off770 v397 k0_t23) a + S1x1x16x8x128.size a ≤ S2x8x16x8x128.size a := fun v397 k0_hw152 k0_t23 k0_h29 => k0_hw152.2.1.2.2.2.2.2.2.2.2.1 k0_t23 k0_h29
theorem k0_off771_inb : ∀ (v397 : BitVec 32) (k0_hw152 : k0_chk152 v397) (k0_t23 : Fin (k0_t23_loop v397).trips), ∀ a, (k0_off771 v397 k0_t23) a + S1x1.size a ≤ S2x8.size a := fun v397 k0_hw152 k0_t23 => k0_hw152.2.1.2.2.2.2.2.2.2.2.2.1 k0_t23
theorem k0_off772_inb : ∀ (v397 : BitVec 32) (k0_hw152 : k0_chk152 v397) (k0_t23 : Fin (k0_t23_loop v397).trips), ∀ a, (k0_off772 v397 k0_t23) a + S1x1x16x8x128.size a ≤ S2x8x16x8x128.size a := fun v397 k0_hw152 k0_t23 => k0_hw152.2.1.2.2.2.2.2.2.2.2.2.2.1 k0_t23
theorem k0_off773_inb : ∀ (v397 : BitVec 32) (k0_hw152 : k0_chk152 v397) (k0_t23 : Fin (k0_t23_loop v397).trips), ∀ a, (k0_off773 v397 k0_t23) a + S1x1.size a ≤ S2x8.size a := fun v397 k0_hw152 k0_t23 => k0_hw152.2.1.2.2.2.2.2.2.2.2.2.2.2.1 k0_t23
theorem k0_off774_inb : ∀ (v397 : BitVec 32) (k0_hw152 : k0_chk152 v397) (k0_t23 : Fin (k0_t23_loop v397).trips), ∀ a, (k0_off774 v397 k0_t23) a + S1x1x16x8x128.size a ≤ S2x8x16x8x128.size a := fun v397 k0_hw152 k0_t23 => k0_hw152.2.1.2.2.2.2.2.2.2.2.2.2.2.2.1 k0_t23
theorem k0_off775_inb : ∀ (v397 : BitVec 32) (k0_hw152 : k0_chk152 v397) (k0_t23 : Fin (k0_t23_loop v397).trips), ∀ a, (k0_off775 v397 k0_t23) a + S1x1.size a ≤ S2x8.size a := fun v397 k0_hw152 k0_t23 => k0_hw152.2.1.2.2.2.2.2.2.2.2.2.2.2.2.2.1 k0_t23
theorem k0_off776_inb : ∀ (v397 : BitVec 32) (k0_hw152 : k0_chk152 v397) (k0_t23 : Fin (k0_t23_loop v397).trips), ∀ a, (k0_off776 v397 k0_t23) a + S1x1x16x8x128.size a ≤ S2x8x16x8x128.size a := fun v397 k0_hw152 k0_t23 => k0_hw152.2.1.2.2.2.2.2.2.2.2.2.2.2.2.2.2.1 k0_t23
theorem k0_off777_inb : ∀ (v397 : BitVec 32) (k0_hw152 : k0_chk152 v397) (k0_t23 : Fin (k0_t23_loop v397).trips), ∀ a, (k0_off777 v397 k0_t23) a + S1x1.size a ≤ S2x8.size a := fun v397 k0_hw152 k0_t23 => k0_hw152.2.1.2.2.2.2.2.2.2.2.2.2.2.2.2.2.2.1 k0_t23
theorem k0_off778_inb : ∀ (v397 : BitVec 32) (k0_hw152 : k0_chk152 v397) (k0_t23 : Fin (k0_t23_loop v397).trips), ∀ a, (k0_off778 v397 k0_t23) a + S1x1x16x8x128.size a ≤ S2x8x16x8x128.size a := fun v397 k0_hw152 k0_t23 => k0_hw152.2.1.2.2.2.2.2.2.2.2.2.2.2.2.2.2.2.2.1 k0_t23
theorem k0_off779_inb : ∀ (v397 : BitVec 32) (k0_hw152 : k0_chk152 v397) (k0_t23 : Fin (k0_t23_loop v397).trips), ∀ a, (k0_off779 v397 k0_t23) a + S1x1.size a ≤ S2x8.size a := fun v397 k0_hw152 k0_t23 => k0_hw152.2.1.2.2.2.2.2.2.2.2.2.2.2.2.2.2.2.2.2.1 k0_t23
theorem k0_off780_inb : ∀ (v397 : BitVec 32) (k0_hw152 : k0_chk152 v397) (k0_t23 : Fin (k0_t23_loop v397).trips), ∀ a, (k0_off780 v397 k0_t23) a + S1x1x16x8x128.size a ≤ S2x8x16x8x128.size a := fun v397 k0_hw152 k0_t23 => k0_hw152.2.1.2.2.2.2.2.2.2.2.2.2.2.2.2.2.2.2.2.2.1 k0_t23
theorem k0_off781_inb : ∀ (v397 : BitVec 32) (k0_hw152 : k0_chk152 v397) (k0_t23 : Fin (k0_t23_loop v397).trips), ∀ a, (k0_off781 v397 k0_t23) a + S1x1.size a ≤ S2x8.size a := fun v397 k0_hw152 k0_t23 => k0_hw152.2.1.2.2.2.2.2.2.2.2.2.2.2.2.2.2.2.2.2.2.2.1 k0_t23
theorem k0_off782_inb : ∀ (v397 : BitVec 32) (k0_hw152 : k0_chk152 v397) (k0_t23 : Fin (k0_t23_loop v397).trips), ∀ a, (k0_off782 v397 k0_t23) a + S1x1x16x8x128.size a ≤ S2x8x16x8x128.size a := fun v397 k0_hw152 k0_t23 => k0_hw152.2.1.2.2.2.2.2.2.2.2.2.2.2.2.2.2.2.2.2.2.2.2.1 k0_t23
theorem k0_off783_inb : ∀ (v397 : BitVec 32) (k0_hw152 : k0_chk152 v397) (k0_t23 : Fin (k0_t23_loop v397).trips), ∀ a, (k0_off783 v397 k0_t23) a + S1x1.size a ≤ S2x8.size a := fun v397 k0_hw152 k0_t23 => k0_hw152.2.1.2.2.2.2.2.2.2.2.2.2.2.2.2.2.2.2.2.2.2.2.2.1 k0_t23
theorem k0_off784_inb : ∀ (v397 : BitVec 32) (k0_hw152 : k0_chk152 v397) (k0_t23 : Fin (k0_t23_loop v397).trips), ∀ a, (k0_off784 v397 k0_t23) a + S1x1x16x8x128.size a ≤ S2x8x16x8x128.size a := fun v397 k0_hw152 k0_t23 => k0_hw152.2.1.2.2.2.2.2.2.2.2.2.2.2.2.2.2.2.2.2.2.2.2.2.2.1 k0_t23
theorem k0_off785_inb : ∀ (v397 : BitVec 32) (k0_hw152 : k0_chk152 v397) (k0_t23 : Fin (k0_t23_loop v397).trips), ∀ a, (k0_off785 v397 k0_t23) a + S1x1.size a ≤ S2x8.size a := fun v397 k0_hw152 k0_t23 => k0_hw152.2.1.2.2.2.2.2.2.2.2.2.2.2.2.2.2.2.2.2.2.2.2.2.2.2.1 k0_t23
theorem k0_off786_inb : ∀ (v397 : BitVec 32) (k0_hw152 : k0_chk152 v397) (k0_t23 : Fin (k0_t23_loop v397).trips), ∀ a, (k0_off786 v397 k0_t23) a + S1x1x16x8x128.size a ≤ S2x8x16x8x128.size a := fun v397 k0_hw152 k0_t23 => k0_hw152.2.1.2.2.2.2.2.2.2.2.2.2.2.2.2.2.2.2.2.2.2.2.2.2.2.2.1 k0_t23
theorem k0_off787_inb : ∀ (v397 : BitVec 32) (k0_hw152 : k0_chk152 v397) (k0_t23 : Fin (k0_t23_loop v397).trips), ∀ a, (k0_off787 v397 k0_t23) a + S1x8x16x8x128.size a ≤ S2x8x16x8x128.size a := fun v397 k0_hw152 k0_t23 => k0_hw152.2.1.2.2.2.2.2.2.2.2.2.2.2.2.2.2.2.2.2.2.2.2.2.2.2.2.2.1 k0_t23
theorem k0_t24_ok : ∀ (v397 : BitVec 32) (k0_hw152 : k0_chk152 v397), (k0_t24_loop v397).OK := fun v397 k0_hw152 => k0_hw152.2.1.2.2.2.2.2.2.2.2.2.2.2.2.2.2.2.2.2.2.2.2.2.2.2.2.2.2.1
theorem k0_off788_inb : ∀ (v397 : BitVec 32) (k0_hw152 : k0_chk152 v397) (k0_t24 : Fin (k0_t24_loop v397).trips), ∀ (k0_h30 : k0_cond30 v397 k0_t24 = 1#1), ∀ a, (k0_off788 v397 k0_t24) a + S1x1.size a ≤ S8x512.size a := fun v397 k0_hw152 k0_t24 k0_h30 => k0_hw152.2.1.2.2.2.2.2.2.2.2.2.2.2.2.2.2.2.2.2.2.2.2.2.2.2.2.2.2.2.1 k0_t24 k0_h30
theorem k0_off789_inb : ∀ (v397 : BitVec 32) (k0_hw152 : k0_chk152 v397) (k0_t24 : Fin (k0_t24_loop v397).trips), ∀ (k0_h30 : k0_cond30 v397 k0_t24 = 1#1), ∀ a, (k0_off789 v397 k0_t24) a + S1x1.size a ≤ S2x8.size a := fun v397 k0_hw152 k0_t24 k0_h30 => k0_hw152.2.1.2.2.2.2.2.2.2.2.2.2.2.2.2.2.2.2.2.2.2.2.2.2.2.2.2.2.2.2.1 k0_t24 k0_h30
theorem k0_off790_inb : ∀ (v397 : BitVec 32) (k0_hw152 : k0_chk152 v397) (k0_t24 : Fin (k0_t24_loop v397).trips), ∀ (k0_h30 : k0_cond30 v397 k0_t24 = 1#1), ∀ a, (k0_off790 v397 k0_t24) a + S1x1x16x8x128.size a ≤ S2x8x16x8x128.size a := fun v397 k0_hw152 k0_t24 k0_h30 => k0_hw152.2.1.2.2.2.2.2.2.2.2.2.2.2.2.2.2.2.2.2.2.2.2.2.2.2.2.2.2.2.2.2.1 k0_t24 k0_h30
theorem k0_off792_inb : ∀ (v397 : BitVec 32) (k0_hw152 : k0_chk152 v397) (k0_t24 : Fin (k0_t24_loop v397).trips), ∀ (k0_h30 : k0_cond30 v397 k0_t24 = 1#1), ∀ a, (k0_off792 v397 k0_t24) a + S1x1.size a ≤ S2x8.size a := fun v397 k0_hw152 k0_t24 k0_h30 => k0_hw152.2.1.2.2.2.2.2.2.2.2.2.2.2.2.2.2.2.2.2.2.2.2.2.2.2.2.2.2.2.2.2.2.1 k0_t24 k0_h30
theorem k0_off793_inb : ∀ (v397 : BitVec 32) (k0_hw152 : k0_chk152 v397) (k0_t24 : Fin (k0_t24_loop v397).trips), ∀ (k0_h30 : k0_cond30 v397 k0_t24 = 1#1), ∀ a, (k0_off793 v397 k0_t24) a + S1x1x16x8x128.size a ≤ S2x8x16x8x128.size a := fun v397 k0_hw152 k0_t24 k0_h30 => k0_hw152.2.1.2.2.2.2.2.2.2.2.2.2.2.2.2.2.2.2.2.2.2.2.2.2.2.2.2.2.2.2.2.2.2 k0_t24 k0_h30
theorem k0_off794_inb : ∀ (v397 : BitVec 32) (k0_hw152 : k0_chk152 v397) (k0_t24 : Fin (k0_t24_loop v397).trips), ∀ (k0_h30 : k0_cond30 v397 k0_t24 = 1#1), ∀ a, (k0_off794 v397 k0_t24) a + S1x1.size a ≤ S8x512.size a := fun v397 k0_hw152 k0_t24 k0_h30 => k0_hw152.2.2.1.1 k0_t24 k0_h30
theorem k0_off795_inb : ∀ (v397 : BitVec 32) (k0_hw152 : k0_chk152 v397) (k0_t24 : Fin (k0_t24_loop v397).trips), ∀ (k0_h30 : k0_cond30 v397 k0_t24 = 1#1), ∀ a, (k0_off795 v397 k0_t24) a + S1x1.size a ≤ S2x8.size a := fun v397 k0_hw152 k0_t24 k0_h30 => k0_hw152.2.2.1.2.1 k0_t24 k0_h30
theorem k0_off796_inb : ∀ (v397 : BitVec 32) (k0_hw152 : k0_chk152 v397) (k0_t24 : Fin (k0_t24_loop v397).trips), ∀ (k0_h30 : k0_cond30 v397 k0_t24 = 1#1), ∀ a, (k0_off796 v397 k0_t24) a + S1x1x16x8x128.size a ≤ S2x8x16x8x128.size a := fun v397 k0_hw152 k0_t24 k0_h30 => k0_hw152.2.2.1.2.2.1 k0_t24 k0_h30
theorem k0_off798_inb : ∀ (v397 : BitVec 32) (k0_hw152 : k0_chk152 v397) (k0_t24 : Fin (k0_t24_loop v397).trips), ∀ (k0_h30 : k0_cond30 v397 k0_t24 = 1#1), ∀ a, (k0_off798 v397 k0_t24) a + S1x1.size a ≤ S2x8.size a := fun v397 k0_hw152 k0_t24 k0_h30 => k0_hw152.2.2.1.2.2.2.1 k0_t24 k0_h30
theorem k0_off799_inb : ∀ (v397 : BitVec 32) (k0_hw152 : k0_chk152 v397) (k0_t24 : Fin (k0_t24_loop v397).trips), ∀ (k0_h30 : k0_cond30 v397 k0_t24 = 1#1), ∀ a, (k0_off799 v397 k0_t24) a + S1x1x16x8x128.size a ≤ S2x8x16x8x128.size a := fun v397 k0_hw152 k0_t24 k0_h30 => k0_hw152.2.2.1.2.2.2.2.1 k0_t24 k0_h30
theorem k0_off800_inb : ∀ (v397 : BitVec 32) (k0_hw152 : k0_chk152 v397) (k0_t24 : Fin (k0_t24_loop v397).trips), ∀ (k0_h30 : k0_cond30 v397 k0_t24 = 1#1), ∀ a, (k0_off800 v397 k0_t24) a + S1x1.size a ≤ S8x512.size a := fun v397 k0_hw152 k0_t24 k0_h30 => k0_hw152.2.2.1.2.2.2.2.2.1 k0_t24 k0_h30
theorem k0_off801_inb : ∀ (v397 : BitVec 32) (k0_hw152 : k0_chk152 v397) (k0_t24 : Fin (k0_t24_loop v397).trips), ∀ (k0_h30 : k0_cond30 v397 k0_t24 = 1#1), ∀ a, (k0_off801 v397 k0_t24) a + S1x1.size a ≤ S2x8.size a := fun v397 k0_hw152 k0_t24 k0_h30 => k0_hw152.2.2.1.2.2.2.2.2.2.1 k0_t24 k0_h30
theorem k0_off802_inb : ∀ (v397 : BitVec 32) (k0_hw152 : k0_chk152 v397) (k0_t24 : Fin (k0_t24_loop v397).trips), ∀ (k0_h30 : k0_cond30 v397 k0_t24 = 1#1), ∀ a, (k0_off802 v397 k0_t24) a + S1x1x16x8x128.size a ≤ S2x8x16x8x128.size a := fun v397 k0_hw152 k0_t24 k0_h30 => k0_hw152.2.2.1.2.2.2.2.2.2.2.1 k0_t24 k0_h30
theorem k0_off804_inb : ∀ (v397 : BitVec 32) (k0_hw152 : k0_chk152 v397) (k0_t24 : Fin (k0_t24_loop v397).trips), ∀ (k0_h30 : k0_cond30 v397 k0_t24 = 1#1), ∀ a, (k0_off804 v397 k0_t24) a + S1x1.size a ≤ S2x8.size a := fun v397 k0_hw152 k0_t24 k0_h30 => k0_hw152.2.2.1.2.2.2.2.2.2.2.2.1 k0_t24 k0_h30
theorem k0_off805_inb : ∀ (v397 : BitVec 32) (k0_hw152 : k0_chk152 v397) (k0_t24 : Fin (k0_t24_loop v397).trips), ∀ (k0_h30 : k0_cond30 v397 k0_t24 = 1#1), ∀ a, (k0_off805 v397 k0_t24) a + S1x1x16x8x128.size a ≤ S2x8x16x8x128.size a := fun v397 k0_hw152 k0_t24 k0_h30 => k0_hw152.2.2.1.2.2.2.2.2.2.2.2.2.1 k0_t24 k0_h30
theorem k0_off806_inb : ∀ (v397 : BitVec 32) (k0_hw152 : k0_chk152 v397) (k0_t24 : Fin (k0_t24_loop v397).trips), ∀ (k0_h30 : k0_cond30 v397 k0_t24 = 1#1), ∀ a, (k0_off806 v397 k0_t24) a + S1x1.size a ≤ S8x512.size a := fun v397 k0_hw152 k0_t24 k0_h30 => k0_hw152.2.2.1.2.2.2.2.2.2.2.2.2.2.1 k0_t24 k0_h30
theorem k0_off807_inb : ∀ (v397 : BitVec 32) (k0_hw152 : k0_chk152 v397) (k0_t24 : Fin (k0_t24_loop v397).trips), ∀ (k0_h30 : k0_cond30 v397 k0_t24 = 1#1), ∀ a, (k0_off807 v397 k0_t24) a + S1x1.size a ≤ S2x8.size a := fun v397 k0_hw152 k0_t24 k0_h30 => k0_hw152.2.2.1.2.2.2.2.2.2.2.2.2.2.2.1 k0_t24 k0_h30
theorem k0_off808_inb : ∀ (v397 : BitVec 32) (k0_hw152 : k0_chk152 v397) (k0_t24 : Fin (k0_t24_loop v397).trips), ∀ (k0_h30 : k0_cond30 v397 k0_t24 = 1#1), ∀ a, (k0_off808 v397 k0_t24) a + S1x1x16x8x128.size a ≤ S2x8x16x8x128.size a := fun v397 k0_hw152 k0_t24 k0_h30 => k0_hw152.2.2.1.2.2.2.2.2.2.2.2.2.2.2.2.1 k0_t24 k0_h30
theorem k0_off810_inb : ∀ (v397 : BitVec 32) (k0_hw152 : k0_chk152 v397) (k0_t24 : Fin (k0_t24_loop v397).trips), ∀ (k0_h30 : k0_cond30 v397 k0_t24 = 1#1), ∀ a, (k0_off810 v397 k0_t24) a + S1x1.size a ≤ S2x8.size a := fun v397 k0_hw152 k0_t24 k0_h30 => k0_hw152.2.2.1.2.2.2.2.2.2.2.2.2.2.2.2.2.1 k0_t24 k0_h30
theorem k0_off811_inb : ∀ (v397 : BitVec 32) (k0_hw152 : k0_chk152 v397) (k0_t24 : Fin (k0_t24_loop v397).trips), ∀ (k0_h30 : k0_cond30 v397 k0_t24 = 1#1), ∀ a, (k0_off811 v397 k0_t24) a + S1x1x16x8x128.size a ≤ S2x8x16x8x128.size a := fun v397 k0_hw152 k0_t24 k0_h30 => k0_hw152.2.2.1.2.2.2.2.2.2.2.2.2.2.2.2.2.2.1 k0_t24 k0_h30
theorem k0_off812_inb : ∀ (v397 : BitVec 32) (k0_hw152 : k0_chk152 v397) (k0_t24 : Fin (k0_t24_loop v397).trips), ∀ (k0_h30 : k0_cond30 v397 k0_t24 = 1#1), ∀ a, (k0_off812 v397 k0_t24) a + S1x1.size a ≤ S8x512.size a := fun v397 k0_hw152 k0_t24 k0_h30 => k0_hw152.2.2.1.2.2.2.2.2.2.2.2.2.2.2.2.2.2.2.1 k0_t24 k0_h30
theorem k0_off813_inb : ∀ (v397 : BitVec 32) (k0_hw152 : k0_chk152 v397) (k0_t24 : Fin (k0_t24_loop v397).trips), ∀ (k0_h30 : k0_cond30 v397 k0_t24 = 1#1), ∀ a, (k0_off813 v397 k0_t24) a + S1x1.size a ≤ S2x8.size a := fun v397 k0_hw152 k0_t24 k0_h30 => k0_hw152.2.2.1.2.2.2.2.2.2.2.2.2.2.2.2.2.2.2.2.1 k0_t24 k0_h30
theorem k0_off814_inb : ∀ (v397 : BitVec 32) (k0_hw152 : k0_chk152 v397) (k0_t24 : Fin (k0_t24_loop v397).trips), ∀ (k0_h30 : k0_cond30 v397 k0_t24 = 1#1), ∀ a, (k0_off814 v397 k0_t24) a + S1x1x16x8x128.size a ≤ S2x8x16x8x128.size a := fun v397 k0_hw152 k0_t24 k0_h30 => k0_hw152.2.2.1.2.2.2.2.2.2.2.2.2.2.2.2.2.2.2.2.2.1 k0_t24 k0_h30
theorem k0_off816_inb : ∀ (v397 : BitVec 32) (k0_hw152 : k0_chk152 v397) (k0_t24 : Fin (k0_t24_loop v397).trips), ∀ (k0_h30 : k0_cond30 v397 k0_t24 = 1#1), ∀ a, (k0_off816 v397 k0_t24) a + S1x1.size a ≤ S2x8.size a := fun v397 k0_hw152 k0_t24 k0_h30 => k0_hw152.2.2.1.2.2.2.2.2.2.2.2.2.2.2.2.2.2.2.2.2.2.1 k0_t24 k0_h30
theorem k0_off817_inb : ∀ (v397 : BitVec 32) (k0_hw152 : k0_chk152 v397) (k0_t24 : Fin (k0_t24_loop v397).trips), ∀ (k0_h30 : k0_cond30 v397 k0_t24 = 1#1), ∀ a, (k0_off817 v397 k0_t24) a + S1x1x16x8x128.size a ≤ S2x8x16x8x128.size a := fun v397 k0_hw152 k0_t24 k0_h30 => k0_hw152.2.2.1.2.2.2.2.2.2.2.2.2.2.2.2.2.2.2.2.2.2.2.1 k0_t24 k0_h30
theorem k0_off818_inb : ∀ (v397 : BitVec 32) (k0_hw152 : k0_chk152 v397) (k0_t24 : Fin (k0_t24_loop v397).trips), ∀ (k0_h30 : k0_cond30 v397 k0_t24 = 1#1), ∀ a, (k0_off818 v397 k0_t24) a + S1x1.size a ≤ S8x512.size a := fun v397 k0_hw152 k0_t24 k0_h30 => k0_hw152.2.2.1.2.2.2.2.2.2.2.2.2.2.2.2.2.2.2.2.2.2.2.2.1 k0_t24 k0_h30
theorem k0_off819_inb : ∀ (v397 : BitVec 32) (k0_hw152 : k0_chk152 v397) (k0_t24 : Fin (k0_t24_loop v397).trips), ∀ (k0_h30 : k0_cond30 v397 k0_t24 = 1#1), ∀ a, (k0_off819 v397 k0_t24) a + S1x1.size a ≤ S2x8.size a := fun v397 k0_hw152 k0_t24 k0_h30 => k0_hw152.2.2.1.2.2.2.2.2.2.2.2.2.2.2.2.2.2.2.2.2.2.2.2.2.1 k0_t24 k0_h30
theorem k0_off820_inb : ∀ (v397 : BitVec 32) (k0_hw152 : k0_chk152 v397) (k0_t24 : Fin (k0_t24_loop v397).trips), ∀ (k0_h30 : k0_cond30 v397 k0_t24 = 1#1), ∀ a, (k0_off820 v397 k0_t24) a + S1x1x16x8x128.size a ≤ S2x8x16x8x128.size a := fun v397 k0_hw152 k0_t24 k0_h30 => k0_hw152.2.2.1.2.2.2.2.2.2.2.2.2.2.2.2.2.2.2.2.2.2.2.2.2.2.1 k0_t24 k0_h30
theorem k0_off822_inb : ∀ (v397 : BitVec 32) (k0_hw152 : k0_chk152 v397) (k0_t24 : Fin (k0_t24_loop v397).trips), ∀ (k0_h30 : k0_cond30 v397 k0_t24 = 1#1), ∀ a, (k0_off822 v397 k0_t24) a + S1x1.size a ≤ S2x8.size a := fun v397 k0_hw152 k0_t24 k0_h30 => k0_hw152.2.2.1.2.2.2.2.2.2.2.2.2.2.2.2.2.2.2.2.2.2.2.2.2.2.2.1 k0_t24 k0_h30
theorem k0_off823_inb : ∀ (v397 : BitVec 32) (k0_hw152 : k0_chk152 v397) (k0_t24 : Fin (k0_t24_loop v397).trips), ∀ (k0_h30 : k0_cond30 v397 k0_t24 = 1#1), ∀ a, (k0_off823 v397 k0_t24) a + S1x1x16x8x128.size a ≤ S2x8x16x8x128.size a := fun v397 k0_hw152 k0_t24 k0_h30 => k0_hw152.2.2.1.2.2.2.2.2.2.2.2.2.2.2.2.2.2.2.2.2.2.2.2.2.2.2.2.1 k0_t24 k0_h30
theorem k0_off824_inb : ∀ (v397 : BitVec 32) (k0_hw152 : k0_chk152 v397) (k0_t24 : Fin (k0_t24_loop v397).trips), ∀ (k0_h30 : k0_cond30 v397 k0_t24 = 1#1), ∀ a, (k0_off824 v397 k0_t24) a + S1x1.size a ≤ S8x512.size a := fun v397 k0_hw152 k0_t24 k0_h30 => k0_hw152.2.2.1.2.2.2.2.2.2.2.2.2.2.2.2.2.2.2.2.2.2.2.2.2.2.2.2.2.1 k0_t24 k0_h30
theorem k0_off825_inb : ∀ (v397 : BitVec 32) (k0_hw152 : k0_chk152 v397) (k0_t24 : Fin (k0_t24_loop v397).trips), ∀ (k0_h30 : k0_cond30 v397 k0_t24 = 1#1), ∀ a, (k0_off825 v397 k0_t24) a + S1x1.size a ≤ S2x8.size a := fun v397 k0_hw152 k0_t24 k0_h30 => k0_hw152.2.2.1.2.2.2.2.2.2.2.2.2.2.2.2.2.2.2.2.2.2.2.2.2.2.2.2.2.2.1 k0_t24 k0_h30
theorem k0_off826_inb : ∀ (v397 : BitVec 32) (k0_hw152 : k0_chk152 v397) (k0_t24 : Fin (k0_t24_loop v397).trips), ∀ (k0_h30 : k0_cond30 v397 k0_t24 = 1#1), ∀ a, (k0_off826 v397 k0_t24) a + S1x1x16x8x128.size a ≤ S2x8x16x8x128.size a := fun v397 k0_hw152 k0_t24 k0_h30 => k0_hw152.2.2.1.2.2.2.2.2.2.2.2.2.2.2.2.2.2.2.2.2.2.2.2.2.2.2.2.2.2.2.1 k0_t24 k0_h30
theorem k0_off828_inb : ∀ (v397 : BitVec 32) (k0_hw152 : k0_chk152 v397) (k0_t24 : Fin (k0_t24_loop v397).trips), ∀ (k0_h30 : k0_cond30 v397 k0_t24 = 1#1), ∀ a, (k0_off828 v397 k0_t24) a + S1x1.size a ≤ S2x8.size a := fun v397 k0_hw152 k0_t24 k0_h30 => k0_hw152.2.2.1.2.2.2.2.2.2.2.2.2.2.2.2.2.2.2.2.2.2.2.2.2.2.2.2.2.2.2.2.1 k0_t24 k0_h30
theorem k0_off829_inb : ∀ (v397 : BitVec 32) (k0_hw152 : k0_chk152 v397) (k0_t24 : Fin (k0_t24_loop v397).trips), ∀ (k0_h30 : k0_cond30 v397 k0_t24 = 1#1), ∀ a, (k0_off829 v397 k0_t24) a + S1x1x16x8x128.size a ≤ S2x8x16x8x128.size a := fun v397 k0_hw152 k0_t24 k0_h30 => k0_hw152.2.2.1.2.2.2.2.2.2.2.2.2.2.2.2.2.2.2.2.2.2.2.2.2.2.2.2.2.2.2.2.2.1 k0_t24 k0_h30
theorem k0_off830_inb : ∀ (v397 : BitVec 32) (k0_hw152 : k0_chk152 v397) (k0_t24 : Fin (k0_t24_loop v397).trips), ∀ (k0_h30 : k0_cond30 v397 k0_t24 = 1#1), ∀ a, (k0_off830 v397 k0_t24) a + S1x1.size a ≤ S8x512.size a := fun v397 k0_hw152 k0_t24 k0_h30 => k0_hw152.2.2.1.2.2.2.2.2.2.2.2.2.2.2.2.2.2.2.2.2.2.2.2.2.2.2.2.2.2.2.2.2.2.1 k0_t24 k0_h30
theorem k0_off831_inb : ∀ (v397 : BitVec 32) (k0_hw152 : k0_chk152 v397) (k0_t24 : Fin (k0_t24_loop v397).trips), ∀ (k0_h30 : k0_cond30 v397 k0_t24 = 1#1), ∀ a, (k0_off831 v397 k0_t24) a + S1x1.size a ≤ S2x8.size a := fun v397 k0_hw152 k0_t24 k0_h30 => k0_hw152.2.2.1.2.2.2.2.2.2.2.2.2.2.2.2.2.2.2.2.2.2.2.2.2.2.2.2.2.2.2.2.2.2.2 k0_t24 k0_h30
theorem k0_off832_inb : ∀ (v397 : BitVec 32) (k0_hw152 : k0_chk152 v397) (k0_t24 : Fin (k0_t24_loop v397).trips), ∀ (k0_h30 : k0_cond30 v397 k0_t24 = 1#1), ∀ a, (k0_off832 v397 k0_t24) a + S1x1x16x8x128.size a ≤ S2x8x16x8x128.size a := fun v397 k0_hw152 k0_t24 k0_h30 => k0_hw152.2.2.2.1 k0_t24 k0_h30
theorem k0_off834_inb : ∀ (v397 : BitVec 32) (k0_hw152 : k0_chk152 v397) (k0_t24 : Fin (k0_t24_loop v397).trips), ∀ (k0_h30 : k0_cond30 v397 k0_t24 = 1#1), ∀ a, (k0_off834 v397 k0_t24) a + S1x1.size a ≤ S2x8.size a := fun v397 k0_hw152 k0_t24 k0_h30 => k0_hw152.2.2.2.2.1 k0_t24 k0_h30
theorem k0_off835_inb : ∀ (v397 : BitVec 32) (k0_hw152 : k0_chk152 v397) (k0_t24 : Fin (k0_t24_loop v397).trips), ∀ (k0_h30 : k0_cond30 v397 k0_t24 = 1#1), ∀ a, (k0_off835 v397 k0_t24) a + S1x1x16x8x128.size a ≤ S2x8x16x8x128.size a := fun v397 k0_hw152 k0_t24 k0_h30 => k0_hw152.2.2.2.2.2.1 k0_t24 k0_h30
theorem k0_off836_inb : ∀ (v397 : BitVec 32) (k0_hw152 : k0_chk152 v397) (k0_t24 : Fin (k0_t24_loop v397).trips), ∀ a, (k0_off836 v397 k0_t24) a + S1x1.size a ≤ S2x8.size a := fun v397 k0_hw152 k0_t24 => k0_hw152.2.2.2.2.2.2.1 k0_t24
theorem k0_off837_inb : ∀ (v397 : BitVec 32) (k0_hw152 : k0_chk152 v397) (k0_t24 : Fin (k0_t24_loop v397).trips), ∀ a, (k0_off837 v397 k0_t24) a + S1x1x16x8x128.size a ≤ S2x8x16x8x128.size a := fun v397 k0_hw152 k0_t24 => k0_hw152.2.2.2.2.2.2.2.1 k0_t24
theorem k0_off838_inb : ∀ (v397 : BitVec 32) (k0_hw152 : k0_chk152 v397) (k0_t24 : Fin (k0_t24_loop v397).trips), ∀ a, (k0_off838 v397 k0_t24) a + S1x1.size a ≤ S2x8.size a := fun v397 k0_hw152 k0_t24 => k0_hw152.2.2.2.2.2.2.2.2.1 k0_t24
theorem k0_off839_inb : ∀ (v397 : BitVec 32) (k0_hw152 : k0_chk152 v397) (k0_t24 : Fin (k0_t24_loop v397).trips), ∀ a, (k0_off839 v397 k0_t24) a + S1x1x16x8x128.size a ≤ S2x8x16x8x128.size a := fun v397 k0_hw152 k0_t24 => k0_hw152.2.2.2.2.2.2.2.2.2.1 k0_t24
theorem k0_off840_inb : ∀ (v397 : BitVec 32) (k0_hw152 : k0_chk152 v397) (k0_t24 : Fin (k0_t24_loop v397).trips), ∀ a, (k0_off840 v397 k0_t24) a + S1x1.size a ≤ S2x8.size a := fun v397 k0_hw152 k0_t24 => k0_hw152.2.2.2.2.2.2.2.2.2.2.1 k0_t24
theorem k0_off841_inb : ∀ (v397 : BitVec 32) (k0_hw152 : k0_chk152 v397) (k0_t24 : Fin (k0_t24_loop v397).trips), ∀ a, (k0_off841 v397 k0_t24) a + S1x1x16x8x128.size a ≤ S2x8x16x8x128.size a := fun v397 k0_hw152 k0_t24 => k0_hw152.2.2.2.2.2.2.2.2.2.2.2.1 k0_t24
theorem k0_off842_inb : ∀ (v397 : BitVec 32) (k0_hw152 : k0_chk152 v397) (k0_t24 : Fin (k0_t24_loop v397).trips), ∀ a, (k0_off842 v397 k0_t24) a + S1x1.size a ≤ S2x8.size a := fun v397 k0_hw152 k0_t24 => k0_hw152.2.2.2.2.2.2.2.2.2.2.2.2.1 k0_t24
theorem k0_off843_inb : ∀ (v397 : BitVec 32) (k0_hw152 : k0_chk152 v397) (k0_t24 : Fin (k0_t24_loop v397).trips), ∀ a, (k0_off843 v397 k0_t24) a + S1x1x16x8x128.size a ≤ S2x8x16x8x128.size a := fun v397 k0_hw152 k0_t24 => k0_hw152.2.2.2.2.2.2.2.2.2.2.2.2.2.1 k0_t24
theorem k0_off844_inb : ∀ (v397 : BitVec 32) (k0_hw152 : k0_chk152 v397) (k0_t24 : Fin (k0_t24_loop v397).trips), ∀ a, (k0_off844 v397 k0_t24) a + S1x1.size a ≤ S2x8.size a := fun v397 k0_hw152 k0_t24 => k0_hw152.2.2.2.2.2.2.2.2.2.2.2.2.2.2.1 k0_t24
theorem k0_off845_inb : ∀ (v397 : BitVec 32) (k0_hw152 : k0_chk152 v397) (k0_t24 : Fin (k0_t24_loop v397).trips), ∀ a, (k0_off845 v397 k0_t24) a + S1x1x16x8x128.size a ≤ S2x8x16x8x128.size a := fun v397 k0_hw152 k0_t24 => k0_hw152.2.2.2.2.2.2.2.2.2.2.2.2.2.2.2.1 k0_t24
theorem k0_off846_inb : ∀ (v397 : BitVec 32) (k0_hw152 : k0_chk152 v397) (k0_t24 : Fin (k0_t24_loop v397).trips), ∀ a, (k0_off846 v397 k0_t24) a + S1x1.size a ≤ S2x8.size a := fun v397 k0_hw152 k0_t24 => k0_hw152.2.2.2.2.2.2.2.2.2.2.2.2.2.2.2.2.1 k0_t24
theorem k0_off847_inb : ∀ (v397 : BitVec 32) (k0_hw152 : k0_chk152 v397) (k0_t24 : Fin (k0_t24_loop v397).trips), ∀ a, (k0_off847 v397 k0_t24) a + S1x1x16x8x128.size a ≤ S2x8x16x8x128.size a := fun v397 k0_hw152 k0_t24 => k0_hw152.2.2.2.2.2.2.2.2.2.2.2.2.2.2.2.2.2.1 k0_t24
theorem k0_off848_inb : ∀ (v397 : BitVec 32) (k0_hw152 : k0_chk152 v397) (k0_t24 : Fin (k0_t24_loop v397).trips), ∀ a, (k0_off848 v397 k0_t24) a + S1x1.size a ≤ S2x8.size a := fun v397 k0_hw152 k0_t24 => k0_hw152.2.2.2.2.2.2.2.2.2.2.2.2.2.2.2.2.2.2.1 k0_t24
theorem k0_off849_inb : ∀ (v397 : BitVec 32) (k0_hw152 : k0_chk152 v397) (k0_t24 : Fin (k0_t24_loop v397).trips), ∀ a, (k0_off849 v397 k0_t24) a + S1x1x16x8x128.size a ≤ S2x8x16x8x128.size a := fun v397 k0_hw152 k0_t24 => k0_hw152.2.2.2.2.2.2.2.2.2.2.2.2.2.2.2.2.2.2.2.1 k0_t24
theorem k0_off850_inb : ∀ (v397 : BitVec 32) (k0_hw152 : k0_chk152 v397) (k0_t24 : Fin (k0_t24_loop v397).trips), ∀ a, (k0_off850 v397 k0_t24) a + S1x1.size a ≤ S2x8.size a := fun v397 k0_hw152 k0_t24 => k0_hw152.2.2.2.2.2.2.2.2.2.2.2.2.2.2.2.2.2.2.2.2.1 k0_t24
theorem k0_off851_inb : ∀ (v397 : BitVec 32) (k0_hw152 : k0_chk152 v397) (k0_t24 : Fin (k0_t24_loop v397).trips), ∀ a, (k0_off851 v397 k0_t24) a + S1x1x16x8x128.size a ≤ S2x8x16x8x128.size a := fun v397 k0_hw152 k0_t24 => k0_hw152.2.2.2.2.2.2.2.2.2.2.2.2.2.2.2.2.2.2.2.2.2.1 k0_t24
theorem k0_off852_inb : ∀ (v397 : BitVec 32) (k0_hw152 : k0_chk152 v397) (k0_t24 : Fin (k0_t24_loop v397).trips), ∀ a, (k0_off852 v397 k0_t24) a + S1x8x16x8x128.size a ≤ S2x8x16x8x128.size a := fun v397 k0_hw152 k0_t24 => k0_hw152.2.2.2.2.2.2.2.2.2.2.2.2.2.2.2.2.2.2.2.2.2.2 k0_t24

@[reducible] def k0_t25_loop (d0 : Dev nD) (v443 : BitVec 32) : Scf.Loop 32 :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v444 : BitVec 32 := Scalar.subi v443 v10
  let c3_i32_264 : BitVec 32 := 3#32
  let v445 : BitVec 32 := Scalar.addi v444 c3_i32_264
  let c0_i32_266 : BitVec 32 := 0#32
  let v447 : BitVec 1 := Scalar.cmpi .sgt v445 c0_i32_266
  let v448 : BitVec 32 := Scalar.extui v447
  let c0_i32_267 : BitVec 32 := 0#32
  let v449 : BitVec 1 := Scalar.cmpi .slt v445 c0_i32_267
  let v450 : BitVec 32 := Scalar.extui v449
  let v451 : BitVec 32 := Scalar.subi v448 v450
  let c4_i32_265 : BitVec 32 := 4#32
  let c0_i32_268 : BitVec 32 := 0#32
  let v452 : BitVec 1 := Scalar.cmpi .sgt c4_i32_265 c0_i32_268
  let v453 : BitVec 32 := Scalar.extui v452
  let c0_i32_269 : BitVec 32 := 0#32
  let v454 : BitVec 1 := Scalar.cmpi .slt c4_i32_265 c0_i32_269
  let v455 : BitVec 32 := Scalar.extui v454
  let v456 : BitVec 32 := Scalar.subi v453 v455
  let v457 : BitVec 1 := Scalar.cmpi .ne v451 v456
  let v458 : BitVec 32 := Scalar.remsi v445 c4_i32_265
  let c0_i32_270 : BitVec 32 := 0#32
  let v459 : BitVec 1 := Scalar.cmpi .ne v458 c0_i32_270
  let v460 : BitVec 1 := Scalar.andi v457 v459
  let v446 : BitVec 32 := Scalar.divsi v445 c4_i32_265
  let c1_i32_271 : BitVec 32 := 1#32
  let v461 : BitVec 32 := Scalar.subi v446 c1_i32_271
  let v462 : BitVec 32 := Scalar.select v460 v461 v446
  let v463 : BitVec 32 := Scalar.subi v462 c0_i32_272
  let c1_i32_274 : BitVec 32 := 1#32
  let v465 : BitVec 32 := Scalar.divsi v463 c1_i32_274
  let v466 : BitVec 32 := Scalar.muli v465 c1_i32_274
  let v467 : BitVec 32 := Scalar.addi c0_i32_272 v466
  let c1_i32_275 : BitVec 32 := 1#32
  ⟨c0_i32_272, v467, c1_i32_275⟩

def k0_off853 (d0 : Dev nD) (v443 : BitVec 32) (k0_t25 : Fin (k0_t25_loop d0 v443).trips) : Fin 2 → Nat :=
  let c6_655 : Index := 6#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_272 : BitVec 32 := 0#32
  let c1_i32_275 : BitVec 32 := 1#32
  let arg17 : BitVec 32 := Scf.iv c0_i32_272 c1_i32_275 k0_t25
  let v866 : BitVec 32 := Scalar.muli c4_i32_654 arg17
  let v867 : BitVec 32 := Scalar.addi v10 v866
  let v868 : Index := Scalar.indexCast v867
  ![6, v868.toNat]
def k0_off854 (arg18 : BitVec 32) : Fin 2 → Nat :=
  let c6_665 : Index := 6#32
  let v893 : Index := Scalar.indexCast arg18
  ![6, v893.toNat]
def k0_cond31 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk170 (d0 : Dev nD) (arg18 : BitVec 32) (v869 : BitVec 32) : Prop :=
  (∀ (k0_h31 : k0_cond31 d0 v869 = 1#1), ∀ a, (k0_off854 arg18) a + S1x1.size a ≤ S8x512.size a)
theorem k0_off854_inb : ∀ (d0 : Dev nD) (arg18 : BitVec 32) (v869 : BitVec 32) (k0_hw170 : k0_chk170 d0 arg18 v869), ∀ (k0_h31 : k0_cond31 d0 v869 = 1#1), ∀ a, (k0_off854 arg18) a + S1x1.size a ≤ S8x512.size a := fun d0 arg18 v869 k0_hw170 k0_h31 => k0_hw170 k0_h31

@[reducible] def k0_t26_loop (d0 : Dev nD) (v443 : BitVec 32) : Scf.Loop 32 :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v444 : BitVec 32 := Scalar.subi v443 v10
  let c3_i32_264 : BitVec 32 := 3#32
  let v445 : BitVec 32 := Scalar.addi v444 c3_i32_264
  let c0_i32_266 : BitVec 32 := 0#32
  let v447 : BitVec 1 := Scalar.cmpi .sgt v445 c0_i32_266
  let v448 : BitVec 32 := Scalar.extui v447
  let c0_i32_267 : BitVec 32 := 0#32
  let v449 : BitVec 1 := Scalar.cmpi .slt v445 c0_i32_267
  let v450 : BitVec 32 := Scalar.extui v449
  let v451 : BitVec 32 := Scalar.subi v448 v450
  let c4_i32_265 : BitVec 32 := 4#32
  let c0_i32_268 : BitVec 32 := 0#32
  let v452 : BitVec 1 := Scalar.cmpi .sgt c4_i32_265 c0_i32_268
  let v453 : BitVec 32 := Scalar.extui v452
  let c0_i32_269 : BitVec 32 := 0#32
  let v454 : BitVec 1 := Scalar.cmpi .slt c4_i32_265 c0_i32_269
  let v455 : BitVec 32 := Scalar.extui v454
  let v456 : BitVec 32 := Scalar.subi v453 v455
  let v457 : BitVec 1 := Scalar.cmpi .ne v451 v456
  let v458 : BitVec 32 := Scalar.remsi v445 c4_i32_265
  let c0_i32_270 : BitVec 32 := 0#32
  let v459 : BitVec 1 := Scalar.cmpi .ne v458 c0_i32_270
  let v460 : BitVec 1 := Scalar.andi v457 v459
  let v446 : BitVec 32 := Scalar.divsi v445 c4_i32_265
  let c1_i32_271 : BitVec 32 := 1#32
  let v461 : BitVec 32 := Scalar.subi v446 c1_i32_271
  let v462 : BitVec 32 := Scalar.select v460 v461 v446
  let v463 : BitVec 32 := Scalar.subi v462 c0_i32_272
  let c1_i32_274 : BitVec 32 := 1#32
  let v465 : BitVec 32 := Scalar.divsi v463 c1_i32_274
  let v466 : BitVec 32 := Scalar.muli v465 c1_i32_274
  let v467 : BitVec 32 := Scalar.addi c0_i32_272 v466
  let v464 : BitVec 32 := Scalar.addi c0_i32_272 v463
  let c1_i32_276 : BitVec 32 := 1#32
  ⟨v467, v464, c1_i32_276⟩
def k0_off855 (d0 : Dev nD) (v443 : BitVec 32) (k0_t26 : Fin (k0_t26_loop d0 v443).trips) : Fin 2 → Nat :=
  let c6_655 : Index := 6#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_272 : BitVec 32 := 0#32
  let v444 : BitVec 32 := Scalar.subi v443 v10
  let c3_i32_264 : BitVec 32 := 3#32
  let v445 : BitVec 32 := Scalar.addi v444 c3_i32_264
  let c0_i32_266 : BitVec 32 := 0#32
  let v447 : BitVec 1 := Scalar.cmpi .sgt v445 c0_i32_266
  let v448 : BitVec 32 := Scalar.extui v447
  let c0_i32_267 : BitVec 32 := 0#32
  let v449 : BitVec 1 := Scalar.cmpi .slt v445 c0_i32_267
  let v450 : BitVec 32 := Scalar.extui v449
  let v451 : BitVec 32 := Scalar.subi v448 v450
  let c4_i32_265 : BitVec 32 := 4#32
  let c0_i32_268 : BitVec 32 := 0#32
  let v452 : BitVec 1 := Scalar.cmpi .sgt c4_i32_265 c0_i32_268
  let v453 : BitVec 32 := Scalar.extui v452
  let c0_i32_269 : BitVec 32 := 0#32
  let v454 : BitVec 1 := Scalar.cmpi .slt c4_i32_265 c0_i32_269
  let v455 : BitVec 32 := Scalar.extui v454
  let v456 : BitVec 32 := Scalar.subi v453 v455
  let v457 : BitVec 1 := Scalar.cmpi .ne v451 v456
  let v458 : BitVec 32 := Scalar.remsi v445 c4_i32_265
  let c0_i32_270 : BitVec 32 := 0#32
  let v459 : BitVec 1 := Scalar.cmpi .ne v458 c0_i32_270
  let v460 : BitVec 1 := Scalar.andi v457 v459
  let v446 : BitVec 32 := Scalar.divsi v445 c4_i32_265
  let c1_i32_271 : BitVec 32 := 1#32
  let v461 : BitVec 32 := Scalar.subi v446 c1_i32_271
  let v462 : BitVec 32 := Scalar.select v460 v461 v446
  let v463 : BitVec 32 := Scalar.subi v462 c0_i32_272
  let c1_i32_274 : BitVec 32 := 1#32
  let v465 : BitVec 32 := Scalar.divsi v463 c1_i32_274
  let v466 : BitVec 32 := Scalar.muli v465 c1_i32_274
  let v467 : BitVec 32 := Scalar.addi c0_i32_272 v466
  let c1_i32_276 : BitVec 32 := 1#32
  let arg17 : BitVec 32 := Scf.iv v467 c1_i32_276 k0_t26
  let v866 : BitVec 32 := Scalar.muli c4_i32_654 arg17
  let v867 : BitVec 32 := Scalar.addi v10 v866
  let v868 : Index := Scalar.indexCast v867
  ![6, v868.toNat]

def k0_chk169 (d0 : Dev nD) (v443 : BitVec 32) : Prop :=
  ((k0_t25_loop d0 v443).OK) ∧
  (∀ k0_t25 : Fin (k0_t25_loop d0 v443).trips, ∀ a, (k0_off853 d0 v443 k0_t25) a + S1x1.size a ≤ S8x512.size a) ∧
  ((k0_t26_loop d0 v443).OK) ∧
  (∀ k0_t26 : Fin (k0_t26_loop d0 v443).trips, ∀ a, (k0_off855 d0 v443 k0_t26) a + S1x1.size a ≤ S8x512.size a)
theorem k0_t25_ok : ∀ (d0 : Dev nD) (v443 : BitVec 32) (k0_hw169 : k0_chk169 d0 v443), (k0_t25_loop d0 v443).OK := fun d0 v443 k0_hw169 => k0_hw169.1
theorem k0_off853_inb : ∀ (d0 : Dev nD) (v443 : BitVec 32) (k0_hw169 : k0_chk169 d0 v443) (k0_t25 : Fin (k0_t25_loop d0 v443).trips), ∀ a, (k0_off853 d0 v443 k0_t25) a + S1x1.size a ≤ S8x512.size a := fun d0 v443 k0_hw169 k0_t25 => k0_hw169.2.1 k0_t25
theorem k0_t26_ok : ∀ (d0 : Dev nD) (v443 : BitVec 32) (k0_hw169 : k0_chk169 d0 v443), (k0_t26_loop d0 v443).OK := fun d0 v443 k0_hw169 => k0_hw169.2.2.1
theorem k0_off855_inb : ∀ (d0 : Dev nD) (v443 : BitVec 32) (k0_hw169 : k0_chk169 d0 v443) (k0_t26 : Fin (k0_t26_loop d0 v443).trips), ∀ a, (k0_off855 d0 v443 k0_t26) a + S1x1.size a ≤ S8x512.size a := fun d0 v443 k0_hw169 k0_t26 => k0_hw169.2.2.2 k0_t26

def k0_off856 (arg18 : BitVec 32) : Fin 2 → Nat :=
  let c6_665 : Index := 6#32
  let v893 : Index := Scalar.indexCast arg18
  ![6, v893.toNat]
def k0_cond32 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk171 (d0 : Dev nD) (arg18 : BitVec 32) (v869 : BitVec 32) : Prop :=
  (∀ (k0_h32 : k0_cond32 d0 v869 = 1#1), ∀ a, (k0_off856 arg18) a + S1x1.size a ≤ S8x512.size a)
theorem k0_off856_inb : ∀ (d0 : Dev nD) (arg18 : BitVec 32) (v869 : BitVec 32) (k0_hw171 : k0_chk171 d0 arg18 v869), ∀ (k0_h32 : k0_cond32 d0 v869 = 1#1), ∀ a, (k0_off856 arg18) a + S1x1.size a ≤ S8x512.size a := fun d0 arg18 v869 k0_hw171 k0_h32 => k0_hw171 k0_h32

def k0_off857 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond33 (v469 : BitVec 32) : BitVec 1 :=
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let c0_i32_290 : BitVec 32 := 0#32
  let v491 : BitVec 1 := Scalar.cmpi .sgt v488 c0_i32_290
  let v492 : BitVec 32 := Scalar.extui v491
  let c0_i32_291 : BitVec 32 := 0#32
  let v493 : BitVec 1 := Scalar.cmpi .ne v492 c0_i32_291
  v493

def k0_chk172 (v469 : BitVec 32) (v866 : BitVec 32) : Prop :=
  (∀ (k0_h33 : k0_cond33 v469 = 1#1), ∀ a, (k0_off857 v866) a + S1x16x8x128.size a ≤ S512x16x8x128.size a)
theorem k0_off857_inb : ∀ (v469 : BitVec 32) (v866 : BitVec 32) (k0_hw172 : k0_chk172 v469 v866), ∀ (k0_h33 : k0_cond33 v469 = 1#1), ∀ a, (k0_off857 v866) a + S1x16x8x128.size a ≤ S512x16x8x128.size a := fun v469 v866 k0_hw172 k0_h33 => k0_hw172 k0_h33

def k0_off858 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk173 (v469 : BitVec 32) (v880 : BitVec 32) : Prop :=
  (∀ (k0_h33 : k0_cond33 v469 = 1#1), ∀ a, (k0_off858 v880) a + S1x16x8x128.size a ≤ S512x16x8x128.size a)
theorem k0_off858_inb : ∀ (v469 : BitVec 32) (v880 : BitVec 32) (k0_hw173 : k0_chk173 v469 v880), ∀ (k0_h33 : k0_cond33 v469 = 1#1), ∀ a, (k0_off858 v880) a + S1x16x8x128.size a ≤ S512x16x8x128.size a := fun v469 v880 k0_hw173 k0_h33 => k0_hw173 k0_h33

def k0_off859 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk174 (v469 : BitVec 32) (v894 : BitVec 32) : Prop :=
  (∀ (k0_h33 : k0_cond33 v469 = 1#1), ∀ a, (k0_off859 v894) a + S1x16x8x128.size a ≤ S512x16x8x128.size a)
theorem k0_off859_inb : ∀ (v469 : BitVec 32) (v894 : BitVec 32) (k0_hw174 : k0_chk174 v469 v894), ∀ (k0_h33 : k0_cond33 v469 = 1#1), ∀ a, (k0_off859 v894) a + S1x16x8x128.size a ≤ S512x16x8x128.size a := fun v469 v894 k0_hw174 k0_h33 => k0_hw174 k0_h33

def k0_off860 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk175 (v469 : BitVec 32) (v908 : BitVec 32) : Prop :=
  (∀ (k0_h33 : k0_cond33 v469 = 1#1), ∀ a, (k0_off860 v908) a + S1x16x8x128.size a ≤ S512x16x8x128.size a)
theorem k0_off860_inb : ∀ (v469 : BitVec 32) (v908 : BitVec 32) (k0_hw175 : k0_chk175 v469 v908), ∀ (k0_h33 : k0_cond33 v469 = 1#1), ∀ a, (k0_off860 v908) a + S1x16x8x128.size a ≤ S512x16x8x128.size a := fun v469 v908 k0_hw175 k0_h33 => k0_hw175 k0_h33

def k0_off861 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk176 (v469 : BitVec 32) (v922 : BitVec 32) : Prop :=
  (∀ (k0_h33 : k0_cond33 v469 = 1#1), ∀ a, (k0_off861 v922) a + S1x16x8x128.size a ≤ S512x16x8x128.size a)
theorem k0_off861_inb : ∀ (v469 : BitVec 32) (v922 : BitVec 32) (k0_hw176 : k0_chk176 v469 v922), ∀ (k0_h33 : k0_cond33 v469 = 1#1), ∀ a, (k0_off861 v922) a + S1x16x8x128.size a ≤ S512x16x8x128.size a := fun v469 v922 k0_hw176 k0_h33 => k0_hw176 k0_h33

def k0_off862 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk177 (v469 : BitVec 32) (v936 : BitVec 32) : Prop :=
  (∀ (k0_h33 : k0_cond33 v469 = 1#1), ∀ a, (k0_off862 v936) a + S1x16x8x128.size a ≤ S512x16x8x128.size a)
theorem k0_off862_inb : ∀ (v469 : BitVec 32) (v936 : BitVec 32) (k0_hw177 : k0_chk177 v469 v936), ∀ (k0_h33 : k0_cond33 v469 = 1#1), ∀ a, (k0_off862 v936) a + S1x16x8x128.size a ≤ S512x16x8x128.size a := fun v469 v936 k0_hw177 k0_h33 => k0_hw177 k0_h33

def k0_off863 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk178 (v469 : BitVec 32) (v950 : BitVec 32) : Prop :=
  (∀ (k0_h33 : k0_cond33 v469 = 1#1), ∀ a, (k0_off863 v950) a + S1x16x8x128.size a ≤ S512x16x8x128.size a)
theorem k0_off863_inb : ∀ (v469 : BitVec 32) (v950 : BitVec 32) (k0_hw178 : k0_chk178 v469 v950), ∀ (k0_h33 : k0_cond33 v469 = 1#1), ∀ a, (k0_off863 v950) a + S1x16x8x128.size a ≤ S512x16x8x128.size a := fun v469 v950 k0_hw178 k0_h33 => k0_hw178 k0_h33

def k0_off864 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk179 (v469 : BitVec 32) (v964 : BitVec 32) : Prop :=
  (∀ (k0_h33 : k0_cond33 v469 = 1#1), ∀ a, (k0_off864 v964) a + S1x16x8x128.size a ≤ S512x16x8x128.size a)
theorem k0_off864_inb : ∀ (v469 : BitVec 32) (v964 : BitVec 32) (k0_hw179 : k0_chk179 v469 v964), ∀ (k0_h33 : k0_cond33 v469 = 1#1), ∀ a, (k0_off864 v964) a + S1x16x8x128.size a ≤ S512x16x8x128.size a := fun v469 v964 k0_hw179 k0_h33 => k0_hw179 k0_h33

@[reducible] def k0_t27_loop (v469 : BitVec 32) : Scf.Loop 32 :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_297 : BitVec 32 := 1#32
  ⟨c0_i32_295, v501, c1_i32_297⟩

def k0_off865 (v469 : BitVec 32) (k0_t27 : Fin (k0_t27_loop v469).trips) : Fin 2 → Nat :=
  let c6_824 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![6, v1033.toNat]
def k0_cond34 (v469 : BitVec 32) (k0_t27 : Fin (k0_t27_loop v469).trips) : BitVec 1 :=
  let c0_i32_295 : BitVec 32 := 0#32
  let c1_i32_297 : BitVec 32 := 1#32
  let arg17 : BitVec 32 := Scf.iv c0_i32_295 c1_i32_297 k0_t27
  let c1_i32_655 : BitVec 32 := 1#32
  let v867 : BitVec 32 := Scalar.addi arg17 c1_i32_655
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v868 : BitVec 1 := Scalar.cmpi .slt v867 v488
  let v869 : BitVec 32 := Scalar.extui v868
  let c0_i32_656 : BitVec 32 := 0#32
  let v870 : BitVec 1 := Scalar.cmpi .ne v869 c0_i32_656
  v870

def k0_off866 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off867 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off868 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk181 (v469 : BitVec 32) (k0_t27 : Fin (k0_t27_loop v469).trips) (v1034 : BitVec 32) : Prop :=
  (∀ (k0_h34 : k0_cond34 v469 k0_t27 = 1#1), ∀ a, (k0_off868 v1034) a + S1x16x8x128.size a ≤ S512x16x8x128.size a)
theorem k0_off868_inb : ∀ (v469 : BitVec 32) (k0_t27 : Fin (k0_t27_loop v469).trips) (v1034 : BitVec 32) (k0_hw181 : k0_chk181 v469 k0_t27 v1034), ∀ (k0_h34 : k0_cond34 v469 k0_t27 = 1#1), ∀ a, (k0_off868 v1034) a + S1x16x8x128.size a ≤ S512x16x8x128.size a := fun v469 k0_t27 v1034 k0_hw181 k0_h34 => k0_hw181 k0_h34

def k0_off869 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off870 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off871 (v469 : BitVec 32) (k0_t27 : Fin (k0_t27_loop v469).trips) : Fin 2 → Nat :=
  let c6_843 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![6, v1050.toNat]
def k0_off872 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off873 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off874 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk182 (v469 : BitVec 32) (k0_t27 : Fin (k0_t27_loop v469).trips) (v1051 : BitVec 32) : Prop :=
  (∀ (k0_h34 : k0_cond34 v469 k0_t27 = 1#1), ∀ a, (k0_off874 v1051) a + S1x16x8x128.size a ≤ S512x16x8x128.size a)
theorem k0_off874_inb : ∀ (v469 : BitVec 32) (k0_t27 : Fin (k0_t27_loop v469).trips) (v1051 : BitVec 32) (k0_hw182 : k0_chk182 v469 k0_t27 v1051), ∀ (k0_h34 : k0_cond34 v469 k0_t27 = 1#1), ∀ a, (k0_off874 v1051) a + S1x16x8x128.size a ≤ S512x16x8x128.size a := fun v469 k0_t27 v1051 k0_hw182 k0_h34 => k0_hw182 k0_h34

def k0_off875 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off876 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off877 (v469 : BitVec 32) (k0_t27 : Fin (k0_t27_loop v469).trips) : Fin 2 → Nat :=
  let c6_863 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![6, v1067.toNat]
def k0_off878 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off879 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off880 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk183 (v469 : BitVec 32) (k0_t27 : Fin (k0_t27_loop v469).trips) (v1068 : BitVec 32) : Prop :=
  (∀ (k0_h34 : k0_cond34 v469 k0_t27 = 1#1), ∀ a, (k0_off880 v1068) a + S1x16x8x128.size a ≤ S512x16x8x128.size a)
theorem k0_off880_inb : ∀ (v469 : BitVec 32) (k0_t27 : Fin (k0_t27_loop v469).trips) (v1068 : BitVec 32) (k0_hw183 : k0_chk183 v469 k0_t27 v1068), ∀ (k0_h34 : k0_cond34 v469 k0_t27 = 1#1), ∀ a, (k0_off880 v1068) a + S1x16x8x128.size a ≤ S512x16x8x128.size a := fun v469 k0_t27 v1068 k0_hw183 k0_h34 => k0_hw183 k0_h34

def k0_off881 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off882 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off883 (v469 : BitVec 32) (k0_t27 : Fin (k0_t27_loop v469).trips) : Fin 2 → Nat :=
  let c6_883 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![6, v1084.toNat]
def k0_off884 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off885 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off886 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk184 (v469 : BitVec 32) (k0_t27 : Fin (k0_t27_loop v469).trips) (v1085 : BitVec 32) : Prop :=
  (∀ (k0_h34 : k0_cond34 v469 k0_t27 = 1#1), ∀ a, (k0_off886 v1085) a + S1x16x8x128.size a ≤ S512x16x8x128.size a)
theorem k0_off886_inb : ∀ (v469 : BitVec 32) (k0_t27 : Fin (k0_t27_loop v469).trips) (v1085 : BitVec 32) (k0_hw184 : k0_chk184 v469 k0_t27 v1085), ∀ (k0_h34 : k0_cond34 v469 k0_t27 = 1#1), ∀ a, (k0_off886 v1085) a + S1x16x8x128.size a ≤ S512x16x8x128.size a := fun v469 k0_t27 v1085 k0_hw184 k0_h34 => k0_hw184 k0_h34

def k0_off887 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off888 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off889 (v469 : BitVec 32) (k0_t27 : Fin (k0_t27_loop v469).trips) : Fin 2 → Nat :=
  let c6_903 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![6, v1101.toNat]
def k0_off890 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off891 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off892 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk185 (v469 : BitVec 32) (k0_t27 : Fin (k0_t27_loop v469).trips) (v1102 : BitVec 32) : Prop :=
  (∀ (k0_h34 : k0_cond34 v469 k0_t27 = 1#1), ∀ a, (k0_off892 v1102) a + S1x16x8x128.size a ≤ S512x16x8x128.size a)
theorem k0_off892_inb : ∀ (v469 : BitVec 32) (k0_t27 : Fin (k0_t27_loop v469).trips) (v1102 : BitVec 32) (k0_hw185 : k0_chk185 v469 k0_t27 v1102), ∀ (k0_h34 : k0_cond34 v469 k0_t27 = 1#1), ∀ a, (k0_off892 v1102) a + S1x16x8x128.size a ≤ S512x16x8x128.size a := fun v469 k0_t27 v1102 k0_hw185 k0_h34 => k0_hw185 k0_h34

def k0_off893 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off894 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off895 (v469 : BitVec 32) (k0_t27 : Fin (k0_t27_loop v469).trips) : Fin 2 → Nat :=
  let c6_923 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![6, v1118.toNat]
def k0_off896 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off897 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off898 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk186 (v469 : BitVec 32) (k0_t27 : Fin (k0_t27_loop v469).trips) (v1119 : BitVec 32) : Prop :=
  (∀ (k0_h34 : k0_cond34 v469 k0_t27 = 1#1), ∀ a, (k0_off898 v1119) a + S1x16x8x128.size a ≤ S512x16x8x128.size a)
theorem k0_off898_inb : ∀ (v469 : BitVec 32) (k0_t27 : Fin (k0_t27_loop v469).trips) (v1119 : BitVec 32) (k0_hw186 : k0_chk186 v469 k0_t27 v1119), ∀ (k0_h34 : k0_cond34 v469 k0_t27 = 1#1), ∀ a, (k0_off898 v1119) a + S1x16x8x128.size a ≤ S512x16x8x128.size a := fun v469 k0_t27 v1119 k0_hw186 k0_h34 => k0_hw186 k0_h34

def k0_off899 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off900 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off901 (v469 : BitVec 32) (k0_t27 : Fin (k0_t27_loop v469).trips) : Fin 2 → Nat :=
  let c6_943 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![6, v1135.toNat]
def k0_off902 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off903 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off904 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk187 (v469 : BitVec 32) (k0_t27 : Fin (k0_t27_loop v469).trips) (v1136 : BitVec 32) : Prop :=
  (∀ (k0_h34 : k0_cond34 v469 k0_t27 = 1#1), ∀ a, (k0_off904 v1136) a + S1x16x8x128.size a ≤ S512x16x8x128.size a)
theorem k0_off904_inb : ∀ (v469 : BitVec 32) (k0_t27 : Fin (k0_t27_loop v469).trips) (v1136 : BitVec 32) (k0_hw187 : k0_chk187 v469 k0_t27 v1136), ∀ (k0_h34 : k0_cond34 v469 k0_t27 = 1#1), ∀ a, (k0_off904 v1136) a + S1x16x8x128.size a ≤ S512x16x8x128.size a := fun v469 k0_t27 v1136 k0_hw187 k0_h34 => k0_hw187 k0_h34

def k0_off905 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off906 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off907 (v469 : BitVec 32) (k0_t27 : Fin (k0_t27_loop v469).trips) : Fin 2 → Nat :=
  let c6_963 : Index := 6#32
  let c0_i32_295 : BitVec 32 := 0#32
  let c1_i32_297 : BitVec 32 := 1#32
  let arg17 : BitVec 32 := Scf.iv c0_i32_295 c1_i32_297 k0_t27
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![6, v1152.toNat]
def k0_off908 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off909 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off910 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk188 (v469 : BitVec 32) (k0_t27 : Fin (k0_t27_loop v469).trips) (v1153 : BitVec 32) : Prop :=
  (∀ (k0_h34 : k0_cond34 v469 k0_t27 = 1#1), ∀ a, (k0_off910 v1153) a + S1x16x8x128.size a ≤ S512x16x8x128.size a)
theorem k0_off910_inb : ∀ (v469 : BitVec 32) (k0_t27 : Fin (k0_t27_loop v469).trips) (v1153 : BitVec 32) (k0_hw188 : k0_chk188 v469 k0_t27 v1153), ∀ (k0_h34 : k0_cond34 v469 k0_t27 = 1#1), ∀ a, (k0_off910 v1153) a + S1x16x8x128.size a ≤ S512x16x8x128.size a := fun v469 k0_t27 v1153 k0_hw188 k0_h34 => k0_hw188 k0_h34

def k0_off911 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off912 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off913 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c0_i32_659 : BitVec 32 := 0#32
  ![v866.toNat, 0]
def k0_off914 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off915 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c1_i32_677 : BitVec 32 := 1#32
  ![v866.toNat, 1]
def k0_off916 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off917 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c2_i32_695 : BitVec 32 := 2#32
  ![v866.toNat, 2]
def k0_off918 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off919 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c3_i32_713 : BitVec 32 := 3#32
  ![v866.toNat, 3]
def k0_off920 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off921 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c4_i32_731 : BitVec 32 := 4#32
  ![v866.toNat, 4]
def k0_off922 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off923 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c5_i32_748 : BitVec 32 := 5#32
  ![v866.toNat, 5]
def k0_off924 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off925 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c6_i32_765 : BitVec 32 := 6#32
  ![v866.toNat, 6]
def k0_off926 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off927 (v469 : BitVec 32) (k0_t27 : Fin (k0_t27_loop v469).trips) : Fin 2 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c7_i32_782 : BitVec 32 := 7#32
  ![v866.toNat, 7]
def k0_off928 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off929 (v469 : BitVec 32) (k0_t27 : Fin (k0_t27_loop v469).trips) : Fin 5 → Nat :=
  let c0_i32_295 : BitVec 32 := 0#32
  let c1_i32_297 : BitVec 32 := 1#32
  let arg17 : BitVec 32 := Scf.iv c0_i32_295 c1_i32_297 k0_t27
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t28_loop (v469 : BitVec 32) : Scf.Loop 32 :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let v498 : BitVec 32 := Scalar.addi c0_i32_295 v497
  let c1_i32_298 : BitVec 32 := 1#32
  ⟨v501, v498, c1_i32_298⟩
def k0_off930 (v469 : BitVec 32) (k0_t28 : Fin (k0_t28_loop v469).trips) : Fin 2 → Nat :=
  let c6_824 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![6, v1033.toNat]
def k0_cond35 (v469 : BitVec 32) (k0_t28 : Fin (k0_t28_loop v469).trips) : BitVec 1 :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_655 : BitVec 32 := 1#32
  let v867 : BitVec 32 := Scalar.addi arg17 c1_i32_655
  let v868 : BitVec 1 := Scalar.cmpi .slt v867 v488
  let v869 : BitVec 32 := Scalar.extui v868
  let c0_i32_656 : BitVec 32 := 0#32
  let v870 : BitVec 1 := Scalar.cmpi .ne v869 c0_i32_656
  v870

def k0_off931 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off932 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off933 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk189 (v469 : BitVec 32) (k0_t28 : Fin (k0_t28_loop v469).trips) (v1034 : BitVec 32) : Prop :=
  (∀ (k0_h35 : k0_cond35 v469 k0_t28 = 1#1), ∀ a, (k0_off933 v1034) a + S1x16x8x128.size a ≤ S512x16x8x128.size a)
theorem k0_off933_inb : ∀ (v469 : BitVec 32) (k0_t28 : Fin (k0_t28_loop v469).trips) (v1034 : BitVec 32) (k0_hw189 : k0_chk189 v469 k0_t28 v1034), ∀ (k0_h35 : k0_cond35 v469 k0_t28 = 1#1), ∀ a, (k0_off933 v1034) a + S1x16x8x128.size a ≤ S512x16x8x128.size a := fun v469 k0_t28 v1034 k0_hw189 k0_h35 => k0_hw189 k0_h35

def k0_off934 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off935 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off936 (v469 : BitVec 32) (k0_t28 : Fin (k0_t28_loop v469).trips) : Fin 2 → Nat :=
  let c6_843 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![6, v1050.toNat]
def k0_off937 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off938 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off939 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk190 (v469 : BitVec 32) (k0_t28 : Fin (k0_t28_loop v469).trips) (v1051 : BitVec 32) : Prop :=
  (∀ (k0_h35 : k0_cond35 v469 k0_t28 = 1#1), ∀ a, (k0_off939 v1051) a + S1x16x8x128.size a ≤ S512x16x8x128.size a)
theorem k0_off939_inb : ∀ (v469 : BitVec 32) (k0_t28 : Fin (k0_t28_loop v469).trips) (v1051 : BitVec 32) (k0_hw190 : k0_chk190 v469 k0_t28 v1051), ∀ (k0_h35 : k0_cond35 v469 k0_t28 = 1#1), ∀ a, (k0_off939 v1051) a + S1x16x8x128.size a ≤ S512x16x8x128.size a := fun v469 k0_t28 v1051 k0_hw190 k0_h35 => k0_hw190 k0_h35

def k0_off940 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off941 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off942 (v469 : BitVec 32) (k0_t28 : Fin (k0_t28_loop v469).trips) : Fin 2 → Nat :=
  let c6_863 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![6, v1067.toNat]
def k0_off943 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off944 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off945 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk191 (v469 : BitVec 32) (k0_t28 : Fin (k0_t28_loop v469).trips) (v1068 : BitVec 32) : Prop :=
  (∀ (k0_h35 : k0_cond35 v469 k0_t28 = 1#1), ∀ a, (k0_off945 v1068) a + S1x16x8x128.size a ≤ S512x16x8x128.size a)
theorem k0_off945_inb : ∀ (v469 : BitVec 32) (k0_t28 : Fin (k0_t28_loop v469).trips) (v1068 : BitVec 32) (k0_hw191 : k0_chk191 v469 k0_t28 v1068), ∀ (k0_h35 : k0_cond35 v469 k0_t28 = 1#1), ∀ a, (k0_off945 v1068) a + S1x16x8x128.size a ≤ S512x16x8x128.size a := fun v469 k0_t28 v1068 k0_hw191 k0_h35 => k0_hw191 k0_h35

def k0_off946 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off947 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off948 (v469 : BitVec 32) (k0_t28 : Fin (k0_t28_loop v469).trips) : Fin 2 → Nat :=
  let c6_883 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![6, v1084.toNat]
def k0_off949 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off950 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off951 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk192 (v469 : BitVec 32) (k0_t28 : Fin (k0_t28_loop v469).trips) (v1085 : BitVec 32) : Prop :=
  (∀ (k0_h35 : k0_cond35 v469 k0_t28 = 1#1), ∀ a, (k0_off951 v1085) a + S1x16x8x128.size a ≤ S512x16x8x128.size a)
theorem k0_off951_inb : ∀ (v469 : BitVec 32) (k0_t28 : Fin (k0_t28_loop v469).trips) (v1085 : BitVec 32) (k0_hw192 : k0_chk192 v469 k0_t28 v1085), ∀ (k0_h35 : k0_cond35 v469 k0_t28 = 1#1), ∀ a, (k0_off951 v1085) a + S1x16x8x128.size a ≤ S512x16x8x128.size a := fun v469 k0_t28 v1085 k0_hw192 k0_h35 => k0_hw192 k0_h35

def k0_off952 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off953 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off954 (v469 : BitVec 32) (k0_t28 : Fin (k0_t28_loop v469).trips) : Fin 2 → Nat :=
  let c6_903 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![6, v1101.toNat]
def k0_off955 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off956 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off957 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk193 (v469 : BitVec 32) (k0_t28 : Fin (k0_t28_loop v469).trips) (v1102 : BitVec 32) : Prop :=
  (∀ (k0_h35 : k0_cond35 v469 k0_t28 = 1#1), ∀ a, (k0_off957 v1102) a + S1x16x8x128.size a ≤ S512x16x8x128.size a)
theorem k0_off957_inb : ∀ (v469 : BitVec 32) (k0_t28 : Fin (k0_t28_loop v469).trips) (v1102 : BitVec 32) (k0_hw193 : k0_chk193 v469 k0_t28 v1102), ∀ (k0_h35 : k0_cond35 v469 k0_t28 = 1#1), ∀ a, (k0_off957 v1102) a + S1x16x8x128.size a ≤ S512x16x8x128.size a := fun v469 k0_t28 v1102 k0_hw193 k0_h35 => k0_hw193 k0_h35

def k0_off958 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off959 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off960 (v469 : BitVec 32) (k0_t28 : Fin (k0_t28_loop v469).trips) : Fin 2 → Nat :=
  let c6_923 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![6, v1118.toNat]
def k0_off961 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off962 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off963 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk194 (v469 : BitVec 32) (k0_t28 : Fin (k0_t28_loop v469).trips) (v1119 : BitVec 32) : Prop :=
  (∀ (k0_h35 : k0_cond35 v469 k0_t28 = 1#1), ∀ a, (k0_off963 v1119) a + S1x16x8x128.size a ≤ S512x16x8x128.size a)
theorem k0_off963_inb : ∀ (v469 : BitVec 32) (k0_t28 : Fin (k0_t28_loop v469).trips) (v1119 : BitVec 32) (k0_hw194 : k0_chk194 v469 k0_t28 v1119), ∀ (k0_h35 : k0_cond35 v469 k0_t28 = 1#1), ∀ a, (k0_off963 v1119) a + S1x16x8x128.size a ≤ S512x16x8x128.size a := fun v469 k0_t28 v1119 k0_hw194 k0_h35 => k0_hw194 k0_h35

def k0_off964 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off965 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off966 (v469 : BitVec 32) (k0_t28 : Fin (k0_t28_loop v469).trips) : Fin 2 → Nat :=
  let c6_943 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![6, v1135.toNat]
def k0_off967 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off968 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off969 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk195 (v469 : BitVec 32) (k0_t28 : Fin (k0_t28_loop v469).trips) (v1136 : BitVec 32) : Prop :=
  (∀ (k0_h35 : k0_cond35 v469 k0_t28 = 1#1), ∀ a, (k0_off969 v1136) a + S1x16x8x128.size a ≤ S512x16x8x128.size a)
theorem k0_off969_inb : ∀ (v469 : BitVec 32) (k0_t28 : Fin (k0_t28_loop v469).trips) (v1136 : BitVec 32) (k0_hw195 : k0_chk195 v469 k0_t28 v1136), ∀ (k0_h35 : k0_cond35 v469 k0_t28 = 1#1), ∀ a, (k0_off969 v1136) a + S1x16x8x128.size a ≤ S512x16x8x128.size a := fun v469 k0_t28 v1136 k0_hw195 k0_h35 => k0_hw195 k0_h35

def k0_off970 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off971 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off972 (v469 : BitVec 32) (k0_t28 : Fin (k0_t28_loop v469).trips) : Fin 2 → Nat :=
  let c6_963 : Index := 6#32
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![6, v1152.toNat]
def k0_off973 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off974 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off975 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk196 (v469 : BitVec 32) (k0_t28 : Fin (k0_t28_loop v469).trips) (v1153 : BitVec 32) : Prop :=
  (∀ (k0_h35 : k0_cond35 v469 k0_t28 = 1#1), ∀ a, (k0_off975 v1153) a + S1x16x8x128.size a ≤ S512x16x8x128.size a)
theorem k0_off975_inb : ∀ (v469 : BitVec 32) (k0_t28 : Fin (k0_t28_loop v469).trips) (v1153 : BitVec 32) (k0_hw196 : k0_chk196 v469 k0_t28 v1153), ∀ (k0_h35 : k0_cond35 v469 k0_t28 = 1#1), ∀ a, (k0_off975 v1153) a + S1x16x8x128.size a ≤ S512x16x8x128.size a := fun v469 k0_t28 v1153 k0_hw196 k0_h35 => k0_hw196 k0_h35

def k0_off976 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off977 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off978 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c0_i32_659 : BitVec 32 := 0#32
  ![v866.toNat, 0]
def k0_off979 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off980 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c1_i32_677 : BitVec 32 := 1#32
  ![v866.toNat, 1]
def k0_off981 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off982 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c2_i32_695 : BitVec 32 := 2#32
  ![v866.toNat, 2]
def k0_off983 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off984 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c3_i32_713 : BitVec 32 := 3#32
  ![v866.toNat, 3]
def k0_off985 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off986 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c4_i32_731 : BitVec 32 := 4#32
  ![v866.toNat, 4]
def k0_off987 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off988 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c5_i32_748 : BitVec 32 := 5#32
  ![v866.toNat, 5]
def k0_off989 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off990 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c6_i32_765 : BitVec 32 := 6#32
  ![v866.toNat, 6]
def k0_off991 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off992 (v469 : BitVec 32) (k0_t28 : Fin (k0_t28_loop v469).trips) : Fin 2 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c7_i32_782 : BitVec 32 := 7#32
  ![v866.toNat, 7]
def k0_off993 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off994 (v469 : BitVec 32) (k0_t28 : Fin (k0_t28_loop v469).trips) : Fin 5 → Nat :=
  let c0_i32_295 : BitVec 32 := 0#32
  let c8_i32_277 : BitVec 32 := 8#32
  let v470 : BitVec 32 := Scalar.addi v469 c8_i32_277
  let c1_i32_278 : BitVec 32 := 1#32
  let v471 : BitVec 32 := Scalar.subi v470 c1_i32_278
  let c0_i32_280 : BitVec 32 := 0#32
  let v473 : BitVec 1 := Scalar.cmpi .sgt v471 c0_i32_280
  let v474 : BitVec 32 := Scalar.extui v473
  let c0_i32_281 : BitVec 32 := 0#32
  let v475 : BitVec 1 := Scalar.cmpi .slt v471 c0_i32_281
  let v476 : BitVec 32 := Scalar.extui v475
  let v477 : BitVec 32 := Scalar.subi v474 v476
  let c8_i32_279 : BitVec 32 := 8#32
  let c0_i32_282 : BitVec 32 := 0#32
  let v478 : BitVec 1 := Scalar.cmpi .sgt c8_i32_279 c0_i32_282
  let v479 : BitVec 32 := Scalar.extui v478
  let c0_i32_283 : BitVec 32 := 0#32
  let v480 : BitVec 1 := Scalar.cmpi .slt c8_i32_279 c0_i32_283
  let v481 : BitVec 32 := Scalar.extui v480
  let v482 : BitVec 32 := Scalar.subi v479 v481
  let v483 : BitVec 1 := Scalar.cmpi .ne v477 v482
  let v484 : BitVec 32 := Scalar.remsi v471 c8_i32_279
  let c0_i32_284 : BitVec 32 := 0#32
  let v485 : BitVec 1 := Scalar.cmpi .ne v484 c0_i32_284
  let v486 : BitVec 1 := Scalar.andi v483 v485
  let v472 : BitVec 32 := Scalar.divsi v471 c8_i32_279
  let c1_i32_285 : BitVec 32 := 1#32
  let v487 : BitVec 32 := Scalar.subi v472 c1_i32_285
  let v488 : BitVec 32 := Scalar.select v486 v487 v472
  let v497 : BitVec 32 := Scalar.subi v488 c0_i32_295
  let c1_i32_296 : BitVec 32 := 1#32
  let v499 : BitVec 32 := Scalar.divsi v497 c1_i32_296
  let v500 : BitVec 32 := Scalar.muli v499 c1_i32_296
  let v501 : BitVec 32 := Scalar.addi c0_i32_295 v500
  let c1_i32_298 : BitVec 32 := 1#32
  let arg17 : BitVec 32 := Scf.iv v501 c1_i32_298 k0_t28
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

variable {F : FTy → Type} [FloatOps F]

def k0_chk180_0 (v469 : BitVec 32) : Prop :=
  ((k0_t27_loop v469).OK) ∧
  (∀ k0_t27 : Fin (k0_t27_loop v469).trips, ∀ (k0_h34 : k0_cond34 v469 k0_t27 = 1#1), ∀ a, (k0_off865 v469 k0_t27) a + S1x1.size a ≤ S8x512.size a) ∧
  (∀ k0_t27 : Fin (k0_t27_loop v469).trips, ∀ (k0_h34 : k0_cond34 v469 k0_t27 = 1#1), ∀ a, (k0_off866 v469 k0_t27) a + S1x1.size a ≤ S2x8.size a) ∧
  (∀ k0_t27 : Fin (k0_t27_loop v469).trips, ∀ (k0_h34 : k0_cond34 v469 k0_t27 = 1#1), ∀ a, (k0_off867 v469 k0_t27) a + S1x1x16x8x128.size a ≤ S2x8x16x8x128.size a) ∧
  (∀ k0_t27 : Fin (k0_t27_loop v469).trips, ∀ (k0_h34 : k0_cond34 v469 k0_t27 = 1#1), ∀ a, (k0_off869 v469 k0_t27) a + S1x1.size a ≤ S2x8.size a) ∧
  (∀ k0_t27 : Fin (k0_t27_loop v469).trips, ∀ (k0_h34 : k0_cond34 v469 k0_t27 = 1#1), ∀ a, (k0_off870 v469 k0_t27) a + S1x1x16x8x128.size a ≤ S2x8x16x8x128.size a) ∧
  (∀ k0_t27 : Fin (k0_t27_loop v469).trips, ∀ (k0_h34 : k0_cond34 v469 k0_t27 = 1#1), ∀ a, (k0_off871 v469 k0_t27) a + S1x1.size a ≤ S8x512.size a) ∧
  (∀ k0_t27 : Fin (k0_t27_loop v469).trips, ∀ (k0_h34 : k0_cond34 v469 k0_t27 = 1#1), ∀ a, (k0_off872 v469 k0_t27) a + S1x1.size a ≤ S2x8.size a) ∧
  (∀ k0_t27 : Fin (k0_t27_loop v469).trips, ∀ (k0_h34 : k0_cond34 v469 k0_t27 = 1#1), ∀ a, (k0_off873 v469 k0_t27) a + S1x1x16x8x128.size a ≤ S2x8x16x8x128.size a) ∧
  (∀ k0_t27 : Fin (k0_t27_loop v469).trips, ∀ (k0_h34 : k0_cond34 v469 k0_t27 = 1#1), ∀ a, (k0_off875 v469 k0_t27) a + S1x1.size a ≤ S2x8.size a) ∧
  (∀ k0_t27 : Fin (k0_t27_loop v469).trips, ∀ (k0_h34 : k0_cond34 v469 k0_t27 = 1#1), ∀ a, (k0_off876 v469 k0_t27) a + S1x1x16x8x128.size a ≤ S2x8x16x8x128.size a) ∧
  (∀ k0_t27 : Fin (k0_t27_loop v469).trips, ∀ (k0_h34 : k0_cond34 v469 k0_t27 = 1#1), ∀ a, (k0_off877 v469 k0_t27) a + S1x1.size a ≤ S8x512.size a) ∧
  (∀ k0_t27 : Fin (k0_t27_loop v469).trips, ∀ (k0_h34 : k0_cond34 v469 k0_t27 = 1#1), ∀ a, (k0_off878 v469 k0_t27) a + S1x1.size a ≤ S2x8.size a) ∧
  (∀ k0_t27 : Fin (k0_t27_loop v469).trips, ∀ (k0_h34 : k0_cond34 v469 k0_t27 = 1#1), ∀ a, (k0_off879 v469 k0_t27) a + S1x1x16x8x128.size a ≤ S2x8x16x8x128.size a) ∧
  (∀ k0_t27 : Fin (k0_t27_loop v469).trips, ∀ (k0_h34 : k0_cond34 v469 k0_t27 = 1#1), ∀ a, (k0_off881 v469 k0_t27) a + S1x1.size a ≤ S2x8.size a) ∧
  (∀ k0_t27 : Fin (k0_t27_loop v469).trips, ∀ (k0_h34 : k0_cond34 v469 k0_t27 = 1#1), ∀ a, (k0_off882 v469 k0_t27) a + S1x1x16x8x128.size a ≤ S2x8x16x8x128.size a) ∧
  (∀ k0_t27 : Fin (k0_t27_loop v469).trips, ∀ (k0_h34 : k0_cond34 v469 k0_t27 = 1#1), ∀ a, (k0_off883 v469 k0_t27) a + S1x1.size a ≤ S8x512.size a) ∧
  (∀ k0_t27 : Fin (k0_t27_loop v469).trips, ∀ (k0_h34 : k0_cond34 v469 k0_t27 = 1#1), ∀ a, (k0_off884 v469 k0_t27) a + S1x1.size a ≤ S2x8.size a) ∧
  (∀ k0_t27 : Fin (k0_t27_loop v469).trips, ∀ (k0_h34 : k0_cond34 v469 k0_t27 = 1#1), ∀ a, (k0_off885 v469 k0_t27) a + S1x1x16x8x128.size a ≤ S2x8x16x8x128.size a) ∧
  (∀ k0_t27 : Fin (k0_t27_loop v469).trips, ∀ (k0_h34 : k0_cond34 v469 k0_t27 = 1#1), ∀ a, (k0_off887 v469 k0_t27) a + S1x1.size a ≤ S2x8.size a) ∧
  (∀ k0_t27 : Fin (k0_t27_loop v469).trips, ∀ (k0_h34 : k0_cond34 v469 k0_t27 = 1#1), ∀ a, (k0_off888 v469 k0_t27) a + S1x1x16x8x128.size a ≤ S2x8x16x8x128.size a) ∧
  (∀ k0_t27 : Fin (k0_t27_loop v469).trips, ∀ (k0_h34 : k0_cond34 v469 k0_t27 = 1#1), ∀ a, (k0_off889 v469 k0_t27) a + S1x1.size a ≤ S8x512.size a) ∧
  (∀ k0_t27 : Fin (k0_t27_loop v469).trips, ∀ (k0_h34 : k0_cond34 v469 k0_t27 = 1#1), ∀ a, (k0_off890 v469 k0_t27) a + S1x1.size a ≤ S2x8.size a) ∧
  (∀ k0_t27 : Fin (k0_t27_loop v469).trips, ∀ (k0_h34 : k0_cond34 v469 k0_t27 = 1#1), ∀ a, (k0_off891 v469 k0_t27) a + S1x1x16x8x128.size a ≤ S2x8x16x8x128.size a) ∧
  (∀ k0_t27 : Fin (k0_t27_loop v469).trips, ∀ (k0_h34 : k0_cond34 v469 k0_t27 = 1#1), ∀ a, (k0_off893 v469 k0_t27) a + S1x1.size a ≤ S2x8.size a) ∧
  (∀ k0_t27 : Fin (k0_t27_loop v469).trips, ∀ (k0_h34 : k0_cond34 v469 k0_t27 = 1#1), ∀ a, (k0_off894 v469 k0_t27) a + S1x1x16x8x128.size a ≤ S2x8x16x8x128.size a) ∧
  (∀ k0_t27 : Fin (k0_t27_loop v469).trips, ∀ (k0_h34 : k0_cond34 v469 k0_t27 = 1#1), ∀ a, (k0_off895 v469 k0_t27) a + S1x1.size a ≤ S8x512.size a) ∧
  (∀ k0_t27 : Fin (k0_t27_loop v469).trips, ∀ (k0_h34 : k0_cond34 v469 k0_t27 = 1#1), ∀ a, (k0_off896 v469 k0_t27) a + S1x1.size a ≤ S2x8.size a) ∧
  (∀ k0_t27 : Fin (k0_t27_loop v469).trips, ∀ (k0_h34 : k0_cond34 v469 k0_t27 = 1#1), ∀ a, (k0_off897 v469 k0_t27) a + S1x1x16x8x128.size a ≤ S2x8x16x8x128.size a) ∧
  (∀ k0_t27 : Fin (k0_t27_loop v469).trips, ∀ (k0_h34 : k0_cond34 v469 k0_t27 = 1#1), ∀ a, (k0_off899 v469 k0_t27) a + S1x1.size a ≤ S2x8.size a) ∧
  (∀ k0_t27 : Fin (k0_t27_loop v469).trips, ∀ (k0_h34 : k0_cond34 v469 k0_t27 = 1#1), ∀ a, (k0_off900 v469 k0_t27) a + S1x1x16x8x128.size a ≤ S2x8x16x8x128.size a) ∧
  (∀ k0_t27 : Fin (k0_t27_loop v469).trips, ∀ (k0_h34 : k0_cond34 v469 k0_t27 = 1#1), ∀ a, (k0_off901 v469 k0_t27) a + S1x1.size a ≤ S8x512.size a)
def k0_chk180_1 (v469 : BitVec 32) : Prop :=
  (∀ k0_t27 : Fin (k0_t27_loop v469).trips, ∀ (k0_h34 : k0_cond34 v469 k0_t27 = 1#1), ∀ a, (k0_off902 v469 k0_t27) a + S1x1.size a ≤ S2x8.size a) ∧
  (∀ k0_t27 : Fin (k0_t27_loop v469).trips, ∀ (k0_h34 : k0_cond34 v469 k0_t27 = 1#1), ∀ a, (k0_off903 v469 k0_t27) a + S1x1x16x8x128.size a ≤ S2x8x16x8x128.size a) ∧
  (∀ k0_t27 : Fin (k0_t27_loop v469).trips, ∀ (k0_h34 : k0_cond34 v469 k0_t27 = 1#1), ∀ a, (k0_off905 v469 k0_t27) a + S1x1.size a ≤ S2x8.size a) ∧
  (∀ k0_t27 : Fin (k0_t27_loop v469).trips, ∀ (k0_h34 : k0_cond34 v469 k0_t27 = 1#1), ∀ a, (k0_off906 v469 k0_t27) a + S1x1x16x8x128.size a ≤ S2x8x16x8x128.size a) ∧
  (∀ k0_t27 : Fin (k0_t27_loop v469).trips, ∀ (k0_h34 : k0_cond34 v469 k0_t27 = 1#1), ∀ a, (k0_off907 v469 k0_t27) a + S1x1.size a ≤ S8x512.size a) ∧
  (∀ k0_t27 : Fin (k0_t27_loop v469).trips, ∀ (k0_h34 : k0_cond34 v469 k0_t27 = 1#1), ∀ a, (k0_off908 v469 k0_t27) a + S1x1.size a ≤ S2x8.size a) ∧
  (∀ k0_t27 : Fin (k0_t27_loop v469).trips, ∀ (k0_h34 : k0_cond34 v469 k0_t27 = 1#1), ∀ a, (k0_off909 v469 k0_t27) a + S1x1x16x8x128.size a ≤ S2x8x16x8x128.size a) ∧
  (∀ k0_t27 : Fin (k0_t27_loop v469).trips, ∀ (k0_h34 : k0_cond34 v469 k0_t27 = 1#1), ∀ a, (k0_off911 v469 k0_t27) a + S1x1.size a ≤ S2x8.size a) ∧
  (∀ k0_t27 : Fin (k0_t27_loop v469).trips, ∀ (k0_h34 : k0_cond34 v469 k0_t27 = 1#1), ∀ a, (k0_off912 v469 k0_t27) a + S1x1x16x8x128.size a ≤ S2x8x16x8x128.size a) ∧
  (∀ k0_t27 : Fin (k0_t27_loop v469).trips, ∀ a, (k0_off913 v469 k0_t27) a + S1x1.size a ≤ S2x8.size a) ∧
  (∀ k0_t27 : Fin (k0_t27_loop v469).trips, ∀ a, (k0_off914 v469 k0_t27) a + S1x1x16x8x128.size a ≤ S2x8x16x8x128.size a) ∧
  (∀ k0_t27 : Fin (k0_t27_loop v469).trips, ∀ a, (k0_off915 v469 k0_t27) a + S1x1.size a ≤ S2x8.size a) ∧
  (∀ k0_t27 : Fin (k0_t27_loop v469).trips, ∀ a, (k0_off916 v469 k0_t27) a + S1x1x16x8x128.size a ≤ S2x8x16x8x128.size a) ∧
  (∀ k0_t27 : Fin (k0_t27_loop v469).trips, ∀ a, (k0_off917 v469 k0_t27) a + S1x1.size a ≤ S2x8.size a) ∧
  (∀ k0_t27 : Fin (k0_t27_loop v469).trips, ∀ a, (k0_off918 v469 k0_t27) a + S1x1x16x8x128.size a ≤ S2x8x16x8x128.size a) ∧
  (∀ k0_t27 : Fin (k0_t27_loop v469).trips, ∀ a, (k0_off919 v469 k0_t27) a + S1x1.size a ≤ S2x8.size a) ∧
  (∀ k0_t27 : Fin (k0_t27_loop v469).trips, ∀ a, (k0_off920 v469 k0_t27) a + S1x1x16x8x128.size a ≤ S2x8x16x8x128.size a) ∧
  (∀ k0_t27 : Fin (k0_t27_loop v469).trips, ∀ a, (k0_off921 v469 k0_t27) a + S1x1.size a ≤ S2x8.size a) ∧
  (∀ k0_t27 : Fin (k0_t27_loop v469).trips, ∀ a, (k0_off922 v469 k0_t27) a + S1x1x16x8x128.size a ≤ S2x8x16x8x128.size a) ∧
  (∀ k0_t27 : Fin (k0_t27_loop v469).trips, ∀ a, (k0_off923 v469 k0_t27) a + S1x1.size a ≤ S2x8.size a) ∧
  (∀ k0_t27 : Fin (k0_t27_loop v469).trips, ∀ a, (k0_off924 v469 k0_t27) a + S1x1x16x8x128.size a ≤ S2x8x16x8x128.size a) ∧
  (∀ k0_t27 : Fin (k0_t27_loop v469).trips, ∀ a, (k0_off925 v469 k0_t27) a + S1x1.size a ≤ S2x8.size a) ∧
  (∀ k0_t27 : Fin (k0_t27_loop v469).trips, ∀ a, (k0_off926 v469 k0_t27) a + S1x1x16x8x128.size a ≤ S2x8x16x8x128.size a) ∧
  (∀ k0_t27 : Fin (k0_t27_loop v469).trips, ∀ a, (k0_off927 v469 k0_t27) a + S1x1.size a ≤ S2x8.size a) ∧
  (∀ k0_t27 : Fin (k0_t27_loop v469).trips, ∀ a, (k0_off928 v469 k0_t27) a + S1x1x16x8x128.size a ≤ S2x8x16x8x128.size a) ∧
  (∀ k0_t27 : Fin (k0_t27_loop v469).trips, ∀ a, (k0_off929 v469 k0_t27) a + S1x8x16x8x128.size a ≤ S2x8x16x8x128.size a) ∧
  ((k0_t28_loop v469).OK) ∧
  (∀ k0_t28 : Fin (k0_t28_loop v469).trips, ∀ (k0_h35 : k0_cond35 v469 k0_t28 = 1#1), ∀ a, (k0_off930 v469 k0_t28) a + S1x1.size a ≤ S8x512.size a) ∧
  (∀ k0_t28 : Fin (k0_t28_loop v469).trips, ∀ (k0_h35 : k0_cond35 v469 k0_t28 = 1#1), ∀ a, (k0_off931 v469 k0_t28) a + S1x1.size a ≤ S2x8.size a) ∧
  (∀ k0_t28 : Fin (k0_t28_loop v469).trips, ∀ (k0_h35 : k0_cond35 v469 k0_t28 = 1#1), ∀ a, (k0_off932 v469 k0_t28) a + S1x1x16x8x128.size a ≤ S2x8x16x8x128.size a) ∧
  (∀ k0_t28 : Fin (k0_t28_loop v469).trips, ∀ (k0_h35 : k0_cond35 v469 k0_t28 = 1#1), ∀ a, (k0_off934 v469 k0_t28) a + S1x1.size a ≤ S2x8.size a) ∧
  (∀ k0_t28 : Fin (k0_t28_loop v469).trips, ∀ (k0_h35 : k0_cond35 v469 k0_t28 = 1#1), ∀ a, (k0_off935 v469 k0_t28) a + S1x1x16x8x128.size a ≤ S2x8x16x8x128.size a)
def k0_chk180_2 (v469 : BitVec 32) : Prop :=
  (∀ k0_t28 : Fin (k0_t28_loop v469).trips, ∀ (k0_h35 : k0_cond35 v469 k0_t28 = 1#1), ∀ a, (k0_off936 v469 k0_t28) a + S1x1.size a ≤ S8x512.size a) ∧
  (∀ k0_t28 : Fin (k0_t28_loop v469).trips, ∀ (k0_h35 : k0_cond35 v469 k0_t28 = 1#1), ∀ a, (k0_off937 v469 k0_t28) a + S1x1.size a ≤ S2x8.size a) ∧
  (∀ k0_t28 : Fin (k0_t28_loop v469).trips, ∀ (k0_h35 : k0_cond35 v469 k0_t28 = 1#1), ∀ a, (k0_off938 v469 k0_t28) a + S1x1x16x8x128.size a ≤ S2x8x16x8x128.size a) ∧
  (∀ k0_t28 : Fin (k0_t28_loop v469).trips, ∀ (k0_h35 : k0_cond35 v469 k0_t28 = 1#1), ∀ a, (k0_off940 v469 k0_t28) a + S1x1.size a ≤ S2x8.size a) ∧
  (∀ k0_t28 : Fin (k0_t28_loop v469).trips, ∀ (k0_h35 : k0_cond35 v469 k0_t28 = 1#1), ∀ a, (k0_off941 v469 k0_t28) a + S1x1x16x8x128.size a ≤ S2x8x16x8x128.size a) ∧
  (∀ k0_t28 : Fin (k0_t28_loop v469).trips, ∀ (k0_h35 : k0_cond35 v469 k0_t28 = 1#1), ∀ a, (k0_off942 v469 k0_t28) a + S1x1.size a ≤ S8x512.size a) ∧
  (∀ k0_t28 : Fin (k0_t28_loop v469).trips, ∀ (k0_h35 : k0_cond35 v469 k0_t28 = 1#1), ∀ a, (k0_off943 v469 k0_t28) a + S1x1.size a ≤ S2x8.size a) ∧
  (∀ k0_t28 : Fin (k0_t28_loop v469).trips, ∀ (k0_h35 : k0_cond35 v469 k0_t28 = 1#1), ∀ a, (k0_off944 v469 k0_t28) a + S1x1x16x8x128.size a ≤ S2x8x16x8x128.size a) ∧
  (∀ k0_t28 : Fin (k0_t28_loop v469).trips, ∀ (k0_h35 : k0_cond35 v469 k0_t28 = 1#1), ∀ a, (k0_off946 v469 k0_t28) a + S1x1.size a ≤ S2x8.size a) ∧
  (∀ k0_t28 : Fin (k0_t28_loop v469).trips, ∀ (k0_h35 : k0_cond35 v469 k0_t28 = 1#1), ∀ a, (k0_off947 v469 k0_t28) a + S1x1x16x8x128.size a ≤ S2x8x16x8x128.size a) ∧
  (∀ k0_t28 : Fin (k0_t28_loop v469).trips, ∀ (k0_h35 : k0_cond35 v469 k0_t28 = 1#1), ∀ a, (k0_off948 v469 k0_t28) a + S1x1.size a ≤ S8x512.size a) ∧
  (∀ k0_t28 : Fin (k0_t28_loop v469).trips, ∀ (k0_h35 : k0_cond35 v469 k0_t28 = 1#1), ∀ a, (k0_off949 v469 k0_t28) a + S1x1.size a ≤ S2x8.size a) ∧
  (∀ k0_t28 : Fin (k0_t28_loop v469).trips, ∀ (k0_h35 : k0_cond35 v469 k0_t28 = 1#1), ∀ a, (k0_off950 v469 k0_t28) a + S1x1x16x8x128.size a ≤ S2x8x16x8x128.size a) ∧
  (∀ k0_t28 : Fin (k0_t28_loop v469).trips, ∀ (k0_h35 : k0_cond35 v469 k0_t28 = 1#1), ∀ a, (k0_off952 v469 k0_t28) a + S1x1.size a ≤ S2x8.size a) ∧
  (∀ k0_t28 : Fin (k0_t28_loop v469).trips, ∀ (k0_h35 : k0_cond35 v469 k0_t28 = 1#1), ∀ a, (k0_off953 v469 k0_t28) a + S1x1x16x8x128.size a ≤ S2x8x16x8x128.size a) ∧
  (∀ k0_t28 : Fin (k0_t28_loop v469).trips, ∀ (k0_h35 : k0_cond35 v469 k0_t28 = 1#1), ∀ a, (k0_off954 v469 k0_t28) a + S1x1.size a ≤ S8x512.size a) ∧
  (∀ k0_t28 : Fin (k0_t28_loop v469).trips, ∀ (k0_h35 : k0_cond35 v469 k0_t28 = 1#1), ∀ a, (k0_off955 v469 k0_t28) a + S1x1.size a ≤ S2x8.size a) ∧
  (∀ k0_t28 : Fin (k0_t28_loop v469).trips, ∀ (k0_h35 : k0_cond35 v469 k0_t28 = 1#1), ∀ a, (k0_off956 v469 k0_t28) a + S1x1x16x8x128.size a ≤ S2x8x16x8x128.size a) ∧
  (∀ k0_t28 : Fin (k0_t28_loop v469).trips, ∀ (k0_h35 : k0_cond35 v469 k0_t28 = 1#1), ∀ a, (k0_off958 v469 k0_t28) a + S1x1.size a ≤ S2x8.size a) ∧
  (∀ k0_t28 : Fin (k0_t28_loop v469).trips, ∀ (k0_h35 : k0_cond35 v469 k0_t28 = 1#1), ∀ a, (k0_off959 v469 k0_t28) a + S1x1x16x8x128.size a ≤ S2x8x16x8x128.size a) ∧
  (∀ k0_t28 : Fin (k0_t28_loop v469).trips, ∀ (k0_h35 : k0_cond35 v469 k0_t28 = 1#1), ∀ a, (k0_off960 v469 k0_t28) a + S1x1.size a ≤ S8x512.size a) ∧
  (∀ k0_t28 : Fin (k0_t28_loop v469).trips, ∀ (k0_h35 : k0_cond35 v469 k0_t28 = 1#1), ∀ a, (k0_off961 v469 k0_t28) a + S1x1.size a ≤ S2x8.size a) ∧
  (∀ k0_t28 : Fin (k0_t28_loop v469).trips, ∀ (k0_h35 : k0_cond35 v469 k0_t28 = 1#1), ∀ a, (k0_off962 v469 k0_t28) a + S1x1x16x8x128.size a ≤ S2x8x16x8x128.size a) ∧
  (∀ k0_t28 : Fin (k0_t28_loop v469).trips, ∀ (k0_h35 : k0_cond35 v469 k0_t28 = 1#1), ∀ a, (k0_off964 v469 k0_t28) a + S1x1.size a ≤ S2x8.size a) ∧
  (∀ k0_t28 : Fin (k0_t28_loop v469).trips, ∀ (k0_h35 : k0_cond35 v469 k0_t28 = 1#1), ∀ a, (k0_off965 v469 k0_t28) a + S1x1x16x8x128.size a ≤ S2x8x16x8x128.size a) ∧
  (∀ k0_t28 : Fin (k0_t28_loop v469).trips, ∀ (k0_h35 : k0_cond35 v469 k0_t28 = 1#1), ∀ a, (k0_off966 v469 k0_t28) a + S1x1.size a ≤ S8x512.size a) ∧
  (∀ k0_t28 : Fin (k0_t28_loop v469).trips, ∀ (k0_h35 : k0_cond35 v469 k0_t28 = 1#1), ∀ a, (k0_off967 v469 k0_t28) a + S1x1.size a ≤ S2x8.size a) ∧
  (∀ k0_t28 : Fin (k0_t28_loop v469).trips, ∀ (k0_h35 : k0_cond35 v469 k0_t28 = 1#1), ∀ a, (k0_off968 v469 k0_t28) a + S1x1x16x8x128.size a ≤ S2x8x16x8x128.size a) ∧
  (∀ k0_t28 : Fin (k0_t28_loop v469).trips, ∀ (k0_h35 : k0_cond35 v469 k0_t28 = 1#1), ∀ a, (k0_off970 v469 k0_t28) a + S1x1.size a ≤ S2x8.size a) ∧
  (∀ k0_t28 : Fin (k0_t28_loop v469).trips, ∀ (k0_h35 : k0_cond35 v469 k0_t28 = 1#1), ∀ a, (k0_off971 v469 k0_t28) a + S1x1x16x8x128.size a ≤ S2x8x16x8x128.size a) ∧
  (∀ k0_t28 : Fin (k0_t28_loop v469).trips, ∀ (k0_h35 : k0_cond35 v469 k0_t28 = 1#1), ∀ a, (k0_off972 v469 k0_t28) a + S1x1.size a ≤ S8x512.size a) ∧
  (∀ k0_t28 : Fin (k0_t28_loop v469).trips, ∀ (k0_h35 : k0_cond35 v469 k0_t28 = 1#1), ∀ a, (k0_off973 v469 k0_t28) a + S1x1.size a ≤ S2x8.size a)
def k0_chk180_3 (v469 : BitVec 32) : Prop :=
  (∀ k0_t28 : Fin (k0_t28_loop v469).trips, ∀ (k0_h35 : k0_cond35 v469 k0_t28 = 1#1), ∀ a, (k0_off974 v469 k0_t28) a + S1x1x16x8x128.size a ≤ S2x8x16x8x128.size a) ∧
  (∀ k0_t28 : Fin (k0_t28_loop v469).trips, ∀ (k0_h35 : k0_cond35 v469 k0_t28 = 1#1), ∀ a, (k0_off976 v469 k0_t28) a + S1x1.size a ≤ S2x8.size a) ∧
  (∀ k0_t28 : Fin (k0_t28_loop v469).trips, ∀ (k0_h35 : k0_cond35 v469 k0_t28 = 1#1), ∀ a, (k0_off977 v469 k0_t28) a + S1x1x16x8x128.size a ≤ S2x8x16x8x128.size a) ∧
  (∀ k0_t28 : Fin (k0_t28_loop v469).trips, ∀ a, (k0_off978 v469 k0_t28) a + S1x1.size a ≤ S2x8.size a) ∧
  (∀ k0_t28 : Fin (k0_t28_loop v469).trips, ∀ a, (k0_off979 v469 k0_t28) a + S1x1x16x8x128.size a ≤ S2x8x16x8x128.size a) ∧
  (∀ k0_t28 : Fin (k0_t28_loop v469).trips, ∀ a, (k0_off980 v469 k0_t28) a + S1x1.size a ≤ S2x8.size a) ∧
  (∀ k0_t28 : Fin (k0_t28_loop v469).trips, ∀ a, (k0_off981 v469 k0_t28) a + S1x1x16x8x128.size a ≤ S2x8x16x8x128.size a) ∧
  (∀ k0_t28 : Fin (k0_t28_loop v469).trips, ∀ a, (k0_off982 v469 k0_t28) a + S1x1.size a ≤ S2x8.size a) ∧
  (∀ k0_t28 : Fin (k0_t28_loop v469).trips, ∀ a, (k0_off983 v469 k0_t28) a + S1x1x16x8x128.size a ≤ S2x8x16x8x128.size a) ∧
  (∀ k0_t28 : Fin (k0_t28_loop v469).trips, ∀ a, (k0_off984 v469 k0_t28) a + S1x1.size a ≤ S2x8.size a) ∧
  (∀ k0_t28 : Fin (k0_t28_loop v469).trips, ∀ a, (k0_off985 v469 k0_t28) a + S1x1x16x8x128.size a ≤ S2x8x16x8x128.size a) ∧
  (∀ k0_t28 : Fin (k0_t28_loop v469).trips, ∀ a, (k0_off986 v469 k0_t28) a + S1x1.size a ≤ S2x8.size a) ∧
  (∀ k0_t28 : Fin (k0_t28_loop v469).trips, ∀ a, (k0_off987 v469 k0_t28) a + S1x1x16x8x128.size a ≤ S2x8x16x8x128.size a) ∧
  (∀ k0_t28 : Fin (k0_t28_loop v469).trips, ∀ a, (k0_off988 v469 k0_t28) a + S1x1.size a ≤ S2x8.size a) ∧
  (∀ k0_t28 : Fin (k0_t28_loop v469).trips, ∀ a, (k0_off989 v469 k0_t28) a + S1x1x16x8x128.size a ≤ S2x8x16x8x128.size a) ∧
  (∀ k0_t28 : Fin (k0_t28_loop v469).trips, ∀ a, (k0_off990 v469 k0_t28) a + S1x1.size a ≤ S2x8.size a) ∧
  (∀ k0_t28 : Fin (k0_t28_loop v469).trips, ∀ a, (k0_off991 v469 k0_t28) a + S1x1x16x8x128.size a ≤ S2x8x16x8x128.size a) ∧
  (∀ k0_t28 : Fin (k0_t28_loop v469).trips, ∀ a, (k0_off992 v469 k0_t28) a + S1x1.size a ≤ S2x8.size a) ∧
  (∀ k0_t28 : Fin (k0_t28_loop v469).trips, ∀ a, (k0_off993 v469 k0_t28) a + S1x1x16x8x128.size a ≤ S2x8x16x8x128.size a) ∧
  (∀ k0_t28 : Fin (k0_t28_loop v469).trips, ∀ a, (k0_off994 v469 k0_t28) a + S1x8x16x8x128.size a ≤ S2x8x16x8x128.size a)
def k0_chk180 (v469 : BitVec 32) : Prop :=
  k0_chk180_0 v469 ∧
  k0_chk180_1 v469 ∧
  k0_chk180_2 v469 ∧
  k0_chk180_3 v469
theorem k0_t27_ok : ∀ (v469 : BitVec 32) (k0_hw180 : k0_chk180 v469), (k0_t27_loop v469).OK := fun v469 k0_hw180 => k0_hw180.1.1
theorem k0_off865_inb : ∀ (v469 : BitVec 32) (k0_hw180 : k0_chk180 v469) (k0_t27 : Fin (k0_t27_loop v469).trips), ∀ (k0_h34 : k0_cond34 v469 k0_t27 = 1#1), ∀ a, (k0_off865 v469 k0_t27) a + S1x1.size a ≤ S8x512.size a := fun v469 k0_hw180 k0_t27 k0_h34 => k0_hw180.1.2.1 k0_t27 k0_h34
theorem k0_off866_inb : ∀ (v469 : BitVec 32) (k0_hw180 : k0_chk180 v469) (k0_t27 : Fin (k0_t27_loop v469).trips), ∀ (k0_h34 : k0_cond34 v469 k0_t27 = 1#1), ∀ a, (k0_off866 v469 k0_t27) a + S1x1.size a ≤ S2x8.size a := fun v469 k0_hw180 k0_t27 k0_h34 => k0_hw180.1.2.2.1 k0_t27 k0_h34
theorem k0_off867_inb : ∀ (v469 : BitVec 32) (k0_hw180 : k0_chk180 v469) (k0_t27 : Fin (k0_t27_loop v469).trips), ∀ (k0_h34 : k0_cond34 v469 k0_t27 = 1#1), ∀ a, (k0_off867 v469 k0_t27) a + S1x1x16x8x128.size a ≤ S2x8x16x8x128.size a := fun v469 k0_hw180 k0_t27 k0_h34 => k0_hw180.1.2.2.2.1 k0_t27 k0_h34
theorem k0_off869_inb : ∀ (v469 : BitVec 32) (k0_hw180 : k0_chk180 v469) (k0_t27 : Fin (k0_t27_loop v469).trips), ∀ (k0_h34 : k0_cond34 v469 k0_t27 = 1#1), ∀ a, (k0_off869 v469 k0_t27) a + S1x1.size a ≤ S2x8.size a := fun v469 k0_hw180 k0_t27 k0_h34 => k0_hw180.1.2.2.2.2.1 k0_t27 k0_h34
theorem k0_off870_inb : ∀ (v469 : BitVec 32) (k0_hw180 : k0_chk180 v469) (k0_t27 : Fin (k0_t27_loop v469).trips), ∀ (k0_h34 : k0_cond34 v469 k0_t27 = 1#1), ∀ a, (k0_off870 v469 k0_t27) a + S1x1x16x8x128.size a ≤ S2x8x16x8x128.size a := fun v469 k0_hw180 k0_t27 k0_h34 => k0_hw180.1.2.2.2.2.2.1 k0_t27 k0_h34
theorem k0_off871_inb : ∀ (v469 : BitVec 32) (k0_hw180 : k0_chk180 v469) (k0_t27 : Fin (k0_t27_loop v469).trips), ∀ (k0_h34 : k0_cond34 v469 k0_t27 = 1#1), ∀ a, (k0_off871 v469 k0_t27) a + S1x1.size a ≤ S8x512.size a := fun v469 k0_hw180 k0_t27 k0_h34 => k0_hw180.1.2.2.2.2.2.2.1 k0_t27 k0_h34
theorem k0_off872_inb : ∀ (v469 : BitVec 32) (k0_hw180 : k0_chk180 v469) (k0_t27 : Fin (k0_t27_loop v469).trips), ∀ (k0_h34 : k0_cond34 v469 k0_t27 = 1#1), ∀ a, (k0_off872 v469 k0_t27) a + S1x1.size a ≤ S2x8.size a := fun v469 k0_hw180 k0_t27 k0_h34 => k0_hw180.1.2.2.2.2.2.2.2.1 k0_t27 k0_h34
theorem k0_off873_inb : ∀ (v469 : BitVec 32) (k0_hw180 : k0_chk180 v469) (k0_t27 : Fin (k0_t27_loop v469).trips), ∀ (k0_h34 : k0_cond34 v469 k0_t27 = 1#1), ∀ a, (k0_off873 v469 k0_t27) a + S1x1x16x8x128.size a ≤ S2x8x16x8x128.size a := fun v469 k0_hw180 k0_t27 k0_h34 => k0_hw180.1.2.2.2.2.2.2.2.2.1 k0_t27 k0_h34
theorem k0_off875_inb : ∀ (v469 : BitVec 32) (k0_hw180 : k0_chk180 v469) (k0_t27 : Fin (k0_t27_loop v469).trips), ∀ (k0_h34 : k0_cond34 v469 k0_t27 = 1#1), ∀ a, (k0_off875 v469 k0_t27) a + S1x1.size a ≤ S2x8.size a := fun v469 k0_hw180 k0_t27 k0_h34 => k0_hw180.1.2.2.2.2.2.2.2.2.2.1 k0_t27 k0_h34
theorem k0_off876_inb : ∀ (v469 : BitVec 32) (k0_hw180 : k0_chk180 v469) (k0_t27 : Fin (k0_t27_loop v469).trips), ∀ (k0_h34 : k0_cond34 v469 k0_t27 = 1#1), ∀ a, (k0_off876 v469 k0_t27) a + S1x1x16x8x128.size a ≤ S2x8x16x8x128.size a := fun v469 k0_hw180 k0_t27 k0_h34 => k0_hw180.1.2.2.2.2.2.2.2.2.2.2.1 k0_t27 k0_h34
theorem k0_off877_inb : ∀ (v469 : BitVec 32) (k0_hw180 : k0_chk180 v469) (k0_t27 : Fin (k0_t27_loop v469).trips), ∀ (k0_h34 : k0_cond34 v469 k0_t27 = 1#1), ∀ a, (k0_off877 v469 k0_t27) a + S1x1.size a ≤ S8x512.size a := fun v469 k0_hw180 k0_t27 k0_h34 => k0_hw180.1.2.2.2.2.2.2.2.2.2.2.2.1 k0_t27 k0_h34
theorem k0_off878_inb : ∀ (v469 : BitVec 32) (k0_hw180 : k0_chk180 v469) (k0_t27 : Fin (k0_t27_loop v469).trips), ∀ (k0_h34 : k0_cond34 v469 k0_t27 = 1#1), ∀ a, (k0_off878 v469 k0_t27) a + S1x1.size a ≤ S2x8.size a := fun v469 k0_hw180 k0_t27 k0_h34 => k0_hw180.1.2.2.2.2.2.2.2.2.2.2.2.2.1 k0_t27 k0_h34
theorem k0_off879_inb : ∀ (v469 : BitVec 32) (k0_hw180 : k0_chk180 v469) (k0_t27 : Fin (k0_t27_loop v469).trips), ∀ (k0_h34 : k0_cond34 v469 k0_t27 = 1#1), ∀ a, (k0_off879 v469 k0_t27) a + S1x1x16x8x128.size a ≤ S2x8x16x8x128.size a := fun v469 k0_hw180 k0_t27 k0_h34 => k0_hw180.1.2.2.2.2.2.2.2.2.2.2.2.2.2.1 k0_t27 k0_h34
theorem k0_off881_inb : ∀ (v469 : BitVec 32) (k0_hw180 : k0_chk180 v469) (k0_t27 : Fin (k0_t27_loop v469).trips), ∀ (k0_h34 : k0_cond34 v469 k0_t27 = 1#1), ∀ a, (k0_off881 v469 k0_t27) a + S1x1.size a ≤ S2x8.size a := fun v469 k0_hw180 k0_t27 k0_h34 => k0_hw180.1.2.2.2.2.2.2.2.2.2.2.2.2.2.2.1 k0_t27 k0_h34
theorem k0_off882_inb : ∀ (v469 : BitVec 32) (k0_hw180 : k0_chk180 v469) (k0_t27 : Fin (k0_t27_loop v469).trips), ∀ (k0_h34 : k0_cond34 v469 k0_t27 = 1#1), ∀ a, (k0_off882 v469 k0_t27) a + S1x1x16x8x128.size a ≤ S2x8x16x8x128.size a := fun v469 k0_hw180 k0_t27 k0_h34 => k0_hw180.1.2.2.2.2.2.2.2.2.2.2.2.2.2.2.2.1 k0_t27 k0_h34
theorem k0_off883_inb : ∀ (v469 : BitVec 32) (k0_hw180 : k0_chk180 v469) (k0_t27 : Fin (k0_t27_loop v469).trips), ∀ (k0_h34 : k0_cond34 v469 k0_t27 = 1#1), ∀ a, (k0_off883 v469 k0_t27) a + S1x1.size a ≤ S8x512.size a := fun v469 k0_hw180 k0_t27 k0_h34 => k0_hw180.1.2.2.2.2.2.2.2.2.2.2.2.2.2.2.2.2.1 k0_t27 k0_h34
theorem k0_off884_inb : ∀ (v469 : BitVec 32) (k0_hw180 : k0_chk180 v469) (k0_t27 : Fin (k0_t27_loop v469).trips), ∀ (k0_h34 : k0_cond34 v469 k0_t27 = 1#1), ∀ a, (k0_off884 v469 k0_t27) a + S1x1.size a ≤ S2x8.size a := fun v469 k0_hw180 k0_t27 k0_h34 => k0_hw180.1.2.2.2.2.2.2.2.2.2.2.2.2.2.2.2.2.2.1 k0_t27 k0_h34
theorem k0_off885_inb : ∀ (v469 : BitVec 32) (k0_hw180 : k0_chk180 v469) (k0_t27 : Fin (k0_t27_loop v469).trips), ∀ (k0_h34 : k0_cond34 v469 k0_t27 = 1#1), ∀ a, (k0_off885 v469 k0_t27) a + S1x1x16x8x128.size a ≤ S2x8x16x8x128.size a := fun v469 k0_hw180 k0_t27 k0_h34 => k0_hw180.1.2.2.2.2.2.2.2.2.2.2.2.2.2.2.2.2.2.2.1 k0_t27 k0_h34
theorem k0_off887_inb : ∀ (v469 : BitVec 32) (k0_hw180 : k0_chk180 v469) (k0_t27 : Fin (k0_t27_loop v469).trips), ∀ (k0_h34 : k0_cond34 v469 k0_t27 = 1#1), ∀ a, (k0_off887 v469 k0_t27) a + S1x1.size a ≤ S2x8.size a := fun v469 k0_hw180 k0_t27 k0_h34 => k0_hw180.1.2.2.2.2.2.2.2.2.2.2.2.2.2.2.2.2.2.2.2.1 k0_t27 k0_h34
theorem k0_off888_inb : ∀ (v469 : BitVec 32) (k0_hw180 : k0_chk180 v469) (k0_t27 : Fin (k0_t27_loop v469).trips), ∀ (k0_h34 : k0_cond34 v469 k0_t27 = 1#1), ∀ a, (k0_off888 v469 k0_t27) a + S1x1x16x8x128.size a ≤ S2x8x16x8x128.size a := fun v469 k0_hw180 k0_t27 k0_h34 => k0_hw180.1.2.2.2.2.2.2.2.2.2.2.2.2.2.2.2.2.2.2.2.2.1 k0_t27 k0_h34
theorem k0_off889_inb : ∀ (v469 : BitVec 32) (k0_hw180 : k0_chk180 v469) (k0_t27 : Fin (k0_t27_loop v469).trips), ∀ (k0_h34 : k0_cond34 v469 k0_t27 = 1#1), ∀ a, (k0_off889 v469 k0_t27) a + S1x1.size a ≤ S8x512.size a := fun v469 k0_hw180 k0_t27 k0_h34 => k0_hw180.1.2.2.2.2.2.2.2.2.2.2.2.2.2.2.2.2.2.2.2.2.2.1 k0_t27 k0_h34
theorem k0_off890_inb : ∀ (v469 : BitVec 32) (k0_hw180 : k0_chk180 v469) (k0_t27 : Fin (k0_t27_loop v469).trips), ∀ (k0_h34 : k0_cond34 v469 k0_t27 = 1#1), ∀ a, (k0_off890 v469 k0_t27) a + S1x1.size a ≤ S2x8.size a := fun v469 k0_hw180 k0_t27 k0_h34 => k0_hw180.1.2.2.2.2.2.2.2.2.2.2.2.2.2.2.2.2.2.2.2.2.2.2.1 k0_t27 k0_h34
theorem k0_off891_inb : ∀ (v469 : BitVec 32) (k0_hw180 : k0_chk180 v469) (k0_t27 : Fin (k0_t27_loop v469).trips), ∀ (k0_h34 : k0_cond34 v469 k0_t27 = 1#1), ∀ a, (k0_off891 v469 k0_t27) a + S1x1x16x8x128.size a ≤ S2x8x16x8x128.size a := fun v469 k0_hw180 k0_t27 k0_h34 => k0_hw180.1.2.2.2.2.2.2.2.2.2.2.2.2.2.2.2.2.2.2.2.2.2.2.2.1 k0_t27 k0_h34
theorem k0_off893_inb : ∀ (v469 : BitVec 32) (k0_hw180 : k0_chk180 v469) (k0_t27 : Fin (k0_t27_loop v469).trips), ∀ (k0_h34 : k0_cond34 v469 k0_t27 = 1#1), ∀ a, (k0_off893 v469 k0_t27) a + S1x1.size a ≤ S2x8.size a := fun v469 k0_hw180 k0_t27 k0_h34 => k0_hw180.1.2.2.2.2.2.2.2.2.2.2.2.2.2.2.2.2.2.2.2.2.2.2.2.2.1 k0_t27 k0_h34
theorem k0_off894_inb : ∀ (v469 : BitVec 32) (k0_hw180 : k0_chk180 v469) (k0_t27 : Fin (k0_t27_loop v469).trips), ∀ (k0_h34 : k0_cond34 v469 k0_t27 = 1#1), ∀ a, (k0_off894 v469 k0_t27) a + S1x1x16x8x128.size a ≤ S2x8x16x8x128.size a := fun v469 k0_hw180 k0_t27 k0_h34 => k0_hw180.1.2.2.2.2.2.2.2.2.2.2.2.2.2.2.2.2.2.2.2.2.2.2.2.2.2.1 k0_t27 k0_h34
theorem k0_off895_inb : ∀ (v469 : BitVec 32) (k0_hw180 : k0_chk180 v469) (k0_t27 : Fin (k0_t27_loop v469).trips), ∀ (k0_h34 : k0_cond34 v469 k0_t27 = 1#1), ∀ a, (k0_off895 v469 k0_t27) a + S1x1.size a ≤ S8x512.size a := fun v469 k0_hw180 k0_t27 k0_h34 => k0_hw180.1.2.2.2.2.2.2.2.2.2.2.2.2.2.2.2.2.2.2.2.2.2.2.2.2.2.2.1 k0_t27 k0_h34
theorem k0_off896_inb : ∀ (v469 : BitVec 32) (k0_hw180 : k0_chk180 v469) (k0_t27 : Fin (k0_t27_loop v469).trips), ∀ (k0_h34 : k0_cond34 v469 k0_t27 = 1#1), ∀ a, (k0_off896 v469 k0_t27) a + S1x1.size a ≤ S2x8.size a := fun v469 k0_hw180 k0_t27 k0_h34 => k0_hw180.1.2.2.2.2.2.2.2.2.2.2.2.2.2.2.2.2.2.2.2.2.2.2.2.2.2.2.2.1 k0_t27 k0_h34
theorem k0_off897_inb : ∀ (v469 : BitVec 32) (k0_hw180 : k0_chk180 v469) (k0_t27 : Fin (k0_t27_loop v469).trips), ∀ (k0_h34 : k0_cond34 v469 k0_t27 = 1#1), ∀ a, (k0_off897 v469 k0_t27) a + S1x1x16x8x128.size a ≤ S2x8x16x8x128.size a := fun v469 k0_hw180 k0_t27 k0_h34 => k0_hw180.1.2.2.2.2.2.2.2.2.2.2.2.2.2.2.2.2.2.2.2.2.2.2.2.2.2.2.2.2.1 k0_t27 k0_h34
theorem k0_off899_inb : ∀ (v469 : BitVec 32) (k0_hw180 : k0_chk180 v469) (k0_t27 : Fin (k0_t27_loop v469).trips), ∀ (k0_h34 : k0_cond34 v469 k0_t27 = 1#1), ∀ a, (k0_off899 v469 k0_t27) a + S1x1.size a ≤ S2x8.size a := fun v469 k0_hw180 k0_t27 k0_h34 => k0_hw180.1.2.2.2.2.2.2.2.2.2.2.2.2.2.2.2.2.2.2.2.2.2.2.2.2.2.2.2.2.2.1 k0_t27 k0_h34
theorem k0_off900_inb : ∀ (v469 : BitVec 32) (k0_hw180 : k0_chk180 v469) (k0_t27 : Fin (k0_t27_loop v469).trips), ∀ (k0_h34 : k0_cond34 v469 k0_t27 = 1#1), ∀ a, (k0_off900 v469 k0_t27) a + S1x1x16x8x128.size a ≤ S2x8x16x8x128.size a := fun v469 k0_hw180 k0_t27 k0_h34 => k0_hw180.1.2.2.2.2.2.2.2.2.2.2.2.2.2.2.2.2.2.2.2.2.2.2.2.2.2.2.2.2.2.2.1 k0_t27 k0_h34
theorem k0_off901_inb : ∀ (v469 : BitVec 32) (k0_hw180 : k0_chk180 v469) (k0_t27 : Fin (k0_t27_loop v469).trips), ∀ (k0_h34 : k0_cond34 v469 k0_t27 = 1#1), ∀ a, (k0_off901 v469 k0_t27) a + S1x1.size a ≤ S8x512.size a := fun v469 k0_hw180 k0_t27 k0_h34 => k0_hw180.1.2.2.2.2.2.2.2.2.2.2.2.2.2.2.2.2.2.2.2.2.2.2.2.2.2.2.2.2.2.2.2 k0_t27 k0_h34
theorem k0_off902_inb : ∀ (v469 : BitVec 32) (k0_hw180 : k0_chk180 v469) (k0_t27 : Fin (k0_t27_loop v469).trips), ∀ (k0_h34 : k0_cond34 v469 k0_t27 = 1#1), ∀ a, (k0_off902 v469 k0_t27) a + S1x1.size a ≤ S2x8.size a := fun v469 k0_hw180 k0_t27 k0_h34 => k0_hw180.2.1.1 k0_t27 k0_h34
theorem k0_off903_inb : ∀ (v469 : BitVec 32) (k0_hw180 : k0_chk180 v469) (k0_t27 : Fin (k0_t27_loop v469).trips), ∀ (k0_h34 : k0_cond34 v469 k0_t27 = 1#1), ∀ a, (k0_off903 v469 k0_t27) a + S1x1x16x8x128.size a ≤ S2x8x16x8x128.size a := fun v469 k0_hw180 k0_t27 k0_h34 => k0_hw180.2.1.2.1 k0_t27 k0_h34
theorem k0_off905_inb : ∀ (v469 : BitVec 32) (k0_hw180 : k0_chk180 v469) (k0_t27 : Fin (k0_t27_loop v469).trips), ∀ (k0_h34 : k0_cond34 v469 k0_t27 = 1#1), ∀ a, (k0_off905 v469 k0_t27) a + S1x1.size a ≤ S2x8.size a := fun v469 k0_hw180 k0_t27 k0_h34 => k0_hw180.2.1.2.2.1 k0_t27 k0_h34
theorem k0_off906_inb : ∀ (v469 : BitVec 32) (k0_hw180 : k0_chk180 v469) (k0_t27 : Fin (k0_t27_loop v469).trips), ∀ (k0_h34 : k0_cond34 v469 k0_t27 = 1#1), ∀ a, (k0_off906 v469 k0_t27) a + S1x1x16x8x128.size a ≤ S2x8x16x8x128.size a := fun v469 k0_hw180 k0_t27 k0_h34 => k0_hw180.2.1.2.2.2.1 k0_t27 k0_h34
theorem k0_off907_inb : ∀ (v469 : BitVec 32) (k0_hw180 : k0_chk180 v469) (k0_t27 : Fin (k0_t27_loop v469).trips), ∀ (k0_h34 : k0_cond34 v469 k0_t27 = 1#1), ∀ a, (k0_off907 v469 k0_t27) a + S1x1.size a ≤ S8x512.size a := fun v469 k0_hw180 k0_t27 k0_h34 => k0_hw180.2.1.2.2.2.2.1 k0_t27 k0_h34
theorem k0_off908_inb : ∀ (v469 : BitVec 32) (k0_hw180 : k0_chk180 v469) (k0_t27 : Fin (k0_t27_loop v469).trips), ∀ (k0_h34 : k0_cond34 v469 k0_t27 = 1#1), ∀ a, (k0_off908 v469 k0_t27) a + S1x1.size a ≤ S2x8.size a := fun v469 k0_hw180 k0_t27 k0_h34 => k0_hw180.2.1.2.2.2.2.2.1 k0_t27 k0_h34
theorem k0_off909_inb : ∀ (v469 : BitVec 32) (k0_hw180 : k0_chk180 v469) (k0_t27 : Fin (k0_t27_loop v469).trips), ∀ (k0_h34 : k0_cond34 v469 k0_t27 = 1#1), ∀ a, (k0_off909 v469 k0_t27) a + S1x1x16x8x128.size a ≤ S2x8x16x8x128.size a := fun v469 k0_hw180 k0_t27 k0_h34 => k0_hw180.2.1.2.2.2.2.2.2.1 k0_t27 k0_h34
theorem k0_off911_inb : ∀ (v469 : BitVec 32) (k0_hw180 : k0_chk180 v469) (k0_t27 : Fin (k0_t27_loop v469).trips), ∀ (k0_h34 : k0_cond34 v469 k0_t27 = 1#1), ∀ a, (k0_off911 v469 k0_t27) a + S1x1.size a ≤ S2x8.size a := fun v469 k0_hw180 k0_t27 k0_h34 => k0_hw180.2.1.2.2.2.2.2.2.2.1 k0_t27 k0_h34
theorem k0_off912_inb : ∀ (v469 : BitVec 32) (k0_hw180 : k0_chk180 v469) (k0_t27 : Fin (k0_t27_loop v469).trips), ∀ (k0_h34 : k0_cond34 v469 k0_t27 = 1#1), ∀ a, (k0_off912 v469 k0_t27) a + S1x1x16x8x128.size a ≤ S2x8x16x8x128.size a := fun v469 k0_hw180 k0_t27 k0_h34 => k0_hw180.2.1.2.2.2.2.2.2.2.2.1 k0_t27 k0_h34
theorem k0_off913_inb : ∀ (v469 : BitVec 32) (k0_hw180 : k0_chk180 v469) (k0_t27 : Fin (k0_t27_loop v469).trips), ∀ a, (k0_off913 v469 k0_t27) a + S1x1.size a ≤ S2x8.size a := fun v469 k0_hw180 k0_t27 => k0_hw180.2.1.2.2.2.2.2.2.2.2.2.1 k0_t27
theorem k0_off914_inb : ∀ (v469 : BitVec 32) (k0_hw180 : k0_chk180 v469) (k0_t27 : Fin (k0_t27_loop v469).trips), ∀ a, (k0_off914 v469 k0_t27) a + S1x1x16x8x128.size a ≤ S2x8x16x8x128.size a := fun v469 k0_hw180 k0_t27 => k0_hw180.2.1.2.2.2.2.2.2.2.2.2.2.1 k0_t27
theorem k0_off915_inb : ∀ (v469 : BitVec 32) (k0_hw180 : k0_chk180 v469) (k0_t27 : Fin (k0_t27_loop v469).trips), ∀ a, (k0_off915 v469 k0_t27) a + S1x1.size a ≤ S2x8.size a := fun v469 k0_hw180 k0_t27 => k0_hw180.2.1.2.2.2.2.2.2.2.2.2.2.2.1 k0_t27
theorem k0_off916_inb : ∀ (v469 : BitVec 32) (k0_hw180 : k0_chk180 v469) (k0_t27 : Fin (k0_t27_loop v469).trips), ∀ a, (k0_off916 v469 k0_t27) a + S1x1x16x8x128.size a ≤ S2x8x16x8x128.size a := fun v469 k0_hw180 k0_t27 => k0_hw180.2.1.2.2.2.2.2.2.2.2.2.2.2.2.1 k0_t27
theorem k0_off917_inb : ∀ (v469 : BitVec 32) (k0_hw180 : k0_chk180 v469) (k0_t27 : Fin (k0_t27_loop v469).trips), ∀ a, (k0_off917 v469 k0_t27) a + S1x1.size a ≤ S2x8.size a := fun v469 k0_hw180 k0_t27 => k0_hw180.2.1.2.2.2.2.2.2.2.2.2.2.2.2.2.1 k0_t27
theorem k0_off918_inb : ∀ (v469 : BitVec 32) (k0_hw180 : k0_chk180 v469) (k0_t27 : Fin (k0_t27_loop v469).trips), ∀ a, (k0_off918 v469 k0_t27) a + S1x1x16x8x128.size a ≤ S2x8x16x8x128.size a := fun v469 k0_hw180 k0_t27 => k0_hw180.2.1.2.2.2.2.2.2.2.2.2.2.2.2.2.2.1 k0_t27
theorem k0_off919_inb : ∀ (v469 : BitVec 32) (k0_hw180 : k0_chk180 v469) (k0_t27 : Fin (k0_t27_loop v469).trips), ∀ a, (k0_off919 v469 k0_t27) a + S1x1.size a ≤ S2x8.size a := fun v469 k0_hw180 k0_t27 => k0_hw180.2.1.2.2.2.2.2.2.2.2.2.2.2.2.2.2.2.1 k0_t27
theorem k0_off920_inb : ∀ (v469 : BitVec 32) (k0_hw180 : k0_chk180 v469) (k0_t27 : Fin (k0_t27_loop v469).trips), ∀ a, (k0_off920 v469 k0_t27) a + S1x1x16x8x128.size a ≤ S2x8x16x8x128.size a := fun v469 k0_hw180 k0_t27 => k0_hw180.2.1.2.2.2.2.2.2.2.2.2.2.2.2.2.2.2.2.1 k0_t27
theorem k0_off921_inb : ∀ (v469 : BitVec 32) (k0_hw180 : k0_chk180 v469) (k0_t27 : Fin (k0_t27_loop v469).trips), ∀ a, (k0_off921 v469 k0_t27) a + S1x1.size a ≤ S2x8.size a := fun v469 k0_hw180 k0_t27 => k0_hw180.2.1.2.2.2.2.2.2.2.2.2.2.2.2.2.2.2.2.2.1 k0_t27
theorem k0_off922_inb : ∀ (v469 : BitVec 32) (k0_hw180 : k0_chk180 v469) (k0_t27 : Fin (k0_t27_loop v469).trips), ∀ a, (k0_off922 v469 k0_t27) a + S1x1x16x8x128.size a ≤ S2x8x16x8x128.size a := fun v469 k0_hw180 k0_t27 => k0_hw180.2.1.2.2.2.2.2.2.2.2.2.2.2.2.2.2.2.2.2.2.1 k0_t27
theorem k0_off923_inb : ∀ (v469 : BitVec 32) (k0_hw180 : k0_chk180 v469) (k0_t27 : Fin (k0_t27_loop v469).trips), ∀ a, (k0_off923 v469 k0_t27) a + S1x1.size a ≤ S2x8.size a := fun v469 k0_hw180 k0_t27 => k0_hw180.2.1.2.2.2.2.2.2.2.2.2.2.2.2.2.2.2.2.2.2.2.1 k0_t27
theorem k0_off924_inb : ∀ (v469 : BitVec 32) (k0_hw180 : k0_chk180 v469) (k0_t27 : Fin (k0_t27_loop v469).trips), ∀ a, (k0_off924 v469 k0_t27) a + S1x1x16x8x128.size a ≤ S2x8x16x8x128.size a := fun v469 k0_hw180 k0_t27 => k0_hw180.2.1.2.2.2.2.2.2.2.2.2.2.2.2.2.2.2.2.2.2.2.2.1 k0_t27
theorem k0_off925_inb : ∀ (v469 : BitVec 32) (k0_hw180 : k0_chk180 v469) (k0_t27 : Fin (k0_t27_loop v469).trips), ∀ a, (k0_off925 v469 k0_t27) a + S1x1.size a ≤ S2x8.size a := fun v469 k0_hw180 k0_t27 => k0_hw180.2.1.2.2.2.2.2.2.2.2.2.2.2.2.2.2.2.2.2.2.2.2.2.1 k0_t27
theorem k0_off926_inb : ∀ (v469 : BitVec 32) (k0_hw180 : k0_chk180 v469) (k0_t27 : Fin (k0_t27_loop v469).trips), ∀ a, (k0_off926 v469 k0_t27) a + S1x1x16x8x128.size a ≤ S2x8x16x8x128.size a := fun v469 k0_hw180 k0_t27 => k0_hw180.2.1.2.2.2.2.2.2.2.2.2.2.2.2.2.2.2.2.2.2.2.2.2.2.1 k0_t27
theorem k0_off927_inb : ∀ (v469 : BitVec 32) (k0_hw180 : k0_chk180 v469) (k0_t27 : Fin (k0_t27_loop v469).trips), ∀ a, (k0_off927 v469 k0_t27) a + S1x1.size a ≤ S2x8.size a := fun v469 k0_hw180 k0_t27 => k0_hw180.2.1.2.2.2.2.2.2.2.2.2.2.2.2.2.2.2.2.2.2.2.2.2.2.2.1 k0_t27
theorem k0_off928_inb : ∀ (v469 : BitVec 32) (k0_hw180 : k0_chk180 v469) (k0_t27 : Fin (k0_t27_loop v469).trips), ∀ a, (k0_off928 v469 k0_t27) a + S1x1x16x8x128.size a ≤ S2x8x16x8x128.size a := fun v469 k0_hw180 k0_t27 => k0_hw180.2.1.2.2.2.2.2.2.2.2.2.2.2.2.2.2.2.2.2.2.2.2.2.2.2.2.1 k0_t27
theorem k0_off929_inb : ∀ (v469 : BitVec 32) (k0_hw180 : k0_chk180 v469) (k0_t27 : Fin (k0_t27_loop v469).trips), ∀ a, (k0_off929 v469 k0_t27) a + S1x8x16x8x128.size a ≤ S2x8x16x8x128.size a := fun v469 k0_hw180 k0_t27 => k0_hw180.2.1.2.2.2.2.2.2.2.2.2.2.2.2.2.2.2.2.2.2.2.2.2.2.2.2.2.1 k0_t27
theorem k0_t28_ok : ∀ (v469 : BitVec 32) (k0_hw180 : k0_chk180 v469), (k0_t28_loop v469).OK := fun v469 k0_hw180 => k0_hw180.2.1.2.2.2.2.2.2.2.2.2.2.2.2.2.2.2.2.2.2.2.2.2.2.2.2.2.2.1
theorem k0_off930_inb : ∀ (v469 : BitVec 32) (k0_hw180 : k0_chk180 v469) (k0_t28 : Fin (k0_t28_loop v469).trips), ∀ (k0_h35 : k0_cond35 v469 k0_t28 = 1#1), ∀ a, (k0_off930 v469 k0_t28) a + S1x1.size a ≤ S8x512.size a := fun v469 k0_hw180 k0_t28 k0_h35 => k0_hw180.2.1.2.2.2.2.2.2.2.2.2.2.2.2.2.2.2.2.2.2.2.2.2.2.2.2.2.2.2.1 k0_t28 k0_h35
theorem k0_off931_inb : ∀ (v469 : BitVec 32) (k0_hw180 : k0_chk180 v469) (k0_t28 : Fin (k0_t28_loop v469).trips), ∀ (k0_h35 : k0_cond35 v469 k0_t28 = 1#1), ∀ a, (k0_off931 v469 k0_t28) a + S1x1.size a ≤ S2x8.size a := fun v469 k0_hw180 k0_t28 k0_h35 => k0_hw180.2.1.2.2.2.2.2.2.2.2.2.2.2.2.2.2.2.2.2.2.2.2.2.2.2.2.2.2.2.2.1 k0_t28 k0_h35
theorem k0_off932_inb : ∀ (v469 : BitVec 32) (k0_hw180 : k0_chk180 v469) (k0_t28 : Fin (k0_t28_loop v469).trips), ∀ (k0_h35 : k0_cond35 v469 k0_t28 = 1#1), ∀ a, (k0_off932 v469 k0_t28) a + S1x1x16x8x128.size a ≤ S2x8x16x8x128.size a := fun v469 k0_hw180 k0_t28 k0_h35 => k0_hw180.2.1.2.2.2.2.2.2.2.2.2.2.2.2.2.2.2.2.2.2.2.2.2.2.2.2.2.2.2.2.2.1 k0_t28 k0_h35
theorem k0_off934_inb : ∀ (v469 : BitVec 32) (k0_hw180 : k0_chk180 v469) (k0_t28 : Fin (k0_t28_loop v469).trips), ∀ (k0_h35 : k0_cond35 v469 k0_t28 = 1#1), ∀ a, (k0_off934 v469 k0_t28) a + S1x1.size a ≤ S2x8.size a := fun v469 k0_hw180 k0_t28 k0_h35 => k0_hw180.2.1.2.2.2.2.2.2.2.2.2.2.2.2.2.2.2.2.2.2.2.2.2.2.2.2.2.2.2.2.2.2.1 k0_t28 k0_h35
theorem k0_off935_inb : ∀ (v469 : BitVec 32) (k0_hw180 : k0_chk180 v469) (k0_t28 : Fin (k0_t28_loop v469).trips), ∀ (k0_h35 : k0_cond35 v469 k0_t28 = 1#1), ∀ a, (k0_off935 v469 k0_t28) a + S1x1x16x8x128.size a ≤ S2x8x16x8x128.size a := fun v469 k0_hw180 k0_t28 k0_h35 => k0_hw180.2.1.2.2.2.2.2.2.2.2.2.2.2.2.2.2.2.2.2.2.2.2.2.2.2.2.2.2.2.2.2.2.2 k0_t28 k0_h35
theorem k0_off936_inb : ∀ (v469 : BitVec 32) (k0_hw180 : k0_chk180 v469) (k0_t28 : Fin (k0_t28_loop v469).trips), ∀ (k0_h35 : k0_cond35 v469 k0_t28 = 1#1), ∀ a, (k0_off936 v469 k0_t28) a + S1x1.size a ≤ S8x512.size a := fun v469 k0_hw180 k0_t28 k0_h35 => k0_hw180.2.2.1.1 k0_t28 k0_h35
theorem k0_off937_inb : ∀ (v469 : BitVec 32) (k0_hw180 : k0_chk180 v469) (k0_t28 : Fin (k0_t28_loop v469).trips), ∀ (k0_h35 : k0_cond35 v469 k0_t28 = 1#1), ∀ a, (k0_off937 v469 k0_t28) a + S1x1.size a ≤ S2x8.size a := fun v469 k0_hw180 k0_t28 k0_h35 => k0_hw180.2.2.1.2.1 k0_t28 k0_h35
theorem k0_off938_inb : ∀ (v469 : BitVec 32) (k0_hw180 : k0_chk180 v469) (k0_t28 : Fin (k0_t28_loop v469).trips), ∀ (k0_h35 : k0_cond35 v469 k0_t28 = 1#1), ∀ a, (k0_off938 v469 k0_t28) a + S1x1x16x8x128.size a ≤ S2x8x16x8x128.size a := fun v469 k0_hw180 k0_t28 k0_h35 => k0_hw180.2.2.1.2.2.1 k0_t28 k0_h35
theorem k0_off940_inb : ∀ (v469 : BitVec 32) (k0_hw180 : k0_chk180 v469) (k0_t28 : Fin (k0_t28_loop v469).trips), ∀ (k0_h35 : k0_cond35 v469 k0_t28 = 1#1), ∀ a, (k0_off940 v469 k0_t28) a + S1x1.size a ≤ S2x8.size a := fun v469 k0_hw180 k0_t28 k0_h35 => k0_hw180.2.2.1.2.2.2.1 k0_t28 k0_h35
theorem k0_off941_inb : ∀ (v469 : BitVec 32) (k0_hw180 : k0_chk180 v469) (k0_t28 : Fin (k0_t28_loop v469).trips), ∀ (k0_h35 : k0_cond35 v469 k0_t28 = 1#1), ∀ a, (k0_off941 v469 k0_t28) a + S1x1x16x8x128.size a ≤ S2x8x16x8x128.size a := fun v469 k0_hw180 k0_t28 k0_h35 => k0_hw180.2.2.1.2.2.2.2.1 k0_t28 k0_h35
theorem k0_off942_inb : ∀ (v469 : BitVec 32) (k0_hw180 : k0_chk180 v469) (k0_t28 : Fin (k0_t28_loop v469).trips), ∀ (k0_h35 : k0_cond35 v469 k0_t28 = 1#1), ∀ a, (k0_off942 v469 k0_t28) a + S1x1.size a ≤ S8x512.size a := fun v469 k0_hw180 k0_t28 k0_h35 => k0_hw180.2.2.1.2.2.2.2.2.1 k0_t28 k0_h35
theorem k0_off943_inb : ∀ (v469 : BitVec 32) (k0_hw180 : k0_chk180 v469) (k0_t28 : Fin (k0_t28_loop v469).trips), ∀ (k0_h35 : k0_cond35 v469 k0_t28 = 1#1), ∀ a, (k0_off943 v469 k0_t28) a + S1x1.size a ≤ S2x8.size a := fun v469 k0_hw180 k0_t28 k0_h35 => k0_hw180.2.2.1.2.2.2.2.2.2.1 k0_t28 k0_h35
theorem k0_off944_inb : ∀ (v469 : BitVec 32) (k0_hw180 : k0_chk180 v469) (k0_t28 : Fin (k0_t28_loop v469).trips), ∀ (k0_h35 : k0_cond35 v469 k0_t28 = 1#1), ∀ a, (k0_off944 v469 k0_t28) a + S1x1x16x8x128.size a ≤ S2x8x16x8x128.size a := fun v469 k0_hw180 k0_t28 k0_h35 => k0_hw180.2.2.1.2.2.2.2.2.2.2.1 k0_t28 k0_h35
theorem k0_off946_inb : ∀ (v469 : BitVec 32) (k0_hw180 : k0_chk180 v469) (k0_t28 : Fin (k0_t28_loop v469).trips), ∀ (k0_h35 : k0_cond35 v469 k0_t28 = 1#1), ∀ a, (k0_off946 v469 k0_t28) a + S1x1.size a ≤ S2x8.size a := fun v469 k0_hw180 k0_t28 k0_h35 => k0_hw180.2.2.1.2.2.2.2.2.2.2.2.1 k0_t28 k0_h35
theorem k0_off947_inb : ∀ (v469 : BitVec 32) (k0_hw180 : k0_chk180 v469) (k0_t28 : Fin (k0_t28_loop v469).trips), ∀ (k0_h35 : k0_cond35 v469 k0_t28 = 1#1), ∀ a, (k0_off947 v469 k0_t28) a + S1x1x16x8x128.size a ≤ S2x8x16x8x128.size a := fun v469 k0_hw180 k0_t28 k0_h35 => k0_hw180.2.2.1.2.2.2.2.2.2.2.2.2.1 k0_t28 k0_h35
theorem k0_off948_inb : ∀ (v469 : BitVec 32) (k0_hw180 : k0_chk180 v469) (k0_t28 : Fin (k0_t28_loop v469).trips), ∀ (k0_h35 : k0_cond35 v469 k0_t28 = 1#1), ∀ a, (k0_off948 v469 k0_t28) a + S1x1.size a ≤ S8x512.size a := fun v469 k0_hw180 k0_t28 k0_h35 => k0_hw180.2.2.1.2.2.2.2.2.2.2.2.2.2.1 k0_t28 k0_h35
theorem k0_off949_inb : ∀ (v469 : BitVec 32) (k0_hw180 : k0_chk180 v469) (k0_t28 : Fin (k0_t28_loop v469).trips), ∀ (k0_h35 : k0_cond35 v469 k0_t28 = 1#1), ∀ a, (k0_off949 v469 k0_t28) a + S1x1.size a ≤ S2x8.size a := fun v469 k0_hw180 k0_t28 k0_h35 => k0_hw180.2.2.1.2.2.2.2.2.2.2.2.2.2.2.1 k0_t28 k0_h35
theorem k0_off950_inb : ∀ (v469 : BitVec 32) (k0_hw180 : k0_chk180 v469) (k0_t28 : Fin (k0_t28_loop v469).trips), ∀ (k0_h35 : k0_cond35 v469 k0_t28 = 1#1), ∀ a, (k0_off950 v469 k0_t28) a + S1x1x16x8x128.size a ≤ S2x8x16x8x128.size a := fun v469 k0_hw180 k0_t28 k0_h35 => k0_hw180.2.2.1.2.2.2.2.2.2.2.2.2.2.2.2.1 k0_t28 k0_h35
theorem k0_off952_inb : ∀ (v469 : BitVec 32) (k0_hw180 : k0_chk180 v469) (k0_t28 : Fin (k0_t28_loop v469).trips), ∀ (k0_h35 : k0_cond35 v469 k0_t28 = 1#1), ∀ a, (k0_off952 v469 k0_t28) a + S1x1.size a ≤ S2x8.size a := fun v469 k0_hw180 k0_t28 k0_h35 => k0_hw180.2.2.1.2.2.2.2.2.2.2.2.2.2.2.2.2.1 k0_t28 k0_h35
theorem k0_off953_inb : ∀ (v469 : BitVec 32) (k0_hw180 : k0_chk180 v469) (k0_t28 : Fin (k0_t28_loop v469).trips), ∀ (k0_h35 : k0_cond35 v469 k0_t28 = 1#1), ∀ a, (k0_off953 v469 k0_t28) a + S1x1x16x8x128.size a ≤ S2x8x16x8x128.size a := fun v469 k0_hw180 k0_t28 k0_h35 => k0_hw180.2.2.1.2.2.2.2.2.2.2.2.2.2.2.2.2.2.1 k0_t28 k0_h35
theorem k0_off954_inb : ∀ (v469 : BitVec 32) (k0_hw180 : k0_chk180 v469) (k0_t28 : Fin (k0_t28_loop v469).trips), ∀ (k0_h35 : k0_cond35 v469 k0_t28 = 1#1), ∀ a, (k0_off954 v469 k0_t28) a + S1x1.size a ≤ S8x512.size a := fun v469 k0_hw180 k0_t28 k0_h35 => k0_hw180.2.2.1.2.2.2.2.2.2.2.2.2.2.2.2.2.2.2.1 k0_t28 k0_h35
theorem k0_off955_inb : ∀ (v469 : BitVec 32) (k0_hw180 : k0_chk180 v469) (k0_t28 : Fin (k0_t28_loop v469).trips), ∀ (k0_h35 : k0_cond35 v469 k0_t28 = 1#1), ∀ a, (k0_off955 v469 k0_t28) a + S1x1.size a ≤ S2x8.size a := fun v469 k0_hw180 k0_t28 k0_h35 => k0_hw180.2.2.1.2.2.2.2.2.2.2.2.2.2.2.2.2.2.2.2.1 k0_t28 k0_h35
theorem k0_off956_inb : ∀ (v469 : BitVec 32) (k0_hw180 : k0_chk180 v469) (k0_t28 : Fin (k0_t28_loop v469).trips), ∀ (k0_h35 : k0_cond35 v469 k0_t28 = 1#1), ∀ a, (k0_off956 v469 k0_t28) a + S1x1x16x8x128.size a ≤ S2x8x16x8x128.size a := fun v469 k0_hw180 k0_t28 k0_h35 => k0_hw180.2.2.1.2.2.2.2.2.2.2.2.2.2.2.2.2.2.2.2.2.1 k0_t28 k0_h35
theorem k0_off958_inb : ∀ (v469 : BitVec 32) (k0_hw180 : k0_chk180 v469) (k0_t28 : Fin (k0_t28_loop v469).trips), ∀ (k0_h35 : k0_cond35 v469 k0_t28 = 1#1), ∀ a, (k0_off958 v469 k0_t28) a + S1x1.size a ≤ S2x8.size a := fun v469 k0_hw180 k0_t28 k0_h35 => k0_hw180.2.2.1.2.2.2.2.2.2.2.2.2.2.2.2.2.2.2.2.2.2.1 k0_t28 k0_h35
theorem k0_off959_inb : ∀ (v469 : BitVec 32) (k0_hw180 : k0_chk180 v469) (k0_t28 : Fin (k0_t28_loop v469).trips), ∀ (k0_h35 : k0_cond35 v469 k0_t28 = 1#1), ∀ a, (k0_off959 v469 k0_t28) a + S1x1x16x8x128.size a ≤ S2x8x16x8x128.size a := fun v469 k0_hw180 k0_t28 k0_h35 => k0_hw180.2.2.1.2.2.2.2.2.2.2.2.2.2.2.2.2.2.2.2.2.2.2.1 k0_t28 k0_h35
theorem k0_off960_inb : ∀ (v469 : BitVec 32) (k0_hw180 : k0_chk180 v469) (k0_t28 : Fin (k0_t28_loop v469).trips), ∀ (k0_h35 : k0_cond35 v469 k0_t28 = 1#1), ∀ a, (k0_off960 v469 k0_t28) a + S1x1.size a ≤ S8x512.size a := fun v469 k0_hw180 k0_t28 k0_h35 => k0_hw180.2.2.1.2.2.2.2.2.2.2.2.2.2.2.2.2.2.2.2.2.2.2.2.1 k0_t28 k0_h35
theorem k0_off961_inb : ∀ (v469 : BitVec 32) (k0_hw180 : k0_chk180 v469) (k0_t28 : Fin (k0_t28_loop v469).trips), ∀ (k0_h35 : k0_cond35 v469 k0_t28 = 1#1), ∀ a, (k0_off961 v469 k0_t28) a + S1x1.size a ≤ S2x8.size a := fun v469 k0_hw180 k0_t28 k0_h35 => k0_hw180.2.2.1.2.2.2.2.2.2.2.2.2.2.2.2.2.2.2.2.2.2.2.2.2.1 k0_t28 k0_h35
theorem k0_off962_inb : ∀ (v469 : BitVec 32) (k0_hw180 : k0_chk180 v469) (k0_t28 : Fin (k0_t28_loop v469).trips), ∀ (k0_h35 : k0_cond35 v469 k0_t28 = 1#1), ∀ a, (k0_off962 v469 k0_t28) a + S1x1x16x8x128.size a ≤ S2x8x16x8x128.size a := fun v469 k0_hw180 k0_t28 k0_h35 => k0_hw180.2.2.1.2.2.2.2.2.2.2.2.2.2.2.2.2.2.2.2.2.2.2.2.2.2.1 k0_t28 k0_h35
theorem k0_off964_inb : ∀ (v469 : BitVec 32) (k0_hw180 : k0_chk180 v469) (k0_t28 : Fin (k0_t28_loop v469).trips), ∀ (k0_h35 : k0_cond35 v469 k0_t28 = 1#1), ∀ a, (k0_off964 v469 k0_t28) a + S1x1.size a ≤ S2x8.size a := fun v469 k0_hw180 k0_t28 k0_h35 => k0_hw180.2.2.1.2.2.2.2.2.2.2.2.2.2.2.2.2.2.2.2.2.2.2.2.2.2.2.1 k0_t28 k0_h35
theorem k0_off965_inb : ∀ (v469 : BitVec 32) (k0_hw180 : k0_chk180 v469) (k0_t28 : Fin (k0_t28_loop v469).trips), ∀ (k0_h35 : k0_cond35 v469 k0_t28 = 1#1), ∀ a, (k0_off965 v469 k0_t28) a + S1x1x16x8x128.size a ≤ S2x8x16x8x128.size a := fun v469 k0_hw180 k0_t28 k0_h35 => k0_hw180.2.2.1.2.2.2.2.2.2.2.2.2.2.2.2.2.2.2.2.2.2.2.2.2.2.2.2.1 k0_t28 k0_h35
theorem k0_off966_inb : ∀ (v469 : BitVec 32) (k0_hw180 : k0_chk180 v469) (k0_t28 : Fin (k0_t28_loop v469).trips), ∀ (k0_h35 : k0_cond35 v469 k0_t28 = 1#1), ∀ a, (k0_off966 v469 k0_t28) a + S1x1.size a ≤ S8x512.size a := fun v469 k0_hw180 k0_t28 k0_h35 => k0_hw180.2.2.1.2.2.2.2.2.2.2.2.2.2.2.2.2.2.2.2.2.2.2.2.2.2.2.2.2.1 k0_t28 k0_h35
theorem k0_off967_inb : ∀ (v469 : BitVec 32) (k0_hw180 : k0_chk180 v469) (k0_t28 : Fin (k0_t28_loop v469).trips), ∀ (k0_h35 : k0_cond35 v469 k0_t28 = 1#1), ∀ a, (k0_off967 v469 k0_t28) a + S1x1.size a ≤ S2x8.size a := fun v469 k0_hw180 k0_t28 k0_h35 => k0_hw180.2.2.1.2.2.2.2.2.2.2.2.2.2.2.2.2.2.2.2.2.2.2.2.2.2.2.2.2.2.1 k0_t28 k0_h35
theorem k0_off968_inb : ∀ (v469 : BitVec 32) (k0_hw180 : k0_chk180 v469) (k0_t28 : Fin (k0_t28_loop v469).trips), ∀ (k0_h35 : k0_cond35 v469 k0_t28 = 1#1), ∀ a, (k0_off968 v469 k0_t28) a + S1x1x16x8x128.size a ≤ S2x8x16x8x128.size a := fun v469 k0_hw180 k0_t28 k0_h35 => k0_hw180.2.2.1.2.2.2.2.2.2.2.2.2.2.2.2.2.2.2.2.2.2.2.2.2.2.2.2.2.2.2.1 k0_t28 k0_h35
theorem k0_off970_inb : ∀ (v469 : BitVec 32) (k0_hw180 : k0_chk180 v469) (k0_t28 : Fin (k0_t28_loop v469).trips), ∀ (k0_h35 : k0_cond35 v469 k0_t28 = 1#1), ∀ a, (k0_off970 v469 k0_t28) a + S1x1.size a ≤ S2x8.size a := fun v469 k0_hw180 k0_t28 k0_h35 => k0_hw180.2.2.1.2.2.2.2.2.2.2.2.2.2.2.2.2.2.2.2.2.2.2.2.2.2.2.2.2.2.2.2.1 k0_t28 k0_h35
theorem k0_off971_inb : ∀ (v469 : BitVec 32) (k0_hw180 : k0_chk180 v469) (k0_t28 : Fin (k0_t28_loop v469).trips), ∀ (k0_h35 : k0_cond35 v469 k0_t28 = 1#1), ∀ a, (k0_off971 v469 k0_t28) a + S1x1x16x8x128.size a ≤ S2x8x16x8x128.size a := fun v469 k0_hw180 k0_t28 k0_h35 => k0_hw180.2.2.1.2.2.2.2.2.2.2.2.2.2.2.2.2.2.2.2.2.2.2.2.2.2.2.2.2.2.2.2.2.1 k0_t28 k0_h35
theorem k0_off972_inb : ∀ (v469 : BitVec 32) (k0_hw180 : k0_chk180 v469) (k0_t28 : Fin (k0_t28_loop v469).trips), ∀ (k0_h35 : k0_cond35 v469 k0_t28 = 1#1), ∀ a, (k0_off972 v469 k0_t28) a + S1x1.size a ≤ S8x512.size a := fun v469 k0_hw180 k0_t28 k0_h35 => k0_hw180.2.2.1.2.2.2.2.2.2.2.2.2.2.2.2.2.2.2.2.2.2.2.2.2.2.2.2.2.2.2.2.2.2.1 k0_t28 k0_h35
theorem k0_off973_inb : ∀ (v469 : BitVec 32) (k0_hw180 : k0_chk180 v469) (k0_t28 : Fin (k0_t28_loop v469).trips), ∀ (k0_h35 : k0_cond35 v469 k0_t28 = 1#1), ∀ a, (k0_off973 v469 k0_t28) a + S1x1.size a ≤ S2x8.size a := fun v469 k0_hw180 k0_t28 k0_h35 => k0_hw180.2.2.1.2.2.2.2.2.2.2.2.2.2.2.2.2.2.2.2.2.2.2.2.2.2.2.2.2.2.2.2.2.2.2 k0_t28 k0_h35
theorem k0_off974_inb : ∀ (v469 : BitVec 32) (k0_hw180 : k0_chk180 v469) (k0_t28 : Fin (k0_t28_loop v469).trips), ∀ (k0_h35 : k0_cond35 v469 k0_t28 = 1#1), ∀ a, (k0_off974 v469 k0_t28) a + S1x1x16x8x128.size a ≤ S2x8x16x8x128.size a := fun v469 k0_hw180 k0_t28 k0_h35 => k0_hw180.2.2.2.1 k0_t28 k0_h35
theorem k0_off976_inb : ∀ (v469 : BitVec 32) (k0_hw180 : k0_chk180 v469) (k0_t28 : Fin (k0_t28_loop v469).trips), ∀ (k0_h35 : k0_cond35 v469 k0_t28 = 1#1), ∀ a, (k0_off976 v469 k0_t28) a + S1x1.size a ≤ S2x8.size a := fun v469 k0_hw180 k0_t28 k0_h35 => k0_hw180.2.2.2.2.1 k0_t28 k0_h35
theorem k0_off977_inb : ∀ (v469 : BitVec 32) (k0_hw180 : k0_chk180 v469) (k0_t28 : Fin (k0_t28_loop v469).trips), ∀ (k0_h35 : k0_cond35 v469 k0_t28 = 1#1), ∀ a, (k0_off977 v469 k0_t28) a + S1x1x16x8x128.size a ≤ S2x8x16x8x128.size a := fun v469 k0_hw180 k0_t28 k0_h35 => k0_hw180.2.2.2.2.2.1 k0_t28 k0_h35
theorem k0_off978_inb : ∀ (v469 : BitVec 32) (k0_hw180 : k0_chk180 v469) (k0_t28 : Fin (k0_t28_loop v469).trips), ∀ a, (k0_off978 v469 k0_t28) a + S1x1.size a ≤ S2x8.size a := fun v469 k0_hw180 k0_t28 => k0_hw180.2.2.2.2.2.2.1 k0_t28
theorem k0_off979_inb : ∀ (v469 : BitVec 32) (k0_hw180 : k0_chk180 v469) (k0_t28 : Fin (k0_t28_loop v469).trips), ∀ a, (k0_off979 v469 k0_t28) a + S1x1x16x8x128.size a ≤ S2x8x16x8x128.size a := fun v469 k0_hw180 k0_t28 => k0_hw180.2.2.2.2.2.2.2.1 k0_t28
theorem k0_off980_inb : ∀ (v469 : BitVec 32) (k0_hw180 : k0_chk180 v469) (k0_t28 : Fin (k0_t28_loop v469).trips), ∀ a, (k0_off980 v469 k0_t28) a + S1x1.size a ≤ S2x8.size a := fun v469 k0_hw180 k0_t28 => k0_hw180.2.2.2.2.2.2.2.2.1 k0_t28
theorem k0_off981_inb : ∀ (v469 : BitVec 32) (k0_hw180 : k0_chk180 v469) (k0_t28 : Fin (k0_t28_loop v469).trips), ∀ a, (k0_off981 v469 k0_t28) a + S1x1x16x8x128.size a ≤ S2x8x16x8x128.size a := fun v469 k0_hw180 k0_t28 => k0_hw180.2.2.2.2.2.2.2.2.2.1 k0_t28
theorem k0_off982_inb : ∀ (v469 : BitVec 32) (k0_hw180 : k0_chk180 v469) (k0_t28 : Fin (k0_t28_loop v469).trips), ∀ a, (k0_off982 v469 k0_t28) a + S1x1.size a ≤ S2x8.size a := fun v469 k0_hw180 k0_t28 => k0_hw180.2.2.2.2.2.2.2.2.2.2.1 k0_t28
theorem k0_off983_inb : ∀ (v469 : BitVec 32) (k0_hw180 : k0_chk180 v469) (k0_t28 : Fin (k0_t28_loop v469).trips), ∀ a, (k0_off983 v469 k0_t28) a + S1x1x16x8x128.size a ≤ S2x8x16x8x128.size a := fun v469 k0_hw180 k0_t28 => k0_hw180.2.2.2.2.2.2.2.2.2.2.2.1 k0_t28
theorem k0_off984_inb : ∀ (v469 : BitVec 32) (k0_hw180 : k0_chk180 v469) (k0_t28 : Fin (k0_t28_loop v469).trips), ∀ a, (k0_off984 v469 k0_t28) a + S1x1.size a ≤ S2x8.size a := fun v469 k0_hw180 k0_t28 => k0_hw180.2.2.2.2.2.2.2.2.2.2.2.2.1 k0_t28
theorem k0_off985_inb : ∀ (v469 : BitVec 32) (k0_hw180 : k0_chk180 v469) (k0_t28 : Fin (k0_t28_loop v469).trips), ∀ a, (k0_off985 v469 k0_t28) a + S1x1x16x8x128.size a ≤ S2x8x16x8x128.size a := fun v469 k0_hw180 k0_t28 => k0_hw180.2.2.2.2.2.2.2.2.2.2.2.2.2.1 k0_t28
theorem k0_off986_inb : ∀ (v469 : BitVec 32) (k0_hw180 : k0_chk180 v469) (k0_t28 : Fin (k0_t28_loop v469).trips), ∀ a, (k0_off986 v469 k0_t28) a + S1x1.size a ≤ S2x8.size a := fun v469 k0_hw180 k0_t28 => k0_hw180.2.2.2.2.2.2.2.2.2.2.2.2.2.2.1 k0_t28
theorem k0_off987_inb : ∀ (v469 : BitVec 32) (k0_hw180 : k0_chk180 v469) (k0_t28 : Fin (k0_t28_loop v469).trips), ∀ a, (k0_off987 v469 k0_t28) a + S1x1x16x8x128.size a ≤ S2x8x16x8x128.size a := fun v469 k0_hw180 k0_t28 => k0_hw180.2.2.2.2.2.2.2.2.2.2.2.2.2.2.2.1 k0_t28
theorem k0_off988_inb : ∀ (v469 : BitVec 32) (k0_hw180 : k0_chk180 v469) (k0_t28 : Fin (k0_t28_loop v469).trips), ∀ a, (k0_off988 v469 k0_t28) a + S1x1.size a ≤ S2x8.size a := fun v469 k0_hw180 k0_t28 => k0_hw180.2.2.2.2.2.2.2.2.2.2.2.2.2.2.2.2.1 k0_t28
theorem k0_off989_inb : ∀ (v469 : BitVec 32) (k0_hw180 : k0_chk180 v469) (k0_t28 : Fin (k0_t28_loop v469).trips), ∀ a, (k0_off989 v469 k0_t28) a + S1x1x16x8x128.size a ≤ S2x8x16x8x128.size a := fun v469 k0_hw180 k0_t28 => k0_hw180.2.2.2.2.2.2.2.2.2.2.2.2.2.2.2.2.2.1 k0_t28
theorem k0_off990_inb : ∀ (v469 : BitVec 32) (k0_hw180 : k0_chk180 v469) (k0_t28 : Fin (k0_t28_loop v469).trips), ∀ a, (k0_off990 v469 k0_t28) a + S1x1.size a ≤ S2x8.size a := fun v469 k0_hw180 k0_t28 => k0_hw180.2.2.2.2.2.2.2.2.2.2.2.2.2.2.2.2.2.2.1 k0_t28
theorem k0_off991_inb : ∀ (v469 : BitVec 32) (k0_hw180 : k0_chk180 v469) (k0_t28 : Fin (k0_t28_loop v469).trips), ∀ a, (k0_off991 v469 k0_t28) a + S1x1x16x8x128.size a ≤ S2x8x16x8x128.size a := fun v469 k0_hw180 k0_t28 => k0_hw180.2.2.2.2.2.2.2.2.2.2.2.2.2.2.2.2.2.2.2.1 k0_t28
theorem k0_off992_inb : ∀ (v469 : BitVec 32) (k0_hw180 : k0_chk180 v469) (k0_t28 : Fin (k0_t28_loop v469).trips), ∀ a, (k0_off992 v469 k0_t28) a + S1x1.size a ≤ S2x8.size a := fun v469 k0_hw180 k0_t28 => k0_hw180.2.2.2.2.2.2.2.2.2.2.2.2.2.2.2.2.2.2.2.2.1 k0_t28
theorem k0_off993_inb : ∀ (v469 : BitVec 32) (k0_hw180 : k0_chk180 v469) (k0_t28 : Fin (k0_t28_loop v469).trips), ∀ a, (k0_off993 v469 k0_t28) a + S1x1x16x8x128.size a ≤ S2x8x16x8x128.size a := fun v469 k0_hw180 k0_t28 => k0_hw180.2.2.2.2.2.2.2.2.2.2.2.2.2.2.2.2.2.2.2.2.2.1 k0_t28
theorem k0_off994_inb : ∀ (v469 : BitVec 32) (k0_hw180 : k0_chk180 v469) (k0_t28 : Fin (k0_t28_loop v469).trips), ∀ a, (k0_off994 v469 k0_t28) a + S1x8x16x8x128.size a ≤ S2x8x16x8x128.size a := fun v469 k0_hw180 k0_t28 => k0_hw180.2.2.2.2.2.2.2.2.2.2.2.2.2.2.2.2.2.2.2.2.2.2 k0_t28

@[reducible] def k0_t29_loop (d0 : Dev nD) (v515 : BitVec 32) : Scf.Loop 32 :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v516 : BitVec 32 := Scalar.subi v515 v10
  let c3_i32_308 : BitVec 32 := 3#32
  let v517 : BitVec 32 := Scalar.addi v516 c3_i32_308
  let c0_i32_310 : BitVec 32 := 0#32
  let v519 : BitVec 1 := Scalar.cmpi .sgt v517 c0_i32_310
  let v520 : BitVec 32 := Scalar.extui v519
  let c0_i32_311 : BitVec 32 := 0#32
  let v521 : BitVec 1 := Scalar.cmpi .slt v517 c0_i32_311
  let v522 : BitVec 32 := Scalar.extui v521
  let v523 : BitVec 32 := Scalar.subi v520 v522
  let c4_i32_309 : BitVec 32 := 4#32
  let c0_i32_312 : BitVec 32 := 0#32
  let v524 : BitVec 1 := Scalar.cmpi .sgt c4_i32_309 c0_i32_312
  let v525 : BitVec 32 := Scalar.extui v524
  let c0_i32_313 : BitVec 32 := 0#32
  let v526 : BitVec 1 := Scalar.cmpi .slt c4_i32_309 c0_i32_313
  let v527 : BitVec 32 := Scalar.extui v526
  let v528 : BitVec 32 := Scalar.subi v525 v527
  let v529 : BitVec 1 := Scalar.cmpi .ne v523 v528
  let v530 : BitVec 32 := Scalar.remsi v517 c4_i32_309
  let c0_i32_314 : BitVec 32 := 0#32
  let v531 : BitVec 1 := Scalar.cmpi .ne v530 c0_i32_314
  let v532 : BitVec 1 := Scalar.andi v529 v531
  let v518 : BitVec 32 := Scalar.divsi v517 c4_i32_309
  let c1_i32_315 : BitVec 32 := 1#32
  let v533 : BitVec 32 := Scalar.subi v518 c1_i32_315
  let v534 : BitVec 32 := Scalar.select v532 v533 v518
  let v535 : BitVec 32 := Scalar.subi v534 c0_i32_316
  let c1_i32_318 : BitVec 32 := 1#32
  let v537 : BitVec 32 := Scalar.divsi v535 c1_i32_318
  let v538 : BitVec 32 := Scalar.muli v537 c1_i32_318
  let v539 : BitVec 32 := Scalar.addi c0_i32_316 v538
  let c1_i32_319 : BitVec 32 := 1#32
  ⟨c0_i32_316, v539, c1_i32_319⟩

def k0_off995 (d0 : Dev nD) (v515 : BitVec 32) (k0_t29 : Fin (k0_t29_loop d0 v515).trips) : Fin 2 → Nat :=
  let c7_655 : Index := 7#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_316 : BitVec 32 := 0#32
  let c1_i32_319 : BitVec 32 := 1#32
  let arg17 : BitVec 32 := Scf.iv c0_i32_316 c1_i32_319 k0_t29
  let v866 : BitVec 32 := Scalar.muli c4_i32_654 arg17
  let v867 : BitVec 32 := Scalar.addi v10 v866
  let v868 : Index := Scalar.indexCast v867
  ![7, v868.toNat]
def k0_off996 (arg18 : BitVec 32) : Fin 2 → Nat :=
  let c7_665 : Index := 7#32
  let v893 : Index := Scalar.indexCast arg18
  ![7, v893.toNat]
def k0_cond36 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk198 (d0 : Dev nD) (arg18 : BitVec 32) (v869 : BitVec 32) : Prop :=
  (∀ (k0_h36 : k0_cond36 d0 v869 = 1#1), ∀ a, (k0_off996 arg18) a + S1x1.size a ≤ S8x512.size a)
theorem k0_off996_inb : ∀ (d0 : Dev nD) (arg18 : BitVec 32) (v869 : BitVec 32) (k0_hw198 : k0_chk198 d0 arg18 v869), ∀ (k0_h36 : k0_cond36 d0 v869 = 1#1), ∀ a, (k0_off996 arg18) a + S1x1.size a ≤ S8x512.size a := fun d0 arg18 v869 k0_hw198 k0_h36 => k0_hw198 k0_h36

@[reducible] def k0_t30_loop (d0 : Dev nD) (v515 : BitVec 32) : Scf.Loop 32 :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v516 : BitVec 32 := Scalar.subi v515 v10
  let c3_i32_308 : BitVec 32 := 3#32
  let v517 : BitVec 32 := Scalar.addi v516 c3_i32_308
  let c0_i32_310 : BitVec 32 := 0#32
  let v519 : BitVec 1 := Scalar.cmpi .sgt v517 c0_i32_310
  let v520 : BitVec 32 := Scalar.extui v519
  let c0_i32_311 : BitVec 32 := 0#32
  let v521 : BitVec 1 := Scalar.cmpi .slt v517 c0_i32_311
  let v522 : BitVec 32 := Scalar.extui v521
  let v523 : BitVec 32 := Scalar.subi v520 v522
  let c4_i32_309 : BitVec 32 := 4#32
  let c0_i32_312 : BitVec 32 := 0#32
  let v524 : BitVec 1 := Scalar.cmpi .sgt c4_i32_309 c0_i32_312
  let v525 : BitVec 32 := Scalar.extui v524
  let c0_i32_313 : BitVec 32 := 0#32
  let v526 : BitVec 1 := Scalar.cmpi .slt c4_i32_309 c0_i32_313
  let v527 : BitVec 32 := Scalar.extui v526
  let v528 : BitVec 32 := Scalar.subi v525 v527
  let v529 : BitVec 1 := Scalar.cmpi .ne v523 v528
  let v530 : BitVec 32 := Scalar.remsi v517 c4_i32_309
  let c0_i32_314 : BitVec 32 := 0#32
  let v531 : BitVec 1 := Scalar.cmpi .ne v530 c0_i32_314
  let v532 : BitVec 1 := Scalar.andi v529 v531
  let v518 : BitVec 32 := Scalar.divsi v517 c4_i32_309
  let c1_i32_315 : BitVec 32 := 1#32
  let v533 : BitVec 32 := Scalar.subi v518 c1_i32_315
  let v534 : BitVec 32 := Scalar.select v532 v533 v518
  let v535 : BitVec 32 := Scalar.subi v534 c0_i32_316
  let c1_i32_318 : BitVec 32 := 1#32
  let v537 : BitVec 32 := Scalar.divsi v535 c1_i32_318
  let v538 : BitVec 32 := Scalar.muli v537 c1_i32_318
  let v539 : BitVec 32 := Scalar.addi c0_i32_316 v538
  let v536 : BitVec 32 := Scalar.addi c0_i32_316 v535
  let c1_i32_320 : BitVec 32 := 1#32
  ⟨v539, v536, c1_i32_320⟩
def k0_off997 (d0 : Dev nD) (v515 : BitVec 32) (k0_t30 : Fin (k0_t30_loop d0 v515).trips) : Fin 2 → Nat :=
  let c7_655 : Index := 7#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c4_i32_654 : BitVec 32 := 4#32
  let c0_i32_316 : BitVec 32 := 0#32
  let v516 : BitVec 32 := Scalar.subi v515 v10
  let c3_i32_308 : BitVec 32 := 3#32
  let v517 : BitVec 32 := Scalar.addi v516 c3_i32_308
  let c0_i32_310 : BitVec 32 := 0#32
  let v519 : BitVec 1 := Scalar.cmpi .sgt v517 c0_i32_310
  let v520 : BitVec 32 := Scalar.extui v519
  let c0_i32_311 : BitVec 32 := 0#32
  let v521 : BitVec 1 := Scalar.cmpi .slt v517 c0_i32_311
  let v522 : BitVec 32 := Scalar.extui v521
  let v523 : BitVec 32 := Scalar.subi v520 v522
  let c4_i32_309 : BitVec 32 := 4#32
  let c0_i32_312 : BitVec 32 := 0#32
  let v524 : BitVec 1 := Scalar.cmpi .sgt c4_i32_309 c0_i32_312
  let v525 : BitVec 32 := Scalar.extui v524
  let c0_i32_313 : BitVec 32 := 0#32
  let v526 : BitVec 1 := Scalar.cmpi .slt c4_i32_309 c0_i32_313
  let v527 : BitVec 32 := Scalar.extui v526
  let v528 : BitVec 32 := Scalar.subi v525 v527
  let v529 : BitVec 1 := Scalar.cmpi .ne v523 v528
  let v530 : BitVec 32 := Scalar.remsi v517 c4_i32_309
  let c0_i32_314 : BitVec 32 := 0#32
  let v531 : BitVec 1 := Scalar.cmpi .ne v530 c0_i32_314
  let v532 : BitVec 1 := Scalar.andi v529 v531
  let v518 : BitVec 32 := Scalar.divsi v517 c4_i32_309
  let c1_i32_315 : BitVec 32 := 1#32
  let v533 : BitVec 32 := Scalar.subi v518 c1_i32_315
  let v534 : BitVec 32 := Scalar.select v532 v533 v518
  let v535 : BitVec 32 := Scalar.subi v534 c0_i32_316
  let c1_i32_318 : BitVec 32 := 1#32
  let v537 : BitVec 32 := Scalar.divsi v535 c1_i32_318
  let v538 : BitVec 32 := Scalar.muli v537 c1_i32_318
  let v539 : BitVec 32 := Scalar.addi c0_i32_316 v538
  let c1_i32_320 : BitVec 32 := 1#32
  let arg17 : BitVec 32 := Scf.iv v539 c1_i32_320 k0_t30
  let v866 : BitVec 32 := Scalar.muli c4_i32_654 arg17
  let v867 : BitVec 32 := Scalar.addi v10 v866
  let v868 : Index := Scalar.indexCast v867
  ![7, v868.toNat]

def k0_chk197 (d0 : Dev nD) (v515 : BitVec 32) : Prop :=
  ((k0_t29_loop d0 v515).OK) ∧
  (∀ k0_t29 : Fin (k0_t29_loop d0 v515).trips, ∀ a, (k0_off995 d0 v515 k0_t29) a + S1x1.size a ≤ S8x512.size a) ∧
  ((k0_t30_loop d0 v515).OK) ∧
  (∀ k0_t30 : Fin (k0_t30_loop d0 v515).trips, ∀ a, (k0_off997 d0 v515 k0_t30) a + S1x1.size a ≤ S8x512.size a)
theorem k0_t29_ok : ∀ (d0 : Dev nD) (v515 : BitVec 32) (k0_hw197 : k0_chk197 d0 v515), (k0_t29_loop d0 v515).OK := fun d0 v515 k0_hw197 => k0_hw197.1
theorem k0_off995_inb : ∀ (d0 : Dev nD) (v515 : BitVec 32) (k0_hw197 : k0_chk197 d0 v515) (k0_t29 : Fin (k0_t29_loop d0 v515).trips), ∀ a, (k0_off995 d0 v515 k0_t29) a + S1x1.size a ≤ S8x512.size a := fun d0 v515 k0_hw197 k0_t29 => k0_hw197.2.1 k0_t29
theorem k0_t30_ok : ∀ (d0 : Dev nD) (v515 : BitVec 32) (k0_hw197 : k0_chk197 d0 v515), (k0_t30_loop d0 v515).OK := fun d0 v515 k0_hw197 => k0_hw197.2.2.1
theorem k0_off997_inb : ∀ (d0 : Dev nD) (v515 : BitVec 32) (k0_hw197 : k0_chk197 d0 v515) (k0_t30 : Fin (k0_t30_loop d0 v515).trips), ∀ a, (k0_off997 d0 v515 k0_t30) a + S1x1.size a ≤ S8x512.size a := fun d0 v515 k0_hw197 k0_t30 => k0_hw197.2.2.2 k0_t30

def k0_off998 (arg18 : BitVec 32) : Fin 2 → Nat :=
  let c7_665 : Index := 7#32
  let v893 : Index := Scalar.indexCast arg18
  ![7, v893.toNat]
def k0_cond37 (d0 : Dev nD) (v869 : BitVec 32) : BitVec 1 :=
  let c0_i32_656 : BitVec 32 := 0#32
  let v871 : BitVec 1 := Scalar.cmpi .sgt v869 c0_i32_656
  let v872 : BitVec 32 := Scalar.extui v871
  let c0_i32_657 : BitVec 32 := 0#32
  let v873 : BitVec 1 := Scalar.cmpi .slt v869 c0_i32_657
  let v874 : BitVec 32 := Scalar.extui v873
  let v875 : BitVec 32 := Scalar.subi v872 v874
  let c512_i32 : BitVec 32 := 512#32
  let c0_i32_658 : BitVec 32 := 0#32
  let v876 : BitVec 1 := Scalar.cmpi .sgt c512_i32 c0_i32_658
  let v877 : BitVec 32 := Scalar.extui v876
  let c0_i32_659 : BitVec 32 := 0#32
  let v878 : BitVec 1 := Scalar.cmpi .slt c512_i32 c0_i32_659
  let v879 : BitVec 32 := Scalar.extui v878
  let v880 : BitVec 32 := Scalar.subi v877 v879
  let v881 : BitVec 1 := Scalar.cmpi .ne v875 v880
  let v882 : BitVec 32 := Scalar.remsi v869 c512_i32
  let c0_i32_660 : BitVec 32 := 0#32
  let v883 : BitVec 1 := Scalar.cmpi .ne v882 c0_i32_660
  let v884 : BitVec 1 := Scalar.andi v881 v883
  let v870 : BitVec 32 := Scalar.divsi v869 c512_i32
  let c1_i32_661 : BitVec 32 := 1#32
  let v885 : BitVec 32 := Scalar.subi v870 c1_i32_661
  let v886 : BitVec 32 := Scalar.select v884 v885 v870
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v887 : BitVec 1 := Scalar.cmpi .eq v886 v8
  let v888 : BitVec 32 := Scalar.extui v887
  let c0_i32_662 : BitVec 32 := 0#32
  let v889 : BitVec 1 := Scalar.cmpi .ne v888 c0_i32_662
  v889

def k0_chk199 (d0 : Dev nD) (arg18 : BitVec 32) (v869 : BitVec 32) : Prop :=
  (∀ (k0_h37 : k0_cond37 d0 v869 = 1#1), ∀ a, (k0_off998 arg18) a + S1x1.size a ≤ S8x512.size a)
theorem k0_off998_inb : ∀ (d0 : Dev nD) (arg18 : BitVec 32) (v869 : BitVec 32) (k0_hw199 : k0_chk199 d0 arg18 v869), ∀ (k0_h37 : k0_cond37 d0 v869 = 1#1), ∀ a, (k0_off998 arg18) a + S1x1.size a ≤ S8x512.size a := fun d0 arg18 v869 k0_hw199 k0_h37 => k0_hw199 k0_h37

def k0_off999 (v866 : BitVec 32) : Fin 4 → Nat :=
  let c511_i32 : BitVec 32 := 511#32
  let v867 : BitVec 32 := Scalar.andi v866 c511_i32
  let c0_i32_663 : BitVec 32 := 0#32
  let c0_i32_664 : BitVec 32 := 0#32
  let c0_i32_665 : BitVec 32 := 0#32
  ![v867.toNat, 0, 0, 0]
def k0_cond38 (v541 : BitVec 32) : BitVec 1 :=
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let c0_i32_334 : BitVec 32 := 0#32
  let v563 : BitVec 1 := Scalar.cmpi .sgt v560 c0_i32_334
  let v564 : BitVec 32 := Scalar.extui v563
  let c0_i32_335 : BitVec 32 := 0#32
  let v565 : BitVec 1 := Scalar.cmpi .ne v564 c0_i32_335
  v565

def k0_chk200 (v541 : BitVec 32) (v866 : BitVec 32) : Prop :=
  (∀ (k0_h38 : k0_cond38 v541 = 1#1), ∀ a, (k0_off999 v866) a + S1x16x8x128.size a ≤ S512x16x8x128.size a)
theorem k0_off999_inb : ∀ (v541 : BitVec 32) (v866 : BitVec 32) (k0_hw200 : k0_chk200 v541 v866), ∀ (k0_h38 : k0_cond38 v541 = 1#1), ∀ a, (k0_off999 v866) a + S1x16x8x128.size a ≤ S512x16x8x128.size a := fun v541 v866 k0_hw200 k0_h38 => k0_hw200 k0_h38

def k0_off1000 (v880 : BitVec 32) : Fin 4 → Nat :=
  let c511_i32_678 : BitVec 32 := 511#32
  let v881 : BitVec 32 := Scalar.andi v880 c511_i32_678
  let c0_i32_686 : BitVec 32 := 0#32
  let c0_i32_687 : BitVec 32 := 0#32
  let c0_i32_688 : BitVec 32 := 0#32
  ![v881.toNat, 0, 0, 0]

def k0_chk201 (v541 : BitVec 32) (v880 : BitVec 32) : Prop :=
  (∀ (k0_h38 : k0_cond38 v541 = 1#1), ∀ a, (k0_off1000 v880) a + S1x16x8x128.size a ≤ S512x16x8x128.size a)
theorem k0_off1000_inb : ∀ (v541 : BitVec 32) (v880 : BitVec 32) (k0_hw201 : k0_chk201 v541 v880), ∀ (k0_h38 : k0_cond38 v541 = 1#1), ∀ a, (k0_off1000 v880) a + S1x16x8x128.size a ≤ S512x16x8x128.size a := fun v541 v880 k0_hw201 k0_h38 => k0_hw201 k0_h38

def k0_off1001 (v894 : BitVec 32) : Fin 4 → Nat :=
  let c511_i32_701 : BitVec 32 := 511#32
  let v895 : BitVec 32 := Scalar.andi v894 c511_i32_701
  let c0_i32_709 : BitVec 32 := 0#32
  let c0_i32_710 : BitVec 32 := 0#32
  let c0_i32_711 : BitVec 32 := 0#32
  ![v895.toNat, 0, 0, 0]

def k0_chk202 (v541 : BitVec 32) (v894 : BitVec 32) : Prop :=
  (∀ (k0_h38 : k0_cond38 v541 = 1#1), ∀ a, (k0_off1001 v894) a + S1x16x8x128.size a ≤ S512x16x8x128.size a)
theorem k0_off1001_inb : ∀ (v541 : BitVec 32) (v894 : BitVec 32) (k0_hw202 : k0_chk202 v541 v894), ∀ (k0_h38 : k0_cond38 v541 = 1#1), ∀ a, (k0_off1001 v894) a + S1x16x8x128.size a ≤ S512x16x8x128.size a := fun v541 v894 k0_hw202 k0_h38 => k0_hw202 k0_h38

def k0_off1002 (v908 : BitVec 32) : Fin 4 → Nat :=
  let c511_i32_724 : BitVec 32 := 511#32
  let v909 : BitVec 32 := Scalar.andi v908 c511_i32_724
  let c0_i32_732 : BitVec 32 := 0#32
  let c0_i32_733 : BitVec 32 := 0#32
  let c0_i32_734 : BitVec 32 := 0#32
  ![v909.toNat, 0, 0, 0]

def k0_chk203 (v541 : BitVec 32) (v908 : BitVec 32) : Prop :=
  (∀ (k0_h38 : k0_cond38 v541 = 1#1), ∀ a, (k0_off1002 v908) a + S1x16x8x128.size a ≤ S512x16x8x128.size a)
theorem k0_off1002_inb : ∀ (v541 : BitVec 32) (v908 : BitVec 32) (k0_hw203 : k0_chk203 v541 v908), ∀ (k0_h38 : k0_cond38 v541 = 1#1), ∀ a, (k0_off1002 v908) a + S1x16x8x128.size a ≤ S512x16x8x128.size a := fun v541 v908 k0_hw203 k0_h38 => k0_hw203 k0_h38

def k0_off1003 (v922 : BitVec 32) : Fin 4 → Nat :=
  let c511_i32_747 : BitVec 32 := 511#32
  let v923 : BitVec 32 := Scalar.andi v922 c511_i32_747
  let c0_i32_755 : BitVec 32 := 0#32
  let c0_i32_756 : BitVec 32 := 0#32
  let c0_i32_757 : BitVec 32 := 0#32
  ![v923.toNat, 0, 0, 0]

def k0_chk204 (v541 : BitVec 32) (v922 : BitVec 32) : Prop :=
  (∀ (k0_h38 : k0_cond38 v541 = 1#1), ∀ a, (k0_off1003 v922) a + S1x16x8x128.size a ≤ S512x16x8x128.size a)
theorem k0_off1003_inb : ∀ (v541 : BitVec 32) (v922 : BitVec 32) (k0_hw204 : k0_chk204 v541 v922), ∀ (k0_h38 : k0_cond38 v541 = 1#1), ∀ a, (k0_off1003 v922) a + S1x16x8x128.size a ≤ S512x16x8x128.size a := fun v541 v922 k0_hw204 k0_h38 => k0_hw204 k0_h38

def k0_off1004 (v936 : BitVec 32) : Fin 4 → Nat :=
  let c511_i32_770 : BitVec 32 := 511#32
  let v937 : BitVec 32 := Scalar.andi v936 c511_i32_770
  let c0_i32_777 : BitVec 32 := 0#32
  let c0_i32_778 : BitVec 32 := 0#32
  let c0_i32_779 : BitVec 32 := 0#32
  ![v937.toNat, 0, 0, 0]

def k0_chk205 (v541 : BitVec 32) (v936 : BitVec 32) : Prop :=
  (∀ (k0_h38 : k0_cond38 v541 = 1#1), ∀ a, (k0_off1004 v936) a + S1x16x8x128.size a ≤ S512x16x8x128.size a)
theorem k0_off1004_inb : ∀ (v541 : BitVec 32) (v936 : BitVec 32) (k0_hw205 : k0_chk205 v541 v936), ∀ (k0_h38 : k0_cond38 v541 = 1#1), ∀ a, (k0_off1004 v936) a + S1x16x8x128.size a ≤ S512x16x8x128.size a := fun v541 v936 k0_hw205 k0_h38 => k0_hw205 k0_h38

def k0_off1005 (v950 : BitVec 32) : Fin 4 → Nat :=
  let c511_i32_792 : BitVec 32 := 511#32
  let v951 : BitVec 32 := Scalar.andi v950 c511_i32_792
  let c0_i32_799 : BitVec 32 := 0#32
  let c0_i32_800 : BitVec 32 := 0#32
  let c0_i32_801 : BitVec 32 := 0#32
  ![v951.toNat, 0, 0, 0]

def k0_chk206 (v541 : BitVec 32) (v950 : BitVec 32) : Prop :=
  (∀ (k0_h38 : k0_cond38 v541 = 1#1), ∀ a, (k0_off1005 v950) a + S1x16x8x128.size a ≤ S512x16x8x128.size a)
theorem k0_off1005_inb : ∀ (v541 : BitVec 32) (v950 : BitVec 32) (k0_hw206 : k0_chk206 v541 v950), ∀ (k0_h38 : k0_cond38 v541 = 1#1), ∀ a, (k0_off1005 v950) a + S1x16x8x128.size a ≤ S512x16x8x128.size a := fun v541 v950 k0_hw206 k0_h38 => k0_hw206 k0_h38

def k0_off1006 (v964 : BitVec 32) : Fin 4 → Nat :=
  let c511_i32_814 : BitVec 32 := 511#32
  let v965 : BitVec 32 := Scalar.andi v964 c511_i32_814
  let c0_i32_821 : BitVec 32 := 0#32
  let c0_i32_822 : BitVec 32 := 0#32
  let c0_i32_823 : BitVec 32 := 0#32
  ![v965.toNat, 0, 0, 0]

def k0_chk207 (v541 : BitVec 32) (v964 : BitVec 32) : Prop :=
  (∀ (k0_h38 : k0_cond38 v541 = 1#1), ∀ a, (k0_off1006 v964) a + S1x16x8x128.size a ≤ S512x16x8x128.size a)
theorem k0_off1006_inb : ∀ (v541 : BitVec 32) (v964 : BitVec 32) (k0_hw207 : k0_chk207 v541 v964), ∀ (k0_h38 : k0_cond38 v541 = 1#1), ∀ a, (k0_off1006 v964) a + S1x16x8x128.size a ≤ S512x16x8x128.size a := fun v541 v964 k0_hw207 k0_h38 => k0_hw207 k0_h38

@[reducible] def k0_t31_loop (v541 : BitVec 32) : Scf.Loop 32 :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_341 : BitVec 32 := 1#32
  ⟨c0_i32_339, v573, c1_i32_341⟩

def k0_off1007 (v541 : BitVec 32) (k0_t31 : Fin (k0_t31_loop v541).trips) : Fin 2 → Nat :=
  let c7_824 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![7, v1033.toNat]
def k0_cond39 (v541 : BitVec 32) (k0_t31 : Fin (k0_t31_loop v541).trips) : BitVec 1 :=
  let c0_i32_339 : BitVec 32 := 0#32
  let c1_i32_341 : BitVec 32 := 1#32
  let arg17 : BitVec 32 := Scf.iv c0_i32_339 c1_i32_341 k0_t31
  let c1_i32_655 : BitVec 32 := 1#32
  let v867 : BitVec 32 := Scalar.addi arg17 c1_i32_655
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v868 : BitVec 1 := Scalar.cmpi .slt v867 v560
  let v869 : BitVec 32 := Scalar.extui v868
  let c0_i32_656 : BitVec 32 := 0#32
  let v870 : BitVec 1 := Scalar.cmpi .ne v869 c0_i32_656
  v870

def k0_off1008 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off1009 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off1010 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk209 (v541 : BitVec 32) (k0_t31 : Fin (k0_t31_loop v541).trips) (v1034 : BitVec 32) : Prop :=
  (∀ (k0_h39 : k0_cond39 v541 k0_t31 = 1#1), ∀ a, (k0_off1010 v1034) a + S1x16x8x128.size a ≤ S512x16x8x128.size a)
theorem k0_off1010_inb : ∀ (v541 : BitVec 32) (k0_t31 : Fin (k0_t31_loop v541).trips) (v1034 : BitVec 32) (k0_hw209 : k0_chk209 v541 k0_t31 v1034), ∀ (k0_h39 : k0_cond39 v541 k0_t31 = 1#1), ∀ a, (k0_off1010 v1034) a + S1x16x8x128.size a ≤ S512x16x8x128.size a := fun v541 k0_t31 v1034 k0_hw209 k0_h39 => k0_hw209 k0_h39

def k0_off1011 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off1012 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off1013 (v541 : BitVec 32) (k0_t31 : Fin (k0_t31_loop v541).trips) : Fin 2 → Nat :=
  let c7_843 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![7, v1050.toNat]
def k0_off1014 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off1015 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off1016 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk210 (v541 : BitVec 32) (k0_t31 : Fin (k0_t31_loop v541).trips) (v1051 : BitVec 32) : Prop :=
  (∀ (k0_h39 : k0_cond39 v541 k0_t31 = 1#1), ∀ a, (k0_off1016 v1051) a + S1x16x8x128.size a ≤ S512x16x8x128.size a)
theorem k0_off1016_inb : ∀ (v541 : BitVec 32) (k0_t31 : Fin (k0_t31_loop v541).trips) (v1051 : BitVec 32) (k0_hw210 : k0_chk210 v541 k0_t31 v1051), ∀ (k0_h39 : k0_cond39 v541 k0_t31 = 1#1), ∀ a, (k0_off1016 v1051) a + S1x16x8x128.size a ≤ S512x16x8x128.size a := fun v541 k0_t31 v1051 k0_hw210 k0_h39 => k0_hw210 k0_h39

def k0_off1017 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off1018 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off1019 (v541 : BitVec 32) (k0_t31 : Fin (k0_t31_loop v541).trips) : Fin 2 → Nat :=
  let c7_863 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![7, v1067.toNat]
def k0_off1020 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off1021 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off1022 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk211 (v541 : BitVec 32) (k0_t31 : Fin (k0_t31_loop v541).trips) (v1068 : BitVec 32) : Prop :=
  (∀ (k0_h39 : k0_cond39 v541 k0_t31 = 1#1), ∀ a, (k0_off1022 v1068) a + S1x16x8x128.size a ≤ S512x16x8x128.size a)
theorem k0_off1022_inb : ∀ (v541 : BitVec 32) (k0_t31 : Fin (k0_t31_loop v541).trips) (v1068 : BitVec 32) (k0_hw211 : k0_chk211 v541 k0_t31 v1068), ∀ (k0_h39 : k0_cond39 v541 k0_t31 = 1#1), ∀ a, (k0_off1022 v1068) a + S1x16x8x128.size a ≤ S512x16x8x128.size a := fun v541 k0_t31 v1068 k0_hw211 k0_h39 => k0_hw211 k0_h39

def k0_off1023 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off1024 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off1025 (v541 : BitVec 32) (k0_t31 : Fin (k0_t31_loop v541).trips) : Fin 2 → Nat :=
  let c7_883 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![7, v1084.toNat]
def k0_off1026 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off1027 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off1028 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk212 (v541 : BitVec 32) (k0_t31 : Fin (k0_t31_loop v541).trips) (v1085 : BitVec 32) : Prop :=
  (∀ (k0_h39 : k0_cond39 v541 k0_t31 = 1#1), ∀ a, (k0_off1028 v1085) a + S1x16x8x128.size a ≤ S512x16x8x128.size a)
theorem k0_off1028_inb : ∀ (v541 : BitVec 32) (k0_t31 : Fin (k0_t31_loop v541).trips) (v1085 : BitVec 32) (k0_hw212 : k0_chk212 v541 k0_t31 v1085), ∀ (k0_h39 : k0_cond39 v541 k0_t31 = 1#1), ∀ a, (k0_off1028 v1085) a + S1x16x8x128.size a ≤ S512x16x8x128.size a := fun v541 k0_t31 v1085 k0_hw212 k0_h39 => k0_hw212 k0_h39

def k0_off1029 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off1030 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off1031 (v541 : BitVec 32) (k0_t31 : Fin (k0_t31_loop v541).trips) : Fin 2 → Nat :=
  let c7_903 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![7, v1101.toNat]
def k0_off1032 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off1033 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off1034 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk213 (v541 : BitVec 32) (k0_t31 : Fin (k0_t31_loop v541).trips) (v1102 : BitVec 32) : Prop :=
  (∀ (k0_h39 : k0_cond39 v541 k0_t31 = 1#1), ∀ a, (k0_off1034 v1102) a + S1x16x8x128.size a ≤ S512x16x8x128.size a)
theorem k0_off1034_inb : ∀ (v541 : BitVec 32) (k0_t31 : Fin (k0_t31_loop v541).trips) (v1102 : BitVec 32) (k0_hw213 : k0_chk213 v541 k0_t31 v1102), ∀ (k0_h39 : k0_cond39 v541 k0_t31 = 1#1), ∀ a, (k0_off1034 v1102) a + S1x16x8x128.size a ≤ S512x16x8x128.size a := fun v541 k0_t31 v1102 k0_hw213 k0_h39 => k0_hw213 k0_h39

def k0_off1035 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off1036 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off1037 (v541 : BitVec 32) (k0_t31 : Fin (k0_t31_loop v541).trips) : Fin 2 → Nat :=
  let c7_923 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![7, v1118.toNat]
def k0_off1038 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off1039 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off1040 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk214 (v541 : BitVec 32) (k0_t31 : Fin (k0_t31_loop v541).trips) (v1119 : BitVec 32) : Prop :=
  (∀ (k0_h39 : k0_cond39 v541 k0_t31 = 1#1), ∀ a, (k0_off1040 v1119) a + S1x16x8x128.size a ≤ S512x16x8x128.size a)
theorem k0_off1040_inb : ∀ (v541 : BitVec 32) (k0_t31 : Fin (k0_t31_loop v541).trips) (v1119 : BitVec 32) (k0_hw214 : k0_chk214 v541 k0_t31 v1119), ∀ (k0_h39 : k0_cond39 v541 k0_t31 = 1#1), ∀ a, (k0_off1040 v1119) a + S1x16x8x128.size a ≤ S512x16x8x128.size a := fun v541 k0_t31 v1119 k0_hw214 k0_h39 => k0_hw214 k0_h39

def k0_off1041 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off1042 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off1043 (v541 : BitVec 32) (k0_t31 : Fin (k0_t31_loop v541).trips) : Fin 2 → Nat :=
  let c7_943 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![7, v1135.toNat]
def k0_off1044 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off1045 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off1046 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk215 (v541 : BitVec 32) (k0_t31 : Fin (k0_t31_loop v541).trips) (v1136 : BitVec 32) : Prop :=
  (∀ (k0_h39 : k0_cond39 v541 k0_t31 = 1#1), ∀ a, (k0_off1046 v1136) a + S1x16x8x128.size a ≤ S512x16x8x128.size a)
theorem k0_off1046_inb : ∀ (v541 : BitVec 32) (k0_t31 : Fin (k0_t31_loop v541).trips) (v1136 : BitVec 32) (k0_hw215 : k0_chk215 v541 k0_t31 v1136), ∀ (k0_h39 : k0_cond39 v541 k0_t31 = 1#1), ∀ a, (k0_off1046 v1136) a + S1x16x8x128.size a ≤ S512x16x8x128.size a := fun v541 k0_t31 v1136 k0_hw215 k0_h39 => k0_hw215 k0_h39

def k0_off1047 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off1048 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off1049 (v541 : BitVec 32) (k0_t31 : Fin (k0_t31_loop v541).trips) : Fin 2 → Nat :=
  let c7_963 : Index := 7#32
  let c0_i32_339 : BitVec 32 := 0#32
  let c1_i32_341 : BitVec 32 := 1#32
  let arg17 : BitVec 32 := Scf.iv c0_i32_339 c1_i32_341 k0_t31
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![7, v1152.toNat]
def k0_off1050 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off1051 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off1052 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk216 (v541 : BitVec 32) (k0_t31 : Fin (k0_t31_loop v541).trips) (v1153 : BitVec 32) : Prop :=
  (∀ (k0_h39 : k0_cond39 v541 k0_t31 = 1#1), ∀ a, (k0_off1052 v1153) a + S1x16x8x128.size a ≤ S512x16x8x128.size a)
theorem k0_off1052_inb : ∀ (v541 : BitVec 32) (k0_t31 : Fin (k0_t31_loop v541).trips) (v1153 : BitVec 32) (k0_hw216 : k0_chk216 v541 k0_t31 v1153), ∀ (k0_h39 : k0_cond39 v541 k0_t31 = 1#1), ∀ a, (k0_off1052 v1153) a + S1x16x8x128.size a ≤ S512x16x8x128.size a := fun v541 k0_t31 v1153 k0_hw216 k0_h39 => k0_hw216 k0_h39

def k0_off1053 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off1054 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off1055 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c0_i32_659 : BitVec 32 := 0#32
  ![v866.toNat, 0]
def k0_off1056 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off1057 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c1_i32_677 : BitVec 32 := 1#32
  ![v866.toNat, 1]
def k0_off1058 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off1059 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c2_i32_695 : BitVec 32 := 2#32
  ![v866.toNat, 2]
def k0_off1060 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off1061 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c3_i32_713 : BitVec 32 := 3#32
  ![v866.toNat, 3]
def k0_off1062 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off1063 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c4_i32_731 : BitVec 32 := 4#32
  ![v866.toNat, 4]
def k0_off1064 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off1065 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c5_i32_748 : BitVec 32 := 5#32
  ![v866.toNat, 5]
def k0_off1066 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off1067 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c6_i32_765 : BitVec 32 := 6#32
  ![v866.toNat, 6]
def k0_off1068 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off1069 (v541 : BitVec 32) (k0_t31 : Fin (k0_t31_loop v541).trips) : Fin 2 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c7_i32_782 : BitVec 32 := 7#32
  ![v866.toNat, 7]
def k0_off1070 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off1071 (v541 : BitVec 32) (k0_t31 : Fin (k0_t31_loop v541).trips) : Fin 5 → Nat :=
  let c0_i32_339 : BitVec 32 := 0#32
  let c1_i32_341 : BitVec 32 := 1#32
  let arg17 : BitVec 32 := Scf.iv c0_i32_339 c1_i32_341 k0_t31
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]
@[reducible] def k0_t32_loop (v541 : BitVec 32) : Scf.Loop 32 :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let v570 : BitVec 32 := Scalar.addi c0_i32_339 v569
  let c1_i32_342 : BitVec 32 := 1#32
  ⟨v573, v570, c1_i32_342⟩
def k0_off1072 (v541 : BitVec 32) (k0_t32 : Fin (k0_t32_loop v541).trips) : Fin 2 → Nat :=
  let c7_824 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_822 : BitVec 32 := 8#32
  let v1031 : BitVec 32 := Scalar.muli v1028 c8_i32_822
  let c0_i32_823 : BitVec 32 := 0#32
  let v1032 : BitVec 32 := Scalar.addi v1031 c0_i32_823
  let v1033 : Index := Scalar.indexCast v1032
  ![7, v1033.toNat]
def k0_cond40 (v541 : BitVec 32) (k0_t32 : Fin (k0_t32_loop v541).trips) : BitVec 1 :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_655 : BitVec 32 := 1#32
  let v867 : BitVec 32 := Scalar.addi arg17 c1_i32_655
  let v868 : BitVec 1 := Scalar.cmpi .slt v867 v560
  let v869 : BitVec 32 := Scalar.extui v868
  let c0_i32_656 : BitVec 32 := 0#32
  let v870 : BitVec 1 := Scalar.cmpi .ne v869 c0_i32_656
  v870

def k0_off1073 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_826 : BitVec 32 := 0#32
  ![v1030.toNat, 0]
def k0_off1074 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_825 : BitVec 32 := 0#32
  let c0_i32_827 : BitVec 32 := 0#32
  let c0_i32_828 : BitVec 32 := 0#32
  let c0_i32_829 : BitVec 32 := 0#32
  ![v1030.toNat, 0, 0, 0, 0]
def k0_off1075 (v1034 : BitVec 32) : Fin 4 → Nat :=
  let c511_i32 : BitVec 32 := 511#32
  let v1035 : BitVec 32 := Scalar.andi v1034 c511_i32
  let c0_i32_830 : BitVec 32 := 0#32
  let c0_i32_831 : BitVec 32 := 0#32
  let c0_i32_832 : BitVec 32 := 0#32
  ![v1035.toNat, 0, 0, 0]

def k0_chk217 (v541 : BitVec 32) (k0_t32 : Fin (k0_t32_loop v541).trips) (v1034 : BitVec 32) : Prop :=
  (∀ (k0_h40 : k0_cond40 v541 k0_t32 = 1#1), ∀ a, (k0_off1075 v1034) a + S1x16x8x128.size a ≤ S512x16x8x128.size a)
theorem k0_off1075_inb : ∀ (v541 : BitVec 32) (k0_t32 : Fin (k0_t32_loop v541).trips) (v1034 : BitVec 32) (k0_hw217 : k0_chk217 v541 k0_t32 v1034), ∀ (k0_h40 : k0_cond40 v541 k0_t32 = 1#1), ∀ a, (k0_off1075 v1034) a + S1x16x8x128.size a ≤ S512x16x8x128.size a := fun v541 k0_t32 v1034 k0_hw217 k0_h40 => k0_hw217 k0_h40

def k0_off1076 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_834 : BitVec 32 := 0#32
  ![v1030.toNat, 0]
def k0_off1077 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c0_i32_833 : BitVec 32 := 0#32
  let c0_i32_835 : BitVec 32 := 0#32
  let c0_i32_836 : BitVec 32 := 0#32
  let c0_i32_837 : BitVec 32 := 0#32
  ![v1030.toNat, 0, 0, 0, 0]
def k0_off1078 (v541 : BitVec 32) (k0_t32 : Fin (k0_t32_loop v541).trips) : Fin 2 → Nat :=
  let c7_843 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_841 : BitVec 32 := 8#32
  let v1048 : BitVec 32 := Scalar.muli v1028 c8_i32_841
  let c1_i32_842 : BitVec 32 := 1#32
  let v1049 : BitVec 32 := Scalar.addi v1048 c1_i32_842
  let v1050 : Index := Scalar.indexCast v1049
  ![7, v1050.toNat]
def k0_off1079 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_846 : BitVec 32 := 1#32
  ![v1030.toNat, 1]
def k0_off1080 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_845 : BitVec 32 := 1#32
  let c0_i32_847 : BitVec 32 := 0#32
  let c0_i32_848 : BitVec 32 := 0#32
  let c0_i32_849 : BitVec 32 := 0#32
  ![v1030.toNat, 1, 0, 0, 0]
def k0_off1081 (v1051 : BitVec 32) : Fin 4 → Nat :=
  let c511_i32_844 : BitVec 32 := 511#32
  let v1052 : BitVec 32 := Scalar.andi v1051 c511_i32_844
  let c0_i32_850 : BitVec 32 := 0#32
  let c0_i32_851 : BitVec 32 := 0#32
  let c0_i32_852 : BitVec 32 := 0#32
  ![v1052.toNat, 0, 0, 0]

def k0_chk218 (v541 : BitVec 32) (k0_t32 : Fin (k0_t32_loop v541).trips) (v1051 : BitVec 32) : Prop :=
  (∀ (k0_h40 : k0_cond40 v541 k0_t32 = 1#1), ∀ a, (k0_off1081 v1051) a + S1x16x8x128.size a ≤ S512x16x8x128.size a)
theorem k0_off1081_inb : ∀ (v541 : BitVec 32) (k0_t32 : Fin (k0_t32_loop v541).trips) (v1051 : BitVec 32) (k0_hw218 : k0_chk218 v541 k0_t32 v1051), ∀ (k0_h40 : k0_cond40 v541 k0_t32 = 1#1), ∀ a, (k0_off1081 v1051) a + S1x16x8x128.size a ≤ S512x16x8x128.size a := fun v541 k0_t32 v1051 k0_hw218 k0_h40 => k0_hw218 k0_h40

def k0_off1082 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_854 : BitVec 32 := 1#32
  ![v1030.toNat, 1]
def k0_off1083 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c1_i32_853 : BitVec 32 := 1#32
  let c0_i32_855 : BitVec 32 := 0#32
  let c0_i32_856 : BitVec 32 := 0#32
  let c0_i32_857 : BitVec 32 := 0#32
  ![v1030.toNat, 1, 0, 0, 0]
def k0_off1084 (v541 : BitVec 32) (k0_t32 : Fin (k0_t32_loop v541).trips) : Fin 2 → Nat :=
  let c7_863 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_861 : BitVec 32 := 8#32
  let v1065 : BitVec 32 := Scalar.muli v1028 c8_i32_861
  let c2_i32_862 : BitVec 32 := 2#32
  let v1066 : BitVec 32 := Scalar.addi v1065 c2_i32_862
  let v1067 : Index := Scalar.indexCast v1066
  ![7, v1067.toNat]
def k0_off1085 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_866 : BitVec 32 := 2#32
  ![v1030.toNat, 2]
def k0_off1086 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_865 : BitVec 32 := 2#32
  let c0_i32_867 : BitVec 32 := 0#32
  let c0_i32_868 : BitVec 32 := 0#32
  let c0_i32_869 : BitVec 32 := 0#32
  ![v1030.toNat, 2, 0, 0, 0]
def k0_off1087 (v1068 : BitVec 32) : Fin 4 → Nat :=
  let c511_i32_864 : BitVec 32 := 511#32
  let v1069 : BitVec 32 := Scalar.andi v1068 c511_i32_864
  let c0_i32_870 : BitVec 32 := 0#32
  let c0_i32_871 : BitVec 32 := 0#32
  let c0_i32_872 : BitVec 32 := 0#32
  ![v1069.toNat, 0, 0, 0]

def k0_chk219 (v541 : BitVec 32) (k0_t32 : Fin (k0_t32_loop v541).trips) (v1068 : BitVec 32) : Prop :=
  (∀ (k0_h40 : k0_cond40 v541 k0_t32 = 1#1), ∀ a, (k0_off1087 v1068) a + S1x16x8x128.size a ≤ S512x16x8x128.size a)
theorem k0_off1087_inb : ∀ (v541 : BitVec 32) (k0_t32 : Fin (k0_t32_loop v541).trips) (v1068 : BitVec 32) (k0_hw219 : k0_chk219 v541 k0_t32 v1068), ∀ (k0_h40 : k0_cond40 v541 k0_t32 = 1#1), ∀ a, (k0_off1087 v1068) a + S1x16x8x128.size a ≤ S512x16x8x128.size a := fun v541 k0_t32 v1068 k0_hw219 k0_h40 => k0_hw219 k0_h40

def k0_off1088 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_874 : BitVec 32 := 2#32
  ![v1030.toNat, 2]
def k0_off1089 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c2_i32_873 : BitVec 32 := 2#32
  let c0_i32_875 : BitVec 32 := 0#32
  let c0_i32_876 : BitVec 32 := 0#32
  let c0_i32_877 : BitVec 32 := 0#32
  ![v1030.toNat, 2, 0, 0, 0]
def k0_off1090 (v541 : BitVec 32) (k0_t32 : Fin (k0_t32_loop v541).trips) : Fin 2 → Nat :=
  let c7_883 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_881 : BitVec 32 := 8#32
  let v1082 : BitVec 32 := Scalar.muli v1028 c8_i32_881
  let c3_i32_882 : BitVec 32 := 3#32
  let v1083 : BitVec 32 := Scalar.addi v1082 c3_i32_882
  let v1084 : Index := Scalar.indexCast v1083
  ![7, v1084.toNat]
def k0_off1091 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_886 : BitVec 32 := 3#32
  ![v1030.toNat, 3]
def k0_off1092 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_885 : BitVec 32 := 3#32
  let c0_i32_887 : BitVec 32 := 0#32
  let c0_i32_888 : BitVec 32 := 0#32
  let c0_i32_889 : BitVec 32 := 0#32
  ![v1030.toNat, 3, 0, 0, 0]
def k0_off1093 (v1085 : BitVec 32) : Fin 4 → Nat :=
  let c511_i32_884 : BitVec 32 := 511#32
  let v1086 : BitVec 32 := Scalar.andi v1085 c511_i32_884
  let c0_i32_890 : BitVec 32 := 0#32
  let c0_i32_891 : BitVec 32 := 0#32
  let c0_i32_892 : BitVec 32 := 0#32
  ![v1086.toNat, 0, 0, 0]

def k0_chk220 (v541 : BitVec 32) (k0_t32 : Fin (k0_t32_loop v541).trips) (v1085 : BitVec 32) : Prop :=
  (∀ (k0_h40 : k0_cond40 v541 k0_t32 = 1#1), ∀ a, (k0_off1093 v1085) a + S1x16x8x128.size a ≤ S512x16x8x128.size a)
theorem k0_off1093_inb : ∀ (v541 : BitVec 32) (k0_t32 : Fin (k0_t32_loop v541).trips) (v1085 : BitVec 32) (k0_hw220 : k0_chk220 v541 k0_t32 v1085), ∀ (k0_h40 : k0_cond40 v541 k0_t32 = 1#1), ∀ a, (k0_off1093 v1085) a + S1x16x8x128.size a ≤ S512x16x8x128.size a := fun v541 k0_t32 v1085 k0_hw220 k0_h40 => k0_hw220 k0_h40

def k0_off1094 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_894 : BitVec 32 := 3#32
  ![v1030.toNat, 3]
def k0_off1095 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c3_i32_893 : BitVec 32 := 3#32
  let c0_i32_895 : BitVec 32 := 0#32
  let c0_i32_896 : BitVec 32 := 0#32
  let c0_i32_897 : BitVec 32 := 0#32
  ![v1030.toNat, 3, 0, 0, 0]
def k0_off1096 (v541 : BitVec 32) (k0_t32 : Fin (k0_t32_loop v541).trips) : Fin 2 → Nat :=
  let c7_903 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_901 : BitVec 32 := 8#32
  let v1099 : BitVec 32 := Scalar.muli v1028 c8_i32_901
  let c4_i32_902 : BitVec 32 := 4#32
  let v1100 : BitVec 32 := Scalar.addi v1099 c4_i32_902
  let v1101 : Index := Scalar.indexCast v1100
  ![7, v1101.toNat]
def k0_off1097 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_906 : BitVec 32 := 4#32
  ![v1030.toNat, 4]
def k0_off1098 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_905 : BitVec 32 := 4#32
  let c0_i32_907 : BitVec 32 := 0#32
  let c0_i32_908 : BitVec 32 := 0#32
  let c0_i32_909 : BitVec 32 := 0#32
  ![v1030.toNat, 4, 0, 0, 0]
def k0_off1099 (v1102 : BitVec 32) : Fin 4 → Nat :=
  let c511_i32_904 : BitVec 32 := 511#32
  let v1103 : BitVec 32 := Scalar.andi v1102 c511_i32_904
  let c0_i32_910 : BitVec 32 := 0#32
  let c0_i32_911 : BitVec 32 := 0#32
  let c0_i32_912 : BitVec 32 := 0#32
  ![v1103.toNat, 0, 0, 0]

def k0_chk221 (v541 : BitVec 32) (k0_t32 : Fin (k0_t32_loop v541).trips) (v1102 : BitVec 32) : Prop :=
  (∀ (k0_h40 : k0_cond40 v541 k0_t32 = 1#1), ∀ a, (k0_off1099 v1102) a + S1x16x8x128.size a ≤ S512x16x8x128.size a)
theorem k0_off1099_inb : ∀ (v541 : BitVec 32) (k0_t32 : Fin (k0_t32_loop v541).trips) (v1102 : BitVec 32) (k0_hw221 : k0_chk221 v541 k0_t32 v1102), ∀ (k0_h40 : k0_cond40 v541 k0_t32 = 1#1), ∀ a, (k0_off1099 v1102) a + S1x16x8x128.size a ≤ S512x16x8x128.size a := fun v541 k0_t32 v1102 k0_hw221 k0_h40 => k0_hw221 k0_h40

def k0_off1100 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_914 : BitVec 32 := 4#32
  ![v1030.toNat, 4]
def k0_off1101 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c4_i32_913 : BitVec 32 := 4#32
  let c0_i32_915 : BitVec 32 := 0#32
  let c0_i32_916 : BitVec 32 := 0#32
  let c0_i32_917 : BitVec 32 := 0#32
  ![v1030.toNat, 4, 0, 0, 0]
def k0_off1102 (v541 : BitVec 32) (k0_t32 : Fin (k0_t32_loop v541).trips) : Fin 2 → Nat :=
  let c7_923 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_921 : BitVec 32 := 8#32
  let v1116 : BitVec 32 := Scalar.muli v1028 c8_i32_921
  let c5_i32_922 : BitVec 32 := 5#32
  let v1117 : BitVec 32 := Scalar.addi v1116 c5_i32_922
  let v1118 : Index := Scalar.indexCast v1117
  ![7, v1118.toNat]
def k0_off1103 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_926 : BitVec 32 := 5#32
  ![v1030.toNat, 5]
def k0_off1104 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_925 : BitVec 32 := 5#32
  let c0_i32_927 : BitVec 32 := 0#32
  let c0_i32_928 : BitVec 32 := 0#32
  let c0_i32_929 : BitVec 32 := 0#32
  ![v1030.toNat, 5, 0, 0, 0]
def k0_off1105 (v1119 : BitVec 32) : Fin 4 → Nat :=
  let c511_i32_924 : BitVec 32 := 511#32
  let v1120 : BitVec 32 := Scalar.andi v1119 c511_i32_924
  let c0_i32_930 : BitVec 32 := 0#32
  let c0_i32_931 : BitVec 32 := 0#32
  let c0_i32_932 : BitVec 32 := 0#32
  ![v1120.toNat, 0, 0, 0]

def k0_chk222 (v541 : BitVec 32) (k0_t32 : Fin (k0_t32_loop v541).trips) (v1119 : BitVec 32) : Prop :=
  (∀ (k0_h40 : k0_cond40 v541 k0_t32 = 1#1), ∀ a, (k0_off1105 v1119) a + S1x16x8x128.size a ≤ S512x16x8x128.size a)
theorem k0_off1105_inb : ∀ (v541 : BitVec 32) (k0_t32 : Fin (k0_t32_loop v541).trips) (v1119 : BitVec 32) (k0_hw222 : k0_chk222 v541 k0_t32 v1119), ∀ (k0_h40 : k0_cond40 v541 k0_t32 = 1#1), ∀ a, (k0_off1105 v1119) a + S1x16x8x128.size a ≤ S512x16x8x128.size a := fun v541 k0_t32 v1119 k0_hw222 k0_h40 => k0_hw222 k0_h40

def k0_off1106 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_934 : BitVec 32 := 5#32
  ![v1030.toNat, 5]
def k0_off1107 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c5_i32_933 : BitVec 32 := 5#32
  let c0_i32_935 : BitVec 32 := 0#32
  let c0_i32_936 : BitVec 32 := 0#32
  let c0_i32_937 : BitVec 32 := 0#32
  ![v1030.toNat, 5, 0, 0, 0]
def k0_off1108 (v541 : BitVec 32) (k0_t32 : Fin (k0_t32_loop v541).trips) : Fin 2 → Nat :=
  let c7_943 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_941 : BitVec 32 := 8#32
  let v1133 : BitVec 32 := Scalar.muli v1028 c8_i32_941
  let c6_i32_942 : BitVec 32 := 6#32
  let v1134 : BitVec 32 := Scalar.addi v1133 c6_i32_942
  let v1135 : Index := Scalar.indexCast v1134
  ![7, v1135.toNat]
def k0_off1109 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_946 : BitVec 32 := 6#32
  ![v1030.toNat, 6]
def k0_off1110 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_945 : BitVec 32 := 6#32
  let c0_i32_947 : BitVec 32 := 0#32
  let c0_i32_948 : BitVec 32 := 0#32
  let c0_i32_949 : BitVec 32 := 0#32
  ![v1030.toNat, 6, 0, 0, 0]
def k0_off1111 (v1136 : BitVec 32) : Fin 4 → Nat :=
  let c511_i32_944 : BitVec 32 := 511#32
  let v1137 : BitVec 32 := Scalar.andi v1136 c511_i32_944
  let c0_i32_950 : BitVec 32 := 0#32
  let c0_i32_951 : BitVec 32 := 0#32
  let c0_i32_952 : BitVec 32 := 0#32
  ![v1137.toNat, 0, 0, 0]

def k0_chk223 (v541 : BitVec 32) (k0_t32 : Fin (k0_t32_loop v541).trips) (v1136 : BitVec 32) : Prop :=
  (∀ (k0_h40 : k0_cond40 v541 k0_t32 = 1#1), ∀ a, (k0_off1111 v1136) a + S1x16x8x128.size a ≤ S512x16x8x128.size a)
theorem k0_off1111_inb : ∀ (v541 : BitVec 32) (k0_t32 : Fin (k0_t32_loop v541).trips) (v1136 : BitVec 32) (k0_hw223 : k0_chk223 v541 k0_t32 v1136), ∀ (k0_h40 : k0_cond40 v541 k0_t32 = 1#1), ∀ a, (k0_off1111 v1136) a + S1x16x8x128.size a ≤ S512x16x8x128.size a := fun v541 k0_t32 v1136 k0_hw223 k0_h40 => k0_hw223 k0_h40

def k0_off1112 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_954 : BitVec 32 := 6#32
  ![v1030.toNat, 6]
def k0_off1113 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c6_i32_953 : BitVec 32 := 6#32
  let c0_i32_955 : BitVec 32 := 0#32
  let c0_i32_956 : BitVec 32 := 0#32
  let c0_i32_957 : BitVec 32 := 0#32
  ![v1030.toNat, 6, 0, 0, 0]
def k0_off1114 (v541 : BitVec 32) (k0_t32 : Fin (k0_t32_loop v541).trips) : Fin 2 → Nat :=
  let c7_963 : Index := 7#32
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_819 : BitVec 32 := 1#32
  let v1028 : BitVec 32 := Scalar.addi arg17 c1_i32_819
  let c8_i32_961 : BitVec 32 := 8#32
  let v1150 : BitVec 32 := Scalar.muli v1028 c8_i32_961
  let c7_i32_962 : BitVec 32 := 7#32
  let v1151 : BitVec 32 := Scalar.addi v1150 c7_i32_962
  let v1152 : Index := Scalar.indexCast v1151
  ![7, v1152.toNat]
def k0_off1115 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_966 : BitVec 32 := 7#32
  ![v1030.toNat, 7]
def k0_off1116 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_965 : BitVec 32 := 7#32
  let c0_i32_967 : BitVec 32 := 0#32
  let c0_i32_968 : BitVec 32 := 0#32
  let c0_i32_969 : BitVec 32 := 0#32
  ![v1030.toNat, 7, 0, 0, 0]
def k0_off1117 (v1153 : BitVec 32) : Fin 4 → Nat :=
  let c511_i32_964 : BitVec 32 := 511#32
  let v1154 : BitVec 32 := Scalar.andi v1153 c511_i32_964
  let c0_i32_970 : BitVec 32 := 0#32
  let c0_i32_971 : BitVec 32 := 0#32
  let c0_i32_972 : BitVec 32 := 0#32
  ![v1154.toNat, 0, 0, 0]

def k0_chk224 (v541 : BitVec 32) (k0_t32 : Fin (k0_t32_loop v541).trips) (v1153 : BitVec 32) : Prop :=
  (∀ (k0_h40 : k0_cond40 v541 k0_t32 = 1#1), ∀ a, (k0_off1117 v1153) a + S1x16x8x128.size a ≤ S512x16x8x128.size a)
theorem k0_off1117_inb : ∀ (v541 : BitVec 32) (k0_t32 : Fin (k0_t32_loop v541).trips) (v1153 : BitVec 32) (k0_hw224 : k0_chk224 v541 k0_t32 v1153), ∀ (k0_h40 : k0_cond40 v541 k0_t32 = 1#1), ∀ a, (k0_off1117 v1153) a + S1x16x8x128.size a ≤ S512x16x8x128.size a := fun v541 k0_t32 v1153 k0_hw224 k0_h40 => k0_hw224 k0_h40

def k0_off1118 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_974 : BitVec 32 := 7#32
  ![v1030.toNat, 7]
def k0_off1119 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c1_i32_820 : BitVec 32 := 1#32
  let v1029 : BitVec 32 := Scalar.addi arg17 c1_i32_820
  let c2_i32_821 : BitVec 32 := 2#32
  let v1030 : BitVec 32 := Scalar.remsi v1029 c2_i32_821
  let c7_i32_973 : BitVec 32 := 7#32
  let c0_i32_975 : BitVec 32 := 0#32
  let c0_i32_976 : BitVec 32 := 0#32
  let c0_i32_977 : BitVec 32 := 0#32
  ![v1030.toNat, 7, 0, 0, 0]
def k0_off1120 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c0_i32_659 : BitVec 32 := 0#32
  ![v866.toNat, 0]
def k0_off1121 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c0_i32_658 : BitVec 32 := 0#32
  let c0_i32_660 : BitVec 32 := 0#32
  let c0_i32_661 : BitVec 32 := 0#32
  let c0_i32_662 : BitVec 32 := 0#32
  ![v866.toNat, 0, 0, 0, 0]
def k0_off1122 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c1_i32_677 : BitVec 32 := 1#32
  ![v866.toNat, 1]
def k0_off1123 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c1_i32_676 : BitVec 32 := 1#32
  let c0_i32_678 : BitVec 32 := 0#32
  let c0_i32_679 : BitVec 32 := 0#32
  let c0_i32_680 : BitVec 32 := 0#32
  ![v866.toNat, 1, 0, 0, 0]
def k0_off1124 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c2_i32_695 : BitVec 32 := 2#32
  ![v866.toNat, 2]
def k0_off1125 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c2_i32_694 : BitVec 32 := 2#32
  let c0_i32_696 : BitVec 32 := 0#32
  let c0_i32_697 : BitVec 32 := 0#32
  let c0_i32_698 : BitVec 32 := 0#32
  ![v866.toNat, 2, 0, 0, 0]
def k0_off1126 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c3_i32_713 : BitVec 32 := 3#32
  ![v866.toNat, 3]
def k0_off1127 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c3_i32_712 : BitVec 32 := 3#32
  let c0_i32_714 : BitVec 32 := 0#32
  let c0_i32_715 : BitVec 32 := 0#32
  let c0_i32_716 : BitVec 32 := 0#32
  ![v866.toNat, 3, 0, 0, 0]
def k0_off1128 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c4_i32_731 : BitVec 32 := 4#32
  ![v866.toNat, 4]
def k0_off1129 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c4_i32_730 : BitVec 32 := 4#32
  let c0_i32_732 : BitVec 32 := 0#32
  let c0_i32_733 : BitVec 32 := 0#32
  let c0_i32_734 : BitVec 32 := 0#32
  ![v866.toNat, 4, 0, 0, 0]
def k0_off1130 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c5_i32_748 : BitVec 32 := 5#32
  ![v866.toNat, 5]
def k0_off1131 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c5_i32 : BitVec 32 := 5#32
  let c0_i32_749 : BitVec 32 := 0#32
  let c0_i32_750 : BitVec 32 := 0#32
  let c0_i32_751 : BitVec 32 := 0#32
  ![v866.toNat, 5, 0, 0, 0]
def k0_off1132 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c6_i32_765 : BitVec 32 := 6#32
  ![v866.toNat, 6]
def k0_off1133 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c6_i32 : BitVec 32 := 6#32
  let c0_i32_766 : BitVec 32 := 0#32
  let c0_i32_767 : BitVec 32 := 0#32
  let c0_i32_768 : BitVec 32 := 0#32
  ![v866.toNat, 6, 0, 0, 0]
def k0_off1134 (v541 : BitVec 32) (k0_t32 : Fin (k0_t32_loop v541).trips) : Fin 2 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c7_i32_782 : BitVec 32 := 7#32
  ![v866.toNat, 7]
def k0_off1135 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let c7_i32 : BitVec 32 := 7#32
  let c0_i32_783 : BitVec 32 := 0#32
  let c0_i32_784 : BitVec 32 := 0#32
  let c0_i32_785 : BitVec 32 := 0#32
  ![v866.toNat, 7, 0, 0, 0]
def k0_off1136 (v541 : BitVec 32) (k0_t32 : Fin (k0_t32_loop v541).trips) : Fin 5 → Nat :=
  let c0_i32_339 : BitVec 32 := 0#32
  let c8_i32_321 : BitVec 32 := 8#32
  let v542 : BitVec 32 := Scalar.addi v541 c8_i32_321
  let c1_i32_322 : BitVec 32 := 1#32
  let v543 : BitVec 32 := Scalar.subi v542 c1_i32_322
  let c0_i32_324 : BitVec 32 := 0#32
  let v545 : BitVec 1 := Scalar.cmpi .sgt v543 c0_i32_324
  let v546 : BitVec 32 := Scalar.extui v545
  let c0_i32_325 : BitVec 32 := 0#32
  let v547 : BitVec 1 := Scalar.cmpi .slt v543 c0_i32_325
  let v548 : BitVec 32 := Scalar.extui v547
  let v549 : BitVec 32 := Scalar.subi v546 v548
  let c8_i32_323 : BitVec 32 := 8#32
  let c0_i32_326 : BitVec 32 := 0#32
  let v550 : BitVec 1 := Scalar.cmpi .sgt c8_i32_323 c0_i32_326
  let v551 : BitVec 32 := Scalar.extui v550
  let c0_i32_327 : BitVec 32 := 0#32
  let v552 : BitVec 1 := Scalar.cmpi .slt c8_i32_323 c0_i32_327
  let v553 : BitVec 32 := Scalar.extui v552
  let v554 : BitVec 32 := Scalar.subi v551 v553
  let v555 : BitVec 1 := Scalar.cmpi .ne v549 v554
  let v556 : BitVec 32 := Scalar.remsi v543 c8_i32_323
  let c0_i32_328 : BitVec 32 := 0#32
  let v557 : BitVec 1 := Scalar.cmpi .ne v556 c0_i32_328
  let v558 : BitVec 1 := Scalar.andi v555 v557
  let v544 : BitVec 32 := Scalar.divsi v543 c8_i32_323
  let c1_i32_329 : BitVec 32 := 1#32
  let v559 : BitVec 32 := Scalar.subi v544 c1_i32_329
  let v560 : BitVec 32 := Scalar.select v558 v559 v544
  let v569 : BitVec 32 := Scalar.subi v560 c0_i32_339
  let c1_i32_340 : BitVec 32 := 1#32
  let v571 : BitVec 32 := Scalar.divsi v569 c1_i32_340
  let v572 : BitVec 32 := Scalar.muli v571 c1_i32_340
  let v573 : BitVec 32 := Scalar.addi c0_i32_339 v572
  let c1_i32_342 : BitVec 32 := 1#32
  let arg17 : BitVec 32 := Scf.iv v573 c1_i32_342 k0_t32
  let c2_i32_654 : BitVec 32 := 2#32
  let v866 : BitVec 32 := Scalar.remsi arg17 c2_i32_654
  let v967 : Index := Scalar.indexCast v866
  let c0_798 : Index := 0#32
  let c0_799 : Index := 0#32
  let c0_800 : Index := 0#32
  let c0_801 : Index := 0#32
  ![v967.toNat, 0, 0, 0, 0]

def k0_chk208_0 (v541 : BitVec 32) : Prop :=
  ((k0_t31_loop v541).OK) ∧
  (∀ k0_t31 : Fin (k0_t31_loop v541).trips, ∀ (k0_h39 : k0_cond39 v541 k0_t31 = 1#1), ∀ a, (k0_off1007 v541 k0_t31) a + S1x1.size a ≤ S8x512.size a) ∧
  (∀ k0_t31 : Fin (k0_t31_loop v541).trips, ∀ (k0_h39 : k0_cond39 v541 k0_t31 = 1#1), ∀ a, (k0_off1008 v541 k0_t31) a + S1x1.size a ≤ S2x8.size a) ∧
  (∀ k0_t31 : Fin (k0_t31_loop v541).trips, ∀ (k0_h39 : k0_cond39 v541 k0_t31 = 1#1), ∀ a, (k0_off1009 v541 k0_t31) a + S1x1x16x8x128.size a ≤ S2x8x16x8x128.size a) ∧
  (∀ k0_t31 : Fin (k0_t31_loop v541).trips, ∀ (k0_h39 : k0_cond39 v541 k0_t31 = 1#1), ∀ a, (k0_off1011 v541 k0_t31) a + S1x1.size a ≤ S2x8.size a) ∧
  (∀ k0_t31 : Fin (k0_t31_loop v541).trips, ∀ (k0_h39 : k0_cond39 v541 k0_t31 = 1#1), ∀ a, (k0_off1012 v541 k0_t31) a + S1x1x16x8x128.size a ≤ S2x8x16x8x128.size a) ∧
  (∀ k0_t31 : Fin (k0_t31_loop v541).trips, ∀ (k0_h39 : k0_cond39 v541 k0_t31 = 1#1), ∀ a, (k0_off1013 v541 k0_t31) a + S1x1.size a ≤ S8x512.size a) ∧
  (∀ k0_t31 : Fin (k0_t31_loop v541).trips, ∀ (k0_h39 : k0_cond39 v541 k0_t31 = 1#1), ∀ a, (k0_off1014 v541 k0_t31) a + S1x1.size a ≤ S2x8.size a) ∧
  (∀ k0_t31 : Fin (k0_t31_loop v541).trips, ∀ (k0_h39 : k0_cond39 v541 k0_t31 = 1#1), ∀ a, (k0_off1015 v541 k0_t31) a + S1x1x16x8x128.size a ≤ S2x8x16x8x128.size a) ∧
  (∀ k0_t31 : Fin (k0_t31_loop v541).trips, ∀ (k0_h39 : k0_cond39 v541 k0_t31 = 1#1), ∀ a, (k0_off1017 v541 k0_t31) a + S1x1.size a ≤ S2x8.size a) ∧
  (∀ k0_t31 : Fin (k0_t31_loop v541).trips, ∀ (k0_h39 : k0_cond39 v541 k0_t31 = 1#1), ∀ a, (k0_off1018 v541 k0_t31) a + S1x1x16x8x128.size a ≤ S2x8x16x8x128.size a) ∧
  (∀ k0_t31 : Fin (k0_t31_loop v541).trips, ∀ (k0_h39 : k0_cond39 v541 k0_t31 = 1#1), ∀ a, (k0_off1019 v541 k0_t31) a + S1x1.size a ≤ S8x512.size a) ∧
  (∀ k0_t31 : Fin (k0_t31_loop v541).trips, ∀ (k0_h39 : k0_cond39 v541 k0_t31 = 1#1), ∀ a, (k0_off1020 v541 k0_t31) a + S1x1.size a ≤ S2x8.size a) ∧
  (∀ k0_t31 : Fin (k0_t31_loop v541).trips, ∀ (k0_h39 : k0_cond39 v541 k0_t31 = 1#1), ∀ a, (k0_off1021 v541 k0_t31) a + S1x1x16x8x128.size a ≤ S2x8x16x8x128.size a) ∧
  (∀ k0_t31 : Fin (k0_t31_loop v541).trips, ∀ (k0_h39 : k0_cond39 v541 k0_t31 = 1#1), ∀ a, (k0_off1023 v541 k0_t31) a + S1x1.size a ≤ S2x8.size a) ∧
  (∀ k0_t31 : Fin (k0_t31_loop v541).trips, ∀ (k0_h39 : k0_cond39 v541 k0_t31 = 1#1), ∀ a, (k0_off1024 v541 k0_t31) a + S1x1x16x8x128.size a ≤ S2x8x16x8x128.size a) ∧
  (∀ k0_t31 : Fin (k0_t31_loop v541).trips, ∀ (k0_h39 : k0_cond39 v541 k0_t31 = 1#1), ∀ a, (k0_off1025 v541 k0_t31) a + S1x1.size a ≤ S8x512.size a) ∧
  (∀ k0_t31 : Fin (k0_t31_loop v541).trips, ∀ (k0_h39 : k0_cond39 v541 k0_t31 = 1#1), ∀ a, (k0_off1026 v541 k0_t31) a + S1x1.size a ≤ S2x8.size a) ∧
  (∀ k0_t31 : Fin (k0_t31_loop v541).trips, ∀ (k0_h39 : k0_cond39 v541 k0_t31 = 1#1), ∀ a, (k0_off1027 v541 k0_t31) a + S1x1x16x8x128.size a ≤ S2x8x16x8x128.size a) ∧
  (∀ k0_t31 : Fin (k0_t31_loop v541).trips, ∀ (k0_h39 : k0_cond39 v541 k0_t31 = 1#1), ∀ a, (k0_off1029 v541 k0_t31) a + S1x1.size a ≤ S2x8.size a) ∧
  (∀ k0_t31 : Fin (k0_t31_loop v541).trips, ∀ (k0_h39 : k0_cond39 v541 k0_t31 = 1#1), ∀ a, (k0_off1030 v541 k0_t31) a + S1x1x16x8x128.size a ≤ S2x8x16x8x128.size a) ∧
  (∀ k0_t31 : Fin (k0_t31_loop v541).trips, ∀ (k0_h39 : k0_cond39 v541 k0_t31 = 1#1), ∀ a, (k0_off1031 v541 k0_t31) a + S1x1.size a ≤ S8x512.size a) ∧
  (∀ k0_t31 : Fin (k0_t31_loop v541).trips, ∀ (k0_h39 : k0_cond39 v541 k0_t31 = 1#1), ∀ a, (k0_off1032 v541 k0_t31) a + S1x1.size a ≤ S2x8.size a) ∧
  (∀ k0_t31 : Fin (k0_t31_loop v541).trips, ∀ (k0_h39 : k0_cond39 v541 k0_t31 = 1#1), ∀ a, (k0_off1033 v541 k0_t31) a + S1x1x16x8x128.size a ≤ S2x8x16x8x128.size a) ∧
  (∀ k0_t31 : Fin (k0_t31_loop v541).trips, ∀ (k0_h39 : k0_cond39 v541 k0_t31 = 1#1), ∀ a, (k0_off1035 v541 k0_t31) a + S1x1.size a ≤ S2x8.size a) ∧
  (∀ k0_t31 : Fin (k0_t31_loop v541).trips, ∀ (k0_h39 : k0_cond39 v541 k0_t31 = 1#1), ∀ a, (k0_off1036 v541 k0_t31) a + S1x1x16x8x128.size a ≤ S2x8x16x8x128.size a) ∧
  (∀ k0_t31 : Fin (k0_t31_loop v541).trips, ∀ (k0_h39 : k0_cond39 v541 k0_t31 = 1#1), ∀ a, (k0_off1037 v541 k0_t31) a + S1x1.size a ≤ S8x512.size a) ∧
  (∀ k0_t31 : Fin (k0_t31_loop v541).trips, ∀ (k0_h39 : k0_cond39 v541 k0_t31 = 1#1), ∀ a, (k0_off1038 v541 k0_t31) a + S1x1.size a ≤ S2x8.size a) ∧
  (∀ k0_t31 : Fin (k0_t31_loop v541).trips, ∀ (k0_h39 : k0_cond39 v541 k0_t31 = 1#1), ∀ a, (k0_off1039 v541 k0_t31) a + S1x1x16x8x128.size a ≤ S2x8x16x8x128.size a) ∧
  (∀ k0_t31 : Fin (k0_t31_loop v541).trips, ∀ (k0_h39 : k0_cond39 v541 k0_t31 = 1#1), ∀ a, (k0_off1041 v541 k0_t31) a + S1x1.size a ≤ S2x8.size a) ∧
  (∀ k0_t31 : Fin (k0_t31_loop v541).trips, ∀ (k0_h39 : k0_cond39 v541 k0_t31 = 1#1), ∀ a, (k0_off1042 v541 k0_t31) a + S1x1x16x8x128.size a ≤ S2x8x16x8x128.size a) ∧
  (∀ k0_t31 : Fin (k0_t31_loop v541).trips, ∀ (k0_h39 : k0_cond39 v541 k0_t31 = 1#1), ∀ a, (k0_off1043 v541 k0_t31) a + S1x1.size a ≤ S8x512.size a)
def k0_chk208_1 (v541 : BitVec 32) : Prop :=
  (∀ k0_t31 : Fin (k0_t31_loop v541).trips, ∀ (k0_h39 : k0_cond39 v541 k0_t31 = 1#1), ∀ a, (k0_off1044 v541 k0_t31) a + S1x1.size a ≤ S2x8.size a) ∧
  (∀ k0_t31 : Fin (k0_t31_loop v541).trips, ∀ (k0_h39 : k0_cond39 v541 k0_t31 = 1#1), ∀ a, (k0_off1045 v541 k0_t31) a + S1x1x16x8x128.size a ≤ S2x8x16x8x128.size a) ∧
  (∀ k0_t31 : Fin (k0_t31_loop v541).trips, ∀ (k0_h39 : k0_cond39 v541 k0_t31 = 1#1), ∀ a, (k0_off1047 v541 k0_t31) a + S1x1.size a ≤ S2x8.size a) ∧
  (∀ k0_t31 : Fin (k0_t31_loop v541).trips, ∀ (k0_h39 : k0_cond39 v541 k0_t31 = 1#1), ∀ a, (k0_off1048 v541 k0_t31) a + S1x1x16x8x128.size a ≤ S2x8x16x8x128.size a) ∧
  (∀ k0_t31 : Fin (k0_t31_loop v541).trips, ∀ (k0_h39 : k0_cond39 v541 k0_t31 = 1#1), ∀ a, (k0_off1049 v541 k0_t31) a + S1x1.size a ≤ S8x512.size a) ∧
  (∀ k0_t31 : Fin (k0_t31_loop v541).trips, ∀ (k0_h39 : k0_cond39 v541 k0_t31 = 1#1), ∀ a, (k0_off1050 v541 k0_t31) a + S1x1.size a ≤ S2x8.size a) ∧
  (∀ k0_t31 : Fin (k0_t31_loop v541).trips, ∀ (k0_h39 : k0_cond39 v541 k0_t31 = 1#1), ∀ a, (k0_off1051 v541 k0_t31) a + S1x1x16x8x128.size a ≤ S2x8x16x8x128.size a) ∧
  (∀ k0_t31 : Fin (k0_t31_loop v541).trips, ∀ (k0_h39 : k0_cond39 v541 k0_t31 = 1#1), ∀ a, (k0_off1053 v541 k0_t31) a + S1x1.size a ≤ S2x8.size a) ∧
  (∀ k0_t31 : Fin (k0_t31_loop v541).trips, ∀ (k0_h39 : k0_cond39 v541 k0_t31 = 1#1), ∀ a, (k0_off1054 v541 k0_t31) a + S1x1x16x8x128.size a ≤ S2x8x16x8x128.size a) ∧
  (∀ k0_t31 : Fin (k0_t31_loop v541).trips, ∀ a, (k0_off1055 v541 k0_t31) a + S1x1.size a ≤ S2x8.size a) ∧
  (∀ k0_t31 : Fin (k0_t31_loop v541).trips, ∀ a, (k0_off1056 v541 k0_t31) a + S1x1x16x8x128.size a ≤ S2x8x16x8x128.size a) ∧
  (∀ k0_t31 : Fin (k0_t31_loop v541).trips, ∀ a, (k0_off1057 v541 k0_t31) a + S1x1.size a ≤ S2x8.size a) ∧
  (∀ k0_t31 : Fin (k0_t31_loop v541).trips, ∀ a, (k0_off1058 v541 k0_t31) a + S1x1x16x8x128.size a ≤ S2x8x16x8x128.size a) ∧
  (∀ k0_t31 : Fin (k0_t31_loop v541).trips, ∀ a, (k0_off1059 v541 k0_t31) a + S1x1.size a ≤ S2x8.size a) ∧
  (∀ k0_t31 : Fin (k0_t31_loop v541).trips, ∀ a, (k0_off1060 v541 k0_t31) a + S1x1x16x8x128.size a ≤ S2x8x16x8x128.size a) ∧
  (∀ k0_t31 : Fin (k0_t31_loop v541).trips, ∀ a, (k0_off1061 v541 k0_t31) a + S1x1.size a ≤ S2x8.size a) ∧
  (∀ k0_t31 : Fin (k0_t31_loop v541).trips, ∀ a, (k0_off1062 v541 k0_t31) a + S1x1x16x8x128.size a ≤ S2x8x16x8x128.size a) ∧
  (∀ k0_t31 : Fin (k0_t31_loop v541).trips, ∀ a, (k0_off1063 v541 k0_t31) a + S1x1.size a ≤ S2x8.size a) ∧
  (∀ k0_t31 : Fin (k0_t31_loop v541).trips, ∀ a, (k0_off1064 v541 k0_t31) a + S1x1x16x8x128.size a ≤ S2x8x16x8x128.size a) ∧
  (∀ k0_t31 : Fin (k0_t31_loop v541).trips, ∀ a, (k0_off1065 v541 k0_t31) a + S1x1.size a ≤ S2x8.size a) ∧
  (∀ k0_t31 : Fin (k0_t31_loop v541).trips, ∀ a, (k0_off1066 v541 k0_t31) a + S1x1x16x8x128.size a ≤ S2x8x16x8x128.size a) ∧
  (∀ k0_t31 : Fin (k0_t31_loop v541).trips, ∀ a, (k0_off1067 v541 k0_t31) a + S1x1.size a ≤ S2x8.size a) ∧
  (∀ k0_t31 : Fin (k0_t31_loop v541).trips, ∀ a, (k0_off1068 v541 k0_t31) a + S1x1x16x8x128.size a ≤ S2x8x16x8x128.size a) ∧
  (∀ k0_t31 : Fin (k0_t31_loop v541).trips, ∀ a, (k0_off1069 v541 k0_t31) a + S1x1.size a ≤ S2x8.size a) ∧
  (∀ k0_t31 : Fin (k0_t31_loop v541).trips, ∀ a, (k0_off1070 v541 k0_t31) a + S1x1x16x8x128.size a ≤ S2x8x16x8x128.size a) ∧
  (∀ k0_t31 : Fin (k0_t31_loop v541).trips, ∀ a, (k0_off1071 v541 k0_t31) a + S1x8x16x8x128.size a ≤ S2x8x16x8x128.size a) ∧
  ((k0_t32_loop v541).OK) ∧
  (∀ k0_t32 : Fin (k0_t32_loop v541).trips, ∀ (k0_h40 : k0_cond40 v541 k0_t32 = 1#1), ∀ a, (k0_off1072 v541 k0_t32) a + S1x1.size a ≤ S8x512.size a) ∧
  (∀ k0_t32 : Fin (k0_t32_loop v541).trips, ∀ (k0_h40 : k0_cond40 v541 k0_t32 = 1#1), ∀ a, (k0_off1073 v541 k0_t32) a + S1x1.size a ≤ S2x8.size a) ∧
  (∀ k0_t32 : Fin (k0_t32_loop v541).trips, ∀ (k0_h40 : k0_cond40 v541 k0_t32 = 1#1), ∀ a, (k0_off1074 v541 k0_t32) a + S1x1x16x8x128.size a ≤ S2x8x16x8x128.size a) ∧
  (∀ k0_t32 : Fin (k0_t32_loop v541).trips, ∀ (k0_h40 : k0_cond40 v541 k0_t32 = 1#1), ∀ a, (k0_off1076 v541 k0_t32) a + S1x1.size a ≤ S2x8.size a) ∧
  (∀ k0_t32 : Fin (k0_t32_loop v541).trips, ∀ (k0_h40 : k0_cond40 v541 k0_t32 = 1#1), ∀ a, (k0_off1077 v541 k0_t32) a + S1x1x16x8x128.size a ≤ S2x8x16x8x128.size a)
def k0_chk208_2 (v541 : BitVec 32) : Prop :=
  (∀ k0_t32 : Fin (k0_t32_loop v541).trips, ∀ (k0_h40 : k0_cond40 v541 k0_t32 = 1#1), ∀ a, (k0_off1078 v541 k0_t32) a + S1x1.size a ≤ S8x512.size a) ∧
  (∀ k0_t32 : Fin (k0_t32_loop v541).trips, ∀ (k0_h40 : k0_cond40 v541 k0_t32 = 1#1), ∀ a, (k0_off1079 v541 k0_t32) a + S1x1.size a ≤ S2x8.size a) ∧
  (∀ k0_t32 : Fin (k0_t32_loop v541).trips, ∀ (k0_h40 : k0_cond40 v541 k0_t32 = 1#1), ∀ a, (k0_off1080 v541 k0_t32) a + S1x1x16x8x128.size a ≤ S2x8x16x8x128.size a) ∧
  (∀ k0_t32 : Fin (k0_t32_loop v541).trips, ∀ (k0_h40 : k0_cond40 v541 k0_t32 = 1#1), ∀ a, (k0_off1082 v541 k0_t32) a + S1x1.size a ≤ S2x8.size a) ∧
  (∀ k0_t32 : Fin (k0_t32_loop v541).trips, ∀ (k0_h40 : k0_cond40 v541 k0_t32 = 1#1), ∀ a, (k0_off1083 v541 k0_t32) a + S1x1x16x8x128.size a ≤ S2x8x16x8x128.size a) ∧
  (∀ k0_t32 : Fin (k0_t32_loop v541).trips, ∀ (k0_h40 : k0_cond40 v541 k0_t32 = 1#1), ∀ a, (k0_off1084 v541 k0_t32) a + S1x1.size a ≤ S8x512.size a) ∧
  (∀ k0_t32 : Fin (k0_t32_loop v541).trips, ∀ (k0_h40 : k0_cond40 v541 k0_t32 = 1#1), ∀ a, (k0_off1085 v541 k0_t32) a + S1x1.size a ≤ S2x8.size a) ∧
  (∀ k0_t32 : Fin (k0_t32_loop v541).trips, ∀ (k0_h40 : k0_cond40 v541 k0_t32 = 1#1), ∀ a, (k0_off1086 v541 k0_t32) a + S1x1x16x8x128.size a ≤ S2x8x16x8x128.size a) ∧
  (∀ k0_t32 : Fin (k0_t32_loop v541).trips, ∀ (k0_h40 : k0_cond40 v541 k0_t32 = 1#1), ∀ a, (k0_off1088 v541 k0_t32) a + S1x1.size a ≤ S2x8.size a) ∧
  (∀ k0_t32 : Fin (k0_t32_loop v541).trips, ∀ (k0_h40 : k0_cond40 v541 k0_t32 = 1#1), ∀ a, (k0_off1089 v541 k0_t32) a + S1x1x16x8x128.size a ≤ S2x8x16x8x128.size a) ∧
  (∀ k0_t32 : Fin (k0_t32_loop v541).trips, ∀ (k0_h40 : k0_cond40 v541 k0_t32 = 1#1), ∀ a, (k0_off1090 v541 k0_t32) a + S1x1.size a ≤ S8x512.size a) ∧
  (∀ k0_t32 : Fin (k0_t32_loop v541).trips, ∀ (k0_h40 : k0_cond40 v541 k0_t32 = 1#1), ∀ a, (k0_off1091 v541 k0_t32) a + S1x1.size a ≤ S2x8.size a) ∧
  (∀ k0_t32 : Fin (k0_t32_loop v541).trips, ∀ (k0_h40 : k0_cond40 v541 k0_t32 = 1#1), ∀ a, (k0_off1092 v541 k0_t32) a + S1x1x16x8x128.size a ≤ S2x8x16x8x128.size a) ∧
  (∀ k0_t32 : Fin (k0_t32_loop v541).trips, ∀ (k0_h40 : k0_cond40 v541 k0_t32 = 1#1), ∀ a, (k0_off1094 v541 k0_t32) a + S1x1.size a ≤ S2x8.size a) ∧
  (∀ k0_t32 : Fin (k0_t32_loop v541).trips, ∀ (k0_h40 : k0_cond40 v541 k0_t32 = 1#1), ∀ a, (k0_off1095 v541 k0_t32) a + S1x1x16x8x128.size a ≤ S2x8x16x8x128.size a) ∧
  (∀ k0_t32 : Fin (k0_t32_loop v541).trips, ∀ (k0_h40 : k0_cond40 v541 k0_t32 = 1#1), ∀ a, (k0_off1096 v541 k0_t32) a + S1x1.size a ≤ S8x512.size a) ∧
  (∀ k0_t32 : Fin (k0_t32_loop v541).trips, ∀ (k0_h40 : k0_cond40 v541 k0_t32 = 1#1), ∀ a, (k0_off1097 v541 k0_t32) a + S1x1.size a ≤ S2x8.size a) ∧
  (∀ k0_t32 : Fin (k0_t32_loop v541).trips, ∀ (k0_h40 : k0_cond40 v541 k0_t32 = 1#1), ∀ a, (k0_off1098 v541 k0_t32) a + S1x1x16x8x128.size a ≤ S2x8x16x8x128.size a) ∧
  (∀ k0_t32 : Fin (k0_t32_loop v541).trips, ∀ (k0_h40 : k0_cond40 v541 k0_t32 = 1#1), ∀ a, (k0_off1100 v541 k0_t32) a + S1x1.size a ≤ S2x8.size a) ∧
  (∀ k0_t32 : Fin (k0_t32_loop v541).trips, ∀ (k0_h40 : k0_cond40 v541 k0_t32 = 1#1), ∀ a, (k0_off1101 v541 k0_t32) a + S1x1x16x8x128.size a ≤ S2x8x16x8x128.size a) ∧
  (∀ k0_t32 : Fin (k0_t32_loop v541).trips, ∀ (k0_h40 : k0_cond40 v541 k0_t32 = 1#1), ∀ a, (k0_off1102 v541 k0_t32) a + S1x1.size a ≤ S8x512.size a) ∧
  (∀ k0_t32 : Fin (k0_t32_loop v541).trips, ∀ (k0_h40 : k0_cond40 v541 k0_t32 = 1#1), ∀ a, (k0_off1103 v541 k0_t32) a + S1x1.size a ≤ S2x8.size a) ∧
  (∀ k0_t32 : Fin (k0_t32_loop v541).trips, ∀ (k0_h40 : k0_cond40 v541 k0_t32 = 1#1), ∀ a, (k0_off1104 v541 k0_t32) a + S1x1x16x8x128.size a ≤ S2x8x16x8x128.size a) ∧
  (∀ k0_t32 : Fin (k0_t32_loop v541).trips, ∀ (k0_h40 : k0_cond40 v541 k0_t32 = 1#1), ∀ a, (k0_off1106 v541 k0_t32) a + S1x1.size a ≤ S2x8.size a) ∧
  (∀ k0_t32 : Fin (k0_t32_loop v541).trips, ∀ (k0_h40 : k0_cond40 v541 k0_t32 = 1#1), ∀ a, (k0_off1107 v541 k0_t32) a + S1x1x16x8x128.size a ≤ S2x8x16x8x128.size a) ∧
  (∀ k0_t32 : Fin (k0_t32_loop v541).trips, ∀ (k0_h40 : k0_cond40 v541 k0_t32 = 1#1), ∀ a, (k0_off1108 v541 k0_t32) a + S1x1.size a ≤ S8x512.size a) ∧
  (∀ k0_t32 : Fin (k0_t32_loop v541).trips, ∀ (k0_h40 : k0_cond40 v541 k0_t32 = 1#1), ∀ a, (k0_off1109 v541 k0_t32) a + S1x1.size a ≤ S2x8.size a) ∧
  (∀ k0_t32 : Fin (k0_t32_loop v541).trips, ∀ (k0_h40 : k0_cond40 v541 k0_t32 = 1#1), ∀ a, (k0_off1110 v541 k0_t32) a + S1x1x16x8x128.size a ≤ S2x8x16x8x128.size a) ∧
  (∀ k0_t32 : Fin (k0_t32_loop v541).trips, ∀ (k0_h40 : k0_cond40 v541 k0_t32 = 1#1), ∀ a, (k0_off1112 v541 k0_t32) a + S1x1.size a ≤ S2x8.size a) ∧
  (∀ k0_t32 : Fin (k0_t32_loop v541).trips, ∀ (k0_h40 : k0_cond40 v541 k0_t32 = 1#1), ∀ a, (k0_off1113 v541 k0_t32) a + S1x1x16x8x128.size a ≤ S2x8x16x8x128.size a) ∧
  (∀ k0_t32 : Fin (k0_t32_loop v541).trips, ∀ (k0_h40 : k0_cond40 v541 k0_t32 = 1#1), ∀ a, (k0_off1114 v541 k0_t32) a + S1x1.size a ≤ S8x512.size a) ∧
  (∀ k0_t32 : Fin (k0_t32_loop v541).trips, ∀ (k0_h40 : k0_cond40 v541 k0_t32 = 1#1), ∀ a, (k0_off1115 v541 k0_t32) a + S1x1.size a ≤ S2x8.size a)
def k0_chk208_3 (v541 : BitVec 32) : Prop :=
  (∀ k0_t32 : Fin (k0_t32_loop v541).trips, ∀ (k0_h40 : k0_cond40 v541 k0_t32 = 1#1), ∀ a, (k0_off1116 v541 k0_t32) a + S1x1x16x8x128.size a ≤ S2x8x16x8x128.size a) ∧
  (∀ k0_t32 : Fin (k0_t32_loop v541).trips, ∀ (k0_h40 : k0_cond40 v541 k0_t32 = 1#1), ∀ a, (k0_off1118 v541 k0_t32) a + S1x1.size a ≤ S2x8.size a) ∧
  (∀ k0_t32 : Fin (k0_t32_loop v541).trips, ∀ (k0_h40 : k0_cond40 v541 k0_t32 = 1#1), ∀ a, (k0_off1119 v541 k0_t32) a + S1x1x16x8x128.size a ≤ S2x8x16x8x128.size a) ∧
  (∀ k0_t32 : Fin (k0_t32_loop v541).trips, ∀ a, (k0_off1120 v541 k0_t32) a + S1x1.size a ≤ S2x8.size a) ∧
  (∀ k0_t32 : Fin (k0_t32_loop v541).trips, ∀ a, (k0_off1121 v541 k0_t32) a + S1x1x16x8x128.size a ≤ S2x8x16x8x128.size a) ∧
  (∀ k0_t32 : Fin (k0_t32_loop v541).trips, ∀ a, (k0_off1122 v541 k0_t32) a + S1x1.size a ≤ S2x8.size a) ∧
  (∀ k0_t32 : Fin (k0_t32_loop v541).trips, ∀ a, (k0_off1123 v541 k0_t32) a + S1x1x16x8x128.size a ≤ S2x8x16x8x128.size a) ∧
  (∀ k0_t32 : Fin (k0_t32_loop v541).trips, ∀ a, (k0_off1124 v541 k0_t32) a + S1x1.size a ≤ S2x8.size a) ∧
  (∀ k0_t32 : Fin (k0_t32_loop v541).trips, ∀ a, (k0_off1125 v541 k0_t32) a + S1x1x16x8x128.size a ≤ S2x8x16x8x128.size a) ∧
  (∀ k0_t32 : Fin (k0_t32_loop v541).trips, ∀ a, (k0_off1126 v541 k0_t32) a + S1x1.size a ≤ S2x8.size a) ∧
  (∀ k0_t32 : Fin (k0_t32_loop v541).trips, ∀ a, (k0_off1127 v541 k0_t32) a + S1x1x16x8x128.size a ≤ S2x8x16x8x128.size a) ∧
  (∀ k0_t32 : Fin (k0_t32_loop v541).trips, ∀ a, (k0_off1128 v541 k0_t32) a + S1x1.size a ≤ S2x8.size a) ∧
  (∀ k0_t32 : Fin (k0_t32_loop v541).trips, ∀ a, (k0_off1129 v541 k0_t32) a + S1x1x16x8x128.size a ≤ S2x8x16x8x128.size a) ∧
  (∀ k0_t32 : Fin (k0_t32_loop v541).trips, ∀ a, (k0_off1130 v541 k0_t32) a + S1x1.size a ≤ S2x8.size a) ∧
  (∀ k0_t32 : Fin (k0_t32_loop v541).trips, ∀ a, (k0_off1131 v541 k0_t32) a + S1x1x16x8x128.size a ≤ S2x8x16x8x128.size a) ∧
  (∀ k0_t32 : Fin (k0_t32_loop v541).trips, ∀ a, (k0_off1132 v541 k0_t32) a + S1x1.size a ≤ S2x8.size a) ∧
  (∀ k0_t32 : Fin (k0_t32_loop v541).trips, ∀ a, (k0_off1133 v541 k0_t32) a + S1x1x16x8x128.size a ≤ S2x8x16x8x128.size a) ∧
  (∀ k0_t32 : Fin (k0_t32_loop v541).trips, ∀ a, (k0_off1134 v541 k0_t32) a + S1x1.size a ≤ S2x8.size a) ∧
  (∀ k0_t32 : Fin (k0_t32_loop v541).trips, ∀ a, (k0_off1135 v541 k0_t32) a + S1x1x16x8x128.size a ≤ S2x8x16x8x128.size a) ∧
  (∀ k0_t32 : Fin (k0_t32_loop v541).trips, ∀ a, (k0_off1136 v541 k0_t32) a + S1x8x16x8x128.size a ≤ S2x8x16x8x128.size a)
def k0_chk208 (v541 : BitVec 32) : Prop :=
  k0_chk208_0 v541 ∧
  k0_chk208_1 v541 ∧
  k0_chk208_2 v541 ∧
  k0_chk208_3 v541
theorem k0_t31_ok : ∀ (v541 : BitVec 32) (k0_hw208 : k0_chk208 v541), (k0_t31_loop v541).OK := fun v541 k0_hw208 => k0_hw208.1.1
theorem k0_off1007_inb : ∀ (v541 : BitVec 32) (k0_hw208 : k0_chk208 v541) (k0_t31 : Fin (k0_t31_loop v541).trips), ∀ (k0_h39 : k0_cond39 v541 k0_t31 = 1#1), ∀ a, (k0_off1007 v541 k0_t31) a + S1x1.size a ≤ S8x512.size a := fun v541 k0_hw208 k0_t31 k0_h39 => k0_hw208.1.2.1 k0_t31 k0_h39
theorem k0_off1008_inb : ∀ (v541 : BitVec 32) (k0_hw208 : k0_chk208 v541) (k0_t31 : Fin (k0_t31_loop v541).trips), ∀ (k0_h39 : k0_cond39 v541 k0_t31 = 1#1), ∀ a, (k0_off1008 v541 k0_t31) a + S1x1.size a ≤ S2x8.size a := fun v541 k0_hw208 k0_t31 k0_h39 => k0_hw208.1.2.2.1 k0_t31 k0_h39
theorem k0_off1009_inb : ∀ (v541 : BitVec 32) (k0_hw208 : k0_chk208 v541) (k0_t31 : Fin (k0_t31_loop v541).trips), ∀ (k0_h39 : k0_cond39 v541 k0_t31 = 1#1), ∀ a, (k0_off1009 v541 k0_t31) a + S1x1x16x8x128.size a ≤ S2x8x16x8x128.size a := fun v541 k0_hw208 k0_t31 k0_h39 => k0_hw208.1.2.2.2.1 k0_t31 k0_h39
theorem k0_off1011_inb : ∀ (v541 : BitVec 32) (k0_hw208 : k0_chk208 v541) (k0_t31 : Fin (k0_t31_loop v541).trips), ∀ (k0_h39 : k0_cond39 v541 k0_t31 = 1#1), ∀ a, (k0_off1011 v541 k0_t31) a + S1x1.size a ≤ S2x8.size a := fun v541 k0_hw208 k0_t31 k0_h39 => k0_hw208.1.2.2.2.2.1 k0_t31 k0_h39
theorem k0_off1012_inb : ∀ (v541 : BitVec 32) (k0_hw208 : k0_chk208 v541) (k0_t31 : Fin (k0_t31_loop v541).trips), ∀ (k0_h39 : k0_cond39 v541 k0_t31 = 1#1), ∀ a, (k0_off1012 v541 k0_t31) a + S1x1x16x8x128.size a ≤ S2x8x16x8x128.size a := fun v541 k0_hw208 k0_t31 k0_h39 => k0_hw208.1.2.2.2.2.2.1 k0_t31 k0_h39
theorem k0_off1013_inb : ∀ (v541 : BitVec 32) (k0_hw208 : k0_chk208 v541) (k0_t31 : Fin (k0_t31_loop v541).trips), ∀ (k0_h39 : k0_cond39 v541 k0_t31 = 1#1), ∀ a, (k0_off1013 v541 k0_t31) a + S1x1.size a ≤ S8x512.size a := fun v541 k0_hw208 k0_t31 k0_h39 => k0_hw208.1.2.2.2.2.2.2.1 k0_t31 k0_h39
theorem k0_off1014_inb : ∀ (v541 : BitVec 32) (k0_hw208 : k0_chk208 v541) (k0_t31 : Fin (k0_t31_loop v541).trips), ∀ (k0_h39 : k0_cond39 v541 k0_t31 = 1#1), ∀ a, (k0_off1014 v541 k0_t31) a + S1x1.size a ≤ S2x8.size a := fun v541 k0_hw208 k0_t31 k0_h39 => k0_hw208.1.2.2.2.2.2.2.2.1 k0_t31 k0_h39
theorem k0_off1015_inb : ∀ (v541 : BitVec 32) (k0_hw208 : k0_chk208 v541) (k0_t31 : Fin (k0_t31_loop v541).trips), ∀ (k0_h39 : k0_cond39 v541 k0_t31 = 1#1), ∀ a, (k0_off1015 v541 k0_t31) a + S1x1x16x8x128.size a ≤ S2x8x16x8x128.size a := fun v541 k0_hw208 k0_t31 k0_h39 => k0_hw208.1.2.2.2.2.2.2.2.2.1 k0_t31 k0_h39
theorem k0_off1017_inb : ∀ (v541 : BitVec 32) (k0_hw208 : k0_chk208 v541) (k0_t31 : Fin (k0_t31_loop v541).trips), ∀ (k0_h39 : k0_cond39 v541 k0_t31 = 1#1), ∀ a, (k0_off1017 v541 k0_t31) a + S1x1.size a ≤ S2x8.size a := fun v541 k0_hw208 k0_t31 k0_h39 => k0_hw208.1.2.2.2.2.2.2.2.2.2.1 k0_t31 k0_h39
theorem k0_off1018_inb : ∀ (v541 : BitVec 32) (k0_hw208 : k0_chk208 v541) (k0_t31 : Fin (k0_t31_loop v541).trips), ∀ (k0_h39 : k0_cond39 v541 k0_t31 = 1#1), ∀ a, (k0_off1018 v541 k0_t31) a + S1x1x16x8x128.size a ≤ S2x8x16x8x128.size a := fun v541 k0_hw208 k0_t31 k0_h39 => k0_hw208.1.2.2.2.2.2.2.2.2.2.2.1 k0_t31 k0_h39
theorem k0_off1019_inb : ∀ (v541 : BitVec 32) (k0_hw208 : k0_chk208 v541) (k0_t31 : Fin (k0_t31_loop v541).trips), ∀ (k0_h39 : k0_cond39 v541 k0_t31 = 1#1), ∀ a, (k0_off1019 v541 k0_t31) a + S1x1.size a ≤ S8x512.size a := fun v541 k0_hw208 k0_t31 k0_h39 => k0_hw208.1.2.2.2.2.2.2.2.2.2.2.2.1 k0_t31 k0_h39
theorem k0_off1020_inb : ∀ (v541 : BitVec 32) (k0_hw208 : k0_chk208 v541) (k0_t31 : Fin (k0_t31_loop v541).trips), ∀ (k0_h39 : k0_cond39 v541 k0_t31 = 1#1), ∀ a, (k0_off1020 v541 k0_t31) a + S1x1.size a ≤ S2x8.size a := fun v541 k0_hw208 k0_t31 k0_h39 => k0_hw208.1.2.2.2.2.2.2.2.2.2.2.2.2.1 k0_t31 k0_h39
theorem k0_off1021_inb : ∀ (v541 : BitVec 32) (k0_hw208 : k0_chk208 v541) (k0_t31 : Fin (k0_t31_loop v541).trips), ∀ (k0_h39 : k0_cond39 v541 k0_t31 = 1#1), ∀ a, (k0_off1021 v541 k0_t31) a + S1x1x16x8x128.size a ≤ S2x8x16x8x128.size a := fun v541 k0_hw208 k0_t31 k0_h39 => k0_hw208.1.2.2.2.2.2.2.2.2.2.2.2.2.2.1 k0_t31 k0_h39
theorem k0_off1023_inb : ∀ (v541 : BitVec 32) (k0_hw208 : k0_chk208 v541) (k0_t31 : Fin (k0_t31_loop v541).trips), ∀ (k0_h39 : k0_cond39 v541 k0_t31 = 1#1), ∀ a, (k0_off1023 v541 k0_t31) a + S1x1.size a ≤ S2x8.size a := fun v541 k0_hw208 k0_t31 k0_h39 => k0_hw208.1.2.2.2.2.2.2.2.2.2.2.2.2.2.2.1 k0_t31 k0_h39
theorem k0_off1024_inb : ∀ (v541 : BitVec 32) (k0_hw208 : k0_chk208 v541) (k0_t31 : Fin (k0_t31_loop v541).trips), ∀ (k0_h39 : k0_cond39 v541 k0_t31 = 1#1), ∀ a, (k0_off1024 v541 k0_t31) a + S1x1x16x8x128.size a ≤ S2x8x16x8x128.size a := fun v541 k0_hw208 k0_t31 k0_h39 => k0_hw208.1.2.2.2.2.2.2.2.2.2.2.2.2.2.2.2.1 k0_t31 k0_h39
theorem k0_off1025_inb : ∀ (v541 : BitVec 32) (k0_hw208 : k0_chk208 v541) (k0_t31 : Fin (k0_t31_loop v541).trips), ∀ (k0_h39 : k0_cond39 v541 k0_t31 = 1#1), ∀ a, (k0_off1025 v541 k0_t31) a + S1x1.size a ≤ S8x512.size a := fun v541 k0_hw208 k0_t31 k0_h39 => k0_hw208.1.2.2.2.2.2.2.2.2.2.2.2.2.2.2.2.2.1 k0_t31 k0_h39
theorem k0_off1026_inb : ∀ (v541 : BitVec 32) (k0_hw208 : k0_chk208 v541) (k0_t31 : Fin (k0_t31_loop v541).trips), ∀ (k0_h39 : k0_cond39 v541 k0_t31 = 1#1), ∀ a, (k0_off1026 v541 k0_t31) a + S1x1.size a ≤ S2x8.size a := fun v541 k0_hw208 k0_t31 k0_h39 => k0_hw208.1.2.2.2.2.2.2.2.2.2.2.2.2.2.2.2.2.2.1 k0_t31 k0_h39
theorem k0_off1027_inb : ∀ (v541 : BitVec 32) (k0_hw208 : k0_chk208 v541) (k0_t31 : Fin (k0_t31_loop v541).trips), ∀ (k0_h39 : k0_cond39 v541 k0_t31 = 1#1), ∀ a, (k0_off1027 v541 k0_t31) a + S1x1x16x8x128.size a ≤ S2x8x16x8x128.size a := fun v541 k0_hw208 k0_t31 k0_h39 => k0_hw208.1.2.2.2.2.2.2.2.2.2.2.2.2.2.2.2.2.2.2.1 k0_t31 k0_h39
theorem k0_off1029_inb : ∀ (v541 : BitVec 32) (k0_hw208 : k0_chk208 v541) (k0_t31 : Fin (k0_t31_loop v541).trips), ∀ (k0_h39 : k0_cond39 v541 k0_t31 = 1#1), ∀ a, (k0_off1029 v541 k0_t31) a + S1x1.size a ≤ S2x8.size a := fun v541 k0_hw208 k0_t31 k0_h39 => k0_hw208.1.2.2.2.2.2.2.2.2.2.2.2.2.2.2.2.2.2.2.2.1 k0_t31 k0_h39
theorem k0_off1030_inb : ∀ (v541 : BitVec 32) (k0_hw208 : k0_chk208 v541) (k0_t31 : Fin (k0_t31_loop v541).trips), ∀ (k0_h39 : k0_cond39 v541 k0_t31 = 1#1), ∀ a, (k0_off1030 v541 k0_t31) a + S1x1x16x8x128.size a ≤ S2x8x16x8x128.size a := fun v541 k0_hw208 k0_t31 k0_h39 => k0_hw208.1.2.2.2.2.2.2.2.2.2.2.2.2.2.2.2.2.2.2.2.2.1 k0_t31 k0_h39
theorem k0_off1031_inb : ∀ (v541 : BitVec 32) (k0_hw208 : k0_chk208 v541) (k0_t31 : Fin (k0_t31_loop v541).trips), ∀ (k0_h39 : k0_cond39 v541 k0_t31 = 1#1), ∀ a, (k0_off1031 v541 k0_t31) a + S1x1.size a ≤ S8x512.size a := fun v541 k0_hw208 k0_t31 k0_h39 => k0_hw208.1.2.2.2.2.2.2.2.2.2.2.2.2.2.2.2.2.2.2.2.2.2.1 k0_t31 k0_h39
theorem k0_off1032_inb : ∀ (v541 : BitVec 32) (k0_hw208 : k0_chk208 v541) (k0_t31 : Fin (k0_t31_loop v541).trips), ∀ (k0_h39 : k0_cond39 v541 k0_t31 = 1#1), ∀ a, (k0_off1032 v541 k0_t31) a + S1x1.size a ≤ S2x8.size a := fun v541 k0_hw208 k0_t31 k0_h39 => k0_hw208.1.2.2.2.2.2.2.2.2.2.2.2.2.2.2.2.2.2.2.2.2.2.2.1 k0_t31 k0_h39
theorem k0_off1033_inb : ∀ (v541 : BitVec 32) (k0_hw208 : k0_chk208 v541) (k0_t31 : Fin (k0_t31_loop v541).trips), ∀ (k0_h39 : k0_cond39 v541 k0_t31 = 1#1), ∀ a, (k0_off1033 v541 k0_t31) a + S1x1x16x8x128.size a ≤ S2x8x16x8x128.size a := fun v541 k0_hw208 k0_t31 k0_h39 => k0_hw208.1.2.2.2.2.2.2.2.2.2.2.2.2.2.2.2.2.2.2.2.2.2.2.2.1 k0_t31 k0_h39
theorem k0_off1035_inb : ∀ (v541 : BitVec 32) (k0_hw208 : k0_chk208 v541) (k0_t31 : Fin (k0_t31_loop v541).trips), ∀ (k0_h39 : k0_cond39 v541 k0_t31 = 1#1), ∀ a, (k0_off1035 v541 k0_t31) a + S1x1.size a ≤ S2x8.size a := fun v541 k0_hw208 k0_t31 k0_h39 => k0_hw208.1.2.2.2.2.2.2.2.2.2.2.2.2.2.2.2.2.2.2.2.2.2.2.2.2.1 k0_t31 k0_h39
theorem k0_off1036_inb : ∀ (v541 : BitVec 32) (k0_hw208 : k0_chk208 v541) (k0_t31 : Fin (k0_t31_loop v541).trips), ∀ (k0_h39 : k0_cond39 v541 k0_t31 = 1#1), ∀ a, (k0_off1036 v541 k0_t31) a + S1x1x16x8x128.size a ≤ S2x8x16x8x128.size a := fun v541 k0_hw208 k0_t31 k0_h39 => k0_hw208.1.2.2.2.2.2.2.2.2.2.2.2.2.2.2.2.2.2.2.2.2.2.2.2.2.2.1 k0_t31 k0_h39
theorem k0_off1037_inb : ∀ (v541 : BitVec 32) (k0_hw208 : k0_chk208 v541) (k0_t31 : Fin (k0_t31_loop v541).trips), ∀ (k0_h39 : k0_cond39 v541 k0_t31 = 1#1), ∀ a, (k0_off1037 v541 k0_t31) a + S1x1.size a ≤ S8x512.size a := fun v541 k0_hw208 k0_t31 k0_h39 => k0_hw208.1.2.2.2.2.2.2.2.2.2.2.2.2.2.2.2.2.2.2.2.2.2.2.2.2.2.2.1 k0_t31 k0_h39
theorem k0_off1038_inb : ∀ (v541 : BitVec 32) (k0_hw208 : k0_chk208 v541) (k0_t31 : Fin (k0_t31_loop v541).trips), ∀ (k0_h39 : k0_cond39 v541 k0_t31 = 1#1), ∀ a, (k0_off1038 v541 k0_t31) a + S1x1.size a ≤ S2x8.size a := fun v541 k0_hw208 k0_t31 k0_h39 => k0_hw208.1.2.2.2.2.2.2.2.2.2.2.2.2.2.2.2.2.2.2.2.2.2.2.2.2.2.2.2.1 k0_t31 k0_h39
theorem k0_off1039_inb : ∀ (v541 : BitVec 32) (k0_hw208 : k0_chk208 v541) (k0_t31 : Fin (k0_t31_loop v541).trips), ∀ (k0_h39 : k0_cond39 v541 k0_t31 = 1#1), ∀ a, (k0_off1039 v541 k0_t31) a + S1x1x16x8x128.size a ≤ S2x8x16x8x128.size a := fun v541 k0_hw208 k0_t31 k0_h39 => k0_hw208.1.2.2.2.2.2.2.2.2.2.2.2.2.2.2.2.2.2.2.2.2.2.2.2.2.2.2.2.2.1 k0_t31 k0_h39
theorem k0_off1041_inb : ∀ (v541 : BitVec 32) (k0_hw208 : k0_chk208 v541) (k0_t31 : Fin (k0_t31_loop v541).trips), ∀ (k0_h39 : k0_cond39 v541 k0_t31 = 1#1), ∀ a, (k0_off1041 v541 k0_t31) a + S1x1.size a ≤ S2x8.size a := fun v541 k0_hw208 k0_t31 k0_h39 => k0_hw208.1.2.2.2.2.2.2.2.2.2.2.2.2.2.2.2.2.2.2.2.2.2.2.2.2.2.2.2.2.2.1 k0_t31 k0_h39
theorem k0_off1042_inb : ∀ (v541 : BitVec 32) (k0_hw208 : k0_chk208 v541) (k0_t31 : Fin (k0_t31_loop v541).trips), ∀ (k0_h39 : k0_cond39 v541 k0_t31 = 1#1), ∀ a, (k0_off1042 v541 k0_t31) a + S1x1x16x8x128.size a ≤ S2x8x16x8x128.size a := fun v541 k0_hw208 k0_t31 k0_h39 => k0_hw208.1.2.2.2.2.2.2.2.2.2.2.2.2.2.2.2.2.2.2.2.2.2.2.2.2.2.2.2.2.2.2.1 k0_t31 k0_h39
theorem k0_off1043_inb : ∀ (v541 : BitVec 32) (k0_hw208 : k0_chk208 v541) (k0_t31 : Fin (k0_t31_loop v541).trips), ∀ (k0_h39 : k0_cond39 v541 k0_t31 = 1#1), ∀ a, (k0_off1043 v541 k0_t31) a + S1x1.size a ≤ S8x512.size a := fun v541 k0_hw208 k0_t31 k0_h39 => k0_hw208.1.2.2.2.2.2.2.2.2.2.2.2.2.2.2.2.2.2.2.2.2.2.2.2.2.2.2.2.2.2.2.2 k0_t31 k0_h39
theorem k0_off1044_inb : ∀ (v541 : BitVec 32) (k0_hw208 : k0_chk208 v541) (k0_t31 : Fin (k0_t31_loop v541).trips), ∀ (k0_h39 : k0_cond39 v541 k0_t31 = 1#1), ∀ a, (k0_off1044 v541 k0_t31) a + S1x1.size a ≤ S2x8.size a := fun v541 k0_hw208 k0_t31 k0_h39 => k0_hw208.2.1.1 k0_t31 k0_h39
theorem k0_off1045_inb : ∀ (v541 : BitVec 32) (k0_hw208 : k0_chk208 v541) (k0_t31 : Fin (k0_t31_loop v541).trips), ∀ (k0_h39 : k0_cond39 v541 k0_t31 = 1#1), ∀ a, (k0_off1045 v541 k0_t31) a + S1x1x16x8x128.size a ≤ S2x8x16x8x128.size a := fun v541 k0_hw208 k0_t31 k0_h39 => k0_hw208.2.1.2.1 k0_t31 k0_h39
theorem k0_off1047_inb : ∀ (v541 : BitVec 32) (k0_hw208 : k0_chk208 v541) (k0_t31 : Fin (k0_t31_loop v541).trips), ∀ (k0_h39 : k0_cond39 v541 k0_t31 = 1#1), ∀ a, (k0_off1047 v541 k0_t31) a + S1x1.size a ≤ S2x8.size a := fun v541 k0_hw208 k0_t31 k0_h39 => k0_hw208.2.1.2.2.1 k0_t31 k0_h39
theorem k0_off1048_inb : ∀ (v541 : BitVec 32) (k0_hw208 : k0_chk208 v541) (k0_t31 : Fin (k0_t31_loop v541).trips), ∀ (k0_h39 : k0_cond39 v541 k0_t31 = 1#1), ∀ a, (k0_off1048 v541 k0_t31) a + S1x1x16x8x128.size a ≤ S2x8x16x8x128.size a := fun v541 k0_hw208 k0_t31 k0_h39 => k0_hw208.2.1.2.2.2.1 k0_t31 k0_h39
theorem k0_off1049_inb : ∀ (v541 : BitVec 32) (k0_hw208 : k0_chk208 v541) (k0_t31 : Fin (k0_t31_loop v541).trips), ∀ (k0_h39 : k0_cond39 v541 k0_t31 = 1#1), ∀ a, (k0_off1049 v541 k0_t31) a + S1x1.size a ≤ S8x512.size a := fun v541 k0_hw208 k0_t31 k0_h39 => k0_hw208.2.1.2.2.2.2.1 k0_t31 k0_h39
theorem k0_off1050_inb : ∀ (v541 : BitVec 32) (k0_hw208 : k0_chk208 v541) (k0_t31 : Fin (k0_t31_loop v541).trips), ∀ (k0_h39 : k0_cond39 v541 k0_t31 = 1#1), ∀ a, (k0_off1050 v541 k0_t31) a + S1x1.size a ≤ S2x8.size a := fun v541 k0_hw208 k0_t31 k0_h39 => k0_hw208.2.1.2.2.2.2.2.1 k0_t31 k0_h39
theorem k0_off1051_inb : ∀ (v541 : BitVec 32) (k0_hw208 : k0_chk208 v541) (k0_t31 : Fin (k0_t31_loop v541).trips), ∀ (k0_h39 : k0_cond39 v541 k0_t31 = 1#1), ∀ a, (k0_off1051 v541 k0_t31) a + S1x1x16x8x128.size a ≤ S2x8x16x8x128.size a := fun v541 k0_hw208 k0_t31 k0_h39 => k0_hw208.2.1.2.2.2.2.2.2.1 k0_t31 k0_h39
theorem k0_off1053_inb : ∀ (v541 : BitVec 32) (k0_hw208 : k0_chk208 v541) (k0_t31 : Fin (k0_t31_loop v541).trips), ∀ (k0_h39 : k0_cond39 v541 k0_t31 = 1#1), ∀ a, (k0_off1053 v541 k0_t31) a + S1x1.size a ≤ S2x8.size a := fun v541 k0_hw208 k0_t31 k0_h39 => k0_hw208.2.1.2.2.2.2.2.2.2.1 k0_t31 k0_h39
theorem k0_off1054_inb : ∀ (v541 : BitVec 32) (k0_hw208 : k0_chk208 v541) (k0_t31 : Fin (k0_t31_loop v541).trips), ∀ (k0_h39 : k0_cond39 v541 k0_t31 = 1#1), ∀ a, (k0_off1054 v541 k0_t31) a + S1x1x16x8x128.size a ≤ S2x8x16x8x128.size a := fun v541 k0_hw208 k0_t31 k0_h39 => k0_hw208.2.1.2.2.2.2.2.2.2.2.1 k0_t31 k0_h39
theorem k0_off1055_inb : ∀ (v541 : BitVec 32) (k0_hw208 : k0_chk208 v541) (k0_t31 : Fin (k0_t31_loop v541).trips), ∀ a, (k0_off1055 v541 k0_t31) a + S1x1.size a ≤ S2x8.size a := fun v541 k0_hw208 k0_t31 => k0_hw208.2.1.2.2.2.2.2.2.2.2.2.1 k0_t31
theorem k0_off1056_inb : ∀ (v541 : BitVec 32) (k0_hw208 : k0_chk208 v541) (k0_t31 : Fin (k0_t31_loop v541).trips), ∀ a, (k0_off1056 v541 k0_t31) a + S1x1x16x8x128.size a ≤ S2x8x16x8x128.size a := fun v541 k0_hw208 k0_t31 => k0_hw208.2.1.2.2.2.2.2.2.2.2.2.2.1 k0_t31
theorem k0_off1057_inb : ∀ (v541 : BitVec 32) (k0_hw208 : k0_chk208 v541) (k0_t31 : Fin (k0_t31_loop v541).trips), ∀ a, (k0_off1057 v541 k0_t31) a + S1x1.size a ≤ S2x8.size a := fun v541 k0_hw208 k0_t31 => k0_hw208.2.1.2.2.2.2.2.2.2.2.2.2.2.1 k0_t31
theorem k0_off1058_inb : ∀ (v541 : BitVec 32) (k0_hw208 : k0_chk208 v541) (k0_t31 : Fin (k0_t31_loop v541).trips), ∀ a, (k0_off1058 v541 k0_t31) a + S1x1x16x8x128.size a ≤ S2x8x16x8x128.size a := fun v541 k0_hw208 k0_t31 => k0_hw208.2.1.2.2.2.2.2.2.2.2.2.2.2.2.1 k0_t31
theorem k0_off1059_inb : ∀ (v541 : BitVec 32) (k0_hw208 : k0_chk208 v541) (k0_t31 : Fin (k0_t31_loop v541).trips), ∀ a, (k0_off1059 v541 k0_t31) a + S1x1.size a ≤ S2x8.size a := fun v541 k0_hw208 k0_t31 => k0_hw208.2.1.2.2.2.2.2.2.2.2.2.2.2.2.2.1 k0_t31
theorem k0_off1060_inb : ∀ (v541 : BitVec 32) (k0_hw208 : k0_chk208 v541) (k0_t31 : Fin (k0_t31_loop v541).trips), ∀ a, (k0_off1060 v541 k0_t31) a + S1x1x16x8x128.size a ≤ S2x8x16x8x128.size a := fun v541 k0_hw208 k0_t31 => k0_hw208.2.1.2.2.2.2.2.2.2.2.2.2.2.2.2.2.1 k0_t31
theorem k0_off1061_inb : ∀ (v541 : BitVec 32) (k0_hw208 : k0_chk208 v541) (k0_t31 : Fin (k0_t31_loop v541).trips), ∀ a, (k0_off1061 v541 k0_t31) a + S1x1.size a ≤ S2x8.size a := fun v541 k0_hw208 k0_t31 => k0_hw208.2.1.2.2.2.2.2.2.2.2.2.2.2.2.2.2.2.1 k0_t31
theorem k0_off1062_inb : ∀ (v541 : BitVec 32) (k0_hw208 : k0_chk208 v541) (k0_t31 : Fin (k0_t31_loop v541).trips), ∀ a, (k0_off1062 v541 k0_t31) a + S1x1x16x8x128.size a ≤ S2x8x16x8x128.size a := fun v541 k0_hw208 k0_t31 => k0_hw208.2.1.2.2.2.2.2.2.2.2.2.2.2.2.2.2.2.2.1 k0_t31
theorem k0_off1063_inb : ∀ (v541 : BitVec 32) (k0_hw208 : k0_chk208 v541) (k0_t31 : Fin (k0_t31_loop v541).trips), ∀ a, (k0_off1063 v541 k0_t31) a + S1x1.size a ≤ S2x8.size a := fun v541 k0_hw208 k0_t31 => k0_hw208.2.1.2.2.2.2.2.2.2.2.2.2.2.2.2.2.2.2.2.1 k0_t31
theorem k0_off1064_inb : ∀ (v541 : BitVec 32) (k0_hw208 : k0_chk208 v541) (k0_t31 : Fin (k0_t31_loop v541).trips), ∀ a, (k0_off1064 v541 k0_t31) a + S1x1x16x8x128.size a ≤ S2x8x16x8x128.size a := fun v541 k0_hw208 k0_t31 => k0_hw208.2.1.2.2.2.2.2.2.2.2.2.2.2.2.2.2.2.2.2.2.1 k0_t31
theorem k0_off1065_inb : ∀ (v541 : BitVec 32) (k0_hw208 : k0_chk208 v541) (k0_t31 : Fin (k0_t31_loop v541).trips), ∀ a, (k0_off1065 v541 k0_t31) a + S1x1.size a ≤ S2x8.size a := fun v541 k0_hw208 k0_t31 => k0_hw208.2.1.2.2.2.2.2.2.2.2.2.2.2.2.2.2.2.2.2.2.2.1 k0_t31
theorem k0_off1066_inb : ∀ (v541 : BitVec 32) (k0_hw208 : k0_chk208 v541) (k0_t31 : Fin (k0_t31_loop v541).trips), ∀ a, (k0_off1066 v541 k0_t31) a + S1x1x16x8x128.size a ≤ S2x8x16x8x128.size a := fun v541 k0_hw208 k0_t31 => k0_hw208.2.1.2.2.2.2.2.2.2.2.2.2.2.2.2.2.2.2.2.2.2.2.1 k0_t31
theorem k0_off1067_inb : ∀ (v541 : BitVec 32) (k0_hw208 : k0_chk208 v541) (k0_t31 : Fin (k0_t31_loop v541).trips), ∀ a, (k0_off1067 v541 k0_t31) a + S1x1.size a ≤ S2x8.size a := fun v541 k0_hw208 k0_t31 => k0_hw208.2.1.2.2.2.2.2.2.2.2.2.2.2.2.2.2.2.2.2.2.2.2.2.1 k0_t31
theorem k0_off1068_inb : ∀ (v541 : BitVec 32) (k0_hw208 : k0_chk208 v541) (k0_t31 : Fin (k0_t31_loop v541).trips), ∀ a, (k0_off1068 v541 k0_t31) a + S1x1x16x8x128.size a ≤ S2x8x16x8x128.size a := fun v541 k0_hw208 k0_t31 => k0_hw208.2.1.2.2.2.2.2.2.2.2.2.2.2.2.2.2.2.2.2.2.2.2.2.2.1 k0_t31
theorem k0_off1069_inb : ∀ (v541 : BitVec 32) (k0_hw208 : k0_chk208 v541) (k0_t31 : Fin (k0_t31_loop v541).trips), ∀ a, (k0_off1069 v541 k0_t31) a + S1x1.size a ≤ S2x8.size a := fun v541 k0_hw208 k0_t31 => k0_hw208.2.1.2.2.2.2.2.2.2.2.2.2.2.2.2.2.2.2.2.2.2.2.2.2.2.1 k0_t31
theorem k0_off1070_inb : ∀ (v541 : BitVec 32) (k0_hw208 : k0_chk208 v541) (k0_t31 : Fin (k0_t31_loop v541).trips), ∀ a, (k0_off1070 v541 k0_t31) a + S1x1x16x8x128.size a ≤ S2x8x16x8x128.size a := fun v541 k0_hw208 k0_t31 => k0_hw208.2.1.2.2.2.2.2.2.2.2.2.2.2.2.2.2.2.2.2.2.2.2.2.2.2.2.1 k0_t31
theorem k0_off1071_inb : ∀ (v541 : BitVec 32) (k0_hw208 : k0_chk208 v541) (k0_t31 : Fin (k0_t31_loop v541).trips), ∀ a, (k0_off1071 v541 k0_t31) a + S1x8x16x8x128.size a ≤ S2x8x16x8x128.size a := fun v541 k0_hw208 k0_t31 => k0_hw208.2.1.2.2.2.2.2.2.2.2.2.2.2.2.2.2.2.2.2.2.2.2.2.2.2.2.2.1 k0_t31
theorem k0_t32_ok : ∀ (v541 : BitVec 32) (k0_hw208 : k0_chk208 v541), (k0_t32_loop v541).OK := fun v541 k0_hw208 => k0_hw208.2.1.2.2.2.2.2.2.2.2.2.2.2.2.2.2.2.2.2.2.2.2.2.2.2.2.2.2.1
theorem k0_off1072_inb : ∀ (v541 : BitVec 32) (k0_hw208 : k0_chk208 v541) (k0_t32 : Fin (k0_t32_loop v541).trips), ∀ (k0_h40 : k0_cond40 v541 k0_t32 = 1#1), ∀ a, (k0_off1072 v541 k0_t32) a + S1x1.size a ≤ S8x512.size a := fun v541 k0_hw208 k0_t32 k0_h40 => k0_hw208.2.1.2.2.2.2.2.2.2.2.2.2.2.2.2.2.2.2.2.2.2.2.2.2.2.2.2.2.2.1 k0_t32 k0_h40
theorem k0_off1073_inb : ∀ (v541 : BitVec 32) (k0_hw208 : k0_chk208 v541) (k0_t32 : Fin (k0_t32_loop v541).trips), ∀ (k0_h40 : k0_cond40 v541 k0_t32 = 1#1), ∀ a, (k0_off1073 v541 k0_t32) a + S1x1.size a ≤ S2x8.size a := fun v541 k0_hw208 k0_t32 k0_h40 => k0_hw208.2.1.2.2.2.2.2.2.2.2.2.2.2.2.2.2.2.2.2.2.2.2.2.2.2.2.2.2.2.2.1 k0_t32 k0_h40
theorem k0_off1074_inb : ∀ (v541 : BitVec 32) (k0_hw208 : k0_chk208 v541) (k0_t32 : Fin (k0_t32_loop v541).trips), ∀ (k0_h40 : k0_cond40 v541 k0_t32 = 1#1), ∀ a, (k0_off1074 v541 k0_t32) a + S1x1x16x8x128.size a ≤ S2x8x16x8x128.size a := fun v541 k0_hw208 k0_t32 k0_h40 => k0_hw208.2.1.2.2.2.2.2.2.2.2.2.2.2.2.2.2.2.2.2.2.2.2.2.2.2.2.2.2.2.2.2.1 k0_t32 k0_h40
theorem k0_off1076_inb : ∀ (v541 : BitVec 32) (k0_hw208 : k0_chk208 v541) (k0_t32 : Fin (k0_t32_loop v541).trips), ∀ (k0_h40 : k0_cond40 v541 k0_t32 = 1#1), ∀ a, (k0_off1076 v541 k0_t32) a + S1x1.size a ≤ S2x8.size a := fun v541 k0_hw208 k0_t32 k0_h40 => k0_hw208.2.1.2.2.2.2.2.2.2.2.2.2.2.2.2.2.2.2.2.2.2.2.2.2.2.2.2.2.2.2.2.2.1 k0_t32 k0_h40
theorem k0_off1077_inb : ∀ (v541 : BitVec 32) (k0_hw208 : k0_chk208 v541) (k0_t32 : Fin (k0_t32_loop v541).trips), ∀ (k0_h40 : k0_cond40 v541 k0_t32 = 1#1), ∀ a, (k0_off1077 v541 k0_t32) a + S1x1x16x8x128.size a ≤ S2x8x16x8x128.size a := fun v541 k0_hw208 k0_t32 k0_h40 => k0_hw208.2.1.2.2.2.2.2.2.2.2.2.2.2.2.2.2.2.2.2.2.2.2.2.2.2.2.2.2.2.2.2.2.2 k0_t32 k0_h40
theorem k0_off1078_inb : ∀ (v541 : BitVec 32) (k0_hw208 : k0_chk208 v541) (k0_t32 : Fin (k0_t32_loop v541).trips), ∀ (k0_h40 : k0_cond40 v541 k0_t32 = 1#1), ∀ a, (k0_off1078 v541 k0_t32) a + S1x1.size a ≤ S8x512.size a := fun v541 k0_hw208 k0_t32 k0_h40 => k0_hw208.2.2.1.1 k0_t32 k0_h40
theorem k0_off1079_inb : ∀ (v541 : BitVec 32) (k0_hw208 : k0_chk208 v541) (k0_t32 : Fin (k0_t32_loop v541).trips), ∀ (k0_h40 : k0_cond40 v541 k0_t32 = 1#1), ∀ a, (k0_off1079 v541 k0_t32) a + S1x1.size a ≤ S2x8.size a := fun v541 k0_hw208 k0_t32 k0_h40 => k0_hw208.2.2.1.2.1 k0_t32 k0_h40
theorem k0_off1080_inb : ∀ (v541 : BitVec 32) (k0_hw208 : k0_chk208 v541) (k0_t32 : Fin (k0_t32_loop v541).trips), ∀ (k0_h40 : k0_cond40 v541 k0_t32 = 1#1), ∀ a, (k0_off1080 v541 k0_t32) a + S1x1x16x8x128.size a ≤ S2x8x16x8x128.size a := fun v541 k0_hw208 k0_t32 k0_h40 => k0_hw208.2.2.1.2.2.1 k0_t32 k0_h40
theorem k0_off1082_inb : ∀ (v541 : BitVec 32) (k0_hw208 : k0_chk208 v541) (k0_t32 : Fin (k0_t32_loop v541).trips), ∀ (k0_h40 : k0_cond40 v541 k0_t32 = 1#1), ∀ a, (k0_off1082 v541 k0_t32) a + S1x1.size a ≤ S2x8.size a := fun v541 k0_hw208 k0_t32 k0_h40 => k0_hw208.2.2.1.2.2.2.1 k0_t32 k0_h40
theorem k0_off1083_inb : ∀ (v541 : BitVec 32) (k0_hw208 : k0_chk208 v541) (k0_t32 : Fin (k0_t32_loop v541).trips), ∀ (k0_h40 : k0_cond40 v541 k0_t32 = 1#1), ∀ a, (k0_off1083 v541 k0_t32) a + S1x1x16x8x128.size a ≤ S2x8x16x8x128.size a := fun v541 k0_hw208 k0_t32 k0_h40 => k0_hw208.2.2.1.2.2.2.2.1 k0_t32 k0_h40
theorem k0_off1084_inb : ∀ (v541 : BitVec 32) (k0_hw208 : k0_chk208 v541) (k0_t32 : Fin (k0_t32_loop v541).trips), ∀ (k0_h40 : k0_cond40 v541 k0_t32 = 1#1), ∀ a, (k0_off1084 v541 k0_t32) a + S1x1.size a ≤ S8x512.size a := fun v541 k0_hw208 k0_t32 k0_h40 => k0_hw208.2.2.1.2.2.2.2.2.1 k0_t32 k0_h40
theorem k0_off1085_inb : ∀ (v541 : BitVec 32) (k0_hw208 : k0_chk208 v541) (k0_t32 : Fin (k0_t32_loop v541).trips), ∀ (k0_h40 : k0_cond40 v541 k0_t32 = 1#1), ∀ a, (k0_off1085 v541 k0_t32) a + S1x1.size a ≤ S2x8.size a := fun v541 k0_hw208 k0_t32 k0_h40 => k0_hw208.2.2.1.2.2.2.2.2.2.1 k0_t32 k0_h40
theorem k0_off1086_inb : ∀ (v541 : BitVec 32) (k0_hw208 : k0_chk208 v541) (k0_t32 : Fin (k0_t32_loop v541).trips), ∀ (k0_h40 : k0_cond40 v541 k0_t32 = 1#1), ∀ a, (k0_off1086 v541 k0_t32) a + S1x1x16x8x128.size a ≤ S2x8x16x8x128.size a := fun v541 k0_hw208 k0_t32 k0_h40 => k0_hw208.2.2.1.2.2.2.2.2.2.2.1 k0_t32 k0_h40
theorem k0_off1088_inb : ∀ (v541 : BitVec 32) (k0_hw208 : k0_chk208 v541) (k0_t32 : Fin (k0_t32_loop v541).trips), ∀ (k0_h40 : k0_cond40 v541 k0_t32 = 1#1), ∀ a, (k0_off1088 v541 k0_t32) a + S1x1.size a ≤ S2x8.size a := fun v541 k0_hw208 k0_t32 k0_h40 => k0_hw208.2.2.1.2.2.2.2.2.2.2.2.1 k0_t32 k0_h40
theorem k0_off1089_inb : ∀ (v541 : BitVec 32) (k0_hw208 : k0_chk208 v541) (k0_t32 : Fin (k0_t32_loop v541).trips), ∀ (k0_h40 : k0_cond40 v541 k0_t32 = 1#1), ∀ a, (k0_off1089 v541 k0_t32) a + S1x1x16x8x128.size a ≤ S2x8x16x8x128.size a := fun v541 k0_hw208 k0_t32 k0_h40 => k0_hw208.2.2.1.2.2.2.2.2.2.2.2.2.1 k0_t32 k0_h40
theorem k0_off1090_inb : ∀ (v541 : BitVec 32) (k0_hw208 : k0_chk208 v541) (k0_t32 : Fin (k0_t32_loop v541).trips), ∀ (k0_h40 : k0_cond40 v541 k0_t32 = 1#1), ∀ a, (k0_off1090 v541 k0_t32) a + S1x1.size a ≤ S8x512.size a := fun v541 k0_hw208 k0_t32 k0_h40 => k0_hw208.2.2.1.2.2.2.2.2.2.2.2.2.2.1 k0_t32 k0_h40
theorem k0_off1091_inb : ∀ (v541 : BitVec 32) (k0_hw208 : k0_chk208 v541) (k0_t32 : Fin (k0_t32_loop v541).trips), ∀ (k0_h40 : k0_cond40 v541 k0_t32 = 1#1), ∀ a, (k0_off1091 v541 k0_t32) a + S1x1.size a ≤ S2x8.size a := fun v541 k0_hw208 k0_t32 k0_h40 => k0_hw208.2.2.1.2.2.2.2.2.2.2.2.2.2.2.1 k0_t32 k0_h40
theorem k0_off1092_inb : ∀ (v541 : BitVec 32) (k0_hw208 : k0_chk208 v541) (k0_t32 : Fin (k0_t32_loop v541).trips), ∀ (k0_h40 : k0_cond40 v541 k0_t32 = 1#1), ∀ a, (k0_off1092 v541 k0_t32) a + S1x1x16x8x128.size a ≤ S2x8x16x8x128.size a := fun v541 k0_hw208 k0_t32 k0_h40 => k0_hw208.2.2.1.2.2.2.2.2.2.2.2.2.2.2.2.1 k0_t32 k0_h40
theorem k0_off1094_inb : ∀ (v541 : BitVec 32) (k0_hw208 : k0_chk208 v541) (k0_t32 : Fin (k0_t32_loop v541).trips), ∀ (k0_h40 : k0_cond40 v541 k0_t32 = 1#1), ∀ a, (k0_off1094 v541 k0_t32) a + S1x1.size a ≤ S2x8.size a := fun v541 k0_hw208 k0_t32 k0_h40 => k0_hw208.2.2.1.2.2.2.2.2.2.2.2.2.2.2.2.2.1 k0_t32 k0_h40
theorem k0_off1095_inb : ∀ (v541 : BitVec 32) (k0_hw208 : k0_chk208 v541) (k0_t32 : Fin (k0_t32_loop v541).trips), ∀ (k0_h40 : k0_cond40 v541 k0_t32 = 1#1), ∀ a, (k0_off1095 v541 k0_t32) a + S1x1x16x8x128.size a ≤ S2x8x16x8x128.size a := fun v541 k0_hw208 k0_t32 k0_h40 => k0_hw208.2.2.1.2.2.2.2.2.2.2.2.2.2.2.2.2.2.1 k0_t32 k0_h40
theorem k0_off1096_inb : ∀ (v541 : BitVec 32) (k0_hw208 : k0_chk208 v541) (k0_t32 : Fin (k0_t32_loop v541).trips), ∀ (k0_h40 : k0_cond40 v541 k0_t32 = 1#1), ∀ a, (k0_off1096 v541 k0_t32) a + S1x1.size a ≤ S8x512.size a := fun v541 k0_hw208 k0_t32 k0_h40 => k0_hw208.2.2.1.2.2.2.2.2.2.2.2.2.2.2.2.2.2.2.1 k0_t32 k0_h40
theorem k0_off1097_inb : ∀ (v541 : BitVec 32) (k0_hw208 : k0_chk208 v541) (k0_t32 : Fin (k0_t32_loop v541).trips), ∀ (k0_h40 : k0_cond40 v541 k0_t32 = 1#1), ∀ a, (k0_off1097 v541 k0_t32) a + S1x1.size a ≤ S2x8.size a := fun v541 k0_hw208 k0_t32 k0_h40 => k0_hw208.2.2.1.2.2.2.2.2.2.2.2.2.2.2.2.2.2.2.2.1 k0_t32 k0_h40
theorem k0_off1098_inb : ∀ (v541 : BitVec 32) (k0_hw208 : k0_chk208 v541) (k0_t32 : Fin (k0_t32_loop v541).trips), ∀ (k0_h40 : k0_cond40 v541 k0_t32 = 1#1), ∀ a, (k0_off1098 v541 k0_t32) a + S1x1x16x8x128.size a ≤ S2x8x16x8x128.size a := fun v541 k0_hw208 k0_t32 k0_h40 => k0_hw208.2.2.1.2.2.2.2.2.2.2.2.2.2.2.2.2.2.2.2.2.1 k0_t32 k0_h40
theorem k0_off1100_inb : ∀ (v541 : BitVec 32) (k0_hw208 : k0_chk208 v541) (k0_t32 : Fin (k0_t32_loop v541).trips), ∀ (k0_h40 : k0_cond40 v541 k0_t32 = 1#1), ∀ a, (k0_off1100 v541 k0_t32) a + S1x1.size a ≤ S2x8.size a := fun v541 k0_hw208 k0_t32 k0_h40 => k0_hw208.2.2.1.2.2.2.2.2.2.2.2.2.2.2.2.2.2.2.2.2.2.1 k0_t32 k0_h40
theorem k0_off1101_inb : ∀ (v541 : BitVec 32) (k0_hw208 : k0_chk208 v541) (k0_t32 : Fin (k0_t32_loop v541).trips), ∀ (k0_h40 : k0_cond40 v541 k0_t32 = 1#1), ∀ a, (k0_off1101 v541 k0_t32) a + S1x1x16x8x128.size a ≤ S2x8x16x8x128.size a := fun v541 k0_hw208 k0_t32 k0_h40 => k0_hw208.2.2.1.2.2.2.2.2.2.2.2.2.2.2.2.2.2.2.2.2.2.2.1 k0_t32 k0_h40
theorem k0_off1102_inb : ∀ (v541 : BitVec 32) (k0_hw208 : k0_chk208 v541) (k0_t32 : Fin (k0_t32_loop v541).trips), ∀ (k0_h40 : k0_cond40 v541 k0_t32 = 1#1), ∀ a, (k0_off1102 v541 k0_t32) a + S1x1.size a ≤ S8x512.size a := fun v541 k0_hw208 k0_t32 k0_h40 => k0_hw208.2.2.1.2.2.2.2.2.2.2.2.2.2.2.2.2.2.2.2.2.2.2.2.1 k0_t32 k0_h40
theorem k0_off1103_inb : ∀ (v541 : BitVec 32) (k0_hw208 : k0_chk208 v541) (k0_t32 : Fin (k0_t32_loop v541).trips), ∀ (k0_h40 : k0_cond40 v541 k0_t32 = 1#1), ∀ a, (k0_off1103 v541 k0_t32) a + S1x1.size a ≤ S2x8.size a := fun v541 k0_hw208 k0_t32 k0_h40 => k0_hw208.2.2.1.2.2.2.2.2.2.2.2.2.2.2.2.2.2.2.2.2.2.2.2.2.1 k0_t32 k0_h40
theorem k0_off1104_inb : ∀ (v541 : BitVec 32) (k0_hw208 : k0_chk208 v541) (k0_t32 : Fin (k0_t32_loop v541).trips), ∀ (k0_h40 : k0_cond40 v541 k0_t32 = 1#1), ∀ a, (k0_off1104 v541 k0_t32) a + S1x1x16x8x128.size a ≤ S2x8x16x8x128.size a := fun v541 k0_hw208 k0_t32 k0_h40 => k0_hw208.2.2.1.2.2.2.2.2.2.2.2.2.2.2.2.2.2.2.2.2.2.2.2.2.2.1 k0_t32 k0_h40
theorem k0_off1106_inb : ∀ (v541 : BitVec 32) (k0_hw208 : k0_chk208 v541) (k0_t32 : Fin (k0_t32_loop v541).trips), ∀ (k0_h40 : k0_cond40 v541 k0_t32 = 1#1), ∀ a, (k0_off1106 v541 k0_t32) a + S1x1.size a ≤ S2x8.size a := fun v541 k0_hw208 k0_t32 k0_h40 => k0_hw208.2.2.1.2.2.2.2.2.2.2.2.2.2.2.2.2.2.2.2.2.2.2.2.2.2.2.1 k0_t32 k0_h40
theorem k0_off1107_inb : ∀ (v541 : BitVec 32) (k0_hw208 : k0_chk208 v541) (k0_t32 : Fin (k0_t32_loop v541).trips), ∀ (k0_h40 : k0_cond40 v541 k0_t32 = 1#1), ∀ a, (k0_off1107 v541 k0_t32) a + S1x1x16x8x128.size a ≤ S2x8x16x8x128.size a := fun v541 k0_hw208 k0_t32 k0_h40 => k0_hw208.2.2.1.2.2.2.2.2.2.2.2.2.2.2.2.2.2.2.2.2.2.2.2.2.2.2.2.1 k0_t32 k0_h40
theorem k0_off1108_inb : ∀ (v541 : BitVec 32) (k0_hw208 : k0_chk208 v541) (k0_t32 : Fin (k0_t32_loop v541).trips), ∀ (k0_h40 : k0_cond40 v541 k0_t32 = 1#1), ∀ a, (k0_off1108 v541 k0_t32) a + S1x1.size a ≤ S8x512.size a := fun v541 k0_hw208 k0_t32 k0_h40 => k0_hw208.2.2.1.2.2.2.2.2.2.2.2.2.2.2.2.2.2.2.2.2.2.2.2.2.2.2.2.2.1 k0_t32 k0_h40
theorem k0_off1109_inb : ∀ (v541 : BitVec 32) (k0_hw208 : k0_chk208 v541) (k0_t32 : Fin (k0_t32_loop v541).trips), ∀ (k0_h40 : k0_cond40 v541 k0_t32 = 1#1), ∀ a, (k0_off1109 v541 k0_t32) a + S1x1.size a ≤ S2x8.size a := fun v541 k0_hw208 k0_t32 k0_h40 => k0_hw208.2.2.1.2.2.2.2.2.2.2.2.2.2.2.2.2.2.2.2.2.2.2.2.2.2.2.2.2.2.1 k0_t32 k0_h40
theorem k0_off1110_inb : ∀ (v541 : BitVec 32) (k0_hw208 : k0_chk208 v541) (k0_t32 : Fin (k0_t32_loop v541).trips), ∀ (k0_h40 : k0_cond40 v541 k0_t32 = 1#1), ∀ a, (k0_off1110 v541 k0_t32) a + S1x1x16x8x128.size a ≤ S2x8x16x8x128.size a := fun v541 k0_hw208 k0_t32 k0_h40 => k0_hw208.2.2.1.2.2.2.2.2.2.2.2.2.2.2.2.2.2.2.2.2.2.2.2.2.2.2.2.2.2.2.1 k0_t32 k0_h40
theorem k0_off1112_inb : ∀ (v541 : BitVec 32) (k0_hw208 : k0_chk208 v541) (k0_t32 : Fin (k0_t32_loop v541).trips), ∀ (k0_h40 : k0_cond40 v541 k0_t32 = 1#1), ∀ a, (k0_off1112 v541 k0_t32) a + S1x1.size a ≤ S2x8.size a := fun v541 k0_hw208 k0_t32 k0_h40 => k0_hw208.2.2.1.2.2.2.2.2.2.2.2.2.2.2.2.2.2.2.2.2.2.2.2.2.2.2.2.2.2.2.2.1 k0_t32 k0_h40
theorem k0_off1113_inb : ∀ (v541 : BitVec 32) (k0_hw208 : k0_chk208 v541) (k0_t32 : Fin (k0_t32_loop v541).trips), ∀ (k0_h40 : k0_cond40 v541 k0_t32 = 1#1), ∀ a, (k0_off1113 v541 k0_t32) a + S1x1x16x8x128.size a ≤ S2x8x16x8x128.size a := fun v541 k0_hw208 k0_t32 k0_h40 => k0_hw208.2.2.1.2.2.2.2.2.2.2.2.2.2.2.2.2.2.2.2.2.2.2.2.2.2.2.2.2.2.2.2.2.1 k0_t32 k0_h40
theorem k0_off1114_inb : ∀ (v541 : BitVec 32) (k0_hw208 : k0_chk208 v541) (k0_t32 : Fin (k0_t32_loop v541).trips), ∀ (k0_h40 : k0_cond40 v541 k0_t32 = 1#1), ∀ a, (k0_off1114 v541 k0_t32) a + S1x1.size a ≤ S8x512.size a := fun v541 k0_hw208 k0_t32 k0_h40 => k0_hw208.2.2.1.2.2.2.2.2.2.2.2.2.2.2.2.2.2.2.2.2.2.2.2.2.2.2.2.2.2.2.2.2.2.1 k0_t32 k0_h40
theorem k0_off1115_inb : ∀ (v541 : BitVec 32) (k0_hw208 : k0_chk208 v541) (k0_t32 : Fin (k0_t32_loop v541).trips), ∀ (k0_h40 : k0_cond40 v541 k0_t32 = 1#1), ∀ a, (k0_off1115 v541 k0_t32) a + S1x1.size a ≤ S2x8.size a := fun v541 k0_hw208 k0_t32 k0_h40 => k0_hw208.2.2.1.2.2.2.2.2.2.2.2.2.2.2.2.2.2.2.2.2.2.2.2.2.2.2.2.2.2.2.2.2.2.2 k0_t32 k0_h40
theorem k0_off1116_inb : ∀ (v541 : BitVec 32) (k0_hw208 : k0_chk208 v541) (k0_t32 : Fin (k0_t32_loop v541).trips), ∀ (k0_h40 : k0_cond40 v541 k0_t32 = 1#1), ∀ a, (k0_off1116 v541 k0_t32) a + S1x1x16x8x128.size a ≤ S2x8x16x8x128.size a := fun v541 k0_hw208 k0_t32 k0_h40 => k0_hw208.2.2.2.1 k0_t32 k0_h40
theorem k0_off1118_inb : ∀ (v541 : BitVec 32) (k0_hw208 : k0_chk208 v541) (k0_t32 : Fin (k0_t32_loop v541).trips), ∀ (k0_h40 : k0_cond40 v541 k0_t32 = 1#1), ∀ a, (k0_off1118 v541 k0_t32) a + S1x1.size a ≤ S2x8.size a := fun v541 k0_hw208 k0_t32 k0_h40 => k0_hw208.2.2.2.2.1 k0_t32 k0_h40
theorem k0_off1119_inb : ∀ (v541 : BitVec 32) (k0_hw208 : k0_chk208 v541) (k0_t32 : Fin (k0_t32_loop v541).trips), ∀ (k0_h40 : k0_cond40 v541 k0_t32 = 1#1), ∀ a, (k0_off1119 v541 k0_t32) a + S1x1x16x8x128.size a ≤ S2x8x16x8x128.size a := fun v541 k0_hw208 k0_t32 k0_h40 => k0_hw208.2.2.2.2.2.1 k0_t32 k0_h40
theorem k0_off1120_inb : ∀ (v541 : BitVec 32) (k0_hw208 : k0_chk208 v541) (k0_t32 : Fin (k0_t32_loop v541).trips), ∀ a, (k0_off1120 v541 k0_t32) a + S1x1.size a ≤ S2x8.size a := fun v541 k0_hw208 k0_t32 => k0_hw208.2.2.2.2.2.2.1 k0_t32
theorem k0_off1121_inb : ∀ (v541 : BitVec 32) (k0_hw208 : k0_chk208 v541) (k0_t32 : Fin (k0_t32_loop v541).trips), ∀ a, (k0_off1121 v541 k0_t32) a + S1x1x16x8x128.size a ≤ S2x8x16x8x128.size a := fun v541 k0_hw208 k0_t32 => k0_hw208.2.2.2.2.2.2.2.1 k0_t32
theorem k0_off1122_inb : ∀ (v541 : BitVec 32) (k0_hw208 : k0_chk208 v541) (k0_t32 : Fin (k0_t32_loop v541).trips), ∀ a, (k0_off1122 v541 k0_t32) a + S1x1.size a ≤ S2x8.size a := fun v541 k0_hw208 k0_t32 => k0_hw208.2.2.2.2.2.2.2.2.1 k0_t32
theorem k0_off1123_inb : ∀ (v541 : BitVec 32) (k0_hw208 : k0_chk208 v541) (k0_t32 : Fin (k0_t32_loop v541).trips), ∀ a, (k0_off1123 v541 k0_t32) a + S1x1x16x8x128.size a ≤ S2x8x16x8x128.size a := fun v541 k0_hw208 k0_t32 => k0_hw208.2.2.2.2.2.2.2.2.2.1 k0_t32
theorem k0_off1124_inb : ∀ (v541 : BitVec 32) (k0_hw208 : k0_chk208 v541) (k0_t32 : Fin (k0_t32_loop v541).trips), ∀ a, (k0_off1124 v541 k0_t32) a + S1x1.size a ≤ S2x8.size a := fun v541 k0_hw208 k0_t32 => k0_hw208.2.2.2.2.2.2.2.2.2.2.1 k0_t32
theorem k0_off1125_inb : ∀ (v541 : BitVec 32) (k0_hw208 : k0_chk208 v541) (k0_t32 : Fin (k0_t32_loop v541).trips), ∀ a, (k0_off1125 v541 k0_t32) a + S1x1x16x8x128.size a ≤ S2x8x16x8x128.size a := fun v541 k0_hw208 k0_t32 => k0_hw208.2.2.2.2.2.2.2.2.2.2.2.1 k0_t32
theorem k0_off1126_inb : ∀ (v541 : BitVec 32) (k0_hw208 : k0_chk208 v541) (k0_t32 : Fin (k0_t32_loop v541).trips), ∀ a, (k0_off1126 v541 k0_t32) a + S1x1.size a ≤ S2x8.size a := fun v541 k0_hw208 k0_t32 => k0_hw208.2.2.2.2.2.2.2.2.2.2.2.2.1 k0_t32
theorem k0_off1127_inb : ∀ (v541 : BitVec 32) (k0_hw208 : k0_chk208 v541) (k0_t32 : Fin (k0_t32_loop v541).trips), ∀ a, (k0_off1127 v541 k0_t32) a + S1x1x16x8x128.size a ≤ S2x8x16x8x128.size a := fun v541 k0_hw208 k0_t32 => k0_hw208.2.2.2.2.2.2.2.2.2.2.2.2.2.1 k0_t32
theorem k0_off1128_inb : ∀ (v541 : BitVec 32) (k0_hw208 : k0_chk208 v541) (k0_t32 : Fin (k0_t32_loop v541).trips), ∀ a, (k0_off1128 v541 k0_t32) a + S1x1.size a ≤ S2x8.size a := fun v541 k0_hw208 k0_t32 => k0_hw208.2.2.2.2.2.2.2.2.2.2.2.2.2.2.1 k0_t32
theorem k0_off1129_inb : ∀ (v541 : BitVec 32) (k0_hw208 : k0_chk208 v541) (k0_t32 : Fin (k0_t32_loop v541).trips), ∀ a, (k0_off1129 v541 k0_t32) a + S1x1x16x8x128.size a ≤ S2x8x16x8x128.size a := fun v541 k0_hw208 k0_t32 => k0_hw208.2.2.2.2.2.2.2.2.2.2.2.2.2.2.2.1 k0_t32
theorem k0_off1130_inb : ∀ (v541 : BitVec 32) (k0_hw208 : k0_chk208 v541) (k0_t32 : Fin (k0_t32_loop v541).trips), ∀ a, (k0_off1130 v541 k0_t32) a + S1x1.size a ≤ S2x8.size a := fun v541 k0_hw208 k0_t32 => k0_hw208.2.2.2.2.2.2.2.2.2.2.2.2.2.2.2.2.1 k0_t32
theorem k0_off1131_inb : ∀ (v541 : BitVec 32) (k0_hw208 : k0_chk208 v541) (k0_t32 : Fin (k0_t32_loop v541).trips), ∀ a, (k0_off1131 v541 k0_t32) a + S1x1x16x8x128.size a ≤ S2x8x16x8x128.size a := fun v541 k0_hw208 k0_t32 => k0_hw208.2.2.2.2.2.2.2.2.2.2.2.2.2.2.2.2.2.1 k0_t32
theorem k0_off1132_inb : ∀ (v541 : BitVec 32) (k0_hw208 : k0_chk208 v541) (k0_t32 : Fin (k0_t32_loop v541).trips), ∀ a, (k0_off1132 v541 k0_t32) a + S1x1.size a ≤ S2x8.size a := fun v541 k0_hw208 k0_t32 => k0_hw208.2.2.2.2.2.2.2.2.2.2.2.2.2.2.2.2.2.2.1 k0_t32
theorem k0_off1133_inb : ∀ (v541 : BitVec 32) (k0_hw208 : k0_chk208 v541) (k0_t32 : Fin (k0_t32_loop v541).trips), ∀ a, (k0_off1133 v541 k0_t32) a + S1x1x16x8x128.size a ≤ S2x8x16x8x128.size a := fun v541 k0_hw208 k0_t32 => k0_hw208.2.2.2.2.2.2.2.2.2.2.2.2.2.2.2.2.2.2.2.1 k0_t32
theorem k0_off1134_inb : ∀ (v541 : BitVec 32) (k0_hw208 : k0_chk208 v541) (k0_t32 : Fin (k0_t32_loop v541).trips), ∀ a, (k0_off1134 v541 k0_t32) a + S1x1.size a ≤ S2x8.size a := fun v541 k0_hw208 k0_t32 => k0_hw208.2.2.2.2.2.2.2.2.2.2.2.2.2.2.2.2.2.2.2.2.1 k0_t32
theorem k0_off1135_inb : ∀ (v541 : BitVec 32) (k0_hw208 : k0_chk208 v541) (k0_t32 : Fin (k0_t32_loop v541).trips), ∀ a, (k0_off1135 v541 k0_t32) a + S1x1x16x8x128.size a ≤ S2x8x16x8x128.size a := fun v541 k0_hw208 k0_t32 => k0_hw208.2.2.2.2.2.2.2.2.2.2.2.2.2.2.2.2.2.2.2.2.2.1 k0_t32
theorem k0_off1136_inb : ∀ (v541 : BitVec 32) (k0_hw208 : k0_chk208 v541) (k0_t32 : Fin (k0_t32_loop v541).trips), ∀ a, (k0_off1136 v541 k0_t32) a + S1x8x16x8x128.size a ≤ S2x8x16x8x128.size a := fun v541 k0_hw208 k0_t32 => k0_hw208.2.2.2.2.2.2.2.2.2.2.2.2.2.2.2.2.2.2.2.2.2.2 k0_t32

def k0_dev1 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v591 : BitVec 32 := Scalar.muli v2 c4_i32_356
  let v592 : BitVec 32 := Scalar.addi c0_i32_357 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v593 : BitVec 32 := Scalar.muli v5 c2_i32_358
  let v594 : BitVec 32 := Scalar.addi v592 v593
  let c1_i32_352 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.subi c1_i32_352 v8
  let c1_i32_359 : BitVec 32 := 1#32
  let v595 : BitVec 32 := Scalar.muli v587 c1_i32_359
  let v596 : BitVec 32 := Scalar.addi v594 v595
  v596.toNat
def k0_dev2 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v597 : BitVec 32 := Scalar.muli v2 c4_i32_361
  let v598 : BitVec 32 := Scalar.addi c0_i32_362 v597
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v588 : BitVec 32 := Scalar.subi c1_i32_353 v5
  let c2_i32_363 : BitVec 32 := 2#32
  let v599 : BitVec 32 := Scalar.muli v588 c2_i32_363
  let v600 : BitVec 32 := Scalar.addi v598 v599
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v601 : BitVec 32 := Scalar.muli v8 c1_i32_364
  let v602 : BitVec 32 := Scalar.addi v600 v601
  v602.toNat
def k0_dev3 (d0 : Dev nD) : Nat :=
  let c0_i32_367 : BitVec 32 := 0#32
  let c1_i32_354 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.subi c1_i32_354 v2
  let c4_i32_366 : BitVec 32 := 4#32
  let v603 : BitVec 32 := Scalar.muli v589 c4_i32_366
  let v604 : BitVec 32 := Scalar.addi c0_i32_367 v603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v605 : BitVec 32 := Scalar.muli v5 c2_i32_368
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_369 : BitVec 32 := 1#32
  let v607 : BitVec 32 := Scalar.muli v8 c1_i32_369
  let v608 : BitVec 32 := Scalar.addi v606 v607
  v608.toNat
def k0_dev4 (d0 : Dev nD) : Nat :=
  let c0_i32_377 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_376 : BitVec 32 := 4#32
  let v609 : BitVec 32 := Scalar.muli v2 c4_i32_376
  let v610 : BitVec 32 := Scalar.addi c0_i32_377 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v611 : BitVec 32 := Scalar.muli v5 c2_i32_378
  let v612 : BitVec 32 := Scalar.addi v610 v611
  let c1_i32_352 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.subi c1_i32_352 v8
  let c1_i32_379 : BitVec 32 := 1#32
  let v613 : BitVec 32 := Scalar.muli v587 c1_i32_379
  let v614 : BitVec 32 := Scalar.addi v612 v613
  v614.toNat
def k0_dev5 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v621 : BitVec 32 := Scalar.muli v2 c4_i32_388
  let v622 : BitVec 32 := Scalar.addi c0_i32_389 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v623 : BitVec 32 := Scalar.muli v5 c2_i32_390
  let v624 : BitVec 32 := Scalar.addi v622 v623
  let c1_i32_352 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v587 : BitVec 32 := Scalar.subi c1_i32_352 v8
  let c1_i32_391 : BitVec 32 := 1#32
  let v625 : BitVec 32 := Scalar.muli v587 c1_i32_391
  let v626 : BitVec 32 := Scalar.addi v624 v625
  v626.toNat
def k0_dev6 (d0 : Dev nD) : Nat :=
  let c0_i32_473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_472 : BitVec 32 := 4#32
  let v696 : BitVec 32 := Scalar.muli v2 c4_i32_472
  let v697 : BitVec 32 := Scalar.addi c0_i32_473 v696
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v588 : BitVec 32 := Scalar.subi c1_i32_353 v5
  let c2_i32_474 : BitVec 32 := 2#32
  let v698 : BitVec 32 := Scalar.muli v588 c2_i32_474
  let v699 : BitVec 32 := Scalar.addi v697 v698
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_475 : BitVec 32 := 1#32
  let v700 : BitVec 32 := Scalar.muli v8 c1_i32_475
  let v701 : BitVec 32 := Scalar.addi v699 v700
  v701.toNat
def k0_dev7 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v708 : BitVec 32 := Scalar.muli v2 c4_i32_484
  let v709 : BitVec 32 := Scalar.addi c0_i32_485 v708
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v588 : BitVec 32 := Scalar.subi c1_i32_353 v5
  let c2_i32_486 : BitVec 32 := 2#32
  let v710 : BitVec 32 := Scalar.muli v588 c2_i32_486
  let v711 : BitVec 32 := Scalar.addi v709 v710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_487 : BitVec 32 := 1#32
  let v712 : BitVec 32 := Scalar.muli v8 c1_i32_487
  let v713 : BitVec 32 := Scalar.addi v711 v712
  v713.toNat
def k0_dev8 (d0 : Dev nD) : Nat :=
  let c0_i32_569 : BitVec 32 := 0#32
  let c1_i32_354 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.subi c1_i32_354 v2
  let c4_i32_568 : BitVec 32 := 4#32
  let v783 : BitVec 32 := Scalar.muli v589 c4_i32_568
  let v784 : BitVec 32 := Scalar.addi c0_i32_569 v783
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_570 : BitVec 32 := 2#32
  let v785 : BitVec 32 := Scalar.muli v5 c2_i32_570
  let v786 : BitVec 32 := Scalar.addi v784 v785
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_571 : BitVec 32 := 1#32
  let v787 : BitVec 32 := Scalar.muli v8 c1_i32_571
  let v788 : BitVec 32 := Scalar.addi v786 v787
  v788.toNat
def k0_dev9 (d0 : Dev nD) : Nat :=
  let c0_i32_581 : BitVec 32 := 0#32
  let c1_i32_354 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.subi c1_i32_354 v2
  let c4_i32_580 : BitVec 32 := 4#32
  let v795 : BitVec 32 := Scalar.muli v589 c4_i32_580
  let v796 : BitVec 32 := Scalar.addi c0_i32_581 v795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_582 : BitVec 32 := 2#32
  let v797 : BitVec 32 := Scalar.muli v5 c2_i32_582
  let v798 : BitVec 32 := Scalar.addi v796 v797
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_583 : BitVec 32 := 1#32
  let v799 : BitVec 32 := Scalar.muli v8 c1_i32_583
  let v800 : BitVec 32 := Scalar.addi v798 v799
  v800.toNat
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some (((Real.sqrt 128)⁻¹ : ℝ) : EReal)
  | _ => none
variable {F : FTy → Type} [FloatOps F] [Named F]
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S_ : Shape := ⟨0, ![]⟩
abbrev S8192 : Shape := ⟨1, ![8192]⟩
abbrev S8x1 : Shape := ⟨2, ![8, 1]⟩
abbrev S1x8192 : Shape := ⟨2, ![1, 8192]⟩
abbrev S8x8192 : Shape := ⟨2, ![8, 8192]⟩
abbrev S8x1x1x8192 : Shape := ⟨4, ![8, 1, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 59
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S1024x16x8x128, .f32⟩
  | .hbm, ⟨2, _⟩ => ⟨S1024x16x8x128, .f32⟩
  | .hbm, ⟨3, _⟩ => ⟨S8x512, .i32⟩
  | .hbm, ⟨4, _⟩ => ⟨S8, .i32⟩
  | .hbm, ⟨5, _⟩ => ⟨S8x512x1, .i32⟩
  | .hbm, ⟨6, _⟩ => ⟨S8x512x16x8x128, .f32⟩
  | .hbm, ⟨7, _⟩ => ⟨S8x8192x8x128, .f32⟩
  | .hbm, ⟨8, _⟩ => ⟨S8x512x1, .i32⟩
  | .hbm, ⟨9, _⟩ => ⟨S8x512x16x8x128, .f32⟩
  | .hbm, ⟨10, _⟩ => ⟨S8x8192x8x128, .f32⟩
  | .hbm, ⟨11, _⟩ => ⟨S8x8x1x8192, .f32⟩
  | .hbm, ⟨12, _⟩ => ⟨S_, .f32⟩
  | .hbm, ⟨13, _⟩ => ⟨S_, .f32⟩
  | .hbm, ⟨14, _⟩ => ⟨S8x8x1x8192, .f32⟩
  | .hbm, ⟨15, _⟩ => ⟨S8x8x1x8192, .f32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8x1, .i32⟩
  | .hbm, ⟨36, _⟩ => ⟨S1x8192, .i32⟩
  | .hbm, ⟨37, _⟩ => ⟨S8x8192, .i32⟩
  | .hbm, ⟨38, _⟩ => ⟨S8x8192, .i32⟩
  | .hbm, ⟨39, _⟩ => ⟨S8x8192, .i1⟩
  | .hbm, ⟨40, _⟩ => ⟨S8x1x1x8192, .i1⟩
  | .hbm, ⟨41, _⟩ => ⟨S_, .f32⟩
  | .hbm, ⟨42, _⟩ => ⟨S_, .f32⟩
  | .hbm, ⟨43, _⟩ => ⟨S8x8x1x8192, .i1⟩
  | .hbm, ⟨44, _⟩ => ⟨S8x8x1x8192, .f32⟩
  | .hbm, ⟨45, _⟩ => ⟨S8x8x1x8192, .f32⟩
  | .hbm, ⟨46, _⟩ => ⟨S_, .f32⟩
  | .hbm, ⟨47, _⟩ => ⟨S8x8x1, .f32⟩
  | .hbm, ⟨48, _⟩ => ⟨S8x8x1x1, .f32⟩
  | .hbm, ⟨49, _⟩ => ⟨S8x8x1x8192, .f32⟩
  | .hbm, ⟨50, _⟩ => ⟨S8x8x1x8192, .f32⟩
  | .hbm, ⟨51, _⟩ => ⟨S8x8x1x8192, .f32⟩
  | .hbm, ⟨52, _⟩ => ⟨S_, .f32⟩
  | .hbm, ⟨53, _⟩ => ⟨S8x8x1, .f32⟩
  | .hbm, ⟨54, _⟩ => ⟨S8x8x1x1, .f32⟩
  | .hbm, ⟨55, _⟩ => ⟨S8x8x1x8192, .f32⟩
  | .hbm, ⟨56, _⟩ => ⟨S8x8x1x8192, .f32⟩
  | .hbm, ⟨57, _⟩ => ⟨S8x8x128x1, .f32⟩
  | .hbm, ⟨58, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_c : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_c_0 : Ref sig .tc := ⟨.hbm, 31, rfl⟩
abbrev main_call2_v12 : Ref sig .tc := ⟨.hbm, 32, rfl⟩
abbrev main_call2_v13 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]
-- ==== Proof.Prog.lean ====
/- The kernel's body written once in the item `i` of the batch: the eight copies of an item that the program
   unrolls are the same text at eight literals, and so are the two first merges of the cross-device part. `Same.lean`
   proves the printed body equal to `body` below. -/
module

public import proofs.«01_k».proof.Proof.Gen.KernelIdeal
public import Idealize.ShloMosaic.Lib.LoopRemainder

@[expose] public section

set_option maxRecDepth 16384

noncomputable section

namespace Paged

open Idealize.ShloMosaic Idealize.SL.Sem Idealize.ShloMosaic.TcCoe
open Cert.KernelIdeal Cert.KernelIdeal.Facts₀ Cert.KernelIdeal.Facts

variable {F : FTy → Type} [FloatOps F] [Named F]

/-- The operands of the kernel function. -/
structure Args where
  q : Memref sig .tc .vmem S8x1x8x128 .f32
  hq : q.IsWhole
  bt : Memref sig .tc .smem S8x512 .i32
  hbt : bt.IsWhole
  ln : Memref sig .tc .smem S8 .i32
  hln : ln.IsWhole
  kh : Memref sig .tc .hbm S512x16x8x128 .f32
  hkh : kh.IsWhole
  vh : Memref sig .tc .hbm S512x16x8x128 .f32
  hvh : vh.IsWhole
  out : Memref sig .tc .vmem S8x1x8x128 .f32
  hout : out.IsWhole
  pg : Memref sig .tc .smem S8x512 .i32
  hpg : pg.IsWhole
  kb : Memref sig .tc .vmem S2x8x16x8x128 .f32
  hkb : kb.IsWhole
  vb : Memref sig .tc .vmem S2x8x16x8x128 .f32
  hvb : vb.IsWhole
  ks : DmaSems sig S2x8
  vs : DmaSems sig S2x8
  acc : Memref sig .tc .vmem S8x8x128 .f32
  hacc : acc.IsWhole
  ml : Memref sig .tc .vmem S2x8x8 .f32
  hml : ml.IsWhole
  racc : Memref sig .tc .vmem S3x8x8x128 .f32
  hracc : racc.IsWhole
  rml : Memref sig .tc .vmem S3x2x8x8 .f32
  hrml : rml.IsWhole
  ss : DmaSems sig S3x2
  rs : DmaSems sig S3x2

/-- The program type of the body, by what it returns. -/
abbrev TProg (F : FTy → Type) (α : Type) := Prog (TpuEff nD τ sig (Elt F) Λ₀ .tc) α

/-! ## Index words -/

/-- Row of a table of 512 entries each at a word. -/
abbrev rowAt (i : ℕ) (w : BitVec 32) : Fin 2 → ℕ := ![i, w.toNat]
/-- The entry of the compacted table that step `x` fetches next into its slot `c`. -/
abbrev nextWord (x : BitVec 32) (c : ℕ) : BitVec 32 :=
  Scalar.addi (Scalar.muli (Scalar.addi x 1#32) 8#32) (BitVec.ofNat 32 c)
/-- The buffer of the even or odd step. -/
abbrev bufOf (x : BitVec 32) : ℕ := (Scalar.remsi x 2#32).toNat
abbrev semAt (b c : ℕ) : Fin 2 → ℕ := ![b, c]
abbrev slotAt (b c : ℕ) : Fin 5 → ℕ := ![b, c, 0, 0, 0]

/-! ## The bounds each item assumes -/

abbrev inTable (o : Fin 2 → ℕ) : Prop := ∀ a, o a + S1x1.size a ≤ S8x512.size a
abbrev inSems (o : Fin 2 → ℕ) : Prop := ∀ a, o a + S1x1.size a ≤ S2x8.size a
abbrev inBuf (o : Fin 5 → ℕ) : Prop := ∀ a, o a + S1x1x16x8x128.size a ≤ S2x8x16x8x128.size a
abbrev inHalf (o : Fin 5 → ℕ) : Prop := ∀ a, o a + S1x8x16x8x128.size a ≤ S2x8x16x8x128.size a
abbrev inPages (o : Fin 4 → ℕ) : Prop := ∀ a, o a + S1x16x8x128.size a ≤ S512x16x8x128.size a

/-- The bounds of the compaction of item `i` at its length `w`. -/
def lenChk (i : ℕ) (d : Dev nD) (w : BitVec 32) : Prop :=
  ((k0_t1_loop d w).OK) ∧
  (∀ t : Fin (k0_t1_loop d w).trips, inTable ![i, k0_off1 d w t 1]) ∧
  ((k0_t2_loop d w).OK) ∧
  (∀ t : Fin (k0_t2_loop d w).trips, inTable ![i, k0_off3 d w t 1])

/-- The bounds of one compacted entry. -/
def putChk (i : ℕ) (d : Dev nD) (n p : BitVec 32) : Prop :=
  (∀ _ : k0_cond1 d p = 1#1, inTable (rowAt i n))

/-- One bound at every trip of a loop. -/
abbrev every (L : Scf.Loop 32) (Q : BitVec 32 → Prop) : Prop := ∀ t : Fin L.trips, Q (Scf.iv L.lb L.st t)
/-- One bound at every trip that fetches. -/
abbrev everyIf (L : Scf.Loop 32) (C : Fin L.trips → BitVec 1) (Q : BitVec 32 → Prop) : Prop :=
  ∀ t : Fin L.trips, ∀ _ : C t = 1#1, Q (Scf.iv L.lb L.st t)

section chk
variable (i : ℕ) (L : Scf.Loop 32) (C : Fin L.trips → BitVec 1)
abbrev nextRow (c : ℕ) : Prop := everyIf L C fun x => inTable (rowAt i (nextWord x c))
abbrev nextSem (c : ℕ) : Prop := everyIf L C fun x => inSems (semAt (bufOf (Scalar.addi x 1#32)) c)
abbrev nextBuf (c : ℕ) : Prop := everyIf L C fun x => inBuf (slotAt (bufOf (Scalar.addi x 1#32)) c)
abbrev nextEnd (c : ℕ) (X : Prop) : Prop := nextSem L C c ∧ nextBuf L C c ∧ nextSem L C c ∧ nextBuf L C c ∧ X
abbrev nextAll (c : ℕ) (X : Prop) : Prop := nextRow i L C c ∧ nextEnd L C c X
abbrev thisSem (c : ℕ) : Prop := every L fun x => inSems (semAt (bufOf x) c)
abbrev thisBuf (c : ℕ) : Prop := every L fun x => inBuf (slotAt (bufOf x) c)
abbrev thisAll (c : ℕ) (X : Prop) : Prop := thisSem L c ∧ thisBuf L c ∧ X
abbrev thisHalf : Prop := every L fun x => inHalf (slotAt (bufOf x) 0)
end chk

/-- The bounds of the paged loop of item `i` at its count `n`, in the order the program states them. -/
def stepChk (i : ℕ) (n : BitVec 32) : Prop :=
  ((k0_t3_loop n).OK ∧ (
    nextAll i _ (k0_cond4 n) 0 <| nextAll i _ (k0_cond4 n) 1 <| nextAll i _ (k0_cond4 n) 2 <|
    nextAll i _ (k0_cond4 n) 3 <| nextAll i _ (k0_cond4 n) 4 <| nextAll i _ (k0_cond4 n) 5 <|
    nextRow i _ (k0_cond4 n) 6)) ∧
  (nextEnd _ (k0_cond4 n) 6 <| nextAll i _ (k0_cond4 n) 7 <|
    thisAll (k0_t3_loop n) 0 <| thisAll (k0_t3_loop n) 1 <| thisAll (k0_t3_loop n) 2 <|
    thisAll (k0_t3_loop n) 3 <| thisAll (k0_t3_loop n) 4 <| thisAll (k0_t3_loop n) 5 <|
    thisAll (k0_t3_loop n) 6 <| thisAll (k0_t3_loop n) 7 <| thisHalf (k0_t3_loop n) ∧
    (k0_t4_loop n).OK ∧
    (nextRow i _ (k0_cond5 n) 0 ∧ nextSem _ (k0_cond5 n) 0 ∧ nextBuf _ (k0_cond5 n) 0 ∧ nextSem _ (k0_cond5 n) 0 ∧
      nextBuf _ (k0_cond5 n) 0)) ∧
  (nextAll i _ (k0_cond5 n) 1 <| nextAll i _ (k0_cond5 n) 2 <| nextAll i _ (k0_cond5 n) 3 <|
    nextAll i _ (k0_cond5 n) 4 <| nextAll i _ (k0_cond5 n) 5 <| nextAll i _ (k0_cond5 n) 6 <|
    nextRow i _ (k0_cond5 n) 7 ∧ nextSem _ (k0_cond5 n) 7) ∧
  (nextBuf _ (k0_cond5 n) 7 ∧ nextSem _ (k0_cond5 n) 7 ∧ nextBuf _ (k0_cond5 n) 7 ∧ (
    thisAll (k0_t4_loop n) 0 <| thisAll (k0_t4_loop n) 1 <| thisAll (k0_t4_loop n) 2 <|
    thisAll (k0_t4_loop n) 3 <| thisAll (k0_t4_loop n) 4 <| thisAll (k0_t4_loop n) 5 <|
    thisAll (k0_t4_loop n) 6 <| thisAll (k0_t4_loop n) 7 <| thisHalf (k0_t4_loop n)))

theorem stepChk.nextRow {i : ℕ} {n : BitVec 32} (h : stepChk i n) {c : ℕ} (hc : c < 8) : nextRow i _ (k0_cond4 n) c := by
  obtain ⟨⟨-, h0, -, -, -, -, h1, -, -, -, -, h2, -, -, -, -, h3, -, -, -, -, h4, -, -, -, -, h5, -, -, -, -, h6⟩,
    ⟨-, -, -, -, h7, -⟩, -⟩ := h
  interval_cases c <;> assumption

theorem stepChk.nextSem {i : ℕ} {n : BitVec 32} (h : stepChk i n) {c : ℕ} (hc : c < 8) : nextSem _ (k0_cond4 n) c := by
  obtain ⟨⟨-, -, h0, -, -, -, -, h1, -, -, -, -, h2, -, -, -, -, h3, -, -, -, -, h4, -, -, -, -, h5, -⟩,
    ⟨h6, -, -, -, -, h7, -⟩, -⟩ := h
  interval_cases c <;> assumption

theorem stepChk.nextBuf {i : ℕ} {n : BitVec 32} (h : stepChk i n) {c : ℕ} (hc : c < 8) : nextBuf _ (k0_cond4 n) c := by
  obtain ⟨⟨-, -, -, h0, -, -, -, -, h1, -, -, -, -, h2, -, -, -, -, h3, -, -, -, -, h4, -, -, -, -, h5, -⟩,
    ⟨-, h6, -, -, -, -, h7, -⟩, -⟩ := h
  interval_cases c <;> assumption

theorem stepChk.thisSem {i : ℕ} {n : BitVec 32} (h : stepChk i n) {c : ℕ} (hc : c < 8) : thisSem (k0_t3_loop n) c := by
  obtain ⟨-, ⟨-, -, -, -, -, -, -, -, -, h0, -, h1, -, h2, -, h3, -, h4, -, h5, -, h6, -, h7, -⟩, -⟩ := h
  interval_cases c <;> assumption

theorem stepChk.thisBuf {i : ℕ} {n : BitVec 32} (h : stepChk i n) {c : ℕ} (hc : c < 8) : thisBuf (k0_t3_loop n) c := by
  obtain ⟨-, ⟨-, -, -, -, -, -, -, -, -, -, h0, -, h1, -, h2, -, h3, -, h4, -, h5, -, h6, -, h7, -⟩, -⟩ := h
  interval_cases c <;> assumption

theorem stepChk.thisHalf {i : ℕ} {n : BitVec 32} (h : stepChk i n) : thisHalf (k0_t3_loop n) := by
  obtain ⟨-, ⟨-, -, -, -, -, -, -, -, -, -, -, -, -, -, -, -, -, -, -, -, -, -, -, -, -, h0, -⟩, -⟩ := h
  exact h0

theorem stepChk.ok {i : ℕ} {n : BitVec 32} (h : stepChk i n) : (k0_t3_loop n).OK := h.1.1

/-! ## The transfers -/

section prog
variable [Facts] (A : Args)

/-- Page `o` of a page array. -/
abbrev pageOf (m : Memref sig .tc .hbm S512x16x8x128 .f32) (o : Fin 4 → ℕ) (ho : inPages o) : Memref sig .tc .hbm S16x8x128 .f32 :=
  (m.slice (Rect.unit (s := S512x16x8x128) o S1x16x8x128.size ho) (fun _ => rfl)).squeeze S16x8x128 squeezes_S1x16x8x128_S16x8x128
/-- One slot of a double buffer. -/
abbrev slotOf (m : Memref sig .tc .vmem S2x8x16x8x128 .f32) (o : Fin 5 → ℕ) (ho : inBuf o) : Memref sig .tc .vmem S16x8x128 .f32 :=
  (m.slice (Rect.unit (s := S2x8x16x8x128) o S1x1x16x8x128.size ho) (fun _ => rfl)).squeeze S16x8x128 squeezes_S1x1x16x8x128_S16x8x128
/-- Its semaphore. -/
abbrev semOf (m : DmaSems sig S2x8) (o : Fin 2 → ℕ) (ho : inSems o) : DmaSem sig :=
  ((m.slice (Rect.unit (s := S2x8) o S1x1.size ho)).squeeze S_ squeezes_S1x1_S_).sem

/-- Start the fetch of one page's keys and values into a slot. -/
def fetch {α : Type} (Q : Prop) (hQ : Q) (r : Fin 2 → ℕ) (hr : inTable r) (e : Fin 2 → ℕ) (he : inSems e)
    (o : Fin 5 → ℕ) (ho : inBuf o) (K : TProg F α) : TProg F α := do
  let v ← smemLoad A.pg (Rect.unit (s := S8x512) r S1x1.size hr) numel1_S1x1 rfl
  have hw : Q → inPages (k0_off5 v) := (← Prog.lift (TpuEff.assume (Q → inPages (k0_off5 v)) (Classical.propDecidable _))).down
  Prog.lift (.enqueueDma (pageOf A.kh (k0_off5 v) (hw hQ)) (.here (slotOf A.kb o ho)) (.dma (semOf A.ks e he))
    ((View.wordExact_bits rfl).reshape _ _) ((View.wordExact_bits rfl).reshape _ _) ⟨Or.inl rfl, trivial⟩)
  Prog.lift (.enqueueDma (pageOf A.vh (k0_off5 v) (hw hQ)) (.here (slotOf A.vb o ho)) (.dma (semOf A.vs e he))
    ((View.wordExact_bits rfl).reshape _ _) ((View.wordExact_bits rfl).reshape _ _) ⟨Or.inl rfl, trivial⟩)
  K

/-- Await the keys and the values of one slot. -/
def await {α : Type} (e : Fin 2 → ℕ) (he : inSems e) (o : Fin 5 → ℕ) (ho : inBuf o) (K : TProg F α) : TProg F α := do
  Prog.lift (.waitDma2 (semOf A.ks e he) (pageOf A.kh ![0, 0, 0, 0] inb_S512x16x8x128_S1x16x8x128_0_0_0_0) (slotOf A.kb o ho)
    ((View.wordExact_bits rfl).reshape _ _) ((View.wordExact_bits rfl).reshape _ _))
  Prog.lift (.waitDma2 (semOf A.vs e he) (pageOf A.vh ![0, 0, 0, 0] inb_S512x16x8x128_S1x16x8x128_0_0_0_0) (slotOf A.vb o ho)
    ((View.wordExact_bits rfl).reshape _ _) ((View.wordExact_bits rfl).reshape _ _))
  K

/-! ## One step of the online softmax -/

/-- The carried maximum, sum and weighted sum of one item. -/
abbrev Carry (F : FTy → Type) := FVec F S8x1 .f32 × FVec F S8x1 .f32 × FVec F S8x128 .f32

/-- The entry number, in the item's compacted table, of each lane of step `x`. -/
def laneWord (x : BitVec 32) : IVec S1x128 32 :=
  have a : IVec S1x128 32 := iota .tc S1x128 32 [1] iota_S1x128_d1_w32
  have b : IVec S1x128 32 := broadcast S1x128 16#32
  have sg : IVec S1x128 32 := subi (extui 32 (cmpi .sgt a (broadcast S1x128 0#32)) natLt_1_32) (extui 32 (cmpi .slt a (broadcast S1x128 0#32)) natLt_1_32)
  have one : IVec S1x128 32 := broadcast S1x128 (Scalar.subi (Scalar.extui (Scalar.cmpi .sgt 16#32 0#32)) (Scalar.extui (Scalar.cmpi .slt 16#32 0#32)))
  have neg : IVec S1x128 1 := andi (cmpi .ne sg one) (cmpi .ne (remsi a b) (broadcast S1x128 0#32))
  addi (broadcast S1x128 (Scalar.muli x 8#32)) (select neg (subi (divsi a b) (broadcast S1x128 1#32)) (divsi a b))

/-- The scores of a step, the lanes past the count masked. -/
def scores (x n : BitVec 32) (q : FVec F S8x128 .f32) (k : FVec F S128x8x128 .f32) : FVec F S8x128 .f32 :=
  have live : IVec S1x128 1 := cmpi .slt (laneWord x) (broadcast S1x128 n)
  select (broadcastTo S8x128 (shapeCast S1x128 live shapeCasts_S1x128_S1x128) broadcasts_S1x128_S8x128)
    (mulf (matmul dot_S8x128_S128x8x128_S8x128_1_2_n_0_0_1 none q k (constant S8x128 .f32 0x00000000#32))
      (broadcast S8x128 (Named.named κ "s" 0x3DB504F3#32)))
    (broadcast S8x128 (Named.named κ "mask" 0xF149F2CA#32))

/-- The carry after a step on the loaded half buffers. -/
def stepVal (x n : BitVec 32) (q : FVec F S8x128 .f32) (kc vc : Vec F S1x8x16x8x128 .f32) (a : Carry F) : Carry F :=
  have k : FVec F S128x8x128 .f32 := shapeCast S128x8x128 (shapeCast S8x16x8x128 kc shapeCasts_S1x8x16x8x128_S8x16x8x128) shapeCasts_S8x16x8x128_S128x8x128
  have v : FVec F S128x8x128 .f32 := shapeCast S128x8x128 (shapeCast S8x16x8x128 vc shapeCasts_S1x8x16x8x128_S8x16x8x128) shapeCasts_S8x16x8x128_S128x8x128
  have s : FVec F S8x128 .f32 := scores x n q k
  have m : FVec F S8x1 .f32 := maximumf a.1 (shapeCast S8x1 (multiReduction .maximumf [1] S8 s 0xFF800000#32 reduces_S8x128_S8 (.inl rfl) rfl) shapeCasts_S8_S8x1)
  have p : FVec F S8x128 .f32 := exp (subf s (broadcastTo S8x128 m broadcasts_S8x1_S8x128))
  have e : FVec F S8x1 .f32 := exp (subf a.1 m)
  (m,
   addf (mulf a.2.1 e) (shapeCast S8x1 (multiReduction .add [1] S8 p 0x00000000#32 reduces_S8x128_S8 (.inl rfl) rfl) shapeCasts_S8_S8x1),
   addf (mulf a.2.2 (broadcastTo S8x128 e broadcasts_S8x1_S8x128))
    (matmul dot_S8x128_S128x8x128_S8x128_1_0_n_2_0_1 none p v (constant S8x128 .f32 0x00000000#32)))

/-- The carry before the first step. -/
def carry0 : Carry F :=
  (broadcast S8x1 (Named.named κ "mask" 0xF149F2CA#32), broadcast S8x1 (Scalar.ofBits .f32 0x00000000#32),
   broadcast S8x128 (Scalar.ofBits .f32 0x00000000#32))

/-! ## An item -/

/-- Write the local page number of a kept entry. -/
def put (i : ℕ) (d : Dev nD) (n p : BitVec 32) (hp : putChk i d n p) : TProg F PUnit :=
  if hc : k0_cond1 d p = 1#1 then do
    let _ ← smemLoad A.pg (Rect.unit (s := S8x512) (rowAt i n) S1x1.size (hp hc)) numel1_S1x1 rfl
    Prog.lift (.store A.pg (Rect.unit (s := S8x512) (rowAt i n) S1x1.size (hp hc)) (fun _ => Scalar.andi p 511#32) Finset.univ
      (View.stores_smem_one rfl numel1_S1x1) (.inl rfl))
    pure ⟨⟩
  else pure ⟨⟩

/-- One entry of the block table: kept, as a local page number, when the page lives on this device. -/
def keep (i : ℕ) (d : Dev nD) (w : BitVec 32) (h : lenChk i d w) (t : Fin (k0_t1_loop d w).trips) (n : BitVec 32) : TProg F (BitVec 32) := do
  let p ← smemLoad A.bt (Rect.unit (s := S8x512) ![i, k0_off1 d w t 1] S1x1.size (h.2.1 t)) numel1_S1x1 rfl
  have hp : putChk i d n p := (← Prog.lift (TpuEff.assume (putChk i d n p) (Classical.propDecidable _))).down
  put A i d n p hp
  pure (Scalar.addi n (Scalar.select (k0_cond1' d p) 1#32 0#32))
where
  /-- Whether the entry's page lives here. -/
  k0_cond1' (d : Dev nD) (p : BitVec 32) : BitVec 1 :=
    Scalar.cmpi .eq
      (Scalar.select
        (Scalar.andi
          (Scalar.cmpi .ne (Scalar.subi (Scalar.extui (Scalar.cmpi .sgt p 0#32)) (Scalar.extui (Scalar.cmpi .slt p 0#32)))
            (Scalar.subi (Scalar.extui (Scalar.cmpi .sgt 512#32 0#32)) (Scalar.extui (Scalar.cmpi .slt 512#32 0#32))))
          (Scalar.cmpi .ne (Scalar.remsi p 512#32) 0#32))
        (Scalar.subi (Scalar.divsi p 512#32) 1#32) (Scalar.divsi p 512#32))
      (Scalar.remsi (Scalar.divsi (Dev.word d) 1#32) 2#32)

/-- Start `k` fetches of the first step, from slot `c`. -/
def startFrom (i : ℕ) (hi : i < 8) (n : BitVec 32) (hQ : k0_cond3 n = 1#1) : ℕ → (c : ℕ) → TProg F PUnit
  | 0, _ => pure ⟨⟩
  | k + 1, c => if hc : c < 8 then fetch A (k0_cond3 n = 1#1) hQ ![i, c] (by intro a; fin_cases a <;> simp [S1x1, S8x512] <;> omega)
      (semAt 0 c) (by intro a; fin_cases a <;> simp [S1x1, S2x8] <;> omega)
      (slotAt 0 c) (by intro a; fin_cases a <;> simp [S1x1x16x8x128, S2x8x16x8x128] <;> omega) (startFrom i hi n hQ k (c + 1)) else pure ⟨⟩

/-- Start `k` fetches of the next step, from slot `c`. -/
def nextFrom (i : ℕ) (n : BitVec 32) (h : stepChk i n) (t : Fin (k0_t3_loop n).trips) (hQ : k0_cond4 n t = 1#1) : ℕ → (c : ℕ) → TProg F PUnit
  | 0, _ => pure ⟨⟩
  | k + 1, c => if hc : c < 8 then fetch A (k0_cond4 n t = 1#1) hQ _ (h.nextRow hc t hQ) _ (h.nextSem hc t hQ) _ (h.nextBuf hc t hQ)
      (nextFrom i n h t hQ k (c + 1)) else pure ⟨⟩

/-- Fetch the first step's pages if there is a first step. -/
def startIf (i : ℕ) (hi : i < 8) (n : BitVec 32) : TProg F PUnit :=
  if hQ : k0_cond3 n = 1#1 then startFrom A i hi n hQ 8 0 else pure ⟨⟩

/-- Fetch the next step's pages if there is a next step. -/
def nextIf (i : ℕ) (n : BitVec 32) (h : stepChk i n) (t : Fin (k0_t3_loop n).trips) : TProg F PUnit :=
  if hQ : k0_cond4 n t = 1#1 then nextFrom A i n h t hQ 8 0 else pure ⟨⟩

/-- Await `k` slots of this step, from slot `c`. -/
def awaitFrom {α : Type} (i : ℕ) (n : BitVec 32) (h : stepChk i n) (t : Fin (k0_t3_loop n).trips) (K : TProg F α) : ℕ → (c : ℕ) → TProg F α
  | 0, _ => K
  | k + 1, c => if hc : c < 8 then await A _ (h.thisSem hc t) _ (h.thisBuf hc t) (awaitFrom i n h t K k (c + 1)) else K

/-- One step: fetch the next step's pages, await this one's, fold them in. -/
def stepBody (i : ℕ) (n : BitVec 32) (h : stepChk i n) (q : FVec F S8x128 .f32) (t : Fin (k0_t3_loop n).trips) (a : Carry F) : TProg F (Carry F) := do
  nextIf A i n h t
  awaitFrom A i n h t (do
    let kc : Vec F S1x8x16x8x128 .f32 ← Prog.lift (.load A.kb (Rect.unit (s := S2x8x16x8x128) (slotAt (bufOf (Scf.iv 0#32 1#32 t)) 0) S1x8x16x8x128.size (h.thisHalf t)).toLoadRect (View.loadsAt_vmem h_S1x8x16x8x128))
    let vc : Vec F S1x8x16x8x128 .f32 ← Prog.lift (.load A.vb (Rect.unit (s := S2x8x16x8x128) (slotAt (bufOf (Scf.iv 0#32 1#32 t)) 0) S1x8x16x8x128.size (h.thisHalf t)).toLoadRect (View.loadsAt_vmem h_S1x8x16x8x128))
    pure (stepVal (Scf.iv 0#32 1#32 t) n q kc vc a)) 8 0

/-- Row `i` of the accumulators. -/
abbrev accRow (i : ℕ) (hi : i < 8) : Rect S8x8x128 :=
  Rect.unit (s := S8x8x128) ![i, 0, 0] S1x8x128.size (by intro a; fin_cases a <;> simp [S1x8x128, S8x8x128] <;> omega)
/-- Row `i` of the maxima (`j = 0`) or of the sums (`j = 1`). -/
abbrev mlRow (j i : ℕ) (hj : j < 2) (hi : i < 8) : Rect S2x8x8 :=
  Rect.unit (s := S2x8x8) ![j, i, 0] S1x1x8.size (by intro a; fin_cases a <;> simp [S1x1x8, S2x8x8] <;> omega)

/-- Leave the carry of item `i` in the accumulators. -/
def leave {α : Type} (i : ℕ) (hi : i < 8) (a : Carry F) (K : TProg F α) : TProg F α := do
  let _ : Vec F S1x8x128 .f32 ← Prog.lift (.load A.acc (accRow i hi).toLoadRect (View.loadsAt_vmem h_S1x8x128))
  Prog.lift (.store A.acc (accRow i hi) (shapeCast S1x8x128 a.2.2 shapeCasts_S8x128_S1x8x128) Finset.univ (View.stores_vmem_bits_univ h_S1x8x128 rfl) (.inl rfl))
  let _ : Vec F S1x1x8 .f32 ← Prog.lift (.load A.ml (mlRow 0 i (by decide) hi).toLoadRect (View.loadsAt_vmem h_S1x1x8))
  Prog.lift (.store A.ml (mlRow 0 i (by decide) hi) (shapeCast S1x1x8 (shapeCast S8 a.1 shapeCasts_S8x1_S8) shapeCasts_S8_S1x1x8) Finset.univ (View.stores_vmem_bits_univ h_S1x1x8 rfl) (.inl rfl))
  let _ : Vec F S1x1x8 .f32 ← Prog.lift (.load A.ml (mlRow 1 i (by decide) hi).toLoadRect (View.loadsAt_vmem h_S1x1x8))
  Prog.lift (.store A.ml (mlRow 1 i (by decide) hi) (shapeCast S1x1x8 (shapeCast S8 a.2.1 shapeCasts_S8x1_S8) shapeCasts_S8_S1x1x8) Finset.univ (View.stores_vmem_bits_univ h_S1x1x8 rfl) (.inl rfl))
  K

/-- Item `i`: compact its table, then fold its pages in, two half buffers in turn. -/
def item {α : Type} (i : ℕ) (hi : i < 8) (d : Dev nD) (K : TProg F α) : TProg F α := do
  let w ← smemLoad A.ln (Rect.unit (s := S8) ![i] S1.size (by intro a; fin_cases a; simp [S1, S8]; omega)) numel1_S1 rfl
  have hw : lenChk i d w := (← Prog.lift (TpuEff.assume (lenChk i d w) (Classical.propDecidable _))).down
  let n ← Scf.Loop.for (k0_t1_loop d w) hw.1 0#32 (keep A i d w hw)
  have hn : stepChk i n := (← Prog.lift (TpuEff.assume (stepChk i n) (Classical.propDecidable _))).down
  let q : Vec F S1x1x8x128 .f32 ← Prog.lift (.load A.q (Rect.unit (s := S8x1x8x128) ![i, 0, 0, 0] S1x1x8x128.size (by intro a; fin_cases a <;> simp [S1x1x8x128, S8x1x8x128] <;> omega)).toLoadRect (View.loadsAt_vmem h_S1x1x8x128))
  startIf A i hi n
  let a ← Scf.Loop.for (k0_t3_loop n) hn.ok carry0 (stepBody A i n hn (shapeCast S8x128 q shapeCasts_S1x1x8x128_S8x128))
  leave A i hi a K

/-! ## Across the devices -/

/-- The landing slot of phase `s` for the accumulators. -/
abbrev raccAt (s : ℕ) (hs : s < 3) : Memref sig .tc .vmem S8x8x128 .f32 :=
  (A.racc.slice (Rect.unit (s := S3x8x8x128) ![s, 0, 0, 0] S1x8x8x128.size (by intro a; fin_cases a <;> simp [S1x8x8x128, S3x8x8x128] <;> omega)) (fun _ => rfl)).squeeze S8x8x128 squeezes_S1x8x8x128_S8x8x128
/-- The landing slot of phase `s` for the maxima and sums. -/
abbrev rmlAt (s : ℕ) (hs : s < 3) : Memref sig .tc .vmem S2x8x8 .f32 :=
  (A.rml.slice (Rect.unit (s := S3x2x8x8) ![s, 0, 0, 0] S1x2x8x8.size (by intro a; fin_cases a <;> simp [S1x2x8x8, S3x2x8x8] <;> omega)) (fun _ => rfl)).squeeze S2x8x8 squeezes_S1x2x8x8_S2x8x8
/-- Semaphore `j` of phase `s`. -/
abbrev xsem (m : DmaSems sig S3x2) (s j : ℕ) (hs : s < 3) (hj : j < 2) : DmaSem sig :=
  ((m.slice (Rect.unit (s := S3x2) ![s, j] S1x1.size (by intro a; fin_cases a <;> simp [S1x1, S3x2] <;> omega))).squeeze S_ squeezes_S1x1_S_).sem

/-- Phase `s`: send both arrays to the partner and await both ways. -/
def exchange {α : Type} (s : ℕ) (hs : s < 3) (pa pm : Dev nD) (K : TProg F α) : TProg F α := do
  Prog.lift (.enqueueDma A.acc (.remote (Dev.tc pa) (raccAt A s hs) (.dma (xsem A.ss s 0 hs (by decide)))) (.dma (xsem A.rs s 0 hs (by decide)))
    A.hacc.wordExact ((View.wordExact_bits rfl).reshape _ _) ⟨⟨rfl, Or.inl rfl⟩, trivial⟩)
  Prog.lift (.enqueueDma A.ml (.remote (Dev.tc pm) (rmlAt A s hs) (.dma (xsem A.ss s 1 hs (by decide)))) (.dma (xsem A.rs s 1 hs (by decide)))
    A.hml.wordExact ((View.wordExact_bits rfl).reshape _ _) ⟨⟨rfl, Or.inl rfl⟩, trivial⟩)
  Prog.lift (.waitDma2 (xsem A.ss s 0 hs (by decide)) (raccAt A s hs) A.acc ((View.wordExact_bits rfl).reshape _ _) A.hacc.wordExact)
  Prog.lift (.waitDma2 (xsem A.rs s 0 hs (by decide)) A.acc (raccAt A s hs) A.hacc.wordExact ((View.wordExact_bits rfl).reshape _ _))
  Prog.lift (.waitDma2 (xsem A.ss s 1 hs (by decide)) (rmlAt A s hs) A.ml ((View.wordExact_bits rfl).reshape _ _) A.hml.wordExact)
  Prog.lift (.waitDma2 (xsem A.rs s 1 hs (by decide)) A.ml (rmlAt A s hs) A.hml.wordExact ((View.wordExact_bits rfl).reshape _ _))
  K

/-- The merged maximum, sum and weighted sum of two devices. -/
abbrev Merged (F : FTy → Type) := FVec F S8x8 .f32 × FVec F S8x8 .f32 × FVec F S8x8x128 .f32

/-- The online-softmax merge of two partial results. -/
def mergeVal (m1 l1 : Vec F S1x8x8 .f32) (m2 l2 : Vec F S1x1x8x8 .f32) (a1 : Vec F S8x8x128 .f32) (a2 : Vec F S1x8x8x128 .f32) : Merged F :=
  have x1 : FVec F S8x8 .f32 := shapeCast S8x8 m1 shapeCasts_S1x8x8_S8x8
  have x2 : FVec F S8x8 .f32 := shapeCast S8x8 m2 shapeCasts_S1x1x8x8_S8x8
  have m : FVec F S8x8 .f32 := maximumf x1 x2
  have e1 : FVec F S8x8 .f32 := exp (subf x1 m)
  have e2 : FVec F S8x8 .f32 := exp (subf x2 m)
  (m,
   addf (mulf e1 (shapeCast S8x8 l1 shapeCasts_S1x8x8_S8x8)) (mulf e2 (shapeCast S8x8 l2 shapeCasts_S1x1x8x8_S8x8)),
   addf (mulf (broadcastTo S8x8x128 (shapeCast S8x8x1 e1 shapeCasts_S8x8_S8x8x1) broadcasts_S8x8x1_S8x8x128) a1)
    (mulf (broadcastTo S8x8x128 (shapeCast S8x8x1 e2 shapeCasts_S8x8_S8x8x1) broadcasts_S8x8x1_S8x8x128) (shapeCast S8x8x128 a2 shapeCasts_S1x8x8x128_S8x8x128)))

/-- The maxima (`j = 0`) or sums (`j = 1`). -/
abbrev mlHalf (j : ℕ) (hj : j < 2) : Rect S2x8x8 :=
  Rect.unit (s := S2x8x8) ![j, 0, 0] S1x8x8.size (by intro a; fin_cases a <;> simp [S1x8x8, S2x8x8] <;> omega)
abbrev rmlHalf (s j : ℕ) (hs : s < 3) (hj : j < 2) : Rect S3x2x8x8 :=
  Rect.unit (s := S3x2x8x8) ![s, j, 0, 0] S1x1x8x8.size (by intro a; fin_cases a <;> simp [S1x1x8x8, S3x2x8x8] <;> omega)
abbrev accAll : Rect S8x8x128 := Rect.unit (s := S8x8x128) ![0, 0, 0] S8x8x128.size inb_S8x8x128_S8x8x128_0_0_0
abbrev raccSlot (s : ℕ) (hs : s < 3) : Rect S3x8x8x128 :=
  Rect.unit (s := S3x8x8x128) ![s, 0, 0, 0] S1x8x8x128.size (by intro a; fin_cases a <;> simp [S1x8x8x128, S3x8x8x128] <;> omega)

/-- Read this device's partial result and the one that landed in phase `s`, and merge them. -/
def merge {α : Type} (s : ℕ) (hs : s < 3) (K : Merged F → TProg F α) : TProg F α := do
  let m1 : Vec F S1x8x8 .f32 ← Prog.lift (.load A.ml (mlHalf 0 (by decide)).toLoadRect (View.loadsAt_vmem h_S1x8x8))
  let l1 : Vec F S1x8x8 .f32 ← Prog.lift (.load A.ml (mlHalf 1 (by decide)).toLoadRect (View.loadsAt_vmem h_S1x8x8))
  let m2 : Vec F S1x1x8x8 .f32 ← Prog.lift (.load A.rml (rmlHalf s 0 hs (by decide)).toLoadRect (View.loadsAt_vmem h_S1x1x8x8))
  let l2 : Vec F S1x1x8x8 .f32 ← Prog.lift (.load A.rml (rmlHalf s 1 hs (by decide)).toLoadRect (View.loadsAt_vmem h_S1x1x8x8))
  let a1 : Vec F S8x8x128 .f32 ← Prog.lift (.load A.acc accAll.toLoadRect (View.loadsAt_vmem h_S8x8x128))
  let a2 : Vec F S1x8x8x128 .f32 ← Prog.lift (.load A.racc (raccSlot s hs).toLoadRect (View.loadsAt_vmem h_S1x8x8x128))
  K (mergeVal m1 l1 m2 l2 a1 a2)

/-- Keep a merged result for the next phase. -/
def putBack {α : Type} (r : Merged F) (K : TProg F α) : TProg F α := do
  let _ : Vec F S8x8x128 .f32 ← Prog.lift (.load A.acc accAll.toLoadRect (View.loadsAt_vmem h_S8x8x128))
  Prog.lift (.store A.acc accAll (shapeCast S8x8x128 r.2.2 shapeCasts_S8x8x128_S8x8x128) Finset.univ (View.stores_vmem_bits_univ h_S8x8x128 rfl) (.inl rfl))
  let _ : Vec F S1x8x8 .f32 ← Prog.lift (.load A.ml (mlHalf 0 (by decide)).toLoadRect (View.loadsAt_vmem h_S1x8x8))
  Prog.lift (.store A.ml (mlHalf 0 (by decide)) (shapeCast S1x8x8 r.1 shapeCasts_S8x8_S1x8x8) Finset.univ (View.stores_vmem_bits_univ h_S1x8x8 rfl) (.inl rfl))
  let _ : Vec F S1x8x8 .f32 ← Prog.lift (.load A.ml (mlHalf 1 (by decide)).toLoadRect (View.loadsAt_vmem h_S1x8x8))
  Prog.lift (.store A.ml (mlHalf 1 (by decide)) (shapeCast S1x8x8 r.2.1 shapeCasts_S8x8_S1x8x8) Finset.univ (View.stores_vmem_bits_univ h_S1x8x8 rfl) (.inl rfl))
  K

/-- The normalised result. -/
def outVal (r : Merged F) : Vec F S8x1x8x128 .f32 :=
  shapeCast S8x1x8x128 (divf r.2.2 (broadcastTo S8x8x128 (shapeCast S8x8x1 r.2.1 shapeCasts_S8x8_S8x8x1) broadcasts_S8x8x1_S8x8x128)) shapeCasts_S8x8x128_S8x1x8x128

/-- The barrier semaphore. -/
abbrev barSem : Sem sig := (SemArray.scalar (sig.barrier 0 rfl) : Sems sig S_).sem

/-- Meet the three partners at the barrier. -/
def meet {α : Type} (d : Dev nD) (K : TProg F α) : TProg F α := do
  semSignalWord (⟨k0_dev1 d, k0_dev1_lt d⟩ : Dev nD) barSem 1#32
  semSignalWord (⟨k0_dev2 d, k0_dev2_lt d⟩ : Dev nD) barSem 1#32
  semSignalWord (⟨k0_dev3 d, k0_dev3_lt d⟩ : Dev nD) barSem 1#32
  semWaitWord barSem 3#32
  K

/-- Write the result. -/
def finish (r : Merged F) : TProg F PUnit := do
  let _ : Vec F S8x1x8x128 .f32 ← Prog.lift (.load A.out (Rect.unit (s := S8x1x8x128) ![0, 0, 0, 0] S8x1x8x128.size inb_S8x1x8x128_S8x1x8x128_0_0_0_0).toLoadRect (View.loadsAt_vmem h_S8x1x8x128))
  Prog.lift (.store A.out (Rect.unit (s := S8x1x8x128) ![0, 0, 0, 0] S8x1x8x128.size inb_S8x1x8x128_S8x1x8x128_0_0_0_0) (outVal r) Finset.univ (View.stores_vmem_bits_univ h_S8x1x8x128 rfl) (.inl rfl))
  pure ⟨⟩

/-- The cross-device part. -/
def across (d : Dev nD) : TProg F PUnit :=
  meet d <|
  exchange A 0 (by decide) ⟨k0_dev4 d, k0_dev4_lt d⟩ ⟨k0_dev5 d, k0_dev5_lt d⟩ <| merge A 0 (by decide) fun r => putBack A r <|
  exchange A 1 (by decide) ⟨k0_dev6 d, k0_dev6_lt d⟩ ⟨k0_dev7 d, k0_dev7_lt d⟩ <| merge A 1 (by decide) fun r => putBack A r <|
  exchange A 2 (by decide) ⟨k0_dev8 d, k0_dev8_lt d⟩ ⟨k0_dev9 d, k0_dev9_lt d⟩ <| merge A 2 (by decide) fun r => finish A r

/-- Items `i …` , `k` of them, then the cross-device part. -/
def itemsFrom (d : Dev nD) : ℕ → (i : ℕ) → TProg F PUnit
  | 0, _ => across A d
  | k + 1, i => if hi : i < 8 then item A i hi d (itemsFrom d k (i + 1)) else across A d

/-- The kernel's body. -/
def body : TProg F PUnit := do
  let d : Dev nD ← Prog.lift .deviceId
  itemsFrom A d 8 0

end prog

end Paged

end
-- ==== Proof.Words.lean ====
/- The words of the kernel's control flow read as numbers: the two loops' trips, the conditions, and the bounds each
   item assumes. -/
module

public import proofs.«01_k».proof.Proof.Prog
public import Idealize.ShloMosaic.Lib.PageRing.Trips
public import Idealize.ShloMosaic.Lib.PageRing.Index

@[expose] public section

set_option maxRecDepth 16384

namespace Paged

open Idealize.ShloMosaic Idealize.SL.Sem Idealize.ShloMosaic.TcCoe Idealize.ShloMosaic.Affine
open Cert.KernelIdeal
open Idealize.ShloMosaic.PageRing (lit)

/-! ## Floor division as the program computes it -/

/-- The sign of a word. -/
abbrev sgnW (x : BitVec 32) : BitVec 32 :=
  Scalar.subi (Scalar.extui (Scalar.cmpi .sgt x 0#32)) (Scalar.extui (Scalar.cmpi .slt x 0#32))

/-- Floor division of words. -/
abbrev fdiv (x u : BitVec 32) : BitVec 32 :=
  Scalar.select (Scalar.andi (Scalar.cmpi .ne (sgnW x) (sgnW u)) (Scalar.cmpi .ne (Scalar.remsi x u) 0#32))
    (Scalar.subi (Scalar.divsi x u) 1#32) (Scalar.divsi x u)

theorem fdiv_isInt {x : BitVec 32} {e : ℤ} (hx : IsInt x e) (h0 : 0 ≤ e) (U : ℕ) (hU : 0 < U) (hU' : U < 2 ^ 31) (he : e < 2 ^ 31) :
    IsInt (fdiv x (BitVec.ofNat 32 U)) (e / U) := by
  have hu : IsInt (BitVec.ofNat 32 U) (U : ℤ) := lit U hU'
  have hsU : IsInt (sgnW (BitVec.ofNat 32 U)) 1 :=
    Affine.subi (extui_holds (sgt_holds hu (lit 0) (by omega)) rfl) (extui_fails (slt_fails hu (lit 0) (by omega)) rfl) (by decide)
  have hlt : Fails (Scalar.cmpi .slt x 0#32) := slt_fails hx (lit 0) (by omega)
  have hq0 : 0 ≤ e / U := Int.ediv_nonneg h0 (by omega)
  have hq1 : e / U ≤ e := Int.ediv_le_self _ h0
  have hc : Fails (Scalar.andi (Scalar.cmpi .ne (sgnW x) (sgnW (BitVec.ofNat 32 U)))
      (Scalar.cmpi .ne (Scalar.remsi x (BitVec.ofNat 32 U)) 0#32)) := by
    by_cases hz : e = 0
    · exact andi_fails_right (cmpi_term _ (word _) (word _)) (ne_fails (Affine.remsi hx hu (e := 0) ⟨by rw [hz, Int.zero_emod], h0, by omega⟩) (lit 0) rfl)
    · exact andi_fails_left (ne_fails (Affine.subi (extui_holds (sgt_holds hx (lit 0) (by omega)) rfl) (extui_fails hlt rfl) (e := 1) (by decide)) hsU rfl)
        (cmpi_term _ (word _) (word _))
  have hd := Affine.divsi hx hu (e := e / U) ⟨rfl, h0, by omega⟩
  exact select_fails hc (Affine.subi hd (lit 1) (e := e / U - 1) ⟨rfl, by omega, by omega⟩) hd rfl

theorem fdiv_neg {x : BitVec 32} (h : x.toInt < 0) : (fdiv x 4#32).toInt ≤ 0 := by
  have hd : (Scalar.divsi x 4#32).toInt = x.toInt.tdiv 4 := by
    rw [Scalar.divsi, IntOp.divsi, if_neg (by rintro (h | ⟨-, h⟩) <;> exact absurd h (by decide)), BitVec.toInt_sdiv_of_ne_or_ne _ _ (Or.inr (by decide))]
    rfl
  have hr := word_range x
  have h1 : x.toInt.tdiv 4 ≤ 0 ∧ -2 ^ 29 ≤ x.toInt.tdiv 4 := by
    rw [show x.toInt = -(-x.toInt) by omega, Int.neg_tdiv, Int.tdiv_eq_ediv_of_nonneg (by omega)]; omega
  have hs := Affine.subi (word (Scalar.divsi x 4#32)) (lit 1) (e := x.toInt.tdiv 4 - 1) ⟨by rw [hd]; rfl, by omega, by omega⟩
  have hs' : (Scalar.subi (Scalar.divsi x 4#32) 1#32).toInt = x.toInt.tdiv 4 - 1 := by unfold IsInt at hs; exact hs
  unfold fdiv
  rw [Scalar.select]
  split
  · rw [hs']; omega
  · rw [hd]; omega

/-! ## The compaction loop -/

/-- Which of the four interleaved parts of a table device `d` reads. -/
abbrev qd (d : Dev nD) : ℕ := d.val / 2
theorem qd_lt (d : Dev nD) : qd d < 4 := by have := d.isLt; have : nD = 8 := rfl; unfold qd; omega

/-- The part as the program computes it. -/
abbrev qWord (d : Dev nD) : BitVec 32 :=
  Scalar.addi (Scalar.muli (Scalar.remsi (Scalar.divsi (Dev.word d) 4#32) 2#32) 2#32) (Scalar.remsi (Scalar.divsi (Dev.word d) 2#32) 2#32)
theorem qWord_eq (d : Dev nD) : qWord d = BitVec.ofNat 32 (qd d) := by
  revert d; show ∀ d : Fin 8, _; decide

theorem qWord_isInt (d : Dev nD) : IsInt (qWord d) (qd d) := by
  rw [qWord_eq]; exact lit _ (by have := qd_lt d; omega)

/-- How many entries of a table of `w` live entries device `d` reads. -/
def trips1 (d : Dev nD) (w : BitVec 32) : ℕ := ((w.toInt + 3 - qd d) / 4).toNat

/-- The number of its entries, as the program computes it. -/
abbrev lenWord (d : Dev nD) (w : BitVec 32) : BitVec 32 := fdiv (Scalar.addi (Scalar.subi w (qWord d)) 3#32) 4#32

theorem len_toInt (d : Dev nD) (w : BitVec 32) (hw : w.toInt ≤ 512) :
    (Scalar.addi (Scalar.subi w (qWord d)) 3#32).toInt = w.toInt + 3 - qd d := by
  have hr := word_range w
  have hq := qd_lt d
  rw [qWord_eq, show Scalar.addi (Scalar.subi w (BitVec.ofNat 32 (qd d))) 3#32 = w + BitVec.ofNat 32 (3 - qd d) from by
    show w - _ + 3#32 = _
    have : BitVec.ofNat 32 (3 - qd d) = 3#32 - BitVec.ofNat 32 (qd d) := by
      generalize qd d = q at hq; interval_cases q <;> decide
    rw [this]; ring,
    WordArith.toInt_add_of_bounds, WordArith.toInt_ofNat_small _ (by omega)]
  · omega
  · rw [WordArith.toInt_ofNat_small _ (by omega)]; omega
  · rw [WordArith.toInt_ofNat_small _ (by omega)]; omega

theorem lenWord_isInt (d : Dev nD) (w : BitVec 32) (hw : w.toInt ≤ 512) :
    ∃ e : ℤ, IsInt (lenWord d w) e ∧ e.toNat = trips1 d w ∧ e ≤ 512 := by
  have h := len_toInt d w hw
  by_cases h0 : 0 ≤ w.toInt + 3 - qd d
  · refine ⟨_, fdiv_isInt (x := Scalar.addi (Scalar.subi w (qWord d)) 3#32) (e := w.toInt + 3 - qd d) (by unfold IsInt; exact h) h0 4 (by decide) (by decide) (by omega), rfl, by omega⟩
  · have hn := fdiv_neg (x := Scalar.addi (Scalar.subi w (qWord d)) 3#32) (by omega)
    have hn' : (lenWord d w).toInt ≤ 0 := hn
    refine ⟨_, word _, ?_, by omega⟩
    have h2 : (w.toInt + 3 - qd d) / 4 ≤ 0 := by omega
    rw [trips1, Int.toNat_of_nonpos h2, Int.toNat_of_nonpos hn']

theorem loop1_eq (d : Dev nD) (w : BitVec 32) : k0_t1_loop d w = ⟨0#32, Scalar.addi 0#32 (Scalar.muli (Scalar.divsi (Scalar.subi (lenWord d w) 0#32) 1#32) 1#32), 1#32⟩ := rfl
theorem loop2_eq (d : Dev nD) (w : BitVec 32) : k0_t2_loop d w = ⟨Scalar.addi 0#32 (Scalar.muli (Scalar.divsi (Scalar.subi (lenWord d w) 0#32) 1#32) 1#32), Scalar.addi 0#32 (Scalar.subi (lenWord d w) 0#32), 1#32⟩ := rfl

theorem norm_word (x : BitVec 32) : Scalar.addi 0#32 (Scalar.muli (Scalar.divsi (Scalar.subi x 0#32) 1#32) 1#32) = x := by
  simp only [Scalar.muli, Scalar.divsi, IntOp.muli, WordArith.divsi_one, BitVec.mul_one, Scalar.addi, Scalar.subi, IntOp.addi, IntOp.subi]
  simp
theorem norm_word' (x : BitVec 32) : Scalar.addi 0#32 (Scalar.subi x 0#32) = x := by
  simp only [Scalar.addi, Scalar.subi, IntOp.addi, IntOp.subi]; simp

theorem loop1_eq' (d : Dev nD) (w : BitVec 32) : k0_t1_loop d w = ⟨0#32, lenWord d w, 1#32⟩ := by
  rw [loop1_eq, norm_word]
theorem loop2_eq' (d : Dev nD) (w : BitVec 32) : k0_t2_loop d w = ⟨lenWord d w, lenWord d w, 1#32⟩ := by
  rw [loop2_eq, norm_word, norm_word']

theorem loop1_trips (d : Dev nD) (w : BitVec 32) (hw : w.toInt ≤ 512) : (k0_t1_loop d w).trips = trips1 d w := by
  rw [loop1_eq']
  obtain ⟨e, he, ht, -⟩ := lenWord_isInt d w hw
  have : IsInt (lenWord d w) e := he
  show Scf.trips 0#32 (lenWord d w) 1#32 = _
  rw [← ht]
  unfold IsInt at he
  rw [Scf.trips, he]; norm_num

theorem loop1_ok (d : Dev nD) (w : BitVec 32) (hw : w.toInt ≤ 512) : (k0_t1_loop d w).OK := by
  rw [loop1_eq']
  obtain ⟨e, he, ht, hle⟩ := lenWord_isInt d w hw
  exact ok (lit 0) he (lit 1) ⟨by decide, by push_cast; omega⟩

theorem loop2_trips (d : Dev nD) (w : BitVec 32) : (k0_t2_loop d w).trips = 0 := by
  rw [loop2_eq']
  exact trips_eq (word _) (word _) (lit 1) 0 ⟨by decide, by simp⟩
theorem loop2_ok (d : Dev nD) (w : BitVec 32) : (k0_t2_loop d w).OK := by
  rw [loop2_eq']
  have := word_range (lenWord d w)
  exact ok (word _) (word _) (lit 1) ⟨by decide, by simp only []; omega⟩

theorem trips1_le (d : Dev nD) (w : BitVec 32) (hw : w.toInt ≤ 512) : trips1 d w ≤ 128 := by unfold trips1; omega
theorem entry_lt (d : Dev nD) (w : BitVec 32) (hw : w.toInt ≤ 512) {t : ℕ} (ht : t < trips1 d w) : qd d + 4 * t < 512 := by
  unfold trips1 at ht; have := qd_lt d; omega

theorem off1_eq (d : Dev nD) (w : BitVec 32) (hw : w.toInt ≤ 512) (t : Fin (k0_t1_loop d w).trips) : k0_off1 d w t 1 = qd d + 4 * t.val := by
  have ht : t.val < trips1 d w := by rw [← loop1_trips d w hw]; exact t.isLt
  have hlt := entry_lt d w hw ht
  have h : IsInt (Scalar.addi (qWord d) (Scalar.muli 4#32 (Scf.iv 0#32 1#32 t.val))) ((qd d + 4 * t.val : ℕ) : ℤ) := by
    refine Affine.addi (qWord_isInt d) (Affine.muli (lit 4) (Affine.iv (lit 0) (lit 1) t.val (e := (t.val : ℤ)) ⟨by push_cast; omega, by omega, by omega⟩) (e := 4 * (t.val : ℤ)) ⟨by push_cast; rfl, by omega, by omega⟩) ⟨by push_cast; rfl, by omega, by omega⟩
  show (Scalar.addi (qWord d) (Scalar.muli 4#32 (Scf.iv 0#32 1#32 t.val))).toNat = _
  unfold IsInt at h
  rw [BitVec.toInt_eq_toNat_cond] at h
  split at h <;> omega

theorem lenChk_of (i : ℕ) (hi : i < 8) (d : Dev nD) (w : BitVec 32) (hw : w.toInt ≤ 512) : lenChk i d w := by
  refine ⟨loop1_ok d w hw, fun t a => ?_, loop2_ok d w, fun t => ?_⟩
  · have ht : t.val < trips1 d w := by rw [← loop1_trips d w hw]; exact t.isLt
    have := entry_lt d w hw ht
    rw [off1_eq d w hw t]
    fin_cases a <;> simp [S1x1, S8x512] <;> omega
  · exact absurd (lt_of_lt_of_eq t.isLt (loop2_trips d w)) (Nat.not_lt_zero _)

theorem putChk_of (i : ℕ) (hi : i < 8) (d : Dev nD) (n p : BitVec 32) (hn : n.toNat < 512) : putChk i d n p := by
  intro _ a
  fin_cases a <;> simp [S1x1, S8x512] <;> omega

/-! ## The paged loop -/

/-- How many steps of eight pages cover `n` pages. -/
abbrev stepsOf (n : ℕ) : ℕ := (n + 7) / 8
/-- The number of steps, as the program computes it. -/
abbrev stepsWord (n : BitVec 32) : BitVec 32 := fdiv (Scalar.subi (Scalar.addi n 8#32) 1#32) 8#32

theorem stepsWord_isInt (n : ℕ) (hn : n ≤ 128) : IsInt (stepsWord (BitVec.ofNat 32 n)) (stepsOf n) := by
  have := fdiv_isInt (x := Scalar.subi (Scalar.addi (BitVec.ofNat 32 n) 8#32) 1#32) (e := ((n + 7 : ℕ) : ℤ))
    (Affine.subi (Affine.addi (lit n (by omega)) (lit 8) (e := (n : ℤ) + 8) ⟨rfl, by omega, by omega⟩) (lit 1) ⟨by push_cast; omega, by omega, by omega⟩)
    (by omega) 8 (by decide) (by decide) (by omega)
  exact Affine.relit this (by unfold stepsOf; push_cast; rfl)

theorem loop3_eq (n : BitVec 32) : k0_t3_loop n = ⟨0#32, stepsWord n, 1#32⟩ := by
  rw [show k0_t3_loop n = ⟨0#32, Scalar.addi 0#32 (Scalar.muli (Scalar.divsi (Scalar.subi (stepsWord n) 0#32) 1#32) 1#32), 1#32⟩ from rfl, norm_word]
theorem loop4_eq (n : BitVec 32) : k0_t4_loop n = ⟨stepsWord n, stepsWord n, 1#32⟩ := by
  rw [show k0_t4_loop n = ⟨Scalar.addi 0#32 (Scalar.muli (Scalar.divsi (Scalar.subi (stepsWord n) 0#32) 1#32) 1#32), Scalar.addi 0#32 (Scalar.subi (stepsWord n) 0#32), 1#32⟩ from rfl, norm_word, norm_word']

theorem loop3_trips (n : ℕ) (hn : n ≤ 128) : (k0_t3_loop (BitVec.ofNat 32 n)).trips = stepsOf n := by
  rw [loop3_eq]
  exact trips_eq (lit 0) (stepsWord_isInt n hn) (lit 1) _ ⟨by decide, by push_cast; omega⟩
theorem loop3_ok (n : ℕ) (hn : n ≤ 128) : (k0_t3_loop (BitVec.ofNat 32 n)).OK := by
  rw [loop3_eq]
  exact ok (lit 0) (stepsWord_isInt n hn) (lit 1) ⟨by decide, by push_cast; omega⟩
theorem loop4_trips (n : BitVec 32) : (k0_t4_loop n).trips = 0 := by
  rw [loop4_eq]
  exact trips_eq (word _) (word _) (lit 1) 0 ⟨by decide, by simp⟩
theorem loop4_ok (n : BitVec 32) : (k0_t4_loop n).OK := by
  rw [loop4_eq]
  have := word_range (stepsWord n)
  exact ok (word _) (word _) (lit 1) ⟨by decide, by simp only []; omega⟩

/-- The words of step `t`. -/
abbrev ivW (t : ℕ) : BitVec 32 := Scf.iv 0#32 1#32 t
theorem ivW_eq (t : ℕ) : ivW t = BitVec.ofNat 32 t := by
  unfold ivW; rw [Scf.iv_eq_ofInt]; simp

theorem toNat_of_isInt {x : BitVec 32} {e : ℕ} (h : IsInt x (e : ℤ)) (he : e < 2 ^ 31) : x.toNat = e := by
  unfold IsInt at h
  rw [BitVec.toInt_eq_toNat_cond] at h
  split at h <;> omega

theorem nextWord_toNat (t c : ℕ) (ht : t < 16) (hc : c < 8) : (nextWord (ivW t) c).toNat = 8 * (t + 1) + c := by
  rw [ivW_eq]
  refine toNat_of_isInt (Affine.addi (Affine.muli (Affine.addi (lit t (by omega)) (lit 1) (e := (t : ℤ) + 1) ⟨by rfl, by omega, by omega⟩) (lit 8) (e := ((t : ℤ) + 1) * 8) ⟨by rfl, by omega, by omega⟩) (lit c (by omega)) ⟨by push_cast; ring, by omega, by omega⟩) (by omega)

theorem bufOf_eq (t : ℕ) (ht : t < 16) : bufOf (ivW t) = t % 2 := by
  rw [ivW_eq]
  exact toNat_of_isInt (Affine.remsi (lit t (by omega)) (lit 2) ⟨by push_cast; rfl, by omega, by decide⟩) (by omega)
theorem bufOf_next_eq (t : ℕ) (ht : t < 16) : bufOf (Scalar.addi (ivW t) 1#32) = (t + 1) % 2 := by
  rw [ivW_eq]
  exact toNat_of_isInt (Affine.remsi (Affine.addi (lit t (by omega)) (lit 1) (e := (t : ℤ) + 1) ⟨rfl, by omega, by omega⟩) (lit 2) ⟨by push_cast; rfl, by omega, by decide⟩) (by omega)

theorem stepsOf_le {n : ℕ} (hn : n ≤ 128) : stepsOf n ≤ 16 := by unfold stepsOf; omega

theorem cond_word (c : BitVec 1) : Scalar.cmpi .ne (Scalar.extui c : BitVec 32) 0#32 = c := by
  revert c; decide

theorem cond1_eq (d : Dev nD) (p : BitVec 32) : k0_cond1 d p = keep.k0_cond1' d p := by
  rw [show k0_cond1 d p = Scalar.cmpi .ne (Scalar.extui (keep.k0_cond1' d p)) 0#32 from rfl, cond_word]

theorem cond3_iff (n : ℕ) (hn : n ≤ 128) : k0_cond3 (BitVec.ofNat 32 n) = 1#1 ↔ 0 < stepsOf n := by
  rw [show k0_cond3 (BitVec.ofNat 32 n) = Scalar.cmpi .ne (Scalar.extui (Scalar.cmpi .sgt (stepsWord (BitVec.ofNat 32 n)) 0#32)) 0#32 from rfl, cond_word]
  have h := stepsWord_isInt n hn
  by_cases hs : 0 < stepsOf n
  · exact ⟨fun _ => hs, fun _ => sgt_holds h (lit 0) (by exact_mod_cast hs)⟩
  · exact ⟨fun hh => absurd hh (sgt_fails h (lit 0) (fun hh => hs (by exact_mod_cast hh))), fun hh => absurd hh hs⟩

theorem cond4_iff (n : ℕ) (hn : n ≤ 128) (t : Fin (k0_t3_loop (BitVec.ofNat 32 n)).trips) :
    k0_cond4 (BitVec.ofNat 32 n) t = 1#1 ↔ t.val + 1 < stepsOf n := by
  have ht : t.val < stepsOf n := by rw [← loop3_trips n hn]; exact t.isLt
  have hs16 := stepsOf_le hn
  rw [show k0_cond4 (BitVec.ofNat 32 n) t = Scalar.cmpi .ne (Scalar.extui (Scalar.cmpi .slt (Scalar.addi (ivW t.val) 1#32) (stepsWord (BitVec.ofNat 32 n)))) 0#32 from rfl, cond_word, ivW_eq]
  have h := stepsWord_isInt n hn
  have h1 := Affine.addi (lit t.val (by omega)) (lit 1) (e := (t.val : ℤ) + 1) ⟨rfl, by omega, by omega⟩
  by_cases hs : t.val + 1 < stepsOf n
  · exact ⟨fun _ => hs, fun _ => slt_holds h1 h (by exact_mod_cast hs)⟩
  · exact ⟨fun hh => absurd hh (slt_fails h1 h (fun hh => hs (by exact_mod_cast hh))), fun hh => absurd hh hs⟩

section bounds
variable (i : ℕ) (hi : i < 8) (n : ℕ) (hn : n ≤ 128)

theorem no_trip4 (t : Fin (k0_t4_loop (BitVec.ofNat 32 n)).trips) : False := by
  exact absurd (lt_of_lt_of_eq t.isLt (loop4_trips _)) (Nat.not_lt_zero _)

include hn in
theorem trip_lt (t : Fin (k0_t3_loop (BitVec.ofNat 32 n)).trips) : t.val < 16 := by
  exact lt_of_lt_of_le (lt_of_lt_of_eq t.isLt (loop3_trips n hn)) (stepsOf_le hn)

include hi hn in
theorem nextRow_of {c : ℕ} (hc : c < 8) : nextRow i (k0_t3_loop (BitVec.ofNat 32 n)) (k0_cond4 (BitVec.ofNat 32 n)) c := by
  intro t _ a
  have ht := trip_lt n hn t
  have h := nextWord_toNat t.val c ht hc
  fin_cases a
  · simp [S1x1, S8x512]; omega
  · show (nextWord (Scf.iv (k0_t3_loop (BitVec.ofNat 32 n)).lb (k0_t3_loop (BitVec.ofNat 32 n)).st t.val) c).toNat + 1 ≤ 512
    rw [show Scf.iv (k0_t3_loop (BitVec.ofNat 32 n)).lb (k0_t3_loop (BitVec.ofNat 32 n)).st t.val = ivW t.val from rfl, h]; omega

include hn in
theorem nextSem_of {c : ℕ} (hc : c < 8) : nextSem (k0_t3_loop (BitVec.ofNat 32 n)) (k0_cond4 (BitVec.ofNat 32 n)) c := by
  intro t _ a
  have h := bufOf_next_eq t.val (trip_lt n hn t)
  fin_cases a
  · show bufOf (Scalar.addi (ivW t.val) 1#32) + 1 ≤ 2
    rw [h]; omega
  · show c + 1 ≤ 8; omega

include hn in
theorem nextBuf_of {c : ℕ} (hc : c < 8) : nextBuf (k0_t3_loop (BitVec.ofNat 32 n)) (k0_cond4 (BitVec.ofNat 32 n)) c := by
  intro t _ a
  have h := bufOf_next_eq t.val (trip_lt n hn t)
  fin_cases a
  · show bufOf (Scalar.addi (ivW t.val) 1#32) + 1 ≤ 2
    rw [h]; omega
  · show c + 1 ≤ 8; omega
  all_goals simp [S1x1x16x8x128, S2x8x16x8x128]

include hn in
theorem thisSem_of {c : ℕ} (hc : c < 8) : thisSem (k0_t3_loop (BitVec.ofNat 32 n)) c := by
  intro t a
  have h := bufOf_eq t.val (trip_lt n hn t)
  fin_cases a
  · show bufOf (ivW t.val) + 1 ≤ 2
    rw [h]; omega
  · show c + 1 ≤ 8; omega

include hn in
theorem thisBuf_of {c : ℕ} (hc : c < 8) : thisBuf (k0_t3_loop (BitVec.ofNat 32 n)) c := by
  intro t a
  have h := bufOf_eq t.val (trip_lt n hn t)
  fin_cases a
  · show bufOf (ivW t.val) + 1 ≤ 2
    rw [h]; omega
  · show c + 1 ≤ 8; omega
  all_goals simp [S1x1x16x8x128, S2x8x16x8x128]

include hn in
theorem thisHalf_of : thisHalf (k0_t3_loop (BitVec.ofNat 32 n)) := by
  intro t a
  have h := bufOf_eq t.val (trip_lt n hn t)
  fin_cases a
  · show bufOf (ivW t.val) + 1 ≤ 2
    rw [h]; omega
  all_goals simp [S1x8x16x8x128, S2x8x16x8x128]

include hn in
theorem nextEnd_of {c : ℕ} (hc : c < 8) {X : Prop} (x : X) : nextEnd (k0_t3_loop (BitVec.ofNat 32 n)) (k0_cond4 (BitVec.ofNat 32 n)) c X :=
  ⟨nextSem_of n hn hc, nextBuf_of n hn hc, nextSem_of n hn hc, nextBuf_of n hn hc, x⟩
include hi hn in
theorem nextAll_of {c : ℕ} (hc : c < 8) {X : Prop} (x : X) : nextAll i (k0_t3_loop (BitVec.ofNat 32 n)) (k0_cond4 (BitVec.ofNat 32 n)) c X :=
  ⟨nextRow_of i hi n hn hc, nextEnd_of n hn hc x⟩
include hn in
theorem thisAll_of {c : ℕ} (hc : c < 8) {X : Prop} (x : X) : thisAll (k0_t3_loop (BitVec.ofNat 32 n)) c X :=
  ⟨thisSem_of n hn hc, thisBuf_of n hn hc, x⟩

theorem never (C : Fin (k0_t4_loop (BitVec.ofNat 32 n)).trips → BitVec 1) (Q : BitVec 32 → Prop) : everyIf (k0_t4_loop (BitVec.ofNat 32 n)) C Q :=
  fun t => (no_trip4 n t).elim
theorem never' (Q : BitVec 32 → Prop) : every (k0_t4_loop (BitVec.ofNat 32 n)) Q :=
  fun t => (no_trip4 n t).elim
theorem never_all (c : ℕ) (C : Fin (k0_t4_loop (BitVec.ofNat 32 n)).trips → BitVec 1) {X : Prop} (x : X) : nextAll i (k0_t4_loop (BitVec.ofNat 32 n)) C c X :=
  ⟨never n _ _, never n _ _, never n _ _, never n _ _, never n _ _, x⟩
theorem never_this (c : ℕ) {X : Prop} (x : X) : thisAll (k0_t4_loop (BitVec.ofNat 32 n)) c X :=
  ⟨never' n _, never' n _, x⟩

include hi hn in
theorem stepChk_of : stepChk i (BitVec.ofNat 32 n) :=
  ⟨⟨loop3_ok n hn,
    nextAll_of i hi n hn (by decide) <| nextAll_of i hi n hn (by decide) <| nextAll_of i hi n hn (by decide) <|
    nextAll_of i hi n hn (by decide) <| nextAll_of i hi n hn (by decide) <| nextAll_of i hi n hn (by decide) <|
    nextRow_of i hi n hn (by decide)⟩,
   nextEnd_of n hn (by decide) <| nextAll_of i hi n hn (by decide) <|
    thisAll_of n hn (by decide) <| thisAll_of n hn (by decide) <| thisAll_of n hn (by decide) <| thisAll_of n hn (by decide) <|
    thisAll_of n hn (by decide) <| thisAll_of n hn (by decide) <| thisAll_of n hn (by decide) <| thisAll_of n hn (by decide) <|
    ⟨thisHalf_of n hn, loop4_ok _, never n _ _, never n _ _, never n _ _, never n _ _, never n _ _⟩,
   never_all i n 1 _ <| never_all i n 2 _ <| never_all i n 3 _ <| never_all i n 4 _ <| never_all i n 5 _ <| never_all i n 6 _ <|
    ⟨never n _ _, never n _ _⟩,
   never n _ _, never n _ _, never n _ _,
    never_this n 0 <| never_this n 1 <| never_this n 2 <| never_this n 3 <| never_this n 4 <| never_this n 5 <| never_this n 6 <|
    never_this n 7 <| never' n _⟩

end bounds

end Paged

end
-- ==== Proof.Base.lean ====
/- The resources of the run: the unit algebra, its embeddings, and the thread of a device. -/
module

public import proofs.«01_k».proof.Proof.Words
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.ViewIndex
public import Idealize.ShloMosaic.Lib.Tactic

@[expose] public section

noncomputable section

namespace Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

/-- Names of the rounds' duties: the three partners, or the first of them where there is one duty. -/
abbrev Duty : Type := Fin 3

/-- What is shared beside the memory: the launch's rounds, the protocol's rounds, the local transfers' counters. -/
abbrev UU : Type := UR sig nD τ × (URounds (GSem nD τ sig) Duty × Counters)

/-- The resource algebra of the run. -/
abbrev MM (F : FTy → Type) := MT nD τ sig Unit (Elt F) ℕ UU ℕ

variable {F : FTy → Type}

/-- The launch's rounds among the resources. -/
abbrev EP : Emb (UR sig nD τ) (MM F) := embL
/-- The protocol's rounds among them. -/
abbrev ER : Emb (URounds (GSem nD τ sig) Duty) (MM F) :=
  (Emb.inl : Emb (URounds (GSem nD τ sig) Duty) (URounds (GSem nD τ sig) Duty × Counters)).trans (embR (A := UR sig nD τ))
/-- The local transfers' counters among them. -/
abbrev EC : UEmb Counters (MM F) := countersEmb (U := UU)

/-- The thread of a device's core. -/
abbrev T (d : Dev nD) : Thread nD τ := (d : Thread nD τ)

abbrev 𝒱₀ : Variants := .none

end Paged

end
-- ==== Proof.Local.lean ====
/- The transfers within a device: a page fetched into a slot of the double buffer, and its wait. -/
module

public import proofs.«01_k».proof.Proof.Base

@[expose] public section

set_option maxRecDepth 16384

noncomputable section

namespace Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Facts₀ Cert.KernelIdeal.Facts

variable {F : FTy → Type} [FloatOps F] [Named F] [Facts]

local notation "𝕄" => MT nD τ sig Unit (Elt F) ℕ UU ℕ

variable (A : Args) (d : Dev nD)

/-- A buffer's elements `S` at a share. -/
abbrev pts {sp : Space} {s : Shape} {e : EltTy} (m : Memref sig .tc sp s e) (S : Finset (Idx (m.view.loc (T d))))
    (q : PosShare TreeShare) (f : Buf (Elt F) (m.view.loc (T d))) : sProp 𝕄 :=
  m.view.loc (T d) ↦[S]{q} f

/-- A slot with nothing in flight to it. -/
def freeAt (e : Fin 2 → ℕ) (he : inSems e) (o : Fin 5 → ℕ) (ho : inBuf o) : sProp 𝕄 :=
  iprop((∃ f, pts d A.kb (slotOf A.kb o ho).view.set fullShare f) ∗ (∃ f, pts d A.vb (slotOf A.vb o ho).view.set fullShare f)
    ∗ semVal (T d, .dma (semOf A.ks e he)) 0 ∗ semVal (T d, .dma (semOf A.vs e he)) 0)

/-- A slot whose page is on its way, to be found in `g`, `g'`. -/
def busyAt (g : Buf (Elt F) (A.kb.view.loc (T d))) (g' : Buf (Elt F) (A.vb.view.loc (T d)))
    (e : Fin 2 → ℕ) (he : inSems e) (o : Fin 5 → ℕ) (ho : inBuf o) : sProp 𝕄 :=
  iprop(Flight EC (T d) (.dma (semOf A.ks e he)) () (slotOf A.kb o ho).view.dmaCredit (pts d A.kb (slotOf A.kb o ho).view.set fullShare g)
    ∗ Flight EC (T d) (.dma (semOf A.vs e he)) () (slotOf A.vb o ho).view.dmaCredit (pts d A.vb (slotOf A.vb o ho).view.set fullShare g'))

/-- A slot whose page has landed. -/
def landAt (g : Buf (Elt F) (A.kb.view.loc (T d))) (g' : Buf (Elt F) (A.vb.view.loc (T d)))
    (e : Fin 2 → ℕ) (he : inSems e) (o : Fin 5 → ℕ) (ho : inBuf o) : sProp 𝕄 :=
  iprop(pts d A.kb (slotOf A.kb o ho).view.set fullShare g ∗ pts d A.vb (slotOf A.vb o ho).view.set fullShare g'
    ∗ semVal (T d, .dma (semOf A.ks e he)) 0 ∗ semVal (T d, .dma (semOf A.vs e he)) 0)

/-- The core may wait on the semaphores of the double buffers while it owes `O`. -/
def locWaits (O : CellTallies nD τ sig Unit) : sProp 𝕄 :=
  iprop((∀ e, ∀ he, MayWait (T d) (.dma (semOf A.ks e he)) () O) ∗ (∀ e, ∀ he, MayWait (T d) (.dma (semOf A.vs e he)) () O))

instance (O : CellTallies nD τ sig Unit) : BI.Persistent (locWaits (F := F) A d O) := by unfold locWaits; infer_instance

/-- A page array held at some share. -/
def pageArr (m : Memref sig .tc .hbm S512x16x8x128 .f32) (f : Buf (Elt F) (m.view.loc (T d))) : sProp 𝕄 :=
  iprop(∃ q, pts d m Finset.univ q f)

/-- Half of a held page array lent for one page's transfer. -/
theorem pageArr_lend (m : Memref sig .tc .hbm S512x16x8x128 .f32) (f : Buf (Elt F) (m.view.loc (T d))) (S : Finset (Idx (m.view.loc (T d)))) :
    pageArr d m f ⊢ iprop(pageArr d m f ∗ ∃ q, pts d m S q f) := by
  unfold pageArr pts
  iintro ⟨%q, H⟩
  ihave H := ((pointsTo_share (PosShare.mem_left_op_right q)).1) $$ H
  icases H with ⟨H1, H2⟩
  ihave H2 := ((pointsTo_split_subset (Finset.subset_univ S)).1) $$ H2
  icases H2 with ⟨H2, -⟩
  isplitl [H1]
  · iexists _; iexact H1
  · iexists _; iexact H2

/-- What lands in a slot is what `g` holds there, when `g` reads there as the source. -/
theorem slot_write (m : Memref sig .tc .vmem S2x8x16x8x128 .f32) (o : Fin 5 → ℕ) (ho : inBuf o)
    (f g : Buf (Elt F) (m.view.loc (T d))) (w : S16x8x128.Idx → Elt F .f32) (hg : (slotOf m o ho).view.read (Elt F) g = w) :
    (m.view.loc (T d) ↦[(slotOf m o ho).view.set]{fullShare} ((slotOf m o ho).view.write (Elt F) f w Finset.univ) : sProp 𝕄)
      = m.view.loc (T d) ↦[(slotOf m o ho).view.set]{fullShare} g := by
  apply pointsTo_congr
  intro i hi
  obtain ⟨x, -, rfl⟩ := Finset.mem_map.mp hi
  apply View.eq_of_read_eq (v := (slotOf m o ho).view) (x := x)
  rw [hg, View.read_write_univ]

theorem wp_await {α : Type} {Q : α → sProp 𝕄} (g : Buf (Elt F) (A.kb.view.loc (T d))) (g' : Buf (Elt F) (A.vb.view.loc (T d)))
    (e : Fin 2 → ℕ) (he : inSems e) (o : Fin 5 → ℕ) (ho : inBuf o) (K : TProg F α) (O : CellTallies nD τ sig Unit) :
    iprop(busyAt A d g g' e he o ho ∗ (∃ W, owes (T d) O W) ∗ locWaits A d O)
      ⊢ iprop((iprop(landAt A d g g' e he o ho ∗ (∃ W, owes (T d) O W)) -∗ wp frame (wpE defs₀ 𝒱₀ (T d) none) Set.univ K Q)
        -∗ wp frame (wpE defs₀ 𝒱₀ (T d) none) Set.univ (await A e he o ho K) Q) := by
  unfold busyAt landAt await locWaits
  simp only [Prog.lift, Prog.bind_op, Prog.bind_ret]
  iintro ⟨⟨Hk, Hv⟩, ⟨%W, HO⟩, ⟨#Hwk, #Hwv⟩⟩ HK
  iapply (wp_waitLocalO EC 𝒱₀ (T d) none () rfl) $$ [Hk HO]
  · isplitl [Hk]; · iexact Hk
    isplitl [HO]; · iexact HO
    iapply Hwk
  iintro ⟨Hkb, Hsk, HO⟩
  iapply (wp_waitLocalO EC 𝒱₀ (T d) none () rfl) $$ [Hv HO]
  · isplitl [Hv]; · iexact Hv
    isplitl [HO]; · iexact HO
    iapply Hwv
  iintro ⟨Hvb, Hsv, HO⟩
  iapply HK
  isplitr [HO]
  · isplitl [Hkb]; · iexact Hkb
    isplitl [Hvb]; · iexact Hvb
    isplitl [Hsk] <;> iassumption
  · iexists _; iexact HO

theorem wp_fetch {α : Type} {Q : α → sProp 𝕄} (fp : Buf (Elt F) (A.pg.view.loc (T d))) (fk : Buf (Elt F) (A.kh.view.loc (T d))) (fv : Buf (Elt F) (A.vh.view.loc (T d)))
    (g : Buf (Elt F) (A.kb.view.loc (T d))) (g' : Buf (Elt F) (A.vb.view.loc (T d)))
    (P : Prop) (hP : P) (r : Fin 2 → ℕ) (hr : inTable r)
    (e : Fin 2 → ℕ) (he : inSems e) (o : Fin 5 → ℕ) (ho : inBuf o) (K : TProg F α)
    (v : BitVec 32) (hv : A.pg.view.read (Elt F) fp ((Rect.unit (s := S8x512) r S1x1.size hr).emb (Shape.Idx.first (numel1_S1x1.symm ▸ Nat.one_pos))) = v)
    (hb : inPages (k0_off5 v))
    (hk : (slotOf A.kb o ho).view.read (Elt F) g = (pageOf A.kh (k0_off5 v) hb).view.read (Elt F) fk)
    (hk' : (slotOf A.vb o ho).view.read (Elt F) g' = (pageOf A.vh (k0_off5 v) hb).view.read (Elt F) fv) :
    iprop(pts d A.pg Finset.univ fullShare fp ∗ pageArr d A.kh fk ∗ pageArr d A.vh fv ∗ freeAt A d e he o ho)
      ⊢ iprop((iprop(pts d A.pg Finset.univ fullShare fp ∗ pageArr d A.kh fk ∗ pageArr d A.vh fv ∗ busyAt A d g g' e he o ho)
          -∗ wp frame (wpE defs₀ 𝒱₀ (T d) none) Set.univ K Q)
        -∗ wp frame (wpE defs₀ 𝒱₀ (T d) none) Set.univ (fetch A P hP r hr e he o ho K) Q) := by
  subst hv
  unfold freeAt busyAt fetch smemLoad smemLoadElt
  simp only [Prog.lift, Prog.bind_op, Prog.bind_ret]
  iintro ⟨Hp, Hk, Hv, ⟨%f, Hkb⟩, ⟨%f', Hvb⟩, Hsk, Hsv⟩ HK
  iapply (wp_load_rect (m := A.pg) (r := Rect.unit (s := S8x512) r S1x1.size hr) 𝒱₀ (T d) none Set.univ (Finset.subset_univ _)) $$ Hp
  iintro Hp
  iapply (wp_assume 𝒱₀ (T d) none Set.univ (fun _ => hb))
  ihave Hk := (pageArr_lend d A.kh fk (pageOf A.kh _ hb).view.set) $$ Hk
  icases Hk with ⟨Hk, %q, Hk'⟩
  ihave Hv := (pageArr_lend d A.vh fv (pageOf A.vh _ hb).view.set) $$ Hv
  icases Hv with ⟨Hv, %q', Hv'⟩
  iapply (wp_dmaLocal EC 𝒱₀ (T d) none () _ rfl (View.dmaCredit_pos _ (by decide)) (Finset.Subset.refl _)) $$ [Hk' Hkb Hsk]
  · isplitl [Hk']; · iexact Hk'
    isplitl [Hkb] <;> iassumption
  iintro Hfk
  iapply (wp_dmaLocal EC 𝒱₀ (T d) none () _ rfl (View.dmaCredit_pos _ (by decide)) (Finset.Subset.refl _)) $$ [Hv' Hvb Hsv]
  · isplitl [Hv']; · iexact Hv'
    isplitl [Hvb] <;> iassumption
  iintro Hfv
  iapply HK
  isplitl [Hp]; · iexact Hp
  isplitl [Hk]; · iexact Hk
  isplitl [Hv]; · iexact Hv
  isplitl [Hfk]
  · iapply (Flight_mono EC (T d) ?_) $$ Hfk
    iintro ⟨H, -⟩
    refine .of_eq ?_
    exact slot_write d A.kb o ho f g _ hk
  · iapply (Flight_mono EC (T d) ?_) $$ Hfv
    iintro ⟨H, -⟩
    refine .of_eq ?_
    exact slot_write d A.vb o ho f' g' _ hk'

end Paged

end
-- ==== Proof.Slots.lean ====
/- Where the pages and the slots lie in their buffers. -/
module

public import proofs.«01_k».proof.Proof.Local

@[expose] public section

set_option maxRecDepth 16384

noncomputable section

namespace Paged

open Idealize.ShloMosaic Idealize.ShloMosaic.TcCoe Idealize.ShloMosaic.ValueIdx
open Cert.KernelIdeal Cert.KernelIdeal.Facts₀ Cert.KernelIdeal.Facts

/-- The page a table entry names. -/
def pageIx (w : BitVec 32) : Fin 512 := ⟨(Scalar.andi w 511#32).toNat, by
  show (w &&& 511#32).toNat < 512
  rw [BitVec.toNat_and]; exact Nat.lt_of_le_of_lt Nat.and_le_right (by decide)⟩

theorem inPages_of (w : BitVec 32) : inPages (k0_off5 w) := by
  have h := (pageIx w).isLt
  intro a
  match a with
  | ⟨0, _⟩ => show (pageIx w).val + 1 ≤ 512; omega
  | ⟨1, _⟩ => exact Nat.le_of_eq (Nat.zero_add _)
  | ⟨2, _⟩ => exact Nat.le_of_eq (Nat.zero_add _)
  | ⟨3, _⟩ => exact Nat.le_of_eq (Nat.zero_add _)

theorem sem_ok (x : ℕ) (c : Fin 8) : inSems (semAt (x % 2) c.val) := by
  have h := Nat.mod_lt x (by decide : 2 > 0); have hc := c.isLt
  intro a
  match a with
  | ⟨0, _⟩ => show x % 2 + 1 ≤ 2; omega
  | ⟨1, _⟩ => show c.val + 1 ≤ 8; omega

theorem slot_ok (x : ℕ) (c : Fin 8) : inBuf (slotAt (x % 2) c.val) := by
  have h := Nat.mod_lt x (by decide : 2 > 0); have hc := c.isLt
  intro a
  match a with
  | ⟨0, _⟩ => show x % 2 + 1 ≤ 2; omega
  | ⟨1, _⟩ => show c.val + 1 ≤ 8; omega
  | ⟨2, _⟩ => exact Nat.le_of_eq (Nat.zero_add _)
  | ⟨3, _⟩ => exact Nat.le_of_eq (Nat.zero_add _)
  | ⟨4, _⟩ => exact Nat.le_of_eq (Nat.zero_add _)

variable [Facts] {Val : EltTy → Type}

/-- Two indices of rank 5 with equal coordinates. -/
theorem idx5_ext {n : Fin 5 → ℕ} {x y : (⟨5, n⟩ : Shape).Idx} (h0 : (x 0).val = (y 0).val) (h1 : (x 1).val = (y 1).val)
    (h2 : (x 2).val = (y 2).val) (h3 : (x 3).val = (y 3).val) (h4 : (x 4).val = (y 4).val) : x = y := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

theorem idx4_ext {n : Fin 4 → ℕ} {x y : (⟨4, n⟩ : Shape).Idx} (h0 : (x 0).val = (y 0).val) (h1 : (x 1).val = (y 1).val)
    (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

/-- A slot reads its own entries of the double buffer. -/
theorem slot_read (m : Memref sig .tc .vmem S2x8x16x8x128 .f32) (o : Fin 5 → ℕ) (ho : inBuf o)
    (f : m.view.ty.Contents Val) (b : Fin 2) (c : Fin 8) (hbc : o = slotAt b.val c.val) (j : S16x8x128.Idx) :
    (slotOf m o ho).view.read Val f j
      = m.view.read Val f (ix5 b c (j 0 : Fin 16) (j 1 : Fin 8) (j 2 : Fin 128)) := by
  subst hbc
  have h : Shape.reshapeEquiv (show S16x8x128.numel = (⟨5, ![1, 1, 16, 8, 128]⟩ : Shape).numel from by decide) j = _ :=
    (congrArg _ (eq_ix3 j)).trans (reshapeEquiv_ix3_11abc (a := 16) (b := 8) (c := 128) _ (j 0) (j 1) (j 2))
  refine congrArg (m.view.read Val f) ((congrArg (Rect.unit (s := S2x8x16x8x128) _ S1x1x16x8x128.size ho).emb h).trans ?_)
  apply idx5_ext
  · show b.val + 1 * 0 = b.val; omega
  · show c.val + 1 * 0 = c.val; omega
  · show 0 + 1 * (j 0).val = (j 0).val; omega
  · show 0 + 1 * (j 1).val = (j 1).val; omega
  · show 0 + 1 * (j 2).val = (j 2).val; omega

/-- A page reads its own entries of the page array. -/
theorem page_read (m : Memref sig .tc .hbm S512x16x8x128 .f32) (w : BitVec 32) (hb : inPages (k0_off5 w))
    (f : m.view.ty.Contents Val) (j : S16x8x128.Idx) :
    (pageOf m (k0_off5 w) hb).view.read Val f j
      = m.view.read Val f (ix4 (pageIx w) (j 0 : Fin 16) (j 1 : Fin 8) (j 2 : Fin 128)) := by
  have h : Shape.reshapeEquiv (show S16x8x128.numel = (⟨4, ![1, 16, 8, 128]⟩ : Shape).numel from by decide) j = _ :=
    (congrArg _ (eq_ix3 j)).trans (reshapeEquiv_ix3_1abc (a := 16) (b := 8) (c := 128) _ (j 0) (j 1) (j 2))
  refine congrArg (m.view.read Val f) ((congrArg (Rect.unit (s := S512x16x8x128) (k0_off5 w) S1x16x8x128.size hb).emb h).trans ?_)
  apply idx4_ext
  · show (pageIx w).val + 1 * 0 = (pageIx w).val; omega
  · show 0 + 1 * (j 0).val = (j 0).val; omega
  · show 0 + 1 * (j 1).val = (j 1).val; omega
  · show 0 + 1 * (j 2).val = (j 2).val; omega

/-- The elements of a slot. -/
theorem slot_set (m : Memref sig .tc .vmem S2x8x16x8x128 .f32) (o : Fin 5 → ℕ) (ho : inBuf o) :
    (slotOf m o ho).view.set = (m.view.slice (Rect.unit (s := S2x8x16x8x128) o S1x1x16x8x128.size ho)).set :=
  View.set_reshape _ _

theorem slots_disjoint (m : Memref sig .tc .vmem S2x8x16x8x128 .f32) (x : ℕ) (c c' : Fin 8) (h : c ≠ c') :
    Disjoint (slotOf m _ (slot_ok x c)).view.set (slotOf m _ (slot_ok x c')).view.set := by
  rw [slot_set, slot_set]
  apply View.disjoint_slice
  rw [Finset.disjoint_left]
  intro j hj hj'
  have h1 := Rect.mem_set_unit.mp hj (1 : Fin 5)
  have h2 := Rect.mem_set_unit.mp hj' (1 : Fin 5)
  apply h
  have e1 : c.val ≤ (j 1).val ∧ (j 1).val < c.val + 1 := h1
  have e2 : c'.val ≤ (j 1).val ∧ (j 1).val < c'.val + 1 := h2
  exact Fin.ext (by omega)

/-- The elements of a half buffer, slot by slot. -/
abbrev halfSet (m : Memref sig .tc .vmem S2x8x16x8x128 .f32) (x : ℕ) : Finset m.view.ty.Idx :=
  (Finset.univ : Finset (Fin 8)).biUnion fun c => (slotOf m _ (slot_ok x c)).view.set

theorem half_subset (m : Memref sig .tc .vmem S2x8x16x8x128 .f32) (x b : ℕ) (hx : b = x % 2) (hb : inHalf (slotAt b 0)) :
    m.view.setOn (Rect.unit (s := S2x8x16x8x128) (slotAt b 0) S1x8x16x8x128.size hb).toLoadRect.set ⊆ halfSet m x := by
  subst hx
  intro i hi
  obtain ⟨j, hj, rfl⟩ := Finset.mem_map.mp hi
  have hj' : j ∈ (Rect.unit (s := S2x8x16x8x128) (slotAt (x % 2) 0) S1x8x16x8x128.size hb).set := hj
  rw [Rect.mem_set_unit] at hj'
  refine Finset.mem_biUnion.mpr ⟨(j 1 : Fin 8), Finset.mem_univ _, ?_⟩
  rw [slot_set, View.set_slice]
  refine Finset.mem_map_of_mem _ (Rect.mem_set_unit.mpr fun a => ?_)
  have h0 := hj' 0
  match a with
  | ⟨0, _⟩ => exact h0
  | ⟨1, _⟩ => exact ⟨Nat.le_refl _, Nat.lt_succ_self _⟩
  | ⟨2, _⟩ => exact hj' 2
  | ⟨3, _⟩ => exact hj' 3
  | ⟨4, _⟩ => exact hj' 4

/-- The entries of a double buffer whose slot `c` holds, in both halves, the page of entry `8x + c` of the table. -/
def bufVal {V : Type} (tab : ℕ → BitVec 32) (kv : S512x16x8x128.Idx → V) (x : ℕ) : S2x8x16x8x128.Idx → V :=
  fun j => kv (ix4 (pageIx (tab (8 * x + (j 1).val))) (j 2 : Fin 16) (j 3 : Fin 8) (j 4 : Fin 128))
/-- The same of one half. -/
def halfVal {V : Type} (tab : ℕ → BitVec 32) (kv : S512x16x8x128.Idx → V) (x : ℕ) : S1x8x16x8x128.Idx → V :=
  fun j => kv (ix4 (pageIx (tab (8 * x + (j 1).val))) (j 2 : Fin 16) (j 3 : Fin 8) (j 4 : Fin 128))

theorem half_read (m : Memref sig .tc .vmem S2x8x16x8x128 .f32) (tab : ℕ → BitVec 32) (kv : S512x16x8x128.Idx → Val .f32) (x b : ℕ)
    (hb : inHalf (slotAt b 0)) (f : m.view.ty.Contents Val) :
    m.view.readAt Val (Rect.unit (s := S2x8x16x8x128) (slotAt b 0) S1x8x16x8x128.size hb).toLoadRect
      (m.view.write Val f (bufVal tab kv x) Finset.univ) = halfVal tab kv x := by
  funext j
  rw [View.readAt_apply, View.read_write_univ]
  unfold bufVal halfVal
  have e1 : (((Rect.unit (s := S2x8x16x8x128) (slotAt b 0) S1x8x16x8x128.size hb).toLoadRect.idx j) 1).val = (j 1).val := by
    show 0 + 1 * (j 1).val = _; omega
  rw [e1]
  congr 1
  apply idx4_ext
  · rfl
  · show 0 + 1 * (j 2).val = (j 2).val; omega
  · show 0 + 1 * (j 3).val = (j 3).val; omega
  · show 0 + 1 * (j 4).val = (j 4).val; omega

/-- A fetched page is what the buffer's entries say of its slot. -/
theorem fetch_read (m : Memref sig .tc .vmem S2x8x16x8x128 .f32) (mh : Memref sig .tc .hbm S512x16x8x128 .f32) (tab : ℕ → BitVec 32)
    (x : ℕ) (c : Fin 8) (o : Fin 5 → ℕ) (ho : inBuf o) (hbc : o = slotAt (x % 2) c.val)
    (w : BitVec 32) (hw : tab (8 * x + c.val) = w) (hb : inPages (k0_off5 w))
    (f : m.view.ty.Contents Val) (fh : mh.view.ty.Contents Val) :
    (slotOf m o ho).view.read Val (m.view.write Val f (bufVal tab (mh.view.read Val fh) x) Finset.univ)
      = (pageOf mh (k0_off5 w) hb).view.read Val fh := by
  subst hw
  funext j
  refine (slot_read m o ho _ ⟨x % 2, Nat.mod_lt _ (by decide)⟩ c hbc j).trans ?_
  rw [page_read, View.read_write_univ]
  rfl

end Paged

end
-- ==== Proof.Ring.lean ====
/- The paged loop of one item: the slots of the two half buffers, the fetches ahead, and one step. -/
module

public import proofs.«01_k».proof.Proof.Slots
public import Idealize.ShloMosaic.Lib.Ring

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Ring (rangeSet bigSep_rangeSet_head bigSep_rangeSet_empty rangeSet_univ)
open Cert.KernelIdeal Cert.KernelIdeal.Facts₀ Cert.KernelIdeal.Facts

variable {F : FTy → Type} [FloatOps F] [Named F] [Facts]

local notation "𝕄" => MT nD τ sig Unit (Elt F) ℕ UU ℕ

/-- What an item's loop reads and where it started: the table's contents, the page arrays, the buffers before it. -/
structure Ctx (F : FTy → Type) (A : Args) (d : Dev nD) where
  fp : Buf (Elt F) (A.pg.view.loc (T d))
  fk : Buf (Elt F) (A.kh.view.loc (T d))
  fv : Buf (Elt F) (A.vh.view.loc (T d))
  gk : Buf (Elt F) (A.kb.view.loc (T d))
  gv : Buf (Elt F) (A.vb.view.loc (T d))
  tab : ℕ → BitVec 32
  i : ℕ
  hi : i < 8
  htab : ∀ k (hk : k < 512), A.pg.view.read (Elt F) fp (ix2 (⟨i, hi⟩ : Fin 8) (⟨k, hk⟩ : Fin 512)) = tab k

variable {A : Args} {d : Dev nD} (X : Ctx F A d)

/-- The keys' buffer once the pages of step `x` have landed. -/
def Ctx.GK (x : ℕ) : Buf (Elt F) (A.kb.view.loc (T d)) :=
  A.kb.view.write (Elt F) X.gk (bufVal X.tab (A.kh.view.read (Elt F) X.fk) x) Finset.univ
/-- The values' buffer. -/
def Ctx.GV (x : ℕ) : Buf (Elt F) (A.vb.view.loc (T d)) :=
  A.vb.view.write (Elt F) X.gv (bufVal X.tab (A.vh.view.read (Elt F) X.fv) x) Finset.univ

variable (A d) in
/-- Slot `c` of the half of step `x`, free. -/
def slotFree (x : ℕ) (c : Fin 8) : sProp 𝕄 := freeAt A d _ (sem_ok x c) _ (slot_ok x c)
/-- Slot `c` with its page of step `x` on its way. -/
def Ctx.busy (x : ℕ) (c : Fin 8) : sProp 𝕄 := busyAt A d (X.GK x) (X.GV x) _ (sem_ok x c) _ (slot_ok x c)
/-- Slot `c` with its page of step `x` there. -/
def Ctx.land (x : ℕ) (c : Fin 8) : sProp 𝕄 := landAt A d (X.GK x) (X.GV x) _ (sem_ok x c) _ (slot_ok x c)

theorem slotFree_congr {x y : ℕ} (h : x % 2 = y % 2) (c : Fin 8) : (slotFree A d x c : sProp 𝕄) = slotFree A d y c := by
  unfold slotFree
  have key : ∀ (e e' : Fin 2 → ℕ) (he : inSems e) (he' : inSems e') (o o' : Fin 5 → ℕ) (ho : inBuf o) (ho' : inBuf o'), e = e' → o = o' →
      (freeAt A d e he o ho : sProp 𝕄) = freeAt A d e' he' o' ho' := by
    intro e e' he he' o o' ho ho' h1 h2; subst h1; subst h2; rfl
  exact key _ _ _ _ _ _ _ _ (by rw [h]) (by rw [h])

/-- The arrays an item's loop only reads. -/
def Ctx.arrs : sProp 𝕄 := iprop(pts d A.pg Finset.univ fullShare X.fp ∗ pageArr d A.kh X.fk ∗ pageArr d A.vh X.fv)

theorem wp_fetchSlot {α : Type} {Q : α → sProp 𝕄} (x : ℕ) (c : Fin 8) (hx : 8 * x + c.val < 512) (P : Prop) (hP : P)
    (r : Fin 2 → ℕ) (hr : inTable r) (e : Fin 2 → ℕ) (he : inSems e) (o : Fin 5 → ℕ) (ho : inBuf o) (K : TProg F α)
    (hr' : r = ![X.i, 8 * x + c.val]) (he' : e = semAt (x % 2) c.val) (ho' : o = slotAt (x % 2) c.val) :
    iprop(X.arrs ∗ slotFree A d x c)
      ⊢ iprop((iprop(X.arrs ∗ X.busy x c) -∗ wp frame (wpE defs₀ 𝒱₀ (T d) none) Set.univ K Q)
        -∗ wp frame (wpE defs₀ 𝒱₀ (T d) none) Set.univ (fetch A P hP r hr e he o ho K) Q) := by
  subst hr'; subst he'; subst ho'
  have hw : A.pg.view.read (Elt F) X.fp ((Rect.unit (s := S8x512) ![X.i, 8 * x + c.val] S1x1.size hr).emb
      (Shape.Idx.first (numel1_S1x1.symm ▸ Nat.one_pos))) = X.tab (8 * x + c.val) := by
    rw [← X.htab _ hx]
    refine congrArg (A.pg.view.read (Elt F) X.fp) ?_
    funext a
    match a with
    | ⟨0, _⟩ => exact Fin.ext (by show X.i + 1 * 0 = X.i; omega)
    | ⟨1, _⟩ => exact Fin.ext (by show (8 * x + c.val) + 1 * 0 = 8 * x + c.val; omega)
  have hk := fetch_read (Val := Elt F) A.kb A.kh X.tab x c _ ho rfl _ rfl (inPages_of _) X.gk X.fk
  have hv := fetch_read (Val := Elt F) A.vb A.vh X.tab x c _ ho rfl _ rfl (inPages_of _) X.gv X.fv
  unfold Ctx.arrs slotFree Ctx.busy
  iintro ⟨⟨Hp, Hk, Hv⟩, Hf⟩ HK
  iapply (wp_fetch A d X.fp X.fk X.fv (X.GK x) (X.GV x) P hP _ hr _ he _ ho K _ hw (inPages_of _) hk hv) $$ [Hp Hk Hv Hf]
  · isplitl [Hp]; · iexact Hp
    isplitl [Hk]; · iexact Hk
    isplitl [Hv] <;> iassumption
  iintro ⟨Hp, Hk, Hv, Hf⟩
  iapply HK
  isplitr [Hf]
  · isplitl [Hp]; · iexact Hp
    isplitl [Hk] <;> iassumption
  · iexact Hf

/-- The fetches of the first step, from slot `c` on. -/
theorem wp_startFrom (n : BitVec 32) (hQ : k0_cond3 n = 1#1) {Q : PUnit → sProp 𝕄} : ∀ (k c : ℕ), c + k = 8 →
    iprop(X.arrs ∗ bigSep (rangeSet 8 c 8) (slotFree A d 0))
      ⊢ iprop((iprop(X.arrs ∗ bigSep (rangeSet 8 c 8) (X.busy 0)) -∗ Q ⟨⟩)
        -∗ wp frame (wpE defs₀ 𝒱₀ (T d) none) Set.univ (startFrom A X.i X.hi n hQ k c) Q)
  | 0, c, h => by
    rw [bigSep_rangeSet_empty (by omega), bigSep_rangeSet_empty (by omega)]
    unfold startFrom
    rw [Prog.pure_eq_ret, wp_ret]
    iintro H HK
    imodintro
    iapply HK; iexact H
  | k + 1, c, h => by
    have hc : c < 8 := by omega
    rw [bigSep_rangeSet_head hc hc, bigSep_rangeSet_head hc hc]
    unfold startFrom
    rw [dif_pos hc]
    iintro ⟨Ha, Hc, Hr⟩ HK
    iapply (wp_fetchSlot X 0 ⟨c, hc⟩ (by show 8 * 0 + c < 512; omega) _ hQ _ _ _ _ _ _ _ (by rw [Nat.mul_zero, Nat.zero_add]) rfl rfl) $$ [Ha Hc]
    · isplitl [Ha] <;> iassumption
    iintro ⟨Ha, Hc⟩
    iapply (wp_startFrom n hQ k (c + 1) (by omega)) $$ [Ha Hr]
    · isplitl [Ha] <;> iassumption
    iintro ⟨Ha, Hr⟩
    iapply HK
    isplitl [Ha]; · iexact Ha
    isplitl [Hc] <;> iassumption

/-- The fetches of the next step. -/
theorem wp_nextFrom (n : ℕ) (hn : n ≤ 128) (h : stepChk X.i (BitVec.ofNat 32 n)) (t : Fin (k0_t3_loop (BitVec.ofNat 32 n)).trips)
    (hQ : k0_cond4 (BitVec.ofNat 32 n) t = 1#1) {Q : PUnit → sProp 𝕄} : ∀ (k c : ℕ), c + k = 8 →
    iprop(X.arrs ∗ bigSep (rangeSet 8 c 8) (slotFree A d (t.val + 1)))
      ⊢ iprop((iprop(X.arrs ∗ bigSep (rangeSet 8 c 8) (X.busy (t.val + 1))) -∗ Q ⟨⟩)
        -∗ wp frame (wpE defs₀ 𝒱₀ (T d) none) Set.univ (nextFrom A X.i (BitVec.ofNat 32 n) h t hQ k c) Q)
  | 0, c, hk => by
    rw [bigSep_rangeSet_empty (by omega), bigSep_rangeSet_empty (by omega)]
    unfold nextFrom
    rw [Prog.pure_eq_ret, wp_ret]
    iintro H HK
    imodintro
    iapply HK; iexact H
  | k + 1, c, hk => by
    have hc : c < 8 := by omega
    have ht : t.val < 16 := trip_lt n hn t
    rw [bigSep_rangeSet_head hc hc, bigSep_rangeSet_head hc hc]
    unfold nextFrom
    rw [dif_pos hc]
    iintro ⟨Ha, Hc, Hr⟩ HK
    have ht' : t.val + 1 < 16 :=
      Nat.lt_of_lt_of_le ((cond4_iff n hn t).mp hQ) (stepsOf_le hn)
    iapply (wp_fetchSlot X (t.val + 1) ⟨c, hc⟩ (by show 8 * (t.val + 1) + c < 512; omega) _ hQ _ _ _ _ _ _ _
      (by rw [rowAt, nextWord_toNat t.val c ht hc]) (by rw [bufOf_next_eq t.val ht]) (by rw [bufOf_next_eq t.val ht])) $$ [Ha Hc]
    · isplitl [Ha] <;> iassumption
    iintro ⟨Ha, Hc⟩
    iapply (wp_nextFrom n hn h t hQ k (c + 1) (by omega)) $$ [Ha Hr]
    · isplitl [Ha] <;> iassumption
    iintro ⟨Ha, Hr⟩
    iapply HK
    isplitl [Ha]; · iexact Ha
    isplitl [Hc] <;> iassumption

theorem wp_awaitSlot {α : Type} {Q : α → sProp 𝕄} (x : ℕ) (c : Fin 8) (O : CellTallies nD τ sig Unit)
    (e : Fin 2 → ℕ) (he : inSems e) (o : Fin 5 → ℕ) (ho : inBuf o) (K : TProg F α)
    (he' : e = semAt (x % 2) c.val) (ho' : o = slotAt (x % 2) c.val) :
    iprop(X.busy x c ∗ (∃ W, owes (T d) O W) ∗ locWaits A d O)
      ⊢ iprop((iprop(X.land x c ∗ (∃ W, owes (T d) O W)) -∗ wp frame (wpE defs₀ 𝒱₀ (T d) none) Set.univ K Q)
        -∗ wp frame (wpE defs₀ 𝒱₀ (T d) none) Set.univ (await A e he o ho K) Q) := by
  subst he'; subst ho'
  exact wp_await A d (X.GK x) (X.GV x) _ he _ ho K O

/-- The waits of a step, from slot `c` on. -/
theorem wp_awaitFrom {α : Type} (n : ℕ) (hn : n ≤ 128) (h : stepChk X.i (BitVec.ofNat 32 n)) (t : Fin (k0_t3_loop (BitVec.ofNat 32 n)).trips)
    (O : CellTallies nD τ sig Unit) (K : TProg F α) {Q : α → sProp 𝕄} : ∀ (k c : ℕ), c + k = 8 →
    iprop(bigSep (rangeSet 8 c 8) (X.busy t.val) ∗ (∃ W, owes (T d) O W) ∗ locWaits A d O)
      ⊢ iprop((iprop(bigSep (rangeSet 8 c 8) (X.land t.val) ∗ (∃ W, owes (T d) O W)) -∗ wp frame (wpE defs₀ 𝒱₀ (T d) none) Set.univ K Q)
        -∗ wp frame (wpE defs₀ 𝒱₀ (T d) none) Set.univ (awaitFrom A X.i (BitVec.ofNat 32 n) h t K k c) Q)
  | 0, c, hk => by
    rw [bigSep_rangeSet_empty (by omega), bigSep_rangeSet_empty (by omega)]
    unfold awaitFrom
    iintro ⟨He, HO, -⟩ HK
    iapply HK
    isplitl [He] <;> iassumption
  | k + 1, c, hk => by
    have hc : c < 8 := by omega
    have ht : t.val < 16 := trip_lt n hn t
    rw [bigSep_rangeSet_head hc hc, bigSep_rangeSet_head hc hc]
    unfold awaitFrom
    rw [dif_pos hc]
    iintro ⟨⟨Hc, Hr⟩, HO, #Hw⟩ HK
    iapply (wp_awaitSlot X t.val ⟨c, hc⟩ O _ _ _ _ _ (by rw [bufOf_eq t.val ht]) (by rw [bufOf_eq t.val ht])) $$ [Hc HO]
    · isplitl [Hc]; · iexact Hc
      isplitl [HO]; · iexact HO
      iexact Hw
    iintro ⟨Hc, HO⟩
    iapply (wp_awaitFrom n hn h t O K k (c + 1) (by omega)) $$ [Hr HO]
    · isplitl [Hr]; · iexact Hr
      isplitl [HO]; · iexact HO
      iexact Hw
    iintro ⟨Hr, HO⟩
    iapply HK
    isplitr [HO]
    · isplitl [Hc] <;> iassumption
    · iexact HO

/-- The landed slots of a half: the half buffers whole, beside their semaphores. -/
theorem land_split (x : ℕ) :
    (bigSep Finset.univ (X.land x) : sProp 𝕄)
      = iprop(pts d A.kb (halfSet A.kb x) fullShare (X.GK x) ∗ pts d A.vb (halfSet A.vb x) fullShare (X.GV x)
          ∗ bigSep Finset.univ (fun c => iprop(semVal (T d, .dma (semOf A.ks _ (sem_ok x c))) 0 ∗ semVal (T d, .dma (semOf A.vs _ (sem_ok x c))) 0))) := by
  unfold Ctx.land landAt pts halfSet
  rw [pointsTo_biUnion _ _ (fun c _ c' _ h => slots_disjoint A.kb x c c' h), pointsTo_biUnion _ _ (fun c _ c' _ h => slots_disjoint A.vb x c c' h)]
  exact (bigSep_sep _ _ _).trans (congrArg (BI.sep _) (bigSep_sep _ _ _))

/-- A landed slot is free. -/
theorem land_free (x : ℕ) (c : Fin 8) : (X.land x c : sProp 𝕄) ⊢ slotFree A d x c := by
  unfold Ctx.land landAt slotFree freeAt
  iintro ⟨Hk, Hv, Hs, Hs'⟩
  isplitl [Hk]; · iexists _; iexact Hk
  isplitl [Hv]; · iexists _; iexact Hv
  isplitl [Hs] <;> iassumption

/-- The carry after `x` steps of an item of `n` entries. -/
def carryAt (n : ℕ) (q : FVec F S8x128 .f32) (tab : ℕ → BitVec 32) (kv vv : S512x16x8x128.Idx → Elt F .f32) : ℕ → Carry F
  | 0 => carry0
  | x + 1 => stepVal (ivW x) (BitVec.ofNat 32 n) q (halfVal tab kv x) (halfVal tab vv x) (carryAt n q tab kv vv x)

/-- The carry after `x` steps of this loop. -/
abbrev Ctx.carry (n : ℕ) (q : FVec F S8x128 .f32) (x : ℕ) : Carry F :=
  carryAt n q X.tab (A.kh.view.read (Elt F) X.fk) (A.vh.view.read (Elt F) X.fv) x

/-- The half of step `x`: its pages on their way if there is such a step. -/
def Ctx.half (S x : ℕ) : sProp 𝕄 := if x < S then bigSep Finset.univ (X.busy x) else bigSep Finset.univ (slotFree A d x)

/-- What the loop holds before step `x`. -/
def Ctx.inv (n : ℕ) (q : FVec F S8x128 .f32) (O : CellTallies nD τ sig Unit) (x : ℕ) (a : Carry F) : sProp 𝕄 :=
  iprop(⌜a = X.carry n q x⌝ ∗ X.arrs ∗ X.half (stepsOf n) x ∗ bigSep Finset.univ (slotFree A d (x + 1)) ∗ (∃ W, owes (T d) O W) ∗ locWaits A d O)

theorem wp_nextIf (n : ℕ) (hn : n ≤ 128) (h : stepChk X.i (BitVec.ofNat 32 n)) (t : Fin (k0_t3_loop (BitVec.ofNat 32 n)).trips) {Q : PUnit → sProp 𝕄} :
    iprop(X.arrs ∗ bigSep Finset.univ (slotFree A d (t.val + 1)))
      ⊢ iprop((iprop(X.arrs ∗ X.half (stepsOf n) (t.val + 1)) -∗ Q ⟨⟩)
        -∗ wp frame (wpE defs₀ 𝒱₀ (T d) none) Set.univ (nextIf A X.i (BitVec.ofNat 32 n) h t) Q) := by
  unfold nextIf Ctx.half
  by_cases hQ : k0_cond4 (BitVec.ofNat 32 n) t = 1#1
  · rw [dif_pos hQ, if_pos ((cond4_iff n hn t).mp hQ), ← rangeSet_univ]
    exact wp_nextFrom X n hn h t hQ 8 0 rfl
  · rw [dif_neg hQ, if_neg (fun h' => hQ ((cond4_iff n hn t).mpr h')), Prog.pure_eq_ret, wp_ret]
    iintro H HK
    imodintro
    iapply HK; iexact H

theorem wp_startIf (n : ℕ) (hn : n ≤ 128) {Q : PUnit → sProp 𝕄} :
    iprop(X.arrs ∗ bigSep Finset.univ (slotFree A d 0))
      ⊢ iprop((iprop(X.arrs ∗ X.half (stepsOf n) 0) -∗ Q ⟨⟩)
        -∗ wp frame (wpE defs₀ 𝒱₀ (T d) none) Set.univ (startIf A X.i X.hi (BitVec.ofNat 32 n)) Q) := by
  unfold startIf Ctx.half
  by_cases hQ : k0_cond3 (BitVec.ofNat 32 n) = 1#1
  · rw [dif_pos hQ, if_pos ((cond3_iff n hn).mp hQ), ← rangeSet_univ]
    exact wp_startFrom X _ hQ 8 0 rfl
  · rw [dif_neg hQ, if_neg (fun h' => hQ ((cond3_iff n hn).mpr h')), Prog.pure_eq_ret, wp_ret]
    iintro H HK
    imodintro
    iapply HK; iexact H

/-- One step. -/
theorem wp_stepBody (n : ℕ) (hn : n ≤ 128) (h : stepChk X.i (BitVec.ofNat 32 n)) (q : FVec F S8x128 .f32) (O : CellTallies nD τ sig Unit)
    (t : Fin (k0_t3_loop (BitVec.ofNat 32 n)).trips) (a : Carry F) :
    X.inv n q O t.val a ⊢ wp frame (wpE defs₀ 𝒱₀ (T d) none) Set.univ (stepBody A X.i (BitVec.ofNat 32 n) h q t a) (X.inv n q O (t.val + 1)) := by
  have ht : t.val < 16 := trip_lt n hn t
  have htS : t.val < stepsOf n := lt_of_lt_of_eq t.isLt (loop3_trips n hn)
  unfold stepBody
  rw [wp_bind]
  unfold Ctx.inv
  iintro ⟨%ha, Ha, Hh, Hf, HO, #Hw⟩
  iapply (wp_nextIf X n hn h t) $$ [Ha Hf]
  · isplitl [Ha] <;> iassumption
  iintro ⟨Ha, Hn⟩
  ihave Hh := (show (X.half (stepsOf n) t.val : sProp 𝕄) ⊢ bigSep (rangeSet 8 0 8) (X.busy t.val) from .of_eq (by
    unfold Ctx.half; rw [if_pos htS, rangeSet_univ])) $$ Hh
  iapply (wp_awaitFrom X n hn h t O _ 8 0 rfl) $$ [Hh HO]
  · isplitl [Hh]; · iexact Hh
    isplitl [HO]; · iexact HO
    iexact Hw
  iintro ⟨Hl, HO⟩
  ihave Hl := (show (bigSep (rangeSet 8 0 8) (X.land t.val) : sProp 𝕄) ⊢ _ from .of_eq (by rw [rangeSet_univ, land_split])) $$ Hl
  icases Hl with ⟨Hk, Hv, Hs⟩
  simp only [Prog.lift, Prog.bind_op, Prog.bind_ret]
  iapply (wp_load (m := A.kb) 𝒱₀ (T d) none Set.univ (half_subset A.kb t.val _ (bufOf_eq t.val ht) (h.thisHalf t))) $$ Hk
  iintro Hk
  iapply (wp_load (m := A.vb) 𝒱₀ (T d) none Set.univ (half_subset A.vb t.val _ (bufOf_eq t.val ht) (h.thisHalf t))) $$ Hv
  iintro Hv
  ihave Hl := (show iprop(pts d A.kb (halfSet A.kb t.val) fullShare (X.GK t.val) ∗ pts d A.vb (halfSet A.vb t.val) fullShare (X.GV t.val)
          ∗ bigSep Finset.univ (fun c => iprop(semVal (T d, .dma (semOf A.ks _ (sem_ok t.val c))) 0 ∗ semVal (T d, .dma (semOf A.vs _ (sem_ok t.val c))) 0)))
      ⊢ bigSep Finset.univ (slotFree A d (t.val + 1 + 1)) from by
    rw [← land_split]
    refine bigSep_mono fun c _ => (land_free X t.val c).trans (.of_eq (slotFree_congr (by omega) c))) $$ [Hk Hv Hs]
  · isplitl [Hk]; · iexact Hk
    isplitl [Hv] <;> iassumption
  rw [Prog.pure_eq_ret, wp_ret]
  imodintro
  isplitr
  · ipureintro
    subst ha
    have ek := half_read A.kb X.tab (A.kh.view.read (Elt F) X.fk) t.val _ (h.thisHalf t) X.gk
    have ev := half_read A.vb X.tab (A.vh.view.read (Elt F) X.fv) t.val _ (h.thisHalf t) X.gv
    exact congrArg₂ (fun k v => stepVal (ivW t.val) (BitVec.ofNat 32 n) q k v (X.carry n q t.val)) ek ev
  isplitl [Ha]; · iexact Ha
  isplitl [Hn]; · iexact Hn
  isplitl [Hl]; · iexact Hl
  isplitl [HO]; · iexact HO
  iexact Hw

end Paged

end
-- ==== Proof.Item.lean ====
/- One item of the batch: its table compacted, its loop, the carry left in the accumulators; and what that leaves. -/
module

public import proofs.«01_k».proof.Proof.Ring

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Facts₀ Cert.KernelIdeal.Facts

/-! ## What an item computes -/

/-- The operands of one device, read as arrays. -/
structure Data (F : FTy → Type) where
  q : S8x1x8x128.Idx → F .f32
  bt : S8x512.Idx → BitVec 32
  ln : S8.Idx → BitVec 32
  kv : S512x16x8x128.Idx → F .f32
  vv : S512x16x8x128.Idx → F .f32

/-- Row `i` of a table, entry by entry. -/
def rowOf (bt : S8x512.Idx → BitVec 32) (i : Fin 8) (k : ℕ) : BitVec 32 := if h : k < 512 then bt (ix2 i ⟨k, h⟩) else 0#32

/-- The entries of a row that device `d` keeps among the first `t` it reads. -/
def kept (d : Dev nD) (row : ℕ → BitVec 32) (t : ℕ) : List (BitVec 32) :=
  ((List.range t).map fun s => row (qd d + 4 * s)).filter fun p => keep.k0_cond1' d p = 1#1

theorem kept_succ (d : Dev nD) (row : ℕ → BitVec 32) (t : ℕ) :
    kept d row (t + 1) = if keep.k0_cond1' d (row (qd d + 4 * t)) = 1#1 then kept d row t ++ [row (qd d + 4 * t)] else kept d row t := by
  unfold kept
  rw [List.range_succ, List.map_append, List.filter_append, List.map_singleton, List.filter_singleton]
  by_cases h : keep.k0_cond1' d (row (qd d + 4 * t)) = 1#1
  · rw [if_pos h]; simp [h]
  · rw [if_neg h]; simp [h]

theorem kept_length (d : Dev nD) (row : ℕ → BitVec 32) (t : ℕ) : (kept d row t).length ≤ t := by
  unfold kept
  refine (List.length_filter_le _ _).trans ?_
  rw [List.length_map, List.length_range]

/-- Item `i`'s kept entries. -/
abbrev Data.list {F : FTy → Type} (D : Data F) (d : Dev nD) (i : Fin 8) : List (BitVec 32) :=
  kept d (rowOf D.bt i) (trips1 d (D.ln (ix1 i)))

/-- The rectangle of item `i`'s queries. -/
abbrev qRect (i : ℕ) (hi : i < 8) : Rect S8x1x8x128 :=
  Rect.unit (s := S8x1x8x128) ![i, 0, 0, 0] S1x1x8x128.size (by intro a; fin_cases a <;> simp [S1x1x8x128, S8x1x8x128] <;> omega)

variable {F : FTy → Type} [FloatOps F] [Named F] [Facts]

/-- Item `i`'s queries. -/
def qRow (q : S8x1x8x128.Idx → F .f32) (i : ℕ) (hi : i < 8) : FVec F S8x128 .f32 :=
  shapeCast S8x128 (fun j : S1x1x8x128.Idx => q ((qRect i hi).toLoadRect.idx j)) shapeCasts_S1x1x8x128_S8x128

/-- The carries device `d` may end item `i` with: the entries of the table past the kept ones are whatever they were. -/
def ItemRes (D : Data F) (d : Dev nD) (i : Fin 8) (a : Carry F) : Prop :=
  ∃ tab : ℕ → BitVec 32, (∀ k, k < (D.list d i).length → tab k = Scalar.andi ((D.list d i).getD k 0#32) 511#32)
    ∧ a = carryAt (D.list d i).length (qRow D.q i.val i.isLt) tab D.kv D.vv (stepsOf (D.list d i).length)

/-- Row `i` of the accumulators holds a carry. -/
def RowOK (av : S8x8x128.Idx → F .f32) (mv : S2x8x8.Idx → F .f32) (i : Fin 8) (a : Carry F) : Prop :=
  (∀ (h : Fin 8) (l : Fin 128), av (ix3 i h l) = a.2.2 (ix2 h l))
    ∧ (∀ h : Fin 8, mv (ix3 (0 : Fin 2) i h) = a.1 (ix2 h (0 : Fin 1)))
    ∧ (∀ h : Fin 8, mv (ix3 (1 : Fin 2) i h) = a.2.1 (ix2 h (0 : Fin 1)))

local notation "𝕄" => MT nD τ sig Unit (Elt F) ℕ UU ℕ

/-! ## The compaction -/

variable (A : Args) (d : Dev nD)

/-- What the compaction of item `i` has written after `t` entries. -/
def compInv (i : Fin 8) (fbt : Buf (Elt F) (A.bt.view.loc (T d))) (t : ℕ) (n : BitVec 32) : sProp 𝕄 :=
  iprop(∃ fp : Buf (Elt F) (A.pg.view.loc (T d)), ⌜n = BitVec.ofNat 32 (kept d (rowOf (A.bt.view.read (Elt F) fbt) i) t).length
      ∧ ∀ k (hk : k < 512), k < (kept d (rowOf (A.bt.view.read (Elt F) fbt) i) t).length →
        A.pg.view.read (Elt F) fp (ix2 i (⟨k, hk⟩ : Fin 512)) = Scalar.andi ((kept d (rowOf (A.bt.view.read (Elt F) fbt) i) t).getD k 0#32) 511#32⌝
    ∗ pts d A.pg Finset.univ fullShare fp ∗ pts d A.bt Finset.univ fullShare fbt)

theorem entry_idx {r0 r1 : ℕ} (hr : inTable ![r0, r1]) (h0 : r0 < 8) (h1 : r1 < 512)
    (x : (Rect.unit (s := S8x512) ![r0, r1] S1x1.size hr).shape.Idx) :
    (Rect.unit (s := S8x512) ![r0, r1] S1x1.size hr).emb x = ix2 (⟨r0, h0⟩ : Fin 8) (⟨r1, h1⟩ : Fin 512) := by
  funext a
  match a with
  | ⟨0, _⟩ => exact Fin.ext (by have : (x 0).val < 1 := (x 0).isLt; show r0 + 1 * (x 0).val = r0; omega)
  | ⟨1, _⟩ => exact Fin.ext (by have : (x 1).val < 1 := (x 1).isLt; show r1 + 1 * (x 1).val = r1; omega)

theorem getD_append_last {α : Type} (l : List α) (p z : α) : (l ++ [p]).getD l.length z = p := by simp [List.getD]
theorem getD_append_lt {α : Type} (l : List α) (p z : α) {k : ℕ} (h : k < l.length) : (l ++ [p]).getD k z = l.getD k z := by
  simp [List.getD, List.getElem?_append_left h]

theorem wp_keep (i : Fin 8) (fbt : Buf (Elt F) (A.bt.view.loc (T d))) (w : BitVec 32) (hw : w.toInt ≤ 512) (h : lenChk i.val d w)
    (t : Fin (k0_t1_loop d w).trips) (n : BitVec 32) :
    compInv A d i fbt t.val n ⊢ wp frame (wpE defs₀ 𝒱₀ (T d) none) Set.univ (keep A i.val d w h t n) (compInv A d i fbt (t.val + 1)) := by
  have ht : t.val < trips1 d w := by rw [← loop1_trips d w hw]; exact t.isLt
  have hlt := entry_lt d w hw ht
  have htl := trips1_le d w hw
  unfold compInv keep smemLoad smemLoadElt
  simp only [Prog.lift, Prog.bind_op, Prog.bind_ret]
  iintro ⟨%fp, ⟨%hn, %hp⟩, Hp, Hb⟩
  iapply (wp_load_rect (m := A.bt) (r := Rect.unit (s := S8x512) ![i.val, k0_off1 d w t 1] S1x1.size (h.2.1 t)) 𝒱₀ (T d) none Set.univ (Finset.subset_univ _)) $$ Hb
  iintro Hb
  have hp0 : ∀ x, (A.bt.access (Rect.unit (s := S8x512) ![i.val, k0_off1 d w t 1] S1x1.size (h.2.1 t))).read (Elt F) fbt x
      = rowOf (A.bt.view.read (Elt F) fbt) i (qd d + 4 * t.val) := by
    intro x
    refine (congrArg (A.bt.view.read (Elt F) fbt) (entry_idx (h.2.1 t) i.isLt (by rw [off1_eq d w hw]; exact hlt) x)).trans ?_
    unfold rowOf
    rw [dif_pos hlt]
    refine congrArg (A.bt.view.read (Elt F) fbt) ?_
    funext a
    match a with
    | ⟨0, _⟩ => rfl
    | ⟨1, _⟩ => exact Fin.ext (off1_eq d w hw t)
  rw [hp0]
  generalize hP : rowOf (A.bt.view.read (Elt F) fbt) i (qd d + 4 * t.val) = p
  have hlen : (kept d (rowOf (A.bt.view.read (Elt F) fbt) i) t.val).length ≤ t.val := kept_length _ _ _
  have hnn : n.toNat = (kept d (rowOf (A.bt.view.read (Elt F) fbt) i) t.val).length := by
    rw [hn, BitVec.toNat_ofNat]; exact Nat.mod_eq_of_lt (by omega)
  have hn5 : n.toNat < 512 := by omega
  iapply (wp_assume 𝒱₀ (T d) none Set.univ (putChk_of i.val i.isLt d n p hn5))
  have hs := kept_succ d (rowOf (A.bt.view.read (Elt F) fbt) i) t.val
  rw [hP] at hs
  unfold put
  by_cases hc : k0_cond1 d p = 1#1
  · have hc' : keep.k0_cond1' d p = 1#1 := by rw [← cond1_eq]; exact hc
    rw [dif_pos hc]
    rw [if_pos hc'] at hs
    unfold smemLoad smemLoadElt
    simp only [Prog.lift, Prog.bind_op, Prog.bind_ret, Prog.pure_eq_ret]
    iapply (wp_load_rect (m := A.pg) (r := Rect.unit (s := S8x512) (rowAt i.val n) S1x1.size (putChk_of i.val i.isLt d n p hn5 hc)) 𝒱₀ (T d) none Set.univ (Finset.subset_univ _)) $$ Hp
    iintro Hp
    iapply (wp_store (m := A.pg) (r := Rect.unit (s := S8x512) (rowAt i.val n) S1x1.size (putChk_of i.val i.isLt d n p hn5 hc)) 𝒱₀ (T d) none Set.univ (Finset.subset_univ _)) $$ Hp
    iintro Hp
    rw [wp_ret]
    imodintro
    iexists ((A.pg.access (Rect.unit (s := S8x512) (rowAt i.val n) S1x1.size (putChk_of i.val i.isLt d n p hn5 hc))).write (Elt F) fp
      (fun _ => Scalar.andi p 511#32) Finset.univ)
    isplitr
    · ipureintro
      rw [hs]
      refine ⟨?_, fun k hk hkl => ?_⟩
      · rw [hc', hn, List.length_append, List.length_singleton]
        show BitVec.ofNat 32 _ + 1#32 = _
        rw [← BitVec.ofNat_add]
      · by_cases hkn : k = (kept d (rowOf (A.bt.view.read (Elt F) fbt) i) t.val).length
        · have e := entry_idx (r0 := i.val) (r1 := n.toNat) (putChk_of i.val i.isLt d n p hn5 hc) i.isLt hn5 (Shape.Idx.first (numel1_S1x1.symm ▸ Nat.one_pos))
          have e' : ix2 i (⟨k, hk⟩ : Fin 512) = ix2 (⟨i.val, i.isLt⟩ : Fin 8) (⟨n.toNat, hn5⟩ : Fin 512) := by
            have : (⟨k, hk⟩ : Fin 512) = ⟨n.toNat, hn5⟩ := Fin.ext (hkn.trans hnn.symm)
            rw [this]
          rw [e', ← e, View.read_slice_write_emb _ _ _ (Finset.mem_univ _), hkn, getD_append_last]
        · rw [List.length_append, List.length_singleton] at hkl
          rw [getD_append_lt _ _ _ (by omega), ← hp k hk (by omega)]
          refine View.read_slice_write_of_not_mem _ _ _ _ ?_
          intro hm
          obtain ⟨x, -, hx⟩ := Finset.mem_map.mp hm
          have e := entry_idx (r0 := i.val) (r1 := n.toNat) (putChk_of i.val i.isLt d n p hn5 hc) i.isLt hn5 x
          have e1 := congrArg (fun j : S8x512.Idx => (j 1).val) (hx.symm.trans e)
          exact hkn ((show k = n.toNat from e1).trans hnn)
    isplitl [Hp]; · iexact Hp
    iexact Hb
  · have hc' : keep.k0_cond1' d p ≠ 1#1 := by rw [← cond1_eq]; exact hc
    have hc0 : keep.k0_cond1' d p = 0#1 := by
      generalize keep.k0_cond1' d p = c at hc'; revert hc'; revert c; decide
    rw [dif_neg hc]
    rw [if_neg hc'] at hs
    simp only [Prog.bind_ret, Prog.pure_eq_ret]
    rw [wp_ret]
    imodintro
    iexists fp
    isplitr
    · ipureintro
      rw [hs]
      refine ⟨?_, hp⟩
      rw [hc0, ← hn]
      show n + 0#32 = n
      exact BitVec.add_zero n
    isplitl [Hp]; · iexact Hp
    iexact Hb

end Paged

end
-- ==== Proof.Items.lean ====
/- An item from end to end, and the eight items in turn. -/
module

public import proofs.«01_k».proof.Proof.Item

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Facts₀ Cert.KernelIdeal.Facts

variable {F : FTy → Type} [FloatOps F] [Named F] [Facts]

local notation "𝕄" => MT nD τ sig Unit (Elt F) ℕ UU ℕ

/-! ## What a store to an accumulator leaves -/

section stores
variable (A : Args) (d : Dev nD)

theorem acc_emb (i : Fin 8) (h : Fin 8) (l : Fin 128) : ix3 i h l = (accRow i.val i.isLt).emb (ix3 (0 : Fin 1) h l) := by
  funext a
  match a with
  | ⟨0, _⟩ => exact Fin.ext (by show i.val = i.val + 1 * 0; omega)
  | ⟨1, _⟩ => exact Fin.ext (by show h.val = 0 + 1 * h.val; omega)
  | ⟨2, _⟩ => exact Fin.ext (by show l.val = 0 + 1 * l.val; omega)

theorem ml_emb (j : Fin 2) (i : Fin 8) (h : Fin 8) : ix3 j i h = (mlRow j.val i.val j.isLt i.isLt).emb (ix3 (0 : Fin 1) (0 : Fin 1) h) := by
  funext a
  match a with
  | ⟨0, _⟩ => exact Fin.ext (by show j.val = j.val + 1 * 0; omega)
  | ⟨1, _⟩ => exact Fin.ext (by show i.val = i.val + 1 * 0; omega)
  | ⟨2, _⟩ => exact Fin.ext (by show h.val = 0 + 1 * h.val; omega)

theorem acc_store_at (f : Buf (Elt F) (A.acc.view.loc (T d))) (w : S1x8x128.Idx → Elt F .f32) (i : Fin 8) (h : Fin 8) (l : Fin 128) :
    A.acc.view.read (Elt F) ((A.acc.access (accRow i.val i.isLt)).write (Elt F) f w Finset.univ) (ix3 i h l) = w (ix3 (0 : Fin 1) h l) := by
  rw [acc_emb i h l]
  exact View.read_slice_write_emb _ _ _ (Finset.mem_univ _)

theorem acc_store_ne (f : Buf (Elt F) (A.acc.view.loc (T d))) (w : S1x8x128.Idx → Elt F .f32) (i i' : Fin 8) (hne : i'.val ≠ i.val) (h : Fin 8) (l : Fin 128) :
    A.acc.view.read (Elt F) ((A.acc.access (accRow i.val i.isLt)).write (Elt F) f w Finset.univ) (ix3 i' h l) = A.acc.view.read (Elt F) f (ix3 i' h l) := by
  refine View.read_slice_write_of_not_mem _ _ _ _ ?_
  intro hm
  obtain ⟨x, -, hx⟩ := Finset.mem_map.mp hm
  have e := congrArg (fun k : S8x8x128.Idx => (k 0).val) hx
  have h0 : (x 0).val < 1 := (x 0).isLt
  exact hne ((show i.val + 1 * (x 0).val = i'.val from e).symm.trans (by omega))

theorem ml_store_at (f : Buf (Elt F) (A.ml.view.loc (T d))) (w : S1x1x8.Idx → Elt F .f32) (j : Fin 2) (i : Fin 8) (h : Fin 8) :
    A.ml.view.read (Elt F) ((A.ml.access (mlRow j.val i.val j.isLt i.isLt)).write (Elt F) f w Finset.univ) (ix3 j i h) = w (ix3 (0 : Fin 1) (0 : Fin 1) h) := by
  rw [ml_emb j i h]
  exact View.read_slice_write_emb _ _ _ (Finset.mem_univ _)

theorem ml_store_ne (f : Buf (Elt F) (A.ml.view.loc (T d))) (w : S1x1x8.Idx → Elt F .f32) (j j' : Fin 2) (i i' : Fin 8) (hne : j'.val ≠ j.val ∨ i'.val ≠ i.val) (h : Fin 8) :
    A.ml.view.read (Elt F) ((A.ml.access (mlRow j.val i.val j.isLt i.isLt)).write (Elt F) f w Finset.univ) (ix3 j' i' h) = A.ml.view.read (Elt F) f (ix3 j' i' h) := by
  refine View.read_slice_write_of_not_mem _ _ _ _ ?_
  intro hm
  obtain ⟨x, -, hx⟩ := Finset.mem_map.mp hm
  have e0 := congrArg (fun k : S2x8x8.Idx => (k 0).val) hx
  have e1 := congrArg (fun k : S2x8x8.Idx => (k 1).val) hx
  have h0 : (x 0).val < 1 := (x 0).isLt
  have h1 : (x 1).val < 1 := (x 1).isLt
  have e0' : j.val + 1 * (x 0).val = j'.val := e0
  have e1' : i.val + 1 * (x 1).val = i'.val := e1
  omega

theorem col_cast (x : FVec F S8x1 .f32) (h : Fin 8) :
    shapeCast S1x1x8 (shapeCast S8 x shapeCasts_S8x1_S8) shapeCasts_S8_S1x1x8 (ix3 (0 : Fin 1) (0 : Fin 1) h) = x (ix2 h (0 : Fin 1)) := by
  refine (shapeCast_apply _ shapeCasts_S8_S1x1x8 _ (ix1 h) ?_).trans ?_
  · rw [Shape.rowMajor_val_one, Shape.rowMajor_val_three]; simp [ix1, ix3]
  · refine shapeCast_apply _ shapeCasts_S8x1_S8 _ (ix2 h (0 : Fin 1)) ?_
    rw [Shape.rowMajor_val_one, Shape.rowMajor_val_two]; simp [ix1, ix2]

/-- Leaving a carry. -/
theorem wp_leave {α : Type} {Q : α → sProp 𝕄} (i : Fin 8) (a : Carry F) (K : TProg F α)
    (fa : Buf (Elt F) (A.acc.view.loc (T d))) (fm : Buf (Elt F) (A.ml.view.loc (T d))) :
    iprop(pts d A.acc Finset.univ fullShare fa ∗ pts d A.ml Finset.univ fullShare fm)
      ⊢ iprop((∀ (fa' : Buf (Elt F) (A.acc.view.loc (T d))) (fm' : Buf (Elt F) (A.ml.view.loc (T d))),
          ⌜RowOK (A.acc.view.read (Elt F) fa') (A.ml.view.read (Elt F) fm') i a
            ∧ (∀ i' : Fin 8, i'.val ≠ i.val → (∀ h l, A.acc.view.read (Elt F) fa' (ix3 i' h l) = A.acc.view.read (Elt F) fa (ix3 i' h l))
              ∧ ∀ (j : Fin 2) h, A.ml.view.read (Elt F) fm' (ix3 j i' h) = A.ml.view.read (Elt F) fm (ix3 j i' h))⌝
          -∗ (pts d A.acc Finset.univ fullShare fa' ∗ pts d A.ml Finset.univ fullShare fm') -∗ wp frame (wpE defs₀ 𝒱₀ (T d) none) Set.univ K Q)
        -∗ wp frame (wpE defs₀ 𝒱₀ (T d) none) Set.univ (leave A i.val i.isLt a K) Q) := by
  unfold leave
  simp only [Prog.lift, Prog.bind_op, Prog.bind_ret]
  iintro ⟨Ha, Hm⟩ HK
  iapply (wp_load_rect (m := A.acc) (r := accRow i.val i.isLt) 𝒱₀ (T d) none Set.univ (Finset.subset_univ _)) $$ Ha
  iintro Ha
  iapply (wp_store (m := A.acc) (r := accRow i.val i.isLt) 𝒱₀ (T d) none Set.univ (Finset.subset_univ _)) $$ Ha
  iintro Ha
  iapply (wp_load_rect (m := A.ml) (r := mlRow 0 i.val Nat.two_pos i.isLt) 𝒱₀ (T d) none Set.univ (Finset.subset_univ _)) $$ Hm
  iintro Hm
  iapply (wp_store (m := A.ml) (r := mlRow 0 i.val Nat.two_pos i.isLt) 𝒱₀ (T d) none Set.univ (Finset.subset_univ _)) $$ Hm
  iintro Hm
  iapply (wp_load_rect (m := A.ml) (r := mlRow 1 i.val Nat.one_lt_two i.isLt) 𝒱₀ (T d) none Set.univ (Finset.subset_univ _)) $$ Hm
  iintro Hm
  iapply (wp_store (m := A.ml) (r := mlRow 1 i.val Nat.one_lt_two i.isLt) 𝒱₀ (T d) none Set.univ (Finset.subset_univ _)) $$ Hm
  iintro Hm
  iapply HK $$ [] [Ha Hm]
  rotate_left
  · isplitl [Ha]
    · iexact Ha
    · iexact Hm
  · ipureintro
    refine ⟨⟨?_, ?_, ?_⟩, ?_⟩
    · intro h l
      exact (acc_store_at A d _ _ i h l).trans (shapeCast_ab_1ab_apply _ _ _ _ _)
    · intro h
      refine (ml_store_ne A d _ _ 1 0 i i (.inl (by decide)) h).trans ?_
      exact (ml_store_at A d _ _ 0 i h).trans (col_cast _ h)
    · intro h
      exact (ml_store_at A d _ _ 1 i h).trans (col_cast _ h)
    · intro i' hne
      refine ⟨fun h l => acc_store_ne A d _ _ i i' hne h l, fun j h => ?_⟩
      refine (ml_store_ne A d _ _ 1 j i i' (.inr hne) h).trans ?_
      exact ml_store_ne A d _ _ 0 j i i' (.inr hne) h

end stores

/-! ## An item -/

/-- The contents a device starts with: its operands, and whatever its buffers hold. -/
structure Bufs (F : FTy → Type) (A : Args) (d : Dev nD) where
  fq : Buf (Elt F) (A.q.view.loc (T d))
  fbt : Buf (Elt F) (A.bt.view.loc (T d))
  fln : Buf (Elt F) (A.ln.view.loc (T d))
  fk : Buf (Elt F) (A.kh.view.loc (T d))
  fv : Buf (Elt F) (A.vh.view.loc (T d))
  gk : Buf (Elt F) (A.kb.view.loc (T d))
  gv : Buf (Elt F) (A.vb.view.loc (T d))

variable {A : Args} {d : Dev nD} (B : Bufs F A d)

/-- The operands read as arrays. -/
def Bufs.data : Data F := ⟨A.q.view.read (Elt F) B.fq, A.bt.view.read (Elt F) B.fbt, A.ln.view.read (Elt F) B.fln,
  A.kh.view.read (Elt F) B.fk, A.vh.view.read (Elt F) B.fv⟩

/-- The rows below `k` of the accumulators are done. -/
def Rows (D : Data F) (d : Dev nD) (av : S8x8x128.Idx → F .f32) (mv : S2x8x8.Idx → F .f32) (k : ℕ) : Prop :=
  ∀ i : Fin 8, i.val < k → ∃ a, ItemRes D d i a ∧ RowOK av mv i a

/-- What the device holds before item `k`. -/
def itemsInv (O : CellTallies nD τ sig Unit) (k : ℕ) : sProp 𝕄 :=
  iprop(∃ (fp : Buf (Elt F) (A.pg.view.loc (T d))) (fa : Buf (Elt F) (A.acc.view.loc (T d))) (fm : Buf (Elt F) (A.ml.view.loc (T d))),
    ⌜Rows B.data d (A.acc.view.read (Elt F) fa) (A.ml.view.read (Elt F) fm) k⌝
    ∗ pts d A.q Finset.univ fullShare B.fq ∗ pts d A.bt Finset.univ fullShare B.fbt ∗ pts d A.ln Finset.univ fullShare B.fln
    ∗ pts d A.pg Finset.univ fullShare fp ∗ pageArr d A.kh B.fk ∗ pageArr d A.vh B.fv
    ∗ pts d A.acc Finset.univ fullShare fa ∗ pts d A.ml Finset.univ fullShare fm
    ∗ bigSep Finset.univ (slotFree A d 0) ∗ bigSep Finset.univ (slotFree A d 1)
    ∗ (∃ W, owes (T d) O W) ∗ locWaits A d O)

/-- The two halves free, whichever was next. -/
theorem halves_free (x : ℕ) : (iprop(bigSep Finset.univ (slotFree (F := F) A d x) ∗ bigSep Finset.univ (slotFree A d (x + 1))) : sProp 𝕄)
    ⊢ iprop(bigSep Finset.univ (slotFree A d 0) ∗ bigSep Finset.univ (slotFree A d 1)) := by
  have e : ∀ y z : ℕ, y % 2 = z % 2 → (bigSep Finset.univ (slotFree (F := F) A d y) : sProp 𝕄) = bigSep Finset.univ (slotFree A d z) :=
    fun y z h => congrArg (bigSep Finset.univ) (funext fun c => slotFree_congr h c)
  rcases Nat.mod_two_eq_zero_or_one x with h | h
  · rw [e x 0 (by omega), e (x + 1) 1 (by omega)]
  · rw [e x 1 (by omega), e (x + 1) 0 (by omega)]
    iintro ⟨Ha, Hb⟩
    isplitl [Hb] <;> iassumption

theorem Rows.step {D : Data F} {k : ℕ} (hk : k < 8) {av av' : S8x8x128.Idx → F .f32} {mv mv' : S2x8x8.Idx → F .f32} {a : Carry F}
    (h : Rows D d av mv k) (ha : ItemRes D d ⟨k, hk⟩ a) (hrow : RowOK av' mv' ⟨k, hk⟩ a)
    (hkeep : ∀ i' : Fin 8, i'.val ≠ k → (∀ h l, av' (ix3 i' h l) = av (ix3 i' h l)) ∧ ∀ (j : Fin 2) h, mv' (ix3 j i' h) = mv (ix3 j i' h)) :
    Rows D d av' mv' (k + 1) := by
  intro i hi
  by_cases e : i.val = k
  · have : i = ⟨k, hk⟩ := Fin.ext e
    subst this
    exact ⟨a, ha, hrow⟩
  · obtain ⟨b, hb, h1, h2, h3⟩ := h i (by omega)
    obtain ⟨k1, k2⟩ := hkeep i e
    exact ⟨b, hb, fun h l => (k1 h l).trans (h1 h l), fun h => (k2 0 h).trans (h2 h), fun h => (k2 1 h).trans (h3 h)⟩

theorem len_idx (k : ℕ) (hk : k < 8) (inb) (x : (Rect.unit (s := S8) ![k] S1.size inb).shape.Idx) :
    (Rect.unit (s := S8) ![k] S1.size inb).emb x = ix1 (⟨k, hk⟩ : Fin 8) := by
  funext a
  match a with
  | ⟨0, _⟩ => exact Fin.ext (by have : (x 0).val < 1 := (x 0).isLt; show k + 1 * (x 0).val = k; omega)

/-- Row `k` of the compacted table, entry by entry. -/
def tabOf (A : Args) (d : Dev nD) (fp : Buf (Elt F) (A.pg.view.loc (T d))) (k : ℕ) (hk : k < 8) (j : ℕ) : BitVec 32 :=
  if h : j < 512 then A.pg.view.read (Elt F) fp (ix2 (⟨k, hk⟩ : Fin 8) (⟨j, h⟩ : Fin 512)) else 0#32

theorem tabOf_eq (A : Args) (d : Dev nD) (fp : Buf (Elt F) (A.pg.view.loc (T d))) (k : ℕ) (hk : k < 8) (j : ℕ) (h : j < 512) :
    tabOf A d fp k hk j = A.pg.view.read (Elt F) fp (ix2 (⟨k, hk⟩ : Fin 8) (⟨j, h⟩ : Fin 512)) := by unfold tabOf; rw [dif_pos h]

/-- The loop's context for item `k` once its table is compacted. -/
def Bufs.ctx (k : ℕ) (hk : k < 8) (fp : Buf (Elt F) (A.pg.view.loc (T d))) : Ctx F A d where
  fp := fp
  fk := B.fk
  fv := B.fv
  gk := B.gk
  gv := B.gv
  tab := tabOf A d fp k hk
  i := k
  hi := hk
  htab := fun j h => (tabOf_eq A d fp k hk j h).symm

/-- An item once its table is compacted: the first pages asked for, the loop. -/
theorem wp_loop {α : Type} {Q : α → sProp 𝕄} (O : CellTallies nD τ sig Unit) (k : ℕ) (hk : k < 8) (N : ℕ) (hlen : N ≤ 128)
    (q : FVec F S8x128 .f32) (hn : stepChk k (BitVec.ofNat 32 N)) (K : Carry F → TProg F α) (fp : Buf (Elt F) (A.pg.view.loc (T d))) :
    iprop(pts d A.pg Finset.univ fullShare fp ∗ pageArr d A.kh B.fk ∗ pageArr d A.vh B.fv
      ∗ bigSep Finset.univ (slotFree A d 0) ∗ bigSep Finset.univ (slotFree A d 1) ∗ (∃ W, owes (T d) O W) ∗ locWaits A d O)
    ⊢ iprop((pts d A.pg Finset.univ fullShare fp ∗ pageArr d A.kh B.fk ∗ pageArr d A.vh B.fv
      ∗ bigSep Finset.univ (slotFree A d 0) ∗ bigSep Finset.univ (slotFree A d 1) ∗ (∃ W, owes (T d) O W) ∗ locWaits A d O
        -∗ wp frame (wpE defs₀ 𝒱₀ (T d) none) Set.univ (K (carryAt N q (B.ctx k hk fp).tab B.data.kv B.data.vv (stepsOf N))) Q)
      -∗ wp frame (wpE defs₀ 𝒱₀ (T d) none) Set.univ (startIf A k hk (BitVec.ofNat 32 N) >>= fun _ =>
        Scf.Loop.for (k0_t3_loop (BitVec.ofNat 32 N)) hn.ok carry0 (stepBody A k (BitVec.ofNat 32 N) hn q) >>= K) Q) := by
  rw [wp_bind]
  iintro ⟨Hp, Hkh, Hvh, H0, H1, HO, #Hw⟩ HK
  iapply (wp_startIf (B.ctx k hk fp) N hlen) $$ [Hp Hkh Hvh H0]
  · unfold Ctx.arrs
    isplitr [H0]
    · isplitl [Hp]
      · iexact Hp
      isplitl [Hkh]
      · iexact Hkh
      iexact Hvh
    iexact H0
  iintro ⟨Har, Hh⟩
  iapply (Scf.wp_for_bind frame (wpE defs₀ 𝒱₀ (T d) none) Set.univ (k0_t3_loop (BitVec.ofNat 32 N)).lb (k0_t3_loop (BitVec.ofNat 32 N)).ub (k0_t3_loop (BitVec.ofNat 32 N)).st
    hn.ok carry0 (stepBody A k (BitVec.ofNat 32 N) hn q) ((B.ctx k hk fp).inv N q O)
    (fun t a => wp_stepBody (B.ctx k hk fp) N hlen hn q O t a)) $$ [Har Hh H1 HO]
  · unfold Ctx.inv
    isplitr
    · ipureintro; rfl
    isplitl [Har]
    · iexact Har
    isplitl [Hh]
    · iexact Hh
    isplitl [H1]
    · iexact H1
    isplitl [HO]
    · iexact HO
    iexact Hw
  iintro %a Hc
  rw [show Scf.trips (k0_t3_loop (BitVec.ofNat 32 N)).lb (k0_t3_loop (BitVec.ofNat 32 N)).ub (k0_t3_loop (BitVec.ofNat 32 N)).st = stepsOf N from loop3_trips N hlen]
  unfold Ctx.inv Ctx.half Ctx.arrs
  rw [if_neg (Nat.lt_irrefl _)]
  icases Hc with ⟨%ha, ⟨Hp, Hkh, Hvh⟩, H0, H1, HO, -⟩
  ihave Hs := (halves_free (F := F) (A := A) (d := d) (stepsOf N)) $$ [H0 H1]
  · isplitl [H0] <;> iassumption
  icases Hs with ⟨H0, H1⟩
  subst ha
  iapply HK
  isplitl [Hp]; · iexact Hp
  isplitl [Hkh]; · iexact Hkh
  isplitl [Hvh]; · iexact Hvh
  isplitl [H0]; · iexact H0
  isplitl [H1]; · iexact H1
  isplitl [HO]; · iexact HO
  iexact Hw

/-- Item `k`. -/
theorem wp_item {α : Type} {Q : α → sProp 𝕄} (O : CellTallies nD τ sig Unit) (hln : ∀ j, (B.data.ln j).toInt ≤ 512) (k : ℕ) (hk : k < 8) (K : TProg F α) :
    itemsInv B O k ⊢ iprop((itemsInv B O (k + 1) -∗ wp frame (wpE defs₀ 𝒱₀ (T d) none) Set.univ K Q)
      -∗ wp frame (wpE defs₀ 𝒱₀ (T d) none) Set.univ (item A k hk d K) Q) := by
  unfold item smemLoad smemLoadElt
  simp only [Prog.lift, Prog.bind_op, Prog.bind_ret]
  conv => lhs; unfold itemsInv
  iintro ⟨%fp, %fa, %fm, %hrows, Hq, Hb, Hl, Hp, Hkh, Hvh, Ha, Hm, H0, H1, HO, #Hw⟩ HK
  have inb : ∀ a : Fin 1, (![k] : Fin 1 → ℕ) a + S1.size a ≤ S8.size a := by intro a; fin_cases a; simp [S1, S8]; omega
  iapply (wp_load_rect (m := A.ln) (r := Rect.unit (s := S8) ![k] S1.size inb) 𝒱₀ (T d) none Set.univ (Finset.subset_univ _)) $$ Hl
  iintro Hl
  have hp0 : ∀ x, (A.ln.access (Rect.unit (s := S8) ![k] S1.size inb)).read (Elt F) B.fln x
      = B.data.ln (ix1 (⟨k, hk⟩ : Fin 8)) := fun x => congrArg (A.ln.view.read (Elt F) B.fln) (len_idx k hk _ x)
  rw [hp0]
  have hwi := hln (ix1 (⟨k, hk⟩ : Fin 8))
  have hlist : B.data.list d ⟨k, hk⟩ = kept d (rowOf (A.bt.view.read (Elt F) B.fbt) ⟨k, hk⟩) (trips1 d (B.data.ln (ix1 (⟨k, hk⟩ : Fin 8)))) := rfl
  generalize B.data.ln (ix1 (⟨k, hk⟩ : Fin 8)) = w at hwi hlist ⊢
  iapply (wp_assume 𝒱₀ (T d) none Set.univ (lenChk_of k hk d w hwi))
  iapply (Scf.wp_for_bind frame (wpE defs₀ 𝒱₀ (T d) none) Set.univ (k0_t1_loop d w).lb (k0_t1_loop d w).ub (k0_t1_loop d w).st (lenChk_of k hk d w hwi).1 0#32
    (keep A k d w (lenChk_of k hk d w hwi)) (compInv A d ⟨k, hk⟩ B.fbt)
    (fun t n => wp_keep A d ⟨k, hk⟩ B.fbt w hwi (lenChk_of k hk d w hwi) t n)) $$ [Hp Hb]
  · unfold compInv
    iexists fp
    isplitr
    · ipureintro
      exact ⟨rfl, fun j hj h => absurd h (Nat.not_lt_zero j)⟩
    isplitl [Hp] <;> iassumption
  iintro %n Hc
  rw [show Scf.trips (k0_t1_loop d w).lb (k0_t1_loop d w).ub (k0_t1_loop d w).st = trips1 d w from loop1_trips d w hwi]
  unfold compInv
  icases Hc with ⟨%fp', ⟨%hn, %hp⟩, Hp, Hb⟩
  rw [← hlist] at hn hp
  have hlen : (B.data.list d ⟨k, hk⟩).length ≤ 128 := by
    rw [hlist]; exact (kept_length _ _ _).trans (trips1_le d w hwi)
  subst hn
  iapply (wp_assume 𝒱₀ (T d) none Set.univ (stepChk_of k hk _ hlen))
  iapply (wp_load_rect (m := A.q) (r := qRect k hk) 𝒱₀ (T d) none Set.univ (Finset.subset_univ _)) $$ Hq
  iintro Hq
  iapply (wp_loop B O k hk _ hlen (qRow B.data.q k hk) (stepChk_of k hk _ hlen) (fun a => leave A k hk a K) fp') $$ [Hp Hkh Hvh H0 H1 HO]
  · isplitl [Hp]; · iexact Hp
    isplitl [Hkh]; · iexact Hkh
    isplitl [Hvh]; · iexact Hvh
    isplitl [H0]; · iexact H0
    isplitl [H1]; · iexact H1
    isplitl [HO]; · iexact HO
    iexact Hw
  iintro ⟨Hp, Hkh, Hvh, H0, H1, HO, -⟩
  iapply (wp_leave A d ⟨k, hk⟩ _ K fa fm) $$ [Ha Hm]
  · isplitl [Ha] <;> iassumption
  iintro %fa' %fm' ⟨%hrow, %hkeep⟩ ⟨Ha, Hm⟩
  have hres : Rows B.data d (A.acc.view.read (Elt F) fa') (A.ml.view.read (Elt F) fm') (k + 1) := by
    refine Rows.step hk hrows ⟨(B.ctx k hk fp').tab, ?_, rfl⟩ hrow hkeep
    intro j hj
    have hj5 : j < 512 := by omega
    exact (tabOf_eq A d fp' k hk j hj5).trans (hp j hj5 hj)
  iapply HK
  unfold itemsInv
  iexists fp'
  iexists fa'
  iexists fm'
  isplitr
  · ipureintro; exact hres
  isplitl [Hq]; · iexact Hq
  isplitl [Hb]; · iexact Hb
  isplitl [Hl]; · iexact Hl
  isplitl [Hp]; · iexact Hp
  isplitl [Hkh]; · iexact Hkh
  isplitl [Hvh]; · iexact Hvh
  isplitl [Ha]; · iexact Ha
  isplitl [Hm]; · iexact Hm
  isplitl [H0]; · iexact H0
  isplitl [H1]; · iexact H1
  isplitl [HO]; · iexact HO
  iexact Hw

/-- Items `k …`, all of them, then the cross-device part. -/
theorem wp_items {Q : PUnit → sProp 𝕄} (O : CellTallies nD τ sig Unit) (hln : ∀ j, (B.data.ln j).toInt ≤ 512) : ∀ (n k : ℕ), k + n = 8 →
    (itemsInv B O k ⊢ iprop((itemsInv B O 8 -∗ wp frame (wpE defs₀ 𝒱₀ (T d) none) Set.univ (across A d) Q)
      -∗ wp frame (wpE defs₀ 𝒱₀ (T d) none) Set.univ (itemsFrom A d n k) Q))
  | 0, k, h => by
    obtain rfl : k = 8 := by omega
    unfold itemsFrom
    iintro H HK
    iapply HK; iexact H
  | n + 1, k, h => by
    unfold itemsFrom
    have hk : k < 8 := by omega
    have ih := wp_items (Q := Q) O hln n (k + 1) (by omega)
    rw [dif_pos hk]
    iintro H HK
    iapply (wp_item B O hln k hk _) $$ H
    iintro H
    iapply ih $$ H
    iexact HK

end Paged

end
-- ==== Proof.Proto.lean ====
/- The exchange between the devices: partners, cells, what each duty hands over, who owes what, the levels. -/
module

public import proofs.«01_k».proof.Proof.Items

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

/-! ## Partners -/

/-- The partner of phase `s`: across z, then y, then x. -/
def peer (s : ℕ) (c : Dev nD) : Dev nD := match s with
  | 0 => ⟨k0_dev4 c, k0_dev4_lt c⟩
  | 1 => ⟨k0_dev6 c, k0_dev6_lt c⟩
  | _ => ⟨k0_dev8 c, k0_dev8_lt c⟩

theorem peer0_invol : ∀ c : Dev nD, peer 0 (peer 0 c) = c := by decide +kernel
theorem peer1_invol : ∀ c : Dev nD, peer 1 (peer 1 c) = c := by decide +kernel
theorem peer2_invol : ∀ c : Dev nD, peer 2 (peer 2 c) = c := by decide +kernel

theorem peer_peer (s : ℕ) (c : Dev nD) : peer s (peer s c) = c := by
  match s with
  | 0 => exact peer0_invol c
  | 1 => exact peer1_invol c
  | n + 2 => exact peer2_invol c

/-- Partners as a permutation of the devices. -/
def peers (s : ℕ) : Dev nD ≃ Dev nD := ⟨peer s, peer s, peer_peer s, peer_peer s⟩

theorem eq_peer_iff (s : ℕ) (c d : Dev nD) : c = peer s d ↔ d = peer s c :=
  ⟨fun h => by rw [h, peer_peer], fun h => by rw [h, peer_peer]⟩

/-! ## The values exchanged -/

abbrev AccT (F : FTy → Type) := S8x8x128.Idx → F .f32
abbrev MlT (F : FTy → Type) := S2x8x8.Idx → F .f32

section values
variable {F : FTy → Type} [FloatOps F] [Named F] [Facts]

/-- The maxima or the sums out of their array. -/
def halfOf (j : ℕ) (hj : j < 2) (m : MlT F) : Vec F S1x8x8 .f32 := fun x => m ((mlHalf j hj).toLoadRect.idx x)
def halfOf4 (j : ℕ) (hj : j < 2) (m : MlT F) : Vec F S1x1x8x8 .f32 := fun x => m (ix3 (⟨j, hj⟩ : Fin 2) (x 2) (x 3))
def accOf4 (a : AccT F) : Vec F S1x8x8x128 .f32 := fun x => a (ix3 (x 1) (x 2) (x 3))
def accOf (a : AccT F) : Vec F S8x8x128 .f32 := fun x => a (accAll.toLoadRect.idx x)

/-- The merge of two devices' arrays. -/
def mrg (m1 m2 : MlT F) (a1 a2 : AccT F) : Merged F :=
  mergeVal (halfOf 0 (by decide) m1) (halfOf 1 (by decide) m1) (halfOf4 0 (by decide) m2) (halfOf4 1 (by decide) m2) (accOf a1) (accOf4 a2)

/-- The maxima and sums of a merge in their array. -/
def mlOf (r : Merged F) : MlT F := fun x => if (x 0).val = 0 then r.1 (ix2 (x 1) (x 2)) else r.2.1 (ix2 (x 1) (x 2))

/-- What the accumulators and the maxima and sums of device `c` may hold before phase `s`. -/
def Rel (D : Dev nD → Data F) : ℕ → Dev nD → (AccT F → Prop) × (MlT F → Prop)
  | 0, c => (fun a => ∃ m, Rows (D c) c a m 8, fun m => ∃ a, Rows (D c) c a m 8)
  | s + 1, c =>
    (fun a => ∃ a1 a2 m1 m2, (Rel D s c).1 a1 ∧ (Rel D s c).2 m1 ∧ (Rel D s (peer s c)).1 a2 ∧ (Rel D s (peer s c)).2 m2 ∧ a = (mrg m1 m2 a1 a2).2.2,
     fun m => ∃ a1 a2 m1 m2, (Rel D s c).1 a1 ∧ (Rel D s c).2 m1 ∧ (Rel D s (peer s c)).1 a2 ∧ (Rel D s (peer s c)).2 m2 ∧ m = mlOf (mrg m1 m2 a1 a2))

/-- The results device `c` may end with. -/
def Out (D : Dev nD → Data F) (c : Dev nD) (o : S8x1x8x128.Idx → F .f32) : Prop :=
  ∃ a1 a2 m1 m2, (Rel D 2 c).1 a1 ∧ (Rel D 2 c).2 m1 ∧ (Rel D 2 (peer 2 c)).1 a2 ∧ (Rel D 2 (peer 2 c)).2 m2 ∧ o = outVal (mrg m1 m2 a1 a2)

end values

/-! ## The operands of this launch, its cells -/

/-- The kernel's operands. -/
def K₀ : Args where
  q := Memref.whole cc0_stg0_0
  hq := Memref.isWhole_whole _
  bt := Memref.whole cc0_stg1_0
  hbt := Memref.isWhole_whole _
  ln := Memref.whole cc0_stg2_0
  hln := Memref.isWhole_whole _
  kh := Memref.whole main_arg1
  hkh := Memref.isWhole_whole _
  vh := Memref.whole main_arg2
  hvh := Memref.isWhole_whole _
  out := Memref.whole cc0_stg3_0
  hout := Memref.isWhole_whole _
  pg := Memref.whole cc0_scratch0
  hpg := Memref.isWhole_whole _
  kb := Memref.whole cc0_scratch1
  hkb := Memref.isWhole_whole _
  vb := Memref.whole cc0_scratch2
  hvb := Memref.isWhole_whole _
  ks := cc0_scratch3
  vs := cc0_scratch4
  acc := Memref.whole cc0_scratch5
  hacc := Memref.isWhole_whole _
  ml := Memref.whole cc0_scratch6
  hml := Memref.isWhole_whole _
  racc := Memref.whole cc0_scratch7
  hracc := Memref.isWhole_whole _
  rml := Memref.whole cc0_scratch8
  hrml := Memref.isWhole_whole _
  ss := cc0_scratch9
  rs := cc0_scratch10

/-- A device's cells: its barrier, and for each phase and array one to receive (`false`) and one to send (`true`). -/
abbrev Kind : Type := Option (Bool × Fin 3 × Fin 2)

/-- Their semaphores. -/
def csem : Kind → SemLoc sig
  | none => .reg barSem
  | some (false, s, j) => .dma (xsem K₀.rs s.val j.val s.isLt j.isLt)
  | some (true, s, j) => .dma (xsem K₀.ss s.val j.val s.isLt j.isLt)

theorem csem_inj : ∀ k k' : Kind, csem k = csem k' → k = k' := by decide +kernel

abbrev cell (c : Dev nD) (k : Kind) : GSem nD τ sig := (T c, csem k)
abbrev barK : Kind := none
abbrev rcvK (s j : ℕ) (hs : s < 3) (hj : j < 2) : Kind := some (false, ⟨s, hs⟩, ⟨j, hj⟩)
abbrev sndK (s j : ℕ) (hs : s < 3) (hj : j < 2) : Kind := some (true, ⟨s, hs⟩, ⟨j, hj⟩)

theorem cell_inj {c c' : Dev nD} {k k' : Kind} : cell c k = cell c' k' ↔ c = c' ∧ k = k' := by
  constructor
  · intro h
    have h1 : c = c' := congrArg (fun g : GSem nD τ sig => g.1.1) h
    exact ⟨h1, csem_inj _ _ (congrArg Prod.snd h)⟩
  · rintro ⟨rfl, rfl⟩; rfl

open Classical in
/-- Which of them a semaphore is. -/
def kindOf (sl : SemLoc sig) : Option Kind := if h : ∃ k, csem k = sl then some h.choose else none

theorem kindOf_csem (k : Kind) : kindOf (csem k) = some k := by
  unfold kindOf
  have h : ∃ k', csem k' = csem k := ⟨k, rfl⟩
  rw [dif_pos h]
  exact congrArg some (csem_inj _ _ h.choose_spec)

theorem kindOf_none (sl : SemLoc sig) (h : ∀ k, csem k ≠ sl) : kindOf sl = none := by
  unfold kindOf
  rw [dif_neg]
  rintro ⟨k, hk⟩
  exact h k hk

theorem kindOf_some {sl : SemLoc sig} {k : Kind} (h : kindOf sl = some k) : sl = csem k := by
  unfold kindOf at h
  split at h
  · rename_i hx; rw [← hx.choose_spec]; exact congrArg csem (Option.some.inj h)
  · cases h

/-- The units a transfer of the accumulators, of the maxima and sums, credits. -/
def NA : ℕ := K₀.acc.view.dmaCredit
def NM : ℕ := K₀.ml.view.dmaCredit
def NN (j : ℕ) : ℕ := if j = 0 then NA else NM
theorem NN_pos (j : ℕ) : 0 < NN j := by
  unfold NN NA NM
  split
  · exact View.dmaCredit_pos _ (by decide)
  · exact View.dmaCredit_pos _ (by decide)
theorem credit_racc (s : ℕ) (hs : s < 3) : (raccAt K₀ s hs).view.dmaCredit = NN 0 := rfl
theorem credit_rml (s : ℕ) (hs : s < 3) : (rmlAt K₀ s hs).view.dmaCredit = NN 1 := rfl
theorem credit_acc : K₀.acc.view.dmaCredit = NN 0 := rfl
theorem credit_ml : K₀.ml.view.dmaCredit = NN 1 := rfl

/-! ## What the duties hand over -/

variable {F : FTy → Type} [FloatOps F] [Named F] [Facts]

local notation "𝕄" => MT nD τ sig Unit (Elt F) ℕ UU ℕ

variable (D : Dev nD → Data F)

/-- A landing slot of device `c`, at anything. -/
def slotA (c : Dev nD) (s : ℕ) (hs : s < 3) : sProp 𝕄 := iprop(∃ f, pts c (raccAt K₀ s hs) (raccAt K₀ s hs).view.set fullShare f)
def slotM (c : Dev nD) (s : ℕ) (hs : s < 3) : sProp 𝕄 := iprop(∃ f, pts c (rmlAt K₀ s hs) (rmlAt K₀ s hs).view.set fullShare f)
/-- The partner's array, landed. -/
def gotA (c : Dev nD) (s : ℕ) (hs : s < 3) : sProp 𝕄 :=
  iprop(∃ f, ⌜(Rel D s (peer s c)).1 ((raccAt K₀ s hs).view.read (Elt F) f)⌝ ∗ pts c (raccAt K₀ s hs) (raccAt K₀ s hs).view.set fullShare f)
def gotM (c : Dev nD) (s : ℕ) (hs : s < 3) : sProp 𝕄 :=
  iprop(∃ f, ⌜(Rel D s (peer s c)).2 ((rmlAt K₀ s hs).view.read (Elt F) f)⌝ ∗ pts c (rmlAt K₀ s hs) (rmlAt K₀ s hs).view.set fullShare f)
/-- The device's own array before phase `s`. -/
def ownA (c : Dev nD) (s : ℕ) : sProp 𝕄 :=
  iprop(∃ f, ⌜(Rel D s c).1 (K₀.acc.view.read (Elt F) f)⌝ ∗ pts c K₀.acc K₀.acc.view.set fullShare f)
def ownM (c : Dev nD) (s : ℕ) : sProp 𝕄 :=
  iprop(∃ f, ⌜(Rel D s c).2 (K₀.ml.view.read (Elt F) f)⌝ ∗ pts c K₀.ml K₀.ml.view.set fullShare f)
/-- What the partner of phase `e` hands `c` at the barrier: its landing slots of that phase. -/
def lent (c : Dev nD) (e : Duty) : sProp 𝕄 := iprop(slotA (F := F) (peer e.val c) e.val e.isLt ∗ slotM (peer e.val c) e.val e.isLt)

/-- What cell `k` of device `c` hands over for duty `e`. -/
def pay (c : Dev nD) (k : Kind) (e : Duty) : sProp 𝕄 := match k with
  | none => lent c e
  | some (false, s, j) => if j.val = 0 then gotA D c s.val s.isLt else gotM D c s.val s.isLt
  | some (true, s, j) => if j.val = 0 then ownA D c s.val else ownM D c s.val

instance pay_storable (c : Dev nD) (k : Kind) (e : Duty) : BI.Storable (upEmb : UEmb _ 𝕄) (pay D c k e) := by
  match k with
  | none => show BI.Storable upEmb (lent c e); unfold lent slotA slotM; infer_instance
  | some (false, s, j) =>
    show BI.Storable upEmb (if j.val = 0 then gotA D c s.val s.isLt else gotM D c s.val s.isLt)
    unfold gotA gotM
    split <;> infer_instance
  | some (true, s, j) =>
    show BI.Storable upEmb (if j.val = 0 then ownA D c s.val else ownM D c s.val)
    unfold ownA ownM
    split <;> infer_instance

/-- The duties of a cell's one round. -/
def dutiesOf : Kind → Finset Duty
  | none => Finset.univ
  | some _ => {0}
/-- Their units. -/
def unitsOf : Kind → ℕ
  | none => 1
  | some (_, _, j) => NN j.val
theorem unitsOf_pos (k : Kind) : 0 < unitsOf k := by
  match k with
  | none => exact Nat.one_pos
  | some (_, _, j) => exact NN_pos _

/-- The one round of each cell. -/
def Rd : Rounds.Schedule (GSem nD τ sig) Duty 𝕄 where
  duties g r := if r = 0 then (if g.1.2 = .tc then ((kindOf g.2).elim ∅ dutiesOf) else ∅) else ∅
  unitless _ := False
  amount g _ _ := (kindOf g.2).elim 1 unitsOf
  payload g _ e := (kindOf g.2).elim iprop(emp) fun k => pay D g.1.1 k e
  amount_pos g _ _ _ := by
    cases kindOf g.2 with
    | none => exact Nat.one_pos
    | some k => exact unitsOf_pos k

instance Rd_storable (g : GSem nD τ sig) (r : ℕ) (e : Duty) : BI.Storable (upEmb : UEmb _ 𝕄) ((Rd (F := F) D).payload g r e) := by
  show BI.Storable upEmb ((kindOf g.2).elim iprop(emp) fun k => pay D g.1.1 k e)
  cases kindOf g.2 with
  | none => show BI.Storable upEmb iprop(emp); infer_instance
  | some k => exact pay_storable D g.1.1 k e

theorem duties_at (c : Dev nD) (k : Kind) : (Rd D).duties (cell c k) 0 = dutiesOf k := by
  show (if (0 : ℕ) = 0 then (if (T c).2 = .tc then ((kindOf (csem k)).elim ∅ dutiesOf) else ∅) else ∅) = _
  rw [if_pos rfl, if_pos rfl, kindOf_csem]; rfl
theorem duties_later (g : GSem nD τ sig) : ∀ r, 1 ≤ r → (Rd D).duties g r = ∅ := fun r hr => if_neg (by omega)
theorem amount_at (c : Dev nD) (k : Kind) (e : Duty) : (Rd D).amount (cell c k) 0 e = unitsOf k := by
  show (kindOf (csem k)).elim 1 unitsOf = _
  rw [kindOf_csem]; rfl
theorem payload_at (c : Dev nD) (k : Kind) (e : Duty) : (Rd D).payload (cell c k) 0 e = pay D c k e := by
  show (kindOf (csem k)).elim iprop(emp) (fun k => pay D c k e) = _
  rw [kindOf_csem]; rfl
theorem expect_bar (c : Dev nD) : (Rd D).expect (cell c barK) 0 = 3 := by
  unfold Schedule.expect Schedule.amountOf
  rw [duties_at, Finset.sum_congr rfl fun e _ => amount_at D c barK e]; rfl
theorem expect_some (c : Dev nD) (x : Bool × Fin 3 × Fin 2) : (Rd D).expect (cell c (some x)) 0 = NN x.2.2.val := by
  unfold Schedule.expect Schedule.amountOf
  rw [duties_at, show dutiesOf (some x) = {0} from rfl, Finset.sum_singleton, amount_at]; rfl
theorem rest_some (c : Dev nD) (x : Bool × Fin 3 × Fin 2) :
    bigSep ((Rd D).duties (cell c (some x)) 0 \ ∅) (fun e => (Rd D).payload (cell c (some x)) 0 e) = pay D c (some x) 0 := by
  rw [Finset.sdiff_empty, duties_at, show dutiesOf (some x) = {0} from rfl, bigSep_singleton, payload_at]
theorem rest_bar (c : Dev nD) :
    bigSep ((Rd D).duties (cell c barK) 0 \ ∅) (fun e => (Rd D).payload (cell c barK) 0 e) = iprop(lent (F := F) c 0 ∗ lent c 1 ∗ lent c 2) := by
  rw [Finset.sdiff_empty, duties_at, show dutiesOf barK = Finset.univ from rfl, bigSep_univ_eq_bigSepL [0, 1, 2] (by decide) (by decide),
    bigSepL_cons_cons, bigSepL_cons_cons, bigSepL_singleton, payload_at, payload_at, payload_at]
  rfl

/-! ## What each device owes, and the levels -/

/-- The credit device `c` owes the receive cell `(s, j)` of its partner. -/
def oweR (c : Dev nD) (s j : ℕ) (hs : s < 3) (hj : j < 2) : CellTallies nD τ sig Unit := tallyAt (cell (peer s c) (rcvK s j hs hj)) () (NN j)
/-- The unit it owes the barrier of its partner `e`. -/
def oweB (c : Dev nD) (e : ℕ) : CellTallies nD τ sig Unit := tallyAt (cell (peer e c) barK) () 1

/-- What it owes after the barrier, before phase 2, 1, 0, and at the start. -/
def O2 (c : Dev nD) : CellTallies nD τ sig Unit := (0 + oweR c 2 1 (by decide) (by decide)) + oweR c 2 0 (by decide) (by decide)
def O1 (c : Dev nD) : CellTallies nD τ sig Unit := (O2 c + oweR c 1 1 (by decide) (by decide)) + oweR c 1 0 (by decide) (by decide)
def O0 (c : Dev nD) : CellTallies nD τ sig Unit := (O1 c + oweR c 0 1 (by decide) (by decide)) + oweR c 0 0 (by decide) (by decide)
def OS (c : Dev nD) : CellTallies nD τ sig Unit := ((O0 c + oweB c 2) + oweB c 1) + oweB c 0

def L (g : GSem nD τ sig) : Finset Unit := if g.1.2 = .tc then {()} else ∅
def lvK : Kind → ℕ
  | none => 1
  | some (false, s, _) => 2 + s.val
  | some (true, _, _) => 0
/-- Barrier cells at 1, receive cells of phase `s` at `2 + s`, everything else at 0. -/
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L (T c, sm) = {()} := if_pos rfl
theorem lv_cell (c : Dev nD) (k : Kind) : lv (cell c k) () = lvK k := by unfold lv; rw [show (cell c k).2 = csem k from rfl, kindOf_csem]; rfl

/-- Everything owed lies at level `n` or above, at cells of cores. -/
def Above (n : ℕ) (O : CellTallies nD τ sig Unit) : Prop := ∀ g u, 0 < O g u → ∃ c k, g = cell c k ∧ n ≤ lvK k

theorem Above.zero (n : ℕ) : Above n 0 := fun g u h => absurd h (Nat.lt_irrefl 0)
theorem Above.mono {n m : ℕ} (h : m ≤ n) {O : CellTallies nD τ sig Unit} (hO : Above n O) : Above m O := fun g u hg =>
  let ⟨c, k, e, hl⟩ := hO g u hg
  ⟨c, k, e, h.trans hl⟩
theorem Above.add {n : ℕ} {O : CellTallies nD τ sig Unit} (hO : Above n O) (c : Dev nD) (k : Kind) (hk : n ≤ lvK k) (v : ℕ) :
    Above n (O + tallyAt (cell c k) () v) := by
  intro g u hg
  rw [Pi.add_apply, Finsupp.add_apply, tallyAt_apply] at hg
  by_cases h : g = cell c k ∧ u = ()
  · exact ⟨c, k, h.1, hk⟩
  · rw [if_neg h, Nat.add_zero] at hg; exact hO g u hg

theorem O2_above (c : Dev nD) : Above 4 (O2 c) := ((Above.zero 4).add _ _ (by decide) _).add _ _ (by decide) _
theorem O1_above (c : Dev nD) : Above 3 (O1 c) := (((O2_above c).mono (by decide)).add _ _ (by decide) _).add _ _ (by decide) _
theorem O0_above (c : Dev nD) : Above 2 (O0 c) := (((O1_above c).mono (by decide)).add _ _ (by decide) _).add _ _ (by decide) _
theorem OS_above (c : Dev nD) : Above 1 (OS c) := ((((O0_above c).mono (by decide)).add _ _ (by decide) _).add _ _ (by decide) _).add _ _ (by decide) _

theorem mayWait_of (c : Dev nD) (sm : SemLoc sig) (n : ℕ) (hn : lv (T c, sm) () < n) (O : CellTallies nD τ sig Unit) (hO : Above n O) :
    (levAts L lv : sProp 𝕄) ⊢ MayWait (T c) sm () O :=
  MayOwe.of_cut (L := L) (lev := lv) (lv (T c, sm) ()) (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp])
    (fun g u hg => by obtain ⟨c', k, rfl, hl⟩ := hO g u hg; exact lt_of_lt_of_le hn (hl.trans_eq (lv_cell c' k).symm))

end Paged

end
-- ==== Proof.Merge.lean ====
/- Merging what landed with what is held, and keeping it. -/
module

public import proofs.«01_k».proof.Proof.Proto

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

variable (D : Dev nD → Data F)

/-! ## What the loads read -/

theorem acc_set : K₀.acc.view.set = Finset.univ := View.set_whole _
theorem ml_set : K₀.ml.view.set = Finset.univ := View.set_whole _

theorem sub_raccAt (s : ℕ) (hs : s < 3) : (K₀.racc.access (raccSlot s hs)).set ⊆ (raccAt K₀ s hs).view.set := by
  rw [View.set_reshape]

theorem sub_rmlAt (s j : ℕ) (hs : s < 3) (hj : j < 2) : (K₀.rml.access (rmlHalf s j hs hj)).set ⊆ (rmlAt K₀ s hs).view.set := by
  rw [View.set_reshape, View.set_slice, View.set_slice]
  refine Finset.map_subset_map.mpr fun x hx => Rect.mem_set_unit.mpr fun a => ?_
  have h := Rect.mem_set_unit.mp hx
  match a with
  | ⟨0, _⟩ => exact h 0
  | ⟨1, _⟩ =>
    have h1 : j ≤ (x 1).val ∧ (x 1).val < j + 1 := h 1
    have h2 : (x 1).val < 2 := (x 1).isLt
    exact ⟨Nat.zero_le _, by show (x 1).val < 0 + 2; omega⟩
  | ⟨2, _⟩ => exact h 2
  | ⟨3, _⟩ => exact h 3

theorem raccAt_read (c : Dev nD) (s : ℕ) (hs : s < 3) (f : Buf (Elt F) (K₀.racc.view.loc (T c))) (i h : Fin 8) (l : Fin 128) :
    (raccAt K₀ s hs).view.read (Elt F) f (ix3 i h l) = K₀.racc.view.read (Elt F) f (ix4 (⟨s, hs⟩ : Fin 3) i h l) := by
  have e : Shape.reshapeEquiv (show S8x8x128.numel = (⟨4, ![1, 8, 8, 128]⟩ : Shape).numel from by decide) (ix3 i h l) = _ :=
    reshapeEquiv_ix3_1abc (a := 8) (b := 8) (c := 128) _ i h l
  refine congrArg (K₀.racc.view.read (Elt F) f) ((congrArg (raccSlot s hs).emb e).trans ?_)
  apply idx4_ext
  · show s + 1 * 0 = s; omega
  · show 0 + 1 * i.val = i.val; omega
  · show 0 + 1 * h.val = h.val; omega
  · show 0 + 1 * l.val = l.val; omega

theorem rmlAt_read (c : Dev nD) (s : ℕ) (hs : s < 3) (f : Buf (Elt F) (K₀.rml.view.loc (T c))) (j : Fin 2) (i h : Fin 8) :
    (rmlAt K₀ s hs).view.read (Elt F) f (ix3 j i h) = K₀.rml.view.read (Elt F) f (ix4 (⟨s, hs⟩ : Fin 3) j i h) := by
  have e : Shape.reshapeEquiv (show S2x8x8.numel = (⟨4, ![1, 2, 8, 8]⟩ : Shape).numel from by decide) (ix3 j i h) = _ :=
    reshapeEquiv_ix3_1abc (a := 2) (b := 8) (c := 8) _ j i h
  refine congrArg (K₀.rml.view.read (Elt F) f) ((congrArg (Rect.unit (s := S3x2x8x8) ![s, 0, 0, 0] S1x2x8x8.size _).emb e).trans ?_)
  apply idx4_ext
  · show s + 1 * 0 = s; omega
  · show 0 + 1 * j.val = j.val; omega
  · show 0 + 1 * i.val = i.val; omega
  · show 0 + 1 * h.val = h.val; omega

theorem read_slot (c : Dev nD) (s : ℕ) (hs : s < 3) (f : Buf (Elt F) (K₀.racc.view.loc (T c))) :
    (K₀.racc.access (raccSlot s hs)).read (Elt F) f = accOf4 ((raccAt K₀ s hs).view.read (Elt F) f) := by
  funext x
  refine (congrArg (K₀.racc.view.read (Elt F) f) ?_).trans (raccAt_read c s hs f (x 1) (x 2) (x 3)).symm
  apply idx4_ext
  · have h0 : (x 0).val < 1 := (x 0).isLt
    show s + 1 * (x 0).val = s; omega
  · show 0 + 1 * (x 1).val = (x 1).val; omega
  · show 0 + 1 * (x 2).val = (x 2).val; omega
  · show 0 + 1 * (x 3).val = (x 3).val; omega

theorem read_half4 (c : Dev nD) (s j : ℕ) (hs : s < 3) (hj : j < 2) (f : Buf (Elt F) (K₀.rml.view.loc (T c))) :
    (K₀.rml.access (rmlHalf s j hs hj)).read (Elt F) f = halfOf4 j hj ((rmlAt K₀ s hs).view.read (Elt F) f) := by
  funext x
  refine (congrArg (K₀.rml.view.read (Elt F) f) ?_).trans (rmlAt_read c s hs f ⟨j, hj⟩ (x 2) (x 3)).symm
  apply idx4_ext
  · have h0 : (x 0).val < 1 := (x 0).isLt
    show s + 1 * (x 0).val = s; omega
  · have h0 : (x 1).val < 1 := (x 1).isLt
    show j + 1 * (x 1).val = j; omega
  · show 0 + 1 * (x 2).val = (x 2).val; omega
  · show 0 + 1 * (x 3).val = (x 3).val; omega

/-- The own arrays and the two landing slots, at anything. -/
def anyA (c : Dev nD) : sProp 𝕄 := iprop(∃ f, pts c K₀.acc K₀.acc.view.set fullShare f)
def anyM (c : Dev nD) : sProp 𝕄 := iprop(∃ f, pts c K₀.ml K₀.ml.view.set fullShare f)

/-- What a merge of phase `s` may yield. -/
def Merges (s : ℕ) (c : Dev nD) (r : Merged F) : Prop :=
  ∃ a1 a2 m1 m2, (Rel D s c).1 a1 ∧ (Rel D s c).2 m1 ∧ (Rel D s (peer s c)).1 a2 ∧ (Rel D s (peer s c)).2 m2 ∧ r = mrg m1 m2 a1 a2

theorem wp_merge {α : Type} {Q : α → sProp 𝕄} (c : Dev nD) (s : ℕ) (hs : s < 3) (k : Merged F → TProg F α) :
    iprop(ownA D c s ∗ ownM D c s ∗ gotA D c s hs ∗ gotM D c s hs)
      ⊢ iprop((∀ r : Merged F, ⌜Merges D s c r⌝ -∗ (anyA c ∗ anyM c ∗ slotA c s hs ∗ slotM c s hs)
          -∗ wp frame (wpE defs₀ 𝒱₀ (T c) none) Set.univ (k r) Q)
        -∗ wp frame (wpE defs₀ 𝒱₀ (T c) none) Set.univ (merge K₀ s hs k) Q) := by
  unfold merge ownA ownM gotA gotM anyA anyM slotA slotM
  simp only [Prog.lift, Prog.bind_op, Prog.bind_ret]
  iintro ⟨⟨%fa, %hfa, Ha⟩, ⟨%fm, %hfm, Hm⟩, ⟨%ga, %hga, Hga⟩, ⟨%gm, %hgm, Hgm⟩⟩ HK
  iapply (wp_load_rect (m := K₀.ml) (r := mlHalf 0 Nat.two_pos) 𝒱₀ (T c) none Set.univ (View.set_slice_subset _ _)) $$ Hm
  iintro Hm
  iapply (wp_load_rect (m := K₀.ml) (r := mlHalf 1 Nat.one_lt_two) 𝒱₀ (T c) none Set.univ (View.set_slice_subset _ _)) $$ Hm
  iintro Hm
  iapply (wp_load_rect (m := K₀.rml) (r := rmlHalf s 0 hs Nat.two_pos) 𝒱₀ (T c) none Set.univ (sub_rmlAt s 0 hs Nat.two_pos)) $$ Hgm
  iintro Hgm
  iapply (wp_load_rect (m := K₀.rml) (r := rmlHalf s 1 hs Nat.one_lt_two) 𝒱₀ (T c) none Set.univ (sub_rmlAt s 1 hs Nat.one_lt_two)) $$ Hgm
  iintro Hgm
  iapply (wp_load_rect (m := K₀.acc) (r := accAll) 𝒱₀ (T c) none Set.univ (View.set_slice_subset _ _)) $$ Ha
  iintro Ha
  iapply (wp_load_rect (m := K₀.racc) (r := raccSlot s hs) 𝒱₀ (T c) none Set.univ (sub_raccAt s hs)) $$ Hga
  iintro Hga
  iapply HK $$ [] [Ha Hm Hga Hgm]
  · ipureintro
    refine ⟨_, _, _, _, hfa, hfm, hga, hgm, ?_⟩
    rw [read_slot c, read_half4 c, read_half4 c]
    rfl
  · isplitl [Ha]; · iexists fa; iexact Ha
    isplitl [Hm]; · iexists fm; iexact Hm
    isplitl [Hga]; · iexists ga; iexact Hga
    iexists gm; iexact Hgm

/-! ## Keeping a merge -/

theorem half_emb (j : Fin 2) (i h : Fin 8) : ix3 j i h = (mlHalf j.val j.isLt).emb (ix3 (0 : Fin 1) i h) := by
  funext a
  match a with
  | ⟨0, _⟩ => exact Fin.ext (by show j.val = j.val + 1 * 0; omega)
  | ⟨1, _⟩ => exact Fin.ext (by show i.val = 0 + 1 * i.val; omega)
  | ⟨2, _⟩ => exact Fin.ext (by show h.val = 0 + 1 * h.val; omega)

theorem half_store_at (c : Dev nD) (f : Buf (Elt F) (K₀.ml.view.loc (T c))) (w : S1x8x8.Idx → Elt F .f32) (j : Fin 2) (i h : Fin 8) :
    K₀.ml.view.read (Elt F) ((K₀.ml.access (mlHalf j.val j.isLt)).write (Elt F) f w Finset.univ) (ix3 j i h) = w (ix3 (0 : Fin 1) i h) := by
  rw [half_emb j i h]
  exact View.read_slice_write_emb _ _ _ (Finset.mem_univ _)

theorem half_store_ne (c : Dev nD) (f : Buf (Elt F) (K₀.ml.view.loc (T c))) (w : S1x8x8.Idx → Elt F .f32) (j j' : Fin 2) (hne : j'.val ≠ j.val) (i h : Fin 8) :
    K₀.ml.view.read (Elt F) ((K₀.ml.access (mlHalf j.val j.isLt)).write (Elt F) f w Finset.univ) (ix3 j' i h) = K₀.ml.view.read (Elt F) f (ix3 j' i h) := by
  refine View.read_slice_write_of_not_mem _ _ _ _ ?_
  intro hm
  obtain ⟨x, -, hx⟩ := Finset.mem_map.mp hm
  have e0 : j.val + 1 * (x 0).val = j'.val := congrArg (fun k : S2x8x8.Idx => (k 0).val) hx
  have h0 : (x 0).val < 1 := (x 0).isLt
  omega

theorem off_zero : (![0, 0, 0] : Fin 3 → ℕ) = fun _ => 0 := by funext a; fin_cases a <;> rfl
theorem off_zero4 : (![0, 0, 0, 0] : Fin 4 → ℕ) = fun _ => 0 := by funext a; fin_cases a <;> rfl

theorem acc_whole_store (c : Dev nD) (f : Buf (Elt F) (K₀.acc.view.loc (T c))) (w : S8x8x128.Idx → Elt F .f32) :
    K₀.acc.view.read (Elt F) ((K₀.acc.access accAll).write (Elt F) f w Finset.univ) = w :=
  (show View.read (Elt F) (View.whole cc0_scratch5) _ = _ from View.read_whole _ _).trans (Memref.write_access_unit_zero_univ (Elt F) cc0_scratch5 off_zero _ f w)

theorem out_whole_store (c : Dev nD) (f : Buf (Elt F) (K₀.out.view.loc (T c))) (w : S8x1x8x128.Idx → Elt F .f32) :
    K₀.out.view.read (Elt F) ((K₀.out.access (Rect.unit (s := S8x1x8x128) ![0, 0, 0, 0] S8x1x8x128.size inb_S8x1x8x128_S8x1x8x128_0_0_0_0)).write (Elt F) f w Finset.univ) = w :=
  (show View.read (Elt F) (View.whole cc0_stg3_0) _ = _ from View.read_whole _ _).trans (Memref.write_access_unit_zero_univ (Elt F) cc0_stg3_0 off_zero4 _ f w)

theorem wp_putBack {α : Type} {Q : α → sProp 𝕄} (c : Dev nD) (s : ℕ) (r : Merged F) (hr : Merges D s c r) (k : TProg F α) :
    iprop(anyA c ∗ anyM c)
      ⊢ iprop(((ownA D c (s + 1) ∗ ownM D c (s + 1)) -∗ wp frame (wpE defs₀ 𝒱₀ (T c) none) Set.univ k Q)
        -∗ wp frame (wpE defs₀ 𝒱₀ (T c) none) Set.univ (putBack K₀ r k) Q) := by
  unfold putBack ownA ownM anyA anyM
  simp only [Prog.lift, Prog.bind_op, Prog.bind_ret]
  iintro ⟨⟨%fa, Ha⟩, ⟨%fm, Hm⟩⟩ HK
  iapply (wp_load_rect (m := K₀.acc) (r := accAll) 𝒱₀ (T c) none Set.univ (View.set_slice_subset _ _)) $$ Ha
  iintro Ha
  iapply (wp_store (m := K₀.acc) (r := accAll) 𝒱₀ (T c) none Set.univ (View.set_slice_subset _ _)) $$ Ha
  iintro Ha
  iapply (wp_load_rect (m := K₀.ml) (r := mlHalf 0 Nat.two_pos) 𝒱₀ (T c) none Set.univ (View.set_slice_subset _ _)) $$ Hm
  iintro Hm
  iapply (wp_store (m := K₀.ml) (r := mlHalf 0 Nat.two_pos) 𝒱₀ (T c) none Set.univ (View.set_slice_subset _ _)) $$ Hm
  iintro Hm
  iapply (wp_load_rect (m := K₀.ml) (r := mlHalf 1 Nat.one_lt_two) 𝒱₀ (T c) none Set.univ (View.set_slice_subset _ _)) $$ Hm
  iintro Hm
  iapply (wp_store (m := K₀.ml) (r := mlHalf 1 Nat.one_lt_two) 𝒱₀ (T c) none Set.univ (View.set_slice_subset _ _)) $$ Hm
  iintro Hm
  obtain ⟨a1, a2, m1, m2, h1, h2, h3, h4, rfl⟩ := hr
  iapply HK
  isplitl [Ha]
  · iexists _
    isplitr
    rotate_left
    · iexact Ha
    · ipureintro
      refine ⟨a1, a2, m1, m2, h1, h2, h3, h4, ?_⟩
      rw [acc_whole_store]
      funext x
      exact shapeCast_apply _ _ _ _ rfl
  · iexists _
    isplitr
    rotate_left
    · iexact Hm
    · ipureintro
      refine ⟨a1, a2, m1, m2, h1, h2, h3, h4, ?_⟩
      funext x
      rw [eq_ix3 x]
      generalize (x 0 : Fin 2) = j
      match j with
      | ⟨0, _⟩ =>
        refine (half_store_ne c _ _ 1 0 (by decide) (x 1) (x 2)).trans ?_
        exact (half_store_at c _ _ 0 (x 1) (x 2)).trans (shapeCast_ab_1ab_apply _ _ _ _ _)
      | ⟨1, _⟩ =>
        exact (half_store_at c _ _ 1 (x 1) (x 2)).trans (shapeCast_ab_1ab_apply _ _ _ _ _)

/-- The result written. -/
theorem wp_finish {Q : PUnit → sProp 𝕄} (c : Dev nD) (r : Merged F) (hr : Merges D 2 c r) (f : Buf (Elt F) (K₀.out.view.loc (T c))) :
    iprop(pts c K₀.out Finset.univ fullShare f)
      ⊢ iprop((∀ f' : Buf (Elt F) (K₀.out.view.loc (T c)), ⌜Out D c (K₀.out.view.read (Elt F) f')⌝ -∗ pts c K₀.out Finset.univ fullShare f' -∗ Q ⟨⟩)
        -∗ wp frame (wpE defs₀ 𝒱₀ (T c) none) Set.univ (finish K₀ r) Q) := by
  unfold finish
  simp only [Prog.lift, Prog.bind_op, Prog.bind_ret, Prog.pure_eq_ret]
  iintro Ho HK
  iapply (wp_load_rect (m := K₀.out) (r := Rect.unit (s := S8x1x8x128) ![0, 0, 0, 0] S8x1x8x128.size inb_S8x1x8x128_S8x1x8x128_0_0_0_0) 𝒱₀ (T c) none Set.univ (Finset.subset_univ _)) $$ Ho
  iintro Ho
  iapply (wp_store (m := K₀.out) (r := Rect.unit (s := S8x1x8x128) ![0, 0, 0, 0] S8x1x8x128.size inb_S8x1x8x128_S8x1x8x128_0_0_0_0) 𝒱₀ (T c) none Set.univ (Finset.subset_univ _)) $$ Ho
  iintro Ho
  rw [wp_ret]
  imodintro
  obtain ⟨a1, a2, m1, m2, h1, h2, h3, h4, rfl⟩ := hr
  iapply HK $$ [] [Ho]
  rotate_left
  · iexact Ho
  · ipureintro
    exact ⟨a1, a2, m1, m2, h1, h2, h3, h4, out_whole_store c _ _⟩

end Paged

end
-- ==== Proof.Exchange.lean ====
/- One phase of the exchange: both arrays sent to the partner, the four waits. -/
module

public import proofs.«01_k».proof.Proof.Proto

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

variable (D : Dev nD → Data F)

/-! ## The protocol's records -/

/-- Every cell's invariant, and that its round is open. -/
def records (K : Dev nD × Kind → ℕ) : sProp 𝕄 :=
  iprop((bigSep Finset.univ fun ck : Dev nD × Kind => cellInv ER (Rd D) (K ck) (cell ck.1 ck.2))
    ∗ bigSep Finset.univ fun ck : Dev nD × Kind => reached ER (cell ck.1 ck.2) 0)

instance records_persistent (K : Dev nD × Kind → ℕ) : BI.Persistent (records D K) := by unfold records; infer_instance

theorem record_inv (K : Dev nD × Kind → ℕ) (c : Dev nD) (k : Kind) : (records D K : sProp 𝕄) ⊢ cellInv ER (Rd D) (K (c, k)) (cell c k) := by
  unfold records
  iintro ⟨H, -⟩
  iapply (show (bigSep Finset.univ fun ck : Dev nD × Kind => (cellInv ER (Rd D) (K ck) (cell ck.1 ck.2) : sProp 𝕄)) ⊢ cellInv ER (Rd D) (K (c, k)) (cell c k)
    from bigSep_elim (Finset.mem_univ (c, k)))
  iexact H
theorem record_open (K : Dev nD × Kind → ℕ) (c : Dev nD) (k : Kind) : (records D K : sProp 𝕄) ⊢ reached ER (cell c k) 0 := by
  unfold records
  iintro ⟨-, H⟩
  iapply (show (bigSep Finset.univ fun ck : Dev nD × Kind => (reached ER (cell ck.1 ck.2) 0 : sProp 𝕄)) ⊢ reached ER (cell c k) 0
    from bigSep_elim (Finset.mem_univ (c, k)))
  iexact H

/-- What a device holds of phase `s`: where it stands at its four cells, the tokens of the four duties it pays. -/
def phaseLin (c : Dev nD) (s : ℕ) (hs : s < 3) : sProp 𝕄 :=
  iprop(atPos ER (cell c (rcvK s 0 hs Nat.two_pos)) 0 ∅ 0 ∗ atPos ER (cell c (rcvK s 1 hs Nat.one_lt_two)) 0 ∅ 0
    ∗ atPos ER (cell c (sndK s 0 hs Nat.two_pos)) 0 ∅ 0 ∗ atPos ER (cell c (sndK s 1 hs Nat.one_lt_two)) 0 ∅ 0
    ∗ dutyTok ER (cell (peer s c) (rcvK s 0 hs Nat.two_pos)) 0 (0 : Duty) ∗ dutyTok ER (cell (peer s c) (rcvK s 1 hs Nat.one_lt_two)) 0 (0 : Duty)
    ∗ dutyTok ER (cell c (sndK s 0 hs Nat.two_pos)) 0 (0 : Duty) ∗ dutyTok ER (cell c (sndK s 1 hs Nat.one_lt_two)) 0 (0 : Duty))
/-- The credit it waits with at its two receive cells. -/
def phaseCred (c : Dev nD) (s : ℕ) (hs : s < 3) : sProp 𝕄 :=
  iprop(cred (tallyAt (cell c (rcvK s 0 hs Nat.two_pos)) () (NN 0)) ∗ cred (tallyAt (cell c (rcvK s 1 hs Nat.one_lt_two)) () (NN 1)))
/-- The four counters at zero. -/
def phaseDone (c : Dev nD) (s : ℕ) (hs : s < 3) : sProp 𝕄 :=
  iprop(semVal (cell c (rcvK s 0 hs Nat.two_pos)) 0 ∗ semVal (cell c (rcvK s 1 hs Nat.one_lt_two)) 0
    ∗ semVal (cell c (sndK s 0 hs Nat.two_pos)) 0 ∗ semVal (cell c (sndK s 1 hs Nat.one_lt_two)) 0)

theorem mem_duty (c : Dev nD) (x : Bool × Fin 3 × Fin 2) : (0 : Duty) ∈ (Rd D).duties (cell c (some x)) 0 := by
  rw [duties_at]; exact Finset.mem_singleton_self _

/-- The transfer of the accumulators. -/
theorem wp_sendA {α : Type} {Q : α → sProp 𝕄} (K : Dev nD × Kind → ℕ) (c n : Dev nD) (s : ℕ) (hs : s < 3) (hn : n = peer s c)
    {hsc : (raccAt K₀ s hs).view.ref.isScScratch = false}
    {hsrc : K₀.acc.view.WordExact} {hdst : (raccAt K₀ s hs).view.WordExact}
    {hsem : DmaTarget.Typed .vmem (.dma (xsem K₀.rs s 0 hs Nat.two_pos)) (.remote (Dev.tc n : Thread nD τ) (raccAt K₀ s hs) (.dma (xsem K₀.ss s 0 hs Nat.two_pos)) hsc)}
    {k : PUnit → TProg F α} (O : CellTallies nD τ sig Unit) (W : Waits sig Unit) :
    iprop(records D K ∗ ownA D c s ∗ slotA (peer s c) s hs ∗ owes (T c) (O + oweR c s 0 hs Nat.two_pos) W
        ∗ dutyTok ER (cell c (sndK s 0 hs Nat.two_pos)) 0 (0 : Duty) ∗ dutyTok ER (cell (peer s c) (rcvK s 0 hs Nat.two_pos)) 0 (0 : Duty))
      ⊢ iprop(((cred (tallyAt (cell c (sndK s 0 hs Nat.two_pos)) () (NN 0)) ∗ owes (T c) O W) -∗ wp frame (wpE defs₀ 𝒱₀ (T c) none) Set.univ (k ⟨⟩) Q)
        -∗ wp frame (wpE defs₀ 𝒱₀ (T c) none) Set.univ
          (.op (.enqueueDma K₀.acc (.remote (Dev.tc n : Thread nD τ) (raccAt K₀ s hs) (.dma (xsem K₀.ss s 0 hs Nat.two_pos)) hsc) (.dma (xsem K₀.rs s 0 hs Nat.two_pos)) hsrc hdst hsem) k) Q) := by
  subst hn
  unfold ownA slotA
  iintro ⟨#HR, ⟨%fs, %hfs, Ha⟩, ⟨%fd, Hs⟩, HO, Ht1, Ht2⟩
  iapply (Rounds.wp_send_pointsTo 𝒱₀ ER (Rd D) (T c) none (κ₁ := K (c, sndK s 0 hs Nat.two_pos)) (κ₂ := K (peer s c, rcvK s 0 hs Nat.two_pos))
    (r₁ := 0) (r₂ := 0) (d₁ := (0 : Duty)) (d₂ := (0 : Duty)) (fs := fs) (fd := fd)
    (mem_duty D c (true, ⟨s, hs⟩, 0))
    (mem_duty D (peer s c) (false, ⟨s, hs⟩, 0))
    () () (NN 0) rfl (amount_at D c (sndK s 0 hs Nat.two_pos) 0) (amount_at D (peer s c) (rcvK s 0 hs Nat.two_pos) 0) O rfl (W := W)
    (by
      refine BIBase.Entails.trans ?_ (Entails.of_eq (payload_at D c (sndK s 0 hs Nat.two_pos) 0).symm)
      show _ ⊢ ownA D c s
      unfold ownA
      iintro H
      iexists fs
      isplitr; · ipureintro; exact hfs
      iexact H)
    (by
      refine BIBase.Entails.trans ?_ (Entails.of_eq (payload_at D (peer s c) (rcvK s 0 hs Nat.two_pos) 0).symm)
      show _ ⊢ gotA D (peer s c) s hs
      unfold gotA
      rw [peer_peer]
      iintro H
      iexists _
      isplitr
      rotate_left
      · iexact H
      · ipureintro
        rw [View.read_write_univ]; exact hfs)) $$ [Ha Hs HO Ht1 Ht2]
  isplitr; · iapply (record_inv D K c (sndK s 0 hs Nat.two_pos)); iexact HR
  isplitr; · iapply (record_inv D K (peer s c) (rcvK s 0 hs Nat.two_pos)); iexact HR
  isplitl [Ha]; · iexact Ha
  isplitl [Hs]; · iexact Hs
  isplitl [HO]; · iexact HO
  isplitl [Ht1]; · iexact Ht1
  isplitr; · iapply (record_open D K c (sndK s 0 hs Nat.two_pos)); iexact HR
  isplitl [Ht2]; · iexact Ht2
  iapply (record_open D K (peer s c) (rcvK s 0 hs Nat.two_pos)); iexact HR

/-- The transfer of the maxima and sums. -/
theorem wp_sendM {α : Type} {Q : α → sProp 𝕄} (K : Dev nD × Kind → ℕ) (c n : Dev nD) (s : ℕ) (hs : s < 3) (hn : n = peer s c)
    {hsc : (rmlAt K₀ s hs).view.ref.isScScratch = false}
    {hsrc : K₀.ml.view.WordExact} {hdst : (rmlAt K₀ s hs).view.WordExact}
    {hsem : DmaTarget.Typed .vmem (.dma (xsem K₀.rs s 1 hs Nat.one_lt_two)) (.remote (Dev.tc n : Thread nD τ) (rmlAt K₀ s hs) (.dma (xsem K₀.ss s 1 hs Nat.one_lt_two)) hsc)}
    {k : PUnit → TProg F α} (O : CellTallies nD τ sig Unit) (W : Waits sig Unit) :
    iprop(records D K ∗ ownM D c s ∗ slotM (peer s c) s hs ∗ owes (T c) (O + oweR c s 1 hs Nat.one_lt_two) W
        ∗ dutyTok ER (cell c (sndK s 1 hs Nat.one_lt_two)) 0 (0 : Duty) ∗ dutyTok ER (cell (peer s c) (rcvK s 1 hs Nat.one_lt_two)) 0 (0 : Duty))
      ⊢ iprop(((cred (tallyAt (cell c (sndK s 1 hs Nat.one_lt_two)) () (NN 1)) ∗ owes (T c) O W) -∗ wp frame (wpE defs₀ 𝒱₀ (T c) none) Set.univ (k ⟨⟩) Q)
        -∗ wp frame (wpE defs₀ 𝒱₀ (T c) none) Set.univ
          (.op (.enqueueDma K₀.ml (.remote (Dev.tc n : Thread nD τ) (rmlAt K₀ s hs) (.dma (xsem K₀.ss s 1 hs Nat.one_lt_two)) hsc) (.dma (xsem K₀.rs s 1 hs Nat.one_lt_two)) hsrc hdst hsem) k) Q) := by
  subst hn
  unfold ownM slotM
  iintro ⟨#HR, ⟨%fs, %hfs, Ha⟩, ⟨%fd, Hs⟩, HO, Ht1, Ht2⟩
  iapply (Rounds.wp_send_pointsTo 𝒱₀ ER (Rd D) (T c) none (κ₁ := K (c, sndK s 1 hs Nat.one_lt_two)) (κ₂ := K (peer s c, rcvK s 1 hs Nat.one_lt_two))
    (r₁ := 0) (r₂ := 0) (d₁ := (0 : Duty)) (d₂ := (0 : Duty)) (fs := fs) (fd := fd)
    (mem_duty D c (true, ⟨s, hs⟩, 1))
    (mem_duty D (peer s c) (false, ⟨s, hs⟩, 1))
    () () (NN 1) rfl (amount_at D c (sndK s 1 hs Nat.one_lt_two) 0) (amount_at D (peer s c) (rcvK s 1 hs Nat.one_lt_two) 0) O rfl (W := W)
    (by
      refine BIBase.Entails.trans ?_ (Entails.of_eq (payload_at D c (sndK s 1 hs Nat.one_lt_two) 0).symm)
      show _ ⊢ ownM D c s
      unfold ownM
      iintro H
      iexists fs
      isplitr; · ipureintro; exact hfs
      iexact H)
    (by
      refine BIBase.Entails.trans ?_ (Entails.of_eq (payload_at D (peer s c) (rcvK s 1 hs Nat.one_lt_two) 0).symm)
      show _ ⊢ gotM D (peer s c) s hs
      unfold gotM
      rw [peer_peer]
      iintro H
      iexists _
      isplitr
      rotate_left
      · iexact H
      · ipureintro
        rw [View.read_write_univ]; exact hfs)) $$ [Ha Hs HO Ht1 Ht2]
  isplitr; · iapply (record_inv D K c (sndK s 1 hs Nat.one_lt_two)); iexact HR
  isplitr; · iapply (record_inv D K (peer s c) (rcvK s 1 hs Nat.one_lt_two)); iexact HR
  isplitl [Ha]; · iexact Ha
  isplitl [Hs]; · iexact Hs
  isplitl [HO]; · iexact HO
  isplitl [Ht1]; · iexact Ht1
  isplitr; · iapply (record_open D K c (sndK s 1 hs Nat.one_lt_two)); iexact HR
  isplitl [Ht2]; · iexact Ht2
  iapply (record_open D K (peer s c) (rcvK s 1 hs Nat.one_lt_two)); iexact HR

/-- A wait for a cell's one duty: its payload comes, and the cell closes at zero. -/
theorem wp_waitCell {α : Type} {Q : α → sProp 𝕄} (K : Dev nD × Kind → ℕ) (c : Dev nD) (x : Bool × Fin 3 × Fin 2)
    {sp sp' : Space} {s₁ s₂ : Shape} {e e' : EltTy} {κ' : Idealize.ShloMosaic.Kind} {sem : DmaSem sig} (hsem : csem (some x) = .dma sem) {src : Memref sig .tc sp' s₂ e'} {dst : Memref sig κ' sp s₁ e}
    {hsrc : src.view.WordExact} {hdst : dst.view.WordExact} (hcr : dst.view.dmaCredit = NN x.2.2.val)
    {k : PUnit → TProg F α} (n : ℕ) (O : CellTallies nD τ sig Unit) (hO : Above n O) (hn : lvK (some x) < n) :
    iprop(records D K ∗ levAts L lv ∗ cred (tallyAt (cell c (some x)) () (NN x.2.2.val)) ∗ (∃ W, owes (T c) O W) ∗ atPos ER (cell c (some x)) 0 ∅ 0)
      ⊢ iprop((((∃ W, owes (T c) O W) ∗ semVal (cell c (some x)) 0 ∗ pay D c (some x) 0) -∗ wp frame (wpE defs₀ 𝒱₀ (T c) none) Set.univ (k ⟨⟩) Q)
        -∗ wp frame (wpE defs₀ 𝒱₀ (T c) none) Set.univ (.op (.waitDma2 sem src dst hsrc hdst) k) Q) := by
  have hcell : ((T c, SemLoc.dma sem) : GSem nD τ sig) = cell c (some x) := by rw [← hsem]
  have hrule := fun W : Waits sig Unit => Rounds.wp_wait_rest_token (Q := Q) (k := k) 𝒱₀ ER (Rd D) (T c) none (κ := K (c, some x))
      (wpE_waitDma2_eq (sem := sem) (src := src) (dst := dst) (hsrc := hsrc) (hdst := hdst) (defs := defs₀ (F := F)) 𝒱₀ (T c) none Set.univ) (Set.mem_univ _) () (O := O) (W := W) (R := 0) (m := 0) (T := ∅)
  rw [hcell, hcr] at hrule
  iintro ⟨#HR, #HL, Hc, ⟨%W, HO⟩, Hat⟩ HK
  iapply (hrule W (by rw [Nat.zero_add, expect_some])) $$ [Hc HO Hat]
  · isplitr; · iapply (record_inv D K c (some x)); iexact HR
    isplitl [Hc]; · iexact Hc
    isplitl [HO]; · iexact HO
    isplitr
    · rw [← hsem]
      iapply (mayWait_of (F := F) c (csem (some x)) n (by rw [lv_cell]; exact hn) O hO); iexact HL
    iexact Hat
  iintro ⟨HO, Hat, -, Hp⟩
  ihave Hp := (Entails.of_eq (rest_some D c x)) $$ Hp
  imod (Rounds.cell_close ER (Rd D) (Set.mem_univ (K (c, some x))) (fun h => h) (R := 0 + 1) (duties_later D (cell c (some x)))) $$ [Hat] with Hz
  · isplitr; · iapply (record_inv D K c (some x)); iexact HR
    iexact Hat
  iapply HK
  isplitl [HO]
  · iexists _; iexact HO
  isplitl [Hz]; · iexact Hz
  iexact Hp

/-- Phase `s`. -/
theorem wp_exchange {α : Type} {Q : α → sProp 𝕄} (K : Dev nD × Kind → ℕ) (c pa pm : Dev nD) (s : ℕ) (hs : s < 3) (hpa : pa = peer s c) (hpm : pm = peer s c)
    (k : TProg F α) (O : CellTallies nD τ sig Unit) (hO : Above (3 + s) O) :
    iprop(records D K ∗ levAts L lv ∗ ownA D c s ∗ ownM D c s ∗ slotA (peer s c) s hs ∗ slotM (peer s c) s hs ∗ phaseLin c s hs ∗ phaseCred c s hs
        ∗ ∃ W, owes (T c) ((O + oweR c s 1 hs Nat.one_lt_two) + oweR c s 0 hs Nat.two_pos) W)
      ⊢ iprop(((ownA D c s ∗ ownM D c s ∗ gotA D c s hs ∗ gotM D c s hs ∗ phaseDone c s hs ∗ ∃ W, owes (T c) O W)
          -∗ wp frame (wpE defs₀ 𝒱₀ (T c) none) Set.univ k Q)
        -∗ wp frame (wpE defs₀ 𝒱₀ (T c) none) Set.univ (exchange K₀ s hs pa pm k) Q) := by
  unfold exchange phaseLin phaseCred phaseDone
  simp only [Prog.lift, Prog.bind_op, Prog.bind_ret]
  iintro ⟨#HR, #HL, Ha, Hm, Hsa, Hsm, ⟨HaR0, HaR1, HaS0, HaS1, HtR0, HtR1, HtS0, HtS1⟩, ⟨HcR0, HcR1⟩, ⟨%W, HO⟩⟩ HK
  iapply (wp_sendA D K c pa s hs hpa (O + oweR c s 1 hs Nat.one_lt_two) W) $$ [Ha Hsa HO HtS0 HtR0]
  · isplitr; · iexact HR
    isplitl [Ha]; · iexact Ha
    isplitl [Hsa]; · iexact Hsa
    isplitl [HO]; · iexact HO
    isplitl [HtS0] <;> iassumption
  iintro ⟨HcS0, HO⟩
  iapply (wp_sendM D K c pm s hs hpm O W) $$ [Hm Hsm HO HtS1 HtR1]
  · isplitr; · iexact HR
    isplitl [Hm]; · iexact Hm
    isplitl [Hsm]; · iexact Hsm
    isplitl [HO]; · iexact HO
    isplitl [HtS1] <;> iassumption
  iintro ⟨HcS1, HO⟩
  iapply (wp_waitCell D K c (true, ⟨s, hs⟩, 0) (dst := K₀.acc) rfl credit_acc (3 + s) O hO (by show 0 < 3 + s; omega)) $$ [HcS0 HO HaS0]
  · isplitr; · iexact HR
    isplitr; · iexact HL
    isplitl [HcS0]; · iexact HcS0
    isplitl [HO]; · iexists W; iexact HO
    iexact HaS0
  iintro ⟨HO, HzS0, Ha⟩
  ihave Ha := (Entails.of_eq (show pay D c (some (true, ⟨s, hs⟩, 0)) 0 = ownA D c s from rfl)) $$ Ha
  iapply (wp_waitCell D K c (false, ⟨s, hs⟩, 0) (dst := raccAt K₀ s hs) rfl (credit_racc s hs) (3 + s) O hO (by show 2 + s < 3 + s; omega)) $$ [HcR0 HO HaR0]
  · isplitr; · iexact HR
    isplitr; · iexact HL
    isplitl [HcR0]; · iexact HcR0
    isplitl [HO]; · iexact HO
    iexact HaR0
  iintro ⟨HO, HzR0, Hga⟩
  ihave Hga := (Entails.of_eq (show pay D c (some (false, ⟨s, hs⟩, 0)) 0 = gotA D c s hs from rfl)) $$ Hga
  iapply (wp_waitCell D K c (true, ⟨s, hs⟩, 1) (dst := K₀.ml) rfl credit_ml (3 + s) O hO (by show 0 < 3 + s; omega)) $$ [HcS1 HO HaS1]
  · isplitr; · iexact HR
    isplitr; · iexact HL
    isplitl [HcS1]; · iexact HcS1
    isplitl [HO]; · iexact HO
    iexact HaS1
  iintro ⟨HO, HzS1, Hm⟩
  ihave Hm := (Entails.of_eq (show pay D c (some (true, ⟨s, hs⟩, 1)) 0 = ownM D c s from rfl)) $$ Hm
  iapply (wp_waitCell D K c (false, ⟨s, hs⟩, 1) (dst := rmlAt K₀ s hs) rfl (credit_rml s hs) (3 + s) O hO (by show 2 + s < 3 + s; omega)) $$ [HcR1 HO HaR1]
  · isplitr; · iexact HR
    isplitr; · iexact HL
    isplitl [HcR1]; · iexact HcR1
    isplitl [HO]; · iexact HO
    iexact HaR1
  iintro ⟨HO, HzR1, Hgm⟩
  ihave Hgm := (Entails.of_eq (show pay D c (some (false, ⟨s, hs⟩, 1)) 0 = gotM D c s hs from rfl)) $$ Hgm
  iapply HK
  isplitl [Ha]; · iexact Ha
  isplitl [Hm]; · iexact Hm
  isplitl [Hga]; · iexact Hga
  isplitl [Hgm]; · iexact Hgm
  isplitl [HzR0 HzR1 HzS0 HzS1]
  · isplitl [HzR0]; · iexact HzR0
    isplitl [HzR1]; · iexact HzR1
    isplitl [HzS0]; · iexact HzS0
    iexact HzS1
  iexact HO

end Paged

end
-- ==== Proof.Across.lean ====
/- The barrier, the three phases, the result. -/
module

public import proofs.«01_k».proof.Proof.Merge
public import proofs.«01_k».proof.Proof.Exchange

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

variable (D : Dev nD → Data F)

/-! ## The barrier -/

theorem dev1_peer : ∀ c : Dev nD, (⟨k0_dev1 c, k0_dev1_lt c⟩ : Dev nD) = peer 0 c := by decide +kernel
theorem dev2_peer : ∀ c : Dev nD, (⟨k0_dev2 c, k0_dev2_lt c⟩ : Dev nD) = peer 1 c := by decide +kernel
theorem dev3_peer : ∀ c : Dev nD, (⟨k0_dev3 c, k0_dev3_lt c⟩ : Dev nD) = peer 2 c := by decide +kernel
theorem dev5_peer : ∀ c : Dev nD, (⟨k0_dev5 c, k0_dev5_lt c⟩ : Dev nD) = peer 0 c := by decide +kernel
theorem dev7_peer : ∀ c : Dev nD, (⟨k0_dev7 c, k0_dev7_lt c⟩ : Dev nD) = peer 1 c := by decide +kernel
theorem dev9_peer : ∀ c : Dev nD, (⟨k0_dev9 c, k0_dev9_lt c⟩ : Dev nD) = peer 2 c := by decide +kernel

/-- Where a device stands at its barrier, and the tokens of its three duties there. -/
def barLin (c : Dev nD) : sProp 𝕄 :=
  iprop(atPos ER (cell c barK) 0 ∅ 0 ∗ dutyTok ER (cell (peer 0 c) barK) 0 (0 : Duty) ∗ dutyTok ER (cell (peer 1 c) barK) 0 (1 : Duty)
    ∗ dutyTok ER (cell (peer 2 c) barK) 0 (2 : Duty))
def barCred (c : Dev nD) : sProp 𝕄 := cred (tallyAt (cell c barK) () 3)

/-- A device's landing slots. -/
def slots (c : Dev nD) : sProp 𝕄 :=
  iprop((slotA c 0 (by decide) ∗ slotM c 0 (by decide)) ∗ (slotA c 1 (by decide) ∗ slotM c 1 (by decide)) ∗ (slotA c 2 (by decide) ∗ slotM c 2 (by decide)))

theorem pay_bar (c : Dev nD) (e : Duty) : (iprop(slotA (F := F) c e.val e.isLt ∗ slotM c e.val e.isLt) : sProp 𝕄) ⊢ (Rd D).payload (cell (peer e.val c) barK) 0 e := by
  refine BIBase.Entails.trans ?_ (Entails.of_eq (payload_at D (peer e.val c) barK e).symm)
  show _ ⊢ lent (peer e.val c) e
  unfold lent
  rw [peer_peer]

theorem mem_bar (c : Dev nD) (e : Duty) : e ∈ (Rd D).duties (cell c barK) 0 := by
  rw [duties_at]; exact Finset.mem_univ _

/-- One signal at a partner's barrier. -/
theorem wp_signalTo {α : Type} {Q : α → sProp 𝕄} (K : Dev nD × Kind → ℕ) (c n : Dev nD) (e : Duty) (hn : n = peer e.val c) (k : PUnit → TProg F α)
    (O : CellTallies nD τ sig Unit) :
    iprop(records D K ∗ slotA c e.val e.isLt ∗ slotM c e.val e.isLt ∗ dutyTok ER (cell (peer e.val c) barK) 0 e ∗ (∃ W, owes (T c) (O + oweB c e.val) W))
      ⊢ iprop(((∃ W, owes (T c) O W) -∗ wp frame (wpE defs₀ 𝒱₀ (T c) none) Set.univ (k ⟨⟩) Q)
        -∗ wp frame (wpE defs₀ 𝒱₀ (T c) none) Set.univ (.op (.semSignal (T n) barSem (1#32 : BitVec 32).toInt) k) Q) := by
  subst hn
  have hpay : (iprop(slotA (F := F) c e.val e.isLt ∗ slotM c e.val e.isLt) : sProp 𝕄) ⊢ (Rd D).payload (T (peer e.val c), SemLoc.reg barSem) 0 e := pay_bar D c e
  iintro ⟨#HR, Ha, Hm, Ht, ⟨%W, HO⟩⟩ HK
  iapply (Rounds.wp_signal 𝒱₀ ER (Rd D) (T c) none (dst := T (peer e.val c)) (sem := barSem) (κ := K (peer e.val c, barK)) (d := e)
    (mem_bar D (peer e.val c) e) ((amount_at D (peer e.val c) barK e).trans (by decide)) () O rfl (W := W)) $$ [Ha Hm Ht HO]
  · isplitr; · iapply (record_inv D K (peer e.val c) barK); iexact HR
    isplitl [HO]; · iexact HO
    isplitl [Ht]; · iexact Ht
    isplitl [Ha Hm]
    · iapply hpay; isplitl [Ha] <;> iassumption
    iapply (record_open D K (peer e.val c) barK); iexact HR
  iintro HO
  iapply HK
  iexists W; iexact HO

theorem wp_meet {α : Type} {Q : α → sProp 𝕄} (K : Dev nD × Kind → ℕ) (c : Dev nD) (k : TProg F α) :
    iprop(records D K ∗ levAts L lv ∗ slots c ∗ barLin c ∗ barCred c ∗ (∃ W, owes (T c) (OS c) W))
      ⊢ iprop(((lent c 0 ∗ lent c 1 ∗ lent c 2 ∗ semVal (cell c barK) 0 ∗ (∃ W, owes (T c) (O0 c) W)) -∗ wp frame (wpE defs₀ 𝒱₀ (T c) none) Set.univ k Q)
        -∗ wp frame (wpE defs₀ 𝒱₀ (T c) none) Set.univ (meet c k) Q) := by
  unfold meet slots barLin barCred OS
  simp only [semSignalWord, semWaitWord, Prog.lift, Prog.bind_op, Prog.bind_ret, Prog.pure_eq_ret]
  iintro ⟨#HR, #HL, ⟨⟨Ha0, Hm0⟩, ⟨Ha1, Hm1⟩, ⟨Ha2, Hm2⟩⟩, ⟨Hat, Ht0, Ht1, Ht2⟩, Hc, HO⟩ HK
  iapply (wp_signalTo D K c _ 0 (dev1_peer c) _ ((O0 c + oweB c 2) + oweB c 1)) $$ [Ha0 Hm0 Ht0 HO]
  · isplitr; · iexact HR
    isplitl [Ha0]; · iexact Ha0
    isplitl [Hm0]; · iexact Hm0
    isplitl [Ht0]; · iexact Ht0
    iexact HO
  iintro HO
  iapply (wp_signalTo D K c _ 1 (dev2_peer c) _ (O0 c + oweB c 2)) $$ [Ha1 Hm1 Ht1 HO]
  · isplitr; · iexact HR
    isplitl [Ha1]; · iexact Ha1
    isplitl [Hm1]; · iexact Hm1
    isplitl [Ht1]; · iexact Ht1
    iexact HO
  iintro HO
  iapply (wp_signalTo D K c _ 2 (dev3_peer c) _ (O0 c)) $$ [Ha2 Hm2 Ht2 HO]
  · isplitr; · iexact HR
    isplitl [Ha2]; · iexact Ha2
    isplitl [Hm2]; · iexact Hm2
    isplitl [Ht2]; · iexact Ht2
    iexact HO
  iintro ⟨%W, HO⟩
  iapply (Rounds.wp_wait_rest_token 𝒱₀ ER (Rd D) (T c) none (κ := K (c, barK))
      (wpE_semWait_eq 𝒱₀ (T c) none Set.univ) (Set.mem_univ _) () (O := O0 c) (W := W) (R := 0) (m := 0) (T := ∅)
      ((show 0 + (3#32 : BitVec 32).toNat = 3 by decide).trans (expect_bar D c).symm)) $$ [Hc HO Hat]
  · isplitr; · iapply (record_inv D K c barK); iexact HR
    isplitl [Hc]; · iexact Hc
    isplitl [HO]; · iexact HO
    isplitr
    · iapply (mayWait_of (F := F) c (csem barK) 2 (by rw [lv_cell]; decide) (O0 c) (O0_above c)); iexact HL
    iexact Hat
  iintro ⟨HO, Hat, -, Hp⟩
  have hrest : bigSep ((Rd D).duties (T c, SemLoc.reg barSem) 0 \ ∅) (fun e => (Rd D).payload (T c, SemLoc.reg barSem) 0 e) = iprop(lent (F := F) c 0 ∗ lent c 1 ∗ lent c 2) := rest_bar D c
  ihave Hp := (Entails.of_eq hrest) $$ Hp
  icases Hp with ⟨Hp0, Hp1, Hp2⟩
  imod (Rounds.cell_close ER (Rd D) (Set.mem_univ (K (c, barK))) (fun h => h) (R := 0 + 1) (duties_later D (cell c barK))) $$ [Hat] with Hz
  · isplitr; · iapply (record_inv D K c barK); iexact HR
    iexact Hat
  iapply HK
  isplitl [Hp0]; · iexact Hp0
  isplitl [Hp1]; · iexact Hp1
  isplitl [Hp2]; · iexact Hp2
  isplitl [Hz]; · iexact Hz
  iexists _; iexact HO

/-! ## The cross-device part -/

/-- What a device holds of the protocol before the barrier. -/
def around (K : Dev nD × Kind → ℕ) (c : Dev nD) : sProp 𝕄 :=
  iprop(records D K ∗ levAts L lv ∗ barLin c ∗ phaseLin c 0 (by decide) ∗ phaseLin c 1 (by decide) ∗ phaseLin c 2 (by decide)
    ∗ barCred c ∗ phaseCred c 0 (by decide) ∗ phaseCred c 1 (by decide) ∗ phaseCred c 2 (by decide))

/-- What it has of it at the end: every counter at zero. -/
def closed (c : Dev nD) : sProp 𝕄 :=
  iprop(semVal (cell c barK) 0 ∗ phaseDone c 0 (by decide) ∗ phaseDone c 1 (by decide) ∗ phaseDone c 2 (by decide))

/-- One phase with its merge. -/
theorem wp_phase {α : Type} {Q : α → sProp 𝕄} (K : Dev nD × Kind → ℕ) (c pa pm : Dev nD) (s : ℕ) (hs : s < 3) (hpa : pa = peer s c) (hpm : pm = peer s c)
    (k : Merged F → TProg F α) (O : CellTallies nD τ sig Unit) (hO : Above (3 + s) O) :
    iprop(records D K ∗ levAts L lv ∗ ownA D c s ∗ ownM D c s ∗ lent c ⟨s, hs⟩ ∗ phaseLin c s hs ∗ phaseCred c s hs
        ∗ ∃ W, owes (T c) ((O + oweR c s 1 hs Nat.one_lt_two) + oweR c s 0 hs Nat.two_pos) W)
      ⊢ iprop((∀ r : Merged F, ⌜Merges D s c r⌝ -∗ (anyA c ∗ anyM c ∗ (slotA c s hs ∗ slotM c s hs) ∗ phaseDone c s hs ∗ ∃ W, owes (T c) O W)
          -∗ wp frame (wpE defs₀ 𝒱₀ (T c) none) Set.univ (k r) Q)
        -∗ wp frame (wpE defs₀ 𝒱₀ (T c) none) Set.univ (exchange K₀ s hs pa pm (merge K₀ s hs k)) Q) := by
  unfold lent
  iintro ⟨#HR, #HL, Ha, Hm, ⟨Hsa, Hsm⟩, Hlin, Hcr, HO⟩ HK
  iapply (wp_exchange D K c pa pm s hs hpa hpm _ O hO) $$ [Ha Hm Hsa Hsm Hlin Hcr HO]
  · isplitr; · iexact HR
    isplitr; · iexact HL
    isplitl [Ha]; · iexact Ha
    isplitl [Hm]; · iexact Hm
    isplitl [Hsa]; · iexact Hsa
    isplitl [Hsm]; · iexact Hsm
    isplitl [Hlin]; · iexact Hlin
    isplitl [Hcr]; · iexact Hcr
    iexact HO
  iintro ⟨Ha, Hm, Hga, Hgm, Hz, HO⟩
  iapply (wp_merge D c s hs k) $$ [Ha Hm Hga Hgm]
  · isplitl [Ha]; · iexact Ha
    isplitl [Hm]; · iexact Hm
    isplitl [Hga]; · iexact Hga
    iexact Hgm
  iintro %r %hr ⟨Ha, Hm, Hsa, Hsm⟩
  iapply HK $$ [] [Ha Hm Hsa Hsm Hz HO]
  · ipureintro; exact hr
  · isplitl [Ha]; · iexact Ha
    isplitl [Hm]; · iexact Hm
    isplitl [Hsa Hsm]
    · isplitl [Hsa] <;> iassumption
    isplitl [Hz] <;> iassumption

theorem wp_across {Q : PUnit → sProp 𝕄} (K : Dev nD × Kind → ℕ) (c : Dev nD) (f : Buf (Elt F) (K₀.out.view.loc (T c))) :
    iprop(around D K c ∗ ownA D c 0 ∗ ownM D c 0 ∗ slots c ∗ pts c K₀.out Finset.univ fullShare f ∗ (∃ W, owes (T c) (OS c) W))
      ⊢ iprop(((anyA c ∗ anyM c ∗ slots c ∗ closed (F := F) c ∗ (∃ f', ⌜Out D c (K₀.out.view.read (Elt F) f')⌝ ∗ pts c K₀.out Finset.univ fullShare f')
            ∗ (∃ W, owes (T c) (0 : CellTallies nD τ sig Unit) W)) -∗ Q ⟨⟩)
        -∗ wp frame (wpE defs₀ 𝒱₀ (T c) none) Set.univ (across K₀ c) Q) := by
  unfold across around closed
  iintro ⟨⟨#HR, #HL, Hbl, Hl0, Hl1, Hl2, Hbc, Hc0, Hc1, Hc2⟩, Ha, Hm, Hs, Ho, HO⟩ HK
  iapply (wp_meet D K c _) $$ [Hs Hbl Hbc HO]
  · isplitr; · iexact HR
    isplitr; · iexact HL
    isplitl [Hs]; · iexact Hs
    isplitl [Hbl]; · iexact Hbl
    isplitl [Hbc] <;> iassumption
  iintro ⟨Hp0, Hp1, Hp2, Hzb, HO⟩
  iapply (wp_phase D K c _ _ 0 (by decide) rfl (dev5_peer c) _ (O1 c) (O1_above c)) $$ [Ha Hm Hp0 Hl0 Hc0 HO]
  · isplitr; · iexact HR
    isplitr; · iexact HL
    isplitl [Ha]; · iexact Ha
    isplitl [Hm]; · iexact Hm
    isplitl [Hp0]; · iexact Hp0
    isplitl [Hl0]; · iexact Hl0
    isplitl [Hc0]; · iexact Hc0
    iexact HO
  iintro %r0 %hr0 ⟨Ha, Hm, Hs0, Hz0, HO⟩
  iapply (wp_putBack D c 0 r0 hr0 _) $$ [Ha Hm]
  · isplitl [Ha] <;> iassumption
  iintro ⟨Ha, Hm⟩
  iapply (wp_phase D K c _ _ 1 (by decide) rfl (dev7_peer c) _ (O2 c) (O2_above c)) $$ [Ha Hm Hp1 Hl1 Hc1 HO]
  · isplitr; · iexact HR
    isplitr; · iexact HL
    isplitl [Ha]; · iexact Ha
    isplitl [Hm]; · iexact Hm
    isplitl [Hp1]; · iexact Hp1
    isplitl [Hl1]; · iexact Hl1
    isplitl [Hc1]; · iexact Hc1
    iexact HO
  iintro %r1 %hr1 ⟨Ha, Hm, Hs1, Hz1, HO⟩
  iapply (wp_putBack D c 1 r1 hr1 _) $$ [Ha Hm]
  · isplitl [Ha] <;> iassumption
  iintro ⟨Ha, Hm⟩
  iapply (wp_phase D K c _ _ 2 (by decide) rfl (dev9_peer c) _ 0 (Above.zero _)) $$ [Ha Hm Hp2 Hl2 Hc2 HO]
  · isplitr; · iexact HR
    isplitr; · iexact HL
    isplitl [Ha]; · iexact Ha
    isplitl [Hm]; · iexact Hm
    isplitl [Hp2]; · iexact Hp2
    isplitl [Hl2]; · iexact Hl2
    isplitl [Hc2]; · iexact Hc2
    iexact HO
  iintro %r2 %hr2 ⟨Ha, Hm, Hs2, Hz2, HO⟩
  iapply (wp_finish D c r2 hr2 f) $$ [Ho]
  · iexact Ho
  iintro %f' %hf' Ho
  iapply HK
  isplitl [Ha]; · iexact Ha
  isplitl [Hm]; · iexact Hm
  isplitl [Hs0 Hs1 Hs2]
  · unfold slots
    isplitl [Hs0]; · iexact Hs0
    isplitl [Hs1]; · iexact Hs1
    iexact Hs2
  isplitl [Hzb Hz0 Hz1 Hz2]
  · isplitl [Hzb]; · iexact Hzb
    isplitl [Hz0]; · iexact Hz0
    isplitl [Hz1]; · iexact Hz1
    iexact Hz2
  isplitl [Ho]
  · iexists f'
    isplitr; · ipureintro; exact hf'
    iexact Ho
  iexact HO

/-! ## The body -/

omit [Facts] in
theorem buf_sem_ok : ∀ (a : Fin 2) (b : Fin 8), inSems ![a.val, b.val] := by decide

omit [Facts] in
theorem ks_ne : ∀ (a : Fin 2) (b : Fin 8) (k : Kind), csem k ≠ .dma (semOf K₀.ks _ (buf_sem_ok a b)) := by decide +kernel
omit [Facts] in
theorem vs_ne : ∀ (a : Fin 2) (b : Fin 8) (k : Kind), csem k ≠ .dma (semOf K₀.vs _ (buf_sem_ok a b)) := by decide +kernel

theorem sems_pair (e : Fin 2 → ℕ) (he : inSems e) : ∃ (a : Fin 2) (b : Fin 8), e = ![a.val, b.val] := by
  have h0 : e 0 + 1 ≤ 2 := he 0
  have h1 : e 1 + 1 ≤ 8 := he 1
  refine ⟨⟨e 0, by omega⟩, ⟨e 1, by omega⟩, ?_⟩
  funext i
  match i with
  | ⟨0, _⟩ => rfl
  | ⟨1, _⟩ => rfl

/-- No semaphore of the double buffers is one of the protocol's. -/
theorem lv_ks (c : Dev nD) (e : Fin 2 → ℕ) (he : inSems e) : lv (T c, .dma (semOf K₀.ks e he)) () = 0 := by
  obtain ⟨a, b, rfl⟩ := sems_pair e he
  unfold lv
  rw [kindOf_none _ (ks_ne a b)]; rfl
theorem lv_vs (c : Dev nD) (e : Fin 2 → ℕ) (he : inSems e) : lv (T c, .dma (semOf K₀.vs e he)) () = 0 := by
  obtain ⟨a, b, rfl⟩ := sems_pair e he
  unfold lv
  rw [kindOf_none _ (vs_ne a b)]; rfl

theorem locWaits_of (c : Dev nD) (O : CellTallies nD τ sig Unit) (hO : Above 1 O) : (levAts L lv : sProp 𝕄) ⊢ locWaits K₀ c O := by
  unfold locWaits
  iintro #HL
  isplitr
  · iintro %e %he
    iapply (mayWait_of (F := F) c _ 1 (by rw [lv_ks]; decide) O hO); iexact HL
  · iintro %e %he
    iapply (mayWait_of (F := F) c _ 1 (by rw [lv_vs]; decide) O hO); iexact HL

/-- What a device starts with: its operands, its buffers at anything, the protocol. -/
def bodyPre (K : Dev nD × Kind → ℕ) (c : Dev nD) (B : Bufs F K₀ c) : sProp 𝕄 :=
  iprop(around D K c
    ∗ (pts c K₀.q Finset.univ fullShare B.fq ∗ pts c K₀.bt Finset.univ fullShare B.fbt ∗ pts c K₀.ln Finset.univ fullShare B.fln)
    ∗ (∃ f, pts c K₀.pg Finset.univ fullShare f) ∗ pageArr c K₀.kh B.fk ∗ pageArr c K₀.vh B.fv
    ∗ anyA c ∗ anyM c ∗ slots c
    ∗ bigSep Finset.univ (slotFree K₀ c 0) ∗ bigSep Finset.univ (slotFree K₀ c 1)
    ∗ (∃ f, pts c K₀.out Finset.univ fullShare f) ∗ (∃ W, owes (T c) (OS c) W))

/-- What it ends with. -/
def bodyPost (c : Dev nD) (B : Bufs F K₀ c) : sProp 𝕄 :=
  iprop(closed (F := F) c
    ∗ (pts c K₀.q Finset.univ fullShare B.fq ∗ pts c K₀.bt Finset.univ fullShare B.fbt ∗ pts c K₀.ln Finset.univ fullShare B.fln)
    ∗ (∃ f, pts c K₀.pg Finset.univ fullShare f) ∗ pageArr c K₀.kh B.fk ∗ pageArr c K₀.vh B.fv
    ∗ anyA c ∗ anyM c ∗ slots c
    ∗ bigSep Finset.univ (slotFree K₀ c 0) ∗ bigSep Finset.univ (slotFree K₀ c 1)
    ∗ (∃ f', ⌜Out D c (K₀.out.view.read (Elt F) f')⌝ ∗ pts c K₀.out Finset.univ fullShare f') ∗ (∃ W, owes (T c) (0 : CellTallies nD τ sig Unit) W))

theorem anyA_eq (c : Dev nD) : (anyA c : sProp 𝕄) = iprop(∃ f, pts c K₀.acc Finset.univ fullShare f) := by unfold anyA; rw [acc_set]
theorem anyM_eq (c : Dev nD) : (anyM c : sProp 𝕄) = iprop(∃ f, pts c K₀.ml Finset.univ fullShare f) := by unfold anyM; rw [ml_set]

theorem wp_run {Q : PUnit → sProp 𝕄} (K : Dev nD × Kind → ℕ) (c : Dev nD) (B : Bufs F K₀ c) (hB : B.data = D c) (hln : ∀ j, ((D c).ln j).toInt ≤ 512) :
    bodyPre D K c B ⊢ iprop((bodyPost D c B -∗ Q ⟨⟩) -∗ wp frame (wpE defs₀ 𝒱₀ (T c) none) Set.univ (body K₀) Q) := by
  unfold body bodyPre bodyPost
  rw [anyA_eq, anyM_eq]
  simp only [Prog.lift, Prog.bind_op, Prog.bind_ret, wp_deviceId]
  unfold around
  iintro ⟨⟨#HR, #HL, Hbl, Hl⟩, ⟨Hq, Hbt, Hln⟩, ⟨%fp, Hpg⟩, Hk, Hv, ⟨%fa, Ha⟩, ⟨%fm, Hm⟩, Hs, Hf0, Hf1, ⟨%fo, Ho⟩, HO⟩ HK
  iapply (wp_items B (OS c) (by rw [hB]; exact hln) 8 0 rfl) $$ [Hq Hbt Hln Hpg Hk Hv Ha Hm Hf0 Hf1 HO]
  · unfold itemsInv
    iexists fp, fa, fm
    isplitr
    · ipureintro; intro i hi; exact absurd hi (Nat.not_lt_zero _)
    isplitl [Hq]; · iexact Hq
    isplitl [Hbt]; · iexact Hbt
    isplitl [Hln]; · iexact Hln
    isplitl [Hpg]; · iexact Hpg
    isplitl [Hk]; · iexact Hk
    isplitl [Hv]; · iexact Hv
    isplitl [Ha]; · iexact Ha
    isplitl [Hm]; · iexact Hm
    isplitl [Hf0]; · iexact Hf0
    isplitl [Hf1]; · iexact Hf1
    isplitl [HO]; · iexact HO
    iapply (locWaits_of (F := F) c (OS c) (OS_above c)); iexact HL
  unfold itemsInv
  iintro ⟨%fp', %fa', %fm', %hrows, Hq, Hbt, Hln, Hpg, Hk, Hv, Ha, Hm, Hf0, Hf1, HO, -⟩
  rw [hB] at hrows
  iapply (wp_across D K c fo) $$ [Hbl Hl Ha Hm Hs Ho HO]
  · isplitl [Hbl Hl]
    · unfold around
      isplitr; · iexact HR
      isplitr; · iexact HL
      isplitl [Hbl]; · iexact Hbl
      iexact Hl
    isplitl [Ha]
    · unfold ownA; rw [acc_set]
      iexists fa'
      isplitr; · ipureintro; exact ⟨_, hrows⟩
      iexact Ha
    isplitl [Hm]
    · unfold ownM; rw [ml_set]
      iexists fm'
      isplitr; · ipureintro; exact ⟨_, hrows⟩
      iexact Hm
    isplitl [Hs]; · iexact Hs
    isplitl [Ho] <;> iassumption
  rw [anyA_eq, anyM_eq]
  iintro ⟨Ha, Hm, Hs, Hz, Ho, HO⟩
  iapply HK
  isplitl [Hz]; · iexact Hz
  isplitl [Hq Hbt Hln]
  · isplitl [Hq]; · iexact Hq
    isplitl [Hbt] <;> iassumption
  isplitl [Hpg]; · iexists fp'; iexact Hpg
  isplitl [Hk]; · iexact Hk
  isplitl [Hv]; · iexact Hv
  isplitl [Ha]; · iexact Ha
  isplitl [Hm]; · iexact Hm
  isplitl [Hs]; · iexact Hs
  isplitl [Hf0]; · iexact Hf0
  isplitl [Hf1]; · iexact Hf1
  isplitl [Ho] <;> iassumption

end Paged

end
-- ==== Proof.Ghost.lean ====
/- The protocol's set-up: its cells, tokens, invariants and credits dealt to the devices. -/
module

public import proofs.«01_k».proof.Proof.Across
public import Idealize.ShloMosaic.Lib.Pipeline.Kit

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

variable (D : Dev nD → Data F)

/-! ## The cells and their tokens -/

/-- A device's cells one by one, and the duties it pays. -/
theorem bigSep_kind {M : Type} [URA M] (Φ : Kind → sProp M) : bigSep Finset.univ Φ = iprop(Φ (none) ∗ Φ (some (false, 0, 0)) ∗ Φ (some (false, 0, 1)) ∗ Φ (some (true, 0, 0)) ∗ Φ (some (true, 0, 1)) ∗ Φ (some (false, 1, 0)) ∗ Φ (some (false, 1, 1)) ∗ Φ (some (true, 1, 0)) ∗ Φ (some (true, 1, 1)) ∗ Φ (some (false, 2, 0)) ∗ Φ (some (false, 2, 1)) ∗ Φ (some (true, 2, 0)) ∗ Φ (some (true, 2, 1))) :=
  bigSep_univ_eq_bigSepL [none, some (false, 0, 0), some (false, 0, 1), some (true, 0, 0), some (true, 0, 1), some (false, 1, 0), some (false, 1, 1), some (true, 1, 0), some (true, 1, 1), some (false, 2, 0), some (false, 2, 1), some (true, 2, 0), some (true, 2, 1)] (by decide) (by decide) Φ
theorem bigSep_tok {M : Type} [URA M] (Φ : Fin 3 ⊕ (Bool × Fin 3 × Fin 2) → sProp M) : bigSep Finset.univ Φ = iprop(Φ (.inl 0) ∗ Φ (.inl 1) ∗ Φ (.inl 2) ∗ Φ (.inr (false, 0, 0)) ∗ Φ (.inr (false, 0, 1)) ∗ Φ (.inr (true, 0, 0)) ∗ Φ (.inr (true, 0, 1)) ∗ Φ (.inr (false, 1, 0)) ∗ Φ (.inr (false, 1, 1)) ∗ Φ (.inr (true, 1, 0)) ∗ Φ (.inr (true, 1, 1)) ∗ Φ (.inr (false, 2, 0)) ∗ Φ (.inr (false, 2, 1)) ∗ Φ (.inr (true, 2, 0)) ∗ Φ (.inr (true, 2, 1))) :=
  bigSep_univ_eq_bigSepL ([.inl 0, .inl 1, .inl 2, .inr (false, 0, 0), .inr (false, 0, 1), .inr (true, 0, 0), .inr (true, 0, 1), .inr (false, 1, 0), .inr (false, 1, 1), .inr (true, 1, 0), .inr (true, 1, 1), .inr (false, 2, 0), .inr (false, 2, 1), .inr (true, 2, 0), .inr (true, 2, 1)] : List (Fin 3 ⊕ (Bool × Fin 3 × Fin 2))) (by decide) (by decide) Φ
theorem bigSep_some {M : Type} [URA M] (Φ : Kind → sProp M) : bigSep Finset.univ Φ = iprop(Φ none ∗ bigSep Finset.univ fun x => Φ (some x)) := by
  rw [bigSep_kind, bigSep_univ_eq_bigSepL [(false, 0, 0), (false, 0, 1), (true, 0, 0), (true, 0, 1), (false, 1, 0), (false, 1, 1), (true, 1, 0), (true, 1, 1), (false, 2, 0), (false, 2, 1), (true, 2, 0), (true, 2, 1)] (by decide) (by decide)]
  rfl

def cellOf (ck : Dev nD × Kind) : GSem nD τ sig := cell ck.1 ck.2
theorem cellOf_injective : Function.Injective cellOf := fun a b h => Prod.ext (cell_inj.mp h).1 (cell_inj.mp h).2
def theCells : Finset (GSem nD τ sig) := Finset.univ.map ⟨cellOf, cellOf_injective⟩

/-- The duties of a device's cells: three of its barrier, one of every other cell. -/
abbrev TokIx : Type := Fin 3 ⊕ (Bool × Fin 3 × Fin 2)
def tokKind : TokIx → Kind
  | .inl _ => none
  | .inr x => some x
def tokDuty : TokIx → Duty
  | .inl e => e
  | .inr _ => 0
def tokOf (ci : Dev nD × TokIx) : GSem nD τ sig × ℕ × Duty := (cell ci.1 (tokKind ci.2), 0, tokDuty ci.2)
theorem tok_inj : ∀ i j : TokIx, tokKind i = tokKind j → tokDuty i = tokDuty j → i = j := by decide +kernel
theorem tokOf_injective : Function.Injective tokOf := fun a b h =>
  have h1 := cell_inj.mp (congrArg Prod.fst h)
  Prod.ext h1.1 (tok_inj _ _ h1.2 (congrArg (fun x : GSem nD τ sig × ℕ × Duty => x.2.2) h))
def theToks : Finset (GSem nD τ sig × ℕ × Duty) := Finset.univ.map ⟨tokOf, tokOf_injective⟩

/-- Which device pays the duty `i` of device `c`'s cells, and whose cell the duty `i` device `c` pays is. -/
def who : TokIx → Dev nD → Dev nD
  | .inl e, c => peer e.val c
  | .inr (false, s, _), c => peer s.val c
  | .inr (true, _, _), c => c
theorem who_who (i : TokIx) (c : Dev nD) : who i (who i c) = c := by
  match i with
  | .inl e => exact peer_peer _ _
  | .inr (false, s, _) => exact peer_peer _ _
  | .inr (true, _, _) => rfl
def whoEquiv : Dev nD × TokIx ≃ Dev nD × TokIx where
  toFun ci := (who ci.2 ci.1, ci.2)
  invFun ci := (who ci.2 ci.1, ci.2)
  left_inv ci := Prod.ext (who_who _ _) rfl
  right_inv ci := Prod.ext (who_who _ _) rfl

def tk (ci : Dev nD × TokIx) : sProp 𝕄 := dutyTok ER (cell ci.1 (tokKind ci.2)) 0 (tokDuty ci.2)
/-- The tokens of a device's own cells; of the duties it pays. -/
def toks (c : Dev nD) : sProp 𝕄 := bigSep Finset.univ fun i : TokIx => tk (c, i)
def payToks (c : Dev nD) : sProp 𝕄 := bigSep Finset.univ fun i : TokIx => tk (who i c, i)

theorem toks_around : (bigSep Finset.univ fun c : Dev nD => (toks c : sProp 𝕄)) = bigSep Finset.univ fun c : Dev nD => payToks c := by
  unfold toks payToks
  rw [← bigSep_univ_prod (fun ci : Dev nD × TokIx => (tk ci : sProp 𝕄)), bigSep_univ_equiv whoEquiv, bigSep_univ_prod]
  rfl

/-! ## The launch's deal -/

/-- A device's share of the rounds' start. -/
def G (c : Dev nD) : sProp 𝕄 :=
  iprop((bigSep Finset.univ fun k : Kind => roundState ER (Rd D) (cell c k) 0)
    ∗ (bigSep Finset.univ fun k : Kind => iprop(atPos ER (cell c k) 0 ∅ 0 ∗ reached ER (cell c k) 0)) ∗ toks c)

theorem fund_rounds : BI.own (ER (initOf theCells theToks)) ⊢ (|==> bigSep Finset.univ (G D) : sProp 𝕄) := by
  have hX (Φ : GSem nD τ sig → sProp 𝕄) : bigSep theCells Φ = bigSep Finset.univ fun c : Dev nD => bigSep Finset.univ fun k : Kind => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]; rfl
  iintro HX
  imod (Rounds.fund ER (Rd D) theCells theToks) $$ HX with ⟨Hst, Hr, Hat, Htok⟩
  imodintro
  ihave Hst' := (Entails.of_eq (hX fun g => roundState ER (Rd D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The semaphores of the double buffers. -/
def lsem : Bool × Fin 2 × Fin 8 → SemLoc sig
  | (false, a, b) => .dma (semOf K₀.ks _ (buf_sem_ok a b))
  | (true, a, b) => .dma (semOf K₀.vs _ (buf_sem_ok a b))
abbrev OwnIx : Type := (Bool × Fin 2 × Fin 8) ⊕ (Bool × Fin 3 × Fin 2)
/-- The kernel's own semaphores. -/
def osem : OwnIx → SemLoc sig
  | .inl x => lsem x
  | .inr x => csem (some x)

def locSems (c : Dev nD) : sProp 𝕄 := bigSep Finset.univ fun x => semVal (T c, lsem x) 0

theorem ownSems0_eq (c : Dev nD) : (Pipeline.ownSems0 (Ix := Unit) (Name := ℕ) (U := UU) (Lvl := ℕ) (Val := Elt F) (τ := τ) osem c : sProp 𝕄)
    = iprop(locSems c ∗ bigSep Finset.univ fun x => semVal (cell c (some x)) 0) := by
  unfold Pipeline.ownSems0 locSems; rw [bigSep_univ_sum]; rfl
theorem unscopedSems0_eq (c : Dev nD) : (unscopedSems0 c : sProp 𝕄) = semVal (cell c none) 0 := by
  unfold unscopedSems0; rw [bigSep_eq_bigSepL_of_eq [SemLoc.reg barSem] (by decide) (by decide)]; rfl

/-- What the protocol leaves with device `c` beside the records. -/
def linear (c : Dev nD) : sProp 𝕄 :=
  iprop(barLin c ∗ phaseLin c 0 (by decide) ∗ phaseLin c 1 (by decide) ∗ phaseLin c 2 (by decide))

theorem payToks_eq (c : Dev nD) : (payToks c : sProp 𝕄) = iprop(dutyTok ER (cell (peer 0 c) barK) 0 0 ∗ dutyTok ER (cell (peer 1 c) barK) 0 1 ∗ dutyTok ER (cell (peer 2 c) barK) 0 2 ∗ dutyTok ER (cell (peer 0 c) (some (false, 0, 0))) 0 0 ∗ dutyTok ER (cell (peer 0 c) (some (false, 0, 1))) 0 0 ∗ dutyTok ER (cell c (some (true, 0, 0))) 0 0 ∗ dutyTok ER (cell c (some (true, 0, 1))) 0 0 ∗ dutyTok ER (cell (peer 1 c) (some (false, 1, 0))) 0 0 ∗ dutyTok ER (cell (peer 1 c) (some (false, 1, 1))) 0 0 ∗ dutyTok ER (cell c (some (true, 1, 0))) 0 0 ∗ dutyTok ER (cell c (some (true, 1, 1))) 0 0 ∗ dutyTok ER (cell (peer 2 c) (some (false, 2, 0))) 0 0 ∗ dutyTok ER (cell (peer 2 c) (some (false, 2, 1))) 0 0 ∗ dutyTok ER (cell c (some (true, 2, 0))) 0 0 ∗ dutyTok ER (cell c (some (true, 2, 1))) 0 0) :=
  bigSep_tok _

theorem linear_intro (c : Dev nD) : iprop((bigSep Finset.univ fun k : Kind => atPos ER (cell c k) 0 ∅ 0) ∗ payToks c) ⊢ (linear c : sProp 𝕄) := by
  rw [bigSep_kind, payToks_eq]
  unfold linear barLin phaseLin
  iintro ⟨⟨Hb, Hr00, Hr01, Hs00, Hs01, Hr10, Hr11, Hs10, Hs11, Hr20, Hr21, Hs20, Hs21⟩,
    Tb0, Tb1, Tb2, Tr00, Tr01, Ts00, Ts01, Tr10, Tr11, Ts10, Ts11, Tr20, Tr21, Ts20, Ts21⟩
  isplitl [Hb Tb0 Tb1 Tb2]
  · isplitl [Hb]; · iexact Hb
    isplitl [Tb0]; · iexact Tb0
    isplitl [Tb1]; · iexact Tb1
    iexact Tb2
  isplitl [Hr00 Hr01 Hs00 Hs01 Tr00 Tr01 Ts00 Ts01]
  · isplitl [Hr00]; · iexact Hr00
    isplitl [Hr01]; · iexact Hr01
    isplitl [Hs00]; · iexact Hs00
    isplitl [Hs01]; · iexact Hs01
    isplitl [Tr00]; · iexact Tr00
    isplitl [Tr01]; · iexact Tr01
    isplitl [Ts00]; · iexact Ts00
    iexact Ts01
  isplitl [Hr10 Hr11 Hs10 Hs11 Tr10 Tr11 Ts10 Ts11]
  · isplitl [Hr10]; · iexact Hr10
    isplitl [Hr11]; · iexact Hr11
    isplitl [Hs10]; · iexact Hs10
    isplitl [Hs11]; · iexact Hs11
    isplitl [Tr10]; · iexact Tr10
    isplitl [Tr11]; · iexact Tr11
    isplitl [Ts10]; · iexact Ts10
    iexact Ts11
  isplitl [Hr20]; · iexact Hr20
  isplitl [Hr21]; · iexact Hr21
  isplitl [Hs20]; · iexact Hs20
  isplitl [Hs21]; · iexact Hs21
  isplitl [Tr20]; · iexact Tr20
  isplitl [Tr21]; · iexact Tr21
  isplitl [Ts20]; · iexact Ts20
  iexact Ts21

/-- What a device has once the invariants are made. -/
def G' (c : Dev nD) : sProp 𝕄 := iprop((∃ K, records D K ∗ linear c) ∗ locSems c)

theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k : Kind => iprop(∃ κ : ℕ, cellInv ER (Rd D) κ (cell c k)))
          ∗ (bigSep Finset.univ fun k : Kind => iprop(atPos ER (cell c k) 0 ∅ 0 ∗ reached ER (cell c k) 0)) ∗ toks c ∗ locSems c) := by
  unfold G
  rw [ownSems0_eq, unscopedSems0_eq]
  iintro ⟨⟨Hloc, Hos⟩, Hus, Hst, Hat, Htok⟩
  imod (show iprop((bigSep Finset.univ fun k : Kind => semVal (cell c k) 0) ∗ bigSep Finset.univ fun k : Kind => roundState ER (Rd D) (cell c k) 0)
      ⊢ (|={Set.univ}=> bigSep Finset.univ fun k : Kind => iprop(∃ κ : ℕ, cellInv ER (Rd D) κ (cell c k)) : sProp 𝕄) from by
        rw [← bigSep_sep']
        exact (bigSep_mono fun k _ => (Rounds.body_intro ER (Rd D) (cell c k)).trans inv_alloc).trans (bigSep_fupd _ _)) $$ [Hos Hus Hst] with Hinv
  · isplitl [Hos Hus]
    · rw [bigSep_some fun k : Kind => semVal (cell c k) 0]
      isplitl [Hus] <;> iassumption
    iexact Hst
  imodintro
  isplitl [Hinv]; · iexact Hinv
  isplitl [Hat]; · iexact Hat
  isplitl [Htok] <;> iassumption

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (K : Dev nD × Kind → ℕ) (c : Dev nD) :
    iprop(records D K ∗ ((bigSep Finset.univ fun k : Kind => atPos ER (cell c k) 0 ∅ 0) ∗ payToks c) ∗ locSems c) ⊢ (G' D c : sProp 𝕄) := by
  unfold G'
  iintro ⟨#HR, Hl, Hs⟩
  isplitr [Hs]
  · iexists K
    isplitr; · iexact HR
    iapply (linear_intro (F := F) c); iexact Hl
  · iexact Hs

theorem regroup :
    (bigSep Finset.univ fun c : Dev nD => iprop((bigSep Finset.univ fun k : Kind => iprop(∃ κ : ℕ, cellInv ER (Rd D) κ (cell c k)))
          ∗ (bigSep Finset.univ fun k : Kind => iprop(atPos ER (cell c k) 0 ∅ 0 ∗ reached ER (cell c k) 0)) ∗ toks c ∗ locSems c) : sProp 𝕄)
      ⊢ bigSep Finset.univ (G' D) := by
  rw [bigSep_sep', bigSep_sep', bigSep_sep', ← bigSep_univ_prod (fun ck : Dev nD × Kind => iprop(∃ κ : ℕ, cellInv ER (Rd D) κ (cell ck.1 ck.2))),
    bigSep_congr (s := Finset.univ) (fun (c : Dev nD) _ => bigSep_sep' Finset.univ (fun k : Kind => (atPos ER (cell c k) 0 ∅ 0 : sProp 𝕄)) (fun k => reached ER (cell c k) 0)),
    bigSep_sep', ← bigSep_univ_prod (fun ck : Dev nD × Kind => (reached ER (cell ck.1 ck.2) 0 : sProp 𝕄)), toks_around]
  iintro ⟨HI, ⟨Hat, #HR⟩, Htok, Hs⟩
  ihave HK := (BI.bigSep_exists_pi Finset.univ (fun (ck : Dev nD × Kind) (κ : ℕ) => (cellInv ER (Rd D) κ (cell ck.1 ck.2) : sProp 𝕄))) $$ HI
  icases HK with ⟨%K, #HI⟩
  iapply (each_with (R := records D K) fun c _ => share_out D K c)
  isplitr
  · unfold records; isplitl; · iexact HI
    iexact HR
  · simp only [bigSep_sep']
    isplitl [Hat Htok]
    · isplitl [Hat] <;> iassumption
    iexact Hs

theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-! ## The credit of the launch -/

/-- What one debt contributes to a cell, over all devices. -/
theorem sum_term (s : ℕ) (k k' : Kind) (n : ℕ) (c : Dev nD) :
    ∑ d : Dev nD, (tallyAt (cell (peer s d) k') () n : CellTallies nD τ sig Unit) (cell c k) () = if k = k' then n else 0 := by
  rw [Finset.sum_congr rfl fun d _ => show (tallyAt (cell (peer s d) k') () n : CellTallies nD τ sig Unit) (cell c k) () = if d = peer s c then (if k = k' then n else 0) else 0 from by
    rw [tallyAt_apply]
    by_cases hk : k = k'
    · rw [if_pos hk]
      by_cases hd : d = peer s c
      · rw [if_pos hd, if_pos ⟨cell_inj.mpr ⟨(eq_peer_iff s c d).mpr hd, hk⟩, rfl⟩]
      · rw [if_neg hd, if_neg fun h => hd ((eq_peer_iff s c d).mp (cell_inj.mp h.1).1)]
    · rw [if_neg hk, if_neg fun h => hk (cell_inj.mp h.1).2, ite_self]]
  rw [Finset.sum_ite_eq' Finset.univ (peer s c) fun _ => if k = k' then n else 0, if_pos (Finset.mem_univ _)]

def creditN : Kind → ℕ
  | none => 3
  | some (false, _, j) => NN j.val
  | some (true, _, _) => 0

theorem owed_sum (c : Dev nD) (k : Kind) : ∑ d : Dev nD, OS d (cell c k) () = creditN k := by
  have h : ∀ d : Dev nD, OS d (cell c k) () =
      ((((((((0 + (tallyAt (cell (peer 2 d) (some (false, 2, 1))) () (NN 1) : CellTallies nD τ sig Unit) (cell c k) ())
        + (tallyAt (cell (peer 2 d) (some (false, 2, 0))) () (NN 0) : CellTallies nD τ sig Unit) (cell c k) ())
        + (tallyAt (cell (peer 1 d) (some (false, 1, 1))) () (NN 1) : CellTallies nD τ sig Unit) (cell c k) ())
        + (tallyAt (cell (peer 1 d) (some (false, 1, 0))) () (NN 0) : CellTallies nD τ sig Unit) (cell c k) ())
        + (tallyAt (cell (peer 0 d) (some (false, 0, 1))) () (NN 1) : CellTallies nD τ sig Unit) (cell c k) ())
        + (tallyAt (cell (peer 0 d) (some (false, 0, 0))) () (NN 0) : CellTallies nD τ sig Unit) (cell c k) ())
        + (tallyAt (cell (peer 2 d) none) () 1 : CellTallies nD τ sig Unit) (cell c k) ())
        + (tallyAt (cell (peer 1 d) none) () 1 : CellTallies nD τ sig Unit) (cell c k) ())
        + (tallyAt (cell (peer 0 d) none) () 1 : CellTallies nD τ sig Unit) (cell c k) () := fun d => rfl
  rw [Finset.sum_congr rfl fun d _ => h d]
  simp only [Finset.sum_add_distrib, sum_term, Finset.sum_const_zero]
  match k with
  | none => rfl
  | some (true, s, j) => simp [creditN]
  | some (false, s, j) =>
    unfold creditN
    fin_cases s <;> fin_cases j <;> simp

theorem launch_cell (c : Dev nD) (k : Kind) :
    tallyOn (cell c k) (launchCredit (Pipeline.owing OS) 0 (cell c k)) = (tallyAt (cell c k) () (creditN k) : CellTallies nD τ sig Unit) := by
  unfold tallyAt; refine congrArg _ (Finsupp.ext fun u => ?_); cases u
  rw [Pipeline.launchCredit_owing, Finsupp.single_eq_same, owed_sum]

/-- The credit a device waits with. -/
def credits (c : Dev nD) : sProp 𝕄 :=
  iprop(barCred c ∗ phaseCred c 0 (by decide) ∗ phaseCred c 1 (by decide) ∗ phaseCred c 2 (by decide))

theorem csem_injective : Function.Injective csem := fun a b h => csem_inj a b h

theorem creds (c : Dev nD) : (Pipeline.launchCred OS c : sProp 𝕄) ⊢ credits c := by
  have h : (Pipeline.launchCred OS c : sProp 𝕄) ⊢ bigSep Finset.univ fun k : Kind => cred (tallyAt (cell c k) () (creditN k)) := by
    unfold Pipeline.launchCred
    refine (bigSep_subset (Finset.subset_univ (Finset.univ.map ⟨csem, csem_injective⟩))).trans ?_
    rw [bigSep_map]
    exact bigSep_mono fun k _ => Entails.of_eq (congrArg cred (launch_cell c k))
  unfold credits barCred phaseCred
  iintro H
  ihave H := h $$ H
  ihave H := (Entails.of_eq (bigSep_kind _)) $$ H
  icases H with ⟨Hb, Hr00, Hr01, -, -, Hr10, Hr11, -, -, Hr20, Hr21, -, -⟩
  isplitl [Hb]; · iexact Hb
  isplitl [Hr00 Hr01]
  · isplitl [Hr00]; · iexact Hr00
    iexact Hr01
  isplitl [Hr10 Hr11]
  · isplitl [Hr10]; · iexact Hr10
    iexact Hr11
  isplitl [Hr20]; · iexact Hr20
  iexact Hr21

end Paged

end
-- ==== Proof.Deal.lean ====
/- The buffers cut into the pieces the body hands about, and put together again. -/
module

public import proofs.«01_k».proof.Proof.Ghost

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F] [Named F] [Facts]

local notation "𝕄" => MT nD τ sig Unit (Elt F) ℕ UU ℕ

variable (D : Dev nD → Data F)

/-! ## Buffers cut into pieces -/

section Pieces

variable {s : Shape} {sp : Space} {e : EltTy} {I : Type} [Fintype I] [DecidableEq I] (c : Dev nD) (m : Memref sig .tc sp s e) (hm : m.IsWhole)
  (r : I → Rect s) (hdis : ∀ i i', i ≠ i' → Disjoint (r i).set (r i').set) (hcov : ∀ j, ∃ i, j ∈ (r i).set)

include hdis in
theorem pieces_disjoint (i : I) (_ : i ∈ Finset.univ) (i' : I) (_ : i' ∈ Finset.univ) (h : i ≠ i') :
    Disjoint (m.view.slice (r i)).set (m.view.slice (r i')).set := View.disjoint_slice (v := m.view) (r := r i) (r' := r i') (hdis i i' h)

include hm hcov in
theorem pieces_cover : (Finset.univ.biUnion fun i => (m.view.slice (r i)).set) = (Finset.univ : Finset (Idx (m.view.loc (T c)))) := by
  refine Finset.eq_univ_iff_forall.mpr fun x => ?_
  have hx : x ∈ m.view.set := by rw [hm.set_eq_univ]; exact Finset.mem_univ _
  obtain ⟨j, -, rfl⟩ := Finset.mem_map.mp hx
  obtain ⟨i, hi⟩ := hcov j
  refine Finset.mem_biUnion.mpr ⟨i, Finset.mem_univ _, ?_⟩
  rw [View.set_slice]
  exact Finset.mem_map.mpr ⟨j, hi, rfl⟩

include hm hdis hcov in
theorem cut : iprop(∃ f : Buf (Elt F) (m.view.loc (T c)), pts c m Finset.univ fullShare f)
    ⊢ (bigSep Finset.univ fun i => iprop(∃ f, pts c m (m.view.slice (r i)).set fullShare f) : sProp 𝕄) := by
  unfold pts
  have h (f : Buf (Elt F) (m.view.loc (T c))) : ((m.view.loc (T c)) ↦[Finset.univ]{fullShare} f : sProp 𝕄)
      ⊢ bigSep Finset.univ fun i => iprop(∃ f, (m.view.loc (T c)) ↦[(m.view.slice (r i)).set]{fullShare} f) := by
    rw [← pieces_cover c m hm r hcov, pointsTo_biUnion _ _ (pieces_disjoint m r hdis)]
    exact bigSep_mono fun i _ => show ((m.view.loc (T c)) ↦[(m.view.slice (r i)).set]{fullShare} f : sProp 𝕄)
        ⊢ iprop(∃ f, (m.view.loc (T c)) ↦[(m.view.slice (r i)).set]{fullShare} f) from by
      iintro H; iexists f; iexact H
  iintro ⟨%f, H⟩
  iapply (h f); iexact H

include hm hdis hcov in
theorem uncut (i₀ : I) : (bigSep Finset.univ fun i => iprop(∃ f, pts c m (m.view.slice (r i)).set fullShare f) : sProp 𝕄)
    ⊢ iprop(∃ f : Buf (Elt F) (m.view.loc (T c)), pts c m Finset.univ fullShare f) := by
  unfold pts
  iintro H
  ihave H := (BI.bigSep_exists_pi Finset.univ fun (i : I) (f : Buf (Elt F) (m.view.loc (T c))) =>
    ((m.view.loc (T c)) ↦[(m.view.slice (r i)).set]{fullShare} f : sProp 𝕄)) $$ H
  icases H with ⟨%fs, H⟩
  ihave H := (pointsTo_biUnion_join Finset.univ _ fs (fs i₀) (pieces_disjoint m r hdis)) $$ H
  icases H with ⟨%g, -, H⟩
  rw [pieces_cover c m hm r hcov]
  iexists g; iexact H

end Pieces

/-! ## The double buffers' slots -/

def slotRect (bc : Fin 2 × Fin 8) : Rect S2x8x16x8x128 := Rect.unit (s := S2x8x16x8x128) (slotAt (bc.1.val % 2) bc.2.val) S1x1x16x8x128.size (slot_ok bc.1.val bc.2)

theorem slotRect_disjoint (x y : Fin 2 × Fin 8) (h : x ≠ y) : Disjoint (slotRect x).set (slotRect y).set := by
  rw [Finset.disjoint_left]
  intro j hj hj'
  have hx := x.1.isLt; have hy := y.1.isLt
  have a1 : x.1.val % 2 ≤ (j 0).val ∧ (j 0).val < x.1.val % 2 + 1 := Rect.mem_set_unit.mp hj (0 : Fin 5)
  have a2 : y.1.val % 2 ≤ (j 0).val ∧ (j 0).val < y.1.val % 2 + 1 := Rect.mem_set_unit.mp hj' (0 : Fin 5)
  have e1 : x.2.val ≤ (j 1).val ∧ (j 1).val < x.2.val + 1 := Rect.mem_set_unit.mp hj (1 : Fin 5)
  have e2 : y.2.val ≤ (j 1).val ∧ (j 1).val < y.2.val + 1 := Rect.mem_set_unit.mp hj' (1 : Fin 5)
  exact h (Prod.ext (Fin.ext (by omega)) (Fin.ext (by omega)))

theorem slotRect_cover (j : S2x8x16x8x128.Idx) : ∃ x, j ∈ (slotRect x).set := by
  have h0 : (j 0).val < 2 := (j 0).isLt
  have h1 : (j 1).val < 8 := (j 1).isLt
  have h2 : (j 2).val < 16 := (j 2).isLt
  have h3 : (j 3).val < 8 := (j 3).isLt
  have h4 : (j 4).val < 128 := (j 4).isLt
  refine ⟨(⟨(j 0).val, h0⟩, ⟨(j 1).val, h1⟩), Rect.mem_set_unit.mpr fun a => ?_⟩
  match a with
  | ⟨0, _⟩ => show (j 0).val % 2 ≤ (j 0).val ∧ (j 0).val < (j 0).val % 2 + 1; omega
  | ⟨1, _⟩ => show (j 1).val ≤ (j 1).val ∧ (j 1).val < (j 1).val + 1; omega
  | ⟨2, _⟩ => show 0 ≤ (j 2).val ∧ (j 2).val < 0 + 16; omega
  | ⟨3, _⟩ => show 0 ≤ (j 3).val ∧ (j 3).val < 0 + 8; omega
  | ⟨4, _⟩ => show 0 ≤ (j 4).val ∧ (j 4).val < 0 + 128; omega

theorem both_halves {M : Type} [URA M] (Φ : Fin 2 × Fin 8 → sProp M) :
    bigSep Finset.univ Φ = iprop((bigSep Finset.univ fun c => Φ (0, c)) ∗ bigSep Finset.univ fun c => Φ (1, c)) := by
  rw [bigSep_univ_prod, bigSep_univ_eq_bigSepL [0, 1] (by decide) (by decide)]; rfl

theorem both_sems {M : Type} [URA M] (Φ : Bool × Fin 2 × Fin 8 → sProp M) :
    bigSep Finset.univ Φ = iprop((bigSep Finset.univ fun x => Φ (false, x)) ∗ bigSep Finset.univ fun x => Φ (true, x)) := by
  rw [bigSep_univ_prod, bigSep_univ_eq_bigSepL [false, true] (by decide) (by decide)]; rfl

def slotsOf (c : Dev nD) (m : Memref sig .tc .vmem S2x8x16x8x128 .f32) (x : Fin 2 × Fin 8) : sProp 𝕄 :=
  iprop(∃ f, pts c m (m.view.slice (slotRect x)).set fullShare f)

theorem slot_iff (c : Dev nD) (m : Memref sig .tc .vmem S2x8x16x8x128 .f32) (x : Fin 2 × Fin 8) :
    (iprop(∃ f, pts c m (slotOf m _ (slot_ok x.1.val x.2)).view.set fullShare f) : sProp 𝕄) = slotsOf c m x := by
  unfold slotsOf; rw [slot_set]; rfl

/-- A slot with its semaphores. -/
def oneSlot (c : Dev nD) (x : Fin 2 × Fin 8) : sProp 𝕄 :=
  iprop(slotsOf c K₀.kb x ∗ slotsOf c K₀.vb x ∗ semVal (T c, lsem (false, x)) 0 ∗ semVal (T c, lsem (true, x)) 0)

theorem slotFree_one (c : Dev nD) (a : Fin 2) (b : Fin 8) : (slotFree K₀ c a.val b : sProp 𝕄) = oneSlot c (a, b) := by
  unfold slotFree freeAt oneSlot
  rw [← slot_iff c K₀.kb (a, b), ← slot_iff c K₀.vb (a, b)]
  have ha : a.val % 2 = a.val := Nat.mod_eq_of_lt a.isLt
  fin_cases a <;> rfl

/-- The slots of both halves are the two buffers with their semaphores. -/
theorem slotFree_eq (c : Dev nD) :
    (iprop(bigSep Finset.univ (slotFree K₀ c 0) ∗ bigSep Finset.univ (slotFree K₀ c 1)) : sProp 𝕄)
      = iprop(bigSep Finset.univ (slotsOf c K₀.kb) ∗ bigSep Finset.univ (slotsOf c K₀.vb) ∗ locSems c) := by
  have h : (iprop(bigSep Finset.univ (slotFree K₀ c 0) ∗ bigSep Finset.univ (slotFree K₀ c 1)) : sProp 𝕄) = bigSep Finset.univ (oneSlot c) := by
    rw [both_halves (oneSlot (F := F) c), bigSep_congr fun b _ => (slotFree_one (F := F) c 0 b).symm, bigSep_congr fun b _ => (slotFree_one (F := F) c 1 b).symm]
    rfl
  rw [h]
  unfold locSems oneSlot
  rw [bigSep_sep', bigSep_sep', bigSep_sep', both_sems]

theorem slots_start (c : Dev nD) :
    iprop((∃ f, pts c K₀.kb Finset.univ fullShare f) ∗ (∃ f, pts c K₀.vb Finset.univ fullShare f) ∗ locSems c)
      ⊢ (iprop(bigSep Finset.univ (slotFree K₀ c 0) ∗ bigSep Finset.univ (slotFree K₀ c 1)) : sProp 𝕄) :=
  BIBase.Entails.trans (BIClass.sep_mono (cut c K₀.kb K₀.hkb slotRect slotRect_disjoint slotRect_cover)
    (sep_mono_left (cut c K₀.vb K₀.hvb slotRect slotRect_disjoint slotRect_cover))) (Entails.of_eq (slotFree_eq c).symm)

theorem slots_end (c : Dev nD) :
    (iprop(bigSep Finset.univ (slotFree K₀ c 0) ∗ bigSep Finset.univ (slotFree K₀ c 1)) : sProp 𝕄)
      ⊢ iprop((∃ f, pts c K₀.kb Finset.univ fullShare f) ∗ (∃ f, pts c K₀.vb Finset.univ fullShare f) ∗ locSems c) :=
  BIBase.Entails.trans (Entails.of_eq (slotFree_eq c)) (BIClass.sep_mono (uncut c K₀.kb K₀.hkb slotRect slotRect_disjoint slotRect_cover (0, 0))
    (sep_mono_left (uncut c K₀.vb K₀.hvb slotRect slotRect_disjoint slotRect_cover (0, 0))))

/-! ## The landing buffers' slots -/

omit [Facts] in
theorem accRect_ok : ∀ (s : Fin 3) (a : Fin 4), (![s.val, 0, 0, 0] : Fin 4 → ℕ) a + S1x8x8x128.size a ≤ S3x8x8x128.size a := by decide
omit [Facts] in
theorem mlRect_ok : ∀ (s : Fin 3) (a : Fin 4), (![s.val, 0, 0, 0] : Fin 4 → ℕ) a + S1x2x8x8.size a ≤ S3x2x8x8.size a := by decide
def accRect (s : Fin 3) : Rect S3x8x8x128 := Rect.unit (s := S3x8x8x128) ![s.val, 0, 0, 0] S1x8x8x128.size (accRect_ok s)
def mlRect (s : Fin 3) : Rect S3x2x8x8 := Rect.unit (s := S3x2x8x8) ![s.val, 0, 0, 0] S1x2x8x8.size (mlRect_ok s)

theorem accRect_disjoint (x y : Fin 3) (h : x ≠ y) : Disjoint (accRect x).set (accRect y).set := by
  rw [Finset.disjoint_left]
  intro j hj hj'
  have a1 : x.val ≤ (j 0).val ∧ (j 0).val < x.val + 1 := Rect.mem_set_unit.mp hj (0 : Fin 4)
  have a2 : y.val ≤ (j 0).val ∧ (j 0).val < y.val + 1 := Rect.mem_set_unit.mp hj' (0 : Fin 4)
  exact h (Fin.ext (by omega))

theorem accRect_cover (j : S3x8x8x128.Idx) : ∃ x, j ∈ (accRect x).set := by
  have h0 : (j 0).val < 3 := (j 0).isLt
  have h1 : (j 1).val < 8 := (j 1).isLt
  have h2 : (j 2).val < 8 := (j 2).isLt
  have h3 : (j 3).val < 128 := (j 3).isLt
  refine ⟨⟨(j 0).val, h0⟩, Rect.mem_set_unit.mpr fun a => ?_⟩
  match a with
  | ⟨0, _⟩ => show (j 0).val ≤ (j 0).val ∧ (j 0).val < (j 0).val + 1; omega
  | ⟨1, _⟩ => show 0 ≤ (j 1).val ∧ (j 1).val < 0 + 8; omega
  | ⟨2, _⟩ => show 0 ≤ (j 2).val ∧ (j 2).val < 0 + 8; omega
  | ⟨3, _⟩ => show 0 ≤ (j 3).val ∧ (j 3).val < 0 + 128; omega

theorem mlRect_disjoint (x y : Fin 3) (h : x ≠ y) : Disjoint (mlRect x).set (mlRect y).set := by
  rw [Finset.disjoint_left]
  intro j hj hj'
  have a1 : x.val ≤ (j 0).val ∧ (j 0).val < x.val + 1 := Rect.mem_set_unit.mp hj (0 : Fin 4)
  have a2 : y.val ≤ (j 0).val ∧ (j 0).val < y.val + 1 := Rect.mem_set_unit.mp hj' (0 : Fin 4)
  exact h (Fin.ext (by omega))

theorem mlRect_cover (j : S3x2x8x8.Idx) : ∃ x, j ∈ (mlRect x).set := by
  have h0 : (j 0).val < 3 := (j 0).isLt
  have h1 : (j 1).val < 2 := (j 1).isLt
  have h2 : (j 2).val < 8 := (j 2).isLt
  have h3 : (j 3).val < 8 := (j 3).isLt
  refine ⟨⟨(j 0).val, h0⟩, Rect.mem_set_unit.mpr fun a => ?_⟩
  match a with
  | ⟨0, _⟩ => show (j 0).val ≤ (j 0).val ∧ (j 0).val < (j 0).val + 1; omega
  | ⟨1, _⟩ => show 0 ≤ (j 1).val ∧ (j 1).val < 0 + 2; omega
  | ⟨2, _⟩ => show 0 ≤ (j 2).val ∧ (j 2).val < 0 + 8; omega
  | ⟨3, _⟩ => show 0 ≤ (j 3).val ∧ (j 3).val < 0 + 8; omega

theorem three {M : Type} [URA M] (Φ : Fin 3 → sProp M) : bigSep Finset.univ Φ = iprop(Φ 0 ∗ Φ 1 ∗ Φ 2) :=
  bigSep_univ_eq_bigSepL [0, 1, 2] (by decide) (by decide) Φ

theorem slotA_eq (c : Dev nD) (s : Fin 3) : (slotA c s.val s.isLt : sProp 𝕄) = iprop(∃ f, pts c K₀.racc (K₀.racc.view.slice (accRect s)).set fullShare f) := by
  unfold slotA; rw [show (raccAt K₀ s.val s.isLt).view.set = (K₀.racc.view.slice (accRect s)).set from View.set_reshape _ _]
theorem slotM_eq (c : Dev nD) (s : Fin 3) : (slotM c s.val s.isLt : sProp 𝕄) = iprop(∃ f, pts c K₀.rml (K₀.rml.view.slice (mlRect s)).set fullShare f) := by
  unfold slotM; rw [show (rmlAt K₀ s.val s.isLt).view.set = (K₀.rml.view.slice (mlRect s)).set from View.set_reshape _ _]

/-- The three slots of both landing buffers. -/
theorem slots_eq (c : Dev nD) : (iprop((bigSep Finset.univ fun s : Fin 3 => slotA c s.val s.isLt) ∗ bigSep Finset.univ fun s : Fin 3 => slotM c s.val s.isLt) : sProp 𝕄) ⊣⊢ slots c := by
  unfold slots
  rw [three, three]
  constructor
  · iintro ⟨⟨A0, A1, A2⟩, M0, M1, M2⟩
    isplitl [A0 M0]
    · isplitl [A0]; · iexact A0
      iexact M0
    isplitl [A1 M1]
    · isplitl [A1]; · iexact A1
      iexact M1
    isplitl [A2]; · iexact A2
    iexact M2
  · iintro ⟨⟨A0, M0⟩, ⟨A1, M1⟩, A2, M2⟩
    isplitl [A0 A1 A2]
    · isplitl [A0]; · iexact A0
      isplitl [A1]; · iexact A1
      iexact A2
    isplitl [M0]; · iexact M0
    isplitl [M1]; · iexact M1
    iexact M2

theorem landings_start (c : Dev nD) :
    iprop((∃ f, pts c K₀.racc Finset.univ fullShare f) ∗ (∃ f, pts c K₀.rml Finset.univ fullShare f)) ⊢ (slots c : sProp 𝕄) := by
  refine BIBase.Entails.trans ?_ (slots_eq (F := F) c).1
  rw [bigSep_congr fun s _ => slotA_eq c s, bigSep_congr fun s _ => slotM_eq c s]
  exact BIClass.sep_mono (cut c K₀.racc K₀.hracc accRect accRect_disjoint accRect_cover) (cut c K₀.rml K₀.hrml mlRect mlRect_disjoint mlRect_cover)

theorem landings_end (c : Dev nD) :
    (slots c : sProp 𝕄) ⊢ iprop((∃ f, pts c K₀.racc Finset.univ fullShare f) ∗ (∃ f, pts c K₀.rml Finset.univ fullShare f)) := by
  refine BIBase.Entails.trans (slots_eq (F := F) c).2 ?_
  rw [bigSep_congr fun s _ => slotA_eq c s, bigSep_congr fun s _ => slotM_eq c s]
  exact BIClass.sep_mono (uncut c K₀.racc K₀.hracc accRect accRect_disjoint accRect_cover 0) (uncut c K₀.rml K₀.hrml mlRect mlRect_disjoint mlRect_cover 0)

end Paged

end
-- ==== Proof.Same.lean ====
/- The printed body is `body` of `Prog.lean`: the eight unrolled items are one item's text at eight rows. -/
module

public import proofs.«01_k».proof.Proof.Prog

@[expose] public section

set_option maxRecDepth 16384

noncomputable section

namespace Paged

open Idealize.ShloMosaic Idealize.SL.Sem Idealize.ShloMosaic.TcCoe
open Cert.KernelIdeal Cert.KernelIdeal.Facts₀ Cert.KernelIdeal.Facts

variable {F : FTy → Type}

theorem op_congr {α β : Type} {e : TpuEff nD τ sig (Elt F) Λ₀ .tc β} {k k' : β → TProg F α} (h : ∀ x, k x = k' x) :
    (Prog.op e k : TProg F α) = Prog.op e k' := congrArg _ (funext h)

/-- Two runs assuming the same fact continue alike. -/
theorem assume_congr {α : Type} {P : Prop} {d d' : Decidable P} {k k' : PLift P → TProg F α} (h : ∀ x, k x = k' x) :
    (Prog.op (TpuEff.assume P d) k : TProg F α) = Prog.op (TpuEff.assume P d') k' := by
  cases Subsingleton.elim d d'; exact congrArg _ (funext h)

/-- A loop followed by the same continuation. -/
theorem for_congr {α β : Type} {L : Scf.Loop 32} {h h' : L.OK} {x : β} {b b' : Fin L.trips → β → TProg F β} {k k' : β → TProg F α}
    (hb : ∀ t a, b t a = b' t a) (hk : ∀ a, k a = k' a) :
    (Prog.bind (Scf.Loop.for L h x b) k : TProg F α) = Prog.bind (Scf.Loop.for L h' x b') k' := by
  cases (funext fun t => funext fun a => hb t a : b = b'); cases (funext hk : k = k'); rfl

/-- A branch whose two sides go on alike. -/
theorem dite_jp {α : Type} {C : Prop} {i i' : Decidable C} {p : C → TProg F α} {qv : TProg F α} {p' : C → TProg F PUnit} {k : PUnit → TProg F α}
    (hk : qv = k ⟨⟩) (hp : qv = k ⟨⟩ → ∀ h, p h = Prog.bind (p' h) k) :
    @dite _ C i p (fun _ => qv) = Prog.bind (@dite _ C i' p' (fun _ => Prog.ret ⟨⟩)) k := by
  cases Subsingleton.elim i i'
  by_cases h : C
  · simp only [dif_pos h]; exact hp hk h
  · simp only [dif_neg h]; exact hk

/-- The same inside a longer run. -/
theorem dite_jpb {α β : Type} {C : Prop} {i i' : Decidable C} {p : C → TProg F β} {qv : TProg F β} {g : β → TProg F α} {p' : C → TProg F PUnit}
    {k : PUnit → TProg F α} (hk : Prog.bind qv g = k ⟨⟩) (hp : Prog.bind qv g = k ⟨⟩ → ∀ h, Prog.bind (p h) g = Prog.bind (p' h) k) :
    Prog.bind (@dite _ C i p (fun _ => qv)) g = Prog.bind (@dite _ C i' p' (fun _ => Prog.ret ⟨⟩)) k := by
  cases Subsingleton.elim i i'
  by_cases h : C
  · simp only [dif_pos h]; exact hp hk h
  · simp only [dif_neg h]; exact hk

theorem assoc {α β γ : Type} {p : TProg F α} {f : α → TProg F β} {g : β → TProg F γ} {r : TProg F γ}
    (h : Prog.bind p (fun a => Prog.bind (f a) g) = r) : Prog.bind (Prog.bind p f) g = r := (Prog.bind_assoc p f g).trans h

/-- The remainder of a loop of unit step runs no trip. -/
theorem rem_congr {α β : Type} {a x : BitVec 32} {h : Scf.OK (Scalar.addi a (Scalar.muli (Scalar.divsi x 1#32) 1#32)) (Scalar.addi a x) 1#32} {i : β}
    {b : Fin (Scf.trips (Scalar.addi a (Scalar.muli (Scalar.divsi x 1#32) 1#32)) (Scalar.addi a x) 1#32) → β → TProg F β} {k : β → TProg F α} {p : TProg F α}
    (hk : k i = p) : Prog.bind (Scf.for (Scalar.addi a (Scalar.muli (Scalar.divsi x 1#32) 1#32)) (Scalar.addi a x) 1#32 h i b) k = p := by
  rw [Scf.for_rem_eq]; exact hk

theorem retb {α β : Type} {a : α} {f : α → TProg F β} {r : TProg F β} (h : f a = r) : Prog.bind (Prog.ret a) f = r := h

theorem at_dite {α : Type} {C : Prop} {i : Decidable C} {p : C → TProg F α} {q : ¬C → TProg F α} {r : TProg F α}
    (h : @dite _ C i p q = r) : @dite _ C i p q = r := h
theorem at_diteb {α β : Type} {C : Prop} {i : Decidable C} {p : C → TProg F β} {q : ¬C → TProg F β} {g : β → TProg F α} {r : TProg F α}
    (h : Prog.bind (@dite _ C i p q) g = r) : Prog.bind (@dite _ C i p q) g = r := h
theorem retp {α β : Type} {a : α} {f : α → TProg F β} {r : TProg F β} (h : f a = r) : Prog.bind (pure a) f = r := h
theorem retr {α β : Type} {a : α} {f : α → TProg F β} {r : TProg F β} (h : r = f a) : r = Prog.bind (Prog.ret a) f := h

variable [FloatOps F] [Named F] [Facts]

set_option maxHeartbeats 2000000 in
theorem body_eq (A : Args) :
    cc0_body (F := F) A.q A.hq A.bt A.hbt A.ln A.hln A.kh A.hkh A.vh A.hvh A.out A.hout A.pg A.hpg A.kb A.hkb A.vb A.hvb A.ks A.vs
      A.acc A.hacc A.ml A.hml A.racc A.hracc A.rml A.hrml A.ss A.rs = body A := by
  refine op_congr fun d => ?_
  iterate 8
    refine op_congr fun w => ?_
    refine assume_congr fun hw => ?_
    repeat first | refine retb ?_ | refine assoc ?_
    refine for_congr (fun t n => ?_) fun n => ?_
    · refine op_congr fun p => ?_
      refine assume_congr fun hp => ?_
      refine retb (retr ?_)
      (with_reducible refine at_dite ?_)
      refine dite_jp ?_ fun hk hc => ?_
      · rfl
      refine op_congr fun _ => ?_
      refine op_congr fun _ => ?_
      exact hk
    repeat first | with_reducible refine retb ?_ | with_reducible refine retp ?_ | ((fail_if_success (with_reducible (first | refine at_dite ?_ | refine at_diteb ?_))); refine assoc ?_)
    refine rem_congr ?_
    refine assume_congr fun hn => ?_
    refine op_congr fun q => ?_
    repeat first | with_reducible refine retb ?_ | with_reducible refine retp ?_ | ((fail_if_success (with_reducible (first | refine at_dite ?_ | refine at_diteb ?_))); refine assoc ?_)
    refine retr ?_
    first | ((with_reducible refine at_dite ?_); refine dite_jp ?_ fun hk hc => ?_) | ((with_reducible refine at_diteb ?_); refine dite_jpb ?_ fun hk hc => ?_) | (refine at_diteb ?_; refine dite_jpb ?_ fun hk hc => ?_)
    rotate_left
    · iterate 8
        refine op_congr fun _ => ?_
        refine assume_congr fun _ => ?_
        refine op_congr fun _ => ?_
        refine op_congr fun _ => ?_
      exact hk
    repeat first | with_reducible refine retb ?_ | with_reducible refine retp ?_ | ((fail_if_success (with_reducible (first | refine at_dite ?_ | refine at_diteb ?_))); refine assoc ?_)
    refine for_congr (fun t a => ?_) fun a => ?_
    · obtain ⟨m, l, c⟩ := a
      repeat first | with_reducible refine retb ?_ | with_reducible refine retp ?_ | ((fail_if_success (with_reducible (first | refine at_dite ?_ | refine at_diteb ?_))); refine assoc ?_)
      first | ((with_reducible refine at_dite ?_); refine dite_jp ?_ fun hk hc => ?_) | ((with_reducible refine at_diteb ?_); refine dite_jpb ?_ fun hk hc => ?_) | (refine at_diteb ?_; refine dite_jpb ?_ fun hk hc => ?_)
      rotate_left
      · iterate 8
          refine op_congr fun _ => ?_
          refine assume_congr fun _ => ?_
          refine op_congr fun _ => ?_
          refine op_congr fun _ => ?_
        exact hk
      iterate 18
        refine op_congr fun _ => ?_
      rfl
    obtain ⟨m, l, c⟩ := a
    repeat first | with_reducible refine retb ?_ | with_reducible refine retp ?_ | ((fail_if_success (with_reducible (first | refine at_dite ?_ | refine at_diteb ?_))); refine assoc ?_)
    refine rem_congr ?_
    repeat first | with_reducible refine retb ?_ | with_reducible refine retp ?_ | ((fail_if_success (with_reducible (first | refine at_dite ?_ | refine at_diteb ?_))); refine assoc ?_)
    iterate 6
      refine op_congr fun _ => ?_
  iterate 54
    refine op_congr fun _ => ?_
  rfl

end Paged

end
-- ==== Proof.Run.lean ====
/- The launch: what the pipeline stages, the body's obligation, the run of the program. -/
module

public import proofs.«01_k».proof.Proof.Deal
public import proofs.«01_k».proof.Proof.Same
public import Idealize.ShloMosaic.Lib.Pipeline.CollectiveSegs

@[expose] public section

set_option maxRecDepth 16384

noncomputable section

namespace Paged

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

/-- No staging semaphore is one of the protocol's. -/
theorem stage_ne : ∀ (w : Fin 4) (s : Fin ((cfg0.win w).nbuf)) (k : Kind), csem k ≠ .dma ((cfg0.win w).sem s) := by decide +kernel

variable {F : FTy → Type} [FloatOps F] [Named F] [Facts]

local notation "𝕄" => MT nD τ sig Unit (Elt F) ℕ UU ℕ

variable (m : (ℓ : Loc nD τ sig) → Buf (Elt F) ℓ) (ρ : Dev nD → PrngReg)

/-! ## The operands as launched -/

/-- The staged block of an operand. -/
def block (c : Dev nD) (w : Fin cfg0.W) : ((cfg0.win w).xblock (cfg0.grid.coords Gen.t0_0)).Idx → Elt F (cfg0.win w).elt :=
  ((cfg0.win w).blk Gen.t0_0).view.read (Elt F) (m ((cfg0.win w).arr.view.loc (T c)))

/-- The operands of device `c`. -/
def launched (c : Dev nD) : Data F where
  q := block m c 0
  bt := block m c 1
  ln := block m c 2
  kv := m ((T c).loc main_arg1)
  vv := m ((T c).loc main_arg2)

/-- The operands with the double buffers' contents at launch. -/
def held (c : Dev nD) : Bufs F K₀ c where
  fq := block m c 0
  fbt := block m c 1
  fln := block m c 2
  fk := m ((T c).loc main_arg1)
  fv := m ((T c).loc main_arg2)
  gk := m ((T c).loc cc0_scratch1)
  gv := m ((T c).loc cc0_scratch2)

theorem held_data (c : Dev nD) : (held m c).data = launched m c := rfl

/-! ## The proof data -/

/-- What a device starts with beside its scratch. -/
def start (c : Dev nD) : sProp 𝕄 :=
  iprop(G' (launched m) c ∗ credits c ∗ levAts L lv ∗ pageArr c K₀.kh (held m c).fk ∗ pageArr c K₀.vh (held m c).fv)

/-- What it ends with beside its scratch. -/
def ended (c : Dev nD) : sProp 𝕄 :=
  iprop(closed c ∗ locSems c ∗ pageArr c K₀.kh (held m c).fk ∗ pageArr c K₀.vh (held m c).fv)

def dats (_ : Fin 1) (c : Dev nD) : Pipeline.RDat τ (Elt F) Unit ℕ UU ℕ cfg0 c where
  A w := m ((cfg0.win w).arr.view.loc (T c))
  after w _ := match w with
    | ⟨0, _⟩ => fun _ _ => True
    | ⟨1, _⟩ => fun _ _ => True
    | ⟨2, _⟩ => fun _ _ => True
    | ⟨3, _⟩ => fun _ X => Out (launched m) c X
  Φ t := match t with
    | ⟨0, _⟩ => iprop(start m c ∗ Pipeline.scopedRest spec0 c)
    | ⟨_ + 1, _⟩ => iprop(ended m c ∗ Pipeline.scopedRest spec0 c)
  q _ := fullShare
  owed t := match t with
    | ⟨0, _⟩ => OS c
    | ⟨_ + 1, _⟩ => 0

/-! ## The body -/

/-- The scratch buffers, at anything. -/
theorem scratch_eq (c : Dev nD) : (Pipeline.scopedRest spec0 c : sProp 𝕄)
    = iprop((∃ f, pts c K₀.kb Finset.univ fullShare f) ∗ (∃ f, pts c K₀.vb Finset.univ fullShare f)
        ∗ (∃ f, pts c K₀.acc Finset.univ fullShare f) ∗ (∃ f, pts c K₀.ml Finset.univ fullShare f)
        ∗ (∃ f, pts c K₀.racc Finset.univ fullShare f) ∗ (∃ f, pts c K₀.rml Finset.univ fullShare f) ∗ (∃ f, pts c K₀.pg Finset.univ fullShare f)) :=
  Gen.scopedRest0_eq c

theorem pre_intro (K : Dev nD × Kind → ℕ) (c : Dev nD) :
    iprop((records (launched m) K ∗ linear c ∗ locSems c ∗ credits c ∗ levAts L lv ∗ pageArr c K₀.kh (held m c).fk ∗ pageArr c K₀.vh (held m c).fv)
      ∗ Pipeline.scopedRest spec0 c
      ∗ (pts c K₀.q Finset.univ fullShare (held m c).fq ∗ pts c K₀.bt Finset.univ fullShare (held m c).fbt ∗ pts c K₀.ln Finset.univ fullShare (held m c).fln)
      ∗ (∃ f, pts c K₀.out Finset.univ fullShare f) ∗ (∃ W, owes (T c) (OS c) W))
      ⊢ (bodyPre (launched m) K c (held m c) : sProp 𝕄) := by
  rw [scratch_eq]
  unfold bodyPre around linear credits
  rw [anyA_eq, anyM_eq]
  iintro ⟨⟨#HR, ⟨Hbl, Hp0, Hp1, Hp2⟩, Hloc, ⟨Hbc, Hc0, Hc1, Hc2⟩, #HL, Hk, Hv⟩, ⟨Hkb, Hvb, Ha, Hm, Hra, Hrm, Hpg⟩, Hops, Hout, HO⟩
  ihave Hs := (landings_start (F := F) c) $$ [Hra Hrm]
  · isplitl [Hra] <;> iassumption
  ihave Hf := (slots_start (F := F) c) $$ [Hkb Hvb Hloc]
  · isplitl [Hkb]; · iexact Hkb
    isplitl [Hvb] <;> iassumption
  icases Hf with ⟨Hf0, Hf1⟩
  isplitl [Hbl Hp0 Hp1 Hp2 Hbc Hc0 Hc1 Hc2]
  · isplitr; · iexact HR
    isplitr; · iexact HL
    isplitl [Hbl]; · iexact Hbl
    isplitl [Hp0]; · iexact Hp0
    isplitl [Hp1]; · iexact Hp1
    isplitl [Hp2]; · iexact Hp2
    isplitl [Hbc]; · iexact Hbc
    isplitl [Hc0]; · iexact Hc0
    isplitl [Hc1]; · iexact Hc1
    iexact Hc2
  isplitl [Hops]; · iexact Hops
  isplitl [Hpg]; · iexact Hpg
  isplitl [Hk]; · iexact Hk
  isplitl [Hv]; · iexact Hv
  isplitl [Ha]; · iexact Ha
  isplitl [Hm]; · iexact Hm
  isplitl [Hs]; · iexact Hs
  isplitl [Hf0]; · iexact Hf0
  isplitl [Hf1]; · iexact Hf1
  isplitl [Hout] <;> iassumption

theorem post_elim (c : Dev nD) :
    (bodyPost (launched m) c (held m c) : sProp 𝕄)
      ⊢ iprop((ended m c ∗ Pipeline.scopedRest spec0 c)
        ∗ (pts c K₀.q Finset.univ fullShare (held m c).fq ∗ pts c K₀.bt Finset.univ fullShare (held m c).fbt ∗ pts c K₀.ln Finset.univ fullShare (held m c).fln)
        ∗ (∃ f', ⌜Out (launched m) c (K₀.out.view.read (Elt F) f')⌝ ∗ pts c K₀.out Finset.univ fullShare f')
        ∗ (∃ W, owes (T c) (0 : CellTallies nD τ sig Unit) W)) := by
  rw [scratch_eq]
  unfold bodyPost ended
  rw [anyA_eq, anyM_eq]
  iintro ⟨Hz, Hops, Hpg, Hk, Hv, Ha, Hm, Hs, Hf0, Hf1, Hout, HO⟩
  ihave Hr := (landings_end (F := F) c) $$ Hs
  icases Hr with ⟨Hra, Hrm⟩
  ihave Hf := (slots_end (F := F) c) $$ [Hf0 Hf1]
  · isplitl [Hf0] <;> iassumption
  icases Hf with ⟨Hkb, Hvb, Hloc⟩
  isplitl [Hz Hloc Hk Hv Hkb Hvb Ha Hm Hra Hrm Hpg]
  · isplitl [Hz Hloc Hk Hv]
    · isplitl [Hz]; · iexact Hz
      isplitl [Hloc]; · iexact Hloc
      isplitl [Hk] <;> iassumption
    isplitl [Hkb]; · iexact Hkb
    isplitl [Hvb]; · iexact Hvb
    isplitl [Ha]; · iexact Ha
    isplitl [Hm]; · iexact Hm
    isplitl [Hra]; · iexact Hra
    isplitl [Hrm] <;> iassumption
  isplitl [Hops]; · iexact Hops
  isplitl [Hout] <;> iassumption

theorem fetch_in : (cfg0.win 0).fetch Gen.t0_0 = true ∧ (cfg0.win 1).fetch Gen.t0_0 = true ∧ (cfg0.win 2).fetch Gen.t0_0 = true := ⟨rfl, rfl, rfl⟩

/-- The body over the staged operands. -/
theorem wp_staged (hln : ∀ c j, ((launched m c).ln j).toInt ≤ 512) (c : Dev nD)
    (X0 : S8x1x8x128.Idx → Elt F .f32) (X1 : S8x512.Idx → Elt F .i32) (X2 : S8.Idx → Elt F .i32) (X3 : S8x1x8x128.Idx → Elt F .f32)
    (h0 : X0 = (launched m c).q) (h1 : X1 = (launched m c).bt) (h2 : X2 = (launched m c).ln) :
    iprop((start m c ∗ Pipeline.scopedRest spec0 c) ∗ (dats m 0 c).owesAt () (Fin.castSucc Gen.t0_0)
      ∗ owns (T c) K₀.q fullShare X0 ∗ owns (T c) K₀.bt fullShare X1 ∗ owns (T c) K₀.ln fullShare X2 ∗ owns (T c) K₀.out fullShare X3)
    ⊢ wp frame (wpE (defs₀ (F := F)) 𝒱₀ (T c) none) Set.univ (body K₀)
      fun _ => iprop((ended m c ∗ Pipeline.scopedRest spec0 c) ∗ (dats m 0 c).owesAt () (Fin.succ Gen.t0_0)
        ∗ (∃ X, ⌜True⌝ ∗ owns (T c) K₀.q fullShare X) ∗ (∃ X, ⌜True⌝ ∗ owns (T c) K₀.bt fullShare X) ∗ (∃ X, ⌜True⌝ ∗ owns (T c) K₀.ln fullShare X)
        ∗ (∃ X, ⌜Out (launched m) c X⌝ ∗ owns (T c) K₀.out fullShare X)) := by
  have hown {s : Shape} {sp : Space} {e : EltTy} (M : Memref sig .tc sp s e) (hM : M.IsWhole) (X : s.Idx → Elt F e) :
      (owns (T c) M fullShare X : sProp 𝕄) = iprop(∃ f : Buf (Elt F) (M.view.loc (T c)), ⌜M.view.read (Elt F) f = X⌝ ∗ pts c M Finset.univ fullShare f) := by
    unfold owns pts; rw [hM.set_eq_univ]
  rw [hown K₀.q K₀.hq X0, hown K₀.bt K₀.hbt, hown K₀.ln K₀.hln, hown K₀.out K₀.hout]
  unfold start G' Pipeline.RDat.owesAt Pipeline.owesWithin
  iintro ⟨⟨⟨⟨⟨%K, #HR, Hlin⟩, Hloc⟩, Hcr, #HL, Hk, Hv⟩, Hscr⟩, ⟨%W, %hW, HO⟩, ⟨%f0, %hf0, H0⟩, ⟨%f1, %hf1, H1⟩, ⟨%f2, %hf2, H2⟩, ⟨%f3, %hf3, H3⟩⟩
  obtain rfl : f0 = (held m c).fq := hf0.trans h0
  obtain rfl : f1 = (held m c).fbt := hf1.trans h1
  obtain rfl : f2 = (held m c).fln := hf2.trans h2
  iapply (wp_run (launched m) K c (held m c) (held_data m c) (hln c)) $$ [Hlin Hloc Hcr Hk Hv Hscr HO H0 H1 H2 H3]
  · iapply (pre_intro m K c)
    isplitl [Hlin Hloc Hcr Hk Hv]
    · isplitr; · iexact HR
      isplitl [Hlin]; · iexact Hlin
      isplitl [Hloc]; · iexact Hloc
      isplitl [Hcr]; · iexact Hcr
      isplitr; · iexact HL
      isplitl [Hk] <;> iassumption
    isplitl [Hscr]; · iexact Hscr
    isplitl [H0 H1 H2]
    · isplitl [H0]; · iexact H0
      isplitl [H1] <;> iassumption
    isplitl [H3]; · iexists f3; iexact H3
    iexists W; iexact HO
  iintro H
  ihave H := (post_elim m c) $$ H
  icases H with ⟨HΦ, ⟨H0, H1, H2⟩, ⟨%f3', %ho, H3⟩, ⟨%W', HO⟩⟩
  isplitl [HΦ]; · iexact HΦ
  isplitl [HO]
  · iexists W'
    isplitr
    · ipureintro; exact fun _ _ => Or.inl trivial
    iexact HO
  isplitl [H0]
  · iexists X0
    isplitr; · ipureintro; trivial
    rw [hown K₀.q K₀.hq]
    iexists (held m c).fq
    isplitr; · ipureintro; exact h0.symm
    iexact H0
  isplitl [H1]
  · iexists X1
    isplitr; · ipureintro; trivial
    rw [hown K₀.bt K₀.hbt]
    iexists (held m c).fbt
    isplitr; · ipureintro; exact h1.symm
    iexact H1
  isplitl [H2]
  · iexists X2
    isplitr; · ipureintro; trivial
    rw [hown K₀.ln K₀.hln]
    iexists (held m c).fln
    isplitr; · ipureintro; exact h2.symm
    iexact H2
  · iexists (K₀.out.view.read (Elt F) f3')
    isplitr; · ipureintro; exact ho
    rw [hown K₀.out K₀.hout]
    iexists f3'
    isplitr; · ipureintro; rfl
    iexact H3

theorem body_obligation (hln : ∀ c j, ((launched m c).ln j).toInt ≤ 512) (c : Dev nD) :
    (dats m 0 c).BodyObligation (defs₀ (F := F)) 𝒱₀ () Set.univ := fun t Y hY => by
  obtain rfl := Gen.fin_N0 t
  obtain ⟨d0, h0⟩ := ((dats m 0 c).finds_of_fetch fetch_in.1 _).mp (hY 0)
  obtain ⟨d1, h1⟩ := ((dats m 0 c).finds_of_fetch fetch_in.2.1 _).mp (hY 1)
  obtain ⟨d2, h2⟩ := ((dats m 0 c).finds_of_fetch fetch_in.2.2 _).mp (hY 2)
  rw [Gen.bigSep_W0, Gen.bigSep_W0]
  have h := wp_staged m hln c (Y 0) (Y 1) (Y 2) (Y 3) h0 h1 h2
  rw [← body_eq K₀] at h
  exact h

/-! ## The launch -/

theorem own_facts : Pipeline.OwnSemFacts spec0 osem := by decide +kernel

theorem share_full (c : Dev nD) (w : Fin cfg0.W) : (dats m 0 c).share w = fullShare := by unfold Pipeline.RDat.share; split <;> rfl

theorem lv_stage (c : Dev nD) (w : Fin 4) (s : Fin ((cfg0.win w).nbuf)) : lv (T c, .dma ((cfg0.win w).sem s)) () = 0 := by
  show (kindOf (.dma ((cfg0.win w).sem s))).elim 0 lvK = 0
  rw [kindOf_none _ (stage_ne w s)]; rfl

theorem waits (c : Dev nD) : (levAts L lv : sProp 𝕄) ⊢ Pipeline.RDat.cellsWaits cfgs (dats m) () 0 c :=
  Pipeline.RDat.cellsWaits_intro cfgs (dats m) () 0 c fun w s t =>
    mayWait_of (F := F) c _ 1 (by rw [lv_stage]; decide) _ (by
      rcases t with ⟨_ | _, ht⟩
      · exact OS_above c
      · exact Above.zero 1)

theorem start_intro (c : Dev nD) :
    iprop(Pipeline.unscopedRestP Pipeline.Prefetch.none spec0 c (fun b => m ((T c).loc b)) ∗ levAts L lv
        ∗ Pipeline.launchCred OS c ∗ prngReg c (ρ c) ∗ G' (launched m) c)
      ⊢ |={Set.univ}=> (iprop(start m c ∗ emp) : sProp 𝕄) := by
  rw [Pipeline.unscopedRestP_none, Gen.unscopedRest0_eq]
  iintro ⟨⟨H1, H2⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    unfold pageArr
    isplitl [H1]
    · iexists fullShare; iexact H1
    · iexists fullShare; iexact H2
  · iempintro

theorem phi0_intro (c : Dev nD) :
    iprop(start m c ∗ Pipeline.prefHeld Pipeline.Prefetch.none c (fun _ => fullShare.right) (fun k => k.elim0) ∗ Pipeline.scopedRest spec0 c)
      ⊢ (dats m 0 c).Φ 0 := by
  show _ ⊢ iprop(start m c ∗ Pipeline.scopedRest spec0 c)
  iintro ⟨Hs, -, Hr⟩
  isplitl [Hs] <;> iassumption

/-- What outlives the kernel: the barrier's semaphore and the page arrays. -/
def after (c : Dev nD) : sProp 𝕄 := iprop(unscopedSems0 c ∗ pageArr c K₀.kh (held m c).fk ∗ pageArr c K₀.vh (held m c).fv)

theorem closed_sems (c : Dev nD) : (closed c : sProp 𝕄) ⊢ iprop(semVal (cell c none) 0 ∗ bigSep Finset.univ fun x => semVal (cell c (some x)) 0) := by
  rw [← bigSep_some fun k : Kind => (semVal (cell c k) 0 : sProp 𝕄), bigSep_kind]
  unfold closed phaseDone
  iintro ⟨Hb, ⟨R00, R01, S00, S01⟩, ⟨R10, R11, S10, S11⟩, R20, R21, S20, S21⟩
  isplitl [Hb]; · iexact Hb
  isplitl [R00]; · iexact R00
  isplitl [R01]; · iexact R01
  isplitl [S00]; · iexact S00
  isplitl [S01]; · iexact S01
  isplitl [R10]; · iexact R10
  isplitl [R11]; · iexact R11
  isplitl [S10]; · iexact S10
  isplitl [S11]; · iexact S11
  isplitl [R20]; · iexact R20
  isplitl [R21]; · iexact R21
  isplitl [S20]; · iexact S20
  iexact S21

theorem phi1_exit (c : Dev nD) :
    (dats m 0 c).Φ (Fin.last cfg0.N) ⊢ iprop(after m c ∗ Pipeline.ownSems0 osem c ∗ Pipeline.scopedRest spec0 c) := by
  show iprop(ended m c ∗ Pipeline.scopedRest spec0 c) ⊢ _
  rw [ownSems0_eq]
  unfold ended after
  rw [unscopedSems0_eq]
  iintro ⟨⟨Hz, Hloc, Hk, Hv⟩, Hscr⟩
  ihave Hz := (closed_sems (F := F) c) $$ Hz
  icases Hz with ⟨Hb, Hx⟩
  isplitl [Hb Hk Hv]
  · isplitl [Hb]; · iexact Hb
    isplitl [Hk] <;> iassumption
  isplitl [Hloc Hx]
  · isplitl [Hloc] <;> iassumption
  iexact Hscr

/-- What is read off the memory at the end, beside the windows' arrays. -/
def Rest (c : Dev nD) (s : MemSt nD τ sig (Elt F)) : Prop :=
  s.mem ((T c).loc main_arg1) = m ((T c).loc main_arg1) ∧ s.mem ((T c).loc main_arg2) = m ((T c).loc main_arg2)
    ∧ ∀ sm : SemLoc sig, sm.isScoped .tc = false → s.sem ((c.tc : Thread nD τ), sm) = 0

theorem page_same (c : Dev nD) (M : Memref sig .tc .hbm S512x16x8x128 .f32) (f : Buf (Elt F) (M.view.loc (T c))) (s' : Phys nD τ sig (Elt F)) :
    iprop(SI s' ∗ pageArr c M f) ⊢ (⌜s'.mem.mem (M.view.loc (T c)) = f⌝ : sProp 𝕄) := by
  unfold pageArr pts
  iintro ⟨HS, %q, H⟩
  ihave %h := (SI_pointsTo_agree (st := s')) $$ [HS H]
  · isplitl [HS] <;> iassumption
  ipureintro
  exact funext fun i => h i (Finset.mem_univ i)

theorem rest_read (c : Dev nD) (s' : Phys nD τ sig (Elt F)) :
    iprop(after m c ∗ emp ∗ SI s') ⊢ |={Set.univ}=> (iprop(⌜Rest m c s'.mem⌝ ∗ SI s') : sProp 𝕄) := by
  unfold after
  iintro ⟨⟨Hu, Hk, Hv⟩, -, HSI⟩
  ihave %hk := (page_same c K₀.kh (held m c).fk s') $$ [HSI Hk]
  · isplitl [HSI] <;> iassumption
  ihave %hv := (page_same c K₀.vh (held m c).fv s') $$ [HSI Hv]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hk, hv, hs⟩
  iexact HSI

def u₀ : UU := (initOf (Pipeline.cells cfgs Gen.cellOf_inj) (Pipeline.launchToks cfgs Gen.cellOf_inj), (initOf theCells theToks, 1))

/-- What the run ends with. -/
def Ends (s : MemSt nD τ sig (Elt F)) : Prop :=
  ∀ c : Dev nD, (∀ w, (dats m 0 c).ArrAt w cfg0.N (s.mem ((cfg0.win w).arr.view.loc (T c))))
    ∧ s.mem ((T c).loc main_arg1) = m ((T c).loc main_arg1) ∧ s.mem ((T c).loc main_arg2) = m ((T c).loc main_arg2)

theorem run_main (hln : ∀ c j, ((launched m c).ln j).toInt ≤ 512) :
    θ_run defs (onTc (τ := τ) (main (F := F))) ⟨m, fun _ => 0, ρ⟩ (fun r => Ends m r.2 ∧ r.2.sem = fun _ => 0) :=
  Pipeline.RDat.θ_run_region_owing_glob_pf (fun p => (cfgs p).toPCfg) (fun p => (cfgs p).toPCfg_adm) (dats m) () Gen.cellOf_inj (0 : Fin 1)
    Gen.winFacts0.to₀ own_facts (Pipeline.PreFacts.none _) EP defs₀ 𝒱₀ m ρ main
    (hmain := fun _ => rfl) (hbody := body_obligation m hln) (hne := Gen.block_pos0) (harr := Gen.arr_whole0) (hstage := Gen.stage_whole0) (hshare := share_full m)
    (hdistinct := Gen.winFacts0.arr_inj) (O₀ := OS) (howed₀ := fun _ => rfl) (howedN := fun _ => rfl)
    (L := L) (lv := lv) (hL := L_of_ne) (hwaits := waits m) (G := G (launched m)) (G' := G' (launched m)) (u₀ := u₀)
    (hu₀ := by
      unfold u₀; iintro Hu
      ihave H := (ownU_pair _ _) $$ Hu
      icases H with ⟨HP, HX⟩
      ihave HX := (Entails.of_eq (show (BI.own (embR (A := UR sig nD τ) (initOf theCells theToks, (1 : Counters))) : sProp 𝕄) = BI.own (ER (initOf theCells theToks)) from rfl)) $$ HX
      imod (fund_rounds (launched m)) $$ HX with HG
      imodintro
      isplitl [HP] <;> iassumption)
    (hglob := glob (launched m)) (hA := fun _ _ => rfl) (hpf := fun _ k => k.elim0)
    (X := start m) (Y := after m) (Z := fun _ => iprop(emp))
    (hX := start_intro m ρ) (hin := phi0_intro m) (hout := phi1_exit m)
    (QY := Rest m) (hY := rest_read m)
    (hQ := fun _ h hs => ⟨fun c => ⟨(h c).1, (h c).2.2.1, (h c).2.2.2.1⟩, sem_eq_zero hs fun c => (h c).2.2.2.2⟩)

end Paged

end
-- ==== Proof.Ends.lean ====
/- What the run's end says of the argument arrays: each is as launched. The operands as the body reads them are the
   argument arrays themselves, whole. -/
module

public import proofs.«01_k».proof.Proof.Run
public import Idealize.ShloMosaic.Lib.Pipeline.ArrRel

@[expose] public section

set_option maxRecDepth 16384

noncomputable section

namespace Paged

open Idealize.ShloMosaic Idealize.ShloMosaic.TcCoe Idealize.ShloMosaic.ValueIdx
open Idealize.SL Idealize.SL.Sem
open Cert.KernelIdeal Cert.KernelIdeal.Facts₀ Cert.KernelIdeal.Facts

/-- Every operand is staged whole. -/
theorem index_zero : ∀ (w : Fin 4) (a : Fin (cfg0.win w).shape.rank), (cfg0.win w).index Gen.t0_0 a = 0 := by decide +kernel

/-- The result is written back once, whole. -/
theorem out_whole : (cfg0.win 3).WholeAt Gen.t0_0 := by decide +kernel

variable {F : FTy → Type} [FloatOps F] [Named F] [Facts]

variable (m : (ℓ : Loc nD τ sig) → Buf (Elt F) ℓ) (ρ : Dev nD → PrngReg)

/-- An operand staged whole is its array. -/
theorem block_whole (c : Dev nD) (w : Fin 4) (h0 : ∀ a, (cfg0.win w).index Gen.t0_0 a = 0)
    (y : ((cfg0.win w).xblock (cfg0.grid.coords Gen.t0_0)).Idx) (j : (cfg0.win w).shape.Idx) (hy : ∀ a, (j a : ℕ) = y a) :
    ((cfg0.win w).blk Gen.t0_0).view.emb y = (cfg0.win w).arr.view.emb j := by
  show (cfg0.win w).arr.view.emb (((cfg0.win w).rect Gen.t0_0).emb y) = _
  congr 1
  funext a
  apply Fin.ext
  rw [Pipeline.Window.rect_emb_val_of_index_zero _ _ _ (h0 a), hy]

/-- The staged query is the query array. -/
theorem launched_q (c : Dev nD) : (launched m c).q = m ((T c).loc main_arg0) := by
  funext j
  exact congrArg (m ((T c).loc main_arg0)) (block_whole c 0 (index_zero _) j j fun _ => rfl)

/-- The staged table is the table array. -/
theorem launched_bt (c : Dev nD) : (launched m c).bt = m ((T c).loc main_arg3) := by
  funext j
  exact congrArg (m ((T c).loc main_arg3)) (block_whole c 1 (index_zero _) j j fun _ => rfl)

/-- The staged lengths are the lengths array. -/
theorem launched_ln (c : Dev nD) : (launched m c).ln = m ((T c).loc main_arg4) := by
  funext j
  exact congrArg (m ((T c).loc main_arg4)) (block_whole c 2 (index_zero _) j j fun _ => rfl)

/-- The argument arrays at the end of a run. -/
theorem Ends.args {m : (ℓ : Loc nD τ sig) → Buf (Elt F) ℓ} {s : MemSt nD τ sig (Elt F)} (h : Ends m s) (c : Dev nD) :
    s.mem ((T c).loc main_arg0) = m ((T c).loc main_arg0) ∧ s.mem ((T c).loc main_arg1) = m ((T c).loc main_arg1)
      ∧ s.mem ((T c).loc main_arg2) = m ((T c).loc main_arg2) ∧ s.mem ((T c).loc main_arg3) = m ((T c).loc main_arg3)
      ∧ s.mem ((T c).loc main_arg4) = m ((T c).loc main_arg4) := by
  have h0 := (h c).1 0
  have h1 := (h c).1 1
  have h2 := (h c).1 2
  rw [Pipeline.RDat.ArrAt_in _ _ rfl] at h0 h1 h2
  exact ⟨h0, (h c).2.1, (h c).2.2, h1, h2⟩

/-- Every run ends with the argument arrays as launched and no semaphore holding a count. -/
theorem run_frame (hln : ∀ c j, ((launched m c).ln j).toInt ≤ 512) :
    θ_run defs (onTc (τ := τ) (main (F := F))) ⟨m, fun _ => 0, ρ⟩ (fun r => (∀ c : Dev nD,
      r.2.mem ((T c).loc main_arg0) = m ((T c).loc main_arg0) ∧ r.2.mem ((T c).loc main_arg1) = m ((T c).loc main_arg1)
        ∧ r.2.mem ((T c).loc main_arg2) = m ((T c).loc main_arg2) ∧ r.2.mem ((T c).loc main_arg3) = m ((T c).loc main_arg3)
        ∧ r.2.mem ((T c).loc main_arg4) = m ((T c).loc main_arg4)) ∧ r.2.sem = fun _ => 0) :=
  (θ_run defs _ _).mono (fun _ h => ⟨fun c => h.1.args c, h.2⟩) (run_main m ρ hln)

/-- What the result array holds at the end of a run: a value the merges may give. -/
theorem Ends.out [∀ e, Nonempty (Elt F e)] {m : (ℓ : Loc nD τ sig) → Buf (Elt F) ℓ} {s : MemSt nD τ sig (Elt F)} (h : Ends m s) (c : Dev nD) :
    Out (launched m) c (s.mem ((T c).loc main_v1)) := by
  obtain ⟨X, ⟨Y, hY, hX⟩, hG⟩ := Pipeline.RDat.ArrAt.emb_eq_of_wholeAt ((h c).1 3) out_whole
  have e : s.mem ((T c).loc main_v1) = X := by
    funext j
    exact hG j
  rw [e]
  exact hX

end Paged

end
-- ==== Proof.Bounds.lean ====
/- What the preconditions say of the lengths, entry by entry. -/
module

public import proofs.«01_k».proof.Pre_lens_in_table

@[expose] public section

noncomputable section

namespace Paged

open Idealize.ShloMosaic

/-- A comparison that answers one holds. -/
theorem toInt_le_of_sle {x y : BitVec 32} (h : BitVec.ofBool (x.sle y) = 1#1) : x.toInt ≤ y.toInt := by
  cases hb : x.sle y with
  | true => exact BitVec.sle_iff_toInt_le.mp hb
  | false => rw [hb] at h; exact absurd h (by decide)

/-- Lengths within the table are at most its width. -/
theorem lens_le {F : FTy → Type} [FloatOps F] [Cert.Pre_lens_in_table.Facts]
    (a0 : FVec F Cert.Pre_lens_in_table.S8x1x8x128 .f32) (a1 a2 : FVec F Cert.Pre_lens_in_table.S512x16x8x128 .f32)
    (a3 : IVec Cert.Pre_lens_in_table.S8x512 32) (a4 : IVec Cert.Pre_lens_in_table.S8 32)
    (h : Cert.Pre_lens_in_table.fn a0 a1 a2 a3 a4 = fun _ => 1#1) (j : Cert.Pre_lens_in_table.S8.Idx) : (a4 j).toInt ≤ 512 :=
  toInt_le_of_sle (y := 512#32) (congrFun h j)

end Paged

end
-- ==== Proof.SameBits.lean ====
/- At the machine's own numbers the printed kernel and the idealized one are the same text: a named constant is its literal. -/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

set_option maxRecDepth 16384

noncomputable section

namespace Paged

open Idealize.ShloMosaic Idealize.SL.Sem

/-- A named constant read as the literal it names. -/
@[reducible] def literal : Named Bits := ⟨fun _ _ φ b => Scalar.ofBits φ b⟩

attribute [local instance] literal

set_option maxHeartbeats 20000000 in
/-- The two bodies. -/
theorem body_same : @Cert.Kernel.cc0_body Bits _ _ = @Cert.KernelIdeal.cc0_body Bits _ _ _ := by
  unfold Cert.Kernel.cc0_body Cert.KernelIdeal.cc0_body
  exact id rfl

end Paged

end
-- ==== Proof.SameDefs.lean ====
/- The printed kernel's table of bodies is the idealized one's, at the machine's own numbers. -/
module

public import proofs.«01_k».proof.Proof.SameBits

@[expose] public section

set_option maxRecDepth 16384

noncomputable section

namespace Paged

open Idealize.ShloMosaic Idealize.SL.Sem

attribute [local instance] literal

open Cert.KernelIdeal Cert.KernelIdeal.Facts₀ Cert.KernelIdeal.Facts in
/-- The two tables of bodies. -/
theorem bodies_same : Cert.Kernel.defs₀ (F := Bits) = Cert.KernelIdeal.defs₀ (F := Bits) := by
  refine congrArg Defs.onTc (funext fun l => ?_)
  match l with
  | 0 =>
    funext ⟨t, s⟩
    exact congrArg (fun f => f (win0_0.stage (s 0)) (hstage0_0 0) (win0_1.stage (s 1)) (hstage0_1 0) (win0_2.stage (s 2)) (hstage0_2 0) (Memref.whole main_arg1) (Memref.isWhole_whole _) (Memref.whole main_arg2) (Memref.isWhole_whole _) (win0_3.stage (s 3)) (hstage0_3 0) (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) body_same

/-- The two programs' tables. -/
theorem defs_same : Cert.Kernel.defs (F := Bits) = Cert.KernelIdeal.defs (F := Bits) :=
  congrArg (Pipeline.defs (Cert.KernelIdeal.pcfgs (F := Bits))) bodies_same

theorem main_same : Cert.Kernel.main (F := Bits) = Cert.KernelIdeal.main (F := Bits) := id rfl

end Paged

end
-- ==== Proof.Soft.lean ====
/- The mathematics of a softmax computed piece by piece, over the extended reals. -/
module

public import Idealize.ShloMosaic.PureOps.Ideal.Laws

@[expose] public section

noncomputable section

namespace Paged

open Idealize.ShloMosaic

/-! ## Finite factors -/

theorem sum_mul_factor {ι : Type*} (S : Finset ι) (f : ι → EReal) {c : EReal} (h0 : 0 ≤ c) (h1 : c ≠ ⊤) : (∑ i ∈ S, f i) * c = ∑ i ∈ S, f i * c := by
  classical
  induction S using Finset.induction_on with
  | empty => rw [Finset.sum_empty, Finset.sum_empty, zero_mul]
  | insert a S ha ih => rw [Finset.sum_insert ha, Finset.sum_insert ha, EReal.right_distrib_of_nonneg_of_ne_top h0 h1, ih]

theorem exp_nonneg (x : EReal) : 0 ≤ Ideal.exp x := by
  induction x with
  | bot => exact le_refl _
  | top => exact le_top
  | coe r => rw [Ideal.exp_coe]; exact_mod_cast (Real.exp_pos r).le

theorem exp_factor {x m : EReal} (hx : x ≤ m) (hm : m ≠ ⊤) : Ideal.exp (x - m) ≠ ⊤ := by
  induction x with
  | bot => rw [EReal.bot_sub]; exact EReal.zero_ne_top
  | top => exact absurd (top_le_iff.mp hx) hm
  | coe r =>
    induction m with
    | bot => exact absurd (le_bot_iff.mp hx) (EReal.coe_ne_bot r)
    | top => exact absurd rfl hm
    | coe y => rw [← EReal.coe_sub, Ideal.exp_coe]; exact EReal.coe_ne_top _

theorem exp_chain {x m M : EReal} (hx : x ≠ ⊥) (h1 : x ≤ m) (h2 : m ≤ M) (hM : M ≠ ⊤) :
    Ideal.exp (x - m) * Ideal.exp (m - M) = Ideal.exp (x - M) := by
  have hm : m ≠ ⊤ := fun h => hM (top_le_iff.mp (h ▸ h2))
  have hxt : x ≠ ⊤ := fun h => hm (top_le_iff.mp (h ▸ h1))
  have hmb : m ≠ ⊥ := fun h => hx (le_bot_iff.mp (h ▸ h1))
  have hMb : M ≠ ⊥ := fun h => hmb (le_bot_iff.mp (h ▸ h2))
  lift x to ℝ using ⟨hxt, hx⟩
  lift m to ℝ using ⟨hm, hmb⟩
  lift M to ℝ using ⟨hM, hMb⟩
  rw [← EReal.coe_sub, ← EReal.coe_sub, ← EReal.coe_sub, Ideal.exp_coe, Ideal.exp_coe, Ideal.exp_coe, ← EReal.coe_mul, ← Real.exp_add]
  congr 2; ring

/-! ## Greatest scores and weighted sums over a set of table entries -/

variable {α : Type}

/-- The greatest score of a set of entries, sixteen positions each. -/
def mx (S : Finset α) (s : α → Fin 16 → EReal) : EReal := S.sup fun t => Finset.univ.sup (s t)

/-- The sum of the values weighted by the scores' exponentials, the scores taken relative to `m`. -/
def wt (S : Finset α) (s v : α → Fin 16 → EReal) (m : EReal) : EReal := ∑ t ∈ S, ∑ o : Fin 16, Ideal.exp (s t o - m) * v t o

theorem le_mx {S : Finset α} (s : α → Fin 16 → EReal) {t : α} (ht : t ∈ S) (o : Fin 16) : s t o ≤ mx S s :=
  (Finset.le_sup (f := s t) (Finset.mem_univ o)).trans (Finset.le_sup (f := fun t => Finset.univ.sup (s t)) ht)

theorem mx_le_iff {S : Finset α} (s : α → Fin 16 → EReal) (x : EReal) : mx S s ≤ x ↔ ∀ t ∈ S, ∀ o, s t o ≤ x := by
  unfold mx
  simp only [Finset.sup_le_iff, Finset.mem_univ, true_implies]

theorem mx_ne_top {S : Finset α} {s : α → Fin 16 → EReal} (hs : ∀ t o, s t o ≠ ⊤) : mx S s ≠ ⊤ := by
  unfold mx
  refine ne_of_lt ((Finset.sup_lt_iff bot_lt_top).mpr fun t _ => (Finset.sup_lt_iff bot_lt_top).mpr fun o _ => lt_top_iff_ne_top.mpr (hs t o))

theorem mx_empty (s : α → Fin 16 → EReal) : mx ∅ s = ⊥ := Finset.sup_empty
theorem wt_empty (s v : α → Fin 16 → EReal) (m : EReal) : wt ∅ s v m = 0 := Finset.sum_empty

theorem mx_union [DecidableEq α] (S T : Finset α) (s : α → Fin 16 → EReal) : mx (S ∪ T) s = max (mx S s) (mx T s) := Finset.sup_union

theorem wt_union [DecidableEq α] {S T : Finset α} (h : Disjoint S T) (s v : α → Fin 16 → EReal) (m : EReal) :
    wt (S ∪ T) s v m = wt S s v m + wt T s v m := Finset.sum_union h

/-- A weighted sum moved from its own maximum to a greater one. -/
theorem wt_rescale {S : Finset α} {s : α → Fin 16 → EReal} (v : α → Fin 16 → EReal) {M : EReal} (hs : ∀ t o, s t o ≠ ⊥)
    (h : mx S s ≤ M) (hM : M ≠ ⊤) : wt S s v (mx S s) * Ideal.exp (mx S s - M) = wt S s v M := by
  unfold wt
  rw [sum_mul_factor _ _ (exp_nonneg _) (exp_factor h hM)]
  refine Finset.sum_congr rfl fun t ht => ?_
  rw [sum_mul_factor _ _ (exp_nonneg _) (exp_factor h hM)]
  refine Finset.sum_congr rfl fun o _ => ?_
  rw [mul_right_comm, exp_chain (hs t o) (le_mx s ht o) h hM]

/-- A further set of entries added to a carried maximum and sum. -/
theorem wt_step [DecidableEq α] {S T : Finset α} (hd : Disjoint S T) {s : α → Fin 16 → EReal} (v : α → Fin 16 → EReal)
    (hs : ∀ t o, s t o ≠ ⊥) (hs' : ∀ t o, s t o ≠ ⊤) :
    wt S s v (mx S s) * Ideal.exp (mx S s - mx (S ∪ T) s) + wt T s v (mx (S ∪ T) s) = wt (S ∪ T) s v (mx (S ∪ T) s) := by
  rw [wt_union hd, wt_rescale v hs (by rw [mx_union]; exact le_max_left _ _) (mx_ne_top hs')]

/-- Two sets' maxima and sums merged. -/
theorem wt_merge [DecidableEq α] {S T : Finset α} (hd : Disjoint S T) {s : α → Fin 16 → EReal} (v : α → Fin 16 → EReal)
    (hs : ∀ t o, s t o ≠ ⊥) (hs' : ∀ t o, s t o ≠ ⊤) :
    Ideal.exp (mx S s - mx (S ∪ T) s) * wt S s v (mx S s) + Ideal.exp (mx T s - mx (S ∪ T) s) * wt T s v (mx T s)
      = wt (S ∪ T) s v (mx (S ∪ T) s) := by
  rw [wt_union hd, mul_comm, wt_rescale v hs (by rw [mx_union]; exact le_max_left _ _) (mx_ne_top hs'),
    mul_comm (Ideal.exp _), wt_rescale v hs (by rw [mx_union]; exact le_max_right _ _) (mx_ne_top hs')]

/-! ## The quotient -/

/-- The sum of the weights of a set with an entry is a positive real. -/
theorem wt_one_pos {S : Finset α} (hS : S.Nonempty) {s : α → Fin 16 → EReal} (hs : ∀ t o, s t o ≠ ⊥) (hs' : ∀ t o, s t o ≠ ⊤) :
    ∃ r : ℝ, 0 < r ∧ wt S s (fun _ _ => 1) (mx S s) = r := by
  obtain ⟨t₀, ht₀⟩ := hS
  have hb : mx S s ≠ ⊥ := fun h => hs t₀ 0 (le_bot_iff.mp (h ▸ le_mx s ht₀ 0))
  have ht := mx_ne_top (S := S) hs'
  generalize mx S s = m at hb ht
  lift m to ℝ using ⟨ht, hb⟩
  refine ⟨∑ t ∈ S, ∑ o : Fin 16, Real.exp ((s t o).toReal - m), ?_, ?_⟩
  · exact Finset.sum_pos (fun t _ => Finset.sum_pos (fun o _ => Real.exp_pos _) Finset.univ_nonempty) ⟨t₀, ht₀⟩
  · have hcast : ∀ {ι : Type} (U : Finset ι) (f : ι → ℝ), ((∑ i ∈ U, f i : ℝ) : EReal) = ∑ i ∈ U, (f i : EReal) := by
      intro ι U f
      classical
      induction U using Finset.induction_on with
      | empty => simp
      | insert a U ha ih => rw [Finset.sum_insert ha, Finset.sum_insert ha, EReal.coe_add, ih]
    unfold wt
    rw [hcast]
    refine Finset.sum_congr rfl fun t _ => ?_
    rw [hcast]
    refine Finset.sum_congr rfl fun o _ => ?_
    rw [mul_one, ← Ideal.exp_coe, EReal.coe_sub, EReal.coe_toReal (hs' t o) (hs t o)]

/-- Dividing every weight by a positive real divides the weighted sum by it. -/
theorem wt_div {S : Finset α} {s : α → Fin 16 → EReal} (v : α → Fin 16 → EReal) (m : EReal) {L : EReal} (hL : ∃ r : ℝ, 0 < r ∧ L = r) :
    ∑ t ∈ S, ∑ o : Fin 16, v t o * Ideal.div (Ideal.exp (s t o - m)) L = Ideal.div (wt S s v m) L := by
  obtain ⟨r, hr, rfl⟩ := hL
  have h0 : ((1 / r : ℝ) : EReal) ≥ 0 := by exact_mod_cast (one_div_pos.mpr hr).le
  have h1 : ((1 / r : ℝ) : EReal) ≠ ⊤ := EReal.coe_ne_top _
  rw [Ideal.div_coe hr.ne']
  unfold wt
  rw [sum_mul_factor _ _ h0 h1]
  refine Finset.sum_congr rfl fun t _ => ?_
  rw [sum_mul_factor _ _ h0 h1]
  refine Finset.sum_congr rfl fun o _ => ?_
  rw [Ideal.div_coe hr.ne', mul_left_comm, mul_assoc, mul_left_comm]

end Paged

end
-- ==== Proof.LaneSums.lean ====
/- Lanes taken in chunks of sixteen: a masked sum or maximum over the lanes is one over the entries of the live chunks. -/
module

public import proofs.«01_k».proof.Proof.Soft

@[expose] public section

noncomputable section

namespace Paged

open Idealize.ShloMosaic

/-- Position `o` of chunk `c`. -/
def lane {N K : ℕ} (hN : N = K * 16) (c : Fin K) (o : Fin 16) : Fin N := ⟨c.val * 16 + o.val, by have := c.isLt; have := o.isLt; omega⟩

theorem eq_lane {N K : ℕ} (hN : N = K * 16) (j : Fin N) :
    j = lane hN ⟨j.val / 16, by have := j.isLt; omega⟩ ⟨j.val % 16, Nat.mod_lt _ (by decide)⟩ :=
  Fin.ext (by show j.val = j.val / 16 * 16 + j.val % 16; omega)

/-- The entries of the live chunks: those from `b` on, below `n`. -/
def span (b K n : ℕ) : Finset ℕ := (Finset.Ico b (b + K)).filter (· < n)

theorem mem_span {b K n t : ℕ} : t ∈ span b K n ↔ (b ≤ t ∧ t < b + K) ∧ t < n := by
  unfold span; rw [Finset.mem_filter, Finset.mem_Ico]

theorem sum_lanes {N K : ℕ} (hN : N = K * 16) (b n : ℕ) (f : ℕ → Fin 16 → EReal) (g : Fin N → EReal)
    (hg : ∀ c o, g (lane hN c o) = if b + c.val < n then f (b + c.val) o else 0) : ∑ j, g j = ∑ t ∈ span b K n, ∑ o, f t o := by
  subst hN
  rw [← finProdFinEquiv.sum_comp g, Fintype.sum_prod_type]
  have h1 : ∀ c : Fin K, ∑ o : Fin 16, g (finProdFinEquiv (c, o)) = if b + c.val < n then ∑ o, f (b + c.val) o else 0 := by
    intro c
    have h2 : ∀ o : Fin 16, g (finProdFinEquiv (c, o)) = if b + c.val < n then f (b + c.val) o else 0 := by
      intro o
      rw [← hg c o]
      exact congrArg g (Fin.ext (by show o.val + 16 * c.val = c.val * 16 + o.val; omega))
    rw [Finset.sum_congr rfl fun o _ => h2 o]
    by_cases h : b + c.val < n
    · simp only [if_pos h]
    · simp only [if_neg h, Finset.sum_const_zero]
  rw [Finset.sum_congr rfl fun c _ => h1 c]
  unfold span
  rw [Finset.sum_filter, Finset.sum_Ico_eq_sum_range, Nat.add_sub_cancel_left, Finset.sum_range]

theorem max_lanes {N K : ℕ} (hN : N = K * 16) (b n : ℕ) (s : ℕ → Fin 16 → EReal) (g : Fin N → EReal)
    (hg : ∀ c o, g (lane hN c o) = if b + c.val < n then s (b + c.val) o else ⊥) : Finset.univ.fold max ⊥ g = mx (span b K n) s := by
  refine eq_of_forall_ge_iff fun x => ?_
  rw [Finset.fold_max_le, mx_le_iff]
  constructor
  · rintro ⟨-, h⟩ t ht o
    obtain ⟨⟨h1, h2⟩, h3⟩ := mem_span.mp ht
    have := h (lane hN ⟨t - b, by omega⟩ o) (Finset.mem_univ _)
    rw [hg, if_pos (by show b + (t - b) < n; omega)] at this
    simpa only [Nat.add_sub_cancel' h1] using this
  · intro h
    refine ⟨bot_le, fun j _ => ?_⟩
    rw [eq_lane hN j, hg]
    split_ifs with hl
    · exact h _ (mem_span.mpr ⟨⟨by omega, by show _ + j.val / 16 < _; have := j.isLt; omega⟩, hl⟩) _
    · exact bot_le

theorem sum_weights {N K : ℕ} (hN : N = K * 16) (b n : ℕ) (s v : ℕ → Fin 16 → EReal) (m : EReal) (g w : Fin N → EReal)
    (hg : ∀ c o, g (lane hN c o) = if b + c.val < n then s (b + c.val) o else ⊥)
    (hw : ∀ c o, b + c.val < n → w (lane hN c o) = v (b + c.val) o) : ∑ j, Ideal.exp (g j - m) * w j = wt (span b K n) s v m := by
  refine sum_lanes hN b n (fun t o => Ideal.exp (s t o - m) * v t o) _ fun c o => ?_
  show Ideal.exp (g (lane hN c o) - m) * w (lane hN c o) = _
  rw [hg]
  split_ifs with hl
  · rw [hw c o hl]
  · rw [EReal.bot_sub, Ideal.exp_bot, zero_mul]

theorem span_zero {K n : ℕ} (h : n ≤ K) : span 0 K n = Finset.range n := by
  ext t; rw [mem_span, Finset.mem_range]; omega

theorem range_succ_span (x n : ℕ) : Finset.range (min n (8 * (x + 1))) = Finset.range (min n (8 * x)) ∪ span (8 * x) 8 n := by
  ext t; rw [Finset.mem_union, mem_span, Finset.mem_range, Finset.mem_range]; omega

theorem range_span_disjoint (x n : ℕ) : Disjoint (Finset.range (min n (8 * x))) (span (8 * x) 8 n) :=
  Finset.disjoint_left.mpr fun t h1 h2 => by rw [mem_span] at h2; rw [Finset.mem_range] at h1; omega

end Paged

end
-- ==== Proof.StepMath.lean ====
/- A step of an item, read at its indices over the extended reals. -/
module

public import proofs.«01_k».proof.Proof.LaneSums
public import proofs.«01_k».proof.Proof.Item
public import Idealize.ShloMosaic.Lib.ValueLayout
public import Idealize.ShloMosaic.Lib.ValueLayoutCasts
public import Idealize.ShloMosaic.Lib.Pointwise.Contract
public import Idealize.ShloMosaic.PureOps.IdealRules

@[expose] public section

set_option maxRecDepth 16384

noncomputable section

namespace Paged

open Idealize.ShloMosaic hiding ix1 ix2 ix3 ix4 ix5 ix6
open Idealize.ShloMosaic.ValueIdx Idealize.ShloMosaic.Affine
open Idealize.ShloMosaic.PageRing (lit)
open Cert.KernelIdeal Cert.KernelIdeal.Facts₀ Cert.KernelIdeal.Facts

variable [Facts]

/-- The factor of every score: 1/√128. -/
def scale : EReal := ((Real.sqrt 128)⁻¹ : ℝ)

theorem h128 : 128 = 8 * 16 := rfl

theorem mask_bot : Named.named (F := Ideal) κ "mask" (φ := .f32) 0xF149F2CA#32 = (⊥ : EReal) :=
  IdealRules.named_const.ideal_named_scalar κ "mask" _ ⊥ (by simp [κ])

theorem scale_named : Named.named (F := Ideal) κ "s" (φ := .f32) 0x3DB504F3#32 = scale :=
  IdealRules.named_const.ideal_named_scalar κ "s" _ scale (by simp [κ, scale])

theorem ofBits_neg_inf : Ideal.ofBits .f32 0xFF800000#32 = (⊥ : EReal) := by simp [Ideal.ofBits, Ideal.ieee]

/-! ## The lanes of a step -/

theorem laneWord_int (x : ℕ) (hx : x < 2 ^ 20) (j : Fin 128) : IsInt (laneWord (BitVec.ofNat 32 x) (ix2 (0 : Fin 1) j)) (8 * x + j.val / 16 : ℕ) := by
  have hj := j.isLt
  have e : laneWord (BitVec.ofNat 32 x) (ix2 (0 : Fin 1) j)
      = Scalar.addi (Scalar.muli (BitVec.ofNat 32 x) 8#32) (fdiv (BitVec.ofNat 32 (0 * 128 + j.val)) (BitVec.ofNat 32 16)) := rfl
  rw [e, Nat.zero_mul, Nat.zero_add]
  refine Affine.addi (Affine.muli (lit x (by omega)) (lit 8) (e := 8 * x) ⟨by push_cast; omega, by omega, by omega⟩)
    (fdiv_isInt (lit j.val (by omega)) (by omega) 16 (by decide) (by decide) (by omega)) ⟨by push_cast; omega, by omega, by omega⟩

theorem live_iff (x n : ℕ) (hx : x < 2 ^ 20) (hn : n < 2 ^ 20) (j : Fin 128) :
    Scalar.cmpi .slt (laneWord (BitVec.ofNat 32 x) (ix2 (0 : Fin 1) j)) (BitVec.ofNat 32 n) = 1#1 ↔ 8 * x + j.val / 16 < n := by
  by_cases h : 8 * x + j.val / 16 < n
  · exact ⟨fun _ => h, fun _ => slt_holds (laneWord_int x hx j) (lit n (by omega)) (by omega)⟩
  · exact ⟨fun h' => absurd h' (slt_fails (laneWord_int x hx j) (lit n (by omega)) (by omega)), fun h' => absurd h' h⟩

/-! ## The products -/

theorem qk_apply (q : S8x128.Idx → EReal) (k : S128x8x128.Idx → EReal) (h : Fin 8) (j : Fin 128) :
    matmul (F := Ideal) (φ₁ := .f32) (φ₂ := .f32) dot_S8x128_S128x8x128_S8x128_1_2_n_0_0_1 none q k (constant S8x128 .f32 0x00000000#32) (ix2 h j)
      = ∑ d : Fin 128, q (ix2 h d) * k (ix3 j h d) := by
  refine (Ideal.matmul_constant_zero_apply _ none q k (ix2 h j)).trans ?_
  rw [DotDims.sum_contr₁ dot_S8x128_S128x8x128_S8x128_1_2_n_0_0_1 (a := 1) rfl (K := 128) rfl]
  refine Finset.sum_congr rfl fun d _ => congrArg₂ _ (congrArg q ?_) (congrArg k ?_)
  · funext a; match a with | ⟨0, _⟩ => rfl | ⟨1, _⟩ => rfl
  · funext a; match a with | ⟨0, _⟩ => rfl | ⟨1, _⟩ => rfl | ⟨2, _⟩ => rfl

theorem pv_apply (p : S8x128.Idx → EReal) (v : S128x8x128.Idx → EReal) (h : Fin 8) (l : Fin 128) :
    matmul (F := Ideal) (φ₁ := .f32) (φ₂ := .f32) dot_S8x128_S128x8x128_S8x128_1_0_n_2_0_1 none p v (constant S8x128 .f32 0x00000000#32) (ix2 h l)
      = ∑ j : Fin 128, p (ix2 h j) * v (ix3 j h l) := by
  refine (Ideal.matmul_constant_zero_apply _ none p v (ix2 h l)).trans ?_
  rw [DotDims.sum_contr₁ dot_S8x128_S128x8x128_S8x128_1_0_n_2_0_1 (a := 1) rfl (K := 128) rfl]
  refine Finset.sum_congr rfl fun d _ => congrArg₂ _ (congrArg p ?_) (congrArg v ?_)
  · funext a; match a with | ⟨0, _⟩ => rfl | ⟨1, _⟩ => rfl
  · funext a; match a with | ⟨0, _⟩ => rfl | ⟨1, _⟩ => rfl | ⟨2, _⟩ => rfl

theorem scores_apply (x n : ℕ) (hx : x < 2 ^ 20) (hn : n < 2 ^ 20) (q : S8x128.Idx → EReal) (k : S128x8x128.Idx → EReal) (h : Fin 8)
    (j : Fin 128) : scores (F := Ideal) (BitVec.ofNat 32 x) (BitVec.ofNat 32 n) q k (ix2 h j)
      = if 8 * x + j.val / 16 < n then (∑ d : Fin 128, q (ix2 h d) * k (ix3 j h d)) * scale else ⊥ := by
  have e : scores (F := Ideal) (BitVec.ofNat 32 x) (BitVec.ofNat 32 n) q k (ix2 h j)
      = Scalar.select (broadcastTo S8x128 (shapeCast S1x128 (cmpi .slt (laneWord (BitVec.ofNat 32 x)) (broadcast S1x128 (BitVec.ofNat 32 n))) shapeCasts_S1x128_S1x128) broadcasts_S1x128_S8x128 (ix2 h j))
        (matmul (F := Ideal) (φ₁ := .f32) (φ₂ := .f32) dot_S8x128_S128x8x128_S8x128_1_2_n_0_0_1 none q k (constant S8x128 .f32 0x00000000#32) (ix2 h j)
          * Named.named (F := Ideal) κ "s" (φ := .f32) 0x3DB504F3#32)
        (Named.named (F := Ideal) κ "mask" (φ := .f32) 0xF149F2CA#32) := rfl
  rw [e, mask_bot, scale_named, qk_apply, shapeCast_self, broadcastTo_apply _ _ _ (ix2 (0 : Fin 1) j) (fun a => by match a with | ⟨0, _⟩ => rfl | ⟨1, _⟩ => rfl)]
  by_cases hl : 8 * x + j.val / 16 < n
  · rw [if_pos hl]; exact if_pos ((live_iff x n hx hn j).mpr hl)
  · rw [if_neg hl]; exact if_neg fun h' => hl ((live_iff x n hx hn j).mp h')

/-! ## The loaded pages -/

/-- A half buffer's lanes. -/
theorem cast_apply {α : Type} (kc : S1x8x16x8x128.Idx → α) (c : Fin 8) (o : Fin 16) (h : Fin 8) (d : Fin 128) :
    shapeCast S128x8x128 (shapeCast S8x16x8x128 kc shapeCasts_S1x8x16x8x128_S8x16x8x128) shapeCasts_S8x16x8x128_S128x8x128 (ix3 (lane h128 c o) h d)
      = kc (ix5 (0 : Fin 1) c o h d) := by
  rw [shapeCast_apply _ _ _ (ix4 c o h d) (by
    rw [Shape.rowMajor_val_four, Shape.rowMajor_val_three]
    show ((c.val * 16 + o.val) * 8 + h.val) * 128 + d.val = ((c.val * 16 + o.val) * 8 + h.val) * 128 + d.val
    rfl)]
  exact shapeCast_apply _ _ _ (ix5 (0 : Fin 1) c o h d) (by
    rw [Shape.rowMajor_val_four, Shape.rowMajor_val_five]
    show (((0 * 8 + c.val) * 16 + o.val) * 8 + h.val) * 128 + d.val = ((c.val * 16 + o.val) * 8 + h.val) * 128 + d.val
    rw [Nat.zero_mul, Nat.zero_add])

/-- The score of position `o` of the page a word names. -/
def pageScore (q : S8x128.Idx → EReal) (kv : S512x16x8x128.Idx → EReal) (h : Fin 8) (w : BitVec 32) (o : Fin 16) : EReal :=
  (∑ d : Fin 128, q (ix2 h d) * kv (ix4 (pageIx w) o h d)) * scale

/-- The value there. -/
def pageVal (vv : S512x16x8x128.Idx → EReal) (h : Fin 8) (l : Fin 128) (w : BitVec 32) (o : Fin 16) : EReal := vv (ix4 (pageIx w) o h l)

/-- The keys or values of a step. -/
abbrev lanesOf (tab : ℕ → BitVec 32) (kv : S512x16x8x128.Idx → EReal) (x : ℕ) : S128x8x128.Idx → EReal :=
  shapeCast S128x8x128 (shapeCast S8x16x8x128 (halfVal tab kv x) shapeCasts_S1x8x16x8x128_S8x16x8x128) shapeCasts_S8x16x8x128_S128x8x128

theorem step_score (x n : ℕ) (hx : x < 2 ^ 20) (hn : n < 2 ^ 20) (q : S8x128.Idx → EReal) (tab : ℕ → BitVec 32) (kv : S512x16x8x128.Idx → EReal)
    (h : Fin 8) (c : Fin 8) (o : Fin 16) :
    scores (F := Ideal) (BitVec.ofNat 32 x) (BitVec.ofNat 32 n) q (lanesOf tab kv x) (ix2 h (lane h128 c o))
      = if 8 * x + c.val < n then pageScore q kv h (tab (8 * x + c.val)) o else ⊥ := by
  have ho := o.isLt
  rw [scores_apply x n hx hn]
  have e : 8 * x + (lane h128 c o).val / 16 = 8 * x + c.val := by show 8 * x + (c.val * 16 + o.val) / 16 = _; omega
  rw [e]
  refine if_congr Iff.rfl ?_ rfl
  unfold pageScore
  refine congrArg (· * scale) (Finset.sum_congr rfl fun d _ => congrArg (q (ix2 h d) * ·) ?_)
  exact cast_apply (halfVal tab kv x) c o h d

/-! ## A row's maximum and sum -/

theorem row_max (s : S8x128.Idx → EReal) (h : Fin 8) :
    multiReduction (F := Ideal) (φ := .f32) .maximumf [1] S8 s 0xFF800000#32 reduces_S8x128_S8 (.inl rfl) rfl (ix1 h)
      = Finset.univ.fold max ⊥ fun j : Fin 128 => s (ix2 h j) := by
  refine (Ideal.multiReduction_maximumf_single (φ := .f32) s _ reduces_S8x128_S8 (.inl rfl) rfl (ix1 h)).trans ?_
  show Finset.univ.fold max (Ideal.ofBits .f32 0xFF800000#32) _ = _
  rw [ofBits_neg_inf]
  refine Finset.fold_congr fun (j : Fin 128) _ => congrArg s ?_
  funext b; match b with | ⟨0, _⟩ => rfl | ⟨1, _⟩ => rfl

theorem row_sum (s : S8x128.Idx → EReal) (h : Fin 8) :
    multiReduction (F := Ideal) (φ := .f32) .add [1] S8 s 0x00000000#32 reduces_S8x128_S8 (.inl rfl) rfl (ix1 h) = ∑ j : Fin 128, s (ix2 h j) := by
  refine (Ideal.multiReduction_add_single (φ := .f32) s _ reduces_S8x128_S8 (.inl rfl) rfl (ix1 h)).trans ?_
  refine Finset.sum_congr rfl fun (j : Fin 128) _ => congrArg s ?_
  funext b; match b with | ⟨0, _⟩ => rfl | ⟨1, _⟩ => rfl

/-! ## A step -/

variable (x n : ℕ) (q : S8x128.Idx → EReal) (tab : ℕ → BitVec 32) (kv vv : S512x16x8x128.Idx → EReal) (a : Carry Ideal) (h : Fin 8) (l : Fin 128)

/-- A step's scores. -/
abbrev stepScores : S8x128.Idx → EReal := scores (F := Ideal) (BitVec.ofNat 32 x) (BitVec.ofNat 32 n) q (lanesOf tab kv x)

/-- A step. -/
abbrev stepOf : Carry Ideal := stepVal (F := Ideal) (ivW x) (BitVec.ofNat 32 n) q (halfVal tab kv x) (halfVal tab vv x) a

theorem step_max : (stepOf x n q tab kv vv a).1 (ix2 h (0 : Fin 1))
    = max (a.1 (ix2 h (0 : Fin 1))) (Finset.univ.fold max ⊥ fun j : Fin 128 => stepScores x n q tab kv (ix2 h j)) := by
  have e : (stepOf x n q tab kv vv a).1 (ix2 h (0 : Fin 1)) = max (a.1 (ix2 h (0 : Fin 1)))
      (shapeCast S8x1 (multiReduction (F := Ideal) .maximumf [1] S8 (stepScores x n q tab kv) 0xFF800000#32 reduces_S8x128_S8 (.inl rfl) rfl) shapeCasts_S8_S8x1 (ix2 h (0 : Fin 1))) := by
    rw [stepOf, ivW_eq]; rfl
  rw [e, shapeCast_a_a1_apply]
  exact congrArg _ (row_max _ h)

/-- The weights of a step. -/
abbrev stepP : S8x128.Idx → EReal :=
  exp (F := Ideal) (φ := .f32) (subf (F := Ideal) (stepScores x n q tab kv) (broadcastTo S8x128 (stepOf x n q tab kv vv a).1 broadcasts_S8x1_S8x128))

theorem stepP_apply (j : Fin 128) : stepP x n q tab kv vv a (ix2 h j)
    = Ideal.exp (stepScores x n q tab kv (ix2 h j) - (stepOf x n q tab kv vv a).1 (ix2 h (0 : Fin 1))) := by
  show Ideal.exp (_ - broadcastTo S8x128 (stepOf x n q tab kv vv a).1 broadcasts_S8x1_S8x128 (ix2 h j)) = _
  rw [broadcastTo_apply _ _ _ (ix2 h (0 : Fin 1)) (fun a => by match a with | ⟨0, _⟩ => rfl | ⟨1, _⟩ => rfl)]

theorem step_sum : (stepOf x n q tab kv vv a).2.1 (ix2 h (0 : Fin 1))
    = a.2.1 (ix2 h (0 : Fin 1)) * Ideal.exp (a.1 (ix2 h (0 : Fin 1)) - (stepOf x n q tab kv vv a).1 (ix2 h (0 : Fin 1)))
      + ∑ j : Fin 128, Ideal.exp (stepScores x n q tab kv (ix2 h j) - (stepOf x n q tab kv vv a).1 (ix2 h (0 : Fin 1))) * 1 := by
  have e : (stepOf x n q tab kv vv a).2.1 (ix2 h (0 : Fin 1))
      = a.2.1 (ix2 h (0 : Fin 1)) * Ideal.exp (a.1 (ix2 h (0 : Fin 1)) - (stepOf x n q tab kv vv a).1 (ix2 h (0 : Fin 1)))
        + shapeCast S8x1 (multiReduction (F := Ideal) .add [1] S8 (stepP x n q tab kv vv a) 0x00000000#32 reduces_S8x128_S8 (.inl rfl) rfl) shapeCasts_S8_S8x1 (ix2 h (0 : Fin 1)) := by
    unfold stepP stepOf; rw [ivW_eq]; rfl
  rw [e, shapeCast_a_a1_apply]
  refine congrArg _ ((row_sum _ h).trans (Finset.sum_congr rfl fun j _ => ?_))
  rw [mul_one, ← stepP_apply]

theorem step_acc : (stepOf x n q tab kv vv a).2.2 (ix2 h l)
    = a.2.2 (ix2 h l) * Ideal.exp (a.1 (ix2 h (0 : Fin 1)) - (stepOf x n q tab kv vv a).1 (ix2 h (0 : Fin 1)))
      + ∑ j : Fin 128, Ideal.exp (stepScores x n q tab kv (ix2 h j) - (stepOf x n q tab kv vv a).1 (ix2 h (0 : Fin 1))) * lanesOf tab vv x (ix3 j h l) := by
  have e : (stepOf x n q tab kv vv a).2.2 (ix2 h l)
      = a.2.2 (ix2 h l) * broadcastTo S8x128 (exp (F := Ideal) (φ := .f32) (subf (F := Ideal) a.1 (stepOf x n q tab kv vv a).1)) broadcasts_S8x1_S8x128 (ix2 h l)
        + matmul (F := Ideal) (φ₁ := .f32) (φ₂ := .f32) dot_S8x128_S128x8x128_S8x128_1_0_n_2_0_1 none (stepP x n q tab kv vv a) (lanesOf tab vv x) (constant S8x128 .f32 0x00000000#32) (ix2 h l) := by
    unfold stepP stepOf; rw [ivW_eq]; rfl
  rw [e, broadcastTo_apply _ _ _ (ix2 h (0 : Fin 1)) (fun a => by match a with | ⟨0, _⟩ => rfl | ⟨1, _⟩ => rfl), pv_apply]
  refine congrArg₂ (· + ·) rfl (Finset.sum_congr rfl fun j _ => ?_)
  rw [stepP_apply]

end Paged

end
-- ==== Proof.ItemMath.lean ====
/- An item's carry: the maximum and the weighted sums over the slots of the row that the device keeps. -/
module

public import proofs.«01_k».proof.Proof.StepMath

@[expose] public section

set_option maxRecDepth 16384

noncomputable section

namespace Paged

open Idealize.ShloMosaic hiding ix1 ix2 ix3 ix4 ix5 ix6
open Idealize.ShloMosaic.ValueIdx Idealize.ShloMosaic.Affine
open Idealize.ShloMosaic.PageRing (lit)
open Cert.KernelIdeal Cert.KernelIdeal.Facts₀ Cert.KernelIdeal.Facts

theorem dev_z : ∀ d : Dev nD, Scalar.remsi (Scalar.divsi (Dev.word d) 1#32) 2#32 = BitVec.ofNat 32 (d.val % 2) := by decide +kernel
theorem qd_half : ∀ d : Dev nD, qd d = d.val / 2 := by decide +kernel

/-! ## Sets re-indexed, scores changed outside the set -/

theorem mx_image (S : Finset ℕ) (g : ℕ → ℕ) (s : ℕ → Fin 16 → EReal) : mx (S.image g) s = mx S fun k => s (g k) := Finset.sup_image _ _ _

theorem wt_image (S : Finset ℕ) (g : ℕ → ℕ) (hg : Set.InjOn g S) (s v : ℕ → Fin 16 → EReal) (m : EReal) :
    wt (S.image g) s v m = wt S (fun k => s (g k)) (fun k => v (g k)) m := Finset.sum_image hg

theorem mx_congr {S : Finset ℕ} {s s' : ℕ → Fin 16 → EReal} (h : ∀ t ∈ S, s t = s' t) : mx S s = mx S s' :=
  Finset.sup_congr rfl fun t ht => by rw [h t ht]

theorem wt_congr {S : Finset ℕ} {s s' v v' : ℕ → Fin 16 → EReal} (m : EReal) (h : ∀ t ∈ S, s t = s' t) (h' : ∀ t ∈ S, v t = v' t) :
    wt S s v m = wt S s' v' m :=
  Finset.sum_congr rfl fun t ht => by rw [h t ht, h' t ht]

/-- A triple of maximum, sum of weights and weighted sum is that of a set. -/
def Soft (S : Finset ℕ) (s v : ℕ → Fin 16 → EReal) (m l a : EReal) : Prop :=
  m = mx S s ∧ l = wt S s (fun _ _ => 1) (mx S s) ∧ a = wt S s v (mx S s)

theorem Soft.congr {S : Finset ℕ} {s s' v v' : ℕ → Fin 16 → EReal} {m l a : EReal} (H : Soft S s v m l a) (h : ∀ t ∈ S, s t = s' t)
    (h' : ∀ t ∈ S, v t = v' t) : Soft S s' v' m l a := by
  obtain ⟨h1, h2, h3⟩ := H
  rw [mx_congr h] at h1 h2 h3
  exact ⟨h1, h2.trans (wt_congr _ h fun _ _ => rfl), h3.trans (wt_congr _ h h')⟩

theorem Soft.image {S : Finset ℕ} {g : ℕ → ℕ} (hg : Set.InjOn g S) {s v : ℕ → Fin 16 → EReal} {m l a : EReal}
    (H : Soft S (fun k => s (g k)) (fun k => v (g k)) m l a) : Soft (S.image g) s v m l a := by
  obtain ⟨h1, h2, h3⟩ := H
  refine ⟨by rw [mx_image]; exact h1, ?_, ?_⟩
  · rw [mx_image, wt_image S g hg]; exact h2
  · rw [mx_image, wt_image S g hg]; exact h3

variable [Facts]

/-! ## The carry -/

theorem carry_soft (n : ℕ) (hn : n ≤ 128) (q : S8x128.Idx → EReal) (tab : ℕ → BitVec 32) (kv vv : S512x16x8x128.Idx → EReal) (h : Fin 8) (l : Fin 128)
    (hs : ∀ w o, pageScore q kv h w o ≠ ⊥) (hs' : ∀ w o, pageScore q kv h w o ≠ ⊤) : ∀ x, x ≤ 128 →
    Soft (Finset.range (min n (8 * x))) (fun k => pageScore q kv h (tab k)) (fun k => pageVal vv h l (tab k))
      ((carryAt (F := Ideal) n q tab kv vv x).1 (ix2 h (0 : Fin 1))) ((carryAt (F := Ideal) n q tab kv vv x).2.1 (ix2 h (0 : Fin 1)))
      ((carryAt (F := Ideal) n q tab kv vv x).2.2 (ix2 h l))
  | 0, _ => by
    have e : Finset.range (min n (8 * 0)) = ∅ := by rw [Nat.mul_zero, Nat.min_zero, Finset.range_zero]
    rw [e]
    refine ⟨?_, ?_, ?_⟩
    · rw [mx_empty]; exact mask_bot
    · rw [wt_empty]; exact Ideal.ofBits_zero_f32
    · rw [wt_empty]; exact Ideal.ofBits_zero_f32
  | x + 1, hx => by
    obtain ⟨h1, h2, h3⟩ := carry_soft n hn q tab kv vv h l hs hs' x (by omega)
    have hg := step_score x n (by omega) (by omega) q tab kv h
    set a := carryAt (F := Ideal) n q tab kv vv x
    have hm := step_max x n q tab kv vv a h
    rw [max_lanes h128 (8 * x) n (fun k => pageScore q kv h (tab k)) _ hg, h1, ← mx_union, ← range_succ_span] at hm
    have hd := range_span_disjoint x n
    refine ⟨hm, ?_, ?_⟩
    · refine (step_sum x n q tab kv vv a h).trans ?_
      rw [hm, h2, h1, sum_weights h128 (8 * x) n (fun k => pageScore q kv h (tab k)) (fun _ _ => 1) _ _ (fun _ => 1) hg (fun _ _ _ => rfl),
        range_succ_span]
      exact wt_step hd _ (fun _ => hs _) (fun _ => hs' _)
    · refine (step_acc x n q tab kv vv a h l).trans ?_
      rw [hm, h3, h1, sum_weights h128 (8 * x) n (fun k => pageScore q kv h (tab k)) (fun k => pageVal vv h l (tab k)) _ _
        (fun j => lanesOf tab vv x (ix3 j h l)) hg (fun c o _ => cast_apply (halfVal tab vv x) c o h l), range_succ_span]
      exact wt_step hd _ (fun _ => hs _) (fun _ => hs' _)

/-! ## The slots a device keeps -/

/-- The slots among the first `N` that device `d` keeps. -/
def keptSlots (d : Dev nD) (row : ℕ → BitVec 32) (N : ℕ) : Finset ℕ :=
  (Finset.range N).filter fun t => t % 4 = qd d ∧ keep.k0_cond1' d (row t) = 1#1

/-- The kept slots, in order. -/
def slotList (d : Dev nD) (row : ℕ → BitVec 32) (T : ℕ) : List ℕ :=
  ((List.range T).map fun s => qd d + 4 * s).filter fun t => keep.k0_cond1' d (row t) = 1#1

theorem kept_eq (d : Dev nD) (row : ℕ → BitVec 32) (T : ℕ) : kept d row T = (slotList d row T).map row := by
  unfold kept slotList
  have e : ((List.range T).map fun s => row (qd d + 4 * s)) = ((List.range T).map fun s => qd d + 4 * s).map row := List.map_map.symm
  rw [e, List.filter_map]
  rfl

theorem slotList_nodup (d : Dev nD) (row : ℕ → BitVec 32) (T : ℕ) : (slotList d row T).Nodup :=
  (List.Nodup.map (fun a b (h : qd d + 4 * a = qd d + 4 * b) => by omega) List.nodup_range).filter _

theorem mem_slotList (d : Dev nD) (row : ℕ → BitVec 32) (w : BitVec 32) (t : ℕ) :
    t ∈ slotList d row (trips1 d w) ↔ t ∈ keptSlots d row w.toInt.toNat := by
  have hq := qd_lt d
  unfold slotList keptSlots trips1
  rw [List.mem_filter, Finset.mem_filter, Finset.mem_range, List.mem_map, decide_eq_true_eq]
  constructor
  · rintro ⟨⟨s, hs, rfl⟩, hc⟩
    rw [List.mem_range] at hs
    exact ⟨by omega, by omega, hc⟩
  · rintro ⟨h1, h2, hc⟩
    exact ⟨⟨t / 4, List.mem_range.mpr (by omega), by omega⟩, hc⟩

theorem getD_of_lt {α : Type} (l : List α) (z : α) {k : ℕ} (h : k < l.length) : l.getD k z = l[k] := by
  rw [List.getD, List.getElem?_eq_getElem h, Option.getD_some]

theorem slots_image (d : Dev nD) (row : ℕ → BitVec 32) (w : BitVec 32) :
    (Finset.range (slotList d row (trips1 d w)).length).image (fun k => (slotList d row (trips1 d w)).getD k 0) = keptSlots d row w.toInt.toNat := by
  ext t
  rw [← mem_slotList, Finset.mem_image]
  constructor
  · rintro ⟨k, hk, rfl⟩
    rw [Finset.mem_range] at hk
    rw [getD_of_lt _ _ hk]
    exact List.getElem_mem hk
  · intro ht
    obtain ⟨k, hk, rfl⟩ := List.mem_iff_getElem.mp ht
    exact ⟨k, Finset.mem_range.mpr hk, getD_of_lt _ _ hk⟩

theorem slots_inj (l : List ℕ) (hl : l.Nodup) : Set.InjOn (fun k => l.getD k 0) (Finset.range l.length : Finset ℕ) := by
  intro a ha b hb hab
  have ha' := Finset.mem_range.mp (Finset.mem_coe.mp ha)
  have hb' := Finset.mem_range.mp (Finset.mem_coe.mp hb)
  dsimp only at hab
  rw [getD_of_lt _ _ ha', getD_of_lt _ _ hb'] at hab
  exact (List.Nodup.getElem_inj_iff hl).mp hab

theorem pageIx_local (w : BitVec 32) : pageIx (Scalar.andi w 511#32) = pageIx w := by
  refine Fin.ext ?_
  show ((w &&& 511#32) &&& 511#32).toNat = (w &&& 511#32).toNat
  rw [BitVec.and_assoc, BitVec.and_self]

/-! ## An item -/

theorem item_soft (D : Data Ideal) (d : Dev nD) (i : Fin 8) (hw : (D.ln (ix1 i)).toInt ≤ 512) (a : Carry Ideal) (H : ItemRes D d i a)
    (h : Fin 8) (l : Fin 128) (hs : ∀ w o, pageScore (qRow (F := Ideal) D.q i.val i.isLt) D.kv h w o ≠ ⊥)
    (hs' : ∀ w o, pageScore (qRow (F := Ideal) D.q i.val i.isLt) D.kv h w o ≠ ⊤) :
    Soft (keptSlots d (rowOf D.bt i) (D.ln (ix1 i)).toInt.toNat) (fun t => pageScore (qRow (F := Ideal) D.q i.val i.isLt) D.kv h (rowOf D.bt i t))
      (fun t => pageVal D.vv h l (rowOf D.bt i t)) (a.1 (ix2 h (0 : Fin 1))) (a.2.1 (ix2 h (0 : Fin 1))) (a.2.2 (ix2 h l)) := by
  obtain ⟨tab, htab, rfl⟩ := H
  have hlen : (D.list d i).length ≤ 128 := (kept_length d _ _).trans (trips1_le d _ hw)
  have hc := carry_soft (D.list d i).length hlen (qRow (F := Ideal) D.q i.val i.isLt) tab D.kv D.vv h l hs hs' (stepsOf (D.list d i).length)
    (by unfold stepsOf; omega)
  rw [Nat.min_eq_left (by unfold stepsOf; omega)] at hc
  have hl : (D.list d i).length = (slotList d (rowOf D.bt i) (trips1 d (D.ln (ix1 i)))).length := by
    rw [Data.list, kept_eq, List.length_map]
  have ht : ∀ t ∈ Finset.range (D.list d i).length,
      pageIx (tab t) = pageIx (rowOf D.bt i ((slotList d (rowOf D.bt i) (trips1 d (D.ln (ix1 i)))).getD t 0)) := by
    intro t ht
    rw [Finset.mem_range] at ht
    have ht' := ht; rw [hl] at ht'
    rw [htab t ht, pageIx_local]
    refine congrArg pageIx ?_
    rw [getD_of_lt _ _ ht, getD_of_lt _ _ ht']
    simp only [Data.list, kept_eq, List.getElem_map]
  rw [← slots_image]
  refine Soft.image (slots_inj _ (slotList_nodup _ _ _)) ?_
  rw [← hl]
  refine hc.congr (fun t h' => ?_) (fun t h' => ?_)
  · funext o; unfold pageScore; rw [ht t h']
  · funext o; unfold pageVal; rw [ht t h']

end Paged

end
-- ==== Proof.MergeMath.lean ====
/- The merges of the devices' partial results, read at their indices over the extended reals: after the three phases
   every device holds the maximum and the weighted sums of the whole row. -/
module

public import proofs.«01_k».proof.Proof.ItemMath
public import proofs.«01_k».proof.Proof.Proto

@[expose] public section

set_option maxRecDepth 16384

noncomputable section

namespace Paged

open Idealize.ShloMosaic hiding ix1 ix2 ix3 ix4 ix5 ix6
open Idealize.ShloMosaic.ValueIdx Idealize.ShloMosaic.Affine
open Idealize.ShloMosaic.PageRing (lit)
open Cert.KernelIdeal Cert.KernelIdeal.Facts₀ Cert.KernelIdeal.Facts

variable [Facts]

/-! ## A merge at an index -/

variable (m1 m2 : MlT Ideal) (a1 a2 : AccT Ideal) (i h : Fin 8) (l : Fin 128)

theorem half_apply (m : MlT Ideal) (j : ℕ) (hj : j < 2) :
    shapeCast S8x8 (halfOf (F := Ideal) j hj m) shapeCasts_S1x8x8_S8x8 (ix2 i h) = m (ix3 (⟨j, hj⟩ : Fin 2) i h) := by
  rw [shapeCast_1ab_ab_apply]
  refine congrArg m ?_
  funext b
  match b with
  | ⟨0, _⟩ => exact Fin.ext (by show j + 1 * 0 = j; omega)
  | ⟨1, _⟩ => exact Fin.ext (by show 0 + 1 * i.val = i.val; omega)
  | ⟨2, _⟩ => exact Fin.ext (by show 0 + 1 * h.val = h.val; omega)

theorem half4_apply (m : MlT Ideal) (j : ℕ) (hj : j < 2) :
    shapeCast S8x8 (halfOf4 (F := Ideal) j hj m) shapeCasts_S1x1x8x8_S8x8 (ix2 i h) = m (ix3 (⟨j, hj⟩ : Fin 2) i h) := by
  refine (shapeCast_apply _ _ _ (ix4 (0 : Fin 1) (0 : Fin 1) i h) ?_).trans rfl
  rw [Shape.rowMajor_val_four, Shape.rowMajor_val_two]
  show ((0 * 1 + 0) * 8 + i.val) * 8 + h.val = i.val * 8 + h.val
  omega

theorem acc_apply (a : AccT Ideal) : accOf (F := Ideal) a (ix3 i h l) = a (ix3 i h l) := by
  refine congrArg a ?_
  funext b
  match b with
  | ⟨0, _⟩ => exact Fin.ext (by show 0 + 1 * i.val = i.val; omega)
  | ⟨1, _⟩ => exact Fin.ext (by show 0 + 1 * h.val = h.val; omega)
  | ⟨2, _⟩ => exact Fin.ext (by show 0 + 1 * l.val = l.val; omega)

theorem acc4_apply (a : AccT Ideal) :
    shapeCast S8x8x128 (accOf4 (F := Ideal) a) shapeCasts_S1x8x8x128_S8x8x128 (ix3 i h l) = a (ix3 i h l) :=
  (shapeCast_1abc_abc_apply _ _ i h l).trans rfl

/-- A factor of a row, at each of its lanes. -/
theorem lanes_apply (e : S8x8.Idx → EReal) :
    broadcastTo S8x8x128 (shapeCast S8x8x1 e shapeCasts_S8x8_S8x8x1) broadcasts_S8x8x1_S8x8x128 (ix3 i h l) = e (ix2 i h) := by
  rw [broadcastTo_apply _ _ _ (ix3 i h (0 : Fin 1)) (fun a => by match a with | ⟨0, _⟩ => rfl | ⟨1, _⟩ => rfl | ⟨2, _⟩ => rfl)]
  refine shapeCast_apply _ _ _ (ix2 i h) ?_
  rw [Shape.rowMajor_val_two, Shape.rowMajor_val_three]
  show i.val * 8 + h.val = (i.val * 8 + h.val) * 1 + 0
  omega

theorem mrg_max : (mrg (F := Ideal) m1 m2 a1 a2).1 (ix2 i h) = max (m1 (ix3 (0 : Fin 2) i h)) (m2 (ix3 (0 : Fin 2) i h)) :=
  congrArg₂ max (half_apply i h m1 0 (by decide)) (half4_apply i h m2 0 (by decide))

theorem mrg_sum : (mrg (F := Ideal) m1 m2 a1 a2).2.1 (ix2 i h)
    = Ideal.exp (m1 (ix3 (0 : Fin 2) i h) - (mrg (F := Ideal) m1 m2 a1 a2).1 (ix2 i h)) * m1 (ix3 (1 : Fin 2) i h)
      + Ideal.exp (m2 (ix3 (0 : Fin 2) i h) - (mrg (F := Ideal) m1 m2 a1 a2).1 (ix2 i h)) * m2 (ix3 (1 : Fin 2) i h) := by
  have e : (mrg (F := Ideal) m1 m2 a1 a2).2.1 (ix2 i h)
      = Ideal.exp (shapeCast S8x8 (halfOf (F := Ideal) 0 (by decide) m1) shapeCasts_S1x8x8_S8x8 (ix2 i h) - (mrg (F := Ideal) m1 m2 a1 a2).1 (ix2 i h))
          * shapeCast S8x8 (halfOf (F := Ideal) 1 (by decide) m1) shapeCasts_S1x8x8_S8x8 (ix2 i h)
        + Ideal.exp (shapeCast S8x8 (halfOf4 (F := Ideal) 0 (by decide) m2) shapeCasts_S1x1x8x8_S8x8 (ix2 i h) - (mrg (F := Ideal) m1 m2 a1 a2).1 (ix2 i h))
          * shapeCast S8x8 (halfOf4 (F := Ideal) 1 (by decide) m2) shapeCasts_S1x1x8x8_S8x8 (ix2 i h) := rfl
  rw [e, half_apply, half_apply, half4_apply, half4_apply]
  rfl

theorem mrg_acc : (mrg (F := Ideal) m1 m2 a1 a2).2.2 (ix3 i h l)
    = Ideal.exp (m1 (ix3 (0 : Fin 2) i h) - (mrg (F := Ideal) m1 m2 a1 a2).1 (ix2 i h)) * a1 (ix3 i h l)
      + Ideal.exp (m2 (ix3 (0 : Fin 2) i h) - (mrg (F := Ideal) m1 m2 a1 a2).1 (ix2 i h)) * a2 (ix3 i h l) := by
  have e : (mrg (F := Ideal) m1 m2 a1 a2).2.2 (ix3 i h l)
      = broadcastTo S8x8x128 (shapeCast S8x8x1 (exp (F := Ideal) (φ := .f32) (subf (F := Ideal) (shapeCast S8x8 (halfOf (F := Ideal) 0 (by decide) m1) shapeCasts_S1x8x8_S8x8) (mrg (F := Ideal) m1 m2 a1 a2).1)) shapeCasts_S8x8_S8x8x1) broadcasts_S8x8x1_S8x8x128 (ix3 i h l)
          * accOf (F := Ideal) a1 (ix3 i h l)
        + broadcastTo S8x8x128 (shapeCast S8x8x1 (exp (F := Ideal) (φ := .f32) (subf (F := Ideal) (shapeCast S8x8 (halfOf4 (F := Ideal) 0 (by decide) m2) shapeCasts_S1x1x8x8_S8x8) (mrg (F := Ideal) m1 m2 a1 a2).1)) shapeCasts_S8x8_S8x8x1) broadcasts_S8x8x1_S8x8x128 (ix3 i h l)
          * shapeCast S8x8x128 (accOf4 (F := Ideal) a2) shapeCasts_S1x8x8x128_S8x8x128 (ix3 i h l) := rfl
  rw [e, lanes_apply, lanes_apply, acc_apply, acc4_apply]
  refine congrArg₂ (· + ·) (congrArg (· * _) ?_) (congrArg (· * _) ?_)
  · show Ideal.exp (_ - _) = _
    rw [half_apply]; rfl
  · show Ideal.exp (_ - _) = _
    rw [half4_apply]; rfl

theorem out_apply (r : Merged Ideal) (u : Fin 1) : outVal (F := Ideal) r (ix4 i u h l) = Ideal.div (r.2.2 (ix3 i h l)) (r.2.1 (ix2 i h)) := by
  refine (shapeCast_apply _ _ _ (ix3 i h l) ?_).trans ?_
  · have hu := u.isLt
    rw [Shape.rowMajor_val_three, Shape.rowMajor_val_four]
    show (i.val * 8 + h.val) * 128 + l.val = ((i.val * 1 + u.val) * 8 + h.val) * 128 + l.val
    omega
  · exact congrArg (Ideal.div (r.2.2 (ix3 i h l))) (lanes_apply i h l r.2.1)

/-! ## Which device keeps a slot -/

/-- The device that keeps a slot: its part of the table and the half of the pages its page is in. -/
def owner (row : ℕ → BitVec 32) (t : ℕ) : ℕ := 2 * (t % 4) + (row t).toNat / 512

/-- The slots whose keepers agree with device `c` from bit `s` on. -/
def share (row : ℕ → BitVec 32) (N s : ℕ) (c : Dev nD) : Finset ℕ := (Finset.range N).filter fun t => owner row t / 2 ^ s = c.val / 2 ^ s

theorem peer_bits : ∀ s : Fin 3, ∀ c o : Fin 8,
    ((o.val / 2 ^ (s.val + 1) = c.val / 2 ^ (s.val + 1)) ↔ (o.val / 2 ^ s.val = c.val / 2 ^ s.val ∨ o.val / 2 ^ s.val = (peer s.val c).val / 2 ^ s.val))
      ∧ ¬ (o.val / 2 ^ s.val = c.val / 2 ^ s.val ∧ o.val / 2 ^ s.val = (peer s.val c).val / 2 ^ s.val) := by decide +kernel

theorem owner_lt {row : ℕ → BitVec 32} {N : ℕ} (hr : ∀ t < N, (row t).toNat < 1024) {t : ℕ} (ht : t < N) : owner row t < 8 := by
  have := hr t ht; unfold owner; omega

theorem share_succ {row : ℕ → BitVec 32} {N : ℕ} (hr : ∀ t < N, (row t).toNat < 1024) (s : ℕ) (hs : s < 3) (c : Dev nD) :
    share row N (s + 1) c = share row N s c ∪ share row N s (peer s c) := by
  ext t
  unfold share
  rw [Finset.mem_union, Finset.mem_filter, Finset.mem_filter, Finset.mem_filter, Finset.mem_range, ← and_or_left]
  refine and_congr_right fun ht => ?_
  exact (peer_bits ⟨s, hs⟩ c ⟨owner row t, owner_lt hr ht⟩).1

theorem share_disjoint {row : ℕ → BitVec 32} {N : ℕ} (hr : ∀ t < N, (row t).toNat < 1024) (s : ℕ) (hs : s < 3) (c : Dev nD) :
    Disjoint (share row N s c) (share row N s (peer s c)) := by
  refine Finset.disjoint_left.mpr fun t h1 h2 => ?_
  unfold share at h1 h2
  rw [Finset.mem_filter, Finset.mem_range] at h1 h2
  exact (peer_bits ⟨s, hs⟩ c ⟨owner row t, owner_lt hr h1.1⟩).2 ⟨h1.2, h2.2⟩

theorem share_all {row : ℕ → BitVec 32} {N : ℕ} (hr : ∀ t < N, (row t).toNat < 1024) (c : Dev nD) : share row N 3 c = Finset.range N := by
  unfold share
  refine Finset.filter_true_of_mem fun t ht => ?_
  have h1 := owner_lt hr (Finset.mem_range.mp ht)
  have h2 : c.val < 8 := c.isLt
  rw [show 2 ^ 3 = 8 from rfl]; omega

theorem here_iff (d : Dev nD) (p : BitVec 32) (hp : p.toNat < 1024) : keep.k0_cond1' d p = 1#1 ↔ p.toNat / 512 = d.val % 2 := by
  have hi : IsInt p (p.toNat : ℤ) := by unfold IsInt; exact BitVec.toInt_eq_toNat_of_lt (by omega)
  have hf := fdiv_isInt hi (by omega) 512 (by decide) (by decide) (by omega)
  have e : keep.k0_cond1' d p = Scalar.cmpi .eq (fdiv p (BitVec.ofNat 32 512)) (BitVec.ofNat 32 (d.val % 2)) := by
    rw [← dev_z]; rfl
  rw [e]
  by_cases h : p.toNat / 512 = d.val % 2
  · exact ⟨fun _ => h, fun _ => eq_holds hf (lit _ (by omega)) (by omega)⟩
  · exact ⟨fun h' => absurd h' (eq_fails hf (lit _ (by omega)) (by omega)), fun h' => absurd h' h⟩

theorem share_zero {row : ℕ → BitVec 32} {N : ℕ} (hr : ∀ t < N, (row t).toNat < 1024) (c : Dev nD) : share row N 0 c = keptSlots c row N := by
  unfold share keptSlots
  refine Finset.filter_congr fun t ht => ?_
  have h1 := hr t (Finset.mem_range.mp ht)
  rw [here_iff c _ h1, pow_zero, Nat.div_one, Nat.div_one]
  unfold owner qd
  omega

end Paged

end
-- ==== Proof.Whole.lean ====
/- Every device's result over the extended reals: the softmax-weighted values of the whole row, as one quotient. -/
module

public import proofs.«01_k».proof.Proof.MergeMath

@[expose] public section

set_option maxRecDepth 16384

noncomputable section

namespace Paged

open Idealize.ShloMosaic hiding ix1 ix2 ix3 ix4 ix5 ix6 eq_ix4
open Idealize.ShloMosaic.ValueIdx
open Cert.KernelIdeal Cert.KernelIdeal.Facts₀ Cert.KernelIdeal.Facts

/-! ## Real numbers among the extended ones -/

/-- A real number. -/
def IsReal (x : EReal) : Prop := ∃ r : ℝ, x = r

theorem IsReal.ne_bot {x : EReal} (h : IsReal x) : x ≠ ⊥ := by obtain ⟨r, rfl⟩ := h; exact EReal.coe_ne_bot r
theorem IsReal.ne_top {x : EReal} (h : IsReal x) : x ≠ ⊤ := by obtain ⟨r, rfl⟩ := h; exact EReal.coe_ne_top r
theorem IsReal.mul {x y : EReal} (h : IsReal x) (h' : IsReal y) : IsReal (x * y) := by
  obtain ⟨r, rfl⟩ := h; obtain ⟨r', rfl⟩ := h'; exact ⟨r * r', (EReal.coe_mul r r').symm⟩
theorem IsReal.add {x y : EReal} (h : IsReal x) (h' : IsReal y) : IsReal (x + y) := by
  obtain ⟨r, rfl⟩ := h; obtain ⟨r', rfl⟩ := h'; exact ⟨r + r', (EReal.coe_add r r').symm⟩
theorem IsReal.sum {ι : Type} (S : Finset ι) (f : ι → EReal) (h : ∀ i, IsReal (f i)) : IsReal (∑ i ∈ S, f i) := by
  classical
  induction S using Finset.induction_on with
  | empty => exact ⟨0, by rw [Finset.sum_empty]; rfl⟩
  | insert a S ha ih => rw [Finset.sum_insert ha]; exact (h a).add ih

theorem scale_real : IsReal scale := ⟨_, rfl⟩

/-! ## The scores and values of a row -/

/-- All the pages, of every device. -/
abbrev Pages : Shape := ⟨4, ![1024, 16, 8, 128]⟩

/-- The page a table entry names, among all of them. -/
def gpage (w : BitVec 32) : Fin 1024 := ⟨w.toNat % 1024, Nat.mod_lt _ (by decide)⟩

/-- The score of each position of each slot of item `i`'s row. -/
def gsc (Q : S8x1x8x128.Idx → EReal) (K : Pages.Idx → EReal) (bt : S8x512.Idx → BitVec 32) (i h : Fin 8) (t : ℕ) (o : Fin 16) : EReal :=
  (∑ d : Fin 128, Q (ix4 i (0 : Fin 1) h d) * K (ix4 (gpage (rowOf bt i t)) o h d)) * scale

/-- The value there. -/
def gvl (V : Pages.Idx → EReal) (bt : S8x512.Idx → BitVec 32) (i h : Fin 8) (l : Fin 128) (t : ℕ) (o : Fin 16) : EReal :=
  V (ix4 (gpage (rowOf bt i t)) o h l)

/-- The softmax-weighted values of item `i`'s first `N` slots. -/
def attend (Q : S8x1x8x128.Idx → EReal) (K V : Pages.Idx → EReal) (bt : S8x512.Idx → BitVec 32) (N : ℕ) (i h : Fin 8) (l : Fin 128) : EReal :=
  Ideal.div (wt (Finset.range N) (gsc Q K bt i h) (gvl V bt i h l) (mx (Finset.range N) (gsc Q K bt i h)))
    (wt (Finset.range N) (gsc Q K bt i h) (fun _ _ => 1) (mx (Finset.range N) (gsc Q K bt i h)))

theorem gsc_real {Q : S8x1x8x128.Idx → EReal} {K : Pages.Idx → EReal} (hQ : ∀ x, IsReal (Q x)) (hK : ∀ x, IsReal (K x))
    (bt : S8x512.Idx → BitVec 32) (i h : Fin 8) (t : ℕ) (o : Fin 16) : IsReal (gsc Q K bt i h t o) :=
  (IsReal.sum _ _ fun _ => (hQ _).mul (hK _)).mul scale_real

/-- The number of item `i`'s live slots. -/
abbrev liveN (ln : S8.Idx → BitVec 32) (i : Fin 8) : ℕ := (ln (ix1 i)).toInt.toNat

/-- The operands of the devices, as the parts of one array each; and what they are assumed to hold. -/
structure Parts (D : Dev nD → Data Ideal) (Q : S8x1x8x128.Idx → EReal) (K V : Pages.Idx → EReal) (bt : S8x512.Idx → BitVec 32)
    (ln : S8.Idx → BitVec 32) : Prop where
  q_eq : ∀ c, (D c).q = Q
  bt_eq : ∀ c, (D c).bt = bt
  ln_eq : ∀ c, (D c).ln = ln
  kv_eq : ∀ (c : Dev nD) (p : Fin 512) (o : Fin 16) (h : Fin 8) (d : Fin 128),
    (D c).kv (ix4 p o h d) = K (ix4 (⟨512 * (c.val % 2) + p.val, by have := p.isLt; omega⟩ : Fin 1024) o h d)
  vv_eq : ∀ (c : Dev nD) (p : Fin 512) (o : Fin 16) (h : Fin 8) (d : Fin 128),
    (D c).vv (ix4 p o h d) = V (ix4 (⟨512 * (c.val % 2) + p.val, by have := p.isLt; omega⟩ : Fin 1024) o h d)
  len : ∀ i, (ln i).toInt ≤ 512
  page : ∀ (i : Fin 8) (t : ℕ), t < liveN ln i → (rowOf bt i t).toNat < 1024
  Qreal : ∀ x, IsReal (Q x)
  Kreal : ∀ x, IsReal (K x)

variable [Facts]

theorem qRow_apply (q : S8x1x8x128.Idx → EReal) (i h : Fin 8) (d : Fin 128) :
    qRow (F := Ideal) q i.val i.isLt (ix2 h d) = q (ix4 i (0 : Fin 1) h d) := by
  unfold qRow
  refine (shapeCast_apply _ _ _ (ix4 (0 : Fin 1) (0 : Fin 1) h d) ?_).trans (congrArg q ?_)
  · rw [Shape.rowMajor_val_four, Shape.rowMajor_val_two]
    show ((0 * 1 + 0) * 8 + h.val) * 128 + d.val = h.val * 128 + d.val
    omega
  · funext b
    match b with
    | ⟨0, _⟩ => exact Fin.ext (by show i.val + 1 * 0 = i.val; omega)
    | ⟨1, _⟩ => rfl
    | ⟨2, _⟩ => exact Fin.ext (by show 0 + 1 * h.val = h.val; omega)
    | ⟨3, _⟩ => exact Fin.ext (by show 0 + 1 * d.val = d.val; omega)

theorem pageIx_val (w : BitVec 32) : (pageIx w).val = w.toNat % 512 := by
  show (w &&& 511#32).toNat = _
  rw [BitVec.toNat_and]
  exact Nat.and_two_pow_sub_one_eq_mod w.toNat 9

/-- A page that lives on device `c`, found among all of them. -/
theorem page_global (c : Dev nD) (w : BitVec 32) (hw : w.toNat < 1024) (hc : w.toNat / 512 = c.val % 2)
    (hlt : 512 * (c.val % 2) + (pageIx w).val < 1024) : (⟨512 * (c.val % 2) + (pageIx w).val, hlt⟩ : Fin 1024) = gpage w := by
  refine Fin.ext ?_
  show 512 * (c.val % 2) + (pageIx w).val = w.toNat % 1024
  rw [pageIx_val]; omega

variable {D : Dev nD → Data Ideal} {Q : S8x1x8x128.Idx → EReal} {K V : Pages.Idx → EReal} {bt : S8x512.Idx → BitVec 32} {ln : S8.Idx → BitVec 32}

/-- One item's carry on one device, in the scores and values of the whole row. -/
theorem Parts.item (P : Parts D Q K V bt ln) (c : Dev nD) (i : Fin 8) (a : Carry Ideal) (H : ItemRes (D c) c i a) (h : Fin 8) (l : Fin 128) :
    Soft (share (rowOf bt i) (liveN ln i) 0 c) (gsc Q K bt i h) (gvl V bt i h l)
      (a.1 (ix2 h (0 : Fin 1))) (a.2.1 (ix2 h (0 : Fin 1))) (a.2.2 (ix2 h l)) := by
  have hk : ∀ x, IsReal ((D c).kv x) := fun x => by
    have e := (congrArg (D c).kv (eq_ix4 x)).trans (P.kv_eq c (x 0) (x 1) (x 2) (x 3))
    rw [e]; exact P.Kreal _
  have hreal : ∀ w o, IsReal (pageScore (qRow (F := Ideal) (D c).q i.val i.isLt) (D c).kv h w o) := fun w o =>
    (IsReal.sum _ _ fun d => by
      refine IsReal.mul ?_ (hk _)
      rw [qRow_apply, P.q_eq]; exact P.Qreal _).mul scale_real
  have hs := item_soft (D c) c i (by rw [P.ln_eq]; exact P.len _) a H h l (fun w o => (hreal w o).ne_bot) (fun w o => (hreal w o).ne_top)
  rw [P.bt_eq, P.ln_eq] at hs
  rw [share_zero (P.page i)]
  refine hs.congr (fun t ht => ?_) (fun t ht => ?_)
  · unfold keptSlots at ht
    rw [Finset.mem_filter, Finset.mem_range] at ht
    have hp := P.page i t ht.1
    have hc := (here_iff c _ hp).mp ht.2.2
    funext o
    unfold pageScore gsc
    refine congrArg (· * scale) (Finset.sum_congr rfl fun d _ => ?_)
    rw [qRow_apply, P.q_eq, P.kv_eq, page_global c _ hp hc]
  · unfold keptSlots at ht
    rw [Finset.mem_filter, Finset.mem_range] at ht
    have hp := P.page i t ht.1
    have hc := (here_iff c _ hp).mp ht.2.2
    funext o
    unfold pageVal gvl
    rw [P.vv_eq, page_global c _ hp hc]

/-! ## The phases -/

/-- The accumulators of a device hold the weighted sums of its share. -/
def AccIs (Q : S8x1x8x128.Idx → EReal) (K V : Pages.Idx → EReal) (bt : S8x512.Idx → BitVec 32) (ln : S8.Idx → BitVec 32) (s : ℕ) (c : Dev nD)
    (a : AccT Ideal) : Prop :=
  ∀ (i h : Fin 8) (l : Fin 128), a (ix3 i h l) = wt (share (rowOf bt i) (liveN ln i) s c) (gsc Q K bt i h) (gvl V bt i h l)
    (mx (share (rowOf bt i) (liveN ln i) s c) (gsc Q K bt i h))

/-- Its maxima and sums are those of its share. -/
def MlIs (Q : S8x1x8x128.Idx → EReal) (K : Pages.Idx → EReal) (bt : S8x512.Idx → BitVec 32) (ln : S8.Idx → BitVec 32) (s : ℕ) (c : Dev nD)
    (m : MlT Ideal) : Prop :=
  ∀ i h : Fin 8, m (ix3 (0 : Fin 2) i h) = mx (share (rowOf bt i) (liveN ln i) s c) (gsc Q K bt i h)
    ∧ m (ix3 (1 : Fin 2) i h) = wt (share (rowOf bt i) (liveN ln i) s c) (gsc Q K bt i h) (fun _ _ => 1)
      (mx (share (rowOf bt i) (liveN ln i) s c) (gsc Q K bt i h))

theorem Parts.merge (P : Parts D Q K V bt ln) {s : ℕ} (hs : s < 3) {c : Dev nD} {a1 a2 : AccT Ideal} {m1 m2 : MlT Ideal}
    (ha1 : AccIs Q K V bt ln s c a1) (hm1 : MlIs Q K bt ln s c m1) (ha2 : AccIs Q K V bt ln s (peer s c) a2) (hm2 : MlIs Q K bt ln s (peer s c) m2) :
    AccIs Q K V bt ln (s + 1) c (mrg (F := Ideal) m1 m2 a1 a2).2.2 ∧ MlIs Q K bt ln (s + 1) c (mlOf (F := Ideal) (mrg (F := Ideal) m1 m2 a1 a2)) := by
  have hb : ∀ i h t o, gsc Q K bt i h t o ≠ ⊥ := fun i h t o => (gsc_real P.Qreal P.Kreal bt i h t o).ne_bot
  have ht : ∀ i h t o, gsc Q K bt i h t o ≠ ⊤ := fun i h t o => (gsc_real P.Qreal P.Kreal bt i h t o).ne_top
  have hmax : ∀ i h, (mrg (F := Ideal) m1 m2 a1 a2).1 (ix2 i h) = mx (share (rowOf bt i) (liveN ln i) (s + 1) c) (gsc Q K bt i h) := by
    intro i h
    rw [mrg_max, (hm1 i h).1, (hm2 i h).1, share_succ (P.page i) s hs, mx_union]
  refine ⟨fun i h l => ?_, fun i h => ⟨hmax i h, ?_⟩⟩
  · rw [mrg_acc, hmax, (hm1 i h).1, (hm2 i h).1, ha1, ha2, share_succ (P.page i) s hs]
    exact wt_merge (share_disjoint (P.page i) s hs c) _ (hb i h) (ht i h)
  · refine (mrg_sum m1 m2 a1 a2 i h).trans ?_
    rw [hmax, (hm1 i h).1, (hm2 i h).1, (hm1 i h).2, (hm2 i h).2, share_succ (P.page i) s hs]
    exact wt_merge (share_disjoint (P.page i) s hs c) _ (hb i h) (ht i h)

theorem Parts.rel (P : Parts D Q K V bt ln) : ∀ s, s < 3 → ∀ c,
    (∀ a, (Rel D s c).1 a → AccIs Q K V bt ln s c a) ∧ (∀ m, (Rel D s c).2 m → MlIs Q K bt ln s c m)
  | 0, _, c => by
    constructor
    · rintro a ⟨m, h⟩ i hd l
      obtain ⟨r, hr, ho⟩ := h i i.isLt
      rw [ho.1]
      exact (P.item c i r hr hd l).2.2
    · rintro m ⟨a, h⟩ i hd
      obtain ⟨r, hr, ho⟩ := h i i.isLt
      rw [ho.2.1, ho.2.2]
      exact ⟨(P.item c i r hr hd 0).1, (P.item c i r hr hd 0).2.1⟩
  | s + 1, hs, c => by
    have h1 := P.rel s (by omega) c
    have h2 := P.rel s (by omega) (peer s c)
    constructor
    · rintro _ ⟨a1, a2, m1, m2, ha1, hm1, ha2, hm2, rfl⟩
      exact (P.merge (by omega) (h1.1 _ ha1) (h1.2 _ hm1) (h2.1 _ ha2) (h2.2 _ hm2)).1
    · rintro _ ⟨a1, a2, m1, m2, ha1, hm1, ha2, hm2, rfl⟩
      exact (P.merge (by omega) (h1.1 _ ha1) (h1.2 _ hm1) (h2.1 _ ha2) (h2.2 _ hm2)).2

/-- Every device's result. -/
theorem Parts.out (P : Parts D Q K V bt ln) (c : Dev nD) (o : S8x1x8x128.Idx → EReal) (H : Out (F := Ideal) D c o) (i : Fin 8) (u : Fin 1) (h : Fin 8)
    (l : Fin 128) : o (ix4 i u h l) = attend Q K V bt (liveN ln i) i h l := by
  obtain ⟨a1, a2, m1, m2, ha1, hm1, ha2, hm2, rfl⟩ := H
  have h1 := P.rel 2 (by omega) c
  have h2 := P.rel 2 (by omega) (peer 2 c)
  have hm := P.merge (by omega) (h1.1 _ ha1) (h1.2 _ hm1) (h2.1 _ ha2) (h2.2 _ hm2)
  have e1 := hm.1 i h l
  have e2 : (mrg (F := Ideal) m1 m2 a1 a2).2.1 (ix2 i h) = _ := (hm.2 i h).2
  have e3 : share (rowOf bt i) (liveN ln i) (2 + 1) c = Finset.range (liveN ln i) := share_all (P.page i) c
  rw [e3] at e1 e2
  rw [out_apply, e1, e2]
  rfl

end Paged

end
-- ==== Proof.RefOps.lean ====
/- The reference's operations read at an index: its gather of pages, its two products, its floor division of positions. -/
module

public import proofs.«01_k».proof.Proof.Whole
public import proofs.«01_k».proof.ReferenceIdeal
public import Idealize.ShloMosaic.Lib.IdealHost

@[expose] public section

set_option maxRecDepth 16384

noncomputable section

namespace Paged

open Idealize.ShloMosaic hiding ix1 ix2 ix3 ix4 ix5 ix6 eq_ix4
open Idealize.ShloMosaic.ValueIdx
open Idealize.ShloMosaic.Affine
open Idealize.ShloMosaic.PageRing (lit)
open Cert.ReferenceIdeal Cert.ReferenceIdeal.Facts₀ Cert.ReferenceIdeal.Facts

/-! ## Positions -/

/-- The sign of a word. -/
abbrev signW (x : BitVec 32) : BitVec 32 := if x = 0 then 0 else if x.msb then -1 else 1

/-- The slot of position `j` of a row. -/
abbrev slotW (j : ℕ) : BitVec 32 :=
  Scalar.select (Scalar.andi (Scalar.cmpi .ne (signW (BitVec.ofNat 32 j)) (signW 16#32)) (Scalar.cmpi .ne (IntOp.remsi .host (BitVec.ofNat 32 j) 16#32) 0#32))
    (Scalar.subi (IntOp.divsi .host (BitVec.ofNat 32 j) 16#32) 1#32) (IntOp.divsi .host (BitVec.ofNat 32 j) 16#32)

theorem sixteen_safe (x : BitVec 32) : ¬ IntOp.SDivCorner x 16#32 := by rintro (h | ⟨-, h⟩) <;> exact absurd h (by decide)

theorem host_rem (x : BitVec 32) : IntOp.remsi .host x 16#32 = Scalar.remsi x 16#32 := by
  unfold Scalar.remsi IntOp.remsi; rw [if_neg (sixteen_safe x), if_neg (sixteen_safe x)]
theorem host_div (x : BitVec 32) : IntOp.divsi .host x 16#32 = Scalar.divsi x 16#32 := by
  unfold Scalar.divsi IntOp.divsi; rw [if_neg (sixteen_safe x), if_neg (sixteen_safe x)]

theorem signW_pos (j : ℕ) (h0 : 0 < j) (hj : j < 8192) : signW (BitVec.ofNat 32 j) = signW 16#32 := by
  have hn : (BitVec.ofNat 32 j).toNat = j := by rw [BitVec.toNat_ofNat]; omega
  have h1 : BitVec.ofNat 32 j ≠ 0 := fun h => by
    have := congrArg BitVec.toNat h
    rw [hn] at this; exact absurd this (by show j ≠ 0; omega)
  have h2 : (BitVec.ofNat 32 j).msb = false := by rw [BitVec.msb_eq_false_iff_two_mul_lt, hn]; omega
  unfold signW
  rw [if_neg h1, h2]; decide

theorem slotW_isInt (j : ℕ) (hj : j < 8192) : IsInt (slotW j) (j / 16 : ℕ) := by
  have hx : IsInt (BitVec.ofNat 32 j) (j : ℤ) := lit j (by omega)
  have hu : IsInt 16#32 (16 : ℤ) := lit 16
  have hc : Fails (Scalar.andi (Scalar.cmpi .ne (signW (BitVec.ofNat 32 j)) (signW 16#32)) (Scalar.cmpi .ne (Scalar.remsi (BitVec.ofNat 32 j) 16#32) 0#32)) := by
    by_cases hz : j = 0
    · exact andi_fails_right (cmpi_term _ (word _) (word _)) (ne_fails (Affine.remsi hx hu (e := 0) ⟨by rw [hz]; rfl, by omega, by omega⟩) (lit 0) rfl)
    · exact andi_fails_left (ne_fails (word _) (word _) (by rw [signW_pos j (by omega) hj])) (cmpi_term _ (word _) (word _))
  have hd := Affine.divsi hx hu (e := ((j / 16 : ℕ) : ℤ)) ⟨by push_cast; rfl, by omega, by omega⟩
  unfold slotW
  rw [host_rem, host_div]
  exact select_fails hc (Affine.subi hd (lit 1) (e := ((j / 16 : ℕ) : ℤ) - 1) ⟨rfl, by omega, by omega⟩) hd rfl

theorem slot_live (j : ℕ) (hj : j < 8192) (w : BitVec 32) (n : ℕ) (hw : w.toInt.toNat = n) :
    Scalar.cmpi .slt (slotW j) w = 1#1 ↔ j / 16 < n := by
  by_cases h : j / 16 < n
  · exact ⟨fun _ => h, fun _ => slt_holds (slotW_isInt j hj) (word w) (by omega)⟩
  · exact ⟨fun h' => absurd h' (slt_fails (slotW_isInt j hj) (word w) (by omega)), fun h' => absurd h' h⟩

variable [Facts]

/-! ## The gather -/

theorem gather_at {α : Type} (x : Pages.Idx → α) (idx : S8x512x1.Idx → BitVec 32) (i : Fin 8) (t : Fin 512) (o : Fin 16) (h : Fin 8) (d : Fin 128) :
    Host.gather gather_S1024x16x8x128_S8x512x1_S8x512x16x8x128_234_0_n_n_0_2_1168128 x idx (ix5 i t o h d)
      = x (ix4 (⟨min (idx (ix3 i t (0 : Fin 1))).toInt.toNat 1023, by omega⟩ : Fin 1024) o h d) := by
  refine congrArg x (funext fun a => Fin.ext ?_)
  show GatherDims.start _ _ idx a + GatherDims.batchCoord _ _ a + GatherDims.offCoord _ _ a = _
  match a with
  | ⟨0, _⟩ =>
    show GatherDims.start _ _ idx 0 + 0 + 0 = _
    unfold GatherDims.start
    rw [dif_pos (show (0 : Fin 4) ∈ gather_S1024x16x8x128_S8x512x1_S8x512x16x8x128_234_0_n_n_0_2_1168128.startIndexMap from List.mem_singleton.mpr rfl)]
    refine congrArg (fun z => min (idx z).toInt.toNat 1023) (funext fun b => ?_)
    match b with
    | ⟨0, _⟩ => rfl
    | ⟨1, _⟩ => rfl
    | ⟨2, _⟩ => rfl
  | ⟨1, _⟩ => exact Nat.zero_add o.val
  | ⟨2, _⟩ => exact Nat.zero_add h.val
  | ⟨3, _⟩ => exact Nat.zero_add d.val

/-- The pages of every row, in the order the table lists them. -/
abbrev rowPages (x : Pages.Idx → EReal) (bt : S8x512.Idx → BitVec 32) : S8x8192x8x128.Idx → EReal :=
  shapeCast S8x8192x8x128 (Host.gather gather_S1024x16x8x128_S8x512x1_S8x512x16x8x128_234_0_n_n_0_2_1168128 x
    (broadcastInDim S8x512x1 ![0, 1] bcast_S8x512_S8x512x1_0_1 bt)) shapeCasts_S8x512x16x8x128_S8x8192x8x128

theorem h8192 : 8192 = 512 * 16 := rfl

theorem rowPages_at (x : Pages.Idx → EReal) (bt : S8x512.Idx → BitVec 32) (i : Fin 8) (t : Fin 512) (o : Fin 16) (h : Fin 8) (d : Fin 128)
    (hw : (rowOf bt i t.val).toNat < 1024) : rowPages x bt (ix4 i (lane h8192 t o) h d) = x (ix4 (gpage (rowOf bt i t.val)) o h d) := by
  refine (shapeCast_apply _ _ _ (ix5 i t o h d) ?_).trans ((gather_at x _ i t o h d).trans (congrArg x ?_))
  · rw [Shape.rowMajor_val_five, Shape.rowMajor_val_four]
    show (((i.val * 512 + t.val) * 16 + o.val) * 8 + h.val) * 128 + d.val = ((i.val * 8192 + (t.val * 16 + o.val)) * 8 + h.val) * 128 + d.val
    omega
  · have e : broadcastInDim S8x512x1 ![0, 1] bcast_S8x512_S8x512x1_0_1 bt (ix3 i t (0 : Fin 1)) = rowOf bt i t.val := by
      rw [show rowOf bt i t.val = bt (ix2 i t) from dif_pos t.isLt]
      exact broadcastInDim_apply _ _ _ _ _ fun a => by match a with | ⟨0, _⟩ => rfl | ⟨1, _⟩ => rfl
    have e2 : (⟨min (broadcastInDim S8x512x1 ![0, 1] bcast_S8x512_S8x512x1_0_1 bt (ix3 i t (0 : Fin 1))).toInt.toNat 1023, by omega⟩ : Fin 1024)
        = gpage (rowOf bt i t.val) := by
      refine Fin.ext ?_
      show min (broadcastInDim S8x512x1 ![0, 1] bcast_S8x512_S8x512x1_0_1 bt (ix3 i t (0 : Fin 1))).toInt.toNat 1023 = (rowOf bt i t.val).toNat % 1024
      rw [e, BitVec.toInt_eq_toNat_of_lt (by omega)]
      omega
    rw [e2]

/-! ## The products -/

theorem ref_qk (q : S8x1x8x128.Idx → EReal) (k : S8x8192x8x128.Idx → EReal) (i h : Fin 8) (j : Fin 8192) :
    Host.dotGeneral (F := Ideal) (φ₁ := .f32) (φ₂ := .f32) dot_S8x1x8x128_S8x8192x8x128_S8x8x1x8192_3_3_1_1_02_02 none q k (ix4 i h (0 : Fin 1) j)
      = ∑ d : Fin 128, q (ix4 i (0 : Fin 1) h d) * k (ix4 i j h d) := by
  refine (Ideal.dotGeneral_apply _ none _ q k _).trans ?_
  rw [DotDims.sum_contr₁ dot_S8x1x8x128_S8x8192x8x128_S8x8x1x8192_3_3_1_1_02_02 (a := 3) rfl (K := 128) rfl]
  refine Finset.sum_congr rfl fun d _ => congrArg₂ _ (congrArg q ?_) (congrArg k ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem ref_pv (v : S8x8192x8x128.Idx → EReal) (p : S8x8x1x8192.Idx → EReal) (i h : Fin 8) (l : Fin 128) :
    Host.dotGeneral (F := Ideal) (φ₁ := .f32) (φ₂ := .f32) dot_S8x8192x8x128_S8x8x1x8192_S8x8x128x1_1_3_3_2_02_01 none v p (ix4 i h l (0 : Fin 1))
      = ∑ j : Fin 8192, v (ix4 i j h l) * p (ix4 i h (0 : Fin 1) j) := by
  refine (Ideal.dotGeneral_apply _ none _ v p _).trans ?_
  rw [DotDims.sum_contr₁ dot_S8x8192x8x128_S8x8x1x8192_S8x8x128x1_1_3_3_2_02_01 (a := 1) rfl (K := 8192) rfl]
  refine Finset.sum_congr rfl fun d _ => congrArg₂ _ (congrArg v ?_) (congrArg p ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

end Paged

end
-- ==== Proof.RefMath.lean ====
/- The reference's result over the extended reals: the softmax-weighted values of each item's whole row, as one quotient. -/
module

public import proofs.«01_k».proof.Proof.RefOps
public import proofs.«01_k».proof.Proof.Gen.ReferenceIdeal.Run

@[expose] public section

set_option maxRecDepth 16384

noncomputable section

namespace Paged

open Idealize.ShloMosaic hiding ix1 ix2 ix3 ix4 ix5 ix6 eq_ix4
open Idealize.ShloMosaic.ValueIdx
open Cert.ReferenceIdeal Cert.ReferenceIdeal.Facts₀ Cert.ReferenceIdeal.Facts

theorem scores_lines : S8x8x1x8192.Reduces [3] S8x8x1 := by decide

variable [Facts]

/-! ## The result in stages -/

/-- Which positions are live. -/
abbrev refLive (ln : S8.Idx → BitVec 32) : S8x8x1x8192.Idx → BitVec 1 :=
  broadcastInDim S8x8x1x8192 ![0, 1, 2, 3] bcast_S8x1x1x8192_S8x8x1x8192_0_1_2_3 (broadcastInDim S8x1x1x8192 ![0, 3] bcast_S8x8192_S8x1x1x8192_0_3
    (cmpi .slt
      (broadcastInDim S8x8192 ![0, 1] bcast_S1x8192_S8x8192_0_1 (broadcastInDim S1x8192 ![1] bcast_S8192_S1x8192_1
        (select
          (andi (cmpi .ne (signi (iotaInDim S8192 32 0)) (broadcastInDim S8192 ![] bcast_S_S8192 (signi (id (constantI S_ 32 16#32)))))
            (cmpi .ne (Host.remsi (iotaInDim S8192 32 0) (broadcastInDim S8192 ![] bcast_S_S8192 (id (constantI S_ 32 16#32))))
              (broadcastInDim S8192 ![] bcast_S_S8192 (constantI S_ 32 0#32))))
          (subi (Host.divsi (iotaInDim S8192 32 0) (broadcastInDim S8192 ![] bcast_S_S8192 (id (constantI S_ 32 16#32))))
            (broadcastInDim S8192 ![] bcast_S_S8192 (constantI S_ 32 1#32)))
          (Host.divsi (iotaInDim S8192 32 0) (broadcastInDim S8192 ![] bcast_S_S8192 (id (constantI S_ 32 16#32)))))))
      (broadcastInDim S8x8192 ![0, 1] bcast_S8x1_S8x8192_0_1 (broadcastInDim S8x1 ![0] bcast_S8_S8x1_0 ln))))

/-- The scores, masked. -/
abbrev refScores (Q : S8x1x8x128.Idx → EReal) (K : Pages.Idx → EReal) (bt : S8x512.Idx → BitVec 32) (ln : S8.Idx → BitVec 32) : S8x8x1x8192.Idx → EReal :=
  select (refLive ln)
    (mulf (F := Ideal) (φ := .f32) (Host.dotGeneral (F := Ideal) (φ₁ := .f32) (φ₂ := .f32) dot_S8x1x8x128_S8x8192x8x128_S8x8x1x8192_3_3_1_1_02_02 none Q (rowPages K bt))
      (broadcastInDim S8x8x1x8192 ![] bcast_S_S8x8x1x8192 (Host.rsqrt (F := Ideal) (φ := .f32) (constant (F := Ideal) S_ .f32 0x43000000#32))))
    (broadcastInDim S8x8x1x8192 ![] bcast_S_S8x8x1x8192 (id (constant (F := Ideal) S_ .f32 0xFF800000#32)))

/-- Each row's value, repeated along the row. -/
abbrev along (x : S8x8x1.Idx → EReal) : S8x8x1x8192.Idx → EReal :=
  broadcastInDim S8x8x1x8192 ![0, 1, 2, 3] bcast_S8x8x1x1_S8x8x1x8192_0_1_2_3 (broadcastInDim S8x8x1x1 ![0, 1, 2] bcast_S8x8x1_S8x8x1x1_0_1_2 x)

/-- The maximum of each row of scores. -/
abbrev refMax (s : S8x8x1x8192.Idx → EReal) : S8x8x1.Idx → EReal :=
  Host.reduce (FloatOps.maximumf (F := Ideal) (φ := .f32)) s (constant (F := Ideal) S_ .f32 0xFF800000#32) reducesTo_S8x8x1x8192_S8x8x1_d3 h_S_

/-- The exponentials of the scores relative to their row's maximum. -/
abbrev refExp (s : S8x8x1x8192.Idx → EReal) : S8x8x1x8192.Idx → EReal :=
  Host.exp (F := Ideal) (φ := .f32) (subf (F := Ideal) (φ := .f32) s (along (refMax s)))

/-- The sum of each row. -/
abbrev refSum (p : S8x8x1x8192.Idx → EReal) : S8x8x1.Idx → EReal :=
  Host.reduceAdd (F := Ideal) (φ := .f32) p (constant (F := Ideal) S_ .f32 0x00000000#32) reducesTo_S8x8x1x8192_S8x8x1_d3 h_S_

/-- The result. -/
abbrev refOut (Q : S8x1x8x128.Idx → EReal) (K V : Pages.Idx → EReal) (bt : S8x512.Idx → BitVec 32) (ln : S8.Idx → BitVec 32) : S8x1x8x128.Idx → EReal :=
  transpose S8x1x8x128 [0, 3, 1, 2]
    (Host.dotGeneral (F := Ideal) (φ₁ := .f32) (φ₂ := .f32) dot_S8x8192x8x128_S8x8x1x8192_S8x8x128x1_1_3_3_2_02_01 none (rowPages V bt)
      (Host.divf (F := Ideal) (φ := .f32) (refExp (refScores Q K bt ln)) (along (refSum (refExp (refScores Q K bt ln))))))
    transposes_S8x8x128x1_S8x1x8x128_0_3_1_2

theorem res_eq (m : (ℓ : Loc nD τ sig) → Buf (Elt Ideal) ℓ) (c : Dev nD) :
    Value.res_main_v27 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v27; rfl

/-! ## The stages at an index -/

theorem along_at (x : S8x8x1.Idx → EReal) (i h : Fin 8) (j : Fin 8192) : along x (ix4 i h (0 : Fin 1) j) = x (ix3 i h (0 : Fin 1)) :=
  (broadcastInDim_apply _ _ _ _ (ix4 i h (0 : Fin 1) (0 : Fin 1)) fun a => by match a with | ⟨0, _⟩ => rfl | ⟨1, _⟩ => rfl | ⟨2, _⟩ => rfl | ⟨3, _⟩ => rfl).trans
    (broadcastInDim_apply _ _ _ _ _ fun a => by match a with | ⟨0, _⟩ => rfl | ⟨1, _⟩ => rfl | ⟨2, _⟩ => rfl)

theorem live_at (ln : S8.Idx → BitVec 32) (i h : Fin 8) (j : Fin 8192) :
    refLive ln (ix4 i h (0 : Fin 1) j) = Scalar.cmpi .slt (slotW j.val) (ln (ix1 i)) := by
  refine (broadcastInDim_apply _ _ _ _ (ix4 i (0 : Fin 1) (0 : Fin 1) j) fun a => by match a with | ⟨0, _⟩ => rfl | ⟨1, _⟩ => rfl | ⟨2, _⟩ => rfl | ⟨3, _⟩ => rfl).trans
    ((broadcastInDim_apply _ _ _ _ (ix2 i j) fun a => by match a with | ⟨0, _⟩ => rfl | ⟨1, _⟩ => rfl).trans ?_)
  refine congrArg₂ (IntOp.cmpi .slt) ?_ ?_
  · exact (broadcastInDim_apply _ _ _ _ (ix2 (0 : Fin 1) j) fun a => by match a with | ⟨0, _⟩ => rfl | ⟨1, _⟩ => rfl).trans
      (broadcastInDim_apply _ _ _ _ (ix1 j) fun a => by match a with | ⟨0, _⟩ => rfl)
  · exact (broadcastInDim_apply _ _ _ _ (ix2 i (0 : Fin 1)) fun a => by match a with | ⟨0, _⟩ => rfl | ⟨1, _⟩ => rfl).trans
      (broadcastInDim_apply _ _ _ _ (ix1 i) fun a => by match a with | ⟨0, _⟩ => rfl)

theorem max_at (s : S8x8x1x8192.Idx → EReal) (i h : Fin 8) :
    refMax s (ix3 i h (0 : Fin 1)) = Finset.univ.fold max ⊥ fun j : Fin 8192 => s (ix4 i h (0 : Fin 1) j) := by
  refine (Host.reduce_eq_fold_single _ s _ reducesTo_S8x8x1x8192_S8x8x1_d3 scores_lines h_S_ _).trans ?_
  show Finset.univ.fold max (Ideal.ofBits .f32 0xFF800000#32) _ = _
  rw [ofBits_neg_inf]
  refine Finset.fold_congr fun (j : Fin 8192) _ => congrArg s ?_
  funext b; match b with | ⟨0, _⟩ => rfl | ⟨1, _⟩ => rfl | ⟨2, _⟩ => rfl | ⟨3, _⟩ => rfl

theorem sum_at (p : S8x8x1x8192.Idx → EReal) (i h : Fin 8) :
    refSum p (ix3 i h (0 : Fin 1)) = ∑ j : Fin 8192, p (ix4 i h (0 : Fin 1) j) := by
  refine (Ideal.hostReduceAdd_single reducesTo_S8x8x1x8192_S8x8x1_d3 scores_lines p _ _).trans ?_
  rw [show (constant (F := Ideal) S_ .f32 0x00000000#32 (Shape.Idx.first h_S_)) = (0 : EReal) from Ideal.ofBits_zero_f32, zero_add]
  refine Finset.sum_congr rfl fun (j : Fin 8192) _ => congrArg p ?_
  funext b; match b with | ⟨0, _⟩ => rfl | ⟨1, _⟩ => rfl | ⟨2, _⟩ => rfl | ⟨3, _⟩ => rfl

theorem exp_at (s : S8x8x1x8192.Idx → EReal) (i h : Fin 8) (j : Fin 8192) :
    refExp s (ix4 i h (0 : Fin 1) j) = Ideal.exp (s (ix4 i h (0 : Fin 1) j) - refMax s (ix3 i h (0 : Fin 1))) := by
  show Ideal.exp (_ - along (refMax s) (ix4 i h (0 : Fin 1) j)) = _
  rw [along_at]

variable {Q : S8x1x8x128.Idx → EReal} {K V : Pages.Idx → EReal} {bt : S8x512.Idx → BitVec 32} {ln : S8.Idx → BitVec 32} {i : Fin 8}

/-- The reference's factor is the inverse of the root of 128, as the kernel's is. -/
theorem rsqrt_scale : Ideal.rsqrt (Ideal.ofBits .f32 0x43000000#32) = scale := by
  have e : Ideal.ofBits .f32 0x43000000#32 = ((128 : ℝ) : EReal) := by
    simp only [Ideal.ofBits, Ideal.ieee]
    rw [if_neg (by decide), if_neg (by decide)]
    refine congrArg _ ?_
    rw [if_neg (by decide)]
    norm_num [BitVec.extractLsb', Nat.shiftRight_eq_div_pow]
  rw [e, Ideal.rsqrt_coe, if_neg (by norm_num), if_neg (by norm_num), scale]

theorem score_at (page : ∀ t : ℕ, t < liveN ln i → (rowOf bt i t).toNat < 1024) (h : Fin 8) (t : Fin 512) (o : Fin 16) :
    refScores Q K bt ln (ix4 i h (0 : Fin 1) (lane h8192 t o)) = if 0 + t.val < liveN ln i then gsc Q K bt i h (0 + t.val) o else ⊥ := by
  have hl : Scalar.cmpi .slt (slotW (lane h8192 t o).val) (ln (ix1 i)) = 1#1 ↔ t.val < liveN ln i := by
    rw [slot_live _ (lane h8192 t o).isLt _ _ rfl]
    show (t.val * 16 + o.val) / 16 < _ ↔ _
    rw [show (t.val * 16 + o.val) / 16 = t.val by have := o.isLt; omega]
  rw [Nat.zero_add]
  show Scalar.select (refLive ln (ix4 i h (0 : Fin 1) (lane h8192 t o)))
    (Host.dotGeneral (F := Ideal) (φ₁ := .f32) (φ₂ := .f32) dot_S8x1x8x128_S8x8192x8x128_S8x8x1x8192_3_3_1_1_02_02 none Q (rowPages K bt) (ix4 i h (0 : Fin 1) (lane h8192 t o))
      * Ideal.rsqrt (Ideal.ofBits .f32 0x43000000#32))
    (Ideal.ofBits .f32 0xFF800000#32) = _
  rw [live_at, ref_qk, rsqrt_scale, ofBits_neg_inf, Scalar.select]
  by_cases hlt : t.val < liveN ln i
  · rw [if_pos hlt]
    refine (if_pos (hl.mpr hlt)).trans ?_
    refine congrArg (· * scale) (Finset.sum_congr rfl fun d _ => ?_)
    rw [rowPages_at K bt i t o h d (page t.val hlt)]
  · rw [if_neg hlt]
    exact if_neg fun h' => hlt (hl.mp h')

/-- The reference's result. -/
theorem ref_attend (hQ : ∀ x, IsReal (Q x)) (hK : ∀ x, IsReal (K x)) (h0 : 1 ≤ liveN ln i) (h1 : liveN ln i ≤ 512)
    (page : ∀ t : ℕ, t < liveN ln i → (rowOf bt i t).toNat < 1024) (u : Fin 1) (h : Fin 8) (l : Fin 128) :
    refOut Q K V bt ln (ix4 i u h l) = attend Q K V bt (liveN ln i) i h l := by
  obtain rfl : u = 0 := Subsingleton.elim _ _
  have hs := fun h t o => score_at (Q := Q) (K := K) page h t o
  have hb : ∀ t o, gsc Q K bt i h t o ≠ ⊥ := fun t o => (gsc_real hQ hK bt i h t o).ne_bot
  have ht : ∀ t o, gsc Q K bt i h t o ≠ ⊤ := fun t o => (gsc_real hQ hK bt i h t o).ne_top
  have hm : refMax (refScores Q K bt ln) (ix3 i h (0 : Fin 1)) = mx (Finset.range (liveN ln i)) (gsc Q K bt i h) := by
    rw [max_at, ← span_zero h1]
    exact max_lanes h8192 0 (liveN ln i) (gsc Q K bt i h) _ (hs h)
  have hL : refSum (refExp (refScores Q K bt ln)) (ix3 i h (0 : Fin 1))
      = wt (Finset.range (liveN ln i)) (gsc Q K bt i h) (fun _ _ => 1) (mx (Finset.range (liveN ln i)) (gsc Q K bt i h)) := by
    rw [sum_at]
    refine (Finset.sum_congr rfl fun j _ => (exp_at _ i h j).trans (mul_one _).symm).trans ?_
    rw [hm, ← span_zero h1]
    exact sum_weights h8192 0 (liveN ln i) (gsc Q K bt i h) (fun _ _ => 1) _ _ (fun _ => 1) (hs h) fun _ _ _ => rfl
  have hpos := wt_one_pos (S := Finset.range (liveN ln i)) ⟨0, Finset.mem_range.mpr h0⟩ hb ht
  refine (transpose_apply _ _ _ _ (ix4 i h l (0 : Fin 1)) fun b => by match b with | ⟨0, _⟩ => rfl | ⟨1, _⟩ => rfl | ⟨2, _⟩ => rfl | ⟨3, _⟩ => rfl).trans ?_
  rw [ref_pv]
  unfold attend
  refine Eq.trans ?_ (wt_div (gvl V bt i h l) _ hpos)
  refine (sum_lanes h8192 0 (liveN ln i) (fun t o => gvl V bt i h l t o * Ideal.div (Ideal.exp (gsc Q K bt i h t o - mx (Finset.range (liveN ln i)) (gsc Q K bt i h)))
    (wt (Finset.range (liveN ln i)) (gsc Q K bt i h) (fun _ _ => 1) (mx (Finset.range (liveN ln i)) (gsc Q K bt i h)))) _ fun t o => ?_).trans (by rw [span_zero h1])
  show rowPages V bt (ix4 i (lane h8192 t o) h l) * Ideal.div (refExp (refScores Q K bt ln) (ix4 i h (0 : Fin 1) (lane h8192 t o)))
    (along (refSum (refExp (refScores Q K bt ln))) (ix4 i h (0 : Fin 1) (lane h8192 t o))) = _
  rw [along_at, hL, exp_at, hm, hs h t o]
  by_cases hlt : 0 + t.val < liveN ln i
  · rw [if_pos hlt, if_pos hlt]
    refine congrArg (· * _) ?_
    rw [Nat.zero_add] at hlt ⊢
    exact rowPages_at V bt i t o h l (page t.val hlt)
  · rw [if_neg hlt, if_neg hlt, EReal.bot_sub, Ideal.exp_bot]
    obtain ⟨r, hr, hr'⟩ := hpos
    rw [hr', Ideal.zero_div (by exact_mod_cast hr.ne'), mul_zero]

end Paged

end
-- ==== Proof.PreMath.lean ====
/- What the value claim's precondition says, entry by entry: each row has a live slot and no more than the table holds, the
live slots name pages, and the queries and keys are real numbers. -/
module

public import proofs.«01_k».proof.Pre_pages_named_KernelIdeal
public import proofs.«01_k».proof.Proof.Whole
public import proofs.«01_k».proof.Proof.Bounds
public import Idealize.ShloMosaic.Lib.ReduceAll

@[expose] public section

set_option maxRecDepth 16384

noncomputable section

namespace Paged

open Idealize.ShloMosaic hiding ix0 ix1 ix2 ix3 ix4 ix5 ix6 eq_ix4
open Idealize.ShloMosaic.ValueIdx
open Cert.Pre_pages_named_KernelIdeal Cert.Pre_pages_named_KernelIdeal.Facts

theorem pages_facts : Cert.Pre_pages_named_KernelIdeal.Facts :=
  ⟨by decide, by decide, by decide, by decide, by decide, by decide, by decide, by decide, by decide, by decide, by decide⟩

theorem toInt_lt_of_slt {x y : BitVec 32} (h : BitVec.ofBool (x.slt y) = 1#1) : x.toInt < y.toInt := by
  cases hb : x.slt y with
  | true => exact BitVec.slt_iff_toInt_lt.mp hb
  | false => rw [hb] at h; exact absurd h (by decide)

theorem or_one {x y : BitVec 1} (h : x ||| y = 1#1) : x = 1#1 ∨ y = 1#1 := by revert x y; decide

theorem inf_top : Ideal.ofBits .f32 0x7F800000#32 = ⊤ := by
  unfold Ideal.ofBits Ideal.ieee
  dsimp only
  rw [if_pos (by decide)]
  rfl

/-- A number whose magnitude is below infinity is real. -/
theorem isReal_of_lt {x : EReal} (h : FloatOps.cmpf (F := Ideal) (φ := .f32) .olt (max x (-x)) (Ideal.ofBits .f32 0x7F800000#32) = 1#1) : IsReal x := by
  rw [inf_top] at h
  have hlt : max x (-x) < ⊤ := by
    by_contra hn
    refine absurd h ?_
    show ¬ BitVec.ofBool (decide (max x (-x) < ⊤)) = 1#1
    rw [decide_eq_false hn]; decide
  have h1 : x ≠ ⊤ := fun e => by rw [e] at hlt; exact absurd hlt (by simp)
  have h2 : x ≠ ⊥ := fun e => by rw [e] at hlt; exact absurd hlt (by simp)
  exact ⟨x.toReal, (EReal.coe_toReal h1 h2).symm⟩

/-- The precondition, entry by entry. -/
structure Named (q : S8x1x8x128.Idx → EReal) (k : S512x16x8x128.Idx → EReal) (bt : S8x512.Idx → BitVec 32) (ln : S8.Idx → BitVec 32) : Prop where
  lo : ∀ i, 1 ≤ (ln i).toInt
  hi : ∀ i, (ln i).toInt ≤ 512
  page : ∀ (i : Fin 8) (t : Fin 512), (t.val : ℤ) < (ln (ix1 i)).toInt → 0 ≤ (bt (ix2 i t)).toInt ∧ (bt (ix2 i t)).toInt < 1024
  qreal : ∀ x, IsReal (q x)
  kreal : ∀ x, IsReal (k x)

instance scalar_one : Subsingleton S_.Idx := ⟨fun a b => funext fun d => d.elim0⟩

variable [Cert.Pre_pages_named_KernelIdeal.Facts]

theorem named_of (q : S8x1x8x128.Idx → EReal) (k v : S512x16x8x128.Idx → EReal) (bt : S8x512.Idx → BitVec 32) (ln : S8.Idx → BitVec 32)
    (h : Cert.Pre_pages_named_KernelIdeal.fn (F := Ideal) q k v bt ln = fun _ => 1#1) : Named q k bt ln := by
  have h0 := congrFun h ix0
  obtain ⟨h1, hk⟩ := IntOp.andi_eq_one.1 h0
  obtain ⟨h2, hq⟩ := IntOp.andi_eq_one.1 h1
  obtain ⟨hb, hl⟩ := IntOp.andi_eq_one.1 h2
  have hl' := fun i => IntOp.andi_eq_one.1 (Host.reduce_andi_all _ _ _ _ _ hl i)
  have hi : ∀ i, (ln i).toInt ≤ 512 := fun i => toInt_le_of_sle (y := 512#32) (hl' i).2
  refine ⟨fun i => toInt_le_of_sle (x := 1#32) (hl' i).1, hi, fun i t ht => ?_, fun x => ?_, fun x => ?_⟩
  · rcases or_one (Host.reduce_andi_all _ _ _ _ _ hb (ix2 i t)) with h' | h'
    · have e : broadcastInDim S8x512 ![0, 1] bcast_S8x1_S8x512_0_1 (broadcastInDim S8x1 ![0] bcast_S8_S8x1_0 ln) (ix2 i t) = ln (ix1 i) :=
        (broadcastInDim_apply _ _ _ _ (ix2 i (0 : Fin 1)) fun a => by match a with | ⟨0, _⟩ => rfl | ⟨1, _⟩ => rfl).trans
          (broadcastInDim_apply _ _ _ _ (ix1 i) fun a => by match a with | ⟨0, _⟩ => rfl)
      have h'' : (broadcastInDim S8x512 ![0, 1] bcast_S8x1_S8x512_0_1 (broadcastInDim S8x1 ![0] bcast_S8_S8x1_0 ln) (ix2 i t)).toInt ≤ (BitVec.ofNat 32 t.val).toInt :=
        toInt_le_of_sle h'
      rw [e, WordArith.toInt_ofNat_small _ (by have := t.isLt; omega)] at h''
      omega
    · obtain ⟨ha, hc⟩ := IntOp.andi_eq_one.1 h'
      exact ⟨toInt_le_of_sle (x := 0#32) ha, toInt_lt_of_slt (y := 1024#32) hc⟩
  · exact isReal_of_lt (Host.reduce_andi_all _ _ _ _ _ hq x)
  · exact isReal_of_lt (Host.reduce_andi_all _ _ _ _ _ hk x)

end Paged

end
-- ==== Proof.Values.lean ====
/- The kernel's result and the reference's are the same: each device's run against the one device's. -/
module

public import proofs.«01_k».proof.Defs
public import proofs.«01_k».proof.Proof.Ends
public import proofs.«01_k».proof.Proof.RefMath
public import proofs.«01_k».proof.Proof.PreMath

@[expose] public section

set_option maxRecDepth 16384

noncomputable section

namespace Paged

open Idealize.ShloMosaic hiding ix0 ix1 ix2 ix3 ix4 ix5 ix6 eq_ix4
open Idealize.ShloMosaic.ValueIdx
open Idealize.SL.Sem

/-- The pages one device holds. -/
abbrev Held : Shape := ⟨4, ![512, 16, 8, 128]⟩

theorem half_of : ∀ c : Fin 8, Layout.meshLin [2, 2, 2] c.val [2] = c.val % 2 := by decide

/-- The part of all the pages that device `c` holds. -/
abbrev heldPart (c : Fin 8) (x : Pages.Idx → EReal) : Held.Idx → EReal :=
  Layout.blockN Held Pages (Layout.meshBlock [2, 2, 2] ![[2], [], [], []] c) x

/-- A page on a device, among all of them. -/
theorem held_at (c : Fin 8) (x : Pages.Idx → EReal) (p : Fin 512) (o : Fin 16) (h : Fin 8) (d : Fin 128) :
    heldPart c x (ix4 p o h d)
      = x (ix4 (⟨512 * (c.val % 2) + p.val, by have := p.isLt; omega⟩ : Fin 1024) o h d) := by
  refine congrArg x (funext fun b => Fin.ext ?_)
  match b with
  | ⟨0, _⟩ =>
    show Layout.meshLin [2, 2, 2] c.val [2] * 512 + p.val = 512 * (c.val % 2) + p.val
    rw [half_of, Nat.mul_comm]
  | ⟨1, _⟩ => exact (congrArg (· + o.val) (Nat.zero_mul 16)).trans (Nat.zero_add _)
  | ⟨2, _⟩ => exact (congrArg (· + h.val) (Nat.zero_mul 8)).trans (Nat.zero_add _)
  | ⟨3, _⟩ => exact (congrArg (· + d.val) (Nat.zero_mul 128)).trans (Nat.zero_add _)

/-- Every page is on some device. -/
theorem all_held {x : Pages.Idx → EReal} (H : ∀ (c : Fin 8) y, IsReal (heldPart c x y)) :
    ∀ y, IsReal (x y) := by
  have key : ∀ (P : Fin 1024) (o : Fin 16) (h : Fin 8) (d : Fin 128), IsReal (x (ix4 P o h d)) := by
    intro P o h d
    have hP := P.isLt
    have hr := H ⟨P.val / 512, by omega⟩ (ix4 (⟨P.val % 512, Nat.mod_lt _ (by decide)⟩ : Fin 512) o h d)
    rw [held_at] at hr
    have e : (⟨512 * (P.val / 512 % 2) + P.val % 512, by omega⟩ : Fin 1024) = P := Fin.ext (by show 512 * (P.val / 512 % 2) + P.val % 512 = P.val; omega)
    rw [e] at hr
    exact hr
  intro y
  rw [(congrArg x (eq_ix4 y))]
  exact key _ _ _ _

theorem live_real {w : BitVec 32} (h1 : 1 ≤ w.toInt) (h2 : w.toInt ≤ 512) : 1 ≤ w.toInt.toNat ∧ w.toInt.toNat ≤ 512 := by omega

variable [Cert.KernelIdeal.Facts] [Cert.ReferenceIdeal.Facts] [Cert.Pre_pages_named_KernelIdeal.Facts]

/-- A live slot's entry names a page. -/
theorem Named.row {q : Cert.KernelIdeal.S8x1x8x128.Idx → EReal} {k : Held.Idx → EReal} {bt : Cert.KernelIdeal.S8x512.Idx → BitVec 32}
    {ln : Cert.KernelIdeal.S8.Idx → BitVec 32} (N : Named q k bt ln) (i : Fin 8) (t : ℕ) (ht : t < liveN ln i) : (rowOf bt i t).toNat < 1024 := by
  have h1 := N.lo (ix1 i)
  have h2 := N.hi (ix1 i)
  have ht' : t < 512 := by unfold liveN at ht; omega
  have hp := N.page i ⟨t, ht'⟩ (by show (t : ℤ) < _; unfold liveN at ht; omega)
  rw [show rowOf bt i t = bt (ix2 i ⟨t, ht'⟩) from dif_pos ht']
  have := BitVec.toInt_eq_toNat_cond (bt (ix2 i ⟨t, ht'⟩))
  have hlt := (bt (ix2 i ⟨t, ht'⟩)).isLt
  rw [this] at hp
  split_ifs at hp <;> omega

theorem values_agree : Cert.algebraic_KernelIdeal_ReferenceIdeal_pre_pages_named_KernelIdeal := by
  intro m g m' g' hp hm
  have N := fun c => named_of _ _ _ _ _ (hp c)
  have hlen : ∀ c j, ((launched m c).ln j).toInt ≤ 512 := fun c j => by rw [launched_ln]; exact (N c).hi j
  have N0 := N 0
  rw [(hm 0).1, (hm 0).2.2.2.1, (hm 0).2.2.2.2] at N0
  have hK := all_held (x := m' (((0 : Dev Cert.ReferenceIdeal.nD).tc : Thread Cert.ReferenceIdeal.nD Cert.ReferenceIdeal.τ).loc Cert.ReferenceIdeal.main_arg1)) fun c y => by
    have e : m ((T c).loc Cert.KernelIdeal.main_arg1) y = heldPart c (m' (((0 : Dev Cert.ReferenceIdeal.nD).tc : Thread Cert.ReferenceIdeal.nD Cert.ReferenceIdeal.τ).loc Cert.ReferenceIdeal.main_arg1)) y :=
      congrFun (hm c).2.1 y
    rw [← e]; exact (N c).kreal y
  have P : Parts (launched m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { q_eq := fun c => (launched_q m c).trans (hm c).1
      bt_eq := fun c => (launched_bt m c).trans (hm c).2.2.2.1
      ln_eq := fun c => (launched_ln m c).trans (hm c).2.2.2.2
      kv_eq := fun c p o h d => (congrFun (hm c).2.1 (ix4 p o h d)).trans (held_at c _ p o h d)
      vv_eq := fun c p o h d => (congrFun (hm c).2.2.1 (ix4 p o h d)).trans (held_at c _ p o h d)
      len := N0.hi
      page := N0.row
      Qreal := N0.qreal
      Kreal := hK }
  refine ⟨Cert.ReferenceIdeal.Value.res_main_v27 (F := Ideal) m' 0, ?_, ?_⟩
  · refine (θ_run Cert.KernelIdeal.defs _ _).mono (fun r h c => ⟨?_, h.1.args c⟩) (run_main (F := Ideal) m g hlen)
    refine Eq.trans ?_ (res_eq m' 0).symm
    funext x
    refine (congrArg _ (eq_ix4 x)).trans (Eq.trans ?_ (congrArg _ (eq_ix4 x)).symm)
    have hl := live_real (N0.lo (ix1 (x 0))) (N0.hi (ix1 (x 0)))
    exact (P.out c _ (h.1.out c) _ _ _ _).trans (ref_attend N0.qreal hK hl.1 hl.2 (N0.row (x 0)) _ _ _).symm
  · exact (θ_run Cert.ReferenceIdeal.defs _ _).mono (fun r h => h 0) (Cert.ReferenceIdeal.Value.run (F := Ideal) m' g')

end Paged

end
-- ==== Proof.lean ====
/- The claims of the certificate, from the run of the whole program. -/
module

public import proofs.«01_k».proof.Defs
public import proofs.«01_k».proof.Proof.Ends
public import proofs.«01_k».proof.Proof.Bounds
public import proofs.«01_k».proof.Proof.SameDefs
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The lengths' bound is stated with one broadcast. -/
theorem lens_facts : Cert.Pre_lens_in_table.Facts := ⟨by decide⟩

instance : Cert.Pre_lens_in_table.Facts := lens_facts

theorem pages_facts : Cert.Pre_pages_named_KernelIdeal.Facts := Paged.pages_facts

/-- The same shapes, the pages of all the devices in one array. -/
theorem pages_facts_whole : Cert.Pre_pages_named_ReferenceIdeal.Facts :=
  ⟨by decide, by decide, by decide, by decide, by decide, by decide, by decide, by decide, by decide, by decide, by decide⟩

attribute [local instance] Paged.literal

/-- The printed kernel, run as it stands: the same text as the idealized one, its constants literal. -/
theorem frame_kernel : Cert.quiescent_Kernel := fun m ρ hp => by
  have h := Paged.run_frame (F := Bits) m ρ fun c j => by rw [Paged.launched_ln]; exact Paged.lens_le _ _ _ _ _ (hp c) j
  rw [← Paged.defs_same] at h
  exact h

/-- The idealized kernel. -/
theorem frame_ideal : Cert.quiescent_KernelIdeal := fun m ρ hp =>
  Paged.run_frame (F := Ideal) m ρ fun c j => by rw [Paged.launched_ln]; exact Paged.lens_le _ _ _ _ _ (hp c) j

/-- The reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The idealized kernel, on the operands of the value claim. -/
theorem frame_ideal_pages : Cert.quiescent_KernelIdeal_pre_pages_named_KernelIdeal (hPre_pages_named_KernelIdeal := pages_facts) := fun m ρ hp =>
  Paged.run_frame (F := Ideal) m ρ fun c j => by
    rw [Paged.launched_ln]; exact (@Paged.named_of pages_facts _ _ _ _ _ (hp c)).hi j

/-- The reference, on the operands of the value claim. -/
theorem frame_reference_pages : Cert.quiescent_ReferenceIdeal_pre_pages_named_ReferenceIdeal (hPre_pages_named_ReferenceIdeal := pages_facts_whole) :=
  fun m ρ _ => frame_reference m ρ trivial

/-- The mask and the factor of the scores are the named constants. -/
theorem preserves : Cert.preserves_Kernel_KernelIdeal := by
  exact ⟨IdealRules.named_const.statement Cert.KernelIdeal.κ "mask" .f32 0xF149F2CA#32 ⊥ (by rfl),
    IdealRules.named_const.statement Cert.KernelIdeal.κ "s" .f32 0x3DB504F3#32 (((Real.sqrt 128)⁻¹ : ℝ) : EReal) (by rfl)⟩

/-- The kernel's result on every device is the reference's. -/
theorem algebraic : Cert.algebraic_KernelIdeal_ReferenceIdeal_pre_pages_named_KernelIdeal (hPre_pages_named_KernelIdeal := pages_facts) :=
  @Paged.values_agree _ _ pages_facts

theorem claim : Cert.Claim :=
  ⟨Cert.Kernel.Gen.facts, Cert.KernelIdeal.Gen.facts, Cert.ReferenceIdeal.Gen.facts, lens_facts, pages_facts, pages_facts_whole,
    frame_kernel, frame_ideal, frame_ideal_pages, frame_reference, frame_reference_pages, preserves, algebraic⟩

end Cert.Proof

end
